-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_ANorm (m : (ℓ : Loc Cert.ANorm.nD Cert.ANorm.τ Cert.ANorm.sig) → Buf (Elt Bits) ℓ) : Prop :=
  True

def Pre_ANormIdeal (m : (ℓ : Loc Cert.ANormIdeal.nD Cert.ANormIdeal.τ Cert.ANormIdeal.sig) → Buf (Elt Ideal) ℓ) : Prop :=
  True

def Pre_ANormIdeal_anorm_finite [hPre_anorm_finite : Cert.Pre_anorm_finite.Facts] (m : (ℓ : Loc Cert.ANormIdeal.nD Cert.ANormIdeal.τ Cert.ANormIdeal.sig) → Buf (Elt Ideal) ℓ) : Prop :=
  ∀ c : Dev Cert.ANormIdeal.nD,
    (Cert.Pre_anorm_finite.fn (F := Ideal) (m ((c.tc : Thread Cert.ANormIdeal.nD Cert.ANormIdeal.τ).loc Cert.ANormIdeal.main_arg0)) (m ((c.tc : Thread Cert.ANormIdeal.nD Cert.ANormIdeal.τ).loc Cert.ANormIdeal.main_arg1)) (m ((c.tc : Thread Cert.ANormIdeal.nD Cert.ANormIdeal.τ).loc Cert.ANormIdeal.main_arg2)) (m ((c.tc : Thread Cert.ANormIdeal.nD Cert.ANormIdeal.τ).loc Cert.ANormIdeal.main_arg3))) = (fun _ => 1#1)

def Pre_ANormRefIdeal (m : (ℓ : Loc Cert.ANormRefIdeal.nD Cert.ANormRefIdeal.τ Cert.ANormRefIdeal.sig) → Buf (Elt Ideal) ℓ) : Prop :=
  True

def Pre_ANormRefIdeal_anorm_finite [hPre_anorm_finite : Cert.Pre_anorm_finite.Facts] (m : (ℓ : Loc Cert.ANormRefIdeal.nD Cert.ANormRefIdeal.τ Cert.ANormRefIdeal.sig) → Buf (Elt Ideal) ℓ) : Prop :=
  ∀ c : Dev Cert.ANormRefIdeal.nD,
    (Cert.Pre_anorm_finite.fn (F := Ideal) (m ((c.tc : Thread Cert.ANormRefIdeal.nD Cert.ANormRefIdeal.τ).loc Cert.ANormRefIdeal.main_arg0)) (m ((c.tc : Thread Cert.ANormRefIdeal.nD Cert.ANormRefIdeal.τ).loc Cert.ANormRefIdeal.main_arg1)) (m ((c.tc : Thread Cert.ANormRefIdeal.nD Cert.ANormRefIdeal.τ).loc Cert.ANormRefIdeal.main_arg2)) (m ((c.tc : Thread Cert.ANormRefIdeal.nD Cert.ANormRefIdeal.τ).loc Cert.ANormRefIdeal.main_arg3))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))) = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2Ideal_dh2_finite [hPre_dh2_finite : Cert.Pre_dh2_finite.Facts] (m : (ℓ : Loc Cert.Dh2Ideal.nD Cert.Dh2Ideal.τ Cert.Dh2Ideal.sig) → Buf (Elt Ideal) ℓ) : Prop :=
  ∀ c : Dev Cert.Dh2Ideal.nD,
    (Cert.Pre_dh2_finite.fn (F := Ideal) (m ((c.tc : Thread Cert.Dh2Ideal.nD Cert.Dh2Ideal.τ).loc Cert.Dh2Ideal.main_arg0)) (m ((c.tc : Thread Cert.Dh2Ideal.nD Cert.Dh2Ideal.τ).loc Cert.Dh2Ideal.main_arg1)) (m ((c.tc : Thread Cert.Dh2Ideal.nD Cert.Dh2Ideal.τ).loc Cert.Dh2Ideal.main_arg2)) (m ((c.tc : Thread Cert.Dh2Ideal.nD Cert.Dh2Ideal.τ).loc Cert.Dh2Ideal.main_arg3)) (m ((c.tc : Thread Cert.Dh2Ideal.nD Cert.Dh2Ideal.τ).loc Cert.Dh2Ideal.main_arg4)) (m ((c.tc : Thread Cert.Dh2Ideal.nD Cert.Dh2Ideal.τ).loc Cert.Dh2Ideal.main_arg5)) (m ((c.tc : Thread Cert.Dh2Ideal.nD Cert.Dh2Ideal.τ).loc Cert.Dh2Ideal.main_arg6)) (m ((c.tc : Thread Cert.Dh2Ideal.nD Cert.Dh2Ideal.τ).loc Cert.Dh2Ideal.main_arg7)) (m ((c.tc : Thread Cert.Dh2Ideal.nD Cert.Dh2Ideal.τ).loc Cert.Dh2Ideal.main_arg8))) = (fun _ => 1#1)

def Pre_Dh2RefIdeal (m : (ℓ : Loc Cert.Dh2RefIdeal.nD Cert.Dh2RefIdeal.τ Cert.Dh2RefIdeal.sig) → Buf (Elt Ideal) ℓ) : Prop :=
  True

def Pre_Dh2RefIdeal_dh2_finite [hPre_dh2_finite : Cert.Pre_dh2_finite.Facts] (m : (ℓ : Loc Cert.Dh2RefIdeal.nD Cert.Dh2RefIdeal.τ Cert.Dh2RefIdeal.sig) → Buf (Elt Ideal) ℓ) : Prop :=
  ∀ c : Dev Cert.Dh2RefIdeal.nD,
    (Cert.Pre_dh2_finite.fn (F := Ideal) (m ((c.tc : Thread Cert.Dh2RefIdeal.nD Cert.Dh2RefIdeal.τ).loc Cert.Dh2RefIdeal.main_arg0)) (m ((c.tc : Thread Cert.Dh2RefIdeal.nD Cert.Dh2RefIdeal.τ).loc Cert.Dh2RefIdeal.main_arg1)) (m ((c.tc : Thread Cert.Dh2RefIdeal.nD Cert.Dh2RefIdeal.τ).loc Cert.Dh2RefIdeal.main_arg2)) (m ((c.tc : Thread Cert.Dh2RefIdeal.nD Cert.Dh2RefIdeal.τ).loc Cert.Dh2RefIdeal.main_arg3)) (m ((c.tc : Thread Cert.Dh2RefIdeal.nD Cert.Dh2RefIdeal.τ).loc Cert.Dh2RefIdeal.main_arg4)) (m ((c.tc : Thread Cert.Dh2RefIdeal.nD Cert.Dh2RefIdeal.τ).loc Cert.Dh2RefIdeal.main_arg5)) (m ((c.tc : Thread Cert.Dh2RefIdeal.nD Cert.Dh2RefIdeal.τ).loc Cert.Dh2RefIdeal.main_arg6)) (m ((c.tc : Thread Cert.Dh2RefIdeal.nD Cert.Dh2RefIdeal.τ).loc Cert.Dh2RefIdeal.main_arg7)) (m ((c.tc : Thread Cert.Dh2RefIdeal.nD Cert.Dh2RefIdeal.τ).loc Cert.Dh2RefIdeal.main_arg8))) = (fun _ => 1#1)

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFIdeal_attnf_finite [hPre_attnf_finite : Cert.Pre_attnf_finite.Facts] (m : (ℓ : Loc Cert.AttnFIdeal.nD Cert.AttnFIdeal.τ Cert.AttnFIdeal.sig) → Buf (Elt Ideal) ℓ) : Prop :=
  ∀ c : Dev Cert.AttnFIdeal.nD,
    (Cert.Pre_attnf_finite.fn (F := Ideal) (m ((c.tc : Thread Cert.AttnFIdeal.nD Cert.AttnFIdeal.τ).loc Cert.AttnFIdeal.main_arg0)) (m ((c.tc : Thread Cert.AttnFIdeal.nD Cert.AttnFIdeal.τ).loc Cert.AttnFIdeal.main_arg1)) (m ((c.tc : Thread Cert.AttnFIdeal.nD Cert.AttnFIdeal.τ).loc Cert.AttnFIdeal.main_arg2)) (m ((c.tc : Thread Cert.AttnFIdeal.nD Cert.AttnFIdeal.τ).loc Cert.AttnFIdeal.main_arg3)) (m ((c.tc : Thread Cert.AttnFIdeal.nD Cert.AttnFIdeal.τ).loc Cert.AttnFIdeal.main_arg4))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attnf_finite [hPre_attnf_finite : Cert.Pre_attnf_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attnf_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1)) (m ((c.tc : Thread Cert.AttnFRefIdeal.nD Cert.AttnFRefIdeal.τ).loc Cert.AttnFRefIdeal.main_arg2)) (m ((c.tc : Thread Cert.AttnFRefIdeal.nD Cert.AttnFRefIdeal.τ).loc Cert.AttnFRefIdeal.main_arg3)) (m ((c.tc : Thread Cert.AttnFRefIdeal.nD Cert.AttnFRefIdeal.τ).loc Cert.AttnFRefIdeal.main_arg4))) = (fun _ => 1#1)

def Pre_Mod1 (m : (ℓ : Loc Cert.Mod1.nD Cert.Mod1.τ Cert.Mod1.sig) → Buf (Elt Bits) ℓ) : Prop :=
  True

def Pre_Mod1Ideal (m : (ℓ : Loc Cert.Mod1Ideal.nD Cert.Mod1Ideal.τ Cert.Mod1Ideal.sig) → Buf (Elt Ideal) ℓ) : Prop :=
  True

def Pre_Mod1RefIdeal (m : (ℓ : Loc Cert.Mod1RefIdeal.nD Cert.Mod1RefIdeal.τ Cert.Mod1RefIdeal.sig) → Buf (Elt Ideal) ℓ) : Prop :=
  True

def Pre_FFIn (m : (ℓ : Loc Cert.FFIn.nD Cert.FFIn.τ Cert.FFIn.sig) → Buf (Elt Bits) ℓ) : Prop :=
  True

def Pre_FFInIdeal (m : (ℓ : Loc Cert.FFInIdeal.nD Cert.FFInIdeal.τ Cert.FFInIdeal.sig) → Buf (Elt Ideal) ℓ) : Prop :=
  True

def Pre_FFInRefIdeal (m : (ℓ : Loc Cert.FFInRefIdeal.nD Cert.FFInRefIdeal.τ Cert.FFInRefIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartRefIdeal (m : (ℓ : Loc Cert.ModPartRefIdeal.nD Cert.ModPartRefIdeal.τ Cert.ModPartRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_OptConv (m : (ℓ : Loc Cert.OptConv.nD Cert.OptConv.τ Cert.OptConv.sig) → Buf (Elt Bits) ℓ) : Prop :=
  True

def Pre_OptConvIdeal (m : (ℓ : Loc Cert.OptConvIdeal.nD Cert.OptConvIdeal.τ Cert.OptConvIdeal.sig) → Buf (Elt Ideal) ℓ) : Prop :=
  True

def Pre_OptConvRefIdeal (m : (ℓ : Loc Cert.OptConvRefIdeal.nD Cert.OptConvRefIdeal.τ Cert.OptConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DyMix (m : (ℓ : Loc Cert.DyMix.nD Cert.DyMix.τ Cert.DyMix.sig) → Buf (Elt Bits) ℓ) : Prop :=
  True

def Pre_DyMixIdeal (m : (ℓ : Loc Cert.DyMixIdeal.nD Cert.DyMixIdeal.τ Cert.DyMixIdeal.sig) → Buf (Elt Ideal) ℓ) : Prop :=
  True

def Pre_DyMixRefIdeal (m : (ℓ : Loc Cert.DyMixRefIdeal.nD Cert.DyMixRefIdeal.τ Cert.DyMixRefIdeal.sig) → Buf (Elt Ideal) ℓ) : Prop :=
  True

def Pre_DwFo (m : (ℓ : Loc Cert.DwFo.nD Cert.DwFo.τ Cert.DwFo.sig) → Buf (Elt Bits) ℓ) : Prop :=
  True

def Pre_DwFoIdeal (m : (ℓ : Loc Cert.DwFoIdeal.nD Cert.DwFoIdeal.τ Cert.DwFoIdeal.sig) → Buf (Elt Ideal) ℓ) : Prop :=
  True

def Pre_DwFoRefIdeal (m : (ℓ : Loc Cert.DwFoRefIdeal.nD Cert.DwFoRefIdeal.τ Cert.DwFoRefIdeal.sig) → Buf (Elt Ideal) ℓ) : Prop :=
  True

def Pre_DwFi (m : (ℓ : Loc Cert.DwFi.nD Cert.DwFi.τ Cert.DwFi.sig) → Buf (Elt Bits) ℓ) : Prop :=
  True

def Pre_DwFiIdeal (m : (ℓ : Loc Cert.DwFiIdeal.nD Cert.DwFiIdeal.τ Cert.DwFiIdeal.sig) → Buf (Elt Ideal) ℓ) : Prop :=
  True

def Pre_DwFiRefIdeal (m : (ℓ : Loc Cert.DwFiRefIdeal.nD Cert.DwFiRefIdeal.τ Cert.DwFiRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_ANorm [hANorm : Cert.ANorm.Facts] : Prop :=
  ∀ (m : (ℓ : Loc Cert.ANorm.nD Cert.ANorm.τ Cert.ANorm.sig) → Buf (Elt Bits) ℓ) (g : Dev Cert.ANorm.nD → PrngReg), Pre_ANorm m →
    θ_run (Cert.ANorm.defs (F := Bits)) (onTc (τ := Cert.ANorm.τ) (Cert.ANorm.main (F := Bits))) ⟨m, fun _ => 0, g⟩ (fun r => (∀ c : Dev Cert.ANorm.nD,
      r.2.mem ((c.tc : Thread Cert.ANorm.nD Cert.ANorm.τ).loc Cert.ANorm.main_arg0) = m ((c.tc : Thread Cert.ANorm.nD Cert.ANorm.τ).loc Cert.ANorm.main_arg0)
      ∧ r.2.mem ((c.tc : Thread Cert.ANorm.nD Cert.ANorm.τ).loc Cert.ANorm.main_arg1) = m ((c.tc : Thread Cert.ANorm.nD Cert.ANorm.τ).loc Cert.ANorm.main_arg1)
      ∧ r.2.mem ((c.tc : Thread Cert.ANorm.nD Cert.ANorm.τ).loc Cert.ANorm.main_arg2) = m ((c.tc : Thread Cert.ANorm.nD Cert.ANorm.τ).loc Cert.ANorm.main_arg2)
      ∧ r.2.mem ((c.tc : Thread Cert.ANorm.nD Cert.ANorm.τ).loc Cert.ANorm.main_arg3) = m ((c.tc : Thread Cert.ANorm.nD Cert.ANorm.τ).loc Cert.ANorm.main_arg3))
      ∧ r.2.sem = fun _ => 0)

def quiescent_ANormIdeal [hANormIdeal : Cert.ANormIdeal.Facts] : Prop :=
  ∀ (m : (ℓ : Loc Cert.ANormIdeal.nD Cert.ANormIdeal.τ Cert.ANormIdeal.sig) → Buf (Elt Ideal) ℓ) (g : Dev Cert.ANormIdeal.nD → PrngReg), Pre_ANormIdeal m →
    θ_run (Cert.ANormIdeal.defs (F := Ideal)) (onTc (τ := Cert.ANormIdeal.τ) (Cert.ANormIdeal.main (F := Ideal))) ⟨m, fun _ => 0, g⟩ (fun r => (∀ c : Dev Cert.ANormIdeal.nD,
      r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
      ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
      ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
      ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3))
      ∧ r.2.sem = fun _ => 0)

def quiescent_ANormIdeal_pre_anorm_finite [hANormIdeal : Cert.ANormIdeal.Facts] [hPre_anorm_finite : Cert.Pre_anorm_finite.Facts] : Prop :=
  ∀ (m : (ℓ : Loc Cert.ANormIdeal.nD Cert.ANormIdeal.τ Cert.ANormIdeal.sig) → Buf (Elt Ideal) ℓ) (g : Dev Cert.ANormIdeal.nD → PrngReg), Pre_ANormIdeal_anorm_finite m →
    θ_run (Cert.ANormIdeal.defs (F := Ideal)) (onTc (τ := Cert.ANormIdeal.τ) (Cert.ANormIdeal.main (F := Ideal))) ⟨m, fun _ => 0, g⟩ (fun r => (∀ c : Dev Cert.ANormIdeal.nD,
      r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
      ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
      ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
      ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3))
      ∧ r.2.sem = fun _ => 0)

def quiescent_ANormRefIdeal [hANormRefIdeal : Cert.ANormRefIdeal.Facts] : Prop :=
  ∀ (m : (ℓ : Loc Cert.ANormRefIdeal.nD Cert.ANormRefIdeal.τ Cert.ANormRefIdeal.sig) → Buf (Elt Ideal) ℓ) (g : Dev Cert.ANormRefIdeal.nD → PrngReg), Pre_ANormRefIdeal m →
    θ_run (Cert.ANormRefIdeal.defs (F := Ideal)) (onTc (τ := Cert.ANormRefIdeal.τ) (Cert.ANormRefIdeal.main (F := Ideal))) ⟨m, fun _ => 0, g⟩ (fun r => (∀ c : Dev Cert.ANormRefIdeal.nD,
      r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0)
      ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1)
      ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2)
      ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3))
      ∧ r.2.sem = fun _ => 0)

def quiescent_ANormRefIdeal_pre_anorm_finite [hANormRefIdeal : Cert.ANormRefIdeal.Facts] [hPre_anorm_finite : Cert.Pre_anorm_finite.Facts] : Prop :=
  ∀ (m : (ℓ : Loc Cert.ANormRefIdeal.nD Cert.ANormRefIdeal.τ Cert.ANormRefIdeal.sig) → Buf (Elt Ideal) ℓ) (g : Dev Cert.ANormRefIdeal.nD → PrngReg), Pre_ANormRefIdeal_anorm_finite m →
    θ_run (Cert.ANormRefIdeal.defs (F := Ideal)) (onTc (τ := Cert.ANormRefIdeal.τ) (Cert.ANormRefIdeal.main (F := Ideal))) ⟨m, fun _ => 0, g⟩ (fun r => (∀ c : Dev Cert.ANormRefIdeal.nD,
      r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0)
      ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1)
      ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2)
      ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2)
      ∧ r.2.mem ((c.tc : Thread Cert.DAct.nD Cert.DAct.τ).loc Cert.DAct.main_arg3) = m ((c.tc : Thread Cert.DAct.nD Cert.DAct.τ).loc Cert.DAct.main_arg3))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4)
      ∧ r.2.mem ((c.tc : Thread Cert.Dh2.nD Cert.Dh2.τ).loc Cert.Dh2.main_arg5) = m ((c.tc : Thread Cert.Dh2.nD Cert.Dh2.τ).loc Cert.Dh2.main_arg5)
      ∧ r.2.mem ((c.tc : Thread Cert.Dh2.nD Cert.Dh2.τ).loc Cert.Dh2.main_arg6) = m ((c.tc : Thread Cert.Dh2.nD Cert.Dh2.τ).loc Cert.Dh2.main_arg6)
      ∧ r.2.mem ((c.tc : Thread Cert.Dh2.nD Cert.Dh2.τ).loc Cert.Dh2.main_arg7) = m ((c.tc : Thread Cert.Dh2.nD Cert.Dh2.τ).loc Cert.Dh2.main_arg7)
      ∧ r.2.mem ((c.tc : Thread Cert.Dh2.nD Cert.Dh2.τ).loc Cert.Dh2.main_arg8) = m ((c.tc : Thread Cert.Dh2.nD Cert.Dh2.τ).loc Cert.Dh2.main_arg8))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
      ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6)
      ∧ r.2.mem ((c.tc : Thread Cert.Dh2Ideal.nD Cert.Dh2Ideal.τ).loc Cert.Dh2Ideal.main_arg7) = m ((c.tc : Thread Cert.Dh2Ideal.nD Cert.Dh2Ideal.τ).loc Cert.Dh2Ideal.main_arg7)
      ∧ r.2.mem ((c.tc : Thread Cert.Dh2Ideal.nD Cert.Dh2Ideal.τ).loc Cert.Dh2Ideal.main_arg8) = m ((c.tc : Thread Cert.Dh2Ideal.nD Cert.Dh2Ideal.τ).loc Cert.Dh2Ideal.main_arg8))
      ∧ r.2.sem = fun _ => 0)

def quiescent_Dh2Ideal_pre_dh2_finite [hDh2Ideal : Cert.Dh2Ideal.Facts] [hPre_dh2_finite : Cert.Pre_dh2_finite.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal_dh2_finite m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
      ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
      ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6)
      ∧ r.2.mem ((c.tc : Thread Cert.Dh2Ideal.nD Cert.Dh2Ideal.τ).loc Cert.Dh2Ideal.main_arg7) = m ((c.tc : Thread Cert.Dh2Ideal.nD Cert.Dh2Ideal.τ).loc Cert.Dh2Ideal.main_arg7)
      ∧ r.2.mem ((c.tc : Thread Cert.Dh2Ideal.nD Cert.Dh2Ideal.τ).loc Cert.Dh2Ideal.main_arg8) = m ((c.tc : Thread Cert.Dh2Ideal.nD Cert.Dh2Ideal.τ).loc Cert.Dh2Ideal.main_arg8))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4)
      ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5)
      ∧ r.2.mem ((c.tc : Thread Cert.Dh2RefIdeal.nD Cert.Dh2RefIdeal.τ).loc Cert.Dh2RefIdeal.main_arg6) = m ((c.tc : Thread Cert.Dh2RefIdeal.nD Cert.Dh2RefIdeal.τ).loc Cert.Dh2RefIdeal.main_arg6)
      ∧ r.2.mem ((c.tc : Thread Cert.Dh2RefIdeal.nD Cert.Dh2RefIdeal.τ).loc Cert.Dh2RefIdeal.main_arg7) = m ((c.tc : Thread Cert.Dh2RefIdeal.nD Cert.Dh2RefIdeal.τ).loc Cert.Dh2RefIdeal.main_arg7)
      ∧ r.2.mem ((c.tc : Thread Cert.Dh2RefIdeal.nD Cert.Dh2RefIdeal.τ).loc Cert.Dh2RefIdeal.main_arg8) = m ((c.tc : Thread Cert.Dh2RefIdeal.nD Cert.Dh2RefIdeal.τ).loc Cert.Dh2RefIdeal.main_arg8))
      ∧ r.2.sem = fun _ => 0)

def quiescent_Dh2RefIdeal_pre_dh2_finite [hDh2RefIdeal : Cert.Dh2RefIdeal.Facts] [hPre_dh2_finite : Cert.Pre_dh2_finite.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal_dh2_finite m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4)
      ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5)
      ∧ r.2.mem ((c.tc : Thread Cert.Dh2RefIdeal.nD Cert.Dh2RefIdeal.τ).loc Cert.Dh2RefIdeal.main_arg6) = m ((c.tc : Thread Cert.Dh2RefIdeal.nD Cert.Dh2RefIdeal.τ).loc Cert.Dh2RefIdeal.main_arg6)
      ∧ r.2.mem ((c.tc : Thread Cert.Dh2RefIdeal.nD Cert.Dh2RefIdeal.τ).loc Cert.Dh2RefIdeal.main_arg7) = m ((c.tc : Thread Cert.Dh2RefIdeal.nD Cert.Dh2RefIdeal.τ).loc Cert.Dh2RefIdeal.main_arg7)
      ∧ r.2.mem ((c.tc : Thread Cert.Dh2RefIdeal.nD Cert.Dh2RefIdeal.τ).loc Cert.Dh2RefIdeal.main_arg8) = m ((c.tc : Thread Cert.Dh2RefIdeal.nD Cert.Dh2RefIdeal.τ).loc Cert.Dh2RefIdeal.main_arg8))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFIdeal_pre_attnf_finite [hAttnFIdeal : Cert.AttnFIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal_attnf_finite m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_AttnFRefIdeal_pre_attnf_finite [hAttnFRefIdeal : Cert.AttnFRefIdeal.Facts] [hPre_attnf_finite : Cert.Pre_attnf_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attnf_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_Mod1 [hMod1 : Cert.Mod1.Facts] : Prop :=
  ∀ (m : (ℓ : Loc Cert.Mod1.nD Cert.Mod1.τ Cert.Mod1.sig) → Buf (Elt Bits) ℓ) (g : Dev Cert.Mod1.nD → PrngReg), Pre_Mod1 m →
    θ_run (Cert.Mod1.defs (F := Bits)) (onTc (τ := Cert.Mod1.τ) (Cert.Mod1.main (F := Bits))) ⟨m, fun _ => 0, g⟩ (fun r => (∀ c : Dev Cert.Mod1.nD,
      r.2.mem ((c.tc : Thread Cert.Mod1.nD Cert.Mod1.τ).loc Cert.Mod1.main_arg0) = m ((c.tc : Thread Cert.Mod1.nD Cert.Mod1.τ).loc Cert.Mod1.main_arg0)
      ∧ r.2.mem ((c.tc : Thread Cert.Mod1.nD Cert.Mod1.τ).loc Cert.Mod1.main_arg1) = m ((c.tc : Thread Cert.Mod1.nD Cert.Mod1.τ).loc Cert.Mod1.main_arg1)
      ∧ r.2.mem ((c.tc : Thread Cert.Mod1.nD Cert.Mod1.τ).loc Cert.Mod1.main_arg2) = m ((c.tc : Thread Cert.Mod1.nD Cert.Mod1.τ).loc Cert.Mod1.main_arg2))
      ∧ r.2.sem = fun _ => 0)

def quiescent_Mod1Ideal [hMod1Ideal : Cert.Mod1Ideal.Facts] : Prop :=
  ∀ (m : (ℓ : Loc Cert.Mod1Ideal.nD Cert.Mod1Ideal.τ Cert.Mod1Ideal.sig) → Buf (Elt Ideal) ℓ) (g : Dev Cert.Mod1Ideal.nD → PrngReg), Pre_Mod1Ideal m →
    θ_run (Cert.Mod1Ideal.defs (F := Ideal)) (onTc (τ := Cert.Mod1Ideal.τ) (Cert.Mod1Ideal.main (F := Ideal))) ⟨m, fun _ => 0, g⟩ (fun r => (∀ c : Dev Cert.Mod1Ideal.nD,
      r.2.mem ((c.tc : Thread Cert.Mod1Ideal.nD Cert.Mod1Ideal.τ).loc Cert.Mod1Ideal.main_arg0) = m ((c.tc : Thread Cert.Mod1Ideal.nD Cert.Mod1Ideal.τ).loc Cert.Mod1Ideal.main_arg0)
      ∧ r.2.mem ((c.tc : Thread Cert.Mod1Ideal.nD Cert.Mod1Ideal.τ).loc Cert.Mod1Ideal.main_arg1) = m ((c.tc : Thread Cert.Mod1Ideal.nD Cert.Mod1Ideal.τ).loc Cert.Mod1Ideal.main_arg1)
      ∧ r.2.mem ((c.tc : Thread Cert.Mod1Ideal.nD Cert.Mod1Ideal.τ).loc Cert.Mod1Ideal.main_arg2) = m ((c.tc : Thread Cert.Mod1Ideal.nD Cert.Mod1Ideal.τ).loc Cert.Mod1Ideal.main_arg2))
      ∧ r.2.sem = fun _ => 0)

def quiescent_Mod1RefIdeal [hMod1RefIdeal : Cert.Mod1RefIdeal.Facts] : Prop :=
  ∀ (m : (ℓ : Loc Cert.Mod1RefIdeal.nD Cert.Mod1RefIdeal.τ Cert.Mod1RefIdeal.sig) → Buf (Elt Ideal) ℓ) (g : Dev Cert.Mod1RefIdeal.nD → PrngReg), Pre_Mod1RefIdeal m →
    θ_run (Cert.Mod1RefIdeal.defs (F := Ideal)) (onTc (τ := Cert.Mod1RefIdeal.τ) (Cert.Mod1RefIdeal.main (F := Ideal))) ⟨m, fun _ => 0, g⟩ (fun r => (∀ c : Dev Cert.Mod1RefIdeal.nD,
      r.2.mem ((c.tc : Thread Cert.Mod1RefIdeal.nD Cert.Mod1RefIdeal.τ).loc Cert.Mod1RefIdeal.main_arg0) = m ((c.tc : Thread Cert.Mod1RefIdeal.nD Cert.Mod1RefIdeal.τ).loc Cert.Mod1RefIdeal.main_arg0)
      ∧ r.2.mem ((c.tc : Thread Cert.Mod1RefIdeal.nD Cert.Mod1RefIdeal.τ).loc Cert.Mod1RefIdeal.main_arg1) = m ((c.tc : Thread Cert.Mod1RefIdeal.nD Cert.Mod1RefIdeal.τ).loc Cert.Mod1RefIdeal.main_arg1)
      ∧ r.2.mem ((c.tc : Thread Cert.Mod1RefIdeal.nD Cert.Mod1RefIdeal.τ).loc Cert.Mod1RefIdeal.main_arg2) = m ((c.tc : Thread Cert.Mod1RefIdeal.nD Cert.Mod1RefIdeal.τ).loc Cert.Mod1RefIdeal.main_arg2))
      ∧ r.2.sem = fun _ => 0)

def quiescent_FFIn [hFFIn : Cert.FFIn.Facts] : Prop :=
  ∀ (m : (ℓ : Loc Cert.FFIn.nD Cert.FFIn.τ Cert.FFIn.sig) → Buf (Elt Bits) ℓ) (g : Dev Cert.FFIn.nD → PrngReg), Pre_FFIn m →
    θ_run (Cert.FFIn.defs (F := Bits)) (onTc (τ := Cert.FFIn.τ) (Cert.FFIn.main (F := Bits))) ⟨m, fun _ => 0, g⟩ (fun r => (∀ c : Dev Cert.FFIn.nD,
      r.2.mem ((c.tc : Thread Cert.FFIn.nD Cert.FFIn.τ).loc Cert.FFIn.main_arg0) = m ((c.tc : Thread Cert.FFIn.nD Cert.FFIn.τ).loc Cert.FFIn.main_arg0)
      ∧ r.2.mem ((c.tc : Thread Cert.FFIn.nD Cert.FFIn.τ).loc Cert.FFIn.main_arg1) = m ((c.tc : Thread Cert.FFIn.nD Cert.FFIn.τ).loc Cert.FFIn.main_arg1))
      ∧ r.2.sem = fun _ => 0)

def quiescent_FFInIdeal [hFFInIdeal : Cert.FFInIdeal.Facts] : Prop :=
  ∀ (m : (ℓ : Loc Cert.FFInIdeal.nD Cert.FFInIdeal.τ Cert.FFInIdeal.sig) → Buf (Elt Ideal) ℓ) (g : Dev Cert.FFInIdeal.nD → PrngReg), Pre_FFInIdeal m →
    θ_run (Cert.FFInIdeal.defs (F := Ideal)) (onTc (τ := Cert.FFInIdeal.τ) (Cert.FFInIdeal.main (F := Ideal))) ⟨m, fun _ => 0, g⟩ (fun r => (∀ c : Dev Cert.FFInIdeal.nD,
      r.2.mem ((c.tc : Thread Cert.FFInIdeal.nD Cert.FFInIdeal.τ).loc Cert.FFInIdeal.main_arg0) = m ((c.tc : Thread Cert.FFInIdeal.nD Cert.FFInIdeal.τ).loc Cert.FFInIdeal.main_arg0)
      ∧ r.2.mem ((c.tc : Thread Cert.FFInIdeal.nD Cert.FFInIdeal.τ).loc Cert.FFInIdeal.main_arg1) = m ((c.tc : Thread Cert.FFInIdeal.nD Cert.FFInIdeal.τ).loc Cert.FFInIdeal.main_arg1))
      ∧ r.2.sem = fun _ => 0)

def quiescent_FFInRefIdeal [hFFInRefIdeal : Cert.FFInRefIdeal.Facts] : Prop :=
  ∀ (m : (ℓ : Loc Cert.FFInRefIdeal.nD Cert.FFInRefIdeal.τ Cert.FFInRefIdeal.sig) → Buf (Elt Ideal) ℓ) (g : Dev Cert.FFInRefIdeal.nD → PrngReg), Pre_FFInRefIdeal m →
    θ_run (Cert.FFInRefIdeal.defs (F := Ideal)) (onTc (τ := Cert.FFInRefIdeal.τ) (Cert.FFInRefIdeal.main (F := Ideal))) ⟨m, fun _ => 0, g⟩ (fun r => (∀ c : Dev Cert.FFInRefIdeal.nD,
      r.2.mem ((c.tc : Thread Cert.FFInRefIdeal.nD Cert.FFInRefIdeal.τ).loc Cert.FFInRefIdeal.main_arg0) = m ((c.tc : Thread Cert.FFInRefIdeal.nD Cert.FFInRefIdeal.τ).loc Cert.FFInRefIdeal.main_arg0)
      ∧ r.2.mem ((c.tc : Thread Cert.FFInRefIdeal.nD Cert.FFInRefIdeal.τ).loc Cert.FFInRefIdeal.main_arg1) = m ((c.tc : Thread Cert.FFInRefIdeal.nD Cert.FFInRefIdeal.τ).loc Cert.FFInRefIdeal.main_arg1))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1)
      ∧ r.2.mem ((c.tc : Thread Cert.ModPart.nD Cert.ModPart.τ).loc Cert.ModPart.main_arg2) = m ((c.tc : Thread Cert.ModPart.nD Cert.ModPart.τ).loc Cert.ModPart.main_arg2))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
      ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ r.2.sem = fun _ => 0)

def quiescent_ModPartRefIdeal [hModPartRefIdeal : Cert.ModPartRefIdeal.Facts] : Prop :=
  ∀ (m : (ℓ : Loc Cert.ModPartRefIdeal.nD Cert.ModPartRefIdeal.τ Cert.ModPartRefIdeal.sig) → Buf (Elt Ideal) ℓ) (g : Dev Cert.ModPartRefIdeal.nD → PrngReg), Pre_ModPartRefIdeal m →
    θ_run (Cert.ModPartRefIdeal.defs (F := Ideal)) (onTc (τ := Cert.ModPartRefIdeal.τ) (Cert.ModPartRefIdeal.main (F := Ideal))) ⟨m, fun _ => 0, g⟩ (fun r => (∀ c : Dev Cert.ModPartRefIdeal.nD,
      r.2.mem ((c.tc : Thread Cert.ModPartRefIdeal.nD Cert.ModPartRefIdeal.τ).loc Cert.ModPartRefIdeal.main_arg0) = m ((c.tc : Thread Cert.ModPartRefIdeal.nD Cert.ModPartRefIdeal.τ).loc Cert.ModPartRefIdeal.main_arg0)
      ∧ r.2.mem ((c.tc : Thread Cert.ModPartRefIdeal.nD Cert.ModPartRefIdeal.τ).loc Cert.ModPartRefIdeal.main_arg1) = m ((c.tc : Thread Cert.ModPartRefIdeal.nD Cert.ModPartRefIdeal.τ).loc Cert.ModPartRefIdeal.main_arg1)
      ∧ r.2.mem ((c.tc : Thread Cert.ModPartRefIdeal.nD Cert.ModPartRefIdeal.τ).loc Cert.ModPartRefIdeal.main_arg2) = m ((c.tc : Thread Cert.ModPartRefIdeal.nD Cert.ModPartRefIdeal.τ).loc Cert.ModPartRefIdeal.main_arg2))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3))
      ∧ r.2.sem = fun _ => 0)

def quiescent_OptConv [hOptConv : Cert.OptConv.Facts] : Prop :=
  ∀ (m : (ℓ : Loc Cert.OptConv.nD Cert.OptConv.τ Cert.OptConv.sig) → Buf (Elt Bits) ℓ) (g : Dev Cert.OptConv.nD → PrngReg), Pre_OptConv m →
    θ_run (Cert.OptConv.defs (F := Bits)) (onTc (τ := Cert.OptConv.τ) (Cert.OptConv.main (F := Bits))) ⟨m, fun _ => 0, g⟩ (fun r => (∀ c : Dev Cert.OptConv.nD,
      r.2.mem ((c.tc : Thread Cert.OptConv.nD Cert.OptConv.τ).loc Cert.OptConv.main_arg0) = m ((c.tc : Thread Cert.OptConv.nD Cert.OptConv.τ).loc Cert.OptConv.main_arg0)
      ∧ r.2.mem ((c.tc : Thread Cert.OptConv.nD Cert.OptConv.τ).loc Cert.OptConv.main_arg1) = m ((c.tc : Thread Cert.OptConv.nD Cert.OptConv.τ).loc Cert.OptConv.main_arg1)
      ∧ r.2.mem ((c.tc : Thread Cert.OptConv.nD Cert.OptConv.τ).loc Cert.OptConv.main_arg2) = m ((c.tc : Thread Cert.OptConv.nD Cert.OptConv.τ).loc Cert.OptConv.main_arg2)
      ∧ r.2.mem ((c.tc : Thread Cert.OptConv.nD Cert.OptConv.τ).loc Cert.OptConv.main_arg3) = m ((c.tc : Thread Cert.OptConv.nD Cert.OptConv.τ).loc Cert.OptConv.main_arg3))
      ∧ r.2.sem = fun _ => 0)

def quiescent_OptConvIdeal [hOptConvIdeal : Cert.OptConvIdeal.Facts] : Prop :=
  ∀ (m : (ℓ : Loc Cert.OptConvIdeal.nD Cert.OptConvIdeal.τ Cert.OptConvIdeal.sig) → Buf (Elt Ideal) ℓ) (g : Dev Cert.OptConvIdeal.nD → PrngReg), Pre_OptConvIdeal m →
    θ_run (Cert.OptConvIdeal.defs (F := Ideal)) (onTc (τ := Cert.OptConvIdeal.τ) (Cert.OptConvIdeal.main (F := Ideal))) ⟨m, fun _ => 0, g⟩ (fun r => (∀ c : Dev Cert.OptConvIdeal.nD,
      r.2.mem ((c.tc : Thread Cert.OptConvIdeal.nD Cert.OptConvIdeal.τ).loc Cert.OptConvIdeal.main_arg0) = m ((c.tc : Thread Cert.OptConvIdeal.nD Cert.OptConvIdeal.τ).loc Cert.OptConvIdeal.main_arg0)
      ∧ r.2.mem ((c.tc : Thread Cert.OptConvIdeal.nD Cert.OptConvIdeal.τ).loc Cert.OptConvIdeal.main_arg1) = m ((c.tc : Thread Cert.OptConvIdeal.nD Cert.OptConvIdeal.τ).loc Cert.OptConvIdeal.main_arg1)
      ∧ r.2.mem ((c.tc : Thread Cert.OptConvIdeal.nD Cert.OptConvIdeal.τ).loc Cert.OptConvIdeal.main_arg2) = m ((c.tc : Thread Cert.OptConvIdeal.nD Cert.OptConvIdeal.τ).loc Cert.OptConvIdeal.main_arg2)
      ∧ r.2.mem ((c.tc : Thread Cert.OptConvIdeal.nD Cert.OptConvIdeal.τ).loc Cert.OptConvIdeal.main_arg3) = m ((c.tc : Thread Cert.OptConvIdeal.nD Cert.OptConvIdeal.τ).loc Cert.OptConvIdeal.main_arg3))
      ∧ r.2.sem = fun _ => 0)

def quiescent_OptConvRefIdeal [hOptConvRefIdeal : Cert.OptConvRefIdeal.Facts] : Prop :=
  ∀ (m : (ℓ : Loc Cert.OptConvRefIdeal.nD Cert.OptConvRefIdeal.τ Cert.OptConvRefIdeal.sig) → Buf (Elt Ideal) ℓ) (g : Dev Cert.OptConvRefIdeal.nD → PrngReg), Pre_OptConvRefIdeal m →
    θ_run (Cert.OptConvRefIdeal.defs (F := Ideal)) (onTc (τ := Cert.OptConvRefIdeal.τ) (Cert.OptConvRefIdeal.main (F := Ideal))) ⟨m, fun _ => 0, g⟩ (fun r => (∀ c : Dev Cert.OptConvRefIdeal.nD,
      r.2.mem ((c.tc : Thread Cert.OptConvRefIdeal.nD Cert.OptConvRefIdeal.τ).loc Cert.OptConvRefIdeal.main_arg0) = m ((c.tc : Thread Cert.OptConvRefIdeal.nD Cert.OptConvRefIdeal.τ).loc Cert.OptConvRefIdeal.main_arg0)
      ∧ r.2.mem ((c.tc : Thread Cert.OptConvRefIdeal.nD Cert.OptConvRefIdeal.τ).loc Cert.OptConvRefIdeal.main_arg1) = m ((c.tc : Thread Cert.OptConvRefIdeal.nD Cert.OptConvRefIdeal.τ).loc Cert.OptConvRefIdeal.main_arg1)
      ∧ r.2.mem ((c.tc : Thread Cert.OptConvRefIdeal.nD Cert.OptConvRefIdeal.τ).loc Cert.OptConvRefIdeal.main_arg2) = m ((c.tc : Thread Cert.OptConvRefIdeal.nD Cert.OptConvRefIdeal.τ).loc Cert.OptConvRefIdeal.main_arg2)
      ∧ r.2.mem ((c.tc : Thread Cert.OptConvRefIdeal.nD Cert.OptConvRefIdeal.τ).loc Cert.OptConvRefIdeal.main_arg3) = m ((c.tc : Thread Cert.OptConvRefIdeal.nD Cert.OptConvRefIdeal.τ).loc Cert.OptConvRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DyMix [hDyMix : Cert.DyMix.Facts] : Prop :=
  ∀ (m : (ℓ : Loc Cert.DyMix.nD Cert.DyMix.τ Cert.DyMix.sig) → Buf (Elt Bits) ℓ) (g : Dev Cert.DyMix.nD → PrngReg), Pre_DyMix m →
    θ_run (Cert.DyMix.defs (F := Bits)) (onTc (τ := Cert.DyMix.τ) (Cert.DyMix.main (F := Bits))) ⟨m, fun _ => 0, g⟩ (fun r => (∀ c : Dev Cert.DyMix.nD,
      r.2.mem ((c.tc : Thread Cert.DyMix.nD Cert.DyMix.τ).loc Cert.DyMix.main_arg0) = m ((c.tc : Thread Cert.DyMix.nD Cert.DyMix.τ).loc Cert.DyMix.main_arg0)
      ∧ r.2.mem ((c.tc : Thread Cert.DyMix.nD Cert.DyMix.τ).loc Cert.DyMix.main_arg1) = m ((c.tc : Thread Cert.DyMix.nD Cert.DyMix.τ).loc Cert.DyMix.main_arg1))
      ∧ r.2.sem = fun _ => 0)

def quiescent_DyMixIdeal [hDyMixIdeal : Cert.DyMixIdeal.Facts] : Prop :=
  ∀ (m : (ℓ : Loc Cert.DyMixIdeal.nD Cert.DyMixIdeal.τ Cert.DyMixIdeal.sig) → Buf (Elt Ideal) ℓ) (g : Dev Cert.DyMixIdeal.nD → PrngReg), Pre_DyMixIdeal m →
    θ_run (Cert.DyMixIdeal.defs (F := Ideal)) (onTc (τ := Cert.DyMixIdeal.τ) (Cert.DyMixIdeal.main (F := Ideal))) ⟨m, fun _ => 0, g⟩ (fun r => (∀ c : Dev Cert.DyMixIdeal.nD,
      r.2.mem ((c.tc : Thread Cert.DyMixIdeal.nD Cert.DyMixIdeal.τ).loc Cert.DyMixIdeal.main_arg0) = m ((c.tc : Thread Cert.DyMixIdeal.nD Cert.DyMixIdeal.τ).loc Cert.DyMixIdeal.main_arg0)
      ∧ r.2.mem ((c.tc : Thread Cert.DyMixIdeal.nD Cert.DyMixIdeal.τ).loc Cert.DyMixIdeal.main_arg1) = m ((c.tc : Thread Cert.DyMixIdeal.nD Cert.DyMixIdeal.τ).loc Cert.DyMixIdeal.main_arg1))
      ∧ r.2.sem = fun _ => 0)

def quiescent_DyMixRefIdeal [hDyMixRefIdeal : Cert.DyMixRefIdeal.Facts] : Prop :=
  ∀ (m : (ℓ : Loc Cert.DyMixRefIdeal.nD Cert.DyMixRefIdeal.τ Cert.DyMixRefIdeal.sig) → Buf (Elt Ideal) ℓ) (g : Dev Cert.DyMixRefIdeal.nD → PrngReg), Pre_DyMixRefIdeal m →
    θ_run (Cert.DyMixRefIdeal.defs (F := Ideal)) (onTc (τ := Cert.DyMixRefIdeal.τ) (Cert.DyMixRefIdeal.main (F := Ideal))) ⟨m, fun _ => 0, g⟩ (fun r => (∀ c : Dev Cert.DyMixRefIdeal.nD,
      r.2.mem ((c.tc : Thread Cert.DyMixRefIdeal.nD Cert.DyMixRefIdeal.τ).loc Cert.DyMixRefIdeal.main_arg0) = m ((c.tc : Thread Cert.DyMixRefIdeal.nD Cert.DyMixRefIdeal.τ).loc Cert.DyMixRefIdeal.main_arg0)
      ∧ r.2.mem ((c.tc : Thread Cert.DyMixRefIdeal.nD Cert.DyMixRefIdeal.τ).loc Cert.DyMixRefIdeal.main_arg1) = m ((c.tc : Thread Cert.DyMixRefIdeal.nD Cert.DyMixRefIdeal.τ).loc Cert.DyMixRefIdeal.main_arg1))
      ∧ r.2.sem = fun _ => 0)

def quiescent_DwFo [hDwFo : Cert.DwFo.Facts] : Prop :=
  ∀ (m : (ℓ : Loc Cert.DwFo.nD Cert.DwFo.τ Cert.DwFo.sig) → Buf (Elt Bits) ℓ) (g : Dev Cert.DwFo.nD → PrngReg), Pre_DwFo m →
    θ_run (Cert.DwFo.defs (F := Bits)) (onTc (τ := Cert.DwFo.τ) (Cert.DwFo.main (F := Bits))) ⟨m, fun _ => 0, g⟩ (fun r => (∀ c : Dev Cert.DwFo.nD,
      r.2.mem ((c.tc : Thread Cert.DwFo.nD Cert.DwFo.τ).loc Cert.DwFo.main_arg0) = m ((c.tc : Thread Cert.DwFo.nD Cert.DwFo.τ).loc Cert.DwFo.main_arg0)
      ∧ r.2.mem ((c.tc : Thread Cert.DwFo.nD Cert.DwFo.τ).loc Cert.DwFo.main_arg1) = m ((c.tc : Thread Cert.DwFo.nD Cert.DwFo.τ).loc Cert.DwFo.main_arg1))
      ∧ r.2.sem = fun _ => 0)

def quiescent_DwFoIdeal [hDwFoIdeal : Cert.DwFoIdeal.Facts] : Prop :=
  ∀ (m : (ℓ : Loc Cert.DwFoIdeal.nD Cert.DwFoIdeal.τ Cert.DwFoIdeal.sig) → Buf (Elt Ideal) ℓ) (g : Dev Cert.DwFoIdeal.nD → PrngReg), Pre_DwFoIdeal m →
    θ_run (Cert.DwFoIdeal.defs (F := Ideal)) (onTc (τ := Cert.DwFoIdeal.τ) (Cert.DwFoIdeal.main (F := Ideal))) ⟨m, fun _ => 0, g⟩ (fun r => (∀ c : Dev Cert.DwFoIdeal.nD,
      r.2.mem ((c.tc : Thread Cert.DwFoIdeal.nD Cert.DwFoIdeal.τ).loc Cert.DwFoIdeal.main_arg0) = m ((c.tc : Thread Cert.DwFoIdeal.nD Cert.DwFoIdeal.τ).loc Cert.DwFoIdeal.main_arg0)
      ∧ r.2.mem ((c.tc : Thread Cert.DwFoIdeal.nD Cert.DwFoIdeal.τ).loc Cert.DwFoIdeal.main_arg1) = m ((c.tc : Thread Cert.DwFoIdeal.nD Cert.DwFoIdeal.τ).loc Cert.DwFoIdeal.main_arg1))
      ∧ r.2.sem = fun _ => 0)

def quiescent_DwFoRefIdeal [hDwFoRefIdeal : Cert.DwFoRefIdeal.Facts] : Prop :=
  ∀ (m : (ℓ : Loc Cert.DwFoRefIdeal.nD Cert.DwFoRefIdeal.τ Cert.DwFoRefIdeal.sig) → Buf (Elt Ideal) ℓ) (g : Dev Cert.DwFoRefIdeal.nD → PrngReg), Pre_DwFoRefIdeal m →
    θ_run (Cert.DwFoRefIdeal.defs (F := Ideal)) (onTc (τ := Cert.DwFoRefIdeal.τ) (Cert.DwFoRefIdeal.main (F := Ideal))) ⟨m, fun _ => 0, g⟩ (fun r => (∀ c : Dev Cert.DwFoRefIdeal.nD,
      r.2.mem ((c.tc : Thread Cert.DwFoRefIdeal.nD Cert.DwFoRefIdeal.τ).loc Cert.DwFoRefIdeal.main_arg0) = m ((c.tc : Thread Cert.DwFoRefIdeal.nD Cert.DwFoRefIdeal.τ).loc Cert.DwFoRefIdeal.main_arg0)
      ∧ r.2.mem ((c.tc : Thread Cert.DwFoRefIdeal.nD Cert.DwFoRefIdeal.τ).loc Cert.DwFoRefIdeal.main_arg1) = m ((c.tc : Thread Cert.DwFoRefIdeal.nD Cert.DwFoRefIdeal.τ).loc Cert.DwFoRefIdeal.main_arg1))
      ∧ r.2.sem = fun _ => 0)

def quiescent_DwFi [hDwFi : Cert.DwFi.Facts] : Prop :=
  ∀ (m : (ℓ : Loc Cert.DwFi.nD Cert.DwFi.τ Cert.DwFi.sig) → Buf (Elt Bits) ℓ) (g : Dev Cert.DwFi.nD → PrngReg), Pre_DwFi m →
    θ_run (Cert.DwFi.defs (F := Bits)) (onTc (τ := Cert.DwFi.τ) (Cert.DwFi.main (F := Bits))) ⟨m, fun _ => 0, g⟩ (fun r => (∀ c : Dev Cert.DwFi.nD,
      r.2.mem ((c.tc : Thread Cert.DwFi.nD Cert.DwFi.τ).loc Cert.DwFi.main_arg0) = m ((c.tc : Thread Cert.DwFi.nD Cert.DwFi.τ).loc Cert.DwFi.main_arg0)
      ∧ r.2.mem ((c.tc : Thread Cert.DwFi.nD Cert.DwFi.τ).loc Cert.DwFi.main_arg1) = m ((c.tc : Thread Cert.DwFi.nD Cert.DwFi.τ).loc Cert.DwFi.main_arg1))
      ∧ r.2.sem = fun _ => 0)

def quiescent_DwFiIdeal [hDwFiIdeal : Cert.DwFiIdeal.Facts] : Prop :=
  ∀ (m : (ℓ : Loc Cert.DwFiIdeal.nD Cert.DwFiIdeal.τ Cert.DwFiIdeal.sig) → Buf (Elt Ideal) ℓ) (g : Dev Cert.DwFiIdeal.nD → PrngReg), Pre_DwFiIdeal m →
    θ_run (Cert.DwFiIdeal.defs (F := Ideal)) (onTc (τ := Cert.DwFiIdeal.τ) (Cert.DwFiIdeal.main (F := Ideal))) ⟨m, fun _ => 0, g⟩ (fun r => (∀ c : Dev Cert.DwFiIdeal.nD,
      r.2.mem ((c.tc : Thread Cert.DwFiIdeal.nD Cert.DwFiIdeal.τ).loc Cert.DwFiIdeal.main_arg0) = m ((c.tc : Thread Cert.DwFiIdeal.nD Cert.DwFiIdeal.τ).loc Cert.DwFiIdeal.main_arg0)
      ∧ r.2.mem ((c.tc : Thread Cert.DwFiIdeal.nD Cert.DwFiIdeal.τ).loc Cert.DwFiIdeal.main_arg1) = m ((c.tc : Thread Cert.DwFiIdeal.nD Cert.DwFiIdeal.τ).loc Cert.DwFiIdeal.main_arg1))
      ∧ r.2.sem = fun _ => 0)

def quiescent_DwFiRefIdeal [hDwFiRefIdeal : Cert.DwFiRefIdeal.Facts] : Prop :=
  ∀ (m : (ℓ : Loc Cert.DwFiRefIdeal.nD Cert.DwFiRefIdeal.τ Cert.DwFiRefIdeal.sig) → Buf (Elt Ideal) ℓ) (g : Dev Cert.DwFiRefIdeal.nD → PrngReg), Pre_DwFiRefIdeal m →
    θ_run (Cert.DwFiRefIdeal.defs (F := Ideal)) (onTc (τ := Cert.DwFiRefIdeal.τ) (Cert.DwFiRefIdeal.main (F := Ideal))) ⟨m, fun _ => 0, g⟩ (fun r => (∀ c : Dev Cert.DwFiRefIdeal.nD,
      r.2.mem ((c.tc : Thread Cert.DwFiRefIdeal.nD Cert.DwFiRefIdeal.τ).loc Cert.DwFiRefIdeal.main_arg0) = m ((c.tc : Thread Cert.DwFiRefIdeal.nD Cert.DwFiRefIdeal.τ).loc Cert.DwFiRefIdeal.main_arg0)
      ∧ r.2.mem ((c.tc : Thread Cert.DwFiRefIdeal.nD Cert.DwFiRefIdeal.τ).loc Cert.DwFiRefIdeal.main_arg1) = m ((c.tc : Thread Cert.DwFiRefIdeal.nD Cert.DwFiRefIdeal.τ).loc Cert.DwFiRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_ANorm_ANormIdeal : Prop :=
  True

def algebraic_ANormIdeal_ANormRefIdeal_pre_anorm_finite [hANormIdeal : Cert.ANormIdeal.Facts] [hANormRefIdeal : Cert.ANormRefIdeal.Facts] [hPre_anorm_finite : Cert.Pre_anorm_finite.Facts] : Prop :=
  ∀ (m : (ℓ : Loc Cert.ANormIdeal.nD Cert.ANormIdeal.τ Cert.ANormIdeal.sig) → Buf (Elt Ideal) ℓ) (g : Dev Cert.ANormIdeal.nD → PrngReg)
    (m' : (ℓ : Loc Cert.ANormRefIdeal.nD Cert.ANormRefIdeal.τ Cert.ANormRefIdeal.sig) → Buf (Elt Ideal) ℓ) (g' : Dev Cert.ANormRefIdeal.nD → PrngReg), Pre_ANormIdeal_anorm_finite m →
    (∀ c : Dev Cert.ANormIdeal.nD,
      m' ((c.tc : Thread Cert.ANormRefIdeal.nD Cert.ANormRefIdeal.τ).loc Cert.ANormRefIdeal.main_arg0) = m ((c.tc : Thread Cert.ANormIdeal.nD Cert.ANormIdeal.τ).loc Cert.ANormIdeal.main_arg0)
      ∧ m' ((c.tc : Thread Cert.ANormRefIdeal.nD Cert.ANormRefIdeal.τ).loc Cert.ANormRefIdeal.main_arg1) = m ((c.tc : Thread Cert.ANormIdeal.nD Cert.ANormIdeal.τ).loc Cert.ANormIdeal.main_arg1)
      ∧ m' ((c.tc : Thread Cert.ANormRefIdeal.nD Cert.ANormRefIdeal.τ).loc Cert.ANormRefIdeal.main_arg2) = m ((c.tc : Thread Cert.ANormIdeal.nD Cert.ANormIdeal.τ).loc Cert.ANormIdeal.main_arg2)
      ∧ m' ((c.tc : Thread Cert.ANormRefIdeal.nD Cert.ANormRefIdeal.τ).loc Cert.ANormRefIdeal.main_arg3) = m ((c.tc : Thread Cert.ANormIdeal.nD Cert.ANormIdeal.τ).loc Cert.ANormIdeal.main_arg3)) →
    ∃ (v0 : (c : Dev Cert.ANormIdeal.nD) → Buf (Elt Ideal) ((c.tc : Thread Cert.ANormIdeal.nD Cert.ANormIdeal.τ).loc Cert.ANormIdeal.main_v2_0)) (v1 : (c : Dev Cert.ANormIdeal.nD) → Buf (Elt Ideal) ((c.tc : Thread Cert.ANormIdeal.nD Cert.ANormIdeal.τ).loc Cert.ANormIdeal.main_v2_1)),
      θ_run (Cert.ANormIdeal.defs (F := Ideal)) (onTc (τ := Cert.ANormIdeal.τ) (Cert.ANormIdeal.main (F := Ideal))) ⟨m, fun _ => 0, g⟩ (fun r => ∀ c : Dev Cert.ANormIdeal.nD,
          r.2.mem ((c.tc : Thread Cert.ANormIdeal.nD Cert.ANormIdeal.τ).loc Cert.ANormIdeal.main_v2_0) = v0 c
          ∧ r.2.mem ((c.tc : Thread Cert.ANormIdeal.nD Cert.ANormIdeal.τ).loc Cert.ANormIdeal.main_v2_1) = v1 c
          ∧ r.2.mem ((c.tc : Thread Cert.ANormIdeal.nD Cert.ANormIdeal.τ).loc Cert.ANormIdeal.main_arg0) = m ((c.tc : Thread Cert.ANormIdeal.nD Cert.ANormIdeal.τ).loc Cert.ANormIdeal.main_arg0)
          ∧ r.2.mem ((c.tc : Thread Cert.ANormIdeal.nD Cert.ANormIdeal.τ).loc Cert.ANormIdeal.main_arg1) = m ((c.tc : Thread Cert.ANormIdeal.nD Cert.ANormIdeal.τ).loc Cert.ANormIdeal.main_arg1)
          ∧ r.2.mem ((c.tc : Thread Cert.ANormIdeal.nD Cert.ANormIdeal.τ).loc Cert.ANormIdeal.main_arg2) = m ((c.tc : Thread Cert.ANormIdeal.nD Cert.ANormIdeal.τ).loc Cert.ANormIdeal.main_arg2)
          ∧ r.2.mem ((c.tc : Thread Cert.ANormIdeal.nD Cert.ANormIdeal.τ).loc Cert.ANormIdeal.main_arg3) = m ((c.tc : Thread Cert.ANormIdeal.nD Cert.ANormIdeal.τ).loc Cert.ANormIdeal.main_arg3))
      ∧ θ_run (Cert.ANormRefIdeal.defs (F := Ideal)) (onTc (τ := Cert.ANormRefIdeal.τ) (Cert.ANormRefIdeal.main (F := Ideal))) ⟨m', fun _ => 0, g'⟩ (fun r => ∀ c : Dev Cert.ANormRefIdeal.nD,
          r.2.mem ((c.tc : Thread Cert.ANormRefIdeal.nD Cert.ANormRefIdeal.τ).loc Cert.ANormRefIdeal.main_v35) = v0 c
          ∧ r.2.mem ((c.tc : Thread Cert.ANormRefIdeal.nD Cert.ANormRefIdeal.τ).loc Cert.ANormRefIdeal.main_v19) = v1 c
          ∧ r.2.mem ((c.tc : Thread Cert.ANormRefIdeal.nD Cert.ANormRefIdeal.τ).loc Cert.ANormRefIdeal.main_arg0) = m' ((c.tc : Thread Cert.ANormRefIdeal.nD Cert.ANormRefIdeal.τ).loc Cert.ANormRefIdeal.main_arg0)
          ∧ r.2.mem ((c.tc : Thread Cert.ANormRefIdeal.nD Cert.ANormRefIdeal.τ).loc Cert.ANormRefIdeal.main_arg1) = m' ((c.tc : Thread Cert.ANormRefIdeal.nD Cert.ANormRefIdeal.τ).loc Cert.ANormRefIdeal.main_arg1)
          ∧ r.2.mem ((c.tc : Thread Cert.ANormRefIdeal.nD Cert.ANormRefIdeal.τ).loc Cert.ANormRefIdeal.main_arg2) = m' ((c.tc : Thread Cert.ANormRefIdeal.nD Cert.ANormRefIdeal.τ).loc Cert.ANormRefIdeal.main_arg2)
          ∧ r.2.mem ((c.tc : Thread Cert.ANormRefIdeal.nD Cert.ANormRefIdeal.τ).loc Cert.ANormRefIdeal.main_arg3) = m' ((c.tc : Thread Cert.ANormRefIdeal.nD Cert.ANormRefIdeal.τ).loc Cert.ANormRefIdeal.main_arg3))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)
      ∧ m' ((c.tc : Thread Cert.DActRefIdeal.nD Cert.DActRefIdeal.τ).loc Cert.DActRefIdeal.main_arg3) = m ((c.tc : Thread Cert.DActIdeal.nD Cert.DActIdeal.τ).loc Cert.DActIdeal.main_arg3)) →
    ∃ (v0 : (c : Dev Cert.DActIdeal.nD) → Buf (Elt Ideal) ((c.tc : Thread Cert.DActIdeal.nD Cert.DActIdeal.τ).loc Cert.DActIdeal.main_v7)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v7) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
          ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v19) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2)
          ∧ r.2.mem ((c.tc : Thread Cert.DActRefIdeal.nD Cert.DActRefIdeal.τ).loc Cert.DActRefIdeal.main_arg3) = m' ((c.tc : Thread Cert.DActRefIdeal.nD Cert.DActRefIdeal.τ).loc Cert.DActRefIdeal.main_arg3))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v2_0)) (v1 : (c : Dev Cert.HeadIdeal.nD) → Buf (Elt Ideal) ((c.tc : Thread Cert.HeadIdeal.nD Cert.HeadIdeal.τ).loc Cert.HeadIdeal.main_v2_1)) (v2 : (c : Dev Cert.HeadIdeal.nD) → Buf (Elt Ideal) ((c.tc : Thread Cert.HeadIdeal.nD Cert.HeadIdeal.τ).loc Cert.HeadIdeal.main_v2_2)) (v3 : (c : Dev Cert.HeadIdeal.nD) → Buf (Elt Ideal) ((c.tc : Thread Cert.HeadIdeal.nD Cert.HeadIdeal.τ).loc Cert.HeadIdeal.main_v2_3)) (v4 : (c : Dev Cert.HeadIdeal.nD) → Buf (Elt Ideal) ((c.tc : Thread Cert.HeadIdeal.nD Cert.HeadIdeal.τ).loc Cert.HeadIdeal.main_v2_4)) (v5 : (c : Dev Cert.HeadIdeal.nD) → Buf (Elt Ideal) ((c.tc : Thread Cert.HeadIdeal.nD Cert.HeadIdeal.τ).loc Cert.HeadIdeal.main_v2_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v2_0) = v0 c
          ∧ r.2.mem ((c.tc : Thread Cert.HeadIdeal.nD Cert.HeadIdeal.τ).loc Cert.HeadIdeal.main_v2_1) = v1 c
          ∧ r.2.mem ((c.tc : Thread Cert.HeadIdeal.nD Cert.HeadIdeal.τ).loc Cert.HeadIdeal.main_v2_2) = v2 c
          ∧ r.2.mem ((c.tc : Thread Cert.HeadIdeal.nD Cert.HeadIdeal.τ).loc Cert.HeadIdeal.main_v2_3) = v3 c
          ∧ r.2.mem ((c.tc : Thread Cert.HeadIdeal.nD Cert.HeadIdeal.τ).loc Cert.HeadIdeal.main_v2_4) = v4 c
          ∧ r.2.mem ((c.tc : Thread Cert.HeadIdeal.nD Cert.HeadIdeal.τ).loc Cert.HeadIdeal.main_v2_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v102) = v0 c
          ∧ r.2.mem ((c.tc : Thread Cert.HeadRefIdeal.nD Cert.HeadRefIdeal.τ).loc Cert.HeadRefIdeal.main_v108) = v1 c
          ∧ r.2.mem ((c.tc : Thread Cert.HeadRefIdeal.nD Cert.HeadRefIdeal.τ).loc Cert.HeadRefIdeal.main_v76) = v2 c
          ∧ r.2.mem ((c.tc : Thread Cert.HeadRefIdeal.nD Cert.HeadRefIdeal.τ).loc Cert.HeadRefIdeal.main_v73) = v3 c
          ∧ r.2.mem ((c.tc : Thread Cert.HeadRefIdeal.nD Cert.HeadRefIdeal.τ).loc Cert.HeadRefIdeal.main_v107) = v4 c
          ∧ r.2.mem ((c.tc : Thread Cert.HeadRefIdeal.nD Cert.HeadRefIdeal.τ).loc Cert.HeadRefIdeal.main_v109) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_Dh2_Dh2Ideal : Prop :=
  True

def algebraic_Dh2Ideal_Dh2RefIdeal_pre_dh2_finite [hDh2Ideal : Cert.Dh2Ideal.Facts] [hDh2RefIdeal : Cert.Dh2RefIdeal.Facts] [hPre_dh2_finite : Cert.Pre_dh2_finite.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal_dh2_finite m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)
      ∧ m' ((c.tc : Thread Cert.Dh2RefIdeal.nD Cert.Dh2RefIdeal.τ).loc Cert.Dh2RefIdeal.main_arg4) = m ((c.tc : Thread Cert.Dh2Ideal.nD Cert.Dh2Ideal.τ).loc Cert.Dh2Ideal.main_arg4)
      ∧ m' ((c.tc : Thread Cert.Dh2RefIdeal.nD Cert.Dh2RefIdeal.τ).loc Cert.Dh2RefIdeal.main_arg5) = m ((c.tc : Thread Cert.Dh2Ideal.nD Cert.Dh2Ideal.τ).loc Cert.Dh2Ideal.main_arg5)
      ∧ m' ((c.tc : Thread Cert.Dh2RefIdeal.nD Cert.Dh2RefIdeal.τ).loc Cert.Dh2RefIdeal.main_arg6) = m ((c.tc : Thread Cert.Dh2Ideal.nD Cert.Dh2Ideal.τ).loc Cert.Dh2Ideal.main_arg6)
      ∧ m' ((c.tc : Thread Cert.Dh2RefIdeal.nD Cert.Dh2RefIdeal.τ).loc Cert.Dh2RefIdeal.main_arg7) = m ((c.tc : Thread Cert.Dh2Ideal.nD Cert.Dh2Ideal.τ).loc Cert.Dh2Ideal.main_arg7)
      ∧ m' ((c.tc : Thread Cert.Dh2RefIdeal.nD Cert.Dh2RefIdeal.τ).loc Cert.Dh2RefIdeal.main_arg8) = m ((c.tc : Thread Cert.Dh2Ideal.nD Cert.Dh2Ideal.τ).loc Cert.Dh2Ideal.main_arg8)) →
    ∃ (v0 : (c : Dev Cert.Dh2Ideal.nD) → Buf (Elt Ideal) ((c.tc : Thread Cert.Dh2Ideal.nD Cert.Dh2Ideal.τ).loc Cert.Dh2Ideal.main_v9_0)) (v1 : (c : Dev Cert.Dh2Ideal.nD) → Buf (Elt Ideal) ((c.tc : Thread Cert.Dh2Ideal.nD Cert.Dh2Ideal.τ).loc Cert.Dh2Ideal.main_v9_1)) (v2 : (c : Dev Cert.Dh2Ideal.nD) → Buf (Elt Ideal) ((c.tc : Thread Cert.Dh2Ideal.nD Cert.Dh2Ideal.τ).loc Cert.Dh2Ideal.main_v9_2)) (v3 : (c : Dev Cert.Dh2Ideal.nD) → Buf (Elt Ideal) ((c.tc : Thread Cert.Dh2Ideal.nD Cert.Dh2Ideal.τ).loc Cert.Dh2Ideal.main_v9_3)) (v4 : (c : Dev Cert.Dh2Ideal.nD) → Buf (Elt Ideal) ((c.tc : Thread Cert.Dh2Ideal.nD Cert.Dh2Ideal.τ).loc Cert.Dh2Ideal.main_v9_4)) (v5 : (c : Dev Cert.Dh2Ideal.nD) → Buf (Elt Ideal) ((c.tc : Thread Cert.Dh2Ideal.nD Cert.Dh2Ideal.τ).loc Cert.Dh2Ideal.main_v9_5)) (v6 : (c : Dev Cert.Dh2Ideal.nD) → Buf (Elt Ideal) ((c.tc : Thread Cert.Dh2Ideal.nD Cert.Dh2Ideal.τ).loc Cert.Dh2Ideal.main_v9_6)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v9_0) = v0 c
          ∧ r.2.mem ((c.tc : Thread Cert.Dh2Ideal.nD Cert.Dh2Ideal.τ).loc Cert.Dh2Ideal.main_v9_1) = v1 c
          ∧ r.2.mem ((c.tc : Thread Cert.Dh2Ideal.nD Cert.Dh2Ideal.τ).loc Cert.Dh2Ideal.main_v9_2) = v2 c
          ∧ r.2.mem ((c.tc : Thread Cert.Dh2Ideal.nD Cert.Dh2Ideal.τ).loc Cert.Dh2Ideal.main_v9_3) = v3 c
          ∧ r.2.mem ((c.tc : Thread Cert.Dh2Ideal.nD Cert.Dh2Ideal.τ).loc Cert.Dh2Ideal.main_v9_4) = v4 c
          ∧ r.2.mem ((c.tc : Thread Cert.Dh2Ideal.nD Cert.Dh2Ideal.τ).loc Cert.Dh2Ideal.main_v9_5) = v5 c
          ∧ r.2.mem ((c.tc : Thread Cert.Dh2Ideal.nD Cert.Dh2Ideal.τ).loc Cert.Dh2Ideal.main_v9_6) = v6 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4)
          ∧ r.2.mem ((c.tc : Thread Cert.Dh2Ideal.nD Cert.Dh2Ideal.τ).loc Cert.Dh2Ideal.main_arg5) = m ((c.tc : Thread Cert.Dh2Ideal.nD Cert.Dh2Ideal.τ).loc Cert.Dh2Ideal.main_arg5)
          ∧ r.2.mem ((c.tc : Thread Cert.Dh2Ideal.nD Cert.Dh2Ideal.τ).loc Cert.Dh2Ideal.main_arg6) = m ((c.tc : Thread Cert.Dh2Ideal.nD Cert.Dh2Ideal.τ).loc Cert.Dh2Ideal.main_arg6)
          ∧ r.2.mem ((c.tc : Thread Cert.Dh2Ideal.nD Cert.Dh2Ideal.τ).loc Cert.Dh2Ideal.main_arg7) = m ((c.tc : Thread Cert.Dh2Ideal.nD Cert.Dh2Ideal.τ).loc Cert.Dh2Ideal.main_arg7)
          ∧ r.2.mem ((c.tc : Thread Cert.Dh2Ideal.nD Cert.Dh2Ideal.τ).loc Cert.Dh2Ideal.main_arg8) = m ((c.tc : Thread Cert.Dh2Ideal.nD Cert.Dh2Ideal.τ).loc Cert.Dh2Ideal.main_arg8))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v85) = v0 c
          ∧ r.2.mem ((c.tc : Thread Cert.Dh2RefIdeal.nD Cert.Dh2RefIdeal.τ).loc Cert.Dh2RefIdeal.main_v91) = v1 c
          ∧ r.2.mem ((c.tc : Thread Cert.Dh2RefIdeal.nD Cert.Dh2RefIdeal.τ).loc Cert.Dh2RefIdeal.main_v51) = v2 c
          ∧ r.2.mem ((c.tc : Thread Cert.Dh2RefIdeal.nD Cert.Dh2RefIdeal.τ).loc Cert.Dh2RefIdeal.main_v48) = v3 c
          ∧ r.2.mem ((c.tc : Thread Cert.Dh2RefIdeal.nD Cert.Dh2RefIdeal.τ).loc Cert.Dh2RefIdeal.main_v59) = v4 c
          ∧ r.2.mem ((c.tc : Thread Cert.Dh2RefIdeal.nD Cert.Dh2RefIdeal.τ).loc Cert.Dh2RefIdeal.main_v56) = v5 c
          ∧ r.2.mem ((c.tc : Thread Cert.Dh2RefIdeal.nD Cert.Dh2RefIdeal.τ).loc Cert.Dh2RefIdeal.main_v90) = v6 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3)
          ∧ r.2.mem ((c.tc : Thread Cert.Dh2RefIdeal.nD Cert.Dh2RefIdeal.τ).loc Cert.Dh2RefIdeal.main_arg4) = m' ((c.tc : Thread Cert.Dh2RefIdeal.nD Cert.Dh2RefIdeal.τ).loc Cert.Dh2RefIdeal.main_arg4)
          ∧ r.2.mem ((c.tc : Thread Cert.Dh2RefIdeal.nD Cert.Dh2RefIdeal.τ).loc Cert.Dh2RefIdeal.main_arg5) = m' ((c.tc : Thread Cert.Dh2RefIdeal.nD Cert.Dh2RefIdeal.τ).loc Cert.Dh2RefIdeal.main_arg5)
          ∧ r.2.mem ((c.tc : Thread Cert.Dh2RefIdeal.nD Cert.Dh2RefIdeal.τ).loc Cert.Dh2RefIdeal.main_arg6) = m' ((c.tc : Thread Cert.Dh2RefIdeal.nD Cert.Dh2RefIdeal.τ).loc Cert.Dh2RefIdeal.main_arg6)
          ∧ r.2.mem ((c.tc : Thread Cert.Dh2RefIdeal.nD Cert.Dh2RefIdeal.τ).loc Cert.Dh2RefIdeal.main_arg7) = m' ((c.tc : Thread Cert.Dh2RefIdeal.nD Cert.Dh2RefIdeal.τ).loc Cert.Dh2RefIdeal.main_arg7)
          ∧ r.2.mem ((c.tc : Thread Cert.Dh2RefIdeal.nD Cert.Dh2RefIdeal.τ).loc Cert.Dh2RefIdeal.main_arg8) = m' ((c.tc : Thread Cert.Dh2RefIdeal.nD Cert.Dh2RefIdeal.τ).loc Cert.Dh2RefIdeal.main_arg8))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)) →
    ∃ (v0 : (c : Dev Cert.Dh1Ideal.nD) → Buf (Elt Ideal) ((c.tc : Thread Cert.Dh1Ideal.nD Cert.Dh1Ideal.τ).loc Cert.Dh1Ideal.main_v21_0)) (v1 : (c : Dev Cert.Dh1Ideal.nD) → Buf (Elt Ideal) ((c.tc : Thread Cert.Dh1Ideal.nD Cert.Dh1Ideal.τ).loc Cert.Dh1Ideal.main_v21_1)) (v2 : (c : Dev Cert.Dh1Ideal.nD) → Buf (Elt Ideal) ((c.tc : Thread Cert.Dh1Ideal.nD Cert.Dh1Ideal.τ).loc Cert.Dh1Ideal.main_v21_2)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v21_0) = v0 c
          ∧ r.2.mem ((c.tc : Thread Cert.Dh1Ideal.nD Cert.Dh1Ideal.τ).loc Cert.Dh1Ideal.main_v21_1) = v1 c
          ∧ r.2.mem ((c.tc : Thread Cert.Dh1Ideal.nD Cert.Dh1Ideal.τ).loc Cert.Dh1Ideal.main_v21_2) = v2 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v20) = v0 c
          ∧ r.2.mem ((c.tc : Thread Cert.Dh1RefIdeal.nD Cert.Dh1RefIdeal.τ).loc Cert.Dh1RefIdeal.main_v17) = v1 c
          ∧ r.2.mem ((c.tc : Thread Cert.Dh1RefIdeal.nD Cert.Dh1RefIdeal.τ).loc Cert.Dh1RefIdeal.main_v14) = v2 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v91)) (v1 : (c : Dev Cert.AttnIdeal.nD) → Buf (Elt Ideal) ((c.tc : Thread Cert.AttnIdeal.nD Cert.AttnIdeal.τ).loc Cert.AttnIdeal.main_v93)) (v2 : (c : Dev Cert.AttnIdeal.nD) → Buf (Elt Ideal) ((c.tc : Thread Cert.AttnIdeal.nD Cert.AttnIdeal.τ).loc Cert.AttnIdeal.main_v94)) (v3 : (c : Dev Cert.AttnIdeal.nD) → Buf (Elt Ideal) ((c.tc : Thread Cert.AttnIdeal.nD Cert.AttnIdeal.τ).loc Cert.AttnIdeal.main_v100)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v91) = v0 c
          ∧ r.2.mem ((c.tc : Thread Cert.AttnIdeal.nD Cert.AttnIdeal.τ).loc Cert.AttnIdeal.main_v93) = v1 c
          ∧ r.2.mem ((c.tc : Thread Cert.AttnIdeal.nD Cert.AttnIdeal.τ).loc Cert.AttnIdeal.main_v94) = v2 c
          ∧ r.2.mem ((c.tc : Thread Cert.AttnIdeal.nD Cert.AttnIdeal.τ).loc Cert.AttnIdeal.main_v100) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v93) = v0 c
          ∧ r.2.mem ((c.tc : Thread Cert.AttnRefIdeal.nD Cert.AttnRefIdeal.τ).loc Cert.AttnRefIdeal.main_v92) = v1 c
          ∧ r.2.mem ((c.tc : Thread Cert.AttnRefIdeal.nD Cert.AttnRefIdeal.τ).loc Cert.AttnRefIdeal.main_v94) = v2 c
          ∧ r.2.mem ((c.tc : Thread Cert.AttnRefIdeal.nD Cert.AttnRefIdeal.τ).loc Cert.AttnRefIdeal.main_v85) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_AttnF_AttnFIdeal : Prop :=
  IdealRules.named_const.Statement Cert.AttnFIdeal.κ "mask" .f32 0xF149F2CA#32 ⊥

def algebraic_AttnFIdeal_AttnFRefIdeal_pre_attnf_finite [hAttnFIdeal : Cert.AttnFIdeal.Facts] [hAttnFRefIdeal : Cert.AttnFRefIdeal.Facts] [hPre_attnf_finite : Cert.Pre_attnf_finite.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal_attnf_finite m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)) →
    ∃ (v0 : (c : Dev Cert.AttnFIdeal.nD) → Buf (Elt Ideal) ((c.tc : Thread Cert.AttnFIdeal.nD Cert.AttnFIdeal.τ).loc Cert.AttnFIdeal.main_v41_0)) (v1 : (c : Dev Cert.AttnFIdeal.nD) → Buf (Elt Ideal) ((c.tc : Thread Cert.AttnFIdeal.nD Cert.AttnFIdeal.τ).loc Cert.AttnFIdeal.main_v41_1)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v41_0) = v0 c
          ∧ r.2.mem ((c.tc : Thread Cert.AttnFIdeal.nD Cert.AttnFIdeal.τ).loc Cert.AttnFIdeal.main_v41_1) = v1 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v39) = v0 c
          ∧ r.2.mem ((c.tc : Thread Cert.AttnFRefIdeal.nD Cert.AttnFRefIdeal.τ).loc Cert.AttnFRefIdeal.main_v50) = v1 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4))

def preserves_Mod1_Mod1Ideal : Prop :=
  True

def algebraic_Mod1Ideal_Mod1RefIdeal [hMod1Ideal : Cert.Mod1Ideal.Facts] [hMod1RefIdeal : Cert.Mod1RefIdeal.Facts] : Prop :=
  ∀ (m : (ℓ : Loc Cert.Mod1Ideal.nD Cert.Mod1Ideal.τ Cert.Mod1Ideal.sig) → Buf (Elt Ideal) ℓ) (g : Dev Cert.Mod1Ideal.nD → PrngReg)
    (m' : (ℓ : Loc Cert.Mod1RefIdeal.nD Cert.Mod1RefIdeal.τ Cert.Mod1RefIdeal.sig) → Buf (Elt Ideal) ℓ) (g' : Dev Cert.Mod1RefIdeal.nD → PrngReg), Pre_Mod1Ideal m →
    (∀ c : Dev Cert.Mod1Ideal.nD,
      m' ((c.tc : Thread Cert.Mod1RefIdeal.nD Cert.Mod1RefIdeal.τ).loc Cert.Mod1RefIdeal.main_arg0) = m ((c.tc : Thread Cert.Mod1Ideal.nD Cert.Mod1Ideal.τ).loc Cert.Mod1Ideal.main_arg0)
      ∧ m' ((c.tc : Thread Cert.Mod1RefIdeal.nD Cert.Mod1RefIdeal.τ).loc Cert.Mod1RefIdeal.main_arg1) = m ((c.tc : Thread Cert.Mod1Ideal.nD Cert.Mod1Ideal.τ).loc Cert.Mod1Ideal.main_arg1)
      ∧ m' ((c.tc : Thread Cert.Mod1RefIdeal.nD Cert.Mod1RefIdeal.τ).loc Cert.Mod1RefIdeal.main_arg2) = m ((c.tc : Thread Cert.Mod1Ideal.nD Cert.Mod1Ideal.τ).loc Cert.Mod1Ideal.main_arg2)) →
    ∃ (v0 : (c : Dev Cert.Mod1Ideal.nD) → Buf (Elt Ideal) ((c.tc : Thread Cert.Mod1Ideal.nD Cert.Mod1Ideal.τ).loc Cert.Mod1Ideal.main_v0)),
      θ_run (Cert.Mod1Ideal.defs (F := Ideal)) (onTc (τ := Cert.Mod1Ideal.τ) (Cert.Mod1Ideal.main (F := Ideal))) ⟨m, fun _ => 0, g⟩ (fun r => ∀ c : Dev Cert.Mod1Ideal.nD,
          r.2.mem ((c.tc : Thread Cert.Mod1Ideal.nD Cert.Mod1Ideal.τ).loc Cert.Mod1Ideal.main_v0) = v0 c
          ∧ r.2.mem ((c.tc : Thread Cert.Mod1Ideal.nD Cert.Mod1Ideal.τ).loc Cert.Mod1Ideal.main_arg0) = m ((c.tc : Thread Cert.Mod1Ideal.nD Cert.Mod1Ideal.τ).loc Cert.Mod1Ideal.main_arg0)
          ∧ r.2.mem ((c.tc : Thread Cert.Mod1Ideal.nD Cert.Mod1Ideal.τ).loc Cert.Mod1Ideal.main_arg1) = m ((c.tc : Thread Cert.Mod1Ideal.nD Cert.Mod1Ideal.τ).loc Cert.Mod1Ideal.main_arg1)
          ∧ r.2.mem ((c.tc : Thread Cert.Mod1Ideal.nD Cert.Mod1Ideal.τ).loc Cert.Mod1Ideal.main_arg2) = m ((c.tc : Thread Cert.Mod1Ideal.nD Cert.Mod1Ideal.τ).loc Cert.Mod1Ideal.main_arg2))
      ∧ θ_run (Cert.Mod1RefIdeal.defs (F := Ideal)) (onTc (τ := Cert.Mod1RefIdeal.τ) (Cert.Mod1RefIdeal.main (F := Ideal))) ⟨m', fun _ => 0, g'⟩ (fun r => ∀ c : Dev Cert.Mod1RefIdeal.nD,
          r.2.mem ((c.tc : Thread Cert.Mod1RefIdeal.nD Cert.Mod1RefIdeal.τ).loc Cert.Mod1RefIdeal.main_v6) = v0 c
          ∧ r.2.mem ((c.tc : Thread Cert.Mod1RefIdeal.nD Cert.Mod1RefIdeal.τ).loc Cert.Mod1RefIdeal.main_arg0) = m' ((c.tc : Thread Cert.Mod1RefIdeal.nD Cert.Mod1RefIdeal.τ).loc Cert.Mod1RefIdeal.main_arg0)
          ∧ r.2.mem ((c.tc : Thread Cert.Mod1RefIdeal.nD Cert.Mod1RefIdeal.τ).loc Cert.Mod1RefIdeal.main_arg1) = m' ((c.tc : Thread Cert.Mod1RefIdeal.nD Cert.Mod1RefIdeal.τ).loc Cert.Mod1RefIdeal.main_arg1)
          ∧ r.2.mem ((c.tc : Thread Cert.Mod1RefIdeal.nD Cert.Mod1RefIdeal.τ).loc Cert.Mod1RefIdeal.main_arg2) = m' ((c.tc : Thread Cert.Mod1RefIdeal.nD Cert.Mod1RefIdeal.τ).loc Cert.Mod1RefIdeal.main_arg2))

def preserves_FFIn_FFInIdeal : Prop :=
  True

def algebraic_FFInIdeal_FFInRefIdeal [hFFInIdeal : Cert.FFInIdeal.Facts] [hFFInRefIdeal : Cert.FFInRefIdeal.Facts] : Prop :=
  ∀ (m : (ℓ : Loc Cert.FFInIdeal.nD Cert.FFInIdeal.τ Cert.FFInIdeal.sig) → Buf (Elt Ideal) ℓ) (g : Dev Cert.FFInIdeal.nD → PrngReg)
    (m' : (ℓ : Loc Cert.FFInRefIdeal.nD Cert.FFInRefIdeal.τ Cert.FFInRefIdeal.sig) → Buf (Elt Ideal) ℓ) (g' : Dev Cert.FFInRefIdeal.nD → PrngReg), Pre_FFInIdeal m →
    (∀ c : Dev Cert.FFInIdeal.nD,
      m' ((c.tc : Thread Cert.FFInRefIdeal.nD Cert.FFInRefIdeal.τ).loc Cert.FFInRefIdeal.main_arg0) = m ((c.tc : Thread Cert.FFInIdeal.nD Cert.FFInIdeal.τ).loc Cert.FFInIdeal.main_arg0)
      ∧ m' ((c.tc : Thread Cert.FFInRefIdeal.nD Cert.FFInRefIdeal.τ).loc Cert.FFInRefIdeal.main_arg1) = m ((c.tc : Thread Cert.FFInIdeal.nD Cert.FFInIdeal.τ).loc Cert.FFInIdeal.main_arg1)) →
    ∃ (v0 : (c : Dev Cert.FFInIdeal.nD) → Buf (Elt Ideal) ((c.tc : Thread Cert.FFInIdeal.nD Cert.FFInIdeal.τ).loc Cert.FFInIdeal.main_v2_0)) (v1 : (c : Dev Cert.FFInIdeal.nD) → Buf (Elt Ideal) ((c.tc : Thread Cert.FFInIdeal.nD Cert.FFInIdeal.τ).loc Cert.FFInIdeal.main_v2_1)),
      θ_run (Cert.FFInIdeal.defs (F := Ideal)) (onTc (τ := Cert.FFInIdeal.τ) (Cert.FFInIdeal.main (F := Ideal))) ⟨m, fun _ => 0, g⟩ (fun r => ∀ c : Dev Cert.FFInIdeal.nD,
          r.2.mem ((c.tc : Thread Cert.FFInIdeal.nD Cert.FFInIdeal.τ).loc Cert.FFInIdeal.main_v2_0) = v0 c
          ∧ r.2.mem ((c.tc : Thread Cert.FFInIdeal.nD Cert.FFInIdeal.τ).loc Cert.FFInIdeal.main_v2_1) = v1 c
          ∧ r.2.mem ((c.tc : Thread Cert.FFInIdeal.nD Cert.FFInIdeal.τ).loc Cert.FFInIdeal.main_arg0) = m ((c.tc : Thread Cert.FFInIdeal.nD Cert.FFInIdeal.τ).loc Cert.FFInIdeal.main_arg0)
          ∧ r.2.mem ((c.tc : Thread Cert.FFInIdeal.nD Cert.FFInIdeal.τ).loc Cert.FFInIdeal.main_arg1) = m ((c.tc : Thread Cert.FFInIdeal.nD Cert.FFInIdeal.τ).loc Cert.FFInIdeal.main_arg1))
      ∧ θ_run (Cert.FFInRefIdeal.defs (F := Ideal)) (onTc (τ := Cert.FFInRefIdeal.τ) (Cert.FFInRefIdeal.main (F := Ideal))) ⟨m', fun _ => 0, g'⟩ (fun r => ∀ c : Dev Cert.FFInRefIdeal.nD,
          r.2.mem ((c.tc : Thread Cert.FFInRefIdeal.nD Cert.FFInRefIdeal.τ).loc Cert.FFInRefIdeal.main_v3) = v0 c
          ∧ r.2.mem ((c.tc : Thread Cert.FFInRefIdeal.nD Cert.FFInRefIdeal.τ).loc Cert.FFInRefIdeal.main_v5) = v1 c
          ∧ r.2.mem ((c.tc : Thread Cert.FFInRefIdeal.nD Cert.FFInRefIdeal.τ).loc Cert.FFInRefIdeal.main_arg0) = m' ((c.tc : Thread Cert.FFInRefIdeal.nD Cert.FFInRefIdeal.τ).loc Cert.FFInRefIdeal.main_arg0)
          ∧ r.2.mem ((c.tc : Thread Cert.FFInRefIdeal.nD Cert.FFInRefIdeal.τ).loc Cert.FFInRefIdeal.main_arg1) = m' ((c.tc : Thread Cert.FFInRefIdeal.nD Cert.FFInRefIdeal.τ).loc Cert.FFInRefIdeal.main_arg1))

def preserves_ModPart_ModPartIdeal : Prop :=
  True

def algebraic_ModPartIdeal_ModPartRefIdeal [hModPartIdeal : Cert.ModPartIdeal.Facts] [hModPartRefIdeal : Cert.ModPartRefIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartRefIdeal.nD Cert.ModPartRefIdeal.τ Cert.ModPartRefIdeal.sig) → Buf (Elt Ideal) ℓ) (g' : Dev Cert.ModPartRefIdeal.nD → PrngReg), Pre_ModPartIdeal m →
    (∀ c : Dev Cert.ModPartIdeal.nD,
      m' ((c.tc : Thread Cert.ModPartRefIdeal.nD Cert.ModPartRefIdeal.τ).loc Cert.ModPartRefIdeal.main_arg0) = m ((c.tc : Thread Cert.ModPartIdeal.nD Cert.ModPartIdeal.τ).loc Cert.ModPartIdeal.main_arg0)
      ∧ m' ((c.tc : Thread Cert.ModPartRefIdeal.nD Cert.ModPartRefIdeal.τ).loc Cert.ModPartRefIdeal.main_arg1) = m ((c.tc : Thread Cert.ModPartIdeal.nD Cert.ModPartIdeal.τ).loc Cert.ModPartIdeal.main_arg1)
      ∧ m' ((c.tc : Thread Cert.ModPartRefIdeal.nD Cert.ModPartRefIdeal.τ).loc Cert.ModPartRefIdeal.main_arg2) = m ((c.tc : Thread Cert.ModPartIdeal.nD Cert.ModPartIdeal.τ).loc Cert.ModPartIdeal.main_arg2)) →
    ∃ (v0 : (c : Dev Cert.ModPartIdeal.nD) → Buf (Elt Ideal) ((c.tc : Thread Cert.ModPartIdeal.nD Cert.ModPartIdeal.τ).loc Cert.ModPartIdeal.main_v0)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0) = v0 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
          ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ θ_run (Cert.ModPartRefIdeal.defs (F := Ideal)) (onTc (τ := Cert.ModPartRefIdeal.τ) (Cert.ModPartRefIdeal.main (F := Ideal))) ⟨m', fun _ => 0, g'⟩ (fun r => ∀ c : Dev Cert.ModPartRefIdeal.nD,
          r.2.mem ((c.tc : Thread Cert.ModPartRefIdeal.nD Cert.ModPartRefIdeal.τ).loc Cert.ModPartRefIdeal.main_v3) = v0 c
          ∧ r.2.mem ((c.tc : Thread Cert.ModPartRefIdeal.nD Cert.ModPartRefIdeal.τ).loc Cert.ModPartRefIdeal.main_arg0) = m' ((c.tc : Thread Cert.ModPartRefIdeal.nD Cert.ModPartRefIdeal.τ).loc Cert.ModPartRefIdeal.main_arg0)
          ∧ r.2.mem ((c.tc : Thread Cert.ModPartRefIdeal.nD Cert.ModPartRefIdeal.τ).loc Cert.ModPartRefIdeal.main_arg1) = m' ((c.tc : Thread Cert.ModPartRefIdeal.nD Cert.ModPartRefIdeal.τ).loc Cert.ModPartRefIdeal.main_arg1)
          ∧ r.2.mem ((c.tc : Thread Cert.ModPartRefIdeal.nD Cert.ModPartRefIdeal.τ).loc Cert.ModPartRefIdeal.main_arg2) = m' ((c.tc : Thread Cert.ModPartRefIdeal.nD Cert.ModPartRefIdeal.τ).loc Cert.ModPartRefIdeal.main_arg2))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)) (v3 : (c : Dev Cert.OptIdeal.nD) → Buf (Elt Ideal) ((c.tc : Thread Cert.OptIdeal.nD Cert.OptIdeal.τ).loc Cert.OptIdeal.main_v0_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_v0_3) = v3 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v0) = v0 c
          ∧ r.2.mem ((c.tc : Thread Cert.OptRefIdeal.nD Cert.OptRefIdeal.τ).loc Cert.OptRefIdeal.main_v24) = v1 c
          ∧ r.2.mem ((c.tc : Thread Cert.OptRefIdeal.nD Cert.OptRefIdeal.τ).loc Cert.OptRefIdeal.main_v5) = v2 c
          ∧ r.2.mem ((c.tc : Thread Cert.OptRefIdeal.nD Cert.OptRefIdeal.τ).loc Cert.OptRefIdeal.main_v11) = v3 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3))

def preserves_OptConv_OptConvIdeal : Prop :=
  True

def algebraic_OptConvIdeal_OptConvRefIdeal [hOptConvIdeal : Cert.OptConvIdeal.Facts] [hOptConvRefIdeal : Cert.OptConvRefIdeal.Facts] : Prop :=
  ∀ (m : (ℓ : Loc Cert.OptConvIdeal.nD Cert.OptConvIdeal.τ Cert.OptConvIdeal.sig) → Buf (Elt Ideal) ℓ) (g : Dev Cert.OptConvIdeal.nD → PrngReg)
    (m' : (ℓ : Loc Cert.OptConvRefIdeal.nD Cert.OptConvRefIdeal.τ Cert.OptConvRefIdeal.sig) → Buf (Elt Ideal) ℓ) (g' : Dev Cert.OptConvRefIdeal.nD → PrngReg), Pre_OptConvIdeal m →
    (∀ c : Dev Cert.OptConvIdeal.nD,
      m' ((c.tc : Thread Cert.OptConvRefIdeal.nD Cert.OptConvRefIdeal.τ).loc Cert.OptConvRefIdeal.main_arg0) = m ((c.tc : Thread Cert.OptConvIdeal.nD Cert.OptConvIdeal.τ).loc Cert.OptConvIdeal.main_arg0)
      ∧ m' ((c.tc : Thread Cert.OptConvRefIdeal.nD Cert.OptConvRefIdeal.τ).loc Cert.OptConvRefIdeal.main_arg1) = m ((c.tc : Thread Cert.OptConvIdeal.nD Cert.OptConvIdeal.τ).loc Cert.OptConvIdeal.main_arg1)
      ∧ m' ((c.tc : Thread Cert.OptConvRefIdeal.nD Cert.OptConvRefIdeal.τ).loc Cert.OptConvRefIdeal.main_arg2) = m ((c.tc : Thread Cert.OptConvIdeal.nD Cert.OptConvIdeal.τ).loc Cert.OptConvIdeal.main_arg2)
      ∧ m' ((c.tc : Thread Cert.OptConvRefIdeal.nD Cert.OptConvRefIdeal.τ).loc Cert.OptConvRefIdeal.main_arg3) = m ((c.tc : Thread Cert.OptConvIdeal.nD Cert.OptConvIdeal.τ).loc Cert.OptConvIdeal.main_arg3)) →
    ∃ (v0 : (c : Dev Cert.OptConvIdeal.nD) → Buf (Elt Ideal) ((c.tc : Thread Cert.OptConvIdeal.nD Cert.OptConvIdeal.τ).loc Cert.OptConvIdeal.main_v0_0)) (v1 : (c : Dev Cert.OptConvIdeal.nD) → Buf (Elt Ideal) ((c.tc : Thread Cert.OptConvIdeal.nD Cert.OptConvIdeal.τ).loc Cert.OptConvIdeal.main_v0_1)) (v2 : (c : Dev Cert.OptConvIdeal.nD) → Buf (Elt Ideal) ((c.tc : Thread Cert.OptConvIdeal.nD Cert.OptConvIdeal.τ).loc Cert.OptConvIdeal.main_v0_2)) (v3 : (c : Dev Cert.OptConvIdeal.nD) → Buf (Elt Ideal) ((c.tc : Thread Cert.OptConvIdeal.nD Cert.OptConvIdeal.τ).loc Cert.OptConvIdeal.main_v0_3)),
      θ_run (Cert.OptConvIdeal.defs (F := Ideal)) (onTc (τ := Cert.OptConvIdeal.τ) (Cert.OptConvIdeal.main (F := Ideal))) ⟨m, fun _ => 0, g⟩ (fun r => ∀ c : Dev Cert.OptConvIdeal.nD,
          r.2.mem ((c.tc : Thread Cert.OptConvIdeal.nD Cert.OptConvIdeal.τ).loc Cert.OptConvIdeal.main_v0_0) = v0 c
          ∧ r.2.mem ((c.tc : Thread Cert.OptConvIdeal.nD Cert.OptConvIdeal.τ).loc Cert.OptConvIdeal.main_v0_1) = v1 c
          ∧ r.2.mem ((c.tc : Thread Cert.OptConvIdeal.nD Cert.OptConvIdeal.τ).loc Cert.OptConvIdeal.main_v0_2) = v2 c
          ∧ r.2.mem ((c.tc : Thread Cert.OptConvIdeal.nD Cert.OptConvIdeal.τ).loc Cert.OptConvIdeal.main_v0_3) = v3 c
          ∧ r.2.mem ((c.tc : Thread Cert.OptConvIdeal.nD Cert.OptConvIdeal.τ).loc Cert.OptConvIdeal.main_arg0) = m ((c.tc : Thread Cert.OptConvIdeal.nD Cert.OptConvIdeal.τ).loc Cert.OptConvIdeal.main_arg0)
          ∧ r.2.mem ((c.tc : Thread Cert.OptConvIdeal.nD Cert.OptConvIdeal.τ).loc Cert.OptConvIdeal.main_arg1) = m ((c.tc : Thread Cert.OptConvIdeal.nD Cert.OptConvIdeal.τ).loc Cert.OptConvIdeal.main_arg1)
          ∧ r.2.mem ((c.tc : Thread Cert.OptConvIdeal.nD Cert.OptConvIdeal.τ).loc Cert.OptConvIdeal.main_arg2) = m ((c.tc : Thread Cert.OptConvIdeal.nD Cert.OptConvIdeal.τ).loc Cert.OptConvIdeal.main_arg2)
          ∧ r.2.mem ((c.tc : Thread Cert.OptConvIdeal.nD Cert.OptConvIdeal.τ).loc Cert.OptConvIdeal.main_arg3) = m ((c.tc : Thread Cert.OptConvIdeal.nD Cert.OptConvIdeal.τ).loc Cert.OptConvIdeal.main_arg3))
      ∧ θ_run (Cert.OptConvRefIdeal.defs (F := Ideal)) (onTc (τ := Cert.OptConvRefIdeal.τ) (Cert.OptConvRefIdeal.main (F := Ideal))) ⟨m', fun _ => 0, g'⟩ (fun r => ∀ c : Dev Cert.OptConvRefIdeal.nD,
          r.2.mem ((c.tc : Thread Cert.OptConvRefIdeal.nD Cert.OptConvRefIdeal.τ).loc Cert.OptConvRefIdeal.main_v0) = v0 c
          ∧ r.2.mem ((c.tc : Thread Cert.OptConvRefIdeal.nD Cert.OptConvRefIdeal.τ).loc Cert.OptConvRefIdeal.main_v24) = v1 c
          ∧ r.2.mem ((c.tc : Thread Cert.OptConvRefIdeal.nD Cert.OptConvRefIdeal.τ).loc Cert.OptConvRefIdeal.main_v5) = v2 c
          ∧ r.2.mem ((c.tc : Thread Cert.OptConvRefIdeal.nD Cert.OptConvRefIdeal.τ).loc Cert.OptConvRefIdeal.main_v11) = v3 c
          ∧ r.2.mem ((c.tc : Thread Cert.OptConvRefIdeal.nD Cert.OptConvRefIdeal.τ).loc Cert.OptConvRefIdeal.main_arg0) = m' ((c.tc : Thread Cert.OptConvRefIdeal.nD Cert.OptConvRefIdeal.τ).loc Cert.OptConvRefIdeal.main_arg0)
          ∧ r.2.mem ((c.tc : Thread Cert.OptConvRefIdeal.nD Cert.OptConvRefIdeal.τ).loc Cert.OptConvRefIdeal.main_arg1) = m' ((c.tc : Thread Cert.OptConvRefIdeal.nD Cert.OptConvRefIdeal.τ).loc Cert.OptConvRefIdeal.main_arg1)
          ∧ r.2.mem ((c.tc : Thread Cert.OptConvRefIdeal.nD Cert.OptConvRefIdeal.τ).loc Cert.OptConvRefIdeal.main_arg2) = m' ((c.tc : Thread Cert.OptConvRefIdeal.nD Cert.OptConvRefIdeal.τ).loc Cert.OptConvRefIdeal.main_arg2)
          ∧ r.2.mem ((c.tc : Thread Cert.OptConvRefIdeal.nD Cert.OptConvRefIdeal.τ).loc Cert.OptConvRefIdeal.main_arg3) = m' ((c.tc : Thread Cert.OptConvRefIdeal.nD Cert.OptConvRefIdeal.τ).loc Cert.OptConvRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DyMix_DyMixIdeal : Prop :=
  True

def algebraic_DyMixIdeal_DyMixRefIdeal [hDyMixIdeal : Cert.DyMixIdeal.Facts] [hDyMixRefIdeal : Cert.DyMixRefIdeal.Facts] : Prop :=
  ∀ (m : (ℓ : Loc Cert.DyMixIdeal.nD Cert.DyMixIdeal.τ Cert.DyMixIdeal.sig) → Buf (Elt Ideal) ℓ) (g : Dev Cert.DyMixIdeal.nD → PrngReg)
    (m' : (ℓ : Loc Cert.DyMixRefIdeal.nD Cert.DyMixRefIdeal.τ Cert.DyMixRefIdeal.sig) → Buf (Elt Ideal) ℓ) (g' : Dev Cert.DyMixRefIdeal.nD → PrngReg), Pre_DyMixIdeal m →
    (∀ c : Dev Cert.DyMixIdeal.nD,
      m' ((c.tc : Thread Cert.DyMixRefIdeal.nD Cert.DyMixRefIdeal.τ).loc Cert.DyMixRefIdeal.main_arg0) = m ((c.tc : Thread Cert.DyMixIdeal.nD Cert.DyMixIdeal.τ).loc Cert.DyMixIdeal.main_arg0)
      ∧ m' ((c.tc : Thread Cert.DyMixRefIdeal.nD Cert.DyMixRefIdeal.τ).loc Cert.DyMixRefIdeal.main_arg1) = m ((c.tc : Thread Cert.DyMixIdeal.nD Cert.DyMixIdeal.τ).loc Cert.DyMixIdeal.main_arg1)) →
    ∃ (v0 : (c : Dev Cert.DyMixIdeal.nD) → Buf (Elt Ideal) ((c.tc : Thread Cert.DyMixIdeal.nD Cert.DyMixIdeal.τ).loc Cert.DyMixIdeal.main_v2)),
      θ_run (Cert.DyMixIdeal.defs (F := Ideal)) (onTc (τ := Cert.DyMixIdeal.τ) (Cert.DyMixIdeal.main (F := Ideal))) ⟨m, fun _ => 0, g⟩ (fun r => ∀ c : Dev Cert.DyMixIdeal.nD,
          r.2.mem ((c.tc : Thread Cert.DyMixIdeal.nD Cert.DyMixIdeal.τ).loc Cert.DyMixIdeal.main_v2) = v0 c
          ∧ r.2.mem ((c.tc : Thread Cert.DyMixIdeal.nD Cert.DyMixIdeal.τ).loc Cert.DyMixIdeal.main_arg0) = m ((c.tc : Thread Cert.DyMixIdeal.nD Cert.DyMixIdeal.τ).loc Cert.DyMixIdeal.main_arg0)
          ∧ r.2.mem ((c.tc : Thread Cert.DyMixIdeal.nD Cert.DyMixIdeal.τ).loc Cert.DyMixIdeal.main_arg1) = m ((c.tc : Thread Cert.DyMixIdeal.nD Cert.DyMixIdeal.τ).loc Cert.DyMixIdeal.main_arg1))
      ∧ θ_run (Cert.DyMixRefIdeal.defs (F := Ideal)) (onTc (τ := Cert.DyMixRefIdeal.τ) (Cert.DyMixRefIdeal.main (F := Ideal))) ⟨m', fun _ => 0, g'⟩ (fun r => ∀ c : Dev Cert.DyMixRefIdeal.nD,
          r.2.mem ((c.tc : Thread Cert.DyMixRefIdeal.nD Cert.DyMixRefIdeal.τ).loc Cert.DyMixRefIdeal.main_v2) = v0 c
          ∧ r.2.mem ((c.tc : Thread Cert.DyMixRefIdeal.nD Cert.DyMixRefIdeal.τ).loc Cert.DyMixRefIdeal.main_arg0) = m' ((c.tc : Thread Cert.DyMixRefIdeal.nD Cert.DyMixRefIdeal.τ).loc Cert.DyMixRefIdeal.main_arg0)
          ∧ r.2.mem ((c.tc : Thread Cert.DyMixRefIdeal.nD Cert.DyMixRefIdeal.τ).loc Cert.DyMixRefIdeal.main_arg1) = m' ((c.tc : Thread Cert.DyMixRefIdeal.nD Cert.DyMixRefIdeal.τ).loc Cert.DyMixRefIdeal.main_arg1))

def preserves_DwFo_DwFoIdeal : Prop :=
  True

def algebraic_DwFoIdeal_DwFoRefIdeal [hDwFoIdeal : Cert.DwFoIdeal.Facts] [hDwFoRefIdeal : Cert.DwFoRefIdeal.Facts] : Prop :=
  ∀ (m : (ℓ : Loc Cert.DwFoIdeal.nD Cert.DwFoIdeal.τ Cert.DwFoIdeal.sig) → Buf (Elt Ideal) ℓ) (g : Dev Cert.DwFoIdeal.nD → PrngReg)
    (m' : (ℓ : Loc Cert.DwFoRefIdeal.nD Cert.DwFoRefIdeal.τ Cert.DwFoRefIdeal.sig) → Buf (Elt Ideal) ℓ) (g' : Dev Cert.DwFoRefIdeal.nD → PrngReg), Pre_DwFoIdeal m →
    (∀ c : Dev Cert.DwFoIdeal.nD,
      m' ((c.tc : Thread Cert.DwFoRefIdeal.nD Cert.DwFoRefIdeal.τ).loc Cert.DwFoRefIdeal.main_arg0) = m ((c.tc : Thread Cert.DwFoIdeal.nD Cert.DwFoIdeal.τ).loc Cert.DwFoIdeal.main_arg0)
      ∧ m' ((c.tc : Thread Cert.DwFoRefIdeal.nD Cert.DwFoRefIdeal.τ).loc Cert.DwFoRefIdeal.main_arg1) = m ((c.tc : Thread Cert.DwFoIdeal.nD Cert.DwFoIdeal.τ).loc Cert.DwFoIdeal.main_arg1)) →
    ∃ (v0 : (c : Dev Cert.DwFoIdeal.nD) → Buf (Elt Ideal) ((c.tc : Thread Cert.DwFoIdeal.nD Cert.DwFoIdeal.τ).loc Cert.DwFoIdeal.main_v3)),
      θ_run (Cert.DwFoIdeal.defs (F := Ideal)) (onTc (τ := Cert.DwFoIdeal.τ) (Cert.DwFoIdeal.main (F := Ideal))) ⟨m, fun _ => 0, g⟩ (fun r => ∀ c : Dev Cert.DwFoIdeal.nD,
          r.2.mem ((c.tc : Thread Cert.DwFoIdeal.nD Cert.DwFoIdeal.τ).loc Cert.DwFoIdeal.main_v3) = v0 c
          ∧ r.2.mem ((c.tc : Thread Cert.DwFoIdeal.nD Cert.DwFoIdeal.τ).loc Cert.DwFoIdeal.main_arg0) = m ((c.tc : Thread Cert.DwFoIdeal.nD Cert.DwFoIdeal.τ).loc Cert.DwFoIdeal.main_arg0)
          ∧ r.2.mem ((c.tc : Thread Cert.DwFoIdeal.nD Cert.DwFoIdeal.τ).loc Cert.DwFoIdeal.main_arg1) = m ((c.tc : Thread Cert.DwFoIdeal.nD Cert.DwFoIdeal.τ).loc Cert.DwFoIdeal.main_arg1))
      ∧ θ_run (Cert.DwFoRefIdeal.defs (F := Ideal)) (onTc (τ := Cert.DwFoRefIdeal.τ) (Cert.DwFoRefIdeal.main (F := Ideal))) ⟨m', fun _ => 0, g'⟩ (fun r => ∀ c : Dev Cert.DwFoRefIdeal.nD,
          r.2.mem ((c.tc : Thread Cert.DwFoRefIdeal.nD Cert.DwFoRefIdeal.τ).loc Cert.DwFoRefIdeal.main_v5) = v0 c
          ∧ r.2.mem ((c.tc : Thread Cert.DwFoRefIdeal.nD Cert.DwFoRefIdeal.τ).loc Cert.DwFoRefIdeal.main_arg0) = m' ((c.tc : Thread Cert.DwFoRefIdeal.nD Cert.DwFoRefIdeal.τ).loc Cert.DwFoRefIdeal.main_arg0)
          ∧ r.2.mem ((c.tc : Thread Cert.DwFoRefIdeal.nD Cert.DwFoRefIdeal.τ).loc Cert.DwFoRefIdeal.main_arg1) = m' ((c.tc : Thread Cert.DwFoRefIdeal.nD Cert.DwFoRefIdeal.τ).loc Cert.DwFoRefIdeal.main_arg1))

def preserves_DwFi_DwFiIdeal : Prop :=
  True

def algebraic_DwFiIdeal_DwFiRefIdeal [hDwFiIdeal : Cert.DwFiIdeal.Facts] [hDwFiRefIdeal : Cert.DwFiRefIdeal.Facts] : Prop :=
  ∀ (m : (ℓ : Loc Cert.DwFiIdeal.nD Cert.DwFiIdeal.τ Cert.DwFiIdeal.sig) → Buf (Elt Ideal) ℓ) (g : Dev Cert.DwFiIdeal.nD → PrngReg)
    (m' : (ℓ : Loc Cert.DwFiRefIdeal.nD Cert.DwFiRefIdeal.τ Cert.DwFiRefIdeal.sig) → Buf (Elt Ideal) ℓ) (g' : Dev Cert.DwFiRefIdeal.nD → PrngReg), Pre_DwFiIdeal m →
    (∀ c : Dev Cert.DwFiIdeal.nD,
      m' ((c.tc : Thread Cert.DwFiRefIdeal.nD Cert.DwFiRefIdeal.τ).loc Cert.DwFiRefIdeal.main_arg0) = m ((c.tc : Thread Cert.DwFiIdeal.nD Cert.DwFiIdeal.τ).loc Cert.DwFiIdeal.main_arg0)
      ∧ m' ((c.tc : Thread Cert.DwFiRefIdeal.nD Cert.DwFiRefIdeal.τ).loc Cert.DwFiRefIdeal.main_arg1) = m ((c.tc : Thread Cert.DwFiIdeal.nD Cert.DwFiIdeal.τ).loc Cert.DwFiIdeal.main_arg1)) →
    ∃ (v0 : (c : Dev Cert.DwFiIdeal.nD) → Buf (Elt Ideal) ((c.tc : Thread Cert.DwFiIdeal.nD Cert.DwFiIdeal.τ).loc Cert.DwFiIdeal.main_v3)),
      θ_run (Cert.DwFiIdeal.defs (F := Ideal)) (onTc (τ := Cert.DwFiIdeal.τ) (Cert.DwFiIdeal.main (F := Ideal))) ⟨m, fun _ => 0, g⟩ (fun r => ∀ c : Dev Cert.DwFiIdeal.nD,
          r.2.mem ((c.tc : Thread Cert.DwFiIdeal.nD Cert.DwFiIdeal.τ).loc Cert.DwFiIdeal.main_v3) = v0 c
          ∧ r.2.mem ((c.tc : Thread Cert.DwFiIdeal.nD Cert.DwFiIdeal.τ).loc Cert.DwFiIdeal.main_arg0) = m ((c.tc : Thread Cert.DwFiIdeal.nD Cert.DwFiIdeal.τ).loc Cert.DwFiIdeal.main_arg0)
          ∧ r.2.mem ((c.tc : Thread Cert.DwFiIdeal.nD Cert.DwFiIdeal.τ).loc Cert.DwFiIdeal.main_arg1) = m ((c.tc : Thread Cert.DwFiIdeal.nD Cert.DwFiIdeal.τ).loc Cert.DwFiIdeal.main_arg1))
      ∧ θ_run (Cert.DwFiRefIdeal.defs (F := Ideal)) (onTc (τ := Cert.DwFiRefIdeal.τ) (Cert.DwFiRefIdeal.main (F := Ideal))) ⟨m', fun _ => 0, g'⟩ (fun r => ∀ c : Dev Cert.DwFiRefIdeal.nD,
          r.2.mem ((c.tc : Thread Cert.DwFiRefIdeal.nD Cert.DwFiRefIdeal.τ).loc Cert.DwFiRefIdeal.main_v6) = v0 c
          ∧ r.2.mem ((c.tc : Thread Cert.DwFiRefIdeal.nD Cert.DwFiRefIdeal.τ).loc Cert.DwFiRefIdeal.main_arg0) = m' ((c.tc : Thread Cert.DwFiRefIdeal.nD Cert.DwFiRefIdeal.τ).loc Cert.DwFiRefIdeal.main_arg0)
          ∧ r.2.mem ((c.tc : Thread Cert.DwFiRefIdeal.nD Cert.DwFiRefIdeal.τ).loc Cert.DwFiRefIdeal.main_arg1) = m' ((c.tc : Thread Cert.DwFiRefIdeal.nD Cert.DwFiRefIdeal.τ).loc Cert.DwFiRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def Claim : Prop :=
  ∃ (hAda : Cert.Ada.Facts) (hAdaIdeal : Cert.AdaIdeal.Facts) (hAdaRefIdeal : Cert.AdaRefIdeal.Facts) (hANorm : Cert.ANorm.Facts) (hANormIdeal : Cert.ANormIdeal.Facts) (hANormRefIdeal : Cert.ANormRefIdeal.Facts) (hDAct : Cert.DAct.Facts) (hDActIdeal : Cert.DActIdeal.Facts) (hDActRefIdeal : Cert.DActRefIdeal.Facts) (hHead : Cert.Head.Facts) (hHeadIdeal : Cert.HeadIdeal.Facts) (hHeadRefIdeal : Cert.HeadRefIdeal.Facts) (hDh2 : Cert.Dh2.Facts) (hDh2Ideal : Cert.Dh2Ideal.Facts) (hDh2RefIdeal : Cert.Dh2RefIdeal.Facts) (hDh1 : Cert.Dh1.Facts) (hDh1Ideal : Cert.Dh1Ideal.Facts) (hDh1RefIdeal : Cert.Dh1RefIdeal.Facts) (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hAttnF : Cert.AttnF.Facts) (hAttnFIdeal : Cert.AttnFIdeal.Facts) (hAttnFRefIdeal : Cert.AttnFRefIdeal.Facts) (hMod1 : Cert.Mod1.Facts) (hMod1Ideal : Cert.Mod1Ideal.Facts) (hMod1RefIdeal : Cert.Mod1RefIdeal.Facts) (hFFIn : Cert.FFIn.Facts) (hFFInIdeal : Cert.FFInIdeal.Facts) (hFFInRefIdeal : Cert.FFInRefIdeal.Facts) (hModPart : Cert.ModPart.Facts) (hModPartIdeal : Cert.ModPartIdeal.Facts) (hModPartRefIdeal : Cert.ModPartRefIdeal.Facts) (hOpt : Cert.Opt.Facts) (hOptIdeal : Cert.OptIdeal.Facts) (hOptRefIdeal : Cert.OptRefIdeal.Facts) (hOptConv : Cert.OptConv.Facts) (hOptConvIdeal : Cert.OptConvIdeal.Facts) (hOptConvRefIdeal : Cert.OptConvRefIdeal.Facts) (hProj : Cert.Proj.Facts) (hProjIdeal : Cert.ProjIdeal.Facts) (hProjRefIdeal : Cert.ProjRefIdeal.Facts) (hDyMix : Cert.DyMix.Facts) (hDyMixIdeal : Cert.DyMixIdeal.Facts) (hDyMixRefIdeal : Cert.DyMixRefIdeal.Facts) (hDwFo : Cert.DwFo.Facts) (hDwFoIdeal : Cert.DwFoIdeal.Facts) (hDwFoRefIdeal : Cert.DwFoRefIdeal.Facts) (hDwFi : Cert.DwFi.Facts) (hDwFiIdeal : Cert.DwFiIdeal.Facts) (hDwFiRefIdeal : Cert.DwFiRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hPre_anorm_finite : Cert.Pre_anorm_finite.Facts) (hPre_head_finite : Cert.Pre_head_finite.Facts) (hPre_dh2_finite : Cert.Pre_dh2_finite.Facts) (hPre_attn_finite : Cert.Pre_attn_finite.Facts) (hPre_gate_finite : Cert.Pre_gate_finite.Facts) (hPre_attnf_finite : Cert.Pre_attnf_finite.Facts),
    quiescent_Ada (hAda := hAda)
    ∧ quiescent_AdaIdeal (hAdaIdeal := hAdaIdeal)
    ∧ quiescent_AdaRefIdeal (hAdaRefIdeal := hAdaRefIdeal)
    ∧ quiescent_ANorm (hANorm := hANorm)
    ∧ quiescent_ANormIdeal (hANormIdeal := hANormIdeal)
    ∧ quiescent_ANormIdeal_pre_anorm_finite (hANormIdeal := hANormIdeal) (hPre_anorm_finite := hPre_anorm_finite)
    ∧ quiescent_ANormRefIdeal (hANormRefIdeal := hANormRefIdeal)
    ∧ quiescent_ANormRefIdeal_pre_anorm_finite (hANormRefIdeal := hANormRefIdeal) (hPre_anorm_finite := hPre_anorm_finite)
    ∧ quiescent_DAct (hDAct := hDAct)
    ∧ quiescent_DActIdeal (hDActIdeal := hDActIdeal)
    ∧ quiescent_DActRefIdeal (hDActRefIdeal := hDActRefIdeal)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Dh2 (hDh2 := hDh2)
    ∧ quiescent_Dh2Ideal (hDh2Ideal := hDh2Ideal)
    ∧ quiescent_Dh2Ideal_pre_dh2_finite (hDh2Ideal := hDh2Ideal) (hPre_dh2_finite := hPre_dh2_finite)
    ∧ quiescent_Dh2RefIdeal (hDh2RefIdeal := hDh2RefIdeal)
    ∧ quiescent_Dh2RefIdeal_pre_dh2_finite (hDh2RefIdeal := hDh2RefIdeal) (hPre_dh2_finite := hPre_dh2_finite)
    ∧ quiescent_Dh1 (hDh1 := hDh1)
    ∧ quiescent_Dh1Ideal (hDh1Ideal := hDh1Ideal)
    ∧ quiescent_Dh1RefIdeal (hDh1RefIdeal := hDh1RefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_AttnF (hAttnF := hAttnF)
    ∧ quiescent_AttnFIdeal (hAttnFIdeal := hAttnFIdeal)
    ∧ quiescent_AttnFIdeal_pre_attnf_finite (hAttnFIdeal := hAttnFIdeal) (hPre_attnf_finite := hPre_attnf_finite)
    ∧ quiescent_AttnFRefIdeal (hAttnFRefIdeal := hAttnFRefIdeal)
    ∧ quiescent_AttnFRefIdeal_pre_attnf_finite (hAttnFRefIdeal := hAttnFRefIdeal) (hPre_attnf_finite := hPre_attnf_finite)
    ∧ quiescent_Mod1 (hMod1 := hMod1)
    ∧ quiescent_Mod1Ideal (hMod1Ideal := hMod1Ideal)
    ∧ quiescent_Mod1RefIdeal (hMod1RefIdeal := hMod1RefIdeal)
    ∧ quiescent_FFIn (hFFIn := hFFIn)
    ∧ quiescent_FFInIdeal (hFFInIdeal := hFFInIdeal)
    ∧ quiescent_FFInRefIdeal (hFFInRefIdeal := hFFInRefIdeal)
    ∧ quiescent_ModPart (hModPart := hModPart)
    ∧ quiescent_ModPartIdeal (hModPartIdeal := hModPartIdeal)
    ∧ quiescent_ModPartRefIdeal (hModPartRefIdeal := hModPartRefIdeal)
    ∧ quiescent_Opt (hOpt := hOpt)
    ∧ quiescent_OptIdeal (hOptIdeal := hOptIdeal)
    ∧ quiescent_OptRefIdeal (hOptRefIdeal := hOptRefIdeal)
    ∧ quiescent_OptConv (hOptConv := hOptConv)
    ∧ quiescent_OptConvIdeal (hOptConvIdeal := hOptConvIdeal)
    ∧ quiescent_OptConvRefIdeal (hOptConvRefIdeal := hOptConvRefIdeal)
    ∧ quiescent_Proj (hProj := hProj)
    ∧ quiescent_ProjIdeal (hProjIdeal := hProjIdeal)
    ∧ quiescent_ProjRefIdeal (hProjRefIdeal := hProjRefIdeal)
    ∧ quiescent_DyMix (hDyMix := hDyMix)
    ∧ quiescent_DyMixIdeal (hDyMixIdeal := hDyMixIdeal)
    ∧ quiescent_DyMixRefIdeal (hDyMixRefIdeal := hDyMixRefIdeal)
    ∧ quiescent_DwFo (hDwFo := hDwFo)
    ∧ quiescent_DwFoIdeal (hDwFoIdeal := hDwFoIdeal)
    ∧ quiescent_DwFoRefIdeal (hDwFoRefIdeal := hDwFoRefIdeal)
    ∧ quiescent_DwFi (hDwFi := hDwFi)
    ∧ quiescent_DwFiIdeal (hDwFiIdeal := hDwFiIdeal)
    ∧ quiescent_DwFiRefIdeal (hDwFiRefIdeal := hDwFiRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ preserves_Ada_AdaIdeal
    ∧ algebraic_AdaIdeal_AdaRefIdeal (hAdaIdeal := hAdaIdeal) (hAdaRefIdeal := hAdaRefIdeal)
    ∧ preserves_ANorm_ANormIdeal
    ∧ algebraic_ANormIdeal_ANormRefIdeal_pre_anorm_finite (hANormIdeal := hANormIdeal) (hANormRefIdeal := hANormRefIdeal) (hPre_anorm_finite := hPre_anorm_finite)
    ∧ preserves_DAct_DActIdeal
    ∧ algebraic_DActIdeal_DActRefIdeal (hDActIdeal := hDActIdeal) (hDActRefIdeal := hDActRefIdeal)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Dh2_Dh2Ideal
    ∧ algebraic_Dh2Ideal_Dh2RefIdeal_pre_dh2_finite (hDh2Ideal := hDh2Ideal) (hDh2RefIdeal := hDh2RefIdeal) (hPre_dh2_finite := hPre_dh2_finite)
    ∧ preserves_Dh1_Dh1Ideal
    ∧ algebraic_Dh1Ideal_Dh1RefIdeal (hDh1Ideal := hDh1Ideal) (hDh1RefIdeal := hDh1RefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_AttnF_AttnFIdeal
    ∧ algebraic_AttnFIdeal_AttnFRefIdeal_pre_attnf_finite (hAttnFIdeal := hAttnFIdeal) (hAttnFRefIdeal := hAttnFRefIdeal) (hPre_attnf_finite := hPre_attnf_finite)
    ∧ preserves_Mod1_Mod1Ideal
    ∧ algebraic_Mod1Ideal_Mod1RefIdeal (hMod1Ideal := hMod1Ideal) (hMod1RefIdeal := hMod1RefIdeal)
    ∧ preserves_FFIn_FFInIdeal
    ∧ algebraic_FFInIdeal_FFInRefIdeal (hFFInIdeal := hFFInIdeal) (hFFInRefIdeal := hFFInRefIdeal)
    ∧ preserves_ModPart_ModPartIdeal
    ∧ algebraic_ModPartIdeal_ModPartRefIdeal (hModPartIdeal := hModPartIdeal) (hModPartRefIdeal := hModPartRefIdeal)
    ∧ preserves_Opt_OptIdeal
    ∧ algebraic_OptIdeal_OptRefIdeal (hOptIdeal := hOptIdeal) (hOptRefIdeal := hOptRefIdeal)
    ∧ preserves_OptConv_OptConvIdeal
    ∧ algebraic_OptConvIdeal_OptConvRefIdeal (hOptConvIdeal := hOptConvIdeal) (hOptConvRefIdeal := hOptConvRefIdeal)
    ∧ preserves_Proj_ProjIdeal
    ∧ algebraic_ProjIdeal_ProjRefIdeal (hProjIdeal := hProjIdeal) (hProjRefIdeal := hProjRefIdeal)
    ∧ preserves_DyMix_DyMixIdeal
    ∧ algebraic_DyMixIdeal_DyMixRefIdeal (hDyMixIdeal := hDyMixIdeal) (hDyMixRefIdeal := hDyMixRefIdeal)
    ∧ preserves_DwFo_DwFoIdeal
    ∧ algebraic_DwFoIdeal_DwFoRefIdeal (hDwFoIdeal := hDwFoIdeal) (hDwFoRefIdeal := hDwFoRefIdeal)
    ∧ preserves_DwFi_DwFiIdeal
    ∧ algebraic_DwFiIdeal_DwFiRefIdeal (hDwFiIdeal := hDwFiIdeal) (hDwFiRefIdeal := hDwFiRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
-- ==== Pre_anorm_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S4096x1024 .f32) (main_arg3 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_attn_finite.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_arg5 : FVec F S4096x1024 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S4096x16 .f32) (main_arg4 : FVec F S1x16 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_v13 main_v16
-- ==== Pre_attnf_finite.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x16 .f32) (main_arg4 : FVec F S1x16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Pre_dh2_finite.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_arg8 : FVec F S4096x1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024 .f32) (main_arg6 : FVec F S1024x4096 .f32) (main_arg7 : FVec F S4096x4096 .f32) (main_arg8 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024 .f32) (main_arg6 : FVec F S1024x4096 .f32) (main_arg7 : FVec F S4096x4096 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_gate_finite.lean ====
abbrev S4096x16 : Shape := ⟨2, ![4096, 16]⟩
abbrev S1x16 : Shape := ⟨2, ![1, 16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x16 .f32) (main_arg1 : FVec F S1x16 .f32) (main_arg2 : FVec F S4096x16 .f32) (main_arg3 : FVec F S4096x16 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Pre_head_finite.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S4096x1024 .f32) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Ada.lean ====
abbrev S8x1024 : Shape := ⟨2, ![8, 1024]⟩
abbrev S8x1536 : Shape := ⟨2, ![8, 1536]⟩
abbrev S1024x8 : Shape := ⟨2, ![1024, 8]⟩
abbrev S1024x1536 : Shape := ⟨2, ![1024, 1536]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x8, .f32⟩
  | .hbm, ⟨3, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaRefIdeal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1536, .f32⟩
  | .hbm, ⟨14, _⟩ => ⟨S1536x1024, .f32⟩
  | .hbm, ⟨15, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== ANorm.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== ANormRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== DAct.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩
abbrev S8x128 : Shape := ⟨2, ![8, 128]⟩

abbrev nBuf : Space → Nat
  | .hbm => 13
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x1024, .bf16⟩
  | .hbm, ⟨11, _⟩ => ⟨S4096x1024, .bf16⟩
  | .hbm, ⟨12, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Head.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x4096, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x128, .f32⟩
  | .local _ .vmem, ⟨20, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== HeadRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S4096x4096, .f32⟩
  | 1 => ⟨S4096x1024, .f32⟩
  | 2 => ⟨S4096x1024, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S_, .f32⟩
  | 27 => ⟨S4096x1, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S_, .f32⟩
  | 41 => ⟨S1x1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S_, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096, .f32⟩
  | 87 => ⟨S_, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S_, .f32⟩
  | 108 => ⟨S1024, .f32⟩
  | 109 => ⟨S1x1024, .f32⟩
  | 110 => ⟨S4096x1024, .f32⟩
  | 111 => ⟨S4096x1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1, .f32⟩
  | 119 => ⟨S4096x1024, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x4096, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S1024, .f32⟩
  | 20 => ⟨S1x1024, .f32⟩
  | 21 => ⟨S4096x1024, .bf16⟩
  | 22 => ⟨S1x128, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_cst_18 : Ref sig .tc := ⟨.hbm, 94, rfl⟩
abbrev main_cst_19 : Ref sig .tc := ⟨.hbm, 95, rfl⟩
abbrev main_v66 : Ref sig .tc := ⟨.hbm, 96, rfl⟩
abbrev main_v67 : Ref sig .tc := ⟨.hbm, 97, rfl⟩
abbrev main_cst_20 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_22 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_23 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_cst_25 : Ref sig .tc := ⟨.hbm, 123, rfl⟩
abbrev main_v88 : Ref sig .tc := ⟨.hbm, 124, rfl⟩
abbrev main_v89 : Ref sig .tc := ⟨.hbm, 125, rfl⟩
abbrev main_cst_26 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_27 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_28 : Ref sig .tc := ⟨.hbm, 136, rfl⟩
abbrev main_v98 : Ref sig .tc := ⟨.hbm, 137, rfl⟩
abbrev main_v99 : Ref sig .tc := ⟨.hbm, 138, rfl⟩
abbrev main_cst_29 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_30 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]
-- ==== Dh2.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 27
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .bf16⟩
  | .hbm, ⟨19, _⟩ => ⟨S1024x4096, .bf16⟩
  | .hbm, ⟨20, _⟩ => ⟨S4096x1024, .f32⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]
-- ==== Dh2RefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x4096, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1, .f32⟩
  | .hbm, ⟨95, _⟩ => ⟨S4096x1024, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096, .f32⟩
  | .hbm, ⟨109, _⟩ => ⟨S4096x1, .f32⟩
  | .hbm, ⟨110, _⟩ => ⟨S4096x1024, .f32⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S_, .f32⟩
  | .hbm, ⟨116, _⟩ => ⟨S4096, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S_, .f32⟩
  | .hbm, ⟨123, _⟩ => ⟨S1024, .f32⟩
  | .hbm, ⟨124, _⟩ => ⟨S1x1024, .f32⟩
  | .hbm, ⟨125, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_cst_22 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]
-- ==== Dh1.lean ====
abbrev S4096x1024 : Shape := ⟨2, ![4096, 1024]⟩
abbrev S1x1024 : Shape := ⟨2, ![1, 1024]⟩
abbrev S1024x5664 : Shape := ⟨2, ![1024, 5664]⟩
abbrev S4096x5664 : Shape := ⟨2, ![4096, 5664]⟩
abbrev S5664x1024 : Shape := ⟨2, ![5664, 1024]⟩
abbrev S_ : Shape := ⟨0, ![]⟩
abbrev S5760x1024 : Shape := ⟨2, ![5760, 1024]⟩
abbrev S2048x1024 : Shape := ⟨2, ![2048, 1024]⟩
abbrev S3072x1024 : Shape := ⟨2, ![3072, 1024]⟩
abbrev S512x1024 : Shape := ⟨2, ![512, 1024]⟩
abbrev S16x1024 : Shape := ⟨2, ![16, 1024]⟩
abbrev S4096x2048 : Shape := ⟨2, ![4096, 2048]⟩
abbrev S4096x3072 : Shape := ⟨2, ![4096, 3072]⟩
abbrev S4096x512 : Shape := ⟨2, ![4096, 512]⟩
abbrev S4096x16 : Shape := ⟨2, ![4096, 16]⟩
abbrev S4096x96 : Shape := ⟨2, ![4096, 96]⟩
abbrev S4096x5760 : Shape := ⟨2, ![4096, 5760]⟩
abbrev S512x5760 : Shape := ⟨2, ![512, 5760]⟩
abbrev S8x128 : Shape := ⟨2, ![8, 128]⟩
abbrev S1024 : Shape := ⟨1, ![1024]⟩

abbrev nBuf : Space → Nat
  | .hbm => 41
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5664, .f32⟩
  | .hbm, ⟨3, _⟩ => ⟨S4096x5664, .f32⟩
  | .hbm, ⟨4, _⟩ => ⟨S4096x1024, .f32⟩
  | .hbm, ⟨5, _⟩ => ⟨S5664x1024, .f32⟩
  | .hbm, ⟨6, _⟩ => ⟨S5664x1024, .bf16⟩
  | .hbm, ⟨7, _⟩ => ⟨S_, .bf16⟩
  | .hbm, ⟨8, _⟩ => ⟨S5760x1024, .bf16⟩
  | .hbm, ⟨9, _⟩ => ⟨S2048x1024, .bf16⟩
  | .hbm, ⟨10, _⟩ => ⟨S_, .i32⟩
  | .hbm, ⟨11, _⟩ => ⟨S_, .i32⟩
  | .hbm, ⟨12, _⟩ => ⟨S5760x1024, .bf16⟩
  | .hbm, ⟨13, _⟩ => ⟨S3072x1024, .bf16⟩
  | .hbm, ⟨14, _⟩ => ⟨S_, .i32⟩
  | .hbm, ⟨15, _⟩ => ⟨S_, .i32⟩
  | .hbm, ⟨16, _⟩ => ⟨S5760x1024, .bf16⟩
  | .hbm, ⟨17, _⟩ => ⟨S512x1024, .bf16⟩
  | .hbm, ⟨18, _⟩ => ⟨S_, .i32⟩
  | .hbm, ⟨19, _⟩ => ⟨S_, .i32⟩
  | .hbm, ⟨20, _⟩ => ⟨S5760x1024, .bf16⟩
  | .hbm, ⟨21, _⟩ => ⟨S16x1024, .bf16⟩
  | .hbm, ⟨22, _⟩ => ⟨S_, .i32⟩
  | .hbm, ⟨23, _⟩ => ⟨S_, .i32⟩
  | .hbm, ⟨24, _⟩ => ⟨S5760x1024, .bf16⟩
  | .hbm, ⟨25, _⟩ => ⟨S16x1024, .bf16⟩
  | .hbm, ⟨26, _⟩ => ⟨S_, .i32⟩
  | .hbm, ⟨27, _⟩ => ⟨S_, .i32⟩
  | .hbm, ⟨28, _⟩ => ⟨S5760x1024, .bf16⟩
  | .hbm, ⟨29, _⟩ => ⟨S4096x2048, .f32⟩
  | .hbm, ⟨30, _⟩ => ⟨S4096x3072, .f32⟩
  | .hbm, ⟨31, _⟩ => ⟨S4096x512, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096x96, .f32⟩
  | .hbm, ⟨36, _⟩ => ⟨S4096x5760, .f32⟩
  | .hbm, ⟨37, _⟩ => ⟨S4096x5760, .bf16⟩
  | .hbm, ⟨38, _⟩ => ⟨S4096x1024, .f32⟩
  | .hbm, ⟨39, _⟩ => ⟨S1x1024, .f32⟩
  | .hbm, ⟨40, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S5760x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_c_6 : Ref sig .tc := ⟨.hbm, 23, rfl⟩
abbrev main_v10 : Ref sig .tc := ⟨.hbm, 24, rfl⟩
abbrev main_v11 : Ref sig .tc := ⟨.hbm, 25, rfl⟩
abbrev main_c_7 : Ref sig .tc := ⟨.hbm, 26, rfl⟩
abbrev main_c_8 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_9 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5760x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Dh1RefIdeal.lean ====
abbrev S4096x1024 : Shape := ⟨2, ![4096, 1024]⟩
abbrev S1x1024 : Shape := ⟨2, ![1, 1024]⟩
abbrev S1024x5664 : Shape := ⟨2, ![1024, 5664]⟩
abbrev S4096x5664 : Shape := ⟨2, ![4096, 5664]⟩
abbrev S_ : Shape := ⟨0, ![]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5664, .f32⟩
  | .hbm, ⟨3, _⟩ => ⟨S4096x5664, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x5664, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Attn.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩
abbrev S16x4096 : Shape := ⟨2, ![16, 4096]⟩
abbrev S16x4096x1 : Shape := ⟨3, ![16, 4096, 1]⟩
abbrev S16x4096x3 : Shape := ⟨3, ![16, 4096, 3]⟩
abbrev S16x4096x58 : Shape := ⟨3, ![16, 4096, 58]⟩
abbrev S16 : Shape := ⟨1, ![16]⟩
abbrev S16x1x1 : Shape := ⟨3, ![16, 1, 1]⟩
abbrev S16x4096x64 : Shape := ⟨3, ![16, 4096, 64]⟩
abbrev S4096x16x64 : Shape := ⟨3, ![4096, 16, 64]⟩
abbrev S16x4096x128 : Shape := ⟨3, ![16, 4096, 128]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S4096x16x1 : Shape := ⟨3, ![4096, 16, 1]⟩
abbrev S4096x5760 : Shape := ⟨2, ![4096, 5760]⟩
abbrev S2x4096x128 : Shape := ⟨3, ![2, 4096, 128]⟩
abbrev S2x1024x128 : Shape := ⟨3, ![2, 1024, 128]⟩
abbrev S1024x128 : Shape := ⟨2, ![1024, 128]⟩
abbrev S4096x128 : Shape := ⟨2, ![4096, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 165
  | .vmem => 18
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x16, .f32⟩
  | 4 => ⟨S1x16, .f32⟩
  | 5 => ⟨S4096x1024, .f32⟩
  | 6 => ⟨S4096x16, .f32⟩
  | 7 => ⟨S4096x16, .f32⟩
  | 8 => ⟨S4096x16, .f32⟩
  | 9 => ⟨S_, .f32⟩
  | 10 => ⟨S4096x16, .f32⟩
  | 11 => ⟨S4096x16, .f32⟩
  | 12 => ⟨S4096x16, .f32⟩
  | 13 => ⟨S4096x16, .f32⟩
  | 14 => ⟨S4096x16, .i1⟩
  | 15 => ⟨S4096x16, .f32⟩
  | 16 => ⟨S4096x16, .f32⟩
  | 17 => ⟨S4096x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S_, .f32⟩
  | 25 => ⟨S_, .f32⟩
  | 26 => ⟨S4096x16, .f32⟩
  | 27 => ⟨S16x4096, .f32⟩
  | 28 => ⟨S16x4096, .bf16⟩
  | 29 => ⟨S16x4096, .f32⟩
  | 30 => ⟨S16x4096, .f32⟩
  | 31 => ⟨S16x4096, .bf16⟩
  | 32 => ⟨S16x4096, .f32⟩
  | 33 => ⟨S16x4096, .f32⟩
  | 34 => ⟨S16x4096, .bf16⟩
  | 35 => ⟨S16x4096x1, .bf16⟩
  | 36 => ⟨S16x4096x1, .bf16⟩
  | 37 => ⟨S16x4096x1, .bf16⟩
  | 38 => ⟨S16x4096x3, .bf16⟩
  | 39 => ⟨S_, .bf16⟩
  | 40 => ⟨S16x4096x3, .bf16⟩
  | 41 => ⟨S_, .bf16⟩
  | 42 => ⟨S16x4096x58, .bf16⟩
  | 43 => ⟨S16, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S16, .i32⟩
  | 51 => ⟨S16, .i32⟩
  | 52 => ⟨S_, .i32⟩
  | 53 => ⟨S16, .i32⟩
  | 54 => ⟨S16, .i1⟩
  | 55 => ⟨S_, .i32⟩
  | 56 => ⟨S16, .i32⟩
  | 57 => ⟨S16, .i1⟩
  | 58 => ⟨S_, .i32⟩
  | 59 => ⟨S_, .i1⟩
  | 60 => ⟨S16, .i1⟩
  | 61 => ⟨S16, .i1⟩
  | 62 => ⟨S16, .i1⟩
  | 63 => ⟨S16, .i32⟩
  | 64 => ⟨S16, .i32⟩
  | 65 => ⟨S16, .i32⟩
  | 66 => ⟨S_, .i32⟩
  | 67 => ⟨S16, .i32⟩
  | 68 => ⟨S16, .i1⟩
  | 69 => ⟨S16x1x1, .i1⟩
  | 70 => ⟨S_, .f32⟩
  | 71 => ⟨S4096x1024, .f32⟩
  | 72 => ⟨S4096x1024, .f32⟩
  | 73 => ⟨S16x4096x64, .bf16⟩
  | 74 => ⟨S4096x1024, .bf16⟩
  | 75 => ⟨S4096x16x64, .bf16⟩
  | 76 => ⟨S16x4096x64, .bf16⟩
  | 77 => ⟨S16x4096x128, .bf16⟩
  | 78 => ⟨S16x4096x128, .bf16⟩
  | 79 => ⟨S16x4096x128, .i1⟩
  | 80 => ⟨S16x4096x128, .bf16⟩
  | 81 => ⟨S16x4096x3, .bf16⟩
  | 82 => ⟨S16x4096x64, .bf16⟩
  | 83 => ⟨S4096x1024, .bf16⟩
  | 84 => ⟨S4096x16x64, .bf16⟩
  | 85 => ⟨S16x4096x64, .bf16⟩
  | 86 => ⟨S16x4096x128, .bf16⟩
  | 87 => ⟨S16x4096x128, .bf16⟩
  | 88 => ⟨S16x4096x128, .i1⟩
  | 89 => ⟨S16x4096x128, .bf16⟩
  | 90 => ⟨S4096x1024, .bf16⟩
  | 91 => ⟨S16x4096x4096, .f32⟩
  | 92 => ⟨S4096, .i32⟩
  | 93 => ⟨S4096x1, .i32⟩
  | 94 => ⟨S4096, .i32⟩
  | 95 => ⟨S1x4096, .i32⟩
  | 96 => ⟨S4096x4096, .i32⟩
  | 97 => ⟨S4096x4096, .i32⟩
  | 98 => ⟨S4096x4096, .i1⟩
  | 99 => ⟨S_, .f32⟩
  | 100 => ⟨S_, .f32⟩
  | 101 => ⟨S16x4096x4096, .i1⟩
  | 102 => ⟨S16x4096x4096, .f32⟩
  | 103 => ⟨S16x4096x4096, .f32⟩
  | 104 => ⟨S_, .f32⟩
  | 105 => ⟨S16x4096, .f32⟩
  | 106 => ⟨S16x4096x1, .f32⟩
  | 107 => ⟨S16x4096x4096, .f32⟩
  | 108 => ⟨S16x4096x4096, .f32⟩
  | 109 => ⟨S16x4096x4096, .f32⟩
  | 110 => ⟨S_, .f32⟩
  | 111 => ⟨S16x4096, .f32⟩
  | 112 => ⟨S16x4096x1, .f32⟩
  | 113 => ⟨S16x4096x4096, .bf16⟩
  | 114 => ⟨S4096x16x64, .bf16⟩
  | 115 => ⟨S16x64x4096, .f32⟩
  | 116 => ⟨S4096x16x64, .f32⟩
  | 117 => ⟨S16x4096, .f32⟩
  | 118 => ⟨S4096x16, .f32⟩
  | 119 => ⟨S4096x16x1, .f32⟩
  | 120 => ⟨S4096x16x64, .f32⟩
  | 121 => ⟨S4096x16x64, .f32⟩
  | 122 => ⟨S4096x1024, .f32⟩
  | 123 => ⟨S16x4096x1, .f32⟩
  | 124 => ⟨S16x4096x1, .f32⟩
  | 125 => ⟨S16x4096, .f32⟩
  | 126 => ⟨S4096x16, .f32⟩
  | 127 => ⟨S4096x16x1, .f32⟩
  | _ => ⟨S4096x1024, .f32⟩

abbrev hbmTy0_1 (i : Nat) : BufTy := match i % 128 with
  | 0 => ⟨S4096x16x64, .f32⟩
  | 1 => ⟨S4096x1024, .f32⟩
  | 2 => ⟨S_, .bf16⟩
  | 3 => ⟨S4096x5760, .bf16⟩
  | 4 => ⟨S16x4096x128, .f32⟩
  | 5 => ⟨S16x4096x128, .f32⟩
  | 6 => ⟨S4096x5760, .bf16⟩
  | 7 => ⟨S16x4096x64, .f32⟩
  | 8 => ⟨S16x4096x64, .f32⟩
  | 9 => ⟨S16x4096x64, .i1⟩
  | 10 => ⟨S16x4096x64, .f32⟩
  | 11 => ⟨S16x4096x64, .f32⟩
  | 12 => ⟨S16x4096x64, .f32⟩
  | 13 => ⟨S16x4096x64, .i1⟩
  | 14 => ⟨S16x4096x64, .f32⟩
  | 15 => ⟨S16x4096x64, .f32⟩
  | 16 => ⟨S16x4096x64, .f32⟩
  | 17 => ⟨S16x4096x64, .i1⟩
  | 18 => ⟨S16x4096x64, .f32⟩
  | 19 => ⟨S16x4096x64, .f32⟩
  | 20 => ⟨S16x4096x64, .f32⟩
  | 21 => ⟨S16x4096x64, .i1⟩
  | 22 => ⟨S16x4096x64, .f32⟩
  | 23 => ⟨S4096x16x64, .f32⟩
  | 24 => ⟨S4096x1024, .f32⟩
  | 25 => ⟨S_, .f32⟩
  | 26 => ⟨S4096x1024, .f32⟩
  | 27 => ⟨S4096x1024, .f32⟩
  | 28 => ⟨S4096x16x64, .f32⟩
  | 29 => ⟨S4096x1024, .f32⟩
  | 30 => ⟨S4096x1024, .bf16⟩
  | 31 => ⟨S16x4096x1, .f32⟩
  | 32 => ⟨S16x4096, .f32⟩
  | 33 => ⟨S16x4096x1, .f32⟩
  | 34 => ⟨S16x4096, .f32⟩
  | 35 => ⟨S16x4096, .f32⟩
  | 36 => ⟨S4096x16, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S2x4096x128, .bf16⟩
  | .local _ .vmem, ⟨1, _⟩ => ⟨S2x4096x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S2x4096x128, .f32⟩
  | .local _ .vmem, ⟨13, _⟩ => ⟨S2x4096x128, .f32⟩
  | .local _ .vmem, ⟨14, _⟩ => ⟨S2x1024x128, .f32⟩
  | .local _ .vmem, ⟨15, _⟩ => ⟨S2x1024x128, .f32⟩
  | .local _ .vmem, ⟨16, _⟩ => ⟨S1024x128, .bf16⟩
  | .local _ .vmem, ⟨17, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v2 : Ref sig .tc := ⟨.hbm, 23, rfl⟩
abbrev main_call1_call0_cst : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v19 : Ref sig .tc := ⟨.hbm, 65, rfl⟩
abbrev main_c_1 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_call3_v0 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_call4_v0 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_cst_3 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v49 : Ref sig .tc := ⟨.hbm, 103, rfl⟩
abbrev main_cst_4 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_5 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_6 : Ref sig .tc := ⟨.hbm, 130, rfl⟩
abbrev main_v74 : Ref sig .tc := ⟨.hbm, 131, rfl⟩
abbrev main_v75_0 : Ref sig .tc := ⟨.hbm, 132, rfl⟩
abbrev main_v75_1 : Ref sig .tc := ⟨.hbm, 133, rfl⟩
abbrev main_v75_2 : Ref sig .tc := ⟨.hbm, 134, rfl⟩
abbrev main_v76 : Ref sig .tc := ⟨.hbm, 135, rfl⟩
abbrev main_v77 : Ref sig .tc := ⟨.hbm, 136, rfl⟩
abbrev main_call6_v0 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_call7_v0 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_call8_v0 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_call9_v0 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_7 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  v15
def k0_off1 (i : grid0.Coords) : Fin 2 → Nat :=
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  let c0_7 : Index := 0#32
  ![v17.toNat, 0]
def k0_off2 (i : grid0.Coords) : Fin 3 → Nat :=
  let c0_10 : Index := 0#32
  let arg1 : BitVec 32 := BitVec.ofNat 32 (i 1).val
  let c1024_i32 : BitVec 32 := 1024#32
  let v15 : BitVec 32 := Scalar.muli arg1 c1024_i32
  let v16 : BitVec 32 := v15
  let v25 : Index := Scalar.indexCast v16
  let c0_11 : Index := 0#32
  ![0, v25.toNat, 0]
def k0_off3 (i : grid0.Coords) : Fin 3 → Nat :=
  let c1_25 : Index := 1#32
  let arg1 : BitVec 32 := BitVec.ofNat 32 (i 1).val
  let c1024_i32 : BitVec 32 := 1024#32
  let v15 : BitVec 32 := Scalar.muli arg1 c1024_i32
  let v16 : BitVec 32 := v15
  let v65 : Index := Scalar.indexCast v16
  let c0_26 : Index := 0#32
  ![1, v65.toNat, 0]
@[reducible] def k0_t1_loop (i : grid0.Coords) : Scf.Loop 32 :=
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let c1_i32_41 : BitVec 32 := 1#32
  ⟨v105, v110, c1_i32_41⟩
def k0_mult2 (i : grid0.Coords) (k0_t1 : Fin (k0_t1_loop i).trips) : BitVec 32 :=
  let arg1 : BitVec 32 := BitVec.ofNat 32 (i 1).val
  let c1_i32 : BitVec 32 := 1#32
  let v105 : BitVec 32 := Scalar.addi arg1 c1_i32
  let c1_i32_41 : BitVec 32 := 1#32
  let arg12 : BitVec 32 := Scf.iv v105 c1_i32_41 k0_t1
  let c1024_i32_51 : BitVec 32 := 1024#32
  let v121 : BitVec 32 := Scalar.muli arg12 c1024_i32_51
  v121
def k0_off4 (i : grid0.Coords) (k0_t1 : Fin (k0_t1_loop i).trips) : Fin 2 → Nat :=
  let arg1 : BitVec 32 := BitVec.ofNat 32 (i 1).val
  let c1_i32 : BitVec 32 := 1#32
  let v105 : BitVec 32 := Scalar.addi arg1 c1_i32
  let c1_i32_41 : BitVec 32 := 1#32
  let arg12 : BitVec 32 := Scf.iv v105 c1_i32_41 k0_t1
  let c1024_i32_51 : BitVec 32 := 1024#32
  let v121 : BitVec 32 := Scalar.muli arg12 c1024_i32_51
  let v122 : BitVec 32 := v121
  let v123 : Index := Scalar.indexCast v122
  let c0_52 : Index := 0#32
  ![v123.toNat, 0]
def k0_off5 (i : grid0.Coords) (k0_t1 : Fin (k0_t1_loop i).trips) : Fin 3 → Nat :=
  let c0_55 : Index := 0#32
  let arg1 : BitVec 32 := BitVec.ofNat 32 (i 1).val
  let c1_i32 : BitVec 32 := 1#32
  let v105 : BitVec 32 := Scalar.addi arg1 c1_i32
  let c1_i32_41 : BitVec 32 := 1#32
  let arg12 : BitVec 32 := Scf.iv v105 c1_i32_41 k0_t1
  let c1024_i32_51 : BitVec 32 := 1024#32
  let v121 : BitVec 32 := Scalar.muli arg12 c1024_i32_51
  let v122 : BitVec 32 := v121
  let v131 : Index := Scalar.indexCast v122
  let c0_56 : Index := 0#32
  ![0, v131.toNat, 0]
def k0_off6 (i : grid0.Coords) (k0_t1 : Fin (k0_t1_loop i).trips) : Fin 3 → Nat :=
  let c1_70 : Index := 1#32
  let arg1 : BitVec 32 := BitVec.ofNat 32 (i 1).val
  let c1_i32 : BitVec 32 := 1#32
  let v105 : BitVec 32 := Scalar.addi arg1 c1_i32
  let c1_i32_41 : BitVec 32 := 1#32
  let arg12 : BitVec 32 := Scf.iv v105 c1_i32_41 k0_t1
  let c1024_i32_51 : BitVec 32 := 1024#32
  let v121 : BitVec 32 := Scalar.muli arg12 c1024_i32_51
  let v122 : BitVec 32 := v121
  let v168 : Index := Scalar.indexCast v122
  let c0_71 : Index := 0#32
  ![1, v168.toNat, 0]
@[reducible] def k0_t2_loop (i : grid0.Coords) : Scf.Loop 32 :=
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let v107 : BitVec 32 := Scalar.addi v105 v106
  let c1_i32_42 : BitVec 32 := 1#32
  ⟨v110, v107, c1_i32_42⟩
def k0_mult3 (i : grid0.Coords) (k0_t2 : Fin (k0_t2_loop i).trips) : BitVec 32 :=
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let c1_i32_42 : BitVec 32 := 1#32
  let arg12 : BitVec 32 := Scf.iv v110 c1_i32_42 k0_t2
  let c1024_i32_51 : BitVec 32 := 1024#32
  let v121 : BitVec 32 := Scalar.muli arg12 c1024_i32_51
  v121
def k0_off7 (i : grid0.Coords) (k0_t2 : Fin (k0_t2_loop i).trips) : Fin 2 → Nat :=
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let c1_i32_42 : BitVec 32 := 1#32
  let arg12 : BitVec 32 := Scf.iv v110 c1_i32_42 k0_t2
  let c1024_i32_51 : BitVec 32 := 1024#32
  let v121 : BitVec 32 := Scalar.muli arg12 c1024_i32_51
  let v122 : BitVec 32 := v121
  let v123 : Index := Scalar.indexCast v122
  let c0_52 : Index := 0#32
  ![v123.toNat, 0]
def k0_off8 (i : grid0.Coords) (k0_t2 : Fin (k0_t2_loop i).trips) : Fin 3 → Nat :=
  let c0_55 : Index := 0#32
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let c1_i32_42 : BitVec 32 := 1#32
  let arg12 : BitVec 32 := Scf.iv v110 c1_i32_42 k0_t2
  let c1024_i32_51 : BitVec 32 := 1024#32
  let v121 : BitVec 32 := Scalar.muli arg12 c1024_i32_51
  let v122 : BitVec 32 := v121
  let v131 : Index := Scalar.indexCast v122
  let c0_56 : Index := 0#32
  ![0, v131.toNat, 0]
def k0_off9 (i : grid0.Coords) (k0_t2 : Fin (k0_t2_loop i).trips) : Fin 3 → Nat :=
  let c1_70 : Index := 1#32
  let arg1 : BitVec 32 := BitVec.ofNat 32 (i 1).val
  let c1_i32 : BitVec 32 := 1#32
  let v105 : BitVec 32 := Scalar.addi arg1 c1_i32
  let c4_i32 : BitVec 32 := 4#32
  let v106 : BitVec 32 := Scalar.subi c4_i32 v105
  let c1_i32_40 : BitVec 32 := 1#32
  let v108 : BitVec 32 := Scalar.divsi v106 c1_i32_40
  let v109 : BitVec 32 := Scalar.muli v108 c1_i32_40
  let v110 : BitVec 32 := Scalar.addi v105 v109
  let c1_i32_42 : BitVec 32 := 1#32
  let arg12 : BitVec 32 := Scf.iv v110 c1_i32_42 k0_t2
  let c1024_i32_51 : BitVec 32 := 1024#32
  let v121 : BitVec 32 := Scalar.muli arg12 c1024_i32_51
  let v122 : BitVec 32 := v121
  let v168 : Index := Scalar.indexCast v122
  let c0_71 : Index := 0#32
  ![1, v168.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩
abbrev S4096x16x64 : Shape := ⟨3, ![4096, 16, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S16x4096x64 : Shape := ⟨3, ![16, 4096, 64]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x16, .f32⟩
  | 4 => ⟨S1x16, .f32⟩
  | 5 => ⟨S4096x1024, .f32⟩
  | 6 => ⟨S4096x16, .f32⟩
  | 7 => ⟨S4096x16, .f32⟩
  | 8 => ⟨S4096x16, .f32⟩
  | 9 => ⟨S_, .f32⟩
  | 10 => ⟨S4096x16, .f32⟩
  | 11 => ⟨S4096x16, .f32⟩
  | 12 => ⟨S4096x16, .f32⟩
  | 13 => ⟨S4096x16, .f32⟩
  | 14 => ⟨S4096x16, .i1⟩
  | 15 => ⟨S4096x16, .f32⟩
  | 16 => ⟨S4096x16, .f32⟩
  | 17 => ⟨S4096x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S_, .f32⟩
  | 25 => ⟨S_, .f32⟩
  | 26 => ⟨S4096x16, .f32⟩
  | 27 => ⟨S4096x16x64, .f32⟩
  | 28 => ⟨S4096x16x64, .f32⟩
  | 29 => ⟨S16x4096x4096, .f32⟩
  | 30 => ⟨S_, .f32⟩
  | 31 => ⟨S16x4096x4096, .f32⟩
  | 32 => ⟨S16x4096x4096, .f32⟩
  | 33 => ⟨S16x4096, .f32⟩
  | 34 => ⟨S16x4096x1, .f32⟩
  | 35 => ⟨S16x4096, .f32⟩
  | 36 => ⟨S16x1x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S4096, .i32⟩
  | 42 => ⟨S4096x1, .i32⟩
  | 43 => ⟨S4096, .i32⟩
  | 44 => ⟨S1x4096, .i32⟩
  | 45 => ⟨S4096x4096, .i32⟩
  | 46 => ⟨S4096x4096, .i32⟩
  | 47 => ⟨S4096x4096, .i1⟩
  | 48 => ⟨S_, .f32⟩
  | 49 => ⟨S_, .f32⟩
  | 50 => ⟨S16x4096x4096, .i1⟩
  | 51 => ⟨S16x4096x4096, .f32⟩
  | 52 => ⟨S16x4096x4096, .f32⟩
  | 53 => ⟨S_, .f32⟩
  | 54 => ⟨S16x4096x4096, .f32⟩
  | 55 => ⟨S_, .f32⟩
  | 56 => ⟨S16x4096, .f32⟩
  | 57 => ⟨S16x4096x1, .f32⟩
  | 58 => ⟨S16x4096x4096, .f32⟩
  | 59 => ⟨S16x4096x4096, .i1⟩
  | 60 => ⟨S16x4096x4096, .f32⟩
  | 61 => ⟨S_, .f32⟩
  | 62 => ⟨S16x4096, .f32⟩
  | 63 => ⟨S_, .f32⟩
  | 64 => ⟨S16x4096, .f32⟩
  | 65 => ⟨S16x4096, .f32⟩
  | 66 => ⟨S_, .f32⟩
  | 67 => ⟨S16x4096, .f32⟩
  | 68 => ⟨S16x4096, .i1⟩
  | 69 => ⟨S_, .f32⟩
  | 70 => ⟨S16x4096, .f32⟩
  | 71 => ⟨S16x4096, .i1⟩
  | 72 => ⟨S_, .f32⟩
  | 73 => ⟨S16x4096, .f32⟩
  | 74 => ⟨S_, .f32⟩
  | 75 => ⟨S16x4096, .f32⟩
  | 76 => ⟨S_, .f32⟩
  | 77 => ⟨S16x4096, .f32⟩
  | 78 => ⟨S16x4096, .f32⟩
  | 79 => ⟨S16x4096, .f32⟩
  | 80 => ⟨S16x4096x1, .f32⟩
  | 81 => ⟨S16x4096x4096, .f32⟩
  | 82 => ⟨S16x4096x4096, .f32⟩
  | 83 => ⟨S16x4096x4096, .f32⟩
  | 84 => ⟨S_, .f32⟩
  | 85 => ⟨S16x4096, .f32⟩
  | 86 => ⟨S16x4096x1, .f32⟩
  | 87 => ⟨S16x4096x4096, .f32⟩
  | 88 => ⟨S16x4096x4096, .f32⟩
  | 89 => ⟨S16x4096x1, .f32⟩
  | 90 => ⟨S_, .f32⟩
  | 91 => ⟨S16x4096x1, .f32⟩
  | 92 => ⟨S16x4096x1, .f32⟩
  | 93 => ⟨S4096x16x64, .f32⟩
  | 94 => ⟨S16x64x4096, .f32⟩
  | 95 => ⟨S4096x16x64, .f32⟩
  | 96 => ⟨S4096x1024, .f32⟩
  | 97 => ⟨S4096x16x64, .f32⟩
  | 98 => ⟨S16x64x4096, .f32⟩
  | 99 => ⟨S16x4096x4096, .f32⟩
  | 100 => ⟨S16x64x4096, .f32⟩
  | 101 => ⟨S4096x16x64, .f32⟩
  | 102 => ⟨S4096x1024, .f32⟩
  | 103 => ⟨S16x4096x4096, .f32⟩
  | 104 => ⟨S16x4096x4096, .f32⟩
  | 105 => ⟨S16x4096x4096, .f32⟩
  | 106 => ⟨S_, .f32⟩
  | 107 => ⟨S16x4096, .f32⟩
  | 108 => ⟨S16x4096x1, .f32⟩
  | 109 => ⟨S16x4096x1, .f32⟩
  | 110 => ⟨S16x4096x4096, .f32⟩
  | 111 => ⟨S16x4096x4096, .f32⟩
  | 112 => ⟨S_, .f32⟩
  | 113 => ⟨S16x4096, .f32⟩
  | 114 => ⟨S16x4096x4096, .f32⟩
  | 115 => ⟨S16x4096x4096, .f32⟩
  | 116 => ⟨S16x4096x4096, .f32⟩
  | 117 => ⟨S_, .f32⟩
  | 118 => ⟨S16x4096x4096, .f32⟩
  | 119 => ⟨S16x4096x4096, .f32⟩
  | 120 => ⟨S_, .f32⟩
  | 121 => ⟨S16x4096, .f32⟩
  | 122 => ⟨S16x4096x1, .f32⟩
  | 123 => ⟨S16x4096x4096, .f32⟩
  | 124 => ⟨S_, .f32⟩
  | 125 => ⟨S16x4096, .f32⟩
  | 126 => ⟨S16x1x4096, .f32⟩
  | 127 => ⟨S_, .f32⟩
  | _ => ⟨S4096x1024, .f32⟩

abbrev hbmTy0_1 (i : Nat) : BufTy := match i % 128 with
  | 0 => ⟨S16x4096, .f32⟩
  | 1 => ⟨S4096x16, .f32⟩
  | 2 => ⟨S_, .f32⟩
  | 3 => ⟨S16x4096, .f32⟩
  | 4 => ⟨S4096x16, .f32⟩
  | 5 => ⟨S4096x16, .f32⟩
  | 6 => ⟨S_, .f32⟩
  | 7 => ⟨S16x4096x4096, .f32⟩
  | 8 => ⟨S16x4096x4096, .f32⟩
  | 9 => ⟨S16x4096x64, .f32⟩
  | 10 => ⟨S4096x16x64, .f32⟩
  | 11 => ⟨S16x4096x64, .f32⟩
  | 12 => ⟨S4096x16x64, .f32⟩
  | 13 => ⟨S4096x1024, .f32⟩
  | 14 => ⟨S4096x1024, .f32⟩
  | 15 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v2 : Ref sig .tc := ⟨.hbm, 23, rfl⟩
abbrev main_call1_call0_cst : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_call2_v0 : Ref sig .tc := ⟨.hbm, 49, rfl⟩
abbrev main_v24_1 : Ref sig .tc := ⟨.hbm, 50, rfl⟩
abbrev main_call2_v2 : Ref sig .tc := ⟨.hbm, 51, rfl⟩
abbrev main_v24_0 : Ref sig .tc := ⟨.hbm, 52, rfl⟩
abbrev main_call2_cst : Ref sig .tc := ⟨.hbm, 53, rfl⟩
abbrev main_v24_2 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call3_cst : Ref sig .tc := ⟨.hbm, 117, rfl⟩
abbrev main_call3_v0 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_14 : Ref sig .tc := ⟨.hbm, 124, rfl⟩
abbrev main_v79 : Ref sig .tc := ⟨.hbm, 125, rfl⟩
abbrev main_v80 : Ref sig .tc := ⟨.hbm, 126, rfl⟩
abbrev main_cst_15 : Ref sig .tc := ⟨.hbm, 127, rfl⟩
abbrev main_v81 : Ref sig .tc := ⟨.hbm, 128, rfl⟩
abbrev main_v82 : Ref sig .tc := ⟨.hbm, 129, rfl⟩
abbrev main_cst_16 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_17 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩

abbrev nD : Nat := 1
abbrev τ : Topo := Topo.v7x

variable {F : FTy → Type} [FloatOps F]
-- ==== Gate.lean ====
abbrev S4096x16 : Shape := ⟨2, ![4096, 16]⟩
abbrev S1x16 : Shape := ⟨2, ![1, 16]⟩
abbrev S_ : Shape := ⟨0, ![]⟩
abbrev S4096x5760 : Shape := ⟨2, ![4096, 5760]⟩
abbrev S4096x128 : Shape := ⟨2, ![4096, 128]⟩
abbrev S1x128 : Shape := ⟨2, ![1, 128]⟩
abbrev S128x128 : Shape := ⟨2, ![128, 128]⟩
abbrev S128 : Shape := ⟨1, ![128]⟩

abbrev nBuf : Space → Nat
  | .hbm => 20
  | .vmem => 6
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x5760, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S_, .bf16⟩
  | .hbm, ⟨17, _⟩ => ⟨S4096x5760, .bf16⟩
  | .hbm, ⟨18, _⟩ => ⟨S4096x5760, .bf16⟩
  | .hbm, ⟨19, _⟩ => ⟨S1x128, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .f32⟩
  | .local _ .vmem, ⟨4, _⟩ => ⟨S4096x128, .bf16⟩
  | .local _ .vmem, ⟨5, _⟩ => ⟨S1x128, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32_1 : BitVec 32 := 32#32
  let v13 : BitVec 32 := Scalar.addi c0_i32 c32_i32_1
  let c1_i32 : BitVec 32 := 1#32
  ⟨c0_i32, v13, c1_i32⟩
def k0_mult1 (k0_t1 : Fin k0_t1_loop.trips) : BitVec 32 :=
  let c31_i32 : BitVec 32 := 31#32
  let c0_i32 : BitVec 32 := 0#32
  let c1_i32 : BitVec 32 := 1#32
  let arg8 : BitVec 32 := Scf.iv c0_i32 c1_i32 k0_t1
  let v16 : BitVec 32 := Scalar.subi c31_i32 arg8
  let c128_i32 : BitVec 32 := 128#32
  let v17 : BitVec 32 := Scalar.muli v16 c128_i32
  v17
def k0_off1 (k0_t1 : Fin k0_t1_loop.trips) : Fin 2 → Nat :=
  let c31_i32 : BitVec 32 := 31#32
  let c0_i32 : BitVec 32 := 0#32
  let c1_i32 : BitVec 32 := 1#32
  let arg8 : BitVec 32 := Scf.iv c0_i32 c1_i32 k0_t1
  let v16 : BitVec 32 := Scalar.subi c31_i32 arg8
  let c128_i32 : BitVec 32 := 128#32
  let v17 : BitVec 32 := Scalar.muli v16 c128_i32
  let v18 : BitVec 32 := v17
  let v19 : Index := Scalar.indexCast v18
  let c0_4 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateRefIdeal.lean ====
abbrev S4096x16 : Shape := ⟨2, ![4096, 16]⟩
abbrev S1x16 : Shape := ⟨2, ![1, 16]⟩
abbrev S_ : Shape := ⟨0, ![]⟩
abbrev S16 : Shape := ⟨1, ![16]⟩
abbrev S4096x32 : Shape := ⟨2, ![4096, 32]⟩
abbrev S4096x5760 : Shape := ⟨2, ![4096, 5760]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S1x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S4096x16, .f32⟩
  | .hbm, ⟨6, _⟩ => ⟨S4096x16, .f32⟩
  | .hbm, ⟨7, _⟩ => ⟨S_, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .i1⟩
  | .hbm, ⟨13, _⟩ => ⟨S4096x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S_, .f32⟩
  | .hbm, ⟨22, _⟩ => ⟨S4096x16, .f32⟩
  | .hbm, ⟨23, _⟩ => ⟨S4096x16, .i1⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x16, .f32⟩
  | .hbm, ⟨29, _⟩ => ⟨S4096x16, .i1⟩
  | .hbm, ⟨30, _⟩ => ⟨S_, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x16, .f32⟩
  | .hbm, ⟨43, _⟩ => ⟨S4096x16, .i1⟩
  | .hbm, ⟨44, _⟩ => ⟨S_, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S_, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S_, .f32⟩
  | .hbm, ⟨56, _⟩ => ⟨S4096x16, .f32⟩
  | .hbm, ⟨57, _⟩ => ⟨S_, .f32⟩
  | .hbm, ⟨58, _⟩ => ⟨S_, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S_, .f32⟩
  | .hbm, ⟨64, _⟩ => ⟨S16, .f32⟩
  | .hbm, ⟨65, _⟩ => ⟨S1x16, .f32⟩
  | .hbm, ⟨66, _⟩ => ⟨S4096x32, .f32⟩
  | .hbm, ⟨67, _⟩ => ⟨S4096x32, .bf16⟩
  | .hbm, ⟨68, _⟩ => ⟨S_, .i32⟩
  | .hbm, ⟨69, _⟩ => ⟨S_, .bf16⟩
  | .hbm, ⟨70, _⟩ => ⟨S4096x5760, .bf16⟩
  | .hbm, ⟨71, _⟩ => ⟨S_, .i32⟩
  | .hbm, ⟨72, _⟩ => ⟨S_, .f32⟩
  | .hbm, ⟨73, _⟩ => ⟨S1x128, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_call2_call0_cst : Ref sig .tc := ⟨.hbm, 57, rfl⟩
abbrev main_call2_call0_v0 : Ref sig .tc := ⟨.hbm, 58, rfl⟩
abbrev main_v4 : Ref sig .tc := ⟨.hbm, 59, rfl⟩
abbrev main_call3_v0 : Ref sig .tc := ⟨.hbm, 60, rfl⟩
abbrev main_call3_v1 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_c : Ref sig .tc := ⟨.hbm, 68, rfl⟩
abbrev main_call4_v0 : Ref sig .tc := ⟨.hbm, 69, rfl⟩
abbrev main_v10 : Ref sig .tc := ⟨.hbm, 70, rfl⟩
abbrev main_c_0 : Ref sig .tc := ⟨.hbm, 71, rfl⟩
abbrev main_call5_v0 : Ref sig .tc := ⟨.hbm, 72, rfl⟩
abbrev main_v11 : Ref sig .tc := ⟨.hbm, 73, rfl⟩

abbrev nD : Nat := 1
abbrev τ : Topo := Topo.v7x

variable {F : FTy → Type} [FloatOps F]
-- ==== AttnF.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩
abbrev S16x4096 : Shape := ⟨2, ![16, 4096]⟩
abbrev S16x4096x1 : Shape := ⟨3, ![16, 4096, 1]⟩
abbrev S16x4096x3 : Shape := ⟨3, ![16, 4096, 3]⟩
abbrev S16x4096x58 : Shape := ⟨3, ![16, 4096, 58]⟩
abbrev S16 : Shape := ⟨1, ![16]⟩
abbrev S16x1x1 : Shape := ⟨3, ![16, 1, 1]⟩
abbrev S16x4096x64 : Shape := ⟨3, ![16, 4096, 64]⟩
abbrev S4096x16x64 : Shape := ⟨3, ![4096, 16, 64]⟩
abbrev S16x4096x128 : Shape := ⟨3, ![16, 4096, 128]⟩
abbrev S2x1024x128 : Shape := ⟨3, ![2, 1024, 128]⟩
abbrev S2x4096x128 : Shape := ⟨3, ![2, 4096, 128]⟩
abbrev S4096x128 : Shape := ⟨2, ![4096, 128]⟩
abbrev S1024x128 : Shape := ⟨2, ![1024, 128]⟩
abbrev S1024x1024 : Shape := ⟨2, ![1024, 1024]⟩
abbrev S1x1024x128 : Shape := ⟨3, ![1, 1024, 128]⟩
abbrev S1024x1 : Shape := ⟨2, ![1024, 1]⟩
abbrev S1024 : Shape := ⟨1, ![1024]⟩

abbrev nBuf : Space → Nat
  | .hbm => 92
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .i1⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S_, .f32⟩
  | .hbm, ⟨24, _⟩ => ⟨S_, .f32⟩
  | .hbm, ⟨25, _⟩ => ⟨S4096x16, .f32⟩
  | .hbm, ⟨26, _⟩ => ⟨S16x4096, .f32⟩
  | .hbm, ⟨27, _⟩ => ⟨S16x4096, .bf16⟩
  | .hbm, ⟨28, _⟩ => ⟨S16x4096, .f32⟩
  | .hbm, ⟨29, _⟩ => ⟨S16x4096, .f32⟩
  | .hbm, ⟨30, _⟩ => ⟨S16x4096, .bf16⟩
  | .hbm, ⟨31, _⟩ => ⟨S16x4096, .f32⟩
  | .hbm, ⟨32, _⟩ => ⟨S16x4096, .f32⟩
  | .hbm, ⟨33, _⟩ => ⟨S16x4096, .bf16⟩
  | .hbm, ⟨34, _⟩ => ⟨S16x4096x1, .bf16⟩
  | .hbm, ⟨35, _⟩ => ⟨S16x4096x1, .bf16⟩
  | .hbm, ⟨36, _⟩ => ⟨S16x4096x1, .bf16⟩
  | .hbm, ⟨37, _⟩ => ⟨S16x4096x3, .bf16⟩
  | .hbm, ⟨38, _⟩ => ⟨S_, .bf16⟩
  | .hbm, ⟨39, _⟩ => ⟨S16x4096x3, .bf16⟩
  | .hbm, ⟨40, _⟩ => ⟨S_, .bf16⟩
  | .hbm, ⟨41, _⟩ => ⟨S16x4096x58, .bf16⟩
  | .hbm, ⟨42, _⟩ => ⟨S16, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S16, .i32⟩
  | .hbm, ⟨53, _⟩ => ⟨S16, .i1⟩
  | .hbm, ⟨54, _⟩ => ⟨S_, .i32⟩
  | .hbm, ⟨55, _⟩ => ⟨S16, .i32⟩
  | .hbm, ⟨56, _⟩ => ⟨S16, .i1⟩
  | .hbm, ⟨57, _⟩ => ⟨S_, .i32⟩
  | .hbm, ⟨58, _⟩ => ⟨S_, .i1⟩
  | .hbm, ⟨59, _⟩ => ⟨S16, .i1⟩
  | .hbm, ⟨60, _⟩ => ⟨S16, .i1⟩
  | .hbm, ⟨61, _⟩ => ⟨S16, .i1⟩
  | .hbm, ⟨62, _⟩ => ⟨S16, .i32⟩
  | .hbm, ⟨63, _⟩ => ⟨S16, .i32⟩
  | .hbm, ⟨64, _⟩ => ⟨S16, .i32⟩
  | .hbm, ⟨65, _⟩ => ⟨S_, .i32⟩
  | .hbm, ⟨66, _⟩ => ⟨S16, .i32⟩
  | .hbm, ⟨67, _⟩ => ⟨S16, .i1⟩
  | .hbm, ⟨68, _⟩ => ⟨S16x1x1, .i1⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S16x4096x64, .bf16⟩
  | .hbm, ⟨73, _⟩ => ⟨S4096x1024, .bf16⟩
  | .hbm, ⟨74, _⟩ => ⟨S4096x16x64, .bf16⟩
  | .hbm, ⟨75, _⟩ => ⟨S16x4096x64, .bf16⟩
  | .hbm, ⟨76, _⟩ => ⟨S16x4096x128, .bf16⟩
  | .hbm, ⟨77, _⟩ => ⟨S16x4096x128, .bf16⟩
  | .hbm, ⟨78, _⟩ => ⟨S16x4096x128, .i1⟩
  | .hbm, ⟨79, _⟩ => ⟨S16x4096x128, .bf16⟩
  | .hbm, ⟨80, _⟩ => ⟨S16x4096x3, .bf16⟩
  | .hbm, ⟨81, _⟩ => ⟨S16x4096x64, .bf16⟩
  | .hbm, ⟨82, _⟩ => ⟨S4096x1024, .bf16⟩
  | .hbm, ⟨83, _⟩ => ⟨S4096x16x64, .bf16⟩
  | .hbm, ⟨84, _⟩ => ⟨S16x4096x64, .bf16⟩
  | .hbm, ⟨85, _⟩ => ⟨S16x4096x128, .bf16⟩
  | .hbm, ⟨86, _⟩ => ⟨S16x4096x128, .bf16⟩
  | .hbm, ⟨87, _⟩ => ⟨S16x4096x128, .i1⟩
  | .hbm, ⟨88, _⟩ => ⟨S16x4096x128, .bf16⟩
  | .hbm, ⟨89, _⟩ => ⟨S4096x1024, .bf16⟩
  | .hbm, ⟨90, _⟩ => ⟨S4096x1024, .f32⟩
  | .hbm, ⟨91, _⟩ => ⟨S4096x1024, .f32⟩
  | .local _ .vmem, ⟨0, _⟩ => ⟨S2x1024x128, .bf16⟩
  | .local _ .vmem, ⟨1, _⟩ => ⟨S2x1024x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v2 : Ref sig .tc := ⟨.hbm, 22, rfl⟩
abbrev main_call1_call0_cst : Ref sig .tc := ⟨.hbm, 23, rfl⟩
abbrev main_call1_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_cst_0 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v19 : Ref sig .tc := ⟨.hbm, 64, rfl⟩
abbrev main_c_1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_call3_v0 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_call4_v0 : Ref sig .tc := ⟨.hbm, 87, rfl⟩
abbrev main_v39 : Ref sig .tc := ⟨.hbm, 88, rfl⟩
abbrev main_v40 : Ref sig .tc := ⟨.hbm, 89, rfl⟩
abbrev main_v41_0 : Ref sig .tc := ⟨.hbm, 90, rfl⟩
abbrev main_v41_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_6 : BitVec 32 := 1#32
  ⟨c0_i32, v16, c1_i32_6⟩
def k0_mult1 (i : grid0.Coords) (k0_t1 : Fin (k0_t1_loop i).trips) : BitVec 32 :=
  let c0_i32 : BitVec 32 := 0#32
  let c1_i32_6 : BitVec 32 := 1#32
  let arg7 : BitVec 32 := Scf.iv c0_i32 c1_i32_6 k0_t1
  let c1024_i32_27 : BitVec 32 := 1024#32
  let v88 : BitVec 32 := Scalar.muli arg7 c1024_i32_27
  v88
def k0_off1 (i : grid0.Coords) (k0_t1 : Fin (k0_t1_loop i).trips) : Fin 2 → Nat :=
  let c0_i32 : BitVec 32 := 0#32
  let c1_i32_6 : BitVec 32 := 1#32
  let arg7 : BitVec 32 := Scf.iv c0_i32 c1_i32_6 k0_t1
  let c1024_i32_27 : BitVec 32 := 1024#32
  let v88 : BitVec 32 := Scalar.muli arg7 c1024_i32_27
  let v89 : BitVec 32 := v88
  let v90 : Index := Scalar.indexCast v89
  let c0_28 : Index := 0#32
  ![v90.toNat, 0]
def k0_off2 (i : grid0.Coords) (k0_t1 : Fin (k0_t1_loop i).trips) : Fin 3 → Nat :=
  let c0_29 : Index := 0#32
  let c0_i32 : BitVec 32 := 0#32
  let c1_i32_6 : BitVec 32 := 1#32
  let arg7 : BitVec 32 := Scf.iv c0_i32 c1_i32_6 k0_t1
  let c1024_i32_27 : BitVec 32 := 1024#32
  let v88 : BitVec 32 := Scalar.muli arg7 c1024_i32_27
  let v89 : BitVec 32 := v88
  let v93 : Index := Scalar.indexCast v89
  let c0_30 : Index := 0#32
  ![0, v93.toNat, 0]
def k0_off3 (i : grid0.Coords) (k0_t1 : Fin (k0_t1_loop i).trips) : Fin 3 → Nat :=
  let c1_35 : Index := 1#32
  let c0_i32 : BitVec 32 := 0#32
  let c1_i32_6 : BitVec 32 := 1#32
  let arg7 : BitVec 32 := Scf.iv c0_i32 c1_i32_6 k0_t1
  let c1024_i32_27 : BitVec 32 := 1024#32
  let v88 : BitVec 32 := Scalar.muli arg7 c1024_i32_27
  let v89 : BitVec 32 := v88
  let v114 : Index := Scalar.indexCast v89
  let c0_36 : Index := 0#32
  ![1, v114.toNat, 0]
@[reducible] def k0_t2_loop (i : grid0.Coords) : Scf.Loop 32 :=
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_7 : BitVec 32 := 1#32
  ⟨v16, v13, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_7 : BitVec 32 := 1#32
  let arg7 : BitVec 32 := Scf.iv v16 c1_i32_7 k0_t2
  let c1024_i32_27 : BitVec 32 := 1024#32
  let v88 : BitVec 32 := Scalar.muli arg7 c1024_i32_27
  v88
def k0_off4 (i : grid0.Coords) (k0_t2 : Fin (k0_t2_loop i).trips) : Fin 2 → Nat :=
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_7 : BitVec 32 := 1#32
  let arg7 : BitVec 32 := Scf.iv v16 c1_i32_7 k0_t2
  let c1024_i32_27 : BitVec 32 := 1024#32
  let v88 : BitVec 32 := Scalar.muli arg7 c1024_i32_27
  let v89 : BitVec 32 := v88
  let v90 : Index := Scalar.indexCast v89
  let c0_28 : Index := 0#32
  ![v90.toNat, 0]
def k0_off5 (i : grid0.Coords) (k0_t2 : Fin (k0_t2_loop i).trips) : Fin 3 → Nat :=
  let c0_29 : Index := 0#32
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_7 : BitVec 32 := 1#32
  let arg7 : BitVec 32 := Scf.iv v16 c1_i32_7 k0_t2
  let c1024_i32_27 : BitVec 32 := 1024#32
  let v88 : BitVec 32 := Scalar.muli arg7 c1024_i32_27
  let v89 : BitVec 32 := v88
  let v93 : Index := Scalar.indexCast v89
  let c0_30 : Index := 0#32
  ![0, v93.toNat, 0]
def k0_off6 (i : grid0.Coords) (k0_t2 : Fin (k0_t2_loop i).trips) : Fin 3 → Nat :=
  let c1_35 : Index := 1#32
  let c0_i32 : BitVec 32 := 0#32
  let arg1 : BitVec 32 := BitVec.ofNat 32 (i 1).val
  let v12 : BitVec 32 := Scalar.subi arg1 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_7 : BitVec 32 := 1#32
  let arg7 : BitVec 32 := Scf.iv v16 c1_i32_7 k0_t2
  let c1024_i32_27 : BitVec 32 := 1024#32
  let v88 : BitVec 32 := Scalar.muli arg7 c1024_i32_27
  let v89 : BitVec 32 := v88
  let v114 : Index := Scalar.indexCast v89
  let c0_36 : Index := 0#32
  ![1, v114.toNat, 0]
def k0_mult3 (i : grid0.Coords) : BitVec 32 :=
  let arg1 : BitVec 32 := BitVec.ofNat 32 (i 1).val
  let c1024_i32 : BitVec 32 := 1024#32
  let v19 : BitVec 32 := Scalar.muli arg1 c1024_i32
  v19
def k0_off7 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v21 : Index := Scalar.indexCast v20
  let c0_8 : Index := 0#32
  ![v21.toNat, 0]
def k0_off8 (i : grid0.Coords) : Fin 3 → Nat :=
  let c0_9 : Index := 0#32
  let arg1 : BitVec 32 := BitVec.ofNat 32 (i 1).val
  let c1024_i32 : BitVec 32 := 1024#32
  let v19 : BitVec 32 := Scalar.muli arg1 c1024_i32
  let v20 : BitVec 32 := v19
  let v24 : Index := Scalar.indexCast v20
  let c0_10 : Index := 0#32
  ![0, v24.toNat, 0]
def k0_off9 (i : grid0.Coords) : Fin 3 → Nat :=
  let c1_16 : Index := 1#32
  let arg1 : BitVec 32 := BitVec.ofNat 32 (i 1).val
  let c1024_i32 : BitVec 32 := 1024#32
  let v19 : BitVec 32 := Scalar.muli arg1 c1024_i32
  let v20 : BitVec 32 := v19
  let v48 : Index := Scalar.indexCast v20
  let c0_17 : Index := 0#32
  ![1, v48.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFIdeal.lean ====
variable {F : FTy → Type} [FloatOps F] [Named F]
def κ : String → Option EReal := fun
  | "mask" => some ⊥
  | _ => none
-- ==== AttnFRefIdeal.lean ====
abbrev S4096x1024 : Shape := ⟨2, ![4096, 1024]⟩
abbrev S4096x16 : Shape := ⟨2, ![4096, 16]⟩
abbrev S1x16 : Shape := ⟨2, ![1, 16]⟩
abbrev S_ : Shape := ⟨0, ![]⟩
abbrev S4096x16x64 : Shape := ⟨3, ![4096, 16, 64]⟩
abbrev S16x4096x4096 : Shape := ⟨3, ![16, 4096, 4096]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x16, .f32⟩
  | .hbm, ⟨4, _⟩ => ⟨S1x16, .f32⟩
  | .hbm, ⟨5, _⟩ => ⟨S4096x16, .f32⟩
  | .hbm, ⟨6, _⟩ => ⟨S4096x16, .f32⟩
  | .hbm, ⟨7, _⟩ => ⟨S4096x16, .f32⟩
  | .hbm, ⟨8, _⟩ => ⟨S_, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S4096x16, .f32⟩
  | .hbm, ⟨13, _⟩ => ⟨S4096x16, .i1⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S_, .f32⟩
  | .hbm, ⟨24, _⟩ => ⟨S_, .f32⟩
  | .hbm, ⟨25, _⟩ => ⟨S4096x16, .f32⟩
  | .hbm, ⟨26, _⟩ => ⟨S4096x16x64, .f32⟩
  | .hbm, ⟨27, _⟩ => ⟨S4096x16x64, .f32⟩
  | .hbm, ⟨28, _⟩ => ⟨S16x4096x4096, .f32⟩
  | .hbm, ⟨29, _⟩ => ⟨S_, .f32⟩
  | .hbm, ⟨30, _⟩ => ⟨S16x4096x4096, .f32⟩
  | .hbm, ⟨31, _⟩ => ⟨S16x4096x4096, .f32⟩
  | .hbm, ⟨32, _⟩ => ⟨S16x4096, .f32⟩
  | .hbm, ⟨33, _⟩ => ⟨S16x4096x1, .f32⟩
  | .hbm, ⟨34, _⟩ => ⟨S16x4096, .f32⟩
  | .hbm, ⟨35, _⟩ => ⟨S16x1x4096, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S4096, .i32⟩
  | .hbm, ⟨41, _⟩ => ⟨S4096x1, .i32⟩
  | .hbm, ⟨42, _⟩ => ⟨S4096, .i32⟩
  | .hbm, ⟨43, _⟩ => ⟨S1x4096, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S16x4096x4096, .i1⟩
  | .hbm, ⟨50, _⟩ => ⟨S16x4096x4096, .f32⟩
  | .hbm, ⟨51, _⟩ => ⟨S16x4096x4096, .f32⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096x1, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S_, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S4096x16x64, .f32⟩
  | .hbm, ⟨67, _⟩ => ⟨S16x64x4096, .f32⟩
  | .hbm, ⟨68, _⟩ => ⟨S4096x16x64, .f32⟩
  | .hbm, ⟨69, _⟩ => ⟨S4096x1024, .f32⟩
  | .hbm, ⟨70, _⟩ => ⟨S_, .f32⟩
  | .hbm, ⟨71, _⟩ => ⟨S16x4096, .f32⟩
  | .hbm, ⟨72, _⟩ => ⟨S16x4096x1, .f32⟩
  | .hbm, ⟨73, _⟩ => ⟨S16x4096x4096, .f32⟩
  | .hbm, ⟨74, _⟩ => ⟨S16x4096x4096, .f32⟩
  | .hbm, ⟨75, _⟩ => ⟨S16x4096x4096, .f32⟩
  | .hbm, ⟨76, _⟩ => ⟨S_, .f32⟩
  | .hbm, ⟨77, _⟩ => ⟨S16x4096, .f32⟩
  | .hbm, ⟨78, _⟩ => ⟨S16x4096, .f32⟩
  | .hbm, ⟨79, _⟩ => ⟨S16x4096, .f32⟩
  | .hbm, ⟨80, _⟩ => ⟨S4096x16, .f32⟩
  | .hbm, ⟨81, _⟩ => ⟨S4096x16x64, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v2 : Ref sig .tc := ⟨.hbm, 22, rfl⟩
abbrev main_call1_call0_cst : Ref sig .tc := ⟨.hbm, 23, rfl⟩
abbrev main_call1_call0_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]
-- ==== Mod1.lean ====
abbrev S4096x1024 : Shape := ⟨2, ![4096, 1024]⟩
abbrev S1x1024 : Shape := ⟨2, ![1, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Mod1RefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FFIn.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S4096x4096, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FFInRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .f32⟩
  | .hbm, ⟨9, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ModPart.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩
abbrev S1024x512 : Shape := ⟨2, ![1024, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModPartRefIdeal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Opt.lean ====
abbrev S1x1024x1536 : Shape := ⟨3, ![1, 1024, 1536]⟩
abbrev S1024x1536 : Shape := ⟨2, ![1024, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .hbm, ⟨7, _⟩ => ⟨S1x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OptRefIdeal.lean ====
abbrev S1x1024x1536 : Shape := ⟨3, ![1, 1024, 1536]⟩
abbrev S1024x1536 : Shape := ⟨2, ![1024, 1536]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1024x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S_, .f32⟩
  | .hbm, ⟨6, _⟩ => ⟨S1x1024x1536, .f32⟩
  | .hbm, ⟨7, _⟩ => ⟨S1x1024x1536, .f32⟩
  | .hbm, ⟨8, _⟩ => ⟨S_, .f32⟩
  | .hbm, ⟨9, _⟩ => ⟨S1x1024x1536, .f32⟩
  | .hbm, ⟨10, _⟩ => ⟨S1x1024x1536, .f32⟩
  | .hbm, ⟨11, _⟩ => ⟨S1x1024x1536, .f32⟩
  | .hbm, ⟨12, _⟩ => ⟨S_, .f32⟩
  | .hbm, ⟨13, _⟩ => ⟨S1x1024x1536, .f32⟩
  | .hbm, ⟨14, _⟩ => ⟨S1x1024x1536, .f32⟩
  | .hbm, ⟨15, _⟩ => ⟨S1x1024x1536, .f32⟩
  | .hbm, ⟨16, _⟩ => ⟨S_, .f32⟩
  | .hbm, ⟨17, _⟩ => ⟨S1x1024x1536, .f32⟩
  | .hbm, ⟨18, _⟩ => ⟨S1x1024x1536, .f32⟩
  | .hbm, ⟨19, _⟩ => ⟨S1x1024x1536, .f32⟩
  | .hbm, ⟨20, _⟩ => ⟨S_, .f32⟩
  | .hbm, ⟨21, _⟩ => ⟨S1x1024x1536, .f32⟩
  | .hbm, ⟨22, _⟩ => ⟨S1x1024x1536, .f32⟩
  | .hbm, ⟨23, _⟩ => ⟨S_, .f32⟩
  | .hbm, ⟨24, _⟩ => ⟨S1x1024x1536, .f32⟩
  | .hbm, ⟨25, _⟩ => ⟨S1x1024x1536, .f32⟩
  | .hbm, ⟨26, _⟩ => ⟨S1x1024x1536, .f32⟩
  | .hbm, ⟨27, _⟩ => ⟨S_, .f32⟩
  | .hbm, ⟨28, _⟩ => ⟨S1x1024x1536, .f32⟩
  | .hbm, ⟨29, _⟩ => ⟨S1x1024x1536, .f32⟩
  | .hbm, ⟨30, _⟩ => ⟨S1x1024x1536, .f32⟩
  | .hbm, ⟨31, _⟩ => ⟨S_, .f32⟩
  | .hbm, ⟨32, _⟩ => ⟨S1x1024x1536, .f32⟩
  | .hbm, ⟨33, _⟩ => ⟨S1x1024x1536, .f32⟩
  | .hbm, ⟨34, _⟩ => ⟨S1x1024x1536, .f32⟩
  | .hbm, ⟨35, _⟩ => ⟨S_, .f32⟩
  | .hbm, ⟨36, _⟩ => ⟨S1x1024x1536, .f32⟩
  | .hbm, ⟨37, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== OptConv.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== OptConvRefIdeal.lean ====
abbrev S1x4x384 : Shape := ⟨3, ![1, 4, 384]⟩
abbrev S4x384 : Shape := ⟨2, ![4, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S_, .f32⟩
  | .hbm, ⟨6, _⟩ => ⟨S1x4x384, .f32⟩
  | .hbm, ⟨7, _⟩ => ⟨S1x4x384, .f32⟩
  | .hbm, ⟨8, _⟩ => ⟨S_, .f32⟩
  | .hbm, ⟨9, _⟩ => ⟨S1x4x384, .f32⟩
  | .hbm, ⟨10, _⟩ => ⟨S1x4x384, .f32⟩
  | .hbm, ⟨11, _⟩ => ⟨S1x4x384, .f32⟩
  | .hbm, ⟨12, _⟩ => ⟨S_, .f32⟩
  | .hbm, ⟨13, _⟩ => ⟨S1x4x384, .f32⟩
  | .hbm, ⟨14, _⟩ => ⟨S1x4x384, .f32⟩
  | .hbm, ⟨15, _⟩ => ⟨S1x4x384, .f32⟩
  | .hbm, ⟨16, _⟩ => ⟨S_, .f32⟩
  | .hbm, ⟨17, _⟩ => ⟨S1x4x384, .f32⟩
  | .hbm, ⟨18, _⟩ => ⟨S1x4x384, .f32⟩
  | .hbm, ⟨19, _⟩ => ⟨S1x4x384, .f32⟩
  | .hbm, ⟨20, _⟩ => ⟨S_, .f32⟩
  | .hbm, ⟨21, _⟩ => ⟨S1x4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S1x4x384, .f32⟩
  | .hbm, ⟨27, _⟩ => ⟨S_, .f32⟩
  | .hbm, ⟨28, _⟩ => ⟨S1x4x384, .f32⟩
  | .hbm, ⟨29, _⟩ => ⟨S1x4x384, .f32⟩
  | .hbm, ⟨30, _⟩ => ⟨S1x4x384, .f32⟩
  | .hbm, ⟨31, _⟩ => ⟨S_, .f32⟩
  | .hbm, ⟨32, _⟩ => ⟨S1x4x384, .f32⟩
  | .hbm, ⟨33, _⟩ => ⟨S1x4x384, .f32⟩
  | .hbm, ⟨34, _⟩ => ⟨S1x4x384, .f32⟩
  | .hbm, ⟨35, _⟩ => ⟨S_, .f32⟩
  | .hbm, ⟨36, _⟩ => ⟨S1x4x384, .f32⟩
  | .hbm, ⟨37, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proj.lean ====
abbrev S4096x1024 : Shape := ⟨2, ![4096, 1024]⟩
abbrev S5760x1024 : Shape := ⟨2, ![5760, 1024]⟩
abbrev S4096x5760 : Shape := ⟨2, ![4096, 5760]⟩
abbrev S1024x1024 : Shape := ⟨2, ![1024, 1024]⟩
abbrev S1152x1024 : Shape := ⟨2, ![1152, 1024]⟩
abbrev S1024x1152 : Shape := ⟨2, ![1024, 1152]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S5760x1024, .f32⟩
  | .hbm, ⟨2, _⟩ => ⟨S4096x1024, .bf16⟩
  | .hbm, ⟨3, _⟩ => ⟨S5760x1024, .bf16⟩
  | .hbm, ⟨4, _⟩ => ⟨S4096x5760, .f32⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S5760x1024 : Shape := ⟨2, ![5760, 1024]⟩
abbrev S4096x5760 : Shape := ⟨2, ![4096, 5760]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5760x1024, .f32⟩
  | .hbm, ⟨2, _⟩ => ⟨S4096x5760, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DyMix.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyMixRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwFo.lean ====
abbrev S4096x4096 : Shape := ⟨2, ![4096, 4096]⟩
abbrev S4096x1024 : Shape := ⟨2, ![4096, 1024]⟩
abbrev S4x1024x1024 : Shape := ⟨3, ![4, 1024, 1024]⟩
abbrev S1024x4096 : Shape := ⟨2, ![1024, 4096]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .hbm, ⟨5, _⟩ => ⟨S4x1024x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFoRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | .hbm, ⟨8, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwFi.lean ====
abbrev S4096x1024 : Shape := ⟨2, ![4096, 1024]⟩
abbrev S4096x4096 : Shape := ⟨2, ![4096, 4096]⟩
abbrev S1024x4096 : Shape := ⟨2, ![1024, 4096]⟩
abbrev S4x1024x1024 : Shape := ⟨3, ![4, 1024, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S4x1024x1024, .bf16⟩
  | .local _ .vmem, ⟨0, _⟩ => ⟨S1024x4096, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFiRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x2048 : Shape := ⟨2, ![4096, 2048]⟩
abbrev S4096x1024 : Shape := ⟨2, ![4096, 1024]⟩
abbrev S4x512x1024 : Shape := ⟨3, ![4, 512, 1024]⟩
abbrev S4096x512 : Shape := ⟨2, ![4096, 512]⟩
abbrev S1x512x1024 : Shape := ⟨3, ![1, 512, 1024]⟩
abbrev S8x128 : Shape := ⟨2, ![8, 128]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .hbm, ⟨3, _⟩ => ⟨S4096x1024, .bf16⟩
  | .hbm, ⟨4, _⟩ => ⟨S4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | .hbm, ⟨8, _⟩ => ⟨S4x512x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x5760 : Shape := ⟨2, ![4096, 5760]⟩
abbrev S4096x1024 : Shape := ⟨2, ![4096, 1024]⟩
abbrev S5760x1024 : Shape := ⟨2, ![5760, 1024]⟩
abbrev S4096x1152 : Shape := ⟨2, ![4096, 1152]⟩
abbrev S1152x1024 : Shape := ⟨2, ![1152, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x5760, .f32⟩
  | .hbm, ⟨1, _⟩ => ⟨S4096x1024, .f32⟩
  | .hbm, ⟨2, _⟩ => ⟨S4096x5760, .bf16⟩
  | .hbm, ⟨3, _⟩ => ⟨S4096x1024, .bf16⟩
  | .hbm, ⟨4, _⟩ => ⟨S5760x1024, .bf16⟩
  | .local _ .vmem, ⟨0, _⟩ => ⟨S4096x1152, .bf16⟩
  | .local _ .vmem, ⟨1, _⟩ => ⟨S4096x1152, .bf16⟩
  | .local _ .vmem, ⟨2, _⟩ => ⟨S4096x1024, .bf16⟩
  | .local _ .vmem, ⟨3, _⟩ => ⟨S1152x1024, .bf16⟩
  | .local _ .vmem, ⟨4, _⟩ => ⟨S1152x1024, .bf16⟩
  | .local _ .vmem, ⟨5, _⟩ => ⟨S8x128, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x5760 : Shape := ⟨2, ![4096, 5760]⟩
abbrev S4096x1024 : Shape := ⟨2, ![4096, 1024]⟩
abbrev S_ : Shape := ⟨0, ![]⟩
abbrev S5760x1024 : Shape := ⟨2, ![5760, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x5760, .f32⟩
  | .hbm, ⟨1, _⟩ => ⟨S4096x1024, .f32⟩
  | .hbm, ⟨2, _⟩ => ⟨S_, .f32⟩
  | .hbm, ⟨3, _⟩ => ⟨S5760x1024, .f32⟩
  | .hbm, ⟨4, _⟩ => ⟨S4096x5760, .f32⟩
  | .hbm, ⟨5, _⟩ => ⟨S5760x1024, .f32⟩
  | .hbm, ⟨6, _⟩ => ⟨S5760x1024, .bf16⟩
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.AdaVal.lean ====
/- The gradient of the modulation weight: the array the kernel leaves is the reference's term of the two arguments. -/
module

public import proofs.«01_k».proof.Proof.Gen.AdaIdeal.Frame
public import proofs.«01_k».proof.Proof.Gen.AdaRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Grad

open Cert.AdaIdeal Cert.AdaIdeal.Gen

variable (m : (ℓ : Loc nD τ sig) → Buf (Elt Ideal) ℓ)

/-- The reference's result as a function of its two arguments. -/
def ref (c : FVec Ideal Cert.AdaRefIdeal.S8x1024 .f32) (d : FVec Ideal Cert.AdaRefIdeal.S8x1536 .f32) :
    FVec Ideal Cert.AdaRefIdeal.S1024x1536 .f32 :=
  transpose Cert.AdaRefIdeal.S1024x1536 [1, 0] (Host.dotGeneral Cert.AdaRefIdeal.dot_S8x1536_S8x1024_S1536x1024_0_0_1_1_n_n none d (mulf c (Host.divf (broadcastInDim Cert.AdaRefIdeal.S8x1024 ![] Cert.AdaRefIdeal.Gen.bcast_S_S8x1024 (constant Cert.AdaRefIdeal.S_ .f32 0x3F800000#32)) (addf (broadcastInDim Cert.AdaRefIdeal.S8x1024 ![] Cert.AdaRefIdeal.Gen.bcast_S_S8x1024 (constant Cert.AdaRefIdeal.S_ .f32 0x3F800000#32)) (Host.exp (Host.negf c)))))) Cert.AdaRefIdeal.Gen.transposes_S1536x1024_S1024x1536_1_0

/-- Each window's block index at each grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at a block index is the reference at the array index where it lies. -/
theorem point (c : Dev nD) (t : Fin cfg0.N) (y) :
    k0_pay1 (k0_pay2 (iblk m c 0 t)) (k0_pay3 (iblk m c 0 t) (View.ld (iblk m c 1 t) r0_1) (View.ld (iblk m c 1 t)
      r0_2) (View.ld (iblk m c 1 t) r0_3) (View.ld (iblk m c 1 t) r0_4) (View.ld (iblk m c 1 t) r0_5)) (View.ld (iblk m
      c 1 t) r0_6) (k0_pay4 (iblk m c 0 t)) (View.ld (iblk m c 1 t) r0_7) (View.ld (iblk m c 1 t) r0_8) y
      = ref (m ((c : Thread nD τ).loc main_arg0)) (m ((c : Thread nD τ).loc main_arg1)) (((cfg0.win 2).blk t).view.emb
        y) := by
  pointwise [k0_pay1, k0_pay2, k0_pay3, k0_pay4, ref]
  rw [Fin.sum_univ_eight]
  simp only [zero_sub]
  blk_point [iblk, V, idx t]

/-- The result array after the run. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.AdaIdeal.Grad

end
-- ==== Proof.Real.lean ====
module
public import Idealize.ShloMosaic.Lib.ReduceAll
public import Idealize.ShloMosaic.Lib.IdealHost
public import Idealize.ShloMosaic.Lib.Pointwise
@[expose] public section

/-! Finite arrays: arguments that a precondition says are finite are arrays of reals, and the operations on
    reals stay in the reals. -/

noncomputable section
open Idealize.ShloMosaic

namespace Cert.Real

/-- a sum of reals -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- a quotient of reals with a divisor that is not zero -/
theorem div_real {b : ℝ} (h : b ≠ 0) (a : ℝ) : Ideal.div (a : EReal) (b : EReal) = ((a / b : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem max_real (a b : ℝ) : max (a : EReal) (b : EReal) = ((max a b : ℝ) : EReal) :=
  (EReal.coe_strictMono.monotone.map_max).symm

theorem zero_real : (0 : EReal) = ((0 : ℝ) : EReal) := rfl
theorem one_real : (1 : EReal) = ((1 : ℝ) : EReal) := rfl

/-- the pattern of 1024 -/
theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
/-- the norms' small constant -/
def eps : ℝ := 10995116 / 2 ^ 40
theorem eps_pos : 0 < eps := by unfold eps; norm_num
theorem word_eps : Ideal.ofBits .f32 0x3727C5AC#32 = ((eps : ℝ) : EReal) := by
  simp [Ideal.ofBits, Ideal.ieee, -EReal.coe_mul, eps]; norm_num
theorem word_inf : Ideal.ofBits .f32 0x7F800000#32 = ⊤ := by
  simp [Ideal.ofBits, Ideal.ieee]
theorem word_neg_inf : Ideal.ofBits .f32 0xFF800000#32 = ⊥ := by
  simp [Ideal.ofBits, Ideal.ieee]

theorem div_1024 (a : ℝ) : Ideal.div (a : EReal) ((1024 : ℝ) : EReal) = ((a / 1024 : ℝ) : EReal) := div_real (by norm_num) a

/-- the mean of squares plus the small constant is positive -/
theorem ms_pos {ι : Type*} [Fintype ι] (f : ι → ℝ) : 0 < (∑ k, f k * f k) / 1024 + eps :=
  add_pos_of_nonneg_of_pos (div_nonneg (Finset.sum_nonneg fun k _ => mul_self_nonneg _) (by norm_num)) eps_pos
theorem rsqrt_ms {ι : Type*} [Fintype ι] (f : ι → ℝ) :
    Ideal.rsqrt (((∑ k, f k * f k) / 1024 + eps : ℝ) : EReal) = (((Real.sqrt ((∑ k, f k * f k) / 1024 + eps))⁻¹ : ℝ) : EReal) :=
  rsqrt_real (ms_pos f)
theorem div_ms {ι : Type*} [Fintype ι] (f : ι → ℝ) (a : ℝ) :
    Ideal.div (a : EReal) (((∑ k, f k * f k) / 1024 + eps : ℝ) : EReal) = ((a / ((∑ k, f k * f k) / 1024 + eps) : ℝ) : EReal) :=
  div_real (ms_pos f).ne' a
/-- the derivative of the inverse root: its value over its argument is its cube -/
theorem inv_sqrt_div {M : ℝ} (h : 0 < M) : (Real.sqrt M)⁻¹ / M = (Real.sqrt M)⁻¹ * (Real.sqrt M)⁻¹ * (Real.sqrt M)⁻¹ := by
  have e : (Real.sqrt M)⁻¹ * (Real.sqrt M)⁻¹ = M⁻¹ := by rw [← mul_inv, Real.mul_self_sqrt h.le]
  rw [mul_assoc, e, div_eq_mul_inv]

/-- a conjunction of two truth values that is true -/
theorem and_split {s : Shape} (a b : IVec s 1) (i : s.Idx) (h : andi a b i = 1#1) : a i = 1#1 ∧ b i = 1#1 :=
  IntOp.andi_eq_one.1 h

/-- an array whose absolute values are all below infinity is an array of reals -/
theorem exists_real {s t u : Shape} {axes : List (Fin s.rank)} [Subsingleton t.Idx] (a : FVec Ideal s .f32) (w : FVec Ideal s .f32)
    (hw : ∀ i, w i = ⊤) (init : u.Idx → BitVec 1) (h : s.ReducesTo axes t) (hu : 0 < u.numel) (j : t.Idx)
    (e : Host.reduce IntOp.andi (cmpf .olt (Host.absf a) w) init h hu j = 1#1) :
    ∃ A : s.Idx → ℝ, a = fun i => ((A i : ℝ) : EReal) := by
  refine ⟨fun i => (a i).toReal, funext fun i => ?_⟩
  have hi := Host.reduce_andi_all _ _ _ _ j e i
  change Ideal.cmp .olt (max (a i) (-(a i))) (w i) = 1#1 at hi
  rw [hw] at hi
  have hlt : max (a i : EReal) (-(a i)) < ⊤ := by
    by_contra hc
    simp [Ideal.cmp, hc] at hi
  have : a i ≠ ⊤ ∧ a i ≠ ⊥ := by
    constructor <;> intro hc <;> rw [hc] at hlt <;> simp at hlt
  exact (EReal.coe_toReal this.1 this.2).symm

/-- an array of reals as an array of extended reals -/
def up {s : Shape} (X : s.Idx → ℝ) : FVec Ideal s .f32 := fun i => ((X i : ℝ) : EReal)
theorem up_apply {s : Shape} (X : s.Idx → ℝ) (i : s.Idx) : up X i = ((X i : ℝ) : EReal) := rfl

theorem word_inv1024 : Ideal.ofBits .f32 0x3A800000#32 = ((1 / 1024 : ℝ) : EReal) := by
  simp [Ideal.ofBits, Ideal.ieee, -EReal.coe_mul]; norm_num
/-- the residual's factor -/
def alpha : ℝ := 9975792 / 2 ^ 23
theorem word_alpha : Ideal.ofBits .f32 0x3F9837F0#32 = ((alpha : ℝ) : EReal) := by
  simp [Ideal.ofBits, Ideal.ieee, -EReal.coe_mul, alpha]; norm_num

/-! The layer norm of a row, and its gradient. -/

/-- a row less its mean -/
def cen (r : Fin 1024 → ℝ) (k : Fin 1024) : ℝ := r k - (∑ x, r x) / 1024
/-- a row's inverse deviation -/
def dev (r : Fin 1024 → ℝ) : ℝ := (Real.sqrt ((∑ x, cen r x * cen r x) / 1024 + eps))⁻¹
/-- the normed row -/
def nrm (r : Fin 1024 → ℝ) (k : Fin 1024) : ℝ := cen r k * dev r
/-- the gradient of a row through its norm, `g` the gradient of the normed row -/
def lnb (r g : Fin 1024 → ℝ) (k : Fin 1024) : ℝ :=
  dev r * (g k - (∑ x, g x) / 1024 - nrm r k * ((∑ x, g x * nrm r x) / 1024))
theorem sum_cen (r : Fin 1024 → ℝ) : ∑ x, cen r x = 0 := by
  unfold cen
  rw [Finset.sum_sub_distrib, Finset.sum_const, Finset.card_univ, Fintype.card_fin, nsmul_eq_mul]
  push_cast
  ring
/-- the gradient through the deviation and the mean, taken step by step -/
theorem lnb_steps (r g : Fin 1024 → ℝ) (k : Fin 1024) :
    (g k * dev r + (∑ x, cen r x * g x) * (-(1 / 2) * (dev r / ((∑ x, cen r x * cen r x) / 1024 + eps))) / 1024 * (2 * cen r k))
      + ((∑ x, -(g x * dev r))
        + ∑ x, -((∑ y, cen r y * g y) * (-(1 / 2) * (dev r / ((∑ y, cen r y * cen r y) / 1024 + eps))) / 1024 * (2 * cen r x))) / 1024
      = lnb r g k := by
  have e : dev r / ((∑ x, cen r x * cen r x) / 1024 + eps) = dev r * dev r * dev r := inv_sqrt_div (ms_pos _)
  rw [e]
  have e1 : ∑ x, -(g x * dev r) = -((∑ x, g x) * dev r) := by rw [Finset.sum_neg_distrib, Finset.sum_mul]
  have e2 (c : ℝ) : ∑ x, -(c * (2 * cen r x)) = 0 := by
    rw [Finset.sum_neg_distrib, ← Finset.mul_sum, ← Finset.mul_sum, sum_cen]; ring
  have e3 : ∑ x, g x * nrm r x = (∑ x, cen r x * g x) * dev r := by
    rw [Finset.sum_mul]; exact Finset.sum_congr rfl fun x _ => by unfold nrm; ring
  rw [e1, e2]
  unfold lnb
  rw [e3]
  unfold nrm
  ring

end Cert.Real
end
-- ==== Proof.ANormVal.lean ====
module
public import proofs.«01_k».proof.Proof.Gen.ANormIdeal.Frame
public import proofs.«01_k».proof.Proof.Gen.ANormIdeal.Value
public import proofs.«01_k».proof.Proof.Gen.ANormRefIdeal.Run
public import Idealize.ShloMosaic.Lib.Pipeline.ValueKit
public import Idealize.ShloMosaic.Lib.Pointwise
public import Idealize.ShloMosaic.Lib.Claim
public import proofs.«01_k».proof.Proof.Real
@[expose] public section
set_option maxRecDepth 16384

noncomputable section
open Idealize.ShloMosaic Idealize.ShloMosaic.TcCoe Idealize.SL.Sem
open Idealize.ShloMosaic.Pipeline (Dat)

namespace Cert.ANormRefIdeal.Plain
open Cert.ANormRefIdeal Cert.ANormRefIdeal.Gen

def v7 (a2 : FVec Ideal S4096x1024 .f32) : FVec Ideal S4096x1 .f32 :=
  Host.rsqrt (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))

def v10 (a2 : FVec Ideal S4096x1024 .f32) : FVec Ideal S4096x1 .f32 :=
  mulf (broadcastInDim S4096x1 ![] bcast_S_S4096x1 (constant S_ .f32 0xBF000000#32)) (Host.divf (v7 a2) (addf (Host.divf (broadcastInDim S4096x1 ![0] bcast_S4096_S4096x1_0 (Host.reduceAdd (mulf a2 a2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))))

def v16 (a0 : FVec Ideal S4096x1024 .f32) (a1 : FVec Ideal S1024x1024 .f32) : FVec Ideal S4096x1024 .f32 :=
  Host.dotGeneral dot_S4096x1024_S1024x1024_S4096x1024_1_1_0_0_n_n none a0 a1

def out1 (a0 : FVec Ideal S4096x1024 .f32) (a1 : FVec Ideal S1024x1024 .f32) (a2 : FVec Ideal S4096x1024 .f32) :=
  shapeCast _ (Host.reduceAdd (mulf (mulf a2 (broadcastInDim S4096x1024 ![0, 1] bcast_S4096x1_S4096x1024_0_1 (v7 a2))) (v16 a0 a1)) (constant S_ .f32 0x00000000#32) reducesTo_S4096x1024_S1024_d0 h_S_) shapeCasts_S1024_S1x1024

def v24 (a0 : FVec Ideal S4096x1024 .f32) (a1 : FVec Ideal S1024x1024 .f32) (a2 : FVec Ideal S4096x1024 .f32) (a3 : FVec Ideal S1x1024 .f32) : FVec Ideal S4096x1 .f32 :=
  shapeCast _ (Host.reduceAdd (mulf a2 (mulf (v16 a0 a1) (broadcastInDim S4096x1024 ![0, 1] bcast_S1x1024_S4096x1024_0_1 a3))) (constant S_ .f32 0x00000000#32) reducesTo_S4096x1024_S4096_d1 h_S_) shapeCasts_S4096_S4096x1

def v31 (a0 : FVec Ideal S4096x1024 .f32) (a1 : FVec Ideal S1024x1024 .f32) (a2 : FVec Ideal S4096x1024 .f32) (a3 : FVec Ideal S1x1024 .f32) : FVec Ideal S4096x1024 .f32 :=
  broadcastInDim S4096x1024 ![0] bcast_S4096_S4096x1024_0 (Host.reduceAdd (Host.divf (mulf (v24 a0 a1 a2 a3) (v10 a2)) (broadcastInDim S4096x1 ![] bcast_S_S4096x1 (constant S_ .f32 0x44800000#32))) (constant S_ .f32 0x00000000#32) reducesTo_S4096x1_S4096_d1 h_S_)

def out0 (a0 : FVec Ideal S4096x1024 .f32) (a1 : FVec Ideal S1024x1024 .f32) (a2 : FVec Ideal S4096x1024 .f32) (a3 : FVec Ideal S1x1024 .f32) : FVec Ideal S4096x1024 .f32 :=
  addf (addf (mulf (mulf (v16 a0 a1) (broadcastInDim S4096x1024 ![0, 1] bcast_S1x1024_S4096x1024_0_1 a3)) (broadcastInDim S4096x1024 ![0, 1] bcast_S4096x1_S4096x1024_0_1 (v7 a2))) (mulf a2 (v31 a0 a1 a2 a3))) (mulf (v31 a0 a1 a2 a3) a2)

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v19) = out1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by rfl), (h c).2.1.trans (by rfl), (h c).2.2⟩) (Value.run (F := Ideal) m ρ)

end Cert.ANormRefIdeal.Plain

namespace Cert.ANormIdeal.Grad
open Cert.ANormIdeal Cert.ANormIdeal.Gen Cert.Real
open Cert.ANormRefIdeal.Plain (out0 out1 v7 v10 v16 v24 v31)
variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

theorem V0 (c : Dev nD) : V m c main_v0 = (truncf .bf16 (m ((c : Thread nD τ).loc main_arg0) : FVec Ideal S4096x1024 .f32) bitsLt_bf16_f32 : FVec Ideal S4096x1024 .bf16) := by
  unfold V; after_results; try rfl
theorem V1 (c : Dev nD) : V m c main_v1 = (truncf .bf16 (m ((c : Thread nD τ).loc main_arg1) : FVec Ideal S1024x1024 .f32) bitsLt_bf16_f32 : FVec Ideal S1024x1024 .bf16) := by
  unfold V; after_results; try rfl

/-- the row of the whole array that row `i` of block `t` is -/
def row (t : Fin cfg0.N) (i : Fin 512) : Fin 4096 := ⟨t.val * 512 + i.val, by have h := t.isLt.trans_eq N_0; omega⟩

variable (D O : S4096x1024.Idx → ℝ) (W : S1024x1024.Idx → ℝ) (N : S1x1024.Idx → ℝ)

/-- the arguments are these arrays of reals -/
structure Args (c : Dev nD) : Prop where
  h0 : m ((c : Thread nD τ).loc main_arg0) = fun i => ((D i : ℝ) : EReal)
  h1 : m ((c : Thread nD τ).loc main_arg1) = fun i => ((W i : ℝ) : EReal)
  h2 : m ((c : Thread nD τ).loc main_arg2) = fun i => ((O i : ℝ) : EReal)
  h3 : m ((c : Thread nD τ).loc main_arg3) = fun i => ((N i : ℝ) : EReal)

variable {m D O W N}
theorem b0 {c : Dev nD} (h : Args m D O W N c) (t : Fin cfg0.N) (i k) : iblk m c 0 t (ix2 i k) = ((D (ix2 (row t i) k) : ℝ) : EReal) := by
  refine (congrFun (V0 m c) _).trans ?_
  have := congrFun h.h0 (((cfg0.win 0).blk t).view.emb (ix2 i k))
  refine this.trans (congrArg (fun x => ((D x : ℝ) : EReal)) ?_)
  blk_ext [idx t]
  rfl
theorem b1 {c : Dev nD} (h : Args m D O W N c) (t : Fin cfg0.N) (i k) : iblk m c 1 t (ix2 i k) = ((W (ix2 i k) : ℝ) : EReal) := by
  refine (congrFun (V1 m c) _).trans ?_
  have := congrFun h.h1 (((cfg0.win 1).blk t).view.emb (ix2 i k))
  refine this.trans (congrArg (fun x => ((W x : ℝ) : EReal)) ?_)
  blk_ext [idx t]
theorem b2 {c : Dev nD} (h : Args m D O W N c) (t : Fin cfg0.N) (i k) : iblk m c 2 t (ix2 i k) = ((O (ix2 (row t i) k) : ℝ) : EReal) := by
  have := congrFun h.h2 (((cfg0.win 2).blk t).view.emb (ix2 i k))
  refine this.trans (congrArg (fun x => ((O x : ℝ) : EReal)) ?_)
  blk_ext [idx t]
  rfl
theorem b3 {c : Dev nD} (h : Args m D O W N c) (t : Fin cfg0.N) (i k) : iblk m c 3 t (ix2 i k) = ((N (ix2 i k) : ℝ) : EReal) := by
  have := congrFun h.h3 (((cfg0.win 3).blk t).view.emb (ix2 i k))
  refine this.trans (congrArg (fun x => ((N x : ℝ) : EReal)) ?_)
  blk_ext [idx t]

variable (D O W N)
/-- the gradient at the normed rows' weight product -/
def G (i : Fin 4096) (k : Fin 1024) : ℝ := ∑ x, D (ix2 i x) * W (ix2 k x)
/-- a row's inverse root mean square -/
def r (i : Fin 4096) : ℝ := (Real.sqrt ((∑ x, O (ix2 i x) * O (ix2 i x)) / 1024 + eps))⁻¹
/-- the gradient of the norm's input -/
def d4 (i : Fin 4096) (k : Fin 1024) : ℝ :=
  r O i * (G D W i k * N (ix2 0 k)) - r O i * r O i * r O i * O (ix2 i k) * ((∑ x, G D W i x * N (ix2 0 x) * O (ix2 i x)) / 1024)
/-- a row's part of the gradient of the norm's weight -/
def d5 (i : Fin 4096) (k : Fin 1024) : ℝ := G D W i k * O (ix2 i k) * r O i

theorem ref4 (i k) : out0 (fun i => ((D i : ℝ) : EReal)) (fun i => ((W i : ℝ) : EReal)) (fun i => ((O i : ℝ) : EReal)) (fun i => ((N i : ℝ) : EReal)) (ix2 i k)
    = ((d4 D O W N i k : ℝ) : EReal) := by
  pointwise [out0, v7, v10, v16, v24, v31]
  simp only [word_1024, word_eps, word_neg_half, ← EReal.coe_mul, sum_coe, div_1024, ← EReal.coe_add, rsqrt_ms, div_ms, Finset.univ_unique,
    Finset.sum_singleton]
  rw [EReal.coe_eq_coe_iff, inv_sqrt_div (ms_pos _)]
  have e : ∑ x, O (ix2 i x) * ((∑ y, D (ix2 i y) * W (ix2 x y)) * N (ix2 0 x)) = ∑ x, G D W i x * N (ix2 0 x) * O (ix2 i x) :=
    Finset.sum_congr rfl fun x _ => mul_comm _ _
  rw [e]
  unfold d4 r
  rw [show (∑ y, D (ix2 i y) * W (ix2 k y)) = G D W i k from rfl]
  ring
theorem ref5 (i k) : out1 (fun i => ((D i : ℝ) : EReal)) (fun i => ((W i : ℝ) : EReal)) (fun i => ((O i : ℝ) : EReal)) (ix2 i k)
    = ((∑ x, d5 D O W x k : ℝ) : EReal) := by
  pointwise [out1, v7, v16]
  simp only [word_1024, word_eps, word_neg_half, ← EReal.coe_mul, sum_coe, div_1024, ← EReal.coe_add, rsqrt_ms]
  rw [EReal.coe_eq_coe_iff]
  refine Finset.sum_congr rfl fun x _ => ?_
  unfold d5 r G
  ring
variable {D O W N}
theorem point4 {c : Dev nD} (h : Args m D O W N c) (t : Fin cfg0.N) (i k) :
    k0_pay5 (iblk m c 0 t) (iblk m c 1 t) (iblk m c 2 t) (iblk m c 3 t) (ix2 i k) = ((d4 D O W N (row t i) k : ℝ) : EReal) := by
  pointwise [k0_pay5, k0_pay3, k0_pay4]
  simp only [b0 h, b1 h, b2 h, b3 h]
  simp only [word_1024, word_eps, word_neg_half, ← EReal.coe_mul, sum_coe, div_1024, ← EReal.coe_add, rsqrt_ms, ← EReal.coe_sub]
  rfl
theorem point5 {c : Dev nD} (h : Args m D O W N c) (t : Fin cfg0.N) (i k) :
    k0_pay6 (iblk m c 0 t) (iblk m c 1 t) (iblk m c 2 t) (ix2 i k) = ((∑ x, d5 D O W (row t x) k : ℝ) : EReal) := by
  pointwise [k0_pay6, k0_pay3, k0_pay4]
  simp only [b0 h, b1 h, b2 h, b3 h]
  simp only [word_1024, word_eps, word_neg_half, ← EReal.coe_mul, sum_coe, div_1024, ← EReal.coe_add, rsqrt_ms, ← EReal.coe_sub]
  rfl

theorem final4 {c : Dev nD} (h : Args m D O W N c) : (dats m 0 c).arrAt 4 (cfgs 0).N
    = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e : ((cfg0.win 4).blk t).view.emb y = ix2 (row t (y 0)) (y 1) := by
    idx_vars y
    blk_ext [idx t]
    rfl
  have p : k0_pay5 (iblk m c 0 t) (iblk m c 1 t) (iblk m c 2 t) (iblk m c 3 t) y = ((d4 D O W N (row t (y 0)) (y 1) : ℝ) : EReal) := by
    idx_vars y
    exact point4 h t _ _
  rw [h.h0, h.h1, h.h2, h.h3, e]
  refine Eq.trans ?_ (ref4 D O W N (row t (y 0)) (y 1)).symm
  blk_simp; rw [after0_4]
  by_cases hc : t.val % 8 = 0
  · rw [outsAt0_A m c t hc]; frame_out; exact p
  · rw [outsAt0_B m c t hc]; frame_out; exact p

theorem hzero (j : S1x1024.Idx) : k0_pay1 (F := Ideal) j = 0 := by
  pointwise! [k0_pay1]
theorem hpay (v35 : FVec Ideal S1x1024 .f32) (v40 : Vec Ideal S1x1024 .f32) (j : S1x1024.Idx) :
    k0_pay2 v35 v40 j = v40 j + v35 j := by
  pointwise [k0_pay2]

theorem final5 {c : Dev nD} (h : Args m D O W N c) : (dats m 0 c).arrAt 5 (cfgs 0).N
    = out1 (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) _
    (fun t h j => by rw [outsAt0_A m c t h]; frame_out; rw [hpay, hzero])
    (fun t h j => by rw [outsAt0_B m c t h]; frame_out; rw [hpay])
    (le_of_eq N_0) t0_7 rfl j, zero_add]
  idx_vars j
  rw [h.h0, h.h1, h.h2]
  refine (Finset.sum_congr rfl fun p _ => point5 h p _ _).trans (Eq.trans ?_ (ref5 D O W j0 j1).symm)
  rw [sum_coe, EReal.coe_eq_coe_iff]
  exact (Fin.sum_univ_tiles 8 512 rfl fun x => d5 D O W x j1).symm
end Cert.ANormIdeal.Grad
end
-- ==== Proof.DActVal.lean ====
module
public import proofs.«01_k».proof.Proof.Gen.DActIdeal.Frame

public import proofs.«01_k».proof.Proof.Gen.DActRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DActRefIdeal.Plain
open Cert.DActRefIdeal Cert.DActRefIdeal.Gen

/-- the pre-activation -/
def v0 (a0 : FVec Ideal S4096x1024 .f32) (a1 : FVec Ideal S1024x4096 .f32) : FVec Ideal S4096x4096 .f32 :=
  Host.dotGeneral dot_S4096x1024_S1024x4096_S4096x4096_1_0_0_1_n_n none a0 a1

/-- the reference's result -/
def out0 (a0 : FVec Ideal S4096x1024 .f32) (a1 : FVec Ideal S1024x4096 .f32) (a2 : FVec Ideal S4096x1024 .f32) (a3 : FVec Ideal S4096x1024 .f32) : FVec Ideal S4096x4096 .bf16 :=
  (truncf .bf16 · bitsLt_bf16_f32) (mulf (mulf (Host.dotGeneral dot_S4096x1024_S4096x1024_S4096x4096_1_1_0_0_n_n none a3 a2) (mulf (broadcastInDim S4096x4096 ![] bcast_S_S4096x4096 (constant S_ .f32 0x40000000#32)) (maximumf (v0 a0 a1) (broadcastInDim S4096x4096 ![] bcast_S_S4096x4096 (constant S_ .f32 0x00000000#32))))) (select (cmpf .ogt (v0 a0 a1) (broadcastInDim S4096x4096 ![] bcast_S_S4096x4096 (constant S_ .f32 0x00000000#32))) (broadcastInDim S4096x4096 ![] bcast_S_S4096x4096 (constant S_ .f32 0x3F800000#32)) (select (cmpf .oeq (v0 a0 a1) (broadcastInDim S4096x4096 ![] bcast_S_S4096x4096 (constant S_ .f32 0x00000000#32))) (broadcastInDim S4096x4096 ![] bcast_S_S4096x4096 (constant S_ .f32 0x3F000000#32)) (broadcastInDim S4096x4096 ![] bcast_S_S4096x4096 (constant S_ .f32 0x00000000#32)))))

end Cert.DActRefIdeal.Plain

namespace Cert.DActIdeal.Grad
open Cert.DActIdeal Cert.DActIdeal.Gen
variable (m : (ℓ : Loc nD τ sig) → Buf (Elt Ideal) ℓ)

theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val] :=
  (by decide +kernel : ∀ t : Fin grid0.N, _)

/-- the two factors of the gradient of the squared positive part agree at every extended real -/
theorem scalar (A k h u : EReal) :
    A * (k * Ideal.sqrt (max u 0 * max u 0)) = A * (k * max u 0) * (if 0 < u then 1 else if u = 0 then h else 0) := by
  rcases lt_trichotomy u 0 with hu | hu | hu
  · rw [max_eq_right hu.le, if_neg (not_lt.mpr hu.le), if_neg hu.ne]
    simp [show Ideal.sqrt 0 = 0 by rw [← EReal.coe_zero, Ideal.sqrt_coe]; simp]
  · subst hu
    simp [show Ideal.sqrt 0 = 0 by rw [← EReal.coe_zero, Ideal.sqrt_coe]; simp]
  · rw [max_eq_left hu.le, if_pos hu, mul_one]
    congr 2
    induction u with
    | bot => simp at hu
    | top => simp
    | coe x =>
      have hx : (0 : ℝ) ≤ x := by exact_mod_cast hu.le
      rw [← EReal.coe_mul, Ideal.sqrt_coe, Real.sqrt_mul_self hx, if_neg (not_lt.mpr (mul_self_nonneg x))]

theorem V5 (c : Dev nD) : V m c main_v5 = (truncf .bf16 (m ((c : Thread nD τ).loc main_arg3) : FVec Ideal S4096x1024 .f32) bitsLt_bf16_f32 : FVec Ideal S4096x1024 .bf16) := by
  unfold V; after_results; try rfl
theorem V6 (c : Dev nD) : V m c main_v6 = (truncf .bf16 (m ((c : Thread nD τ).loc main_arg2) : FVec Ideal S4096x1024 .f32) bitsLt_bf16_f32 : FVec Ideal S4096x1024 .bf16) := by
  unfold V; after_results; try rfl
theorem V4 (c : Dev nD) : V m c main_v4
    = fun y => max (Cert.DActRefIdeal.Plain.v0 (m ((c : Thread nD τ).loc main_arg0)) (m ((c : Thread nD τ).loc main_arg1)) y) 0
        * max (Cert.DActRefIdeal.Plain.v0 (m ((c : Thread nD τ).loc main_arg0)) (m ((c : Thread nD τ).loc main_arg1)) y) 0 := by
  unfold V; after_results
  funext y
  pointwise [Cert.DActRefIdeal.Plain.v0]

theorem point (c : Dev nD) (t : Fin cfg0.N) (y) :
    k0_pay1 (iblk m c 0 t) (iblk m c 1 t) (iblk m c 2 t) y
      = Cert.DActRefIdeal.Plain.out0 (m ((c : Thread nD τ).loc main_arg0)) (m ((c : Thread nD τ).loc main_arg1))
          (m ((c : Thread nD τ).loc main_arg2)) (m ((c : Thread nD τ).loc main_arg3)) (((cfg0.win 3).blk t).view.emb y) := by
  have e0 (x) : iblk m c 0 t x = m ((c : Thread nD τ).loc main_arg3) (((cfg0.win 0).blk t).view.emb x) :=
    congrFun (V5 m c) _
  have e1 (x) : iblk m c 1 t x = m ((c : Thread nD τ).loc main_arg2) (((cfg0.win 1).blk t).view.emb x) :=
    congrFun (V6 m c) _
  have e2 (x) : iblk m c 2 t x = _ := congrFun (V4 m c) (((cfg0.win 2).blk t).view.emb x)
  have e3 : ((cfg0.win 2).blk t).view.emb y = ((cfg0.win 3).blk t).view.emb y := by blk_ext [idx t]
  pointwise [k0_pay1, Cert.DActRefIdeal.Plain.out0]
  simp only [e0, e1, e2]
  rw [scalar, e3]
  congr 2
  refine Finset.sum_congr rfl fun x _ => ?_
  blk_point [idx t]

theorem final (c : Dev nD) : (dats m 0 c).arrAt 3 (cfgs 0).N
    = Cert.DActRefIdeal.Plain.out0 (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t hf y => ?_
  blk_simp; rw [after0_3]; unfold outsAt0; frame_out
  exact point m c t y
end Cert.DActIdeal.Grad
end
-- ==== Proof.HeadVal.lean ====
module
public import proofs.«01_k».proof.Proof.Gen.HeadIdeal.Frame
public import proofs.«01_k».proof.Proof.Gen.HeadIdeal.Value
public import proofs.«01_k».proof.Proof.Gen.HeadRefIdeal.Run
public import Idealize.ShloMosaic.Lib.Pipeline.ValueKit
public import Idealize.ShloMosaic.Lib.Pointwise
public import Idealize.ShloMosaic.Lib.Claim
public import proofs.«01_k».proof.Proof.Real
@[expose] public section
set_option maxRecDepth 16384

noncomputable section
open Idealize.ShloMosaic Idealize.ShloMosaic.TcCoe Idealize.SL.Sem
open Idealize.ShloMosaic.Pipeline (Dat)

namespace Cert.HeadRefIdeal.Plain
open Cert.HeadRefIdeal Cert.HeadRefIdeal.Gen

def v3 (a2 : FVec Ideal S4096x1024 .f32) : FVec Ideal S4096x1 .f32 :=
  Host.divf (broadcastInDim S4096x1 ![0] bcast_S4096_S4096x1_0 (Host.reduceAdd a2 (constant S_ .f32 0x00000000#32) reducesTo_S4096x1024_S4096_d1 h_S_)) (broadcastInDim S4096x1 ![] bcast_S_S4096x1 (constant S_ .f32 0x44800000#32))

def v12 (a2 : FVec Ideal S4096x1024 .f32) : FVec Ideal S4096x1024 .f32 :=
  subf a2 (broadcastInDim S4096x1024 ![0, 1] bcast_S4096x1_S4096x1024_0_1 (v3 a2))

def v14 (a2 : FVec Ideal S4096x1024 .f32) : FVec Ideal S4096x1 .f32 :=
  addf (Host.divf (broadcastInDim S4096x1 ![0] bcast_S4096_S4096x1_0 (Host.reduceAdd (mulf (subf a2 (broadcastInDim S4096x1024 ![0, 1] bcast_S4096x1_S4096x1024_0_1 (v3 a2))) (subf a2 (broadcastInDim S4096x1024 ![0, 1] bcast_S4096x1_S4096x1024_0_1 (v3 a2)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

def v15 (a2 : FVec Ideal S4096x1024 .f32) : FVec Ideal S4096x1 .f32 :=
  Host.rsqrt (v14 a2)

def v21 (a2 : FVec Ideal S4096x1024 .f32) (a5 : FVec Ideal S1x1024 .f32) (a6 : FVec Ideal S1x1024 .f32) : FVec Ideal S4096x1024 .f32 :=
  addf (mulf (mulf (v12 a2) (broadcastInDim S4096x1024 ![0, 1] bcast_S4096x1_S4096x1024_0_1 (v15 a2))) (broadcastInDim S4096x1024 ![0, 1] bcast_S1x1024_S4096x1024_0_1 a5)) (broadcastInDim S4096x1024 ![0, 1] bcast_S1x1024_S4096x1024_0_1 a6)

def v24 (a0 : FVec Ideal S4096x4096 .f32) (a1 : FVec Ideal S4096x1024 .f32) : FVec Ideal S4096x1024 .f32 :=
  Host.dotGeneral dot_S4096x4096_S4096x1024_S4096x1024_1_0_0_1_n_n none a0 a1

def v26 (a4 : FVec Ideal S1x1024 .f32) : FVec Ideal S1x1024 .f32 :=
  addf (broadcastInDim S1x1024 ![] bcast_S_S1x1024 (constant S_ .f32 0x3F800000#32)) a4

def v29 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1024 .f32 :=
  addf (mulf (broadcastInDim S4096x1024 ![] bcast_S_S4096x1024 (constant S_ .f32 0x3F9837F0#32)) (v21 a2 a5 a6)) (mulf (broadcastInDim S4096x1024 ![0, 1] bcast_S1x1024_S4096x1024_0_1 (v26 a4)) (v24 a0 a1))

def v33 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1 .f32 :=
  Host.divf (broadcastInDim S4096x1 ![0] bcast_S4096_S4096x1_0 (Host.reduceAdd (v29 a0 a1 a2 a4 a5 a6) (constant S_ .f32 0x00000000#32) reducesTo_S4096x1024_S4096_d1 h_S_)) (broadcastInDim S4096x1 ![] bcast_S_S4096x1 (constant S_ .f32 0x44800000#32))

def v38 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1024 .f32 :=
  mulf (broadcastInDim S4096x1024 ![] bcast_S_S4096x1024 (constant S_ .f32 0x40000000#32)) (subf (v29 a0 a1 a2 a4 a5 a6) (broadcastInDim S4096x1024 ![0, 1] bcast_S4096x1_S4096x1024_0_1 (v33 a0 a1 a2 a4 a5 a6)))

def v44 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1024 .f32 :=
  subf (v29 a0 a1 a2 a4 a5 a6) (broadcastInDim S4096x1024 ![0, 1] bcast_S4096x1_S4096x1024_0_1 (v33 a0 a1 a2 a4 a5 a6))

def v46 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1 .f32 :=
  addf (Host.divf (broadcastInDim S4096x1 ![0] bcast_S4096_S4096x1_0 (Host.reduceAdd (mulf (subf (v29 a0 a1 a2 a4 a5 a6) (broadcastInDim S4096x1024 ![0, 1] bcast_S4096x1_S4096x1024_0_1 (v33 a0 a1 a2 a4 a5 a6))) (subf (v29 a0 a1 a2 a4 a5 a6) (broadcastInDim S4096x1024 ![0, 1] bcast_S4096x1_S4096x1024_0_1 (v33 a0 a1 a2 a4 a5 a6)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

def v47 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1 .f32 :=
  Host.rsqrt (v46 a0 a1 a2 a4 a5 a6)

def v50 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1 .f32 :=
  mulf (broadcastInDim S4096x1 ![] bcast_S_S4096x1 (constant S_ .f32 0xBF000000#32)) (Host.divf (v47 a0 a1 a2 a4 a5 a6) (v46 a0 a1 a2 a4 a5 a6))

def v52 (a0 : FVec Ideal S4096x4096 .f32) (a1 : FVec Ideal S4096x1024 .f32) (a2 : FVec Ideal S4096x1024 .f32) (a4 : FVec Ideal S1x1024 .f32) (a5 : FVec Ideal S1x1024 .f32) (a6 : FVec Ideal S1x1024 .f32) : FVec Ideal S4096x1024 .f32 :=
  mulf (v44 a0 a1 a2 a4 a5 a6) (broadcastInDim S4096x1024 ![0, 1] bcast_S4096x1_S4096x1024_0_1 (v47 a0 a1 a2 a4 a5 a6))

def v57 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  subf (addf (mulf (v52 a0 a1 a2 a4 a5 a6) (broadcastInDim S4096x1024 ![0, 1] bcast_S1x1024_S4096x1024_0_1 a7)) (broadcastInDim S4096x1024 ![0, 1] bcast_S1x1024_S4096x1024_0_1 a8)) a3

def v71 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (v57 a0 a1 a2 a3 a4 a5 a6 a7 a8))

def out3 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) :=
  shapeCast _ (Host.reduceAdd (v71 a0 a1 a2 a3 a4 a5 a6 a7 a8) (constant S_ .f32 0x00000000#32) reducesTo_S4096x1024_S1024_d0 h_S_) shapeCasts_S1024_S1x1024

def out2 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) :=
  shapeCast _ (Host.reduceAdd (mulf (v52 a0 a1 a2 a4 a5 a6) (v71 a0 a1 a2 a3 a4 a5 a6 a7 a8)) (constant S_ .f32 0x00000000#32) reducesTo_S4096x1024_S1024_d0 h_S_) shapeCasts_S1024_S1x1024

def v78 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  mulf (v71 a0 a1 a2 a3 a4 a5 a6 a7 a8) (broadcastInDim S4096x1024 ![0, 1] bcast_S1x1024_S4096x1024_0_1 a7)

def v83 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  mulf (v78 a0 a1 a2 a3 a4 a5 a6 a7 a8) (broadcastInDim S4096x1024 ![0, 1] bcast_S4096x1_S4096x1024_0_1 (v47 a0 a1 a2 a4 a5 a6))

def v92 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  mulf (broadcastInDim S4096x1024 ![0] bcast_S4096_S4096x1024_0 (Host.reduceAdd (Host.divf (mulf (shapeCast _ (Host.reduceAdd (mulf (v44 a0 a1 a2 a4 a5 a6) (v78 a0 a1 a2 a3 a4 a5 a6 a7 a8)) (constant S_ .f32 0x00000000#32) reducesTo_S4096x1024_S4096_d1 h_S_) shapeCasts_S4096_S4096x1) (v50 a0 a1 a2 a4 a5 a6)) (broadcastInDim S4096x1 ![] bcast_S_S4096x1 (constant S_ .f32 0x44800000#32))) (constant S_ .f32 0x00000000#32) reducesTo_S4096x1_S4096_d1 h_S_)) (v38 a0 a1 a2 a4 a5 a6)

def out0 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .f32 :=
  addf (addf (v83 a0 a1 a2 a3 a4 a5 a6 a7 a8) (v92 a0 a1 a2 a3 a4 a5 a6 a7 a8)) (broadcastInDim S4096x1024 ![0] bcast_S4096_S4096x1024_0 (Host.reduceAdd (Host.divf (addf (shapeCast _ (Host.reduceAdd (Host.negf (v83 a0 a1 a2 a3 a4 a5 a6 a7 a8)) (constant S_ .f32 0x00000000#32) reducesTo_S4096x1024_S4096_d1 h_S_) shapeCasts_S4096_S4096x1) (shapeCast _ (Host.reduceAdd (Host.negf (v92 a0 a1 a2 a3 a4 a5 a6 a7 a8)) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

def out4 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) :=
  shapeCast _ (Host.reduceAdd (mulf (out0 a0 a1 a2 a3 a4 a5 a6 a7 a8) (v24 a0 a1)) (constant S_ .f32 0x00000000#32) reducesTo_S4096x1024_S1024_d0 h_S_) shapeCasts_S1024_S1x1024

def out1 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S4096x1024 .bf16 :=
  (truncf .bf16 · bitsLt_bf16_f32) (mulf (broadcastInDim S4096x1024 ![0, 1] bcast_S1x1024_S4096x1024_0_1 (v26 a4)) (out0 a0 a1 a2 a3 a4 a5 a6 a7 a8))

def out5 (a0 : FVec Ideal S4096x4096 .f32) (a1 : FVec Ideal S4096x1024 .f32) (a2 : FVec Ideal S4096x1024 .f32) (a3 : FVec Ideal S4096x1024 .f32) (a4 : FVec Ideal S1x1024 .f32) (a5 : FVec Ideal S1x1024 .f32) (a6 : FVec Ideal S1x1024 .f32) (a7 : FVec Ideal S1x1024 .f32) (a8 : FVec Ideal S1x1024 .f32) : FVec Ideal S1x128 .f32 :=
  broadcastInDim S1x128 ![] bcast_S_S1x128 (mulf (constant S_ .f32 0x3F000000#32) (Host.reduceAdd (Host.divf (Host.reduceAdd (mulf (v57 a0 a1 a2 a3 a4 a5 a6 a7 a8) (v57 a0 a1 a2 a3 a4 a5 a6 a7 a8)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v108) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v76) = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v73) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v107) = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v109) = out5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (by rfl), (h c).2.1.trans (by rfl), (h c).2.2.1.trans (by rfl), (h c).2.2.2.1.trans (by rfl), (h c).2.2.2.2.1.trans (by rfl), (h c).2.2.2.2.2.1.trans (by rfl), (h c).2.2.2.2.2.2⟩) (Value.run (F := Ideal) m ρ)

end Cert.HeadRefIdeal.Plain

namespace Cert.HeadIdeal.Grad
open Cert.HeadIdeal Cert.HeadIdeal.Gen Cert.Real
open Cert.HeadRefIdeal.Plain (v3 v12 v14 v15 v21 v24 v26 v29 v33 v38 v44 v46 v47 v50 v52 v57 v71 out3 out2 v78 v83 v92 out0 out4 out1 out5)
variable (m : (ℓ : Loc nD τ sig) → Buf (Elt Ideal) ℓ)

/-- the arguments as arrays of reals -/
structure In where
  A : S4096x4096.Idx → ℝ
  W : S4096x1024.Idx → ℝ
  R : S4096x1024.Idx → ℝ
  T : S4096x1024.Idx → ℝ
  G2 : S1x1024.Idx → ℝ
  LG : S1x1024.Idx → ℝ
  LB : S1x1024.Idx → ℝ
  MG : S1x1024.Idx → ℝ
  MB : S1x1024.Idx → ℝ

variable (q : In)
/-- the down product -/
def In.FF (i : Fin 4096) (k : Fin 1024) : ℝ := ∑ x, q.A (ix2 i x) * q.W (ix2 x k)
/-- the first norm's rows -/
def In.X1 (i : Fin 4096) (k : Fin 1024) : ℝ := nrm (fun x => q.R (ix2 i x)) k * q.LG (ix2 0 k) + q.LB (ix2 0 k)
/-- the second residual -/
def In.R2 (i : Fin 4096) (k : Fin 1024) : ℝ := alpha * q.X1 i k + (1 + q.G2 (ix2 0 k)) * q.FF i k
/-- the error -/
def In.E (i : Fin 4096) (k : Fin 1024) : ℝ := nrm (q.R2 i) k * q.MG (ix2 0 k) + q.MB (ix2 0 k) - q.T (ix2 i k)
/-- the gradient of the second norm's output -/
def In.DX (i : Fin 4096) (k : Fin 1024) : ℝ := q.E i k * (1 / 1024)
/-- the gradient of the second residual -/
def In.D2 (i : Fin 4096) (k : Fin 1024) : ℝ := lnb (q.R2 i) (fun x => q.DX i x * q.MG (ix2 0 x)) k
/-- a row's loss -/
def In.L (i : Fin 4096) : ℝ := 1 / 2 * ((∑ x, q.E i x * q.E i x) / 1024)

theorem r_v3 (i k) : v3 (up q.R) (ix2 i k) = (((∑ x, q.R (ix2 i x)) / 1024 : ℝ) : EReal) := by
  pointwise [v3]
  try simp only [up_apply, word_1024, word_eps, word_neg_half, word_half, word_two, word_alpha, word_inv1024, one_real, ← EReal.coe_mul, sum_coe, div_1024, ← EReal.coe_add, ← EReal.coe_sub, ← EReal.coe_neg]
  try rfl
theorem r_v12 (i k) : v12 (up q.R) (ix2 i k) = ((cen (fun x => q.R (ix2 i x)) k : ℝ) : EReal) := by
  pointwise [v12]
  try simp only [r_v3, up_apply, word_1024, word_eps, word_neg_half, word_half, word_two, word_alpha, word_inv1024, one_real, ← EReal.coe_mul, sum_coe, div_1024, ← EReal.coe_add, ← EReal.coe_sub, ← EReal.coe_neg]
  rfl
theorem r_v14 (i k) : v14 (up q.R) (ix2 i k) = (((∑ x, cen (fun x => q.R (ix2 i x)) x * cen (fun x => q.R (ix2 i x)) x) / 1024 + eps : ℝ) : EReal) := by
  pointwise [v14]
  try simp only [r_v3, up_apply, word_1024, word_eps, word_neg_half, word_half, word_two, word_alpha, word_inv1024, one_real, ← EReal.coe_mul, sum_coe, div_1024, ← EReal.coe_add, ← EReal.coe_sub, ← EReal.coe_neg]
  rfl
theorem r_v15 (i k) : v15 (up q.R) (ix2 i k) = ((dev (fun x => q.R (ix2 i x)) : ℝ) : EReal) := by
  pointwise [v15]
  try simp only [r_v14, rsqrt_ms, up_apply, word_1024, word_eps, word_neg_half, word_half, word_two, word_alpha, word_inv1024, one_real, ← EReal.coe_mul, sum_coe, div_1024, ← EReal.coe_add, ← EReal.coe_sub, ← EReal.coe_neg]
  rfl
theorem r_v21 (i k) : v21 (up q.R) (up q.LG) (up q.LB) (ix2 i k) = ((q.X1 i k : ℝ) : EReal) := by
  pointwise [v21]
  try simp only [r_v12, r_v15, up_apply, word_1024, word_eps, word_neg_half, word_half, word_two, word_alpha, word_inv1024, one_real, ← EReal.coe_mul, sum_coe, div_1024, ← EReal.coe_add, ← EReal.coe_sub, ← EReal.coe_neg]
  rfl
theorem r_v24 (i k) : v24 (up q.A) (up q.W) (ix2 i k) = ((q.FF i k : ℝ) : EReal) := by
  pointwise [v24]
  try simp only [up_apply, word_1024, word_eps, word_neg_half, word_half, word_two, word_alpha, word_inv1024, one_real, ← EReal.coe_mul, sum_coe, div_1024, ← EReal.coe_add, ← EReal.coe_sub, ← EReal.coe_neg]
  rfl
theorem r_v26 (i k) : v26 (up q.G2) (ix2 i k) = ((1 + q.G2 (ix2 i k) : ℝ) : EReal) := by
  pointwise [v26]
  try simp only [up_apply, word_1024, word_eps, word_neg_half, word_half, word_two, word_alpha, word_inv1024, one_real, ← EReal.coe_mul, sum_coe, div_1024, ← EReal.coe_add, ← EReal.coe_sub, ← EReal.coe_neg]
  try rfl
theorem r_v29 (i k) : v29 (up q.A) (up q.W) (up q.R) (up q.G2) (up q.LG) (up q.LB) (ix2 i k) = ((q.R2 i k : ℝ) : EReal) := by
  pointwise [v29]
  try simp only [r_v21, r_v24, r_v26, up_apply, word_1024, word_eps, word_neg_half, word_half, word_two, word_alpha, word_inv1024, one_real, ← EReal.coe_mul, sum_coe, div_1024, ← EReal.coe_add, ← EReal.coe_sub, ← EReal.coe_neg]
  rfl
theorem r_v33 (i k) : v33 (up q.A) (up q.W) (up q.R) (up q.G2) (up q.LG) (up q.LB) (ix2 i k) = (((∑ x, q.R2 i x) / 1024 : ℝ) : EReal) := by
  pointwise [v33]
  try simp only [r_v29, up_apply, word_1024, word_eps, word_neg_half, word_half, word_two, word_alpha, word_inv1024, one_real, ← EReal.coe_mul, sum_coe, div_1024, ← EReal.coe_add, ← EReal.coe_sub, ← EReal.coe_neg]
  try rfl
theorem r_v38 (i k) : v38 (up q.A) (up q.W) (up q.R) (up q.G2) (up q.LG) (up q.LB) (ix2 i k) = ((2 * cen (q.R2 i) k : ℝ) : EReal) := by
  pointwise [v38]
  try simp only [r_v29, r_v33, up_apply, word_1024, word_eps, word_neg_half, word_half, word_two, word_alpha, word_inv1024, one_real, ← EReal.coe_mul, sum_coe, div_1024, ← EReal.coe_add, ← EReal.coe_sub, ← EReal.coe_neg]
  rfl
theorem r_v44 (i k) : v44 (up q.A) (up q.W) (up q.R) (up q.G2) (up q.LG) (up q.LB) (ix2 i k) = ((cen (q.R2 i) k : ℝ) : EReal) := by
  pointwise [v44]
  try simp only [r_v29, r_v33, up_apply, word_1024, word_eps, word_neg_half, word_half, word_two, word_alpha, word_inv1024, one_real, ← EReal.coe_mul, sum_coe, div_1024, ← EReal.coe_add, ← EReal.coe_sub, ← EReal.coe_neg]
  rfl
theorem r_v46 (i k) : v46 (up q.A) (up q.W) (up q.R) (up q.G2) (up q.LG) (up q.LB) (ix2 i k) = (((∑ x, cen (q.R2 i) x * cen (q.R2 i) x) / 1024 + eps : ℝ) : EReal) := by
  pointwise [v46]
  try simp only [r_v29, r_v33, up_apply, word_1024, word_eps, word_neg_half, word_half, word_two, word_alpha, word_inv1024, one_real, ← EReal.coe_mul, sum_coe, div_1024, ← EReal.coe_add, ← EReal.coe_sub, ← EReal.coe_neg]
  rfl
theorem r_v47 (i k) : v47 (up q.A) (up q.W) (up q.R) (up q.G2) (up q.LG) (up q.LB) (ix2 i k) = ((dev (q.R2 i) : ℝ) : EReal) := by
  pointwise [v47]
  try simp only [r_v46, rsqrt_ms, up_apply, word_1024, word_eps, word_neg_half, word_half, word_two, word_alpha, word_inv1024, one_real, ← EReal.coe_mul, sum_coe, div_1024, ← EReal.coe_add, ← EReal.coe_sub, ← EReal.coe_neg]
  rfl
theorem r_v50 (i k) : v50 (up q.A) (up q.W) (up q.R) (up q.G2) (up q.LG) (up q.LB) (ix2 i k) = ((-(1 / 2) * (dev (q.R2 i) / ((∑ x, cen (q.R2 i) x * cen (q.R2 i) x) / 1024 + eps)) : ℝ) : EReal) := by
  pointwise [v50]
  try simp only [r_v46, r_v47, div_ms, up_apply, word_1024, word_eps, word_neg_half, word_half, word_two, word_alpha, word_inv1024, one_real, ← EReal.coe_mul, sum_coe, div_1024, ← EReal.coe_add, ← EReal.coe_sub, ← EReal.coe_neg]
  try rfl
theorem r_v52 (i k) : v52 (up q.A) (up q.W) (up q.R) (up q.G2) (up q.LG) (up q.LB) (ix2 i k) = ((nrm (q.R2 i) k : ℝ) : EReal) := by
  pointwise [v52]
  try simp only [r_v44, r_v47, up_apply, word_1024, word_eps, word_neg_half, word_half, word_two, word_alpha, word_inv1024, one_real, ← EReal.coe_mul, sum_coe, div_1024, ← EReal.coe_add, ← EReal.coe_sub, ← EReal.coe_neg]
  rfl
theorem r_v57 (i k) : v57 (up q.A) (up q.W) (up q.R) (up q.T) (up q.G2) (up q.LG) (up q.LB) (up q.MG) (up q.MB) (ix2 i k) = ((q.E i k : ℝ) : EReal) := by
  pointwise [v57]
  try simp only [r_v52, up_apply, word_1024, word_eps, word_neg_half, word_half, word_two, word_alpha, word_inv1024, one_real, ← EReal.coe_mul, sum_coe, div_1024, ← EReal.coe_add, ← EReal.coe_sub, ← EReal.coe_neg]
  rfl
theorem r_v71 (i k) : v71 (up q.A) (up q.W) (up q.R) (up q.T) (up q.G2) (up q.LG) (up q.LB) (up q.MG) (up q.MB) (ix2 i k) = ((q.DX i k : ℝ) : EReal) := by
  pointwise [v71]
  try simp only [r_v57, up_apply, word_1024, word_eps, word_neg_half, word_half, word_two, word_alpha, word_inv1024, one_real, ← EReal.coe_mul, sum_coe, div_1024, ← EReal.coe_add, ← EReal.coe_sub, ← EReal.coe_neg]
  rw [EReal.coe_eq_coe_iff]
  unfold In.DX
  ring
theorem r_v78 (i k) : v78 (up q.A) (up q.W) (up q.R) (up q.T) (up q.G2) (up q.LG) (up q.LB) (up q.MG) (up q.MB) (ix2 i k) = ((q.DX i k * q.MG (ix2 0 k) : ℝ) : EReal) := by
  pointwise [v78]
  try simp only [r_v71, up_apply, word_1024, word_eps, word_neg_half, word_half, word_two, word_alpha, word_inv1024, one_real, ← EReal.coe_mul, sum_coe, div_1024, ← EReal.coe_add, ← EReal.coe_sub, ← EReal.coe_neg]
  try rfl
theorem r_v83 (i k) : v83 (up q.A) (up q.W) (up q.R) (up q.T) (up q.G2) (up q.LG) (up q.LB) (up q.MG) (up q.MB) (ix2 i k) = ((q.DX i k * q.MG (ix2 0 k) * dev (q.R2 i) : ℝ) : EReal) := by
  pointwise [v83]
  try simp only [r_v78, r_v47, up_apply, word_1024, word_eps, word_neg_half, word_half, word_two, word_alpha, word_inv1024, one_real, ← EReal.coe_mul, sum_coe, div_1024, ← EReal.coe_add, ← EReal.coe_sub, ← EReal.coe_neg]
  try rfl
theorem r_v92 (i k) : v92 (up q.A) (up q.W) (up q.R) (up q.T) (up q.G2) (up q.LG) (up q.LB) (up q.MG) (up q.MB) (ix2 i k) = (((∑ x, cen (q.R2 i) x * (q.DX i x * q.MG (ix2 0 x))) * (-(1 / 2) * (dev (q.R2 i) / ((∑ x, cen (q.R2 i) x * cen (q.R2 i) x) / 1024 + eps))) / 1024 * (2 * cen (q.R2 i) k) : ℝ) : EReal) := by
  pointwise [v92]
  try simp only [r_v44, r_v78, r_v50, r_v38, Finset.univ_unique, Finset.sum_singleton, up_apply, word_1024, word_eps, word_neg_half, word_half, word_two, word_alpha, word_inv1024, one_real, ← EReal.coe_mul, sum_coe, div_1024, ← EReal.coe_add, ← EReal.coe_sub, ← EReal.coe_neg]
  try rfl
theorem r_out0 (i k) : out0 (up q.A) (up q.W) (up q.R) (up q.T) (up q.G2) (up q.LG) (up q.LB) (up q.MG) (up q.MB) (ix2 i k) = ((q.D2 i k : ℝ) : EReal) := by
  pointwise [out0]
  try simp only [r_v83, r_v92, Finset.univ_unique, Finset.sum_singleton, up_apply, word_1024, word_eps, word_neg_half, word_half, word_two, word_alpha, word_inv1024, one_real, ← EReal.coe_mul, sum_coe, div_1024, ← EReal.coe_add, ← EReal.coe_sub, ← EReal.coe_neg]
  rw [EReal.coe_eq_coe_iff]
  exact lnb_steps (q.R2 i) (fun x => q.DX i x * q.MG (ix2 0 x)) k
theorem r_out1 (i k) : out1 (up q.A) (up q.W) (up q.R) (up q.T) (up q.G2) (up q.LG) (up q.LB) (up q.MG) (up q.MB) (ix2 i k) = (((1 + q.G2 (ix2 0 k)) * q.D2 i k : ℝ) : EReal) := by
  pointwise [out1]
  try simp only [r_v26, r_out0, up_apply, word_1024, word_eps, word_neg_half, word_half, word_two, word_alpha, word_inv1024, one_real, ← EReal.coe_mul, sum_coe, div_1024, ← EReal.coe_add, ← EReal.coe_sub, ← EReal.coe_neg]
  try rfl
theorem r_out2 (i k) : out2 (up q.A) (up q.W) (up q.R) (up q.T) (up q.G2) (up q.LG) (up q.LB) (up q.MG) (up q.MB) (ix2 i k) = ((∑ x, q.DX x k * nrm (q.R2 x) k : ℝ) : EReal) := by
  pointwise [out2]
  try simp only [r_v52, r_v71, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out3 (i k) : out3 (up q.A) (up q.W) (up q.R) (up q.T) (up q.G2) (up q.LG) (up q.LB) (up q.MG) (up q.MB) (ix2 i k) = ((∑ x, q.DX x k : ℝ) : EReal) := by
  pointwise [out3]
  try simp only [r_v71, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out4 (i k) : out4 (up q.A) (up q.W) (up q.R) (up q.T) (up q.G2) (up q.LG) (up q.LB) (up q.MG) (up q.MB) (ix2 i k) = ((∑ x, q.D2 x k * q.FF x k : ℝ) : EReal) := by
  pointwise [out4]
  try simp only [r_out0, r_v24, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out5 (i k) : out5 (up q.A) (up q.W) (up q.R) (up q.T) (up q.G2) (up q.LG) (up q.LB) (up q.MG) (up q.MB) (ix2 i k) = ((∑ x, q.L x : ℝ) : EReal) := by
  pointwise [out5]
  try simp only [r_v57, up_apply, word_1024, word_eps, word_neg_half, word_half, word_two, word_alpha, word_inv1024, one_real, ← EReal.coe_mul, sum_coe, div_1024, ← EReal.coe_add, ← EReal.coe_sub, ← EReal.coe_neg]
  rw [EReal.coe_eq_coe_iff]
  unfold In.L
  rw [← Finset.mul_sum]

theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0] :=
  (by decide +kernel : ∀ t : Fin grid0.N, _)
/-- the row of the whole array that row `i` of block `t` is -/
def row (t : Fin cfg0.N) (i : Fin 512) : Fin 4096 := ⟨t.val * 512 + i.val, by have h := t.isLt.trans_eq N_0; omega⟩

/-- the arguments are these arrays of reals -/
structure Args (c : Dev nD) : Prop where
  h0 : m ((c : Thread nD τ).loc main_arg0) = up q.A
  h1 : m ((c : Thread nD τ).loc main_arg1) = up q.W
  h2 : m ((c : Thread nD τ).loc main_arg2) = up q.R
  h3 : m ((c : Thread nD τ).loc main_arg3) = up q.T
  h4 : m ((c : Thread nD τ).loc main_arg4) = up q.G2
  h5 : m ((c : Thread nD τ).loc main_arg5) = up q.LG
  h6 : m ((c : Thread nD τ).loc main_arg6) = up q.LB
  h7 : m ((c : Thread nD τ).loc main_arg7) = up q.MG
  h8 : m ((c : Thread nD τ).loc main_arg8) = up q.MB

variable {m q}
variable (m) in
theorem V0 (c : Dev nD) : V m c main_v0 = (truncf .bf16 (m ((c : Thread nD τ).loc main_arg0) : FVec Ideal S4096x4096 .f32) bitsLt_bf16_f32 : FVec Ideal S4096x4096 .bf16) := by
  unfold V; after_results; try rfl
theorem b0 {c : Dev nD} (h : Args m q c) (t : Fin cfg0.N) (i k) : iblk m c 0 t (ix2 i k) = ((q.A (ix2 (row t i) k) : ℝ) : EReal) := by
  refine (congrFun (V0 m c) _).trans ?_
  have := congrFun h.h0 (((cfg0.win 0).blk t).view.emb (ix2 i k))
  refine this.trans (congrArg (fun x => ((q.A x : ℝ) : EReal)) ?_)
  blk_ext [idx t]
  rfl
variable (m) in
theorem V1 (c : Dev nD) : V m c main_v1 = (truncf .bf16 (m ((c : Thread nD τ).loc main_arg1) : FVec Ideal S4096x1024 .f32) bitsLt_bf16_f32 : FVec Ideal S4096x1024 .bf16) := by
  unfold V; after_results; try rfl
theorem b1 {c : Dev nD} (h : Args m q c) (t : Fin cfg0.N) (i k) : iblk m c 1 t (ix2 i k) = ((q.W (ix2 i k) : ℝ) : EReal) := by
  refine (congrFun (V1 m c) _).trans ?_
  have := congrFun h.h1 (((cfg0.win 1).blk t).view.emb (ix2 i k))
  refine this.trans (congrArg (fun x => ((q.W x : ℝ) : EReal)) ?_)
  blk_ext [idx t]
theorem b2 {c : Dev nD} (h : Args m q c) (t : Fin cfg0.N) (i k) : iblk m c 2 t (ix2 i k) = ((q.R (ix2 (row t i) k) : ℝ) : EReal) := by
  have := congrFun h.h2 (((cfg0.win 2).blk t).view.emb (ix2 i k))
  refine this.trans (congrArg (fun x => ((q.R x : ℝ) : EReal)) ?_)
  blk_ext [idx t]
  rfl
theorem b3 {c : Dev nD} (h : Args m q c) (t : Fin cfg0.N) (i k) : iblk m c 3 t (ix2 i k) = ((q.T (ix2 (row t i) k) : ℝ) : EReal) := by
  have := congrFun h.h3 (((cfg0.win 3).blk t).view.emb (ix2 i k))
  refine this.trans (congrArg (fun x => ((q.T x : ℝ) : EReal)) ?_)
  blk_ext [idx t]
  rfl
theorem b4 {c : Dev nD} (h : Args m q c) (t : Fin cfg0.N) (i k) : iblk m c 4 t (ix2 i k) = ((q.G2 (ix2 i k) : ℝ) : EReal) := by
  have := congrFun h.h4 (((cfg0.win 4).blk t).view.emb (ix2 i k))
  refine this.trans (congrArg (fun x => ((q.G2 x : ℝ) : EReal)) ?_)
  blk_ext [idx t]
theorem b5 {c : Dev nD} (h : Args m q c) (t : Fin cfg0.N) (i k) : iblk m c 5 t (ix2 i k) = ((q.LG (ix2 i k) : ℝ) : EReal) := by
  have := congrFun h.h5 (((cfg0.win 5).blk t).view.emb (ix2 i k))
  refine this.trans (congrArg (fun x => ((q.LG x : ℝ) : EReal)) ?_)
  blk_ext [idx t]
theorem b6 {c : Dev nD} (h : Args m q c) (t : Fin cfg0.N) (i k) : iblk m c 6 t (ix2 i k) = ((q.LB (ix2 i k) : ℝ) : EReal) := by
  have := congrFun h.h6 (((cfg0.win 6).blk t).view.emb (ix2 i k))
  refine this.trans (congrArg (fun x => ((q.LB x : ℝ) : EReal)) ?_)
  blk_ext [idx t]
theorem b7 {c : Dev nD} (h : Args m q c) (t : Fin cfg0.N) (i k) : iblk m c 7 t (ix2 i k) = ((q.MG (ix2 i k) : ℝ) : EReal) := by
  have := congrFun h.h7 (((cfg0.win 7).blk t).view.emb (ix2 i k))
  refine this.trans (congrArg (fun x => ((q.MG x : ℝ) : EReal)) ?_)
  blk_ext [idx t]
theorem b8 {c : Dev nD} (h : Args m q c) (t : Fin cfg0.N) (i k) : iblk m c 8 t (ix2 i k) = ((q.MB (ix2 i k) : ℝ) : EReal) := by
  have := congrFun h.h8 (((cfg0.win 8).blk t).view.emb (ix2 i k))
  refine this.trans (congrArg (fun x => ((q.MB x : ℝ) : EReal)) ?_)
  blk_ext [idx t]
theorem word_C : (Scalar.ofBits (F := Ideal) .f32 0x3F9837F0#32) = ((alpha : ℝ) : EReal) := word_alpha
theorem p3 {c : Dev nD} (h : Args m q c) (t : Fin cfg0.N) (i k) :
    (k0_pay3 (iblk m c 0 t) (iblk m c 1 t)) (ix2 i k) = ((q.FF (row t i) k : ℝ) : EReal) := by
  pointwise [k0_pay3]
  try simp only [b0 h, b1 h, word_1024, word_eps, word_neg_half, word_half, word_two, word_alpha, word_inv1024, one_real, ← EReal.coe_mul, sum_coe, div_1024, ← EReal.coe_add, ← EReal.coe_sub, ← EReal.coe_neg]
  try rfl
theorem p4 {c : Dev nD} (h : Args m q c) (t : Fin cfg0.N) (i k) :
    (k0_pay4 (iblk m c 2 t) (iblk m c 5 t) (iblk m c 6 t)) (ix2 i k) = ((q.X1 (row t i) k : ℝ) : EReal) := by
  pointwise [k0_pay4]
  try simp only [b2 h, b5 h, b6 h, word_1024, word_eps, word_neg_half, word_half, word_two, word_alpha, word_inv1024, one_real, ← EReal.coe_mul, sum_coe, div_1024, ← EReal.coe_add, ← EReal.coe_sub, ← EReal.coe_neg]
  have e : Ideal.rsqrt (((∑ x, (q.R (ix2 (row t i) x) - (∑ y, q.R (ix2 (row t i) y)) / 1024) * (q.R (ix2 (row t i) x) - (∑ y, q.R (ix2 (row t i) y)) / 1024)) / 1024 + eps : ℝ) : EReal)
      = ((dev (fun x => q.R (ix2 (row t i) x)) : ℝ) : EReal) := rsqrt_ms (cen (fun x => q.R (ix2 (row t i) x)))
  rw [e]
  simp only [← EReal.coe_mul, ← EReal.coe_add]
  rfl
theorem p5 {c : Dev nD} (h : Args m q c) (t : Fin cfg0.N) (i k) :
    k0_pay5 (k0_pay3 (iblk m c 0 t) (iblk m c 1 t)) (iblk m c 4 t) (k0_pay4 (iblk m c 2 t) (iblk m c 5 t) (iblk m c 6 t)) ((alpha : ℝ) : EReal) (ix2 i k) = ((cen (q.R2 (row t i)) k : ℝ) : EReal) := by
  pointwise [k0_pay5]
  try simp only [p3 h, b4 h, p4 h, word_1024, word_eps, word_neg_half, word_half, word_two, word_alpha, word_inv1024, one_real, ← EReal.coe_mul, sum_coe, div_1024, ← EReal.coe_add, ← EReal.coe_sub, ← EReal.coe_neg]
  try rfl
theorem p6 {c : Dev nD} (h : Args m q c) (t : Fin cfg0.N) (i k) :
    k0_pay6 (k0_pay3 (iblk m c 0 t) (iblk m c 1 t)) (iblk m c 4 t) (k0_pay4 (iblk m c 2 t) (iblk m c 5 t) (iblk m c 6 t)) ((alpha : ℝ) : EReal) (ix2 i k) = ((dev (q.R2 (row t i)) : ℝ) : EReal) := by
  pointwise [k0_pay6]
  try simp only [p5 h, rsqrt_ms, word_1024, word_eps, word_neg_half, word_half, word_two, word_alpha, word_inv1024, one_real, ← EReal.coe_mul, sum_coe, div_1024, ← EReal.coe_add, ← EReal.coe_sub, ← EReal.coe_neg]
  try rfl
theorem p7 {c : Dev nD} (h : Args m q c) (t : Fin cfg0.N) (i k) :
    k0_pay7 (k0_pay3 (iblk m c 0 t) (iblk m c 1 t)) (iblk m c 4 t) (k0_pay4 (iblk m c 2 t) (iblk m c 5 t) (iblk m c 6 t)) ((alpha : ℝ) : EReal) (ix2 i k) = ((nrm (q.R2 (row t i)) k : ℝ) : EReal) := by
  pointwise [k0_pay7]
  try simp only [p5 h, p6 h, word_1024, word_eps, word_neg_half, word_half, word_two, word_alpha, word_inv1024, one_real, ← EReal.coe_mul, sum_coe, div_1024, ← EReal.coe_add, ← EReal.coe_sub, ← EReal.coe_neg]
  try rfl
theorem p8 {c : Dev nD} (h : Args m q c) (t : Fin cfg0.N) (i k) :
    k0_pay8 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal) (ix2 i k) = ((q.E (row t i) k : ℝ) : EReal) := by
  pointwise [k0_pay8]
  try simp only [p7 h, b7 h, b8 h, b3 h, word_1024, word_eps, word_neg_half, word_half, word_two, word_alpha, word_inv1024, one_real, ← EReal.coe_mul, sum_coe, div_1024, ← EReal.coe_add, ← EReal.coe_sub, ← EReal.coe_neg]
  try rfl
theorem p15 {c : Dev nD} (h : Args m q c) (t : Fin cfg0.N) (i k) :
    k0_pay15 (k0_pay9 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (ix2 i k) = ((∑ x, q.L (row t x) : ℝ) : EReal) := by
  pointwise [k0_pay15, k0_pay9]
  try simp only [p8 h, Finset.univ_unique, Finset.sum_singleton, word_1024, word_eps, word_neg_half, word_half, word_two, word_alpha, word_inv1024, one_real, ← EReal.coe_mul, sum_coe, div_1024, ← EReal.coe_add, ← EReal.coe_sub, ← EReal.coe_neg]
  rw [EReal.coe_eq_coe_iff]
  unfold In.L
  rw [← Finset.mul_sum]
theorem p10 {c : Dev nD} (h : Args m q c) (t : Fin cfg0.N) (i k) :
    k0_pay10 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal) (ix2 i k) = ((q.DX (row t i) k : ℝ) : EReal) := by
  pointwise [k0_pay10]
  try simp only [p8 h, word_1024, word_eps, word_neg_half, word_half, word_two, word_alpha, word_inv1024, one_real, ← EReal.coe_mul, sum_coe, div_1024, ← EReal.coe_add, ← EReal.coe_sub, ← EReal.coe_neg]
  try rfl
theorem p11 {c : Dev nD} (h : Args m q c) (t : Fin cfg0.N) (i k) :
    k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal) (ix2 i k) = ((q.DX (row t i) k * q.MG (ix2 0 k) : ℝ) : EReal) := by
  pointwise [k0_pay11]
  try simp only [p10 h, b7 h, word_1024, word_eps, word_neg_half, word_half, word_two, word_alpha, word_inv1024, one_real, ← EReal.coe_mul, sum_coe, div_1024, ← EReal.coe_add, ← EReal.coe_sub, ← EReal.coe_neg]
  try rfl
theorem p12 {c : Dev nD} (h : Args m q c) (t : Fin cfg0.N) (i k) :
    k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal) (ix2 i k) = (((∑ x, q.DX (row t i) x * q.MG (ix2 0 x)) / 1024 : ℝ) : EReal) := by
  pointwise [k0_pay12]
  try simp only [p11 h, word_1024, word_eps, word_neg_half, word_half, word_two, word_alpha, word_inv1024, one_real, ← EReal.coe_mul, sum_coe, div_1024, ← EReal.coe_add, ← EReal.coe_sub, ← EReal.coe_neg]
  try rfl
theorem p13 {c : Dev nD} (h : Args m q c) (t : Fin cfg0.N) (i k) :
    k0_pay13 (k0_pay6 (k0_pay3 (iblk m c 0 t) (iblk m c 1 t)) (iblk m c 4 t) (k0_pay4 (iblk m c 2 t) (iblk m c 5 t) (iblk m c 6 t)) ((alpha : ℝ) : EReal)) (k0_pay7 (k0_pay3 (iblk m c 0 t) (iblk m c 1 t)) (iblk m c 4 t) (k0_pay4 (iblk m c 2 t) (iblk m c 5 t) (iblk m c 6 t)) ((alpha : ℝ) : EReal)) (k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (ix2 i k) = ((q.D2 (row t i) k : ℝ) : EReal) := by
  pointwise [k0_pay13]
  try simp only [p6 h, p7 h, p11 h, p12 h, word_1024, word_eps, word_neg_half, word_half, word_two, word_alpha, word_inv1024, one_real, ← EReal.coe_mul, sum_coe, div_1024, ← EReal.coe_add, ← EReal.coe_sub, ← EReal.coe_neg]
  try rfl
theorem p14 {c : Dev nD} (h : Args m q c) (t : Fin cfg0.N) (i k) :
    k0_pay14 (k0_pay3 (iblk m c 0 t) (iblk m c 1 t)) (k0_pay6 (k0_pay3 (iblk m c 0 t) (iblk m c 1 t)) (iblk m c 4 t) (k0_pay4 (iblk m c 2 t) (iblk m c 5 t) (iblk m c 6 t)) ((alpha : ℝ) : EReal)) (k0_pay7 (k0_pay3 (iblk m c 0 t) (iblk m c 1 t)) (iblk m c 4 t) (k0_pay4 (iblk m c 2 t) (iblk m c 5 t) (iblk m c 6 t)) ((alpha : ℝ) : EReal)) (k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (ix2 i k) = ((∑ x, q.D2 (row t x) k * q.FF (row t x) k : ℝ) : EReal) := by
  pointwise [k0_pay14]
  try simp only [p13 h, p3 h, word_1024, word_eps, word_neg_half, word_half, word_two, word_alpha, word_inv1024, one_real, ← EReal.coe_mul, sum_coe, div_1024, ← EReal.coe_add, ← EReal.coe_sub, ← EReal.coe_neg]
  try rfl
theorem p16 {c : Dev nD} (h : Args m q c) (t : Fin cfg0.N) (i k) :
    k0_pay16 (iblk m c 4 t) (k0_pay6 (k0_pay3 (iblk m c 0 t) (iblk m c 1 t)) (iblk m c 4 t) (k0_pay4 (iblk m c 2 t) (iblk m c 5 t) (iblk m c 6 t)) ((alpha : ℝ) : EReal)) (k0_pay7 (k0_pay3 (iblk m c 0 t) (iblk m c 1 t)) (iblk m c 4 t) (k0_pay4 (iblk m c 2 t) (iblk m c 5 t) (iblk m c 6 t)) ((alpha : ℝ) : EReal)) (k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (ix2 i k) = (((1 + q.G2 (ix2 0 k)) * q.D2 (row t i) k : ℝ) : EReal) := by
  pointwise [k0_pay16]
  try simp only [p13 h, b4 h, word_1024, word_eps, word_neg_half, word_half, word_two, word_alpha, word_inv1024, one_real, ← EReal.coe_mul, sum_coe, div_1024, ← EReal.coe_add, ← EReal.coe_sub, ← EReal.coe_neg]
  try rfl
theorem p21 {c : Dev nD} (h : Args m q c) (t : Fin cfg0.N) (i k) :
    k0_pay21 (k0_pay7 (k0_pay3 (iblk m c 0 t) (iblk m c 1 t)) (iblk m c 4 t) (k0_pay4 (iblk m c 2 t) (iblk m c 5 t) (iblk m c 6 t)) ((alpha : ℝ) : EReal)) (k0_pay10 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (fun _ => 0) (ix2 i k) = ((∑ x, q.DX (row t x) k * nrm (q.R2 (row t x)) k : ℝ) : EReal) := by
  pointwise [k0_pay21]
  try simp only [p7 h, p10 h, zero_add, word_1024, word_eps, word_neg_half, word_half, word_two, word_alpha, word_inv1024, one_real, ← EReal.coe_mul, sum_coe, div_1024, ← EReal.coe_add, ← EReal.coe_sub, ← EReal.coe_neg]
  try rfl
theorem p22 {c : Dev nD} (h : Args m q c) (t : Fin cfg0.N) (i k) :
    k0_pay22 (k0_pay10 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (fun _ => 0) (ix2 i k) = ((∑ x, q.DX (row t x) k : ℝ) : EReal) := by
  pointwise [k0_pay22]
  try simp only [p10 h, zero_add, word_1024, word_eps, word_neg_half, word_half, word_two, word_alpha, word_inv1024, one_real, ← EReal.coe_mul, sum_coe, div_1024, ← EReal.coe_add, ← EReal.coe_sub, ← EReal.coe_neg]
  try rfl

theorem final9 {c : Dev nD} (h : Args m q c) : (dats m 0 c).arrAt 9 (cfgs 0).N
    = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have e : ((cfg0.win 9).blk t).view.emb y = ix2 (row t (y 0)) (y 1) := by
    idx_vars y
    blk_ext [idx t]
    rfl
  have p : k0_pay13 (k0_pay6 (k0_pay3 (iblk m c 0 t) (iblk m c 1 t)) (iblk m c 4 t) (k0_pay4 (iblk m c 2 t) (iblk m c 5 t) (iblk m c 6 t)) ((alpha : ℝ) : EReal)) (k0_pay7 (k0_pay3 (iblk m c 0 t) (iblk m c 1 t)) (iblk m c 4 t) (k0_pay4 (iblk m c 2 t) (iblk m c 5 t) (iblk m c 6 t)) ((alpha : ℝ) : EReal)) (k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) y = ((q.D2 (row t (y 0)) (y 1) : ℝ) : EReal) := by
    idx_vars y
    exact p13 h t _ _
  rw [h.h0, h.h1, h.h2, h.h3, h.h4, h.h5, h.h6, h.h7, h.h8, e]
  refine Eq.trans ?_ (r_out0 q (row t (y 0)) (y 1)).symm
  blk_simp; rw [after0_9]
  by_cases hc : t.val % 8 = 0
  · rw [outsAt0_A m c t hc]; frame_out; rw [word_C]; exact p
  · rw [outsAt0_B m c t hc]; frame_out; rw [word_C]; exact p

theorem final10 {c : Dev nD} (h : Args m q c) : (dats m 0 c).arrAt 10 (cfgs 0).N
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have e : ((cfg0.win 10).blk t).view.emb y = ix2 (row t (y 0)) (y 1) := by
    idx_vars y
    blk_ext [idx t]
    rfl
  have p : k0_pay16 (iblk m c 4 t) (k0_pay6 (k0_pay3 (iblk m c 0 t) (iblk m c 1 t)) (iblk m c 4 t) (k0_pay4 (iblk m c 2 t) (iblk m c 5 t) (iblk m c 6 t)) ((alpha : ℝ) : EReal)) (k0_pay7 (k0_pay3 (iblk m c 0 t) (iblk m c 1 t)) (iblk m c 4 t) (k0_pay4 (iblk m c 2 t) (iblk m c 5 t) (iblk m c 6 t)) ((alpha : ℝ) : EReal)) (k0_pay11 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) (k0_pay12 (k0_pay3 (iblk m c 0 t) (iblk m c 1 t)) (iblk m c 3 t) (iblk m c 4 t) (iblk m c 7 t) (iblk m c 8 t) (k0_pay4 (iblk m c 2 t) (iblk m c 5 t) (iblk m c 6 t)) ((alpha : ℝ) : EReal)) y = (((1 + q.G2 (ix2 0 (y 1))) * q.D2 (row t (y 0)) (y 1) : ℝ) : EReal) := by
    idx_vars y
    exact p16 h t _ _
  rw [h.h0, h.h1, h.h2, h.h3, h.h4, h.h5, h.h6, h.h7, h.h8, e]
  refine Eq.trans ?_ (r_out1 q (row t (y 0)) (y 1)).symm
  blk_simp; rw [after0_10]
  by_cases hc : t.val % 8 = 0
  · rw [outsAt0_A m c t hc]; frame_out; rw [word_C]; exact p
  · rw [outsAt0_B m c t hc]; frame_out; rw [word_C]; exact p

theorem zero11 (j : S1x1024.Idx) : k0_pay17 (F := Ideal) j = 0 := by
  pointwise! [k0_pay17]
theorem acc11 (v54 : FVec Ideal S512x1024 .f32) (v71 : FVec Ideal S512x1024 .f32) (v109 : Vec Ideal S1x1024 .f32) (j : S1x1024.Idx) :
    k0_pay21 v54 v71 v109 j = v109 j + k0_pay21 v54 v71 (fun _ => 0) j := by
  pointwise [k0_pay21]
  try rw [zero_add]
theorem final11 {c : Dev nD} (h : Args m q c) : (dats m 0 c).arrAt 11 (cfgs 0).N
    = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 11 t0_7 (by decide +kernel) _ fun j => ?_
  blk_simp
  rw [after0_11, Pipeline.eq_sum_fin_of_reset_step_apply_last (fun n h => (outsAt0 m c n h).2.2.1) 8 (fun _ => 0) _
    (fun t h j => by rw [outsAt0_A m c t h]; frame_out; rw [acc11, zero11])
    (fun t h j => by rw [outsAt0_B m c t h]; frame_out; rw [acc11])
    (le_of_eq N_0) t0_7 rfl j, zero_add]
  idx_vars j
  rw [h.h0, h.h1, h.h2, h.h3, h.h4, h.h5, h.h6, h.h7, h.h8]
  simp only [word_C]
  refine (Finset.sum_congr rfl fun p _ => p21 h p _ _).trans (Eq.trans ?_ (r_out2 q j0 j1).symm)
  rw [sum_coe, EReal.coe_eq_coe_iff]
  exact (Fin.sum_univ_tiles 8 512 rfl fun x => q.DX x j1 * nrm (q.R2 x) j1).symm

theorem zero12 (j : S1x1024.Idx) : k0_pay18 (F := Ideal) j = 0 := by
  pointwise! [k0_pay18]
theorem acc12 (v71 : FVec Ideal S512x1024 .f32) (v113 : Vec Ideal S1x1024 .f32) (j : S1x1024.Idx) :
    k0_pay22 v71 v113 j = v113 j + k0_pay22 v71 (fun _ => 0) j := by
  pointwise [k0_pay22]
  try rw [zero_add]
theorem final12 {c : Dev nD} (h : Args m q c) : (dats m 0 c).arrAt 12 (cfgs 0).N
    = out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => 0) _
    (fun t h j => by rw [outsAt0_A m c t h]; frame_out; rw [acc12, zero12])
    (fun t h j => by rw [outsAt0_B m c t h]; frame_out; rw [acc12])
    (le_of_eq N_0) t0_7 rfl j, zero_add]
  idx_vars j
  rw [h.h0, h.h1, h.h2, h.h3, h.h4, h.h5, h.h6, h.h7, h.h8]
  simp only [word_C]
  refine (Finset.sum_congr rfl fun p _ => p22 h p _ _).trans (Eq.trans ?_ (r_out3 q j0 j1).symm)
  rw [sum_coe, EReal.coe_eq_coe_iff]
  exact (Fin.sum_univ_tiles 8 512 rfl fun x => q.DX x j1).symm

theorem zero13 (j : S1x1024.Idx) : k0_pay19 (F := Ideal) j = 0 := by
  pointwise! [k0_pay19]
theorem acc13 (v101 : FVec Ideal S1x1024 .f32) (v117 : Vec Ideal S1x1024 .f32) (j : S1x1024.Idx) :
    k0_pay1 v101 v117 j = v117 j + v101 j := by
  pointwise [k0_pay1]
theorem final13 {c : Dev nD} (h : Args m q c) : (dats m 0 c).arrAt 13 (cfgs 0).N
    = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => 0) _
    (fun t h j => by rw [outsAt0_A m c t h]; frame_out; rw [acc13, zero13])
    (fun t h j => by rw [outsAt0_B m c t h]; frame_out; rw [acc13])
    (le_of_eq N_0) t0_7 rfl j, zero_add]
  idx_vars j
  rw [h.h0, h.h1, h.h2, h.h3, h.h4, h.h5, h.h6, h.h7, h.h8]
  simp only [word_C]
  refine (Finset.sum_congr rfl fun p _ => p14 h p _ _).trans (Eq.trans ?_ (r_out4 q j0 j1).symm)
  rw [sum_coe, EReal.coe_eq_coe_iff]
  exact (Fin.sum_univ_tiles 8 512 rfl fun x => q.D2 x j1 * q.FF x j1).symm

theorem zero14 (j : S1x128.Idx) : k0_pay20 (F := Ideal) j = 0 := by
  pointwise! [k0_pay20]
theorem acc14 (v102 : FVec Ideal S1x128 .f32) (v121 : Vec Ideal S1x128 .f32) (j : S1x128.Idx) :
    k0_pay2 v102 v121 j = v121 j + v102 j := by
  pointwise [k0_pay2]
theorem final14 {c : Dev nD} (h : Args m q c) : (dats m 0 c).arrAt 14 (cfgs 0).N
    = out5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2) 8 (fun _ => 0) _
    (fun t h j => by rw [outsAt0_A m c t h]; frame_out; rw [acc14, zero14])
    (fun t h j => by rw [outsAt0_B m c t h]; frame_out; rw [acc14])
    (le_of_eq N_0) t0_7 rfl j, zero_add]
  idx_vars j
  rw [h.h0, h.h1, h.h2, h.h3, h.h4, h.h5, h.h6, h.h7, h.h8]
  simp only [word_C]
  refine (Finset.sum_congr rfl fun p _ => p15 h p _ _).trans (Eq.trans ?_ (r_out5 q j0 j1).symm)
  rw [sum_coe, EReal.coe_eq_coe_iff]
  exact (Fin.sum_univ_tiles 8 512 rfl fun x => q.L x).symm
end Cert.HeadIdeal.Grad
end
-- ==== Proof.Dh2Val.lean ====
module
public import proofs.«01_k».proof.Proof.Gen.Dh2Ideal.Frame
public import proofs.«01_k».proof.Proof.Gen.Dh2Ideal.Value
public import proofs.«01_k».proof.Proof.Gen.Dh2RefIdeal.Run
public import Idealize.ShloMosaic.Lib.Pipeline.ValueKit
public import Idealize.ShloMosaic.Lib.Pointwise
public import Idealize.ShloMosaic.Lib.Claim
public import proofs.«01_k».proof.Proof.Real
@[expose] public section
set_option maxRecDepth 16384

noncomputable section
open Idealize.ShloMosaic Idealize.ShloMosaic.TcCoe Idealize.SL.Sem
open Idealize.ShloMosaic.Pipeline (Dat)

namespace Cert.Dh2RefIdeal.Plain
open Cert.Dh2RefIdeal Cert.Dh2RefIdeal.Gen

def v4 (a2 : FVec Ideal S1x1024 .f32) : FVec Ideal S1x1024 .f32 :=
  addf (broadcastInDim S1x1024 ![] bcast_S_S1x1024 (constant S_ .f32 0x3F800000#32)) a2

def v7 (a0 : FVec Ideal S4096x1024 .f32) (a1 : FVec Ideal S4096x1024 .f32) (a2 : FVec Ideal S1x1024 .f32) : FVec Ideal S4096x1024 .f32 :=
  addf (mulf (broadcastInDim S4096x1024 ![] bcast_S_S4096x1024 (constant S_ .f32 0x3F9837F0#32)) a0) (mulf (broadcastInDim S4096x1024 ![0, 1] bcast_S1x1024_S4096x1024_0_1 (v4 a2)) a1)

def v11 (a0 : FVec Ideal S4096x1024 .f32) (a1 : FVec Ideal S4096x1024 .f32) (a2 : FVec Ideal S1x1024 .f32) : FVec Ideal S4096x1 .f32 :=
  Host.divf (broadcastInDim S4096x1 ![0] bcast_S4096_S4096x1_0 (Host.reduceAdd (v7 a0 a1 a2) (constant S_ .f32 0x00000000#32) reducesTo_S4096x1024_S4096_d1 h_S_)) (broadcastInDim S4096x1 ![] bcast_S_S4096x1 (constant S_ .f32 0x44800000#32))

def v22 (a0 : FVec Ideal S4096x1024 .f32) (a1 : FVec Ideal S4096x1024 .f32) (a2 : FVec Ideal S1x1024 .f32) : FVec Ideal S4096x1024 .f32 :=
  subf (v7 a0 a1 a2) (broadcastInDim S4096x1024 ![0, 1] bcast_S4096x1_S4096x1024_0_1 (v11 a0 a1 a2))

def v24 (a0 : FVec Ideal S4096x1024 .f32) (a1 : FVec Ideal S4096x1024 .f32) (a2 : FVec Ideal S1x1024 .f32) : FVec Ideal S4096x1 .f32 :=
  addf (Host.divf (broadcastInDim S4096x1 ![0] bcast_S4096_S4096x1_0 (Host.reduceAdd (mulf (subf (v7 a0 a1 a2) (broadcastInDim S4096x1024 ![0, 1] bcast_S4096x1_S4096x1024_0_1 (v11 a0 a1 a2))) (subf (v7 a0 a1 a2) (broadcastInDim S4096x1024 ![0, 1] bcast_S4096x1_S4096x1024_0_1 (v11 a0 a1 a2)))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

def v25 (a0 : FVec Ideal S4096x1024 .f32) (a1 : FVec Ideal S4096x1024 .f32) (a2 : FVec Ideal S1x1024 .f32) : FVec Ideal S4096x1 .f32 :=
  Host.rsqrt (v24 a0 a1 a2)

def v28 (a0 : FVec Ideal S4096x1024 .f32) (a1 : FVec Ideal S4096x1024 .f32) (a2 : FVec Ideal S1x1024 .f32) : FVec Ideal S4096x1 .f32 :=
  mulf (broadcastInDim S4096x1 ![] bcast_S_S4096x1 (constant S_ .f32 0xBF000000#32)) (Host.divf (v25 a0 a1 a2) (v24 a0 a1 a2))

def v30 (a0 : FVec Ideal S4096x1024 .f32) (a1 : FVec Ideal S4096x1024 .f32) (a2 : FVec Ideal S1x1024 .f32) : FVec Ideal S4096x1024 .f32 :=
  mulf (v22 a0 a1 a2) (broadcastInDim S4096x1024 ![0, 1] bcast_S4096x1_S4096x1024_0_1 (v25 a0 a1 a2))

def v34 (a0 : FVec Ideal S4096x1024 .f32) (a1 : FVec Ideal S4096x1024 .f32) (a2 : FVec Ideal S1x1024 .f32) (a4 : FVec Ideal S1x1024 .f32) (a5 : FVec Ideal S1x1024 .f32) : FVec Ideal S4096x1024 .f32 :=
  addf (mulf (v30 a0 a1 a2) (broadcastInDim S4096x1024 ![0, 1] bcast_S1x1024_S4096x1024_0_1 a4)) (broadcastInDim S4096x1024 ![0, 1] bcast_S1x1024_S4096x1024_0_1 a5)

def v36 (a3 : FVec Ideal S1x1024 .f32) : FVec Ideal S1x1024 .f32 :=
  addf (broadcastInDim S1x1024 ![] bcast_S_S1x1024 (constant S_ .f32 0x3F800000#32)) a3

def v46 (a6 : FVec Ideal S1024x4096 .f32) (a7 : FVec Ideal S4096x4096 .f32) : FVec Ideal S4096x1024 .f32 :=
  Host.dotGeneral dot_S4096x4096_S1024x4096_S4096x1024_1_1_0_0_n_n none a7 a6

def out3 (a6 : FVec Ideal S1024x4096 .f32) (a7 : FVec Ideal S4096x4096 .f32) :=
  shapeCast _ (Host.reduceAdd (v46 a6 a7) (constant S_ .f32 0x00000000#32) reducesTo_S4096x1024_S1024_d0 h_S_) shapeCasts_S1024_S1x1024

def out2 (a0 : FVec Ideal S4096x1024 .f32) (a1 : FVec Ideal S4096x1024 .f32) (a2 : FVec Ideal S1x1024 .f32) (a4 : FVec Ideal S1x1024 .f32) (a5 : FVec Ideal S1x1024 .f32) (a6 : FVec Ideal S1024x4096 .f32) (a7 : FVec Ideal S4096x4096 .f32) :=
  shapeCast _ (Host.reduceAdd (mulf (v34 a0 a1 a2 a4 a5) (v46 a6 a7)) (constant S_ .f32 0x00000000#32) reducesTo_S4096x1024_S1024_d0 h_S_) shapeCasts_S1024_S1x1024

def v54 (a3 : FVec Ideal S1x1024 .f32) (a6 : FVec Ideal S1024x4096 .f32) (a7 : FVec Ideal S4096x4096 .f32) (a8 : FVec Ideal S4096x1024 .f32) : FVec Ideal S4096x1024 .f32 :=
  addf (mulf (broadcastInDim S4096x1024 ![] bcast_S_S4096x1024 (constant S_ .f32 0x3F9837F0#32)) a8) (mulf (v46 a6 a7) (broadcastInDim S4096x1024 ![0, 1] bcast_S1x1024_S4096x1024_0_1 (v36 a3)))

def out5 (a3 : FVec Ideal S1x1024 .f32) (a6 : FVec Ideal S1024x4096 .f32) (a7 : FVec Ideal S4096x4096 .f32) (a8 : FVec Ideal S4096x1024 .f32) :=
  shapeCast _ (Host.reduceAdd (v54 a3 a6 a7 a8) (constant S_ .f32 0x00000000#32) reducesTo_S4096x1024_S1024_d0 h_S_) shapeCasts_S1024_S1x1024

def out4 (a0 : FVec Ideal S4096x1024 .f32) (a1 : FVec Ideal S4096x1024 .f32) (a2 : FVec Ideal S1x1024 .f32) (a3 : FVec Ideal S1x1024 .f32) (a6 : FVec Ideal S1024x4096 .f32) (a7 : FVec Ideal S4096x4096 .f32) (a8 : FVec Ideal S4096x1024 .f32) :=
  shapeCast _ (Host.reduceAdd (mulf (v30 a0 a1 a2) (v54 a3 a6 a7 a8)) (constant S_ .f32 0x00000000#32) reducesTo_S4096x1024_S1024_d0 h_S_) shapeCasts_S1024_S1x1024

def v61 (a3 : FVec Ideal S1x1024 .f32) (a4 : FVec Ideal S1x1024 .f32) (a6 : FVec Ideal S1024x4096 .f32) (a7 : FVec Ideal S4096x4096 .f32) (a8 : FVec Ideal S4096x1024 .f32) : FVec Ideal S4096x1024 .f32 :=
  mulf (v54 a3 a6 a7 a8) (broadcastInDim S4096x1024 ![0, 1] bcast_S1x1024_S4096x1024_0_1 a4)

def v66 (a0 : FVec Ideal S4096x1024 .f32) (a1 : FVec Ideal S4096x1024 .f32) (a2 : FVec Ideal S1x1024 .f32) (a3 : FVec Ideal S1x1024 .f32) (a4 : FVec Ideal S1x1024 .f32) (a6 : FVec Ideal S1024x4096 .f32) (a7 : FVec Ideal S4096x4096 .f32) (a8 : FVec Ideal S4096x1024 .f32) : FVec Ideal S4096x1024 .f32 :=
  mulf (v61 a3 a4 a6 a7 a8) (broadcastInDim S4096x1024 ![0, 1] bcast_S4096x1_S4096x1024_0_1 (v25 a0 a1 a2))

def v75 (a0 : FVec Ideal S4096x1024 .f32) (a1 : FVec Ideal S4096x1024 .f32) (a2 : FVec Ideal S1x1024 .f32) (a3 : FVec Ideal S1x1024 .f32) (a4 : FVec Ideal S1x1024 .f32) (a6 : FVec Ideal S1024x4096 .f32) (a7 : FVec Ideal S4096x4096 .f32) (a8 : FVec Ideal S4096x1024 .f32) : FVec Ideal S4096x1024 .f32 :=
  mulf (broadcastInDim S4096x1024 ![0] bcast_S4096_S4096x1024_0 (Host.reduceAdd (Host.divf (mulf (shapeCast _ (Host.reduceAdd (mulf (v22 a0 a1 a2) (v61 a3 a4 a6 a7 a8)) (constant S_ .f32 0x00000000#32) reducesTo_S4096x1024_S4096_d1 h_S_) shapeCasts_S4096_S4096x1) (v28 a0 a1 a2)) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (subf (v7 a0 a1 a2) (broadcastInDim S4096x1024 ![0, 1] bcast_S4096x1_S4096x1024_0_1 (v11 a0 a1 a2))))

def out0 (a0 : FVec Ideal S4096x1024 .f32) (a1 : FVec Ideal S4096x1024 .f32) (a2 : FVec Ideal S1x1024 .f32) (a3 : FVec Ideal S1x1024 .f32) (a4 : FVec Ideal S1x1024 .f32) (a6 : FVec Ideal S1024x4096 .f32) (a7 : FVec Ideal S4096x4096 .f32) (a8 : FVec Ideal S4096x1024 .f32) : FVec Ideal S4096x1024 .f32 :=
  addf (addf (v66 a0 a1 a2 a3 a4 a6 a7 a8) (v75 a0 a1 a2 a3 a4 a6 a7 a8)) (broadcastInDim S4096x1024 ![0] bcast_S4096_S4096x1024_0 (Host.reduceAdd (Host.divf (addf (shapeCast _ (Host.reduceAdd (Host.negf (v66 a0 a1 a2 a3 a4 a6 a7 a8)) (constant S_ .f32 0x00000000#32) reducesTo_S4096x1024_S4096_d1 h_S_) shapeCasts_S4096_S4096x1) (shapeCast _ (Host.reduceAdd (Host.negf (v75 a0 a1 a2 a3 a4 a6 a7 a8)) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

def out6 (a0 : FVec Ideal S4096x1024 .f32) (a1 : FVec Ideal S4096x1024 .f32) (a2 : FVec Ideal S1x1024 .f32) (a3 : FVec Ideal S1x1024 .f32) (a4 : FVec Ideal S1x1024 .f32) (a6 : FVec Ideal S1024x4096 .f32) (a7 : FVec Ideal S4096x4096 .f32) (a8 : FVec Ideal S4096x1024 .f32) :=
  shapeCast _ (Host.reduceAdd (mulf (out0 a0 a1 a2 a3 a4 a6 a7 a8) a1) (constant S_ .f32 0x00000000#32) reducesTo_S4096x1024_S1024_d0 h_S_) shapeCasts_S1024_S1x1024

def out1 (a0 : FVec Ideal S4096x1024 .f32) (a1 : FVec Ideal S4096x1024 .f32) (a2 : FVec Ideal S1x1024 .f32) (a3 : FVec Ideal S1x1024 .f32) (a4 : FVec Ideal S1x1024 .f32) (a6 : FVec Ideal S1024x4096 .f32) (a7 : FVec Ideal S4096x4096 .f32) (a8 : FVec Ideal S4096x1024 .f32) : FVec Ideal S4096x1024 .bf16 :=
  (truncf .bf16 · bitsLt_bf16_f32) (mulf (broadcastInDim S4096x1024 ![0, 1] bcast_S1x1024_S4096x1024_0_1 (v4 a2)) (out0 a0 a1 a2 a3 a4 a6 a7 a8))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_v91) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_v51) = out2 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v48) = out3 (m ((c.tc : Thread nD τ).loc main_arg6)) (m ((c.tc : Thread nD τ).loc main_arg7))
      ∧ r.2.mem ((c.tc : Thread nD τ).loc main_v59) = out4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8))
      ∧ r.2.mem ((c.tc : Thread nD τ).loc main_v56) = out5 (m ((c.tc : Thread nD τ).loc main_arg3)) (m ((c.tc : Thread nD τ).loc main_arg6)) (m ((c.tc : Thread nD τ).loc main_arg7)) (m ((c.tc : Thread nD τ).loc main_arg8))
      ∧ r.2.mem ((c.tc : Thread nD τ).loc main_v90) = out6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (by rfl), (h c).2.1.trans (by rfl), (h c).2.2.1.trans (by rfl), (h c).2.2.2.1.trans (by rfl), (h c).2.2.2.2.1.trans (by rfl), (h c).2.2.2.2.2.1.trans (by rfl), (h c).2.2.2.2.2.2.1.trans (by rfl), (h c).2.2.2.2.2.2.2⟩) (Value.run (F := Ideal) m ρ)

end Cert.Dh2RefIdeal.Plain

namespace Cert.Dh2Ideal.Grad
open Cert.Dh2Ideal Cert.Dh2Ideal.Gen Cert.Real
open Cert.Dh2RefIdeal.Plain (v4 v7 v11 v22 v24 v25 v28 v30 v34 v36 v46 out3 out2 v54 out5 out4 v61 v66 v75 out0 out6 out1)
variable (m : (ℓ : Loc nD τ sig) → Buf (Elt Ideal) ℓ)

/-- the arguments as arrays of reals -/
structure In where
  X : S4096x1024.Idx → ℝ
  Y : S4096x1024.Idx → ℝ
  G1 : S1x1024.Idx → ℝ
  S2 : S1x1024.Idx → ℝ
  LG : S1x1024.Idx → ℝ
  LB : S1x1024.Idx → ℝ
  W : S1024x4096.Idx → ℝ
  DU : S4096x4096.Idx → ℝ
  DR : S4096x1024.Idx → ℝ

variable (q : In)
/-- the first residual -/
def In.R (i : Fin 4096) (k : Fin 1024) : ℝ := alpha * q.X (ix2 i k) + (1 + q.G1 (ix2 0 k)) * q.Y (ix2 i k)
/-- the gradient of the modulated rows -/
def In.DH (i : Fin 4096) (k : Fin 1024) : ℝ := ∑ x, q.DU (ix2 i x) * q.W (ix2 k x)
/-- the normed rows with the norm's vectors -/
def In.X1 (i : Fin 4096) (k : Fin 1024) : ℝ := nrm (q.R i) k * q.LG (ix2 0 k) + q.LB (ix2 0 k)
/-- the gradient of the norm's output -/
def In.DX (i : Fin 4096) (k : Fin 1024) : ℝ := alpha * q.DR (ix2 i k) + q.DH i k * (1 + q.S2 (ix2 0 k))
/-- the gradient of the residual -/
def In.D1 (i : Fin 4096) (k : Fin 1024) : ℝ := lnb (q.R i) (fun x => q.DX i x * q.LG (ix2 0 x)) k

theorem r_v4 (i k) : v4 (up q.G1) (ix2 i k) = ((1 + q.G1 (ix2 i k) : ℝ) : EReal) := by
  pointwise [v4]
  try simp only [up_apply, word_1024, word_eps, word_neg_half, word_half, word_two, word_alpha, word_inv1024, one_real, ← EReal.coe_mul, sum_coe, div_1024, ← EReal.coe_add, ← EReal.coe_sub, ← EReal.coe_neg]
  try rfl
theorem r_v7 (i k) : v7 (up q.X) (up q.Y) (up q.G1) (ix2 i k) = ((q.R i k : ℝ) : EReal) := by
  pointwise [v7]
  try simp only [r_v4, up_apply, word_1024, word_eps, word_neg_half, word_half, word_two, word_alpha, word_inv1024, one_real, ← EReal.coe_mul, sum_coe, div_1024, ← EReal.coe_add, ← EReal.coe_sub, ← EReal.coe_neg]
  rfl
theorem r_v11 (i k) : v11 (up q.X) (up q.Y) (up q.G1) (ix2 i k) = (((∑ x, q.R i x) / 1024 : ℝ) : EReal) := by
  pointwise [v11]
  try simp only [r_v7, up_apply, word_1024, word_eps, word_neg_half, word_half, word_two, word_alpha, word_inv1024, one_real, ← EReal.coe_mul, sum_coe, div_1024, ← EReal.coe_add, ← EReal.coe_sub, ← EReal.coe_neg]
  try rfl
theorem r_v22 (i k) : v22 (up q.X) (up q.Y) (up q.G1) (ix2 i k) = ((cen (q.R i) k : ℝ) : EReal) := by
  pointwise [v22]
  try simp only [r_v7, r_v11, up_apply, word_1024, word_eps, word_neg_half, word_half, word_two, word_alpha, word_inv1024, one_real, ← EReal.coe_mul, sum_coe, div_1024, ← EReal.coe_add, ← EReal.coe_sub, ← EReal.coe_neg]
  rfl
theorem r_v24 (i k) : v24 (up q.X) (up q.Y) (up q.G1) (ix2 i k) = (((∑ x, cen (q.R i) x * cen (q.R i) x) / 1024 + eps : ℝ) : EReal) := by
  pointwise [v24]
  try simp only [r_v7, r_v11, up_apply, word_1024, word_eps, word_neg_half, word_half, word_two, word_alpha, word_inv1024, one_real, ← EReal.coe_mul, sum_coe, div_1024, ← EReal.coe_add, ← EReal.coe_sub, ← EReal.coe_neg]
  rfl
theorem r_v25 (i k) : v25 (up q.X) (up q.Y) (up q.G1) (ix2 i k) = ((dev (q.R i) : ℝ) : EReal) := by
  pointwise [v25]
  try simp only [r_v24, rsqrt_ms, up_apply, word_1024, word_eps, word_neg_half, word_half, word_two, word_alpha, word_inv1024, one_real, ← EReal.coe_mul, sum_coe, div_1024, ← EReal.coe_add, ← EReal.coe_sub, ← EReal.coe_neg]
  rfl
theorem r_v28 (i k) : v28 (up q.X) (up q.Y) (up q.G1) (ix2 i k) = ((-(1 / 2) * (dev (q.R i) / ((∑ x, cen (q.R i) x * cen (q.R i) x) / 1024 + eps)) : ℝ) : EReal) := by
  pointwise [v28]
  try simp only [r_v24, r_v25, div_ms, up_apply, word_1024, word_eps, word_neg_half, word_half, word_two, word_alpha, word_inv1024, one_real, ← EReal.coe_mul, sum_coe, div_1024, ← EReal.coe_add, ← EReal.coe_sub, ← EReal.coe_neg]
  try rfl
theorem r_v30 (i k) : v30 (up q.X) (up q.Y) (up q.G1) (ix2 i k) = ((nrm (q.R i) k : ℝ) : EReal) := by
  pointwise [v30]
  try simp only [r_v22, r_v25, up_apply, word_1024, word_eps, word_neg_half, word_half, word_two, word_alpha, word_inv1024, one_real, ← EReal.coe_mul, sum_coe, div_1024, ← EReal.coe_add, ← EReal.coe_sub, ← EReal.coe_neg]
  rfl
theorem r_v34 (i k) : v34 (up q.X) (up q.Y) (up q.G1) (up q.LG) (up q.LB) (ix2 i k) = ((q.X1 i k : ℝ) : EReal) := by
  pointwise [v34]
  try simp only [r_v30, up_apply, word_1024, word_eps, word_neg_half, word_half, word_two, word_alpha, word_inv1024, one_real, ← EReal.coe_mul, sum_coe, div_1024, ← EReal.coe_add, ← EReal.coe_sub, ← EReal.coe_neg]
  rfl
theorem r_v36 (i k) : v36 (up q.S2) (ix2 i k) = ((1 + q.S2 (ix2 i k) : ℝ) : EReal) := by
  pointwise [v36]
  try simp only [up_apply, word_1024, word_eps, word_neg_half, word_half, word_two, word_alpha, word_inv1024, one_real, ← EReal.coe_mul, sum_coe, div_1024, ← EReal.coe_add, ← EReal.coe_sub, ← EReal.coe_neg]
  try rfl
theorem r_v46 (i k) : v46 (up q.W) (up q.DU) (ix2 i k) = ((q.DH i k : ℝ) : EReal) := by
  pointwise [v46]
  try simp only [up_apply, word_1024, word_eps, word_neg_half, word_half, word_two, word_alpha, word_inv1024, one_real, ← EReal.coe_mul, sum_coe, div_1024, ← EReal.coe_add, ← EReal.coe_sub, ← EReal.coe_neg]
  rfl
theorem r_v54 (i k) : v54 (up q.S2) (up q.W) (up q.DU) (up q.DR) (ix2 i k) = ((q.DX i k : ℝ) : EReal) := by
  pointwise [v54]
  try simp only [r_v46, r_v36, up_apply, word_1024, word_eps, word_neg_half, word_half, word_two, word_alpha, word_inv1024, one_real, ← EReal.coe_mul, sum_coe, div_1024, ← EReal.coe_add, ← EReal.coe_sub, ← EReal.coe_neg]
  rfl
theorem r_v61 (i k) : v61 (up q.S2) (up q.LG) (up q.W) (up q.DU) (up q.DR) (ix2 i k) = ((q.DX i k * q.LG (ix2 0 k) : ℝ) : EReal) := by
  pointwise [v61]
  try simp only [r_v54, up_apply, word_1024, word_eps, word_neg_half, word_half, word_two, word_alpha, word_inv1024, one_real, ← EReal.coe_mul, sum_coe, div_1024, ← EReal.coe_add, ← EReal.coe_sub, ← EReal.coe_neg]
  try rfl
theorem r_v66 (i k) : v66 (up q.X) (up q.Y) (up q.G1) (up q.S2) (up q.LG) (up q.W) (up q.DU) (up q.DR) (ix2 i k) = ((q.DX i k * q.LG (ix2 0 k) * dev (q.R i) : ℝ) : EReal) := by
  pointwise [v66]
  try simp only [r_v61, r_v25, up_apply, word_1024, word_eps, word_neg_half, word_half, word_two, word_alpha, word_inv1024, one_real, ← EReal.coe_mul, sum_coe, div_1024, ← EReal.coe_add, ← EReal.coe_sub, ← EReal.coe_neg]
  try rfl
theorem r_v75 (i k) : v75 (up q.X) (up q.Y) (up q.G1) (up q.S2) (up q.LG) (up q.W) (up q.DU) (up q.DR) (ix2 i k) = (((∑ x, cen (q.R i) x * (q.DX i x * q.LG (ix2 0 x))) * (-(1 / 2) * (dev (q.R i) / ((∑ x, cen (q.R i) x * cen (q.R i) x) / 1024 + eps))) / 1024 * (2 * cen (q.R i) k) : ℝ) : EReal) := by
  pointwise [v75]
  try simp only [r_v22, r_v61, r_v28, r_v7, r_v11, Finset.univ_unique, Finset.sum_singleton, up_apply, word_1024, word_eps, word_neg_half, word_half, word_two, word_alpha, word_inv1024, one_real, ← EReal.coe_mul, sum_coe, div_1024, ← EReal.coe_add, ← EReal.coe_sub, ← EReal.coe_neg]
  try rfl
theorem r_out0 (i k) : out0 (up q.X) (up q.Y) (up q.G1) (up q.S2) (up q.LG) (up q.W) (up q.DU) (up q.DR) (ix2 i k) = ((q.D1 i k : ℝ) : EReal) := by
  pointwise [out0]
  try simp only [r_v66, r_v75, Finset.univ_unique, Finset.sum_singleton, up_apply, word_1024, word_eps, word_neg_half, word_half, word_two, word_alpha, word_inv1024, one_real, ← EReal.coe_mul, sum_coe, div_1024, ← EReal.coe_add, ← EReal.coe_sub, ← EReal.coe_neg]
  rw [EReal.coe_eq_coe_iff]
  exact lnb_steps (q.R i) (fun x => q.DX i x * q.LG (ix2 0 x)) k
theorem r_out1 (i k) : out1 (up q.X) (up q.Y) (up q.G1) (up q.S2) (up q.LG) (up q.W) (up q.DU) (up q.DR) (ix2 i k) = (((1 + q.G1 (ix2 0 k)) * q.D1 i k : ℝ) : EReal) := by
  pointwise [out1]
  try simp only [r_v4, r_out0, up_apply, word_1024, word_eps, word_neg_half, word_half, word_two, word_alpha, word_inv1024, one_real, ← EReal.coe_mul, sum_coe, div_1024, ← EReal.coe_add, ← EReal.coe_sub, ← EReal.coe_neg]
  try rfl
theorem r_out2 (i k) : out2 (up q.X) (up q.Y) (up q.G1) (up q.LG) (up q.LB) (up q.W) (up q.DU) (ix2 i k) = ((∑ x, q.DH x k * q.X1 x k : ℝ) : EReal) := by
  pointwise [out2]
  try simp only [r_v34, r_v46, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out3 (i k) : out3 (up q.W) (up q.DU) (ix2 i k) = ((∑ x, q.DH x k : ℝ) : EReal) := by
  pointwise [out3]
  try simp only [r_v46, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out4 (i k) : out4 (up q.X) (up q.Y) (up q.G1) (up q.S2) (up q.W) (up q.DU) (up q.DR) (ix2 i k) = ((∑ x, q.DX x k * nrm (q.R x) k : ℝ) : EReal) := by
  pointwise [out4]
  try simp only [r_v30, r_v54, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out5 (i k) : out5 (up q.S2) (up q.W) (up q.DU) (up q.DR) (ix2 i k) = ((∑ x, q.DX x k : ℝ) : EReal) := by
  pointwise [out5]
  try simp only [r_v54, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)
theorem r_out6 (i k) : out6 (up q.X) (up q.Y) (up q.G1) (up q.S2) (up q.LG) (up q.W) (up q.DU) (up q.DR) (ix2 i k) = ((∑ x, q.D1 x k * q.Y (ix2 x k) : ℝ) : EReal) := by
  pointwise [out6]
  try simp only [r_out0, up_apply, word_1024, word_eps, word_neg_half, word_half, word_two, word_alpha, word_inv1024, one_real, ← EReal.coe_mul, sum_coe, div_1024, ← EReal.coe_add, ← EReal.coe_sub, ← EReal.coe_neg]
  try exact congrArg _ (Finset.sum_congr rfl fun x _ => mul_comm _ _)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)
/-- the row of the whole array that row `i` of block `t` is -/
def row (t : Fin cfg0.N) (i : Fin 512) : Fin 4096 := ⟨t.val * 512 + i.val, by have h := t.isLt.trans_eq N_0; omega⟩

/-- the arguments are these arrays of reals -/
structure Args (c : Dev nD) : Prop where
  h0 : m ((c : Thread nD τ).loc main_arg0) = up q.X
  h1 : m ((c : Thread nD τ).loc main_arg1) = up q.Y
  h2 : m ((c : Thread nD τ).loc main_arg2) = up q.G1
  h3 : m ((c : Thread nD τ).loc main_arg3) = up q.S2
  h4 : m ((c : Thread nD τ).loc main_arg4) = up q.LG
  h5 : m ((c : Thread nD τ).loc main_arg5) = up q.LB
  h6 : m ((c : Thread nD τ).loc main_arg6) = up q.W
  h7 : m ((c : Thread nD τ).loc main_arg7) = up q.DU
  h8 : m ((c : Thread nD τ).loc main_arg8) = up q.DR

variable {m q}
variable (m) in
theorem V7 (c : Dev nD) : V m c main_v7 = (truncf .bf16 (m ((c : Thread nD τ).loc main_arg7) : FVec Ideal S4096x4096 .f32) bitsLt_bf16_f32 : FVec Ideal S4096x4096 .bf16) := by
  unfold V; after_results; try rfl
theorem b0 {c : Dev nD} (h : Args m q c) (t : Fin cfg0.N) (i k) : iblk m c 0 t (ix2 i k) = ((q.DU (ix2 (row t i) k) : ℝ) : EReal) := by
  refine (congrFun (V7 m c) _).trans ?_
  have := congrFun h.h7 (((cfg0.win 0).blk t).view.emb (ix2 i k))
  refine this.trans (congrArg (fun x => ((q.DU x : ℝ) : EReal)) ?_)
  blk_ext [idx t]
  rfl
variable (m) in
theorem V8 (c : Dev nD) : V m c main_v8 = (truncf .bf16 (m ((c : Thread nD τ).loc main_arg6) : FVec Ideal S1024x4096 .f32) bitsLt_bf16_f32 : FVec Ideal S1024x4096 .bf16) := by
  unfold V; after_results; try rfl
theorem b1 {c : Dev nD} (h : Args m q c) (t : Fin cfg0.N) (i k) : iblk m c 1 t (ix2 i k) = ((q.W (ix2 i k) : ℝ) : EReal) := by
  refine (congrFun (V8 m c) _).trans ?_
  have := congrFun h.h6 (((cfg0.win 1).blk t).view.emb (ix2 i k))
  refine this.trans (congrArg (fun x => ((q.W x : ℝ) : EReal)) ?_)
  blk_ext [idx t]
variable (m) in
theorem V6 (c : Dev nD) : V m c main_v6 = (v7 (m ((c : Thread nD τ).loc main_arg0)) (m ((c : Thread nD τ).loc main_arg1)) (m ((c : Thread nD τ).loc main_arg2)) : FVec Ideal S4096x1024 .f32) := by
  unfold V; after_results; rfl
theorem b2 {c : Dev nD} (h : Args m q c) (t : Fin cfg0.N) (i k) : iblk m c 2 t (ix2 i k) = ((q.R (row t i) k : ℝ) : EReal) := by
  refine (congrFun (V6 m c) _).trans ?_
  have e : ((cfg0.win 2).blk t).view.emb (ix2 i k) = ix2 (row t i) k := by
    blk_ext [idx t]
    rfl
  rw [h.h0, h.h1, h.h2, e]
  exact r_v7 q _ _
theorem b3 {c : Dev nD} (h : Args m q c) (t : Fin cfg0.N) (i k) : iblk m c 3 t (ix2 i k) = ((q.DR (ix2 (row t i) k) : ℝ) : EReal) := by
  have := congrFun h.h8 (((cfg0.win 3).blk t).view.emb (ix2 i k))
  refine this.trans (congrArg (fun x => ((q.DR x : ℝ) : EReal)) ?_)
  blk_ext [idx t]
  rfl
theorem b4 {c : Dev nD} (h : Args m q c) (t : Fin cfg0.N) (i k) : iblk m c 4 t (ix2 i k) = ((q.Y (ix2 (row t i) k) : ℝ) : EReal) := by
  have := congrFun h.h1 (((cfg0.win 4).blk t).view.emb (ix2 i k))
  refine this.trans (congrArg (fun x => ((q.Y x : ℝ) : EReal)) ?_)
  blk_ext [idx t]
  rfl
theorem b5 {c : Dev nD} (h : Args m q c) (t : Fin cfg0.N) (i k) : iblk m c 5 t (ix2 i k) = ((q.S2 (ix2 i k) : ℝ) : EReal) := by
  have := congrFun h.h3 (((cfg0.win 5).blk t).view.emb (ix2 i k))
  refine this.trans (congrArg (fun x => ((q.S2 x : ℝ) : EReal)) ?_)
  blk_ext [idx t]
theorem b6 {c : Dev nD} (h : Args m q c) (t : Fin cfg0.N) (i k) : iblk m c 6 t (ix2 i k) = ((q.G1 (ix2 i k) : ℝ) : EReal) := by
  have := congrFun h.h2 (((cfg0.win 6).blk t).view.emb (ix2 i k))
  refine this.trans (congrArg (fun x => ((q.G1 x : ℝ) : EReal)) ?_)
  blk_ext [idx t]
theorem b7 {c : Dev nD} (h : Args m q c) (t : Fin cfg0.N) (i k) : iblk m c 7 t (ix2 i k) = ((q.LG (ix2 i k) : ℝ) : EReal) := by
  have := congrFun h.h4 (((cfg0.win 7).blk t).view.emb (ix2 i k))
  refine this.trans (congrArg (fun x => ((q.LG x : ℝ) : EReal)) ?_)
  blk_ext [idx t]
theorem b8 {c : Dev nD} (h : Args m q c) (t : Fin cfg0.N) (i k) : iblk m c 8 t (ix2 i k) = ((q.LB (ix2 i k) : ℝ) : EReal) := by
  have := congrFun h.h5 (((cfg0.win 8).blk t).view.emb (ix2 i k))
  refine this.trans (congrArg (fun x => ((q.LB x : ℝ) : EReal)) ?_)
  blk_ext [idx t]
theorem p11 {c : Dev nD} (h : Args m q c) (t : Fin cfg0.N) (i k) :
    (k0_pay11 (iblk m c 0 t) (iblk m c 1 t)) (ix2 i k) = ((q.DH (row t i) k : ℝ) : EReal) := by
  pointwise [k0_pay11]
  try simp only [b0 h, b1 h, word_1024, word_eps, word_neg_half, word_half, word_two, word_alpha, word_inv1024, one_real, ← EReal.coe_mul, sum_coe, div_1024, ← EReal.coe_add, ← EReal.coe_sub, ← EReal.coe_neg]
  try rfl
theorem p12 {c : Dev nD} (h : Args m q c) (t : Fin cfg0.N) (i k) :
    k0_pay12 (iblk m c 2 t) (ix2 i k) = ((cen (q.R (row t i)) k : ℝ) : EReal) := by
  pointwise [k0_pay12]
  try simp only [b2 h, word_1024, word_eps, word_neg_half, word_half, word_two, word_alpha, word_inv1024, one_real, ← EReal.coe_mul, sum_coe, div_1024, ← EReal.coe_add, ← EReal.coe_sub, ← EReal.coe_neg]
  try rfl
theorem p13 {c : Dev nD} (h : Args m q c) (t : Fin cfg0.N) (i k) :
    (k0_pay13 (iblk m c 2 t)) (ix2 i k) = ((dev (q.R (row t i)) : ℝ) : EReal) := by
  pointwise [k0_pay13]
  try simp only [p12 h, rsqrt_ms, word_1024, word_eps, word_neg_half, word_half, word_two, word_alpha, word_inv1024, one_real, ← EReal.coe_mul, sum_coe, div_1024, ← EReal.coe_add, ← EReal.coe_sub, ← EReal.coe_neg]
  try rfl
theorem p14 {c : Dev nD} (h : Args m q c) (t : Fin cfg0.N) (i k) :
    (k0_pay14 (iblk m c 2 t)) (ix2 i k) = ((nrm (q.R (row t i)) k : ℝ) : EReal) := by
  pointwise [k0_pay14]
  try simp only [p12 h, p13 h, word_1024, word_eps, word_neg_half, word_half, word_two, word_alpha, word_inv1024, one_real, ← EReal.coe_mul, sum_coe, div_1024, ← EReal.coe_add, ← EReal.coe_sub, ← EReal.coe_neg]
  try rfl
theorem p15 {c : Dev nD} (h : Args m q c) (t : Fin cfg0.N) (i k) :
    (k0_pay15 (iblk m c 2 t) (iblk m c 7 t) (iblk m c 8 t)) (ix2 i k) = ((q.X1 (row t i) k : ℝ) : EReal) := by
  pointwise [k0_pay15]
  try simp only [p14 h, b7 h, b8 h, word_1024, word_eps, word_neg_half, word_half, word_two, word_alpha, word_inv1024, one_real, ← EReal.coe_mul, sum_coe, div_1024, ← EReal.coe_add, ← EReal.coe_sub, ← EReal.coe_neg]
  try rfl
theorem p16 {c : Dev nD} (h : Args m q c) (t : Fin cfg0.N) (i k) :
    k0_pay16 (k0_pay11 (iblk m c 0 t) (iblk m c 1 t)) (iblk m c 3 t) (iblk m c 5 t) (ix2 i k) = ((q.DX (row t i) k : ℝ) : EReal) := by
  pointwise [k0_pay16]
  try simp only [p11 h, b3 h, b5 h, word_1024, word_eps, word_neg_half, word_half, word_two, word_alpha, word_inv1024, one_real, ← EReal.coe_mul, sum_coe, div_1024, ← EReal.coe_add, ← EReal.coe_sub, ← EReal.coe_neg]
  try rfl
theorem p17 {c : Dev nD} (h : Args m q c) (t : Fin cfg0.N) (i k) :
    k0_pay17 (k0_pay11 (iblk m c 0 t) (iblk m c 1 t)) (iblk m c 3 t) (iblk m c 5 t) (iblk m c 7 t) (k0_pay13 (iblk m c 2 t)) (k0_pay14 (iblk m c 2 t)) (ix2 i k) = ((q.D1 (row t i) k : ℝ) : EReal) := by
  pointwise [k0_pay17]
  try simp only [p16 h, p13 h, p14 h, b7 h, word_1024, word_eps, word_neg_half, word_half, word_two, word_alpha, word_inv1024, one_real, ← EReal.coe_mul, sum_coe, div_1024, ← EReal.coe_add, ← EReal.coe_sub, ← EReal.coe_neg]
  try rfl
theorem p18 {c : Dev nD} (h : Args m q c) (t : Fin cfg0.N) (i k) :
    k0_pay18 (k0_pay11 (iblk m c 0 t) (iblk m c 1 t)) (k0_pay15 (iblk m c 2 t) (iblk m c 7 t) (iblk m c 8 t)) (ix2 i k) = ((∑ x, q.DH (row t x) k * q.X1 (row t x) k : ℝ) : EReal) := by
  pointwise [k0_pay18]
  try simp only [p11 h, p15 h, word_1024, word_eps, word_neg_half, word_half, word_two, word_alpha, word_inv1024, one_real, ← EReal.coe_mul, sum_coe, div_1024, ← EReal.coe_add, ← EReal.coe_sub, ← EReal.coe_neg]
  try rfl
theorem p19 {c : Dev nD} (h : Args m q c) (t : Fin cfg0.N) (i k) :
    k0_pay19 (k0_pay11 (iblk m c 0 t) (iblk m c 1 t)) (ix2 i k) = ((∑ x, q.DH (row t x) k : ℝ) : EReal) := by
  pointwise [k0_pay19]
  try simp only [p11 h, word_1024, word_eps, word_neg_half, word_half, word_two, word_alpha, word_inv1024, one_real, ← EReal.coe_mul, sum_coe, div_1024, ← EReal.coe_add, ← EReal.coe_sub, ← EReal.coe_neg]
  try rfl
theorem p20 {c : Dev nD} (h : Args m q c) (t : Fin cfg0.N) (i k) :
    k0_pay20 (k0_pay11 (iblk m c 0 t) (iblk m c 1 t)) (iblk m c 3 t) (iblk m c 5 t) (k0_pay14 (iblk m c 2 t)) (ix2 i k) = ((∑ x, q.DX (row t x) k * nrm (q.R (row t x)) k : ℝ) : EReal) := by
  pointwise [k0_pay20]
  try simp only [p16 h, p14 h, word_1024, word_eps, word_neg_half, word_half, word_two, word_alpha, word_inv1024, one_real, ← EReal.coe_mul, sum_coe, div_1024, ← EReal.coe_add, ← EReal.coe_sub, ← EReal.coe_neg]
  try rfl
theorem p21 {c : Dev nD} (h : Args m q c) (t : Fin cfg0.N) (i k) :
    k0_pay21 (k0_pay11 (iblk m c 0 t) (iblk m c 1 t)) (iblk m c 3 t) (iblk m c 5 t) (ix2 i k) = ((∑ x, q.DX (row t x) k : ℝ) : EReal) := by
  pointwise [k0_pay21]
  try simp only [p16 h, word_1024, word_eps, word_neg_half, word_half, word_two, word_alpha, word_inv1024, one_real, ← EReal.coe_mul, sum_coe, div_1024, ← EReal.coe_add, ← EReal.coe_sub, ← EReal.coe_neg]
  try rfl
theorem p22 {c : Dev nD} (h : Args m q c) (t : Fin cfg0.N) (i k) :
    k0_pay22 (k0_pay11 (iblk m c 0 t) (iblk m c 1 t)) (iblk m c 3 t) (iblk m c 4 t) (iblk m c 5 t) (iblk m c 7 t) (k0_pay13 (iblk m c 2 t)) (k0_pay14 (iblk m c 2 t)) (ix2 i k) = ((∑ x, q.D1 (row t x) k * q.Y (ix2 (row t x) k) : ℝ) : EReal) := by
  pointwise [k0_pay22]
  try simp only [p17 h, b4 h, word_1024, word_eps, word_neg_half, word_half, word_two, word_alpha, word_inv1024, one_real, ← EReal.coe_mul, sum_coe, div_1024, ← EReal.coe_add, ← EReal.coe_sub, ← EReal.coe_neg]
  try rfl
theorem p23 {c : Dev nD} (h : Args m q c) (t : Fin cfg0.N) (i k) :
    k0_pay23 (k0_pay11 (iblk m c 0 t) (iblk m c 1 t)) (iblk m c 3 t) (iblk m c 5 t) (iblk m c 6 t) (iblk m c 7 t) (k0_pay13 (iblk m c 2 t)) (k0_pay14 (iblk m c 2 t)) (ix2 i k) = (((1 + q.G1 (ix2 0 k)) * q.D1 (row t i) k : ℝ) : EReal) := by
  pointwise [k0_pay23]
  try simp only [p17 h, b6 h, word_1024, word_eps, word_neg_half, word_half, word_two, word_alpha, word_inv1024, one_real, ← EReal.coe_mul, sum_coe, div_1024, ← EReal.coe_add, ← EReal.coe_sub, ← EReal.coe_neg]
  try rfl

theorem final9 {c : Dev nD} (h : Args m q c) : (dats m 0 c).arrAt 9 (cfgs 0).N
    = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have e : ((cfg0.win 9).blk t).view.emb y = ix2 (row t (y 0)) (y 1) := by
    idx_vars y
    blk_ext [idx t]
    rfl
  have p : k0_pay17 (k0_pay11 (iblk m c 0 t) (iblk m c 1 t)) (iblk m c 3 t) (iblk m c 5 t) (iblk m c 7 t) (k0_pay13 (iblk m c 2 t)) (k0_pay14 (iblk m c 2 t)) y = ((q.D1 (row t (y 0)) (y 1) : ℝ) : EReal) := by
    idx_vars y
    exact p17 h t _ _
  rw [h.h0, h.h1, h.h2, h.h3, h.h4, h.h6, h.h7, h.h8, e]
  refine Eq.trans ?_ (r_out0 q (row t (y 0)) (y 1)).symm
  blk_simp; rw [after0_9]
  by_cases hc : t.val % 8 = 0
  · rw [outsAt0_A m c t hc]; frame_out; exact p
  · rw [outsAt0_B m c t hc]; frame_out; exact p

theorem final10 {c : Dev nD} (h : Args m q c) : (dats m 0 c).arrAt 10 (cfgs 0).N
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 10 _ (by decide +kernel) fun t hf y => ?_
  have e : ((cfg0.win 10).blk t).view.emb y = ix2 (row t (y 0)) (y 1) := by
    idx_vars y
    blk_ext [idx t]
    rfl
  have p : k0_pay23 (k0_pay11 (iblk m c 0 t) (iblk m c 1 t)) (iblk m c 3 t) (iblk m c 5 t) (iblk m c 6 t) (iblk m c 7 t) (k0_pay13 (iblk m c 2 t)) (k0_pay14 (iblk m c 2 t)) y = (((1 + q.G1 (ix2 0 (y 1))) * q.D1 (row t (y 0)) (y 1) : ℝ) : EReal) := by
    idx_vars y
    exact p23 h t _ _
  rw [h.h0, h.h1, h.h2, h.h3, h.h4, h.h6, h.h7, h.h8, e]
  refine Eq.trans ?_ (r_out1 q (row t (y 0)) (y 1)).symm
  blk_simp; rw [after0_10]
  by_cases hc : t.val % 8 = 0
  · rw [outsAt0_A m c t hc]; frame_out; exact p
  · rw [outsAt0_B m c t hc]; frame_out; exact p

theorem zero11 (j : S1x1024.Idx) : k0_pay1 (F := Ideal) j = 0 := by
  pointwise! [k0_pay1]
theorem acc11 (v64 : FVec Ideal S1x1024 .f32) (v81 : Vec Ideal S1x1024 .f32) (j : S1x1024.Idx) :
    k0_pay6 v64 v81 j = v81 j + v64 j := by
  pointwise [k0_pay6]
theorem final11 {c : Dev nD} (h : Args m q c) : (dats m 0 c).arrAt 11 (cfgs 0).N
    = out2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (dats m 0 c).arrAt_eq_of_after_last 11 t0_7 (by decide +kernel) _ fun j => ?_
  blk_simp
  rw [after0_11, Pipeline.eq_sum_fin_of_reset_step_apply_last (fun n h => (outsAt0 m c n h).2.2.1) 8 (fun _ => 0) _
    (fun t h j => by rw [outsAt0_A m c t h]; frame_out; rw [acc11, zero11])
    (fun t h j => by rw [outsAt0_B m c t h]; frame_out; rw [acc11])
    (le_of_eq N_0) t0_7 rfl j, zero_add]
  idx_vars j
  rw [h.h0, h.h1, h.h2, h.h4, h.h5, h.h6, h.h7]
  refine (Finset.sum_congr rfl fun p _ => p18 h p _ _).trans (Eq.trans ?_ (r_out2 q j0 j1).symm)
  rw [sum_coe, EReal.coe_eq_coe_iff]
  exact (Fin.sum_univ_tiles 8 512 rfl fun x => q.DH x j1 * q.X1 x j1).symm

theorem zero12 (j : S1x1024.Idx) : k0_pay2 (F := Ideal) j = 0 := by
  pointwise! [k0_pay2]
theorem acc12 (v66 : FVec Ideal S1x1024 .f32) (v85 : Vec Ideal S1x1024 .f32) (j : S1x1024.Idx) :
    k0_pay7 v66 v85 j = v85 j + v66 j := by
  pointwise [k0_pay7]
theorem final12 {c : Dev nD} (h : Args m q c) : (dats m 0 c).arrAt 12 (cfgs 0).N
    = out3 (m ((c : Thread nD τ).loc main_arg6)) (m ((c : Thread nD τ).loc main_arg7)) := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => 0) _
    (fun t h j => by rw [outsAt0_A m c t h]; frame_out; rw [acc12, zero12])
    (fun t h j => by rw [outsAt0_B m c t h]; frame_out; rw [acc12])
    (le_of_eq N_0) t0_7 rfl j, zero_add]
  idx_vars j
  rw [h.h6, h.h7]
  refine (Finset.sum_congr rfl fun p _ => p19 h p _ _).trans (Eq.trans ?_ (r_out3 q j0 j1).symm)
  rw [sum_coe, EReal.coe_eq_coe_iff]
  exact (Fin.sum_univ_tiles 8 512 rfl fun x => q.DH x j1).symm

theorem zero13 (j : S1x1024.Idx) : k0_pay3 (F := Ideal) j = 0 := by
  pointwise! [k0_pay3]
theorem acc13 (v69 : FVec Ideal S1x1024 .f32) (v89 : Vec Ideal S1x1024 .f32) (j : S1x1024.Idx) :
    k0_pay8 v69 v89 j = v89 j + v69 j := by
  pointwise [k0_pay8]
theorem final13 {c : Dev nD} (h : Args m q c) : (dats m 0 c).arrAt 13 (cfgs 0).N
    = out4 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  refine (dats m 0 c).arrAt_eq_of_after_last 13 t0_7 (by decide +kernel) _ fun j => ?_
  blk_simp
  rw [after0_13, Pipeline.eq_sum_fin_of_reset_step_apply_last (fun n h => (outsAt0 m c n h).2.2.2.2.1) 8 (fun _ => 0) _
    (fun t h j => by rw [outsAt0_A m c t h]; frame_out; rw [acc13, zero13])
    (fun t h j => by rw [outsAt0_B m c t h]; frame_out; rw [acc13])
    (le_of_eq N_0) t0_7 rfl j, zero_add]
  idx_vars j
  rw [h.h0, h.h1, h.h2, h.h3, h.h6, h.h7, h.h8]
  refine (Finset.sum_congr rfl fun p _ => p20 h p _ _).trans (Eq.trans ?_ (r_out4 q j0 j1).symm)
  rw [sum_coe, EReal.coe_eq_coe_iff]
  exact (Fin.sum_univ_tiles 8 512 rfl fun x => q.DX x j1 * nrm (q.R x) j1).symm

theorem zero14 (j : S1x1024.Idx) : k0_pay4 (F := Ideal) j = 0 := by
  pointwise! [k0_pay4]
theorem acc14 (v71 : FVec Ideal S1x1024 .f32) (v93 : Vec Ideal S1x1024 .f32) (j : S1x1024.Idx) :
    k0_pay9 v71 v93 j = v93 j + v71 j := by
  pointwise [k0_pay9]
theorem final14 {c : Dev nD} (h : Args m q c) : (dats m 0 c).arrAt 14 (cfgs 0).N
    = out5 (m ((c : Thread nD τ).loc main_arg3)) (m ((c : Thread nD τ).loc main_arg6)) (m ((c : Thread nD τ).loc main_arg7)) (m ((c : Thread nD τ).loc main_arg8)) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.1) 8 (fun _ => 0) _
    (fun t h j => by rw [outsAt0_A m c t h]; frame_out; rw [acc14, zero14])
    (fun t h j => by rw [outsAt0_B m c t h]; frame_out; rw [acc14])
    (le_of_eq N_0) t0_7 rfl j, zero_add]
  idx_vars j
  rw [h.h3, h.h6, h.h7, h.h8]
  refine (Finset.sum_congr rfl fun p _ => p21 h p _ _).trans (Eq.trans ?_ (r_out5 q j0 j1).symm)
  rw [sum_coe, EReal.coe_eq_coe_iff]
  exact (Fin.sum_univ_tiles 8 512 rfl fun x => q.DX x j1).symm

theorem zero15 (j : S1x1024.Idx) : k0_pay5 (F := Ideal) j = 0 := by
  pointwise! [k0_pay5]
theorem acc15 (v74 : FVec Ideal S1x1024 .f32) (v97 : Vec Ideal S1x1024 .f32) (j : S1x1024.Idx) :
    k0_pay10 v74 v97 j = v97 j + v74 j := by
  pointwise [k0_pay10]
theorem final15 {c : Dev nD} (h : Args m q c) : (dats m 0 c).arrAt 15 (cfgs 0).N
    = out6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.2) 8 (fun _ => 0) _
    (fun t h j => by rw [outsAt0_A m c t h]; frame_out; rw [acc15, zero15])
    (fun t h j => by rw [outsAt0_B m c t h]; frame_out; rw [acc15])
    (le_of_eq N_0) t0_7 rfl j, zero_add]
  idx_vars j
  rw [h.h0, h.h1, h.h2, h.h3, h.h4, h.h6, h.h7, h.h8]
  refine (Finset.sum_congr rfl fun p _ => p22 h p _ _).trans (Eq.trans ?_ (r_out6 q j0 j1).symm)
  rw [sum_coe, EReal.coe_eq_coe_iff]
  exact (Fin.sum_univ_tiles 8 512 rfl fun x => q.D1 x j1 * q.Y (ix2 x j1)).symm
end Cert.Dh2Ideal.Grad
end
-- ==== Proof.Dh1Val.lean ====
module
public import proofs.«01_k».proof.Proof.Gen.Dh1Ideal.Frame
public import proofs.«01_k».proof.Proof.Gen.Dh1Ideal.Value
public import proofs.«01_k».proof.Proof.Gen.Dh1RefIdeal.Run
public import Idealize.ShloMosaic.Lib.Pipeline.ValueKit
public import Idealize.ShloMosaic.Lib.Pointwise
public import Idealize.ShloMosaic.Lib.Claim
public import proofs.«01_k».proof.Proof.Real
@[expose] public section
set_option maxRecDepth 16384

noncomputable section
open Idealize.ShloMosaic Idealize.ShloMosaic.TcCoe Idealize.SL.Sem
open Idealize.ShloMosaic.Pipeline (Dat)

namespace Cert.Dh1RefIdeal.Plain
open Cert.Dh1RefIdeal Cert.Dh1RefIdeal.Gen

def out2 (a2 : FVec Ideal S1024x5664 .f32) (a3 : FVec Ideal S4096x5664 .f32) :=
  shapeCast _ (Host.reduceAdd (Host.dotGeneral dot_S4096x5664_S1024x5664_S4096x1024_1_1_0_0_n_n none a3 a2) (constant S_ .f32 0x00000000#32) reducesTo_S4096x1024_S1024_d0 h_S_) shapeCasts_S1024_S1x1024

def out1 (a0 : FVec Ideal S4096x1024 .f32) (a2 : FVec Ideal S1024x5664 .f32) (a3 : FVec Ideal S4096x5664 .f32) :=
  shapeCast _ (Host.reduceAdd (mulf a0 (Host.dotGeneral dot_S4096x5664_S1024x5664_S4096x1024_1_1_0_0_n_n none a3 a2)) (constant S_ .f32 0x00000000#32) reducesTo_S4096x1024_S1024_d0 h_S_) shapeCasts_S1024_S1x1024

def out0 (a1 : FVec Ideal S1x1024 .f32) (a2 : FVec Ideal S1024x5664 .f32) (a3 : FVec Ideal S4096x5664 .f32) (a4 : FVec Ideal S4096x1024 .f32) : FVec Ideal S4096x1024 .f32 :=
  addf (mulf (broadcastInDim S4096x1024 ![] bcast_S_S4096x1024 (constant S_ .f32 0x3F9837F0#32)) a4) (mulf (Host.dotGeneral dot_S4096x5664_S1024x5664_S4096x1024_1_1_0_0_n_n none a3 a2) (broadcastInDim S4096x1024 ![0, 1] bcast_S1x1024_S4096x1024_0_1 (addf (broadcastInDim S1x1024 ![] bcast_S_S1x1024 (constant S_ .f32 0x3F800000#32)) a1)))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = out0 (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v17) = out1 (m ((c.tc : Thread nD τ).loc main_arg0)) (m ((c.tc : Thread nD τ).loc main_arg2)) (m ((c.tc : Thread nD τ).loc main_arg3))
      ∧ r.2.mem ((c.tc : Thread nD τ).loc main_v14) = out2 (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by rfl), (h c).2.1.trans (by rfl), (h c).2.2.1.trans (by rfl), (h c).2.2.2⟩) (Value.run (F := Ideal) m ρ)

end Cert.Dh1RefIdeal.Plain

namespace Cert.Dh1Ideal.Grad
open Cert.Dh1Ideal Cert.Dh1Ideal.Gen Cert.Real
open Cert.Dh1RefIdeal.Plain (out0 out1 out2)
variable (m : (ℓ : Loc nD τ sig) → Buf (Elt Ideal) ℓ)

/-- the natural column of the projection that the kernel keeps at column `x` -/
def nat (x : ℕ) : ℕ := if x < 2048 then x else if x < 5120 then x + 528 else if x < 5648 then x - 3072 else x
/-- the kernel's column of natural column `y` -/
def lay (y : ℕ) : ℕ := if y < 2048 then y else if y < 2576 then y + 3072 else if y < 5648 then y - 528 else y
theorem nat_lt {x : ℕ} (h : x < 5664) : nat x < 5664 := by unfold nat; split_ifs <;> omega
theorem lay_lt {x : ℕ} (h : x < 5664) : lay x < 5664 := by unfold lay; split_ifs <;> omega
/-- the two column orders -/
def cols : Fin 5664 ≃ Fin 5664 where
  toFun x := ⟨nat x.val, nat_lt x.isLt⟩
  invFun y := ⟨lay y.val, lay_lt y.isLt⟩
  left_inv x := by have := x.isLt; ext; dsimp only; unfold nat lay; split_ifs <;> omega
  right_inv x := by have := x.isLt; ext; dsimp only; unfold nat lay; split_ifs <;> omega

/-- an array in the kernel's column order: natural columns, then zero columns -/
def packed (f : Fin 5664 → EReal) (x : Fin 5760) : EReal := if h : x.val < 5664 then f ⟨nat x.val, nat_lt h⟩ else 0

/-- a product of two packed rows is the product of the natural ones -/
theorem sum_packed (f g : Fin 5664 → EReal) : ∑ x, packed f x * packed g x = ∑ y, f y * g y := by
  rw [← Equiv.sum_comp cols]
  have := Fin.sum_univ_add (a := 5664) (b := 96) fun x : Fin (5664 + 96) => packed f x * packed g x
  refine this.trans ?_
  have z : ∀ x : Fin 96, packed f (Fin.natAdd 5664 x) * packed g (Fin.natAdd 5664 x) = 0 := fun x => by
    have : ¬ (Fin.natAdd 5664 x).val < 5664 := by simp
    unfold packed
    rw [dif_neg this, zero_mul]
  rw [Finset.sum_congr rfl fun x _ => z x, Finset.sum_const_zero, add_zero]
  refine Finset.sum_congr rfl fun x _ => ?_
  have : (Fin.castAdd 96 x).val < 5664 := x.isLt
  unfold packed
  rw [dif_pos this, dif_pos this]
  rfl

/-- the cotangent in the kernel's column order, piece by piece -/
def pcols (w : S4096x5664.Idx → EReal) : S4096x5760.Idx → EReal :=
  concatenate S4096x5760 1 [⟨S4096x2048, extractStridedSlice S4096x2048 ![0, 0] w (by decide)⟩,
    ⟨S4096x3072, extractStridedSlice S4096x3072 ![0, 2576] w (by decide)⟩,
    ⟨S4096x512, extractStridedSlice S4096x512 ![0, 2048] w (by decide)⟩,
    ⟨S4096x16, extractStridedSlice S4096x16 ![0, 2560] w (by decide)⟩,
    ⟨S4096x16, extractStridedSlice S4096x16 ![0, 5648] w (by decide)⟩,
    ⟨S4096x96, fun _ => (0 : EReal)⟩] concatenates_S4096x2048_S4096x3072_S4096x512_S4096x16_S4096x16_S4096x96_S4096x5760_d1

theorem cat_of {a0 b0 : S4096x2048.Idx → EReal} {a1 b1 : S4096x3072.Idx → EReal} {a2 b2 : S4096x512.Idx → EReal} {a3 b3 a4 b4 : S4096x16.Idx → EReal}
    {a5 b5 : S4096x96.Idx → EReal} (h0 : a0 = b0) (h1 : a1 = b1) (h2 : a2 = b2) (h3 : a3 = b3) (h4 : a4 = b4) (h5 : a5 = b5) :
    (truncf .bf16 (concatenate S4096x5760 1 [⟨S4096x2048, a0⟩, ⟨S4096x3072, a1⟩, ⟨S4096x512, a2⟩, ⟨S4096x16, a3⟩, ⟨S4096x16, a4⟩, ⟨S4096x96, a5⟩]
      concatenates_S4096x2048_S4096x3072_S4096x512_S4096x16_S4096x16_S4096x96_S4096x5760_d1 : FVec Ideal S4096x5760 .f32) bitsLt_bf16_f32 : FVec Ideal S4096x5760 .bf16)
    = concatenate S4096x5760 1 [⟨S4096x2048, b0⟩, ⟨S4096x3072, b1⟩, ⟨S4096x512, b2⟩, ⟨S4096x16, b3⟩, ⟨S4096x16, b4⟩, ⟨S4096x96, b5⟩]
      concatenates_S4096x2048_S4096x3072_S4096x512_S4096x16_S4096x16_S4096x96_S4096x5760_d1 := by
  subst h0 h1 h2 h3 h4 h5
  rfl

theorem V20 (c : Dev nD) : V m c main_v20 = pcols (m ((c : Thread nD τ).loc main_arg3) : FVec Ideal S4096x5664 .f32) := by
  unfold V; after_results
  refine cat_of ?_ ?_ ?_ ?_ ?_ ?_
  pick_goal 6
  · have z : (fun _ => (0 : EReal)) = (broadcastInDim S4096x96 ![] bcast_S_S4096x96 (constant S_ .f32 0x00000000#32) : FVec Ideal S4096x96 .f32) := by
      funext j
      pointwise!
    refine Eq.trans ?_ z.symm
    first
    | (after_results; rfl)
    | rfl
  all_goals
    first
    | (after_results; rfl)
    | rfl

theorem pcols_apply (w : S4096x5664.Idx → EReal) (i : Fin 4096) (x : Fin 5760) : pcols w (ix2 i x) = packed (fun y => w (ix2 i y)) x := by
  pointwise [pcols]
  unfold packed nat
  have := x.isLt
  split_ifs
  all_goals try (exfalso; omega)
  all_goals first
    | rfl
    | (rw [dif_pos (show x.val < 5664 by omega)]
       try exact congrArg (fun z => w (ix2 i z)) (Fin.ext (by first | omega | (dsimp only; split_ifs <;> omega) | dsimp only)))
    | rw [dif_neg (show ¬ x.val < 5664 by omega)]

theorem update_of {u s : Shape} {x x' : s.Idx → EReal} {w : u.Idx → EReal} {start : Fin s.rank → Int}
    {h : s.Slices (fun _ => 0) u} {k : Fin s.rank → Nat} {hk : s.Slices k u} (e : ∀ a, start a = (k a : Int)) (hx : x = x') :
    Host.dynamicUpdateSlice x w start h = updateSlice x' w k hk := by
  rw [hx]
  exact WordCmp.dynamicUpdateSlice_eq_update _ _ _ _ _ hk e

/-- the weight in the kernel's column order, piece by piece -/
def wcols (w : S5664x1024.Idx → EReal) : S5760x1024.Idx → EReal :=
    updateSlice (updateSlice (updateSlice (updateSlice (updateSlice (fun _ => (0 : EReal))
      (extractStridedSlice S2048x1024 ![0, 0] w slices_S5664x1024_S2048x1024_0_0) ![0, 0] (by decide))
      (extractStridedSlice S3072x1024 ![2576, 0] w slices_S5664x1024_S3072x1024_2576_0) ![2048, 0] (by decide))
      (extractStridedSlice S512x1024 ![2048, 0] w slices_S5664x1024_S512x1024_2048_0) ![5120, 0] (by decide))
      (extractStridedSlice S16x1024 ![2560, 0] w slices_S5664x1024_S16x1024_2560_0) ![5632, 0] (by decide))
      (extractStridedSlice S16x1024 ![5648, 0] w slices_S5664x1024_S16x1024_5648_0) ![5648, 0] (by decide)

theorem V12 (c : Dev nD) : V m c main_v12 = wcols (transpose S5664x1024 [1, 0] (m ((c : Thread nD τ).loc main_arg2) : FVec Ideal S1024x5664 .f32) transposes_S1024x5664_S5664x1024_1_0) := by
  unfold V wcols; after_results
  refine update_of (fun a => ?_) (update_of (fun a => ?_) (update_of (fun a => ?_) (update_of (fun a => ?_) (update_of (fun a => ?_) ?_))))
  pick_goal 6
  · funext j
    pointwise!
  all_goals
    fin_cases a
    all_goals
      first
      | rfl
      | after_results; rfl

theorem wcols_apply (w : S5664x1024.Idx → EReal) (x : Fin 5760) (k : Fin 1024) : wcols w (ix2 x k) = packed (fun y => w (ix2 y k)) x := by
  pointwise [wcols]
  unfold packed nat
  have := x.isLt
  have := k.isLt
  simp only [Fin.forall_fin_two]
  split_ifs
  all_goals try (exfalso; omega)
  all_goals first | exact congrArg (fun z => w (ix2 z k)) (Fin.ext (by first | omega | (dsimp only; omega) | dsimp only)) | rfl

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] :=
  (by decide +kernel : ∀ t : Fin grid0.N, _)
/-- the row of the whole array that row `i` of block `t` is -/
def row (t : Fin cfg0.N) (i : Fin 512) : Fin 4096 := ⟨t.val * 512 + i.val, by have h := t.isLt.trans_eq N_0; omega⟩

/-- the gradient of the product's left side -/
def D (a2 : S1024x5664.Idx → EReal) (a3 : S4096x5664.Idx → EReal) (r : Fin 4096) (k : Fin 1024) : EReal := ∑ y : Fin 5664, a3 (ix2 r y) * a2 (ix2 k y)
/-- the same times the layer's input -/
def DA (a0 : S4096x1024.Idx → EReal) (a2 : S1024x5664.Idx → EReal) (a3 : S4096x5664.Idx → EReal) (r : Fin 4096) (k : Fin 1024) : EReal := D a2 a3 r k * a0 (ix2 r k)

theorem e0 (t : Fin cfg0.N) (i k) : ((cfg0.win 0).blk t).view.emb (ix2 i k) = ix2 (row t i) k := by blk_ext [idx t]; rfl
theorem e1 (t : Fin cfg0.N) (i k) : ((cfg0.win 1).blk t).view.emb (ix2 i k) = ix2 i k := by blk_ext [idx t]
theorem e2 (t : Fin cfg0.N) (i k) : ((cfg0.win 2).blk t).view.emb (ix2 i k) = ix2 (row t i) k := by blk_ext [idx t]; rfl
theorem e3 (t : Fin cfg0.N) (i k) : ((cfg0.win 3).blk t).view.emb (ix2 i k) = ix2 (row t i) k := by blk_ext [idx t]; rfl
theorem e4 (t : Fin cfg0.N) (i k) : ((cfg0.win 4).blk t).view.emb (ix2 i k) = ix2 i k := by blk_ext [idx t]
theorem e5 (t : Fin cfg0.N) (i k) : ((cfg0.win 5).blk t).view.emb (ix2 i k) = ix2 (row t i) k := by blk_ext [idx t]; rfl

theorem b0 (c : Dev nD) (t : Fin cfg0.N) (i x) : iblk m c 0 t (ix2 i x) = packed (fun y => (m ((c : Thread nD τ).loc main_arg3) : FVec Ideal S4096x5664 .f32) (ix2 (row t i) y)) x := by
  refine (congrFun (V20 m c) _).trans ?_
  rw [e0, pcols_apply]
theorem b1 (c : Dev nD) (t : Fin cfg0.N) (x k) : iblk m c 1 t (ix2 x k) = packed (fun y => (m ((c : Thread nD τ).loc main_arg2) : FVec Ideal S1024x5664 .f32) (ix2 k y)) x := by
  refine (congrFun (V12 m c) _).trans ?_
  rw [e1, wcols_apply]
  refine congrArg (fun f => packed f x) (funext fun y => ?_)
  pointwise!
theorem b2 (c : Dev nD) (t : Fin cfg0.N) (i k) : iblk m c 2 t (ix2 i k) = (m ((c : Thread nD τ).loc main_arg0) : FVec Ideal S4096x1024 .f32) (ix2 (row t i) k) := congrArg (m ((c : Thread nD τ).loc main_arg0) : FVec Ideal S4096x1024 .f32) (e2 t i k)
theorem b3 (c : Dev nD) (t : Fin cfg0.N) (i k) : iblk m c 3 t (ix2 i k) = (m ((c : Thread nD τ).loc main_arg4) : FVec Ideal S4096x1024 .f32) (ix2 (row t i) k) := congrArg (m ((c : Thread nD τ).loc main_arg4) : FVec Ideal S4096x1024 .f32) (e3 t i k)
theorem b4 (c : Dev nD) (t : Fin cfg0.N) (i k) : iblk m c 4 t (ix2 i k) = (m ((c : Thread nD τ).loc main_arg1) : FVec Ideal S1x1024 .f32) (ix2 i k) := congrArg (m ((c : Thread nD τ).loc main_arg1) : FVec Ideal S1x1024 .f32) (e4 t i k)

theorem p2 (c : Dev nD) (t : Fin cfg0.N) (i k) : k0_pay2 (iblk m c 0 t) (iblk m c 1 t) (ix2 i k) = D (m ((c : Thread nD τ).loc main_arg2)) (m ((c : Thread nD τ).loc main_arg3)) (row t i) k := by
  pointwise [k0_pay2]
  refine (Finset.sum_congr rfl fun x _ => ?_).trans (sum_packed _ _)
  rw [b0, b1]
theorem final5 (c : Dev nD) : (dats m 0 c).arrAt 5 (cfgs 0).N = out0 (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have p : k0_pay3 (iblk m c 0 t) (iblk m c 1 t) (iblk m c 3 t) (iblk m c 4 t) y = out0 (m ((c : Thread nD τ).loc main_arg1)) (m ((c : Thread nD τ).loc main_arg2)) (m ((c : Thread nD τ).loc main_arg3)) (m ((c : Thread nD τ).loc main_arg4)) (ix2 (row t (y 0)) (y 1)) := by
    idx_vars y
    pointwise [k0_pay3, out0]
    rw [p2, b3, b4]
    rfl
  have e : ((cfg0.win 5).blk t).view.emb y = ix2 (row t (y 0)) (y 1) := by
    idx_vars y
    exact e5 t _ _
  rw [e]
  blk_simp; rw [after0_5]
  by_cases hc : t.val % 8 = 0
  · rw [outsAt0_A m c t hc]; frame_out; exact p
  · rw [outsAt0_B m c t hc]; frame_out; exact p

theorem zero6 (j : S1x1024.Idx) : k0_pay5 (F := Ideal) j = 0 := by
  pointwise! [k0_pay5]
theorem zero7 (j : S1x1024.Idx) : k0_pay6 (F := Ideal) j = 0 := by
  pointwise! [k0_pay6]
theorem acc7 (v19 : FVec Ideal S1x1024 .f32) (v28 : Vec Ideal S1x1024 .f32) (j : S1x1024.Idx) : k0_pay1 v19 v28 j = v28 j + v19 j := by
  pointwise [k0_pay1]
/-- a block's part of the weighted column sum -/
def part6 (v0 : Vec Ideal S512x5760 .bf16) (v2 : Vec Ideal S5760x1024 .bf16) (v5 : Vec Ideal S512x1024 .f32) (j : S1x1024.Idx) : EReal :=
  ∑ i : Fin 512, k0_pay2 v0 v2 (ix2 i (j 1)) * v5 (ix2 i (j 1))
theorem acc6 (v0 : Vec Ideal S512x5760 .bf16) (v2 : Vec Ideal S5760x1024 .bf16) (v5 : Vec Ideal S512x1024 .f32) (v24 : Vec Ideal S1x1024 .f32) (j : S1x1024.Idx) :
    k0_pay7 v0 v2 v5 v24 j = v24 j + part6 v0 v2 v5 j := by
  idx_vars j
  pointwise [k0_pay7, part6]
theorem p4 (c : Dev nD) (t : Fin cfg0.N) (i k) : k0_pay4 (iblk m c 0 t) (iblk m c 1 t) (ix2 i k) = ∑ r : Fin 512, D (m ((c : Thread nD τ).loc main_arg2)) (m ((c : Thread nD τ).loc main_arg3)) (row t r) k := by
  pointwise [k0_pay4]
  exact Finset.sum_congr rfl fun r _ => p2 m c t r k
theorem p6 (c : Dev nD) (t : Fin cfg0.N) (i k) : part6 (iblk m c 0 t) (iblk m c 1 t) (iblk m c 2 t) (ix2 i k) = ∑ r : Fin 512, DA (m ((c : Thread nD τ).loc main_arg0)) (m ((c : Thread nD τ).loc main_arg2)) (m ((c : Thread nD τ).loc main_arg3)) (row t r) k := by
  unfold part6
  exact Finset.sum_congr rfl fun r _ => congrArg₂ (· * ·) (p2 m c t r k) (b2 m c t r k)
theorem final6 (c : Dev nD) : (dats m 0 c).arrAt 6 (cfgs 0).N = out1 (m ((c : Thread nD τ).loc main_arg0)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h]; frame_out; rw [acc6, zero6])
    (fun t h j => by rw [outsAt0_B m c t h]; frame_out; rw [acc6])
    (le_of_eq N_0) t0_7 rfl j, zero_add]
  idx_vars j
  refine (Finset.sum_congr rfl fun p _ => p6 m c p _ _).trans (Eq.trans ?_ (?_ : ∑ x : Fin 4096, DA (m ((c : Thread nD τ).loc main_arg0)) (m ((c : Thread nD τ).loc main_arg2)) (m ((c : Thread nD τ).loc main_arg3)) x j1 = _))
  · exact (Fin.sum_univ_tiles 8 512 rfl fun x => DA (m ((c : Thread nD τ).loc main_arg0)) (m ((c : Thread nD τ).loc main_arg2)) (m ((c : Thread nD τ).loc main_arg3)) x j1).symm
  · pointwise [out1]
    exact Finset.sum_congr rfl fun x _ => mul_comm _ _
theorem final7 (c : Dev nD) : (dats m 0 c).arrAt 7 (cfgs 0).N = out2 (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h]; frame_out; rw [acc7, zero7])
    (fun t h j => by rw [outsAt0_B m c t h]; frame_out; rw [acc7])
    (le_of_eq N_0) t0_7 rfl j, zero_add]
  idx_vars j
  refine (Finset.sum_congr rfl fun p _ => p4 m c p _ _).trans (Eq.trans ?_ (?_ : ∑ x : Fin 4096, D (m ((c : Thread nD τ).loc main_arg2)) (m ((c : Thread nD τ).loc main_arg3)) x j1 = _))
  · exact (Fin.sum_univ_tiles 8 512 rfl fun x => D (m ((c : Thread nD τ).loc main_arg2)) (m ((c : Thread nD τ).loc main_arg3)) x j1).symm
  · pointwise [out2]
    rfl

end Cert.Dh1Ideal.Grad
end
-- ==== Proof.AttnRef.lean ====
module
public import proofs.«01_k».proof.Proof.Gen.AttnRefIdeal.Run
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! The plain program of the attention's gradient, in stages, and its stages over the reals. -/
noncomputable section
open Idealize.ShloMosaic Idealize.ShloMosaic.TcCoe Idealize.SL.Sem

namespace Cert.AttnRefIdeal.Plain
open Cert.AttnRefIdeal Cert.AttnRefIdeal.Gen

def v3 (a3 : FVec Ideal S4096x16 .f32) (a4 : FVec Ideal S1x16 .f32) : FVec Ideal S4096x16 .f32 :=
  Host.reduceWindowAdd ![4096, 1] ![1, 1] ![4095, 0] ![0, 0] (Host.negf (select (cmpf .une (subf (Host.negf (addf a3 (broadcastInDim S4096x16 ![0, 1] bcast_S1x16_S4096x16_0_1 a4))) (broadcastInDim S4096x16 ![] bcast_S_S4096x16 (constant S_ .f32 0x00000000#32))) (subf (Host.negf (addf a3 (broadcastInDim S4096x16 ![0, 1] bcast_S1x16_S4096x16_0_1 a4))) (broadcastInDim S4096x16 ![] bcast_S_S4096x16 (constant S_ .f32 0x00000000#32)))) (addf (Host.negf (addf a3 (broadcastInDim S4096x16 ![0, 1] bcast_S1x16_S4096x16_0_1 a4))) (broadcastInDim S4096x16 ![] bcast_S_S4096x16 (constant S_ .f32 0x00000000#32))) (addf (maximumf (Host.negf (addf a3 (broadcastInDim S4096x16 ![0, 1] bcast_S1x16_S4096x16_0_1 a4))) (broadcastInDim S4096x16 ![] bcast_S_S4096x16 (constant S_ .f32 0x00000000#32))) (Host.log1p (Host.exp (Host.negf (Host.absf (subf (Host.negf (addf a3 (broadcastInDim S4096x16 ![0, 1] bcast_S1x16_S4096x16_0_1 a4))) (broadcastInDim S4096x16 ![] bcast_S_S4096x16 (constant S_ .f32 0x00000000#32)))))))))) (broadcastInDim S_ ![] bcast_S_S_ (constant S_ .f32 0x00000000#32)) reduceWindows_S4096x16_S4096x16_w4096s1p4095_0_w1s1p0_0 h_S_

def v6 (a0 : FVec Ideal S4096x1024 .f32) (a1 : FVec Ideal S4096x1024 .f32) : FVec Ideal S16x4096x4096 .f32 :=
  Host.dotGeneral dot_S4096x16x64_S4096x16x64_S16x4096x4096_2_2_0_0_1_1 none (shapeCast _ a0 shapeCasts_S4096x1024_S4096x16x64) (shapeCast _ a1 shapeCasts_S4096x1024_S4096x16x64)

def v16 (a0 : FVec Ideal S4096x1024 .f32) (a1 : FVec Ideal S4096x1024 .f32) (a3 : FVec Ideal S4096x16 .f32) (a4 : FVec Ideal S1x16 .f32) : FVec Ideal S16x4096x4096 .f32 :=
  addf (mulf (v6 a0 a1) (broadcastInDim S16x4096x4096 ![] bcast_S_S16x4096x4096 (constant S_ .f32 0x3E000000#32))) (subf (broadcastInDim S16x4096x4096 ![0, 1, 2] bcast_S16x4096x1_S16x4096x4096_0_1_2 (broadcastInDim S16x4096x1 ![0, 1] bcast_S16x4096_S16x4096x1_0_1 ((transpose S16x4096 [1, 0] · transposes_S4096x16_S16x4096_1_0) (v3 a3 a4)))) (broadcastInDim S16x4096x4096 ![0, 1, 2] bcast_S16x1x4096_S16x4096x4096_0_1_2 (broadcastInDim S16x1x4096 ![0, 2] bcast_S16x4096_S16x1x4096_0_2 ((transpose S16x4096 [1, 0] · transposes_S4096x16_S16x4096_1_0) (v3 a3 a4)))))

def v24_1  : IVec S16x4096x4096 1 :=
  broadcastInDim S16x4096x4096 ![1, 2] bcast_S4096x4096_S16x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

def v24_0 (a0 : FVec Ideal S4096x1024 .f32) (a1 : FVec Ideal S4096x1024 .f32) (a3 : FVec Ideal S4096x16 .f32) (a4 : FVec Ideal S1x16 .f32) : FVec Ideal S16x4096x4096 .f32 :=
  select v24_1 (v16 a0 a1 a3 a4) (broadcastInDim S16x4096x4096 ![] bcast_S_S16x4096x4096 (id (constant S_ .f32 0xFF800000#32)))

def v25 (a0 : FVec Ideal S4096x1024 .f32) (a1 : FVec Ideal S4096x1024 .f32) (a3 : FVec Ideal S4096x16 .f32) (a4 : FVec Ideal S1x16 .f32) : FVec Ideal S16x4096 .f32 :=
  Host.reduce FloatOps.maximumf (v24_0 a0 a1 a3 a4) (constant S_ .f32 0xFF800000#32) reducesTo_S16x4096x4096_S16x4096_d2 h_S_

def v32 (a0 : FVec Ideal S4096x1024 .f32) (a1 : FVec Ideal S4096x1024 .f32) (a3 : FVec Ideal S4096x16 .f32) (a4 : FVec Ideal S1x16 .f32) : FVec Ideal S16x4096 .f32 :=
  maximumf (broadcastInDim S16x4096 ![] bcast_S_S16x4096 (constant S_ .f32 0xFF800000#32)) (v25 a0 a1 a3 a4)

def v45 (a0 : FVec Ideal S4096x1024 .f32) (a1 : FVec Ideal S4096x1024 .f32) (a3 : FVec Ideal S4096x16 .f32) (a4 : FVec Ideal S1x16 .f32) : FVec Ideal S16x4096x4096 .f32 :=
  Host.exp (subf (v24_0 a0 a1 a3 a4) (broadcastInDim S16x4096x4096 ![0, 1, 2] bcast_S16x4096x1_S16x4096x4096_0_1_2 (broadcastInDim S16x4096x1 ![0, 1] bcast_S16x4096_S16x4096x1_0_1 (v32 a0 a1 a3 a4))))

def v46 (a0 : FVec Ideal S4096x1024 .f32) (a1 : FVec Ideal S4096x1024 .f32) (a3 : FVec Ideal S4096x16 .f32) (a4 : FVec Ideal S1x16 .f32) : FVec Ideal S16x4096 .f32 :=
  Host.reduceAdd (v45 a0 a1 a3 a4) (constant S_ .f32 0x00000000#32) reducesTo_S16x4096x4096_S16x4096_d2 h_S_

def v49 (a0 : FVec Ideal S4096x1024 .f32) (a1 : FVec Ideal S4096x1024 .f32) (a3 : FVec Ideal S4096x16 .f32) (a4 : FVec Ideal S1x16 .f32) : FVec Ideal S16x4096x4096 .f32 :=
  Host.divf (v45 a0 a1 a3 a4) (broadcastInDim S16x4096x4096 ![0, 1, 2] bcast_S16x4096x1_S16x4096x4096_0_1_2 (broadcastInDim S16x4096x1 ![0, 1] bcast_S16x4096_S16x4096x1_0_1 (v46 a0 a1 a3 a4)))

def v52 (a0 : FVec Ideal S4096x1024 .f32) (a1 : FVec Ideal S4096x1024 .f32) (a3 : FVec Ideal S4096x16 .f32) (a4 : FVec Ideal S1x16 .f32) : FVec Ideal S16x4096x1 .f32 :=
  Host.divf (broadcastInDim S16x4096x1 ![] bcast_S_S16x4096x1 (constant S_ .f32 0x3F800000#32)) (mulf (broadcastInDim S16x4096x1 ![0, 1] bcast_S16x4096_S16x4096x1_0_1 (v46 a0 a1 a3 a4)) (broadcastInDim S16x4096x1 ![0, 1] bcast_S16x4096_S16x4096x1_0_1 (v46 a0 a1 a3 a4)))

def v59 (a2 : FVec Ideal S4096x1024 .f32) (a5 : FVec Ideal S4096x1024 .f32) : FVec Ideal S16x4096x4096 .f32 :=
  Host.dotGeneral dot_S16x64x4096_S4096x16x64_S16x4096x4096_1_2_2_0_0_1 none ((transpose S16x64x4096 [1, 2, 0] · transposes_S4096x16x64_S16x64x4096_1_2_0) (shapeCast _ a5 shapeCasts_S4096x1024_S4096x16x64)) (shapeCast _ a2 shapeCasts_S4096x1024_S4096x16x64)

def v60 (a0 : FVec Ideal S4096x1024 .f32) (a1 : FVec Ideal S4096x1024 .f32) (a3 : FVec Ideal S4096x16 .f32) (a4 : FVec Ideal S1x16 .f32) (a5 : FVec Ideal S4096x1024 .f32) : FVec Ideal S16x64x4096 .f32 :=
  Host.dotGeneral dot_S16x64x4096_S16x4096x4096_S16x64x4096_2_1_1_2_0_0 none ((transpose S16x64x4096 [1, 2, 0] · transposes_S4096x16x64_S16x64x4096_1_2_0) (shapeCast _ a5 shapeCasts_S4096x1024_S4096x16x64)) (v49 a0 a1 a3 a4)

def v67 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x1 .f32 :=
  shapeCast _ (Host.reduceAdd (mulf (mulf (v59 a2 a5) (broadcastInDim S16x4096x4096 ![0, 1, 2] bcast_S16x4096x1_S16x4096x4096_0_1_2 (v52 a0 a1 a3 a4))) (v45 a0 a1 a3 a4)) (constant S_ .f32 0x00000000#32) reducesTo_S16x4096x4096_S16x4096_d2 h_S_) shapeCasts_S16x4096_S16x4096x1

def v73 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x4096 .f32 :=
  addf (Host.divf (v59 a2 a5) (broadcastInDim S16x4096x4096 ![0, 1, 2] bcast_S16x4096x1_S16x4096x4096_0_1_2 (broadcastInDim S16x4096x1 ![0, 1] bcast_S16x4096_S16x4096x1_0_1 (v46 a0 a1 a3 a4)))) (broadcastInDim S16x4096x4096 ![0, 1] bcast_S16x4096_S16x4096x4096_0_1 (Host.reduceAdd (Host.negf (v67 a0 a1 a2 a3 a4 a5)) (constant S_ .f32 0x00000000#32) reducesTo_S16x4096x1_S16x4096_d2 h_S_))

def v75 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x4096 .f32 :=
  select v24_1 (mulf (v73 a0 a1 a2 a3 a4 a5) (v45 a0 a1 a3 a4)) (broadcastInDim S16x4096x4096 ![] bcast_S_S16x4096x4096 (constant S_ .f32 0x00000000#32))

def out3 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S4096x16 .f32 :=
  addf ((transpose S4096x16 [1, 0] · transposes_S16x4096_S4096x16_1_0) (Host.reduceAdd (shapeCast _ (Host.reduceAdd (Host.negf (v75 a0 a1 a2 a3 a4 a5)) (constant S_ .f32 0x00000000#32) reducesTo_S16x4096x4096_S16x4096_d1 h_S_) shapeCasts_S16x4096_S16x1x4096) (constant S_ .f32 0x00000000#32) reducesTo_S16x1x4096_S16x4096_d1 h_S_)) ((transpose S4096x16 [1, 0] · transposes_S16x4096_S4096x16_1_0) (Host.reduceAdd (shapeCast _ (Host.reduceAdd (v75 a0 a1 a2 a3 a4 a5) (constant S_ .f32 0x00000000#32) reducesTo_S16x4096x4096_S16x4096_d2 h_S_) shapeCasts_S16x4096_S16x4096x1) (constant S_ .f32 0x00000000#32) reducesTo_S16x4096x1_S16x4096_d2 h_S_))

def v87 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x4096 .f32 :=
  mulf (v75 a0 a1 a2 a3 a4 a5) (broadcastInDim S16x4096x4096 ![] bcast_S_S16x4096x4096 (constant S_ .f32 0x3E000000#32))

def v88 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x64 .f32 :=
  Host.dotGeneral dot_S16x4096x4096_S4096x16x64_S16x4096x64_1_0_2_2_0_1 none (v87 a0 a1 a2 a3 a4 a5) (shapeCast _ a0 shapeCasts_S4096x1024_S4096x16x64)

def v90 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S16x4096x64 .f32 :=
  Host.dotGeneral dot_S16x4096x4096_S4096x16x64_S16x4096x64_2_0_1_2_0_1 none (v87 a0 a1 a2 a3 a4 a5) (shapeCast _ a1 shapeCasts_S4096x1024_S4096x16x64)

def out1 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S4096x1024 .f32 :=
  shapeCast _ ((transpose S4096x16x64 [1, 0, 2] · transposes_S16x4096x64_S4096x16x64_1_0_2) (v88 a0 a1 a2 a3 a4 a5)) shapeCasts_S4096x16x64_S4096x1024

def out0 (a0 : FVec Ideal S4096x1024 .f32) (a1 : FVec Ideal S4096x1024 .f32) (a2 : FVec Ideal S4096x1024 .f32) (a3 : FVec Ideal S4096x16 .f32) (a4 : FVec Ideal S1x16 .f32) (a5 : FVec Ideal S4096x1024 .f32) : FVec Ideal S4096x1024 .f32 :=
  shapeCast _ ((transpose S4096x16x64 [1, 0, 2] · transposes_S16x4096x64_S4096x16x64_1_0_2) (v90 a0 a1 a2 a3 a4 a5)) shapeCasts_S4096x16x64_S4096x1024

def out2 (a0 : FVec Ideal S4096x1024 .f32) (a1 : FVec Ideal S4096x1024 .f32) (a3 : FVec Ideal S4096x16 .f32) (a4 : FVec Ideal S1x16 .f32) (a5 : FVec Ideal S4096x1024 .f32) : FVec Ideal S4096x1024 .bf16 :=
  (truncf .bf16 · bitsLt_bf16_f32) (shapeCast _ ((transpose S4096x16x64 [2, 0, 1] · transposes_S16x64x4096_S4096x16x64_2_0_1) (v60 a0 a1 a3 a4 a5)) shapeCasts_S4096x16x64_S4096x1024)

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v93) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v92) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v94) = out2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v85) = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (by rfl), (h c).2.1.trans (by rfl), (h c).2.2.1.trans (by rfl), (h c).2.2.2.1.trans (by rfl), (h c).2.2.2.2⟩) (Value.run (F := Ideal) m ρ)

end Cert.AttnRefIdeal.Plain

namespace Cert.Att
open Cert.AttnRefIdeal Cert.AttnRefIdeal.Gen Cert.Real
open Cert.AttnRefIdeal.Plain (v3 v6 v16 v24_1 v24_0 v25 v32 v45 v46 v49 v52 v59 v60 v67 v73 v75 v87 v88 v90 out0 out1 out2 out3)

/-- the arguments as arrays of reals -/
structure In where
  Q : S4096x1024.Idx → ℝ
  K : S4096x1024.Idx → ℝ
  V : S4096x1024.Idx → ℝ
  Fr : S4096x16.Idx → ℝ
  Fb : S1x16.Idx → ℝ
  D : S4096x1024.Idx → ℝ

/-- a head's column -/
def hd (h : Fin 16) (e : Fin 64) : Fin 1024 := ⟨h.val * 64 + e.val, by omega⟩

/-- being a real -/
def IsR (x : EReal) : Prop := ∃ r : ℝ, x = ((r : ℝ) : EReal)

theorem IsR.coe {x : EReal} (h : IsR x) : x = ((x.toReal : ℝ) : EReal) := by
  obtain ⟨r, rfl⟩ := h
  rw [EReal.toReal_coe]
theorem IsR.add {x y : EReal} (hx : IsR x) (hy : IsR y) : IsR (x + y) := by
  obtain ⟨r, rfl⟩ := hx
  obtain ⟨s, rfl⟩ := hy
  exact ⟨r + s, (EReal.coe_add r s).symm⟩
theorem IsR.neg {x : EReal} (hx : IsR x) : IsR (-x) := by
  obtain ⟨r, rfl⟩ := hx
  exact ⟨-r, (EReal.coe_neg r).symm⟩
theorem IsR.foldl {α : Type} (g : α → EReal) (hg : ∀ a, IsR (g a)) (l : List α) (x : EReal) (hx : IsR x) :
    IsR (l.foldl (fun r n => r + g n) x) := by
  induction l generalizing x with
  | nil => exact hx
  | cons a l ih => exact ih _ (hx.add (hg a))

/-- a window's sums of reals -/
theorem isR_window {s t u : Shape} (w st lo hi : Fin s.rank → Nat) (x : FVec Ideal s .f32) (init : FVec Ideal u .f32)
    (h : s.ReduceWindows w st lo hi t) (hu : 0 < u.numel) (hx : ∀ i, IsR (x i)) (h0 : ∀ i, IsR (init i)) (j : t.Idx) :
    IsR (Host.reduceWindowAdd w st lo hi x init h hu j) := by
  show IsR (Host.reduceWindow (· + ·) w st lo hi x (fun _ : (⟨0, ![]⟩ : Shape).Idx => init (Shape.Idx.first hu)) h (by decide) j)
  unfold Host.reduceWindow
  refine IsR.foldl _ (fun n => ?_) _ _ (h0 _)
  dsimp only
  split_ifs
  · exact hx _
  · exact h0 _

variable (q : In)

theorem isR_v3 (i h) : IsR (v3 (up q.Fr) (up q.Fb) (ix2 i h)) := by
  unfold v3
  refine isR_window _ _ _ _ _ _ _ _ (fun y => ?_) (fun y => ?_) _
  · idx_vars y
    pointwise!
    rw [if_neg (not_not.mpr rfl), up_apply, up_apply]
    refine IsR.neg (IsR.add ?_ ?_)
    · exact ⟨max (-(q.Fr (ix2 y0 y1) + q.Fb (ix2 0 y1))) 0, by rw [← max_real]; rfl⟩
    · rw [← EReal.coe_add, ← EReal.coe_neg]
      show IsR (Ideal.log (1 + Ideal.exp (-max _ (-_))))
      rw [← EReal.coe_neg, max_real, ← EReal.coe_neg, Ideal.exp_coe, one_real, ← EReal.coe_add, Ideal.log_coe,
        if_neg (not_le.mpr (add_pos_of_pos_of_nonneg one_pos (Real.exp_pos _).le))]
      exact ⟨_, rfl⟩
  · exact ⟨0, by pointwise!⟩

theorem r_v6 (h i j) : v6 (up q.Q) (up q.K) (ix3 h i j) = ((∑ e, q.Q (ix2 i (hd h e)) * q.K (ix2 j (hd h e)) : ℝ) : EReal) := by
  pointwise [v6]
  simp only [up_apply, ← EReal.coe_mul, sum_coe]
  rfl

/-- the running sums of the gates -/
def In.c (i : Fin 4096) (h : Fin 16) : ℝ := (v3 (up q.Fr) (up q.Fb) (ix2 i h)).toReal
theorem r_v3 (i h) : v3 (up q.Fr) (up q.Fb) (ix2 i h) = ((q.c i h : ℝ) : EReal) := (isR_v3 q i h).coe

theorem word_eighth : Ideal.ofBits .f32 0x3E000000#32 = ((1 / 8 : ℝ) : EReal) := by
  simp [Ideal.ofBits, Ideal.ieee, -EReal.coe_mul]; norm_num

/-- the scores -/
def In.L (h : Fin 16) (i j : Fin 4096) : ℝ := (∑ e, q.Q (ix2 i (hd h e)) * q.K (ix2 j (hd h e))) * (1 / 8) + (q.c i h - q.c j h)
theorem r_v16 (h i j) : v16 (up q.Q) (up q.K) (up q.Fr) (up q.Fb) (ix3 h i j) = ((q.L h i j : ℝ) : EReal) := by
  pointwise [v16]
  simp only [r_v6, r_v3, word_eighth, ← EReal.coe_mul, ← EReal.coe_sub, ← EReal.coe_add]
  rfl

theorem low (a b : Fin 4096) : IntOp.cmpi .sge (BitVec.ofNat 32 a.val) (BitVec.ofNat 32 b.val) = BitVec.ofBool (decide (b.val ≤ a.val)) := by
  have ha := a.isLt
  have hb := b.isLt
  simp (disch := omega) only [WordCmp.cmpi_sge_ofNat]
theorem r_mask (h : Fin 16) (i j : Fin 4096) : v24_1 (ix3 h i j) = BitVec.ofBool (decide (j.val ≤ i.val)) := by
  pointwise [v24_1]
  exact low i j
theorem r_v24 (h i j) : v24_0 (up q.Q) (up q.K) (up q.Fr) (up q.Fb) (ix3 h i j) = if j.val ≤ i.val then ((q.L h i j : ℝ) : EReal) else ⊥ := by
  pointwise [v24_0]
  simp only [r_mask, r_v16, WordCmp.select_ofBool, decide_eq_true_eq]
  split_ifs
  · rfl
  · exact word_neg_inf

/-- the greatest of reals and least elements, one of them a real -/
theorem isR_fold {n : ℕ} (f : Fin n → EReal) (hf : ∀ k, IsR (f k) ∨ f k = ⊥) (k : Fin n) (hk : IsR (f k)) :
    IsR (Finset.fold max ⊥ f Finset.univ) := by
  show IsR (Finset.univ.sup f)
  obtain ⟨a, -, ha⟩ := Finset.exists_mem_eq_sup Finset.univ ⟨k, Finset.mem_univ k⟩ f
  rw [ha]
  refine (hf a).resolve_right fun hb => ?_
  have := Finset.le_sup (f := f) (Finset.mem_univ k)
  obtain ⟨r, hr⟩ := hk
  rw [ha, hb, hr] at this
  exact absurd this (not_le.mpr (EReal.bot_lt_coe r))

theorem isR_v25 (h i) : IsR (v25 (up q.Q) (up q.K) (up q.Fr) (up q.Fb) (ix2 h i)) := by
  pointwise [v25]
  refine isR_fold _ (fun k => ?_) i ?_
  · rw [r_v24]
    split_ifs
    · exact .inl ⟨_, rfl⟩
    · exact .inr rfl
  · rw [r_v24, if_pos le_rfl]
    exact ⟨_, rfl⟩
/-- a row's greatest score -/
def In.M (h : Fin 16) (i : Fin 4096) : ℝ := (v25 (up q.Q) (up q.K) (up q.Fr) (up q.Fb) (ix2 h i)).toReal
theorem r_v25 (h i) : v25 (up q.Q) (up q.K) (up q.Fr) (up q.Fb) (ix2 h i) = ((q.M h i : ℝ) : EReal) := (isR_v25 q h i).coe
theorem max_least (x : FVec Ideal S16x4096 .f32) (h : Fin 16) (i : Fin 4096) :
    maximumf (broadcastInDim S16x4096 ![] bcast_S_S16x4096 (constant (F := Ideal) S_ .f32 0xFF800000#32)) x (ix2 h i) = x (ix2 h i) := by
  pointwise!
  rw [word_neg_inf]
  exact max_eq_right bot_le
theorem r_v32 (h i) : v32 (up q.Q) (up q.K) (up q.Fr) (up q.Fb) (ix2 h i) = ((q.M h i : ℝ) : EReal) := by
  unfold v32
  exact (max_least _ h i).trans (r_v25 q h i)

/-- the weights before they are scaled -/
def In.E (h : Fin 16) (i j : Fin 4096) : ℝ := if j.val ≤ i.val then Real.exp (q.L h i j - q.M h i) else 0
theorem r_v45 (h i j) : v45 (up q.Q) (up q.K) (up q.Fr) (up q.Fb) (ix3 h i j) = ((q.E h i j : ℝ) : EReal) := by
  pointwise [v45]
  rw [r_v24, r_v32]
  unfold In.E
  split_ifs
  · rw [← EReal.coe_sub, Ideal.exp_coe]
  · rw [EReal.bot_sub]
    rfl
/-- a row's sum of weights -/
def In.T (h : Fin 16) (i : Fin 4096) : ℝ := ∑ j, q.E h i j
theorem E_nonneg (h i j) : 0 ≤ q.E h i j := by
  unfold In.E
  split_ifs
  · exact (Real.exp_pos _).le
  · exact le_rfl
theorem T_pos (h i) : 0 < q.T h i := by
  refine Finset.sum_pos' (fun j _ => E_nonneg q h i j) ⟨i, Finset.mem_univ i, ?_⟩
  unfold In.E
  rw [if_pos le_rfl]
  exact Real.exp_pos _
theorem T_ne (h i) : q.T h i ≠ 0 := (T_pos q h i).ne'
theorem r_v46 (h i) : v46 (up q.Q) (up q.K) (up q.Fr) (up q.Fb) (ix2 h i) = ((q.T h i : ℝ) : EReal) := by
  pointwise [v46]
  simp only [r_v45, sum_coe]
  rfl
/-- the weights -/
def In.P (h : Fin 16) (i j : Fin 4096) : ℝ := q.E h i j / q.T h i
theorem r_v49 (h i j) : v49 (up q.Q) (up q.K) (up q.Fr) (up q.Fb) (ix3 h i j) = ((q.P h i j : ℝ) : EReal) := by
  pointwise [v49]
  rw [r_v45, r_v46, div_real (T_ne q h i)]
  rfl
theorem r_v52 (h i j) : v52 (up q.Q) (up q.K) (up q.Fr) (up q.Fb) (ix3 h i j) = ((1 / (q.T h i * q.T h i) : ℝ) : EReal) := by
  pointwise [v52]
  rw [r_v46, ← EReal.coe_mul, one_real, div_real (mul_ne_zero (T_ne q h i) (T_ne q h i))]
/-- the weights' gradient before the norm's -/
def In.S (h : Fin 16) (i j : Fin 4096) : ℝ := ∑ e, q.D (ix2 i (hd h e)) * q.V (ix2 j (hd h e))
theorem r_v59 (h i j) : v59 (up q.V) (up q.D) (ix3 h i j) = ((q.S h i j : ℝ) : EReal) := by
  pointwise [v59]
  simp only [up_apply, ← EReal.coe_mul, sum_coe]
  rfl
/-- a row's mean of that gradient -/
def In.B (h : Fin 16) (i : Fin 4096) : ℝ := ∑ j, q.S h i j * (1 / (q.T h i * q.T h i)) * q.E h i j
theorem r_v67 (h i k) : v67 (up q.Q) (up q.K) (up q.V) (up q.Fr) (up q.Fb) (up q.D) (ix3 h i k) = ((q.B h i : ℝ) : EReal) := by
  pointwise [v67]
  simp only [r_v59, r_v52, r_v45, ← EReal.coe_mul, sum_coe]
  rfl
theorem r_v73 (h i j) : v73 (up q.Q) (up q.K) (up q.V) (up q.Fr) (up q.Fb) (up q.D) (ix3 h i j) = ((q.S h i j / q.T h i + -q.B h i : ℝ) : EReal) := by
  pointwise [v73]
  simp only [r_v59, r_v46, r_v67, div_real (T_ne q h i), ← EReal.coe_neg, ← EReal.coe_add, Finset.univ_unique, Finset.sum_singleton]
/-- the scores' gradient -/
def In.G (h : Fin 16) (i j : Fin 4096) : ℝ := if j.val ≤ i.val then (q.S h i j / q.T h i + -q.B h i) * q.E h i j else 0
theorem r_v75 (h i j) : v75 (up q.Q) (up q.K) (up q.V) (up q.Fr) (up q.Fb) (up q.D) (ix3 h i j) = ((q.G h i j : ℝ) : EReal) := by
  pointwise [v75]
  simp only [r_mask, r_v73, r_v45, WordCmp.select_ofBool, decide_eq_true_eq]
  unfold In.G
  split_ifs
  · rw [EReal.coe_mul]
  · rfl
theorem r_v87 (h i j) : v87 (up q.Q) (up q.K) (up q.V) (up q.Fr) (up q.Fb) (up q.D) (ix3 h i j) = ((q.G h i j * (1 / 8) : ℝ) : EReal) := by
  pointwise [v87]
  simp only [r_v75, word_eighth, ← EReal.coe_mul]
/-- a column's head and lane -/
def hOf (k : Fin 1024) : Fin 16 := ⟨k.val / 64, by omega⟩
def eOf (k : Fin 1024) : Fin 64 := ⟨k.val % 64, by omega⟩
theorem hd_of (k : Fin 1024) : hd (hOf k) (eOf k) = k := Fin.ext (by dsimp only [hd, hOf, eOf]; omega)

theorem r_v90 (h i e) : v90 (up q.Q) (up q.K) (up q.V) (up q.Fr) (up q.Fb) (up q.D) (ix3 h i e) = ((∑ j, q.G h i j * (1 / 8) * q.K (ix2 j (hd h e)) : ℝ) : EReal) := by
  pointwise [v90]
  simp only [r_v87, up_apply, ← EReal.coe_mul, sum_coe]
  rfl
theorem r_v88 (h j e) : v88 (up q.Q) (up q.K) (up q.V) (up q.Fr) (up q.Fb) (up q.D) (ix3 h j e) = ((∑ i, q.G h i j * (1 / 8) * q.Q (ix2 i (hd h e)) : ℝ) : EReal) := by
  pointwise [v88]
  simp only [r_v87, up_apply, ← EReal.coe_mul, sum_coe]
  rfl
theorem r_v60 (h e j) : v60 (up q.Q) (up q.K) (up q.Fr) (up q.Fb) (up q.D) (ix3 h e j) = ((∑ i, q.D (ix2 i (hd h e)) * q.P h i j : ℝ) : EReal) := by
  pointwise [v60]
  simp only [r_v49, up_apply, ← EReal.coe_mul, sum_coe]
  rfl
/-- the queries' gradient -/
theorem r_out0 (i k) : out0 (up q.Q) (up q.K) (up q.V) (up q.Fr) (up q.Fb) (up q.D) (ix2 i k) = ((∑ j, q.G (hOf k) i j * (1 / 8) * q.K (ix2 j k) : ℝ) : EReal) := by
  pointwise [out0]
  refine (r_v90 q (hOf k) i (eOf k)).trans ?_
  rw [hd_of]
/-- the keys' gradient -/
theorem r_out1 (j k) : out1 (up q.Q) (up q.K) (up q.V) (up q.Fr) (up q.Fb) (up q.D) (ix2 j k) = ((∑ i, q.G (hOf k) i j * (1 / 8) * q.Q (ix2 i k) : ℝ) : EReal) := by
  pointwise [out1]
  refine (r_v88 q (hOf k) j (eOf k)).trans ?_
  rw [hd_of]
/-- the values' gradient -/
theorem r_out2 (j k) : out2 (up q.Q) (up q.K) (up q.Fr) (up q.Fb) (up q.D) (ix2 j k) = ((∑ i, q.D (ix2 i k) * q.P (hOf k) i j : ℝ) : EReal) := by
  pointwise [out2]
  refine (r_v60 q (hOf k) (eOf k) j).trans ?_
  rw [hd_of]
/-- the running sums' gradient -/
theorem r_out3 (s h) : out3 (up q.Q) (up q.K) (up q.V) (up q.Fr) (up q.Fb) (up q.D) (ix2 s h) = (((∑ i, -q.G h i s) + ∑ j, q.G h s j : ℝ) : EReal) := by
  pointwise [out3]
  simp only [r_v75, ← EReal.coe_neg, sum_coe, ← EReal.coe_add, Finset.univ_unique, Finset.sum_singleton]

/-- a row's mean is the weights' mean -/
theorem B_eq (h i) : q.B h i = ∑ j, q.P h i j * q.S h i j / q.T h i := by
  refine Finset.sum_congr rfl fun j _ => ?_
  unfold In.P
  have := T_ne q h i
  field_simp
/-- a row's mean of the weights' gradient -/
def In.C (h : Fin 16) (i : Fin 4096) : ℝ := ∑ j, q.P h i j * q.S h i j
theorem G_eq (h i j) : q.G h i j = q.P h i j * (q.S h i j - q.C h i) := by
  have hB : q.B h i = q.C h i / q.T h i := by
    rw [B_eq, In.C, Finset.sum_div]
  have hT := T_ne q h i
  unfold In.G
  rw [hB]
  by_cases hj : j.val ≤ i.val
  · rw [if_pos hj]
    unfold In.P
    field_simp
    ring
  · rw [if_neg hj]
    unfold In.P In.E
    rw [if_neg hj, zero_div, zero_mul]

end Cert.Att
-- ==== Proof.AttnHost.lean ====
module
public import proofs.«01_k».proof.Proof.Gen.AttnIdeal.Frame
public import proofs.«01_k».proof.Proof.AttnRef
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! What the attention's host code hands to the kernel, over the reals. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)

/-- the running sums in three parts -/
def part1 (x : FVec Ideal S4096x16 .f32) : FVec Ideal S16x4096 .bf16 := truncf .bf16 (transpose S16x4096 [1, 0] x transposes_S4096x16_S16x4096_1_0 : FVec Ideal S16x4096 .f32) bitsLt_bf16_f32
def rest1 (x : FVec Ideal S4096x16 .f32) : FVec Ideal S16x4096 .f32 := subf (transpose S16x4096 [1, 0] x transposes_S4096x16_S16x4096_1_0 : FVec Ideal S16x4096 .f32) (extf .f32 (part1 x) bitsLt_bf16_f32)
def part2 (x : FVec Ideal S4096x16 .f32) : FVec Ideal S16x4096 .bf16 := truncf .bf16 (rest1 x) bitsLt_bf16_f32
def rest2 (x : FVec Ideal S4096x16 .f32) : FVec Ideal S16x4096 .f32 := subf (rest1 x) (extf .f32 (part2 x) bitsLt_bf16_f32)
def part3 (x : FVec Ideal S4096x16 .f32) : FVec Ideal S16x4096 .bf16 := truncf .bf16 (rest2 x) bitsLt_bf16_f32
def h15 (x : FVec Ideal S4096x16 .f32) : FVec Ideal S16x4096x3 .bf16 :=
  concatenate S16x4096x3 2 [⟨S16x4096x1, (broadcastInDim S16x4096x1 ![0, 1] bcast_S16x4096_S16x4096x1_0_1 (part1 x) : FVec Ideal S16x4096x1 .bf16)⟩,
    ⟨S16x4096x1, (broadcastInDim S16x4096x1 ![0, 1] bcast_S16x4096_S16x4096x1_0_1 (part2 x) : FVec Ideal S16x4096x1 .bf16)⟩,
    ⟨S16x4096x1, (broadcastInDim S16x4096x1 ![0, 1] bcast_S16x4096_S16x4096x1_0_1 (part3 x) : FVec Ideal S16x4096x1 .bf16)⟩]
    concatenates_S16x4096x1_S16x4096x1_S16x4096x1_S16x4096x3_d2
def hOne : FVec Ideal S16x4096x3 .bf16 := broadcastInDim S16x4096x3 ![] bcast_S_S16x4096x3 (constant (F := Ideal) S_ .bf16 0x3F80#16)
def hZero : FVec Ideal S16x4096x58 .bf16 := broadcastInDim S16x4096x58 ![] bcast_S_S16x4096x58 (constant (F := Ideal) S_ .bf16 0x0000#16)
def aug (a b : FVec Ideal S16x4096x3 .bf16) (z : FVec Ideal S16x4096x58 .bf16) : FVec Ideal S16x4096x64 .bf16 :=
  concatenate S16x4096x64 2 [⟨S16x4096x3, a⟩, ⟨S16x4096x3, b⟩, ⟨S16x4096x58, z⟩] concatenates_S16x4096x3_S16x4096x3_S16x4096x58_S16x4096x64_d2

/-- the buffers after the host operations up to each call -/
def U0 (c : Dev nD) : Valuation τ sig (Elt Ideal) := StableHlo.after hostOps0 (fun b => m (c, b))
def U1 (c : Dev nD) : Valuation τ sig (Elt Ideal) := StableHlo.after hostOps0_1 (U0 m c)
def U2 (c : Dev nD) : Valuation τ sig (Elt Ideal) := StableHlo.after hostOps0_2 (U1 m c)
def U3 (c : Dev nD) : Valuation τ sig (Elt Ideal) := StableHlo.after hostOps0_3 (U2 m c)
def U4 (c : Dev nD) : Valuation τ sig (Elt Ideal) := StableHlo.after hostOps0_4 (U3 m c)
def U5 (c : Dev nD) : Valuation τ sig (Elt Ideal) := StableHlo.after hostOps0_5 (U4 m c)
def U6 (c : Dev nD) : Valuation τ sig (Elt Ideal) := StableHlo.after hostOps0_6 (U5 m c)
def U7 (c : Dev nD) : Valuation τ sig (Elt Ideal) := StableHlo.after hostOps0_7 (U6 m c)
def U8 (c : Dev nD) : Valuation τ sig (Elt Ideal) := StableHlo.after hostOps0_8 (U7 m c)
def U9 (c : Dev nD) : Valuation τ sig (Elt Ideal) := StableHlo.after hostOps0_9 (U8 m c)
def U10 (c : Dev nD) : Valuation τ sig (Elt Ideal) := StableHlo.after hostOps0_10 (U9 m c)
def U11 (c : Dev nD) : Valuation τ sig (Elt Ideal) := StableHlo.after hostOps0_11 (U10 m c)
theorem V0_eq (c : Dev nD) : V0 m c = U11 m c := by
  unfold V0 U11 U10 U9 U8 U7 U6 U5 U4 U3 U2 U1 U0
  simp only [List.flatten_cons, List.flatten_nil, List.append_nil, StableHlo.after_append]

/-- a buffer that one operation list writes, read there -/
theorem U2_v3 (c : Dev nD) : U2 m c (Proc.devRef .tc main_v3) = Cert.AttnRefIdeal.Plain.v3 (m ((c : Thread nD τ).loc main_arg3)) (m ((c : Thread nD τ).loc main_arg4)) := by
  unfold U2 U1 U0; after_results; rfl
theorem U3_v15 (c : Dev nD) : U3 m c (Proc.devRef .tc main_v15) = h15 (U2 m c (Proc.devRef .tc main_v3)) := by
  unfold U3; after_results; rfl
theorem U3_v16 (c : Dev nD) : U3 m c (Proc.devRef .tc main_v16) = hOne := by
  unfold U3; after_results; rfl
theorem U3_v17 (c : Dev nD) : U3 m c (Proc.devRef .tc main_v17) = hZero := by
  unfold U3; after_results; rfl
theorem U3_v18 (c : Dev nD) : U3 m c (Proc.devRef .tc main_v18) = iotaInDim S16 32 0 := by
  unfold U3; after_results
theorem U3_c (c : Dev nD) : U3 m c (Proc.devRef .tc main_c) = constantI S_ 32 2#32 := by
  unfold U3; after_results
theorem U5_v25 (c : Dev nD) : U5 m c (Proc.devRef .tc main_v25) = aug (U4 m c (Proc.devRef .tc main_v15)) (U4 m c (Proc.devRef .tc main_v16)) (U4 m c (Proc.devRef .tc main_v17)) := by
  unfold U5; after_results; rfl
/-- an array's heads, a head's columns in a row -/
def heads (x : FVec Ideal S4096x1024 .f32) : FVec Ideal S16x4096x64 .bf16 :=
  transpose S16x4096x64 [1, 0, 2] (shapeCast S4096x16x64 (truncf .bf16 x bitsLt_bf16_f32 : FVec Ideal S4096x1024 .bf16) shapeCasts_S4096x1024_S4096x16x64) transposes_S4096x16x64_S16x4096x64_1_0_2
def scaled (x : FVec Ideal S4096x1024 .f32) : FVec Ideal S4096x1024 .f32 :=
  mulf x (broadcastInDim S4096x1024 ![] bcast_S_S4096x1024 (constant (F := Ideal) S_ .f32 0x3E000000#32))
def cat2 (a b : FVec Ideal S16x4096x64 .bf16) : FVec Ideal S16x4096x128 .bf16 :=
  concatenate S16x4096x128 2 [⟨S16x4096x64, a⟩, ⟨S16x4096x64, b⟩] concatenates_S16x4096x64_S16x4096x64_S16x4096x128_d2
def pick (e : IVec S16x1x1 1) (a b : FVec Ideal S16x4096x128 .bf16) : FVec Ideal S16x4096x128 .bf16 :=
  select (broadcastInDim S16x4096x128 ![0, 1, 2] bcast_S16x1x1_S16x4096x128_0_1_2 e) a b
def evens : IVec S16x1x1 1 := fun j => BitVec.ofBool (decide ((j 0).val % 2 = 0))

def two : IVec S_ 32 := select (cmpi .eq (constantI S_ 32 2#32) (constantI S_ 32 0#32)) (constantI S_ 32 1#32) (constantI S_ 32 2#32)
def rem0 : IVec S16 32 := Host.remsi (iotaInDim S16 32 0) (broadcastInDim S16 ![] bcast_S_S16 two)
/-- a head's number modulo two -/
def rem2 : IVec S16 32 :=
  select (andi (cmpi .ne (cmpi .slt rem0 (broadcastInDim S16 ![] bcast_S_S16 (constantI S_ 32 0#32))) (broadcastInDim S16 ![] bcast_S_S16 (cmpi .slt two (constantI S_ 32 0#32))))
    (cmpi .ne rem0 (broadcastInDim S16 ![] bcast_S_S16 (constantI S_ 32 0#32)))) (addi rem0 (broadcastInDim S16 ![] bcast_S_S16 two)) rem0
theorem U4_v19 (c : Dev nD) : U4 m c (Proc.devRef .tc main_v19) = rem2 := by
  unfold U4 U3; after_results; rfl
theorem even_bit : ∀ h : Fin 16, IntOp.cmpi .eq (rem2 (ix1 h)) 0#32 = BitVec.ofBool (decide (h.val % 2 = 0)) := by
  decide +kernel
theorem U5_v22 (c : Dev nD) : U5 m c (Proc.devRef .tc main_v22) = evens := by
  have e : U5 m c (Proc.devRef .tc main_v22) = (broadcastInDim S16x1x1 ![0] bcast_S16_S16x1x1_0 (cmpi .eq (U4 m c (Proc.devRef .tc main_v19) : IVec S16 32) (broadcastInDim S16 ![] bcast_S_S16 (constantI S_ 32 0#32))) : IVec S16x1x1 1) := by
    unfold U5; after_results
  rw [e, U4_v19]
  funext j
  idx_vars j
  pointwise [evens]
  exact even_bit _
theorem U4_v15 (c : Dev nD) : U4 m c (Proc.devRef .tc main_v15) = U3 m c (Proc.devRef .tc main_v15) := by
  unfold U4; after_results
theorem U4_v16 (c : Dev nD) : U4 m c (Proc.devRef .tc main_v16) = U3 m c (Proc.devRef .tc main_v16) := by
  unfold U4; after_results
theorem U4_v17 (c : Dev nD) : U4 m c (Proc.devRef .tc main_v17) = U3 m c (Proc.devRef .tc main_v17) := by
  unfold U4; after_results
theorem U4_arg0 (c : Dev nD) : U4 m c (Proc.devRef .tc main_arg0) = m ((c : Thread nD τ).loc main_arg0) := by
  unfold U4 U3 U2 U1 U0; after_results
theorem U6_arg1 (c : Dev nD) : U6 m c (Proc.devRef .tc main_arg1) = m ((c : Thread nD τ).loc main_arg1) := by
  unfold U6 U5 U4 U3 U2 U1 U0; after_results
theorem U8_arg2 (c : Dev nD) : U8 m c (Proc.devRef .tc main_arg2) = m ((c : Thread nD τ).loc main_arg2) := by
  unfold U8 U7 U6 U5 U4 U3 U2 U1 U0; after_results
theorem U6_v15 (c : Dev nD) : U6 m c (Proc.devRef .tc main_v15) = U3 m c (Proc.devRef .tc main_v15) := by
  unfold U6 U5 U4; after_results
theorem U6_v16 (c : Dev nD) : U6 m c (Proc.devRef .tc main_v16) = U3 m c (Proc.devRef .tc main_v16) := by
  unfold U6 U5 U4; after_results
theorem U6_v17 (c : Dev nD) : U6 m c (Proc.devRef .tc main_v17) = U3 m c (Proc.devRef .tc main_v17) := by
  unfold U6 U5 U4; after_results
theorem U7_v22 (c : Dev nD) : U7 m c (Proc.devRef .tc main_v22) = U5 m c (Proc.devRef .tc main_v22) := by
  unfold U7 U6; after_results
theorem U5_v29 (c : Dev nD) : U5 m c (Proc.devRef .tc main_v29) = cat2 (heads (scaled (U4 m c (Proc.devRef .tc main_arg0)))) (U5 m c (Proc.devRef .tc main_v25)) := by
  unfold U5; after_results; rfl
theorem U5_v30 (c : Dev nD) : U5 m c (Proc.devRef .tc main_v30) = cat2 (U5 m c (Proc.devRef .tc main_v25)) (heads (scaled (U4 m c (Proc.devRef .tc main_arg0)))) := by
  unfold U5; after_results; rfl
theorem U6_v31 (c : Dev nD) : U6 m c (Proc.devRef .tc main_v31) = pick (U5 m c (Proc.devRef .tc main_v22)) (U5 m c (Proc.devRef .tc main_v29)) (U5 m c (Proc.devRef .tc main_v30)) := by
  unfold U6; after_results; rfl
theorem U7_v33 (c : Dev nD) : U7 m c (Proc.devRef .tc main_v33) = aug (U6 m c (Proc.devRef .tc main_v16)) (Host.negf (U6 m c (Proc.devRef .tc main_v15) : FVec Ideal S16x4096x3 .bf16)) (U6 m c (Proc.devRef .tc main_v17)) := by
  unfold U7; after_results; rfl
theorem U7_v37 (c : Dev nD) : U7 m c (Proc.devRef .tc main_v37) = cat2 (heads (U6 m c (Proc.devRef .tc main_arg1))) (U7 m c (Proc.devRef .tc main_v33)) := by
  unfold U7; after_results; rfl
theorem U7_v38 (c : Dev nD) : U7 m c (Proc.devRef .tc main_v38) = cat2 (U7 m c (Proc.devRef .tc main_v33)) (heads (U6 m c (Proc.devRef .tc main_arg1))) := by
  unfold U7; after_results; rfl
theorem U8_v39 (c : Dev nD) : U8 m c (Proc.devRef .tc main_v39) = pick (U7 m c (Proc.devRef .tc main_v22)) (U7 m c (Proc.devRef .tc main_v37)) (U7 m c (Proc.devRef .tc main_v38)) := by
  unfold U8; after_results; rfl
theorem U8_v31 (c : Dev nD) : U8 m c (Proc.devRef .tc main_v31) = U6 m c (Proc.devRef .tc main_v31) := by
  unfold U8 U7; after_results
theorem U11_v31 (c : Dev nD) : U11 m c (Proc.devRef .tc main_v31) = U8 m c (Proc.devRef .tc main_v31) := by
  unfold U11 U10 U9; after_results
theorem U11_v39 (c : Dev nD) : U11 m c (Proc.devRef .tc main_v39) = U8 m c (Proc.devRef .tc main_v39) := by
  unfold U11 U10 U9; after_results
/-- the scores, masked -/
def h49 (a b : FVec Ideal S16x4096x128 .bf16) : FVec Ideal S16x4096x4096 .f32 :=
  select (Cert.AttnRefIdeal.Plain.v24_1) (Host.dotGeneral dot_S16x4096x128_S16x4096x128_S16x4096x4096_2_2_1_1_0_0 none a b : FVec Ideal S16x4096x4096 .f32)
    (broadcastInDim S16x4096x4096 ![] bcast_S_S16x4096x4096 (id (constant (F := Ideal) S_ .f32 0xFF800000#32)))
theorem U10_v49 (c : Dev nD) : U10 m c (Proc.devRef .tc main_v49) = h49 (U8 m c (Proc.devRef .tc main_v31)) (U8 m c (Proc.devRef .tc main_v39)) := by
  unfold U10 U9; after_results; rfl
theorem U10_v40 (c : Dev nD) : U10 m c (Proc.devRef .tc main_v40) = (truncf .bf16 (U8 m c (Proc.devRef .tc main_arg2) : FVec Ideal S4096x1024 .f32) bitsLt_bf16_f32 : FVec Ideal S4096x1024 .bf16) := by
  unfold U10 U9; after_results
theorem U11_v40 (c : Dev nD) : U11 m c (Proc.devRef .tc main_v40) = U10 m c (Proc.devRef .tc main_v40) := by
  unfold U11; after_results
def h50 (x : FVec Ideal S16x4096x4096 .f32) : FVec Ideal S16x4096 .f32 :=
  Host.reduce FloatOps.maximumf x (constant (F := Ideal) S_ .f32 0xFF800000#32) reducesTo_S16x4096x4096_S16x4096_d2 h_S_
def h51 (x : FVec Ideal S16x4096 .f32) : FVec Ideal S16x4096x1 .f32 := broadcastInDim S16x4096x1 ![0, 1] bcast_S16x4096_S16x4096x1_0_1 x
def h54 (x : FVec Ideal S16x4096x4096 .f32) (y : FVec Ideal S16x4096 .f32) : FVec Ideal S16x4096x4096 .f32 :=
  Host.exp (subf x (broadcastInDim S16x4096x4096 ![0, 1, 2] bcast_S16x4096x1_S16x4096x4096_0_1_2 (h51 y)))
def h55 (x : FVec Ideal S16x4096x4096 .f32) : FVec Ideal S16x4096 .f32 :=
  Host.reduceAdd x (constant (F := Ideal) S_ .f32 0x00000000#32) reducesTo_S16x4096x4096_S16x4096_d2 h_S_
def lanes (x : FVec Ideal S16x4096x1 .f32) : FVec Ideal S4096x16x64 .f32 :=
  broadcastInDim S4096x16x64 ![0, 1, 2] bcast_S4096x16x1_S4096x16x64_0_1_2 (broadcastInDim S4096x16x1 ![0, 1] bcast_S4096x16_S4096x16x1_0_1
    (transpose S4096x16 [1, 0] (shapeCast S16x4096 x shapeCasts_S16x4096x1_S16x4096 : FVec Ideal S16x4096 .f32) transposes_S16x4096_S4096x16_1_0))
def h66 (v : FVec Ideal S4096x1024 .bf16) (x : FVec Ideal S16x4096x4096 .f32) (t : FVec Ideal S16x4096 .f32) : FVec Ideal S4096x1024 .f32 :=
  shapeCast S4096x1024 (Host.divf (transpose S4096x16x64 [2, 0, 1] (Host.dotGeneral dot_S4096x16x64_S16x4096x4096_S16x64x4096_0_2_2_1_1_0 none
    (shapeCast S4096x16x64 v shapeCasts_S4096x1024_S4096x16x64 : FVec Ideal S4096x16x64 .bf16) (truncf .bf16 x bitsLt_bf16_f32 : FVec Ideal S16x4096x4096 .bf16) : FVec Ideal S16x64x4096 .f32) transposes_S16x64x4096_S4096x16x64_2_0_1)
    (lanes (h51 t)) : FVec Ideal S4096x16x64 .f32) shapeCasts_S4096x16x64_S4096x1024
def h73 (y t : FVec Ideal S16x4096 .f32) : FVec Ideal S4096x1024 .f32 :=
  shapeCast S4096x1024 (lanes (addf (h51 y) (Host.log (h51 t)))) shapeCasts_S4096x16x64_S4096x1024
def s50 (c : Dev nD) : FVec Ideal S16x4096 .f32 := h50 (U10 m c (Proc.devRef .tc main_v49))
def s54 (c : Dev nD) : FVec Ideal S16x4096x4096 .f32 := h54 (U10 m c (Proc.devRef .tc main_v49)) (s50 m c)
theorem U11_v66 (c : Dev nD) : U11 m c (Proc.devRef .tc main_v66) = h66 (U10 m c (Proc.devRef .tc main_v40)) (s54 m c) (h55 (s54 m c)) := by
  unfold U11; after_results; rfl
theorem U11_v73 (c : Dev nD) : U11 m c (Proc.devRef .tc main_v73) = h73 (s50 m c) (h55 (s54 m c)) := by
  unfold U11; after_results; rfl
theorem U11_v22 (c : Dev nD) : U11 m c (Proc.devRef .tc main_v22) = U7 m c (Proc.devRef .tc main_v22) := by
  unfold U11 U10 U9 U8; after_results

end Cert.AttnIdeal.Grad
-- ==== Proof.AttnIn.lean ====
module
public import proofs.«01_k».proof.Proof.Gen.AttnIdeal.Frame
public import proofs.«01_k».proof.Proof.AttnHost
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! The attention's host code over the reals: the values that the kernel is given. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)

/-! ## Over the reals -/
section reals
variable {x : FVec Ideal S4096x16 .f32} {C : Fin 4096 → Fin 16 → ℝ}
theorem h15_val (hx : ∀ i h, x (ix2 i h) = ((C i h : ℝ) : EReal)) (h : Fin 16) (i : Fin 4096) (l : Fin 3) :
    h15 x (ix3 h i l) = ((if l.val = 0 then C i h else 0 : ℝ) : EReal) := by
  pointwise [h15, part1, part2, part3, rest1, rest2]
  simp only [hx, ← EReal.coe_sub, sub_self]
  have := l.isLt
  split_ifs
  all_goals first | rfl | (exfalso; omega)
theorem hOne_val (h : Fin 16) (i : Fin 4096) (l : Fin 3) : hOne (ix3 h i l) = ((1 : ℝ) : EReal) := by
  pointwise [hOne]
  rfl
theorem hZero_val (h : Fin 16) (i : Fin 4096) (l : Fin 58) : hZero (ix3 h i l) = ((0 : ℝ) : EReal) := by
  pointwise [hZero]
  rfl
theorem neg_val {a : FVec Ideal S16x4096x3 .bf16} {A : ℝ} {h : Fin 16} {i : Fin 4096} {l : Fin 3} (ha : a (ix3 h i l) = ((A : ℝ) : EReal)) :
    (Host.negf a : FVec Ideal S16x4096x3 .bf16) (ix3 h i l) = ((-A : ℝ) : EReal) := by
  pointwise!
  rw [ha, EReal.coe_neg]
theorem aug_val {a b : FVec Ideal S16x4096x3 .bf16} {z : FVec Ideal S16x4096x58 .bf16} {A B : Fin 16 → Fin 4096 → Fin 3 → ℝ}
    (ha : ∀ h i l, a (ix3 h i l) = ((A h i l : ℝ) : EReal)) (hb : ∀ h i l, b (ix3 h i l) = ((B h i l : ℝ) : EReal))
    (hz : ∀ h i l, z (ix3 h i l) = ((0 : ℝ) : EReal)) (h : Fin 16) (i : Fin 4096) (l : Fin 64) :
    aug a b z (ix3 h i l) = ((if h0 : l.val < 3 then A h i ⟨l.val, h0⟩ else if h1 : l.val < 6 then B h i ⟨l.val - 3, by omega⟩ else 0 : ℝ) : EReal) := by
  pointwise [aug]
  simp only [ha, hb, hz]
  have := l.isLt
  split_ifs
  all_goals try rfl
  all_goals first | (exfalso; omega) | rw [dif_pos (show l.val < 6 by omega)]
theorem heads_val {x : FVec Ideal S4096x1024 .f32} {X : Fin 4096 → Fin 1024 → ℝ} (hx : ∀ i k, x (ix2 i k) = ((X i k : ℝ) : EReal))
    (h : Fin 16) (i : Fin 4096) (e : Fin 64) : heads x (ix3 h i e) = ((X i (Att.hd h e) : ℝ) : EReal) := by
  pointwise [heads]
  exact hx _ _
theorem scaled_val {x : FVec Ideal S4096x1024 .f32} {X : Fin 4096 → Fin 1024 → ℝ} (hx : ∀ i k, x (ix2 i k) = ((X i k : ℝ) : EReal))
    (i : Fin 4096) (k : Fin 1024) : scaled x (ix2 i k) = ((X i k * (1 / 8) : ℝ) : EReal) := by
  pointwise [scaled]
  rw [hx, Att.word_eighth, ← EReal.coe_mul]
/-- lane `l` of a head's row: the head's own columns in its half, the others in the other half -/
def laneR (h : Fin 16) (X Y : Fin 64 → ℝ) (l : Fin 128) : ℝ :=
  if l.val / 64 = h.val % 2 then X ⟨l.val % 64, by omega⟩ else Y ⟨l.val % 64, by omega⟩
theorem laneR_own {h : Fin 16} {X Y : Fin 64 → ℝ} {l : Fin 128} {e : Fin 64} (hl : l.val / 64 = h.val % 2) (he : e.val = l.val % 64) : laneR h X Y l = X e :=
  (if_pos hl).trans (congrArg X (Fin.ext he.symm))
theorem laneR_other {h : Fin 16} {X Y : Fin 64 → ℝ} {l : Fin 128} {e : Fin 64} (hl : ¬ l.val / 64 = h.val % 2) (he : e.val = l.val % 64) : laneR h X Y l = Y e :=
  (if_neg hl).trans (congrArg Y (Fin.ext he.symm))
theorem pick_val {a b : FVec Ideal S16x4096x64 .bf16} {A B : Fin 16 → Fin 4096 → Fin 64 → ℝ}
    (ha : ∀ h i l, a (ix3 h i l) = ((A h i l : ℝ) : EReal)) (hb : ∀ h i l, b (ix3 h i l) = ((B h i l : ℝ) : EReal)) (h : Fin 16) (i : Fin 4096) (l : Fin 128) :
    pick evens (cat2 a b) (cat2 b a) (ix3 h i l) = ((laneR h (A h i) (B h i) l : ℝ) : EReal) := by
  pointwise [pick, cat2, evens]
  simp only [ha, hb, WordCmp.select_ofBool, decide_eq_true_eq]
  have := l.isLt
  have := h.isLt
  split_ifs
  all_goals first
    | exact (congrArg (fun x : ℝ => (x : EReal)) (laneR_own (X := A h i) (Y := B h i) (by omega) (by first | (dsimp only; done) | (dsimp only; omega)))).symm
    | exact (congrArg (fun x : ℝ => (x : EReal)) (laneR_other (X := A h i) (Y := B h i) (by omega) (by first | (dsimp only; done) | (dsimp only; omega)))).symm
/-- the columns that add the running sums -/
def augQ (C : ℝ) (l : Fin 64) : ℝ := if l.val = 0 then C else if l.val < 3 then 0 else if l.val < 6 then 1 else 0
def augK (C : ℝ) (l : Fin 64) : ℝ := if l.val < 3 then 1 else if l.val = 3 then -C else 0
theorem aug_mul (C E : ℝ) (l : Fin 64) : augQ C l * augK E l = (if l = 0 then C else 0) + if l = 3 then -E else 0 := by
  have h0 : l = 0 ↔ l.val = 0 := Fin.ext_iff
  have h3 : l = 3 ↔ l.val = 3 := Fin.ext_iff
  unfold augQ augK
  simp only [h0, h3]
  split_ifs
  all_goals first | (exfalso; omega) | ring
theorem sum_aug (C E : ℝ) : ∑ l, augQ C l * augK E l = C - E := by
  simp only [aug_mul, Finset.sum_add_distrib, Finset.sum_ite_eq', Finset.mem_univ, if_true]
  ring
theorem sum_laneR (h : Fin 16) (X Y X' Y' : Fin 64 → ℝ) :
    ∑ l, laneR h X Y l * laneR h X' Y' l = (∑ e, X e * X' e) + ∑ e, Y e * Y' e := by
  have s := Fin.sum_univ_add (a := 64) (b := 64) fun l : Fin (64 + 64) => laneR h X Y l * laneR h X' Y' l
  refine s.trans ?_
  have hl : ∀ (U W : Fin 64 → ℝ) (e : Fin 64), laneR h U W (Fin.castAdd 64 e) = if h.val % 2 = 0 then U e else W e := fun U W e => by
    unfold laneR
    have : (Fin.castAdd 64 e : Fin (64 + 64)).val = e.val := rfl
    have := e.isLt
    simp only [*]
    rcases Nat.mod_two_eq_zero_or_one h.val with p | p
    · rw [if_pos (by omega), if_pos p]
      exact congrArg U (Fin.ext (Nat.mod_eq_of_lt e.isLt))
    · rw [if_neg (by omega), if_neg (by omega)]
      exact congrArg W (Fin.ext (Nat.mod_eq_of_lt e.isLt))
  have hr : ∀ (U W : Fin 64 → ℝ) (e : Fin 64), laneR h U W (Fin.natAdd 64 e) = if h.val % 2 = 0 then W e else U e := fun U W e => by
    unfold laneR
    have : (Fin.natAdd 64 e : Fin (64 + 64)).val = 64 + e.val := rfl
    have := e.isLt
    simp only [*]
    rcases Nat.mod_two_eq_zero_or_one h.val with p | p
    · rw [if_neg (by omega), if_pos p]
      exact congrArg W (Fin.ext (by dsimp only; omega))
    · rw [if_pos (by omega), if_neg (by omega)]
      exact congrArg U (Fin.ext (by dsimp only; omega))
  simp only [hl, hr]
  split_ifs
  · rfl
  · exact add_comm _ _
end reals

/-- the arguments hold the reals `q` -/
structure Args (q : Att.In) (m : (ℓ : Loc nD τ sig) → Buf (Elt Ideal) ℓ) (c : Dev nD) : Prop where
  h0 : m ((c : Thread nD τ).loc main_arg0) = up q.Q
  h1 : m ((c : Thread nD τ).loc main_arg1) = up q.K
  h2 : m ((c : Thread nD τ).loc main_arg2) = up q.V
  h3 : m ((c : Thread nD τ).loc main_arg3) = up q.Fr
  h4 : m ((c : Thread nD τ).loc main_arg4) = up q.Fb
  h5 : m ((c : Thread nD τ).loc main_arg5) = up q.D

section values
variable {m} {q : Att.In} {c : Dev nD} (A : Args q m c)

/-- the rows of scaled queries and of keys that the kernel multiplies -/
def QA (q : Att.In) (h : Fin 16) (i : Fin 4096) (l : Fin 128) : ℝ := laneR h (fun e => q.Q (ix2 i (Att.hd h e)) * (1 / 8)) (augQ (q.c i h)) l
def KA (q : Att.In) (h : Fin 16) (j : Fin 4096) (l : Fin 128) : ℝ := laneR h (fun e => q.K (ix2 j (Att.hd h e))) (augK (q.c j h)) l
theorem QA_KA (q : Att.In) (h : Fin 16) (i j : Fin 4096) : ∑ l, QA q h i l * KA q h j l = q.L h i j := by
  unfold QA KA
  rw [sum_laneR, sum_aug]
  unfold Att.In.L
  rw [Finset.sum_mul]
  exact congrArg (fun x : ℝ => x + (q.c i h - q.c j h)) (Finset.sum_congr rfl fun e _ => by ring)
theorem augQ_eq (C : ℝ) (l : Fin 64) : (if _h : l.val < 3 then (if l.val = 0 then C else 0) else if _h : l.val < 6 then 1 else 0) = augQ C l := by
  unfold augQ
  split_ifs
  all_goals first | (exfalso; omega) | rfl
theorem augK_eq (C : ℝ) (l : Fin 64) : (if _h : l.val < 3 then 1 else if _h : l.val < 6 then -(if l.val - 3 = 0 then C else 0) else 0) = augK C l := by
  unfold augK
  split_ifs
  all_goals first | (exfalso; omega) | exact neg_zero | rfl
theorem h66_val {v : FVec Ideal S4096x1024 .bf16} {s : FVec Ideal S16x4096x4096 .f32} {t : FVec Ideal S16x4096 .f32} (i : Fin 4096) (k : Fin 1024) :
    h66 v s t (ix2 i k) = Ideal.div (∑ x, v (ix2 x k) * s (ix3 (Att.hOf k) i x)) (t (ix2 (Att.hOf k) i)) := by
  pointwise [h66, lanes, h51]
  rfl
theorem h73_val {s t : FVec Ideal S16x4096 .f32} (i : Fin 4096) (k : Fin 1024) :
    h73 s t (ix2 i k) = s (ix2 (Att.hOf k) i) + Ideal.log (t (ix2 (Att.hOf k) i)) := by
  pointwise [h73, lanes, h51]
  rfl
theorem h49_val {a b : FVec Ideal S16x4096x128 .bf16} (h : Fin 16) (i j : Fin 4096) :
    h49 a b (ix3 h i j) = if j.val ≤ i.val then ∑ l, a (ix3 h i l) * b (ix3 h j l) else ⊥ := by
  pointwise [h49]
  rw [Att.r_mask, WordCmp.select_ofBool]
  by_cases hij : j.val ≤ i.val
  · simp only [hij, decide_true, if_true]
  · simp only [hij, decide_false, if_false]
    exact word_neg_inf
theorem h54_val {x : FVec Ideal S16x4096x4096 .f32} {y : FVec Ideal S16x4096 .f32} (h : Fin 16) (i j : Fin 4096) :
    h54 x y (ix3 h i j) = Ideal.exp (x (ix3 h i j) - y (ix2 h i)) := by
  pointwise [h54, h51]
theorem h55_val {x : FVec Ideal S16x4096x4096 .f32} (h : Fin 16) (i : Fin 4096) : h55 x (ix2 h i) = ∑ j, x (ix3 h i j) := by
  pointwise [h55]
include A
theorem c_val (i : Fin 4096) (h : Fin 16) : (U2 m c (Proc.devRef .tc main_v3) : FVec Ideal S4096x16 .f32) (ix2 i h) = ((q.c i h : ℝ) : EReal) := by
  rw [U2_v3, A.h3, A.h4]
  exact Att.r_v3 q i h
theorem v15_val (h : Fin 16) (i : Fin 4096) (l : Fin 3) : (U3 m c (Proc.devRef .tc main_v15) : FVec Ideal S16x4096x3 .bf16) (ix3 h i l) = ((if l.val = 0 then q.c i h else 0 : ℝ) : EReal) := by
  rw [U3_v15]
  exact h15_val (C := fun i h => q.c i h) (c_val A) h i l
theorem v31_val (h : Fin 16) (i : Fin 4096) (l : Fin 128) : (U8 m c (Proc.devRef .tc main_v31) : FVec Ideal S16x4096x128 .bf16) (ix3 h i l) = ((QA q h i l : ℝ) : EReal) := by
  rw [U8_v31, U6_v31, U5_v22, U5_v29, U5_v30, U5_v25, U4_v15, U4_v16, U4_v17, U3_v16, U3_v17, U4_arg0, A.h0]
  refine (pick_val (A := fun h i e => q.Q (ix2 i (Att.hd h e)) * (1 / 8)) (B := fun h i => augQ (q.c i h)) (fun h i e => heads_val (scaled_val (X := fun i k => q.Q (ix2 i k)) fun i k => rfl) h i e) (fun h i e => ?_) h i l).trans rfl
  exact (aug_val (v15_val A) hOne_val hZero_val h i e).trans (congrArg (fun x : ℝ => (x : EReal)) (augQ_eq (q.c i h) e))
theorem v39_val (h : Fin 16) (i : Fin 4096) (l : Fin 128) : (U8 m c (Proc.devRef .tc main_v39) : FVec Ideal S16x4096x128 .bf16) (ix3 h i l) = ((KA q h i l : ℝ) : EReal) := by
  rw [U8_v39, U7_v22, U5_v22, U7_v37, U7_v38, U7_v33, U6_v15, U6_v16, U6_v17, U3_v16, U3_v17, U6_arg1, A.h1]
  refine (pick_val (A := fun h i e => q.K (ix2 i (Att.hd h e))) (B := fun h i => augK (q.c i h)) (fun h i e => heads_val (X := fun i k => q.K (ix2 i k)) (fun i k => rfl) h i e) (fun h i e => ?_) h i l).trans rfl
  exact (aug_val hOne_val (fun h i l => neg_val (v15_val A h i l)) hZero_val h i e).trans (congrArg (fun x : ℝ => (x : EReal)) (augK_eq (q.c i h) e))
theorem v40_val (i : Fin 4096) (k : Fin 1024) : (U10 m c (Proc.devRef .tc main_v40) : FVec Ideal S4096x1024 .bf16) (ix2 i k) = ((q.V (ix2 i k) : ℝ) : EReal) := by
  rw [U10_v40, U8_arg2, A.h2]
  rfl
/-- the host's scores are the reference's -/
theorem v49_eq : (U10 m c (Proc.devRef .tc main_v49) : FVec Ideal S16x4096x4096 .f32) = AttnRefIdeal.Plain.v24_0 (up q.Q) (up q.K) (up q.Fr) (up q.Fb) := by
  rw [U10_v49]
  funext y
  idx_vars y
  refine Eq.trans ?_ (Att.r_v24 q y0 y1 y2).symm
  rw [h49_val]
  simp only [v31_val A, v39_val A, ← EReal.coe_mul, sum_coe, QA_KA]
theorem s50_val (h : Fin 16) (i : Fin 4096) : s50 m c (ix2 h i) = ((q.M h i : ℝ) : EReal) := by
  unfold s50
  rw [v49_eq A]
  exact Att.r_v25 q h i
theorem s54_val (h : Fin 16) (i j : Fin 4096) : s54 m c (ix3 h i j) = ((q.E h i j : ℝ) : EReal) := by
  unfold s54
  rw [v49_eq A]
  rw [h54_val, Att.r_v24, s50_val A]
  unfold Att.In.E
  split_ifs
  · rw [← EReal.coe_sub, Ideal.exp_coe]
  · rw [EReal.bot_sub]
    rfl
theorem s55_val (h : Fin 16) (i : Fin 4096) : h55 (s54 m c) (ix2 h i) = ((q.T h i : ℝ) : EReal) := by
  rw [h55_val]
  simp only [s54_val A, sum_coe]
  rfl
/-- the saved output -/
def O (q : Att.In) (i : Fin 4096) (k : Fin 1024) : ℝ := (∑ j, q.V (ix2 j k) * q.E (Att.hOf k) i j) / q.T (Att.hOf k) i
theorem v66_val (i : Fin 4096) (k : Fin 1024) : (U11 m c (Proc.devRef .tc main_v66) : FVec Ideal S4096x1024 .f32) (ix2 i k) = ((O q i k : ℝ) : EReal) := by
  rw [U11_v66]
  rw [h66_val]
  simp only [v40_val A, s54_val A, s55_val A, ← EReal.coe_mul, sum_coe, div_real (Att.T_ne q _ _)]
  rfl
/-- the saved row log-sum -/
theorem v73_val (i : Fin 4096) (k : Fin 1024) : (U11 m c (Proc.devRef .tc main_v73) : FVec Ideal S4096x1024 .f32) (ix2 i k) = ((q.M (Att.hOf k) i + Real.log (q.T (Att.hOf k) i) : ℝ) : EReal) := by
  rw [U11_v73, h73_val, s50_val A, s55_val A, Ideal.log_coe, if_neg (not_le.2 (Att.T_pos q _ _)), EReal.coe_add]
end values

end Cert.AttnIdeal.Grad
-- ==== Proof.AttnStep.lean ====
module
public import proofs.«01_k».proof.Proof.Gen.AttnIdeal.Loops
public import Idealize.ShloMosaic.Lib.VecWindow
public import Idealize.ShloMosaic.Lib.Pointwise
@[expose] public section
set_option maxRecDepth 16384

noncomputable section
namespace Cert.AttnIdeal.Grad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

/-- Rows `1024 r …` of a block of 4096 rows. -/
def blk2 {e : EltTy} (x : Vec F S4096x128 e) (r : Fin 4) : Vec F S1024x128 e :=
  fun y => x (ix2 ⟨r.val * 1024 + (y 0).val, by have : (y 0).val < 1024 := (y 0).isLt; omega⟩ ⟨(y 1).val, (y 1).isLt⟩)

/-- Rows `1024 r …` of head `h` of a pair of blocks of 4096 rows. -/
def blk3 {e : EltTy} (x : Vec F S2x4096x128 e) (h : Fin 2) (r : Fin 4) : Vec F S1x1024x128 e :=
  fun y => x (ix3 h ⟨r.val * 1024 + (y 1).val, by have : (y 1).val < 1024 := (y 1).isLt; omega⟩ ⟨(y 2).val, (y 2).isLt⟩)

/-- A pair of blocks with rows `1024 r …` of head `h` replaced. -/
def put3 {e : EltTy} (x : Vec F S2x4096x128 e) (h : Fin 2) (r : Fin 4) (w : Vec F S1x1024x128 e) : Vec F S2x4096x128 e :=
  fun y => if (y 0).val = h.val ∧ (y 1).val / 1024 = r.val then
    w (ix3 0 ⟨(y 1).val % 1024, Nat.mod_lt _ (by norm_num)⟩ ⟨(y 2).val, (y 2).isLt⟩) else x y

section Views
variable {κ : Kind} {sp : Space}

theorem read_blk2 {e : EltTy} (v : View sig κ sp S4096x128 e) (f : v.ty.Contents (Elt F)) {off : Fin 2 → ℕ} (r : Fin 4)
    (inb : ∀ a, off a + S1024x128.size a ≤ S4096x128.size a) (h : off = ![r.val * 1024, 0]) :
    v.readAt (Elt F) (Rect.unit (s := S4096x128) off S1024x128.size inb).toLoadRect f = blk2 (v.read (Elt F) f) r := by
  subst h
  funext y
  exact congrArg (v.read (Elt F) f) (funext fun a => by
    match a with
    | ⟨0, _⟩ => exact Fin.ext (show r.val * 1024 + 1 * (y 0).val = r.val * 1024 + (y 0).val by omega)
    | ⟨1, _⟩ => exact Fin.ext (show 0 + 1 * (y 1).val = (y 1).val by omega))

theorem read_blk3 {e : EltTy} (v : View sig κ sp S2x4096x128 e) (f : v.ty.Contents (Elt F)) {off : Fin 3 → ℕ} (h : Fin 2) (r : Fin 4)
    (inb : ∀ a, off a + S1x1024x128.size a ≤ S2x4096x128.size a) (ho : off = ![h.val, r.val * 1024, 0]) :
    v.readAt (Elt F) (Rect.unit (s := S2x4096x128) off S1x1024x128.size inb).toLoadRect f = blk3 (v.read (Elt F) f) h r := by
  subst ho
  funext y
  have h0 : (y 0).val < 1 := (y 0).isLt
  exact congrArg (v.read (Elt F) f) (funext fun a => by
    match a with
    | ⟨0, _⟩ => exact Fin.ext (show h.val + 1 * (y 0).val = h.val by omega)
    | ⟨1, _⟩ => exact Fin.ext (show r.val * 1024 + 1 * (y 1).val = r.val * 1024 + (y 1).val by omega)
    | ⟨2, _⟩ => exact Fin.ext (show 0 + 1 * (y 2).val = (y 2).val by omega))

theorem read_put3 {e : EltTy} (v : View sig κ sp S2x4096x128 e) (f : v.ty.Contents (Elt F)) {off : Fin 3 → ℕ} (h : Fin 2) (r : Fin 4)
    (inb : ∀ a, off a + S1x1024x128.size a ≤ S2x4096x128.size a) (w : Vec F S1x1024x128 e) (L : List (View.Piece (Elt F) S2x4096x128 e))
    (ho : off = ![h.val, r.val * 1024, 0]) :
    v.read (Elt F) (v.writes (Elt F) f (⟨Rect.unit (s := S2x4096x128) off S1x1024x128.size inb, w⟩ :: L)) = put3 (v.read (Elt F) (v.writes (Elt F) f L)) h r w := by
  funext y
  rw [View.read_writes_cons_unit v _ inb w L y ho]
  have h1 : (y 1).val < 4096 := (y 1).isLt
  have h2 : (y 2).val < 128 := (y 2).isLt
  unfold put3
  by_cases hc : (y 0).val = h.val ∧ (y 1).val / 1024 = r.val
  · rw [if_pos hc, dif_pos (fun a => by
      match a with
      | ⟨0, _⟩ => exact (show h.val ≤ (y 0).val ∧ (y 0).val < h.val + 1 by omega)
      | ⟨1, _⟩ => exact (show r.val * 1024 ≤ (y 1).val ∧ (y 1).val < r.val * 1024 + 1024 by omega)
      | ⟨2, _⟩ => exact (show 0 ≤ (y 2).val ∧ (y 2).val < 0 + 128 by omega))]
    exact congrArg w (funext fun a => by
      match a with
      | ⟨0, _⟩ => exact Fin.ext (show (y 0).val - h.val = 0 by omega)
      | ⟨1, _⟩ => exact Fin.ext (show (y 1).val - r.val * 1024 = (y 1).val % 1024 by omega)
      | ⟨2, _⟩ => exact Fin.ext (show (y 2).val - 0 = (y 2).val by omega))
  · rw [if_neg hc, dif_neg]
    intro hall
    have a0 : h.val ≤ (y 0).val ∧ (y 0).val < h.val + 1 := hall 0
    have a1 : r.val * 1024 ≤ (y 1).val ∧ (y 1).val < r.val * 1024 + 1024 := hall 1
    omega

end Views

theorem blk3_put3_ne {e : EltTy} (x : Vec F S2x4096x128 e) (h h' : Fin 2) (r r' : Fin 4) (w : Vec F S1x1024x128 e) (hne : h ≠ h') :
    blk3 (put3 x h r w) h' r' = blk3 x h' r' := by
  funext y
  exact if_neg (fun hc => hne (Fin.ext hc.1.symm))

/-- The row of blocks trip `k` of the loop over the later blocks works on. -/
def row1 (i : grid0.Coords) (n : ℕ) : Fin 4 := ⟨((i 1).val + 1 + n) % 4, Nat.mod_lt _ (by norm_num)⟩

/-- The block row of the grid point. -/
def row0 (i : grid0.Coords) : Fin 4 := ⟨(i 1).val, (i 1).isLt⟩

theorem trips1 (i : grid0.Coords) : (k0_t1_loop i).trips = 3 - (i 1).val := by
  have h : ∀ a : Fin 4, Scf.trips (Scalar.addi (BitVec.ofNat 32 a.val) 1#32)
      (Scalar.addi (Scalar.addi (BitVec.ofNat 32 a.val) 1#32) (Scalar.muli (Scalar.divsi (Scalar.subi 4#32 (Scalar.addi (BitVec.ofNat 32 a.val) 1#32)) 1#32) 1#32)) 1#32
      = 3 - a.val := by decide +kernel
  exact h (row0 i)

theorem trips2 (i : grid0.Coords) : (k0_t2_loop i).trips = 0 := by
  have h : ∀ a : Fin 4, Scf.trips (Scalar.addi (Scalar.addi (BitVec.ofNat 32 a.val) 1#32) (Scalar.muli (Scalar.divsi (Scalar.subi 4#32 (Scalar.addi (BitVec.ofNat 32 a.val) 1#32)) 1#32) 1#32))
      (Scalar.addi (Scalar.addi (BitVec.ofNat 32 a.val) 1#32) (Scalar.subi 4#32 (Scalar.addi (BitVec.ofNat 32 a.val) 1#32))) 1#32 = 0 := by decide +kernel
  exact h (row0 i)

theorem off1_eq (i : grid0.Coords) : k0_off1 i = ![(row0 i).val * 1024, 0] := by
  have h : ∀ a : Fin 4, (Scalar.indexCast (Scalar.muli (BitVec.ofNat 32 a.val) 1024#32) : Index).toNat = a.val * 1024 := by decide +kernel
  exact congrArg (fun z : ℕ => (![z, 0] : Fin 2 → ℕ)) (h (row0 i))

theorem off2_eq (i : grid0.Coords) : k0_off2 i = ![(0 : Fin 2).val, (row0 i).val * 1024, 0] := by
  have h : ∀ a : Fin 4, (Scalar.indexCast (Scalar.muli (BitVec.ofNat 32 a.val) 1024#32) : Index).toNat = a.val * 1024 := by decide +kernel
  exact congrArg (fun z : ℕ => (![0, z, 0] : Fin 3 → ℕ)) (h (row0 i))

theorem off3_eq (i : grid0.Coords) : k0_off3 i = ![(1 : Fin 2).val, (row0 i).val * 1024, 0] := by
  have h : ∀ a : Fin 4, (Scalar.indexCast (Scalar.muli (BitVec.ofNat 32 a.val) 1024#32) : Index).toNat = a.val * 1024 := by decide +kernel
  exact congrArg (fun z : ℕ => (![1, z, 0] : Fin 3 → ℕ)) (h (row0 i))

theorem iv_eq (i : grid0.Coords) (k : Fin (k0_t1_loop i).trips) :
    (Scalar.indexCast (Scalar.muli (Scf.iv (Scalar.addi (BitVec.ofNat 32 (i 1).val) 1#32) 1#32 k.val) 1024#32) : Index).toNat = (row1 i k.val).val * 1024 := by
  have h : ∀ a b : Fin 4, a.val + 1 + b.val < 4 →
      (Scalar.indexCast (Scalar.muli (Scf.iv (Scalar.addi (BitVec.ofNat 32 a.val) 1#32) 1#32 b.val) 1024#32) : Index).toNat = ((a.val + 1 + b.val) % 4) * 1024 := by decide +kernel
  have hk := k.isLt.trans_eq (trips1 i)
  have hi : (i 1).val < 4 := (i 1).isLt
  exact h (row0 i) ⟨k.val, by omega⟩ (show (i 1).val + 1 + k.val < 4 by omega)

theorem off4_eq (i : grid0.Coords) (k : Fin (k0_t1_loop i).trips) : k0_off4 i k = ![(row1 i k.val).val * 1024, 0] :=
  congrArg (fun z : ℕ => (![z, 0] : Fin 2 → ℕ)) (iv_eq i k)

theorem off5_eq (i : grid0.Coords) (k : Fin (k0_t1_loop i).trips) : k0_off5 i k = ![(0 : Fin 2).val, (row1 i k.val).val * 1024, 0] :=
  congrArg (fun z : ℕ => (![0, z, 0] : Fin 3 → ℕ)) (iv_eq i k)

theorem off6_eq (i : grid0.Coords) (k : Fin (k0_t1_loop i).trips) : k0_off6 i k = ![(1 : Fin 2).val, (row1 i k.val).val * 1024, 0] :=
  congrArg (fun z : ℕ => (![1, z, 0] : Fin 3 → ℕ)) (iv_eq i k)

/-- The three sums a grid point carries: of the two heads' key gradients, and of the value gradient. -/
abbrev Acc (F : FTy → Type) := FVec F S1024x128 .f32 × FVec F S1024x128 .f32 × FVec F S1024x128 .f32

/-- One later block's contribution to the carried sums. -/
def accS (w0 : Vec F S2x4096x128 .bf16) (w3 w4 w5 : Vec F S4096x128 .f32) (v9 v11 v13 : FVec F S1024x128 .bf16) (r : Fin 4) (a : Acc F) : Acc F :=
  (k0_pay11 k0_pay44 v9 v11 a.1 (blk2 w5 r) (blk2 w3 r) (blk2 w4 r) (blk3 w0 0 r),
   k0_pay21 k0_pay44 v9 v13 a.2.1 (blk2 w5 r) (k0_pay3 (blk2 w3 r)) (k0_pay4 (blk2 w4 r)) (blk3 w0 1 r),
   k0_pay20 k0_pay44 v13 (blk2 w5 r) (k0_pay4 (blk2 w4 r)) (k0_pay10 k0_pay44 v11 a.2.2 (blk2 w5 r) (blk2 w4 r) (blk3 w0 0 r)) (blk3 w0 1 r))

/-- One later block's contribution to the query gradients. -/
def dqS (w0 : Vec F S2x4096x128 .bf16) (w3 w4 w5 : Vec F S4096x128 .f32) (v9 v11 v13 : FVec F S1024x128 .bf16) (r : Fin 4) (D : Vec F S2x4096x128 .f32) : Vec F S2x4096x128 .f32 :=
  put3 (put3 D 0 r (k0_pay14 (k0_pay12 (blk3 D 0 r)) (k0_pay13 k0_pay44 v9 v11 (blk2 w5 r) (blk2 w3 r) (blk2 w4 r) (blk3 w0 0 r)))) 1 r
    (k0_pay22 k0_pay44 v9 v13 (blk2 w5 r) (k0_pay3 (blk2 w3 r)) (k0_pay4 (blk2 w4 r)) (blk3 w0 1 r) (blk3 D 1 r))

/-- The carried sums before the `n`-th later block. -/
def accN (i : grid0.Coords) (w0 : Vec F S2x4096x128 .bf16) (w3 w4 w5 : Vec F S4096x128 .f32) (v9 v11 v13 : FVec F S1024x128 .bf16) (a : Acc F) : ℕ → Acc F
  | 0 => a
  | n + 1 => accS w0 w3 w4 w5 v9 v11 v13 (row1 i n) (accN i w0 w3 w4 w5 v9 v11 v13 a n)

/-- The query gradients before the `n`-th later block. -/
def dqN (i : grid0.Coords) (w0 : Vec F S2x4096x128 .bf16) (w3 w4 w5 : Vec F S4096x128 .f32) (v9 v11 v13 : FVec F S1024x128 .bf16) (D : Vec F S2x4096x128 .f32) : ℕ → Vec F S2x4096x128 .f32
  | 0 => D
  | n + 1 => dqS w0 w3 w4 w5 v9 v11 v13 (row1 i n) (dqN i w0 w3 w4 w5 v9 v11 v13 D n)

section Trip
variable (𝒱 : Variants) (c : Dev nD) (bd : Option 𝒱.V) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .hbm S4096x5760 .bf16) (harg8 : arg8.IsWhole) (arg9 : Memref sig .tc .vmem S2x4096x128 .f32) (harg9 : arg9.IsWhole) (arg10 : Memref sig .tc .vmem S2x1024x128 .f32) (harg10 : arg10.IsWhole) (arg11 : Memref sig .tc .vmem S1024x128 .bf16) (harg11 : arg11.IsWhole) (arg1 : BitVec 32) (v3 : IVec S1024x1024 32) (v4 : IVec S1024x1024 32) (v9 : FVec F S1024x128 .bf16) (v11 : FVec F S1024x128 .bf16) (v13 : FVec F S1024x128 .bf16) (v14 : FVec F S1024x128 .f32) (v16 : BitVec 32) (v24 : FVec F S1024x128 .f32) (v53 : FVec F S1024x128 .f32) (v55 : FVec F S1024x128 .f32) (v67 : FVec F S1024x128 .bf16) (v73 : Vec F S1024x128 .f32) (v76 : FVec F S1024x1 .f32) (cst_30 : FVec F S1024x1024 .f32) (v105 : BitVec 32) (w0 : Vec F S2x4096x128 .bf16) (w3 w4 w5 : Vec F S4096x128 .f32)

set_option maxHeartbeats 1000000 in
theorem tripR1 (k : Fin (k0_t1_loop i).trips) (acc : Acc F) (f : BufTy.Contents (Elt F) arg9.view.ty) :
    tripR_k0_t1 (F := F) 𝒱 c bd i arg2 harg2 arg3 harg3 arg4 harg4 arg5 harg5 arg6 harg6 arg7 harg7 arg8 harg8 arg9 harg9 arg10 harg10 arg11 harg11 arg1 v3 v4 k0_pay44 v9 v11 v13 v14 v16 v24 v53 v55 v67 v73 v76 cst_30 v105 (harg2.unread w0) (harg5.unread w3) (harg6.unread w4) (harg7.unread w5) k acc f
      = accS w0 w3 w4 w5 v9 v11 v13 (row1 i k.val) acc := by
  have e4 : ∀ (m : Memref sig .tc .vmem S4096x128 .f32) (hm : m.IsWhole) (w : Vec F S4096x128 .f32) inb,
      m.view.readAt (Elt F) (Rect.unit (s := S4096x128) (k0_off4 i k) S1024x128.size inb).toLoadRect (hm.unread w) = blk2 w (row1 i k.val) := fun m hm w inb => by
    rw [read_blk2 m.view _ (row1 i k.val) inb (off4_eq i k), hm.read_unread]
  have e5 : ∀ inb, arg2.view.readAt (Elt F) (Rect.unit (s := S2x4096x128) (k0_off5 i k) S1x1024x128.size inb).toLoadRect (harg2.unread w0) = blk3 w0 0 (row1 i k.val) := fun inb => by
    rw [read_blk3 arg2.view _ 0 (row1 i k.val) inb (off5_eq i k), harg2.read_unread]
  have e6 : ∀ inb, arg2.view.readAt (Elt F) (Rect.unit (s := S2x4096x128) (k0_off6 i k) S1x1024x128.size inb).toLoadRect (harg2.unread w0) = blk3 w0 1 (row1 i k.val) := fun inb => by
    rw [read_blk3 arg2.view _ 1 (row1 i k.val) inb (off6_eq i k), harg2.read_unread]
  unfold tripR_k0_t1 trip_k0_t1; dsimp only
  unfold accS
  rw [← e4 arg7 harg7 w5 (k0_off4_inb i k), ← e4 arg5 harg5 w3 (k0_off4_inb i k), ← e4 arg6 harg6 w4 (k0_off4_inb i k), ← e5 (k0_off5_inb i k), ← e6 (k0_off6_inb i k)]
  rfl

set_option maxHeartbeats 1000000 in
theorem tripL1 (k : Fin (k0_t1_loop i).trips) (acc : Acc F) (f : BufTy.Contents (Elt F) arg9.view.ty) (L : List (View.Piece (Elt F) S2x4096x128 .f32)) :
    arg9.view.read (Elt F) (arg9.view.writes (Elt F) f (tripL_k0_t1 (F := F) 𝒱 c bd i arg2 harg2 arg3 harg3 arg4 harg4 arg5 harg5 arg6 harg6 arg7 harg7 arg8 harg8 arg9 harg9 arg10 harg10 arg11 harg11 arg1 v3 v4 k0_pay44 v9 v11 v13 v14 v16 v24 v53 v55 v67 v73 v76 cst_30 v105 (harg2.unread w0) (harg5.unread w3) (harg6.unread w4) (harg7.unread w5) k acc (arg9.view.writes (Elt F) f L) ++ L))
      = dqS w0 w3 w4 w5 v9 v11 v13 (row1 i k.val) (arg9.view.read (Elt F) (arg9.view.writes (Elt F) f L)) := by
  have e4 : ∀ (m : Memref sig .tc .vmem S4096x128 .f32) (hm : m.IsWhole) (w : Vec F S4096x128 .f32) inb,
      m.view.readAt (Elt F) (Rect.unit (s := S4096x128) (k0_off4 i k) S1024x128.size inb).toLoadRect (hm.unread w) = blk2 w (row1 i k.val) := fun m hm w inb => by
    rw [read_blk2 m.view _ (row1 i k.val) inb (off4_eq i k), hm.read_unread]
  have e5 : ∀ inb, arg2.view.readAt (Elt F) (Rect.unit (s := S2x4096x128) (k0_off5 i k) S1x1024x128.size inb).toLoadRect (harg2.unread w0) = blk3 w0 0 (row1 i k.val) := fun inb => by
    rw [read_blk3 arg2.view _ 0 (row1 i k.val) inb (off5_eq i k), harg2.read_unread]
  have e6 : ∀ inb, arg2.view.readAt (Elt F) (Rect.unit (s := S2x4096x128) (k0_off6 i k) S1x1024x128.size inb).toLoadRect (harg2.unread w0) = blk3 w0 1 (row1 i k.val) := fun inb => by
    rw [read_blk3 arg2.view _ 1 (row1 i k.val) inb (off6_eq i k), harg2.read_unread]
  unfold tripL_k0_t1 trip_k0_t1; dsimp only [List.cons_append, List.nil_append]
  unfold dqS
  rw [read_put3 arg9.view f 1 (row1 i k.val) _ _ _ (off6_eq i k), read_put3 arg9.view f 0 (row1 i k.val) _ _ _ (off5_eq i k)]
  have d0 : blk3 (arg9.view.read (Elt F) (arg9.view.writes (Elt F) f L)) 0 (row1 i k.val)
      = arg9.view.readAt (Elt F) (Rect.unit (s := S2x4096x128) (k0_off5 i k) S1x1024x128.size (k0_off5_inb i k)).toLoadRect (arg9.view.writes (Elt F) f L) :=
    (read_blk3 arg9.view _ 0 (row1 i k.val) (k0_off5_inb i k) (off5_eq i k)).symm
  have d1 : blk3 (arg9.view.read (Elt F) (arg9.view.writes (Elt F) f L)) 1 (row1 i k.val)
      = arg9.view.readAt (Elt F) (Rect.unit (s := S2x4096x128) (k0_off6 i k) S1x1024x128.size (k0_off6_inb i k)).toLoadRect (arg9.view.writes (Elt F) f L) :=
    (read_blk3 arg9.view _ 1 (row1 i k.val) (k0_off6_inb i k) (off6_eq i k)).symm
  refine congrArg₂ (fun a b => put3 (put3 _ 0 (row1 i k.val) a) 1 (row1 i k.val) b) ?_ ?_
  · rw [d0, ← e4 arg7 harg7 w5 (k0_off4_inb i k), ← e4 arg5 harg5 w3 (k0_off4_inb i k), ← e4 arg6 harg6 w4 (k0_off4_inb i k), ← e5 (k0_off5_inb i k)]
    rfl
  · rw [d1, ← e4 arg7 harg7 w5 (k0_off4_inb i k), ← e4 arg5 harg5 w3 (k0_off4_inb i k), ← e4 arg6 harg6 w4 (k0_off4_inb i k), ← e6 (k0_off6_inb i k)]
    rfl

set_option maxHeartbeats 1000000 in
theorem st1 (G : BufTy.Contents (Elt F) arg9.view.ty) (a : Acc F) (n : ℕ) (hn : n ≤ (k0_t1_loop i).trips) :
    (st_k0_t1 (F := F) 𝒱 c bd i arg2 harg2 arg3 harg3 arg4 harg4 arg5 harg5 arg6 harg6 arg7 harg7 arg8 harg8 arg9 harg9 arg10 harg10 arg11 harg11 arg1 v3 v4 k0_pay44 v9 v11 v13 v14 v16 v24 v53 v55 v67 v73 v76 cst_30 v105 (harg2.unread w0) (harg5.unread w3) (harg6.unread w4) (harg7.unread w5) G a n).1 = accN i w0 w3 w4 w5 v9 v11 v13 a n
    ∧ arg9.view.read (Elt F) (arg9.view.writes (Elt F) G (st_k0_t1 (F := F) 𝒱 c bd i arg2 harg2 arg3 harg3 arg4 harg4 arg5 harg5 arg6 harg6 arg7 harg7 arg8 harg8 arg9 harg9 arg10 harg10 arg11 harg11 arg1 v3 v4 k0_pay44 v9 v11 v13 v14 v16 v24 v53 v55 v67 v73 v76 cst_30 v105 (harg2.unread w0) (harg5.unread w3) (harg6.unread w4) (harg7.unread w5) G a n).2) = dqN i w0 w3 w4 w5 v9 v11 v13 (arg9.view.read (Elt F) G) n := by
  induction n with
  | zero => exact ⟨rfl, rfl⟩
  | succ n ih =>
    obtain ⟨ih1, ih2⟩ := ih (by omega)
    rw [st_k0_t1_succ (k := ⟨n, hn⟩)]
    dsimp only
    rw [tripR1, tripL1, ih1, ih2]
    exact ⟨rfl, rfl⟩

end Trip

/-- One head's block of keys. -/
def headOf {e : EltTy} (x : Vec F S2x1024x128 e) (h : Fin 2) : Vec F S1x1024x128 e :=
  fun y => x (ix3 h ⟨(y 1).val, (y 1).isLt⟩ ⟨(y 2).val, (y 2).isLt⟩)

/-- Row and column numbers of a score block, and its zeros. -/
abbrev rowI : IVec S1024x1024 32 := iota .tc S1024x1024 32 [0] iota_S1024x1024_d0_w32
abbrev colI : IVec S1024x1024 32 := iota .tc S1024x1024 32 [1] iota_S1024x1024_d1_w32
abbrev zeroB : FVec F S1024x1024 .f32 := constant S1024x1024 .f32 0x00000000#32

/-- The sums after the diagonal block. -/
def acc0 (i : grid0.Coords) (w0 : Vec F S2x4096x128 .bf16) (w1 : Vec F S2x1024x128 .bf16) (w2 : Vec F S1024x128 .bf16) (w3 w4 w5 : Vec F S4096x128 .f32) : Acc F :=
  (k0_pay58 rowI colI (k0_pay45 w2) (k0_pay46 (headOf w1 0)) k0_pay48 (k0_pay50 (blk2 w4 (row0 i))) (k0_pay51 (blk3 w0 0 (row0 i))) (k0_pay52 (blk2 w5 (row0 i))) (k0_pay53 (blk2 w5 (row0 i)) (blk2 w3 (row0 i))),
   k0_pay67 rowI colI (k0_pay45 w2) (k0_pay47 (headOf w1 1)) k0_pay48 (k0_pay50 (blk2 w4 (row0 i))) (k0_pay60 (blk3 w0 1 (row0 i))) (k0_pay61 k0_pay44 (blk2 w5 (row0 i))) (k0_pay62 k0_pay44 (blk2 w5 (row0 i)) (k0_pay49 (blk2 w3 (row0 i)))) zeroB,
   k0_pay66 rowI colI (k0_pay47 (headOf w1 1)) (k0_pay50 (blk2 w4 (row0 i)))
     (k0_pay57 rowI colI (k0_pay46 (headOf w1 0)) k0_pay48 (k0_pay50 (blk2 w4 (row0 i))) (k0_pay51 (blk3 w0 0 (row0 i))) (k0_pay52 (blk2 w5 (row0 i))))
     (k0_pay60 (blk3 w0 1 (row0 i))) (k0_pay61 k0_pay44 (blk2 w5 (row0 i))) zeroB)

/-- The query gradients after the diagonal block. -/
def dq0 (i : grid0.Coords) (w0 : Vec F S2x4096x128 .bf16) (w1 : Vec F S2x1024x128 .bf16) (w2 : Vec F S1024x128 .bf16) (w3 w4 w5 : Vec F S4096x128 .f32) (D : Vec F S2x4096x128 .f32) : Vec F S2x4096x128 .f32 :=
  put3 (put3 D 0 (row0 i) (k0_pay59 rowI colI (k0_pay45 w2) (k0_pay46 (headOf w1 0)) (k0_pay50 (blk2 w4 (row0 i))) (k0_pay51 (blk3 w0 0 (row0 i))) (k0_pay52 (blk2 w5 (row0 i))) (k0_pay53 (blk2 w5 (row0 i)) (blk2 w3 (row0 i))) (blk3 D 0 (row0 i)))) 1 (row0 i)
    (k0_pay68 rowI colI (k0_pay45 w2) (k0_pay47 (headOf w1 1)) (k0_pay50 (blk2 w4 (row0 i))) (k0_pay60 (blk3 w0 1 (row0 i))) (k0_pay61 k0_pay44 (blk2 w5 (row0 i))) (k0_pay62 k0_pay44 (blk2 w5 (row0 i)) (k0_pay49 (blk2 w3 (row0 i)))) zeroB (blk3 D 1 (row0 i)))

/-- The sums at the end of a grid point. -/
def accF (i : grid0.Coords) (w0 : Vec F S2x4096x128 .bf16) (w1 : Vec F S2x1024x128 .bf16) (w2 : Vec F S1024x128 .bf16) (w3 w4 w5 : Vec F S4096x128 .f32) : Acc F :=
  accN i w0 w3 w4 w5 (k0_pay45 w2) (k0_pay46 (headOf w1 0)) (k0_pay47 (headOf w1 1)) (acc0 i w0 w1 w2 w3 w4 w5) (3 - (i 1).val)

/-- The query gradients at the end of a grid point that found `D`. -/
def out6 (i : grid0.Coords) (w0 : Vec F S2x4096x128 .bf16) (w1 : Vec F S2x1024x128 .bf16) (w2 : Vec F S1024x128 .bf16) (w3 w4 w5 : Vec F S4096x128 .f32) (D : Vec F S2x4096x128 .f32) : Vec F S2x4096x128 .f32 :=
  dqN i w0 w3 w4 w5 (k0_pay45 w2) (k0_pay46 (headOf w1 0)) (k0_pay47 (headOf w1 1)) (dq0 i w0 w1 w2 w3 w4 w5 D) (3 - (i 1).val)

/-- The key gradients a grid point stores. -/
def out7 (i : grid0.Coords) (w0 : Vec F S2x4096x128 .bf16) (w1 : Vec F S2x1024x128 .bf16) (w2 : Vec F S1024x128 .bf16) (w3 w4 w5 : Vec F S4096x128 .f32) : Vec F S2x1024x128 .f32 :=
  fun y => if (y 0).val = 0 then (accF i w0 w1 w2 w3 w4 w5).1 (ix2 ⟨(y 1).val, (y 1).isLt⟩ ⟨(y 2).val, (y 2).isLt⟩)
    else (accF i w0 w1 w2 w3 w4 w5).2.1 (ix2 ⟨(y 1).val, (y 1).isLt⟩ ⟨(y 2).val, (y 2).isLt⟩)

/-- The value gradients a grid point stores. -/
def out8 (i : grid0.Coords) (w0 : Vec F S2x4096x128 .bf16) (w1 : Vec F S2x1024x128 .bf16) (w2 : Vec F S1024x128 .bf16) (w3 w4 w5 : Vec F S4096x128 .f32) : Vec F S1024x128 .bf16 :=
  k0_pay2 (accF i w0 w1 w2 w3 w4 w5).2.2

section Views2
variable {κ : Kind} {sp : Space}

theorem read_head {e : EltTy} (v : View sig κ sp S2x1024x128 e) (f : v.ty.Contents (Elt F)) {off : Fin 3 → ℕ} (h : Fin 2)
    (inb : ∀ a, off a + S1x1024x128.size a ≤ S2x1024x128.size a) (ho : off = ![h.val, 0, 0]) :
    v.readAt (Elt F) (Rect.unit (s := S2x1024x128) off S1x1024x128.size inb).toLoadRect f = headOf (v.read (Elt F) f) h := by
  subst ho
  funext y
  have h0 : (y 0).val < 1 := (y 0).isLt
  exact congrArg (v.read (Elt F) f) (funext fun a => by
    match a with
    | ⟨0, _⟩ => exact Fin.ext (show h.val + 1 * (y 0).val = h.val by omega)
    | ⟨1, _⟩ => exact Fin.ext (show 0 + 1 * (y 1).val = (y 1).val by omega)
    | ⟨2, _⟩ => exact Fin.ext (show 0 + 1 * (y 2).val = (y 2).val by omega))

/-- Both heads stored: nothing of what was there before is left. -/
theorem read_heads {e : EltTy} (v : View sig κ sp S2x1024x128 e) (f : v.ty.Contents (Elt F))
    (inb0 : ∀ a, (![0, 0, 0] : Fin 3 → ℕ) a + S1x1024x128.size a ≤ S2x1024x128.size a) (inb1 : ∀ a, (![1, 0, 0] : Fin 3 → ℕ) a + S1x1024x128.size a ≤ S2x1024x128.size a)
    (w u : Vec F S1x1024x128 e) :
    v.read (Elt F) (v.writes (Elt F) f [⟨Rect.unit (s := S2x1024x128) ![1, 0, 0] S1x1024x128.size inb1, u⟩, ⟨Rect.unit (s := S2x1024x128) ![0, 0, 0] S1x1024x128.size inb0, w⟩])
      = fun y => if (y 0).val = 0 then w (ix3 0 ⟨(y 1).val, (y 1).isLt⟩ ⟨(y 2).val, (y 2).isLt⟩) else u (ix3 0 ⟨(y 1).val, (y 1).isLt⟩ ⟨(y 2).val, (y 2).isLt⟩) := by
  funext y
  have h0 : (y 0).val < 2 := (y 0).isLt
  have h1 : (y 1).val < 1024 := (y 1).isLt
  have h2 : (y 2).val < 128 := (y 2).isLt
  rw [View.read_writes_cons_unit v _ inb1 u _ y rfl]
  by_cases hc : (y 0).val = 0
  · rw [if_pos hc, dif_neg (fun hall => by have a0 : 1 ≤ (y 0).val ∧ (y 0).val < 1 + 1 := hall 0; omega),
      View.read_writes_cons_unit v _ inb0 w _ y rfl, dif_pos (fun a => by
      match a with
      | ⟨0, _⟩ => exact (show 0 ≤ (y 0).val ∧ (y 0).val < 0 + 1 by omega)
      | ⟨1, _⟩ => exact (show 0 ≤ (y 1).val ∧ (y 1).val < 0 + 1024 by omega)
      | ⟨2, _⟩ => exact (show 0 ≤ (y 2).val ∧ (y 2).val < 0 + 128 by omega))]
    exact congrArg w (funext fun a => by
      match a with
      | ⟨0, _⟩ => exact Fin.ext (show (y 0).val - 0 = 0 by omega)
      | ⟨1, _⟩ => exact Fin.ext (show (y 1).val - 0 = (y 1).val by omega)
      | ⟨2, _⟩ => exact Fin.ext (show (y 2).val - 0 = (y 2).val by omega))
  · rw [if_neg hc, dif_pos (fun a => by
      match a with
      | ⟨0, _⟩ => exact (show 1 ≤ (y 0).val ∧ (y 0).val < 1 + 1 by omega)
      | ⟨1, _⟩ => exact (show 0 ≤ (y 1).val ∧ (y 1).val < 0 + 1024 by omega)
      | ⟨2, _⟩ => exact (show 0 ≤ (y 2).val ∧ (y 2).val < 0 + 128 by omega))]
    exact congrArg u (funext fun a => by
      match a with
      | ⟨0, _⟩ => exact Fin.ext (show (y 0).val - 1 = 0 by omega)
      | ⟨1, _⟩ => exact Fin.ext (show (y 1).val - 0 = (y 1).val by omega)
      | ⟨2, _⟩ => exact Fin.ext (show (y 2).val - 0 = (y 2).val by omega))

end Views2

end Cert.AttnIdeal.Grad
end
-- ==== Proof.AttnBody.lean ====
module
public import proofs.«01_k».proof.Proof.Gen.AttnIdeal.Frame
public import proofs.«01_k».proof.Proof.Gen.AttnIdeal.Loops
public import proofs.«01_k».proof.Proof.AttnStep
public import Idealize.ShloMosaic.Lib.Pipeline.ValueKit
@[expose] public section
set_option maxRecDepth 16384

noncomputable section
namespace Cert.AttnIdeal.Grad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

theorem pay69_apply (w : FVec F S1024x128 .f32) (a : Fin 1024) (b : Fin 128) : k0_pay69 w (ix3 0 a b) = w (ix2 a b) := by
  unfold k0_pay69; pointwise!

theorem pay1_apply (w : FVec F S1024x128 .f32) (a : Fin 1024) (b : Fin 128) : k0_pay1 w (ix3 0 a b) = w (ix2 a b) := by
  unfold k0_pay1; pointwise!

set_option maxHeartbeats 4000000 in
theorem run_A (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg9 : Memref sig .tc .vmem S2x4096x128 .f32) (harg9 : arg9.IsWhole) (arg10 : Memref sig .tc .vmem S2x1024x128 .f32) (harg10 : arg10.IsWhole) (arg11 : Memref sig .tc .vmem S1024x128 .bf16) (harg11 : arg11.IsWhole) (hc0 : (Scalar.cmpi .ne (Scalar.extui (Scalar.cmpi .eq (BitVec.ofNat 32 (i 1).val) 0#32)) 0#32) = 1#1)
    (x0 : Vec F S2x4096x128 .bf16) (x1 : Vec F S2x1024x128 .bf16) (x2 : Vec F S1024x128 .bf16) (x3 : Vec F S4096x128 .f32) (x4 : Vec F S4096x128 .f32) (x5 : Vec F S4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (out6 i x0 x1 x2 x3 x4 x5 k0_pay43) ∗ owns (c : Thread nD τ) arg10 fullShare (out7 i x0 x1 x2 x3 x4 x5) ∗ owns (c : Thread nD τ) arg11 fullShare (out8 i x0 x1 x2 x3 x4 x5)) -∗ K ⟨⟩))
    ⊢ wp frame (wpE (defs₀ (F := F)) Variants.none c none) E (cc0_attn_bwd i arg2 harg2 arg3 harg3 arg4 harg4 arg5 harg5 arg6 harg6 arg7 harg7 (Memref.whole main_v74) (Memref.isWhole_whole _) arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5

  have b7 : ∀ inb, arg7.view.readAt (Elt F) (Rect.unit (s := S4096x128) (k0_off1 i) S1024x128.size inb).toLoadRect (harg7.unread x5) = blk2 x5 (row0 i) := fun inb => by
    rw [read_blk2 arg7.view _ (row0 i) inb (off1_eq i), harg7.read_unread]
  have b5 : ∀ inb, arg5.view.readAt (Elt F) (Rect.unit (s := S4096x128) (k0_off1 i) S1024x128.size inb).toLoadRect (harg5.unread x3) = blk2 x3 (row0 i) := fun inb => by
    rw [read_blk2 arg5.view _ (row0 i) inb (off1_eq i), harg5.read_unread]
  have b6 : ∀ inb, arg6.view.readAt (Elt F) (Rect.unit (s := S4096x128) (k0_off1 i) S1024x128.size inb).toLoadRect (harg6.unread x4) = blk2 x4 (row0 i) := fun inb => by
    rw [read_blk2 arg6.view _ (row0 i) inb (off1_eq i), harg6.read_unread]
  have q0 : ∀ inb, arg2.view.readAt (Elt F) (Rect.unit (s := S2x4096x128) (k0_off2 i) S1x1024x128.size inb).toLoadRect (harg2.unread x0) = blk3 x0 0 (row0 i) := fun inb => by
    rw [read_blk3 arg2.view _ 0 (row0 i) inb (off2_eq i), harg2.read_unread]
  have q1 : ∀ inb, arg2.view.readAt (Elt F) (Rect.unit (s := S2x4096x128) (k0_off3 i) S1x1024x128.size inb).toLoadRect (harg2.unread x0) = blk3 x0 1 (row0 i) := fun inb => by
    rw [read_blk3 arg2.view _ 1 (row0 i) inb (off3_eq i), harg2.read_unread]
  have er : run_A.sl.r c arg4 harg4 x2 = k0_pay45 x2 := congrArg k0_pay45 (by
    refine (View.readAt_full (s := S1024x128) arg4.view _ _).trans ?_; exact harg4.read_unread _)
  have er1 : run_A.sl.r_1 c arg3 harg3 x1 = k0_pay46 (headOf x1 0) := congrArg k0_pay46 (by
    refine (read_head arg3.view _ 0 _ rfl).trans ?_; rw [harg3.read_unread])
  have er2 : run_A.sl.r_2 c arg3 harg3 x1 = k0_pay47 (headOf x1 1) := congrArg k0_pay47 (by
    refine (read_head arg3.view _ 1 _ rfl).trans ?_; rw [harg3.read_unread])
  have er5 : run_A.sl.r_5 c i arg6 harg6 x4 = k0_pay50 (blk2 x4 (row0 i)) := congrArg k0_pay50 (b6 _)
  have er6 : run_A.sl.r_6 c i arg2 harg2 x0 = k0_pay51 (blk3 x0 0 (row0 i)) := congrArg k0_pay51 (q0 _)
  have er7 : run_A.sl.r_7 c i arg7 harg7 x5 = k0_pay52 (blk2 x5 (row0 i)) := congrArg k0_pay52 (b7 _)
  have er8 : run_A.sl.r_8 c i arg5 harg5 arg7 harg7 x3 x5 = k0_pay53 (blk2 x5 (row0 i)) (blk2 x3 (row0 i)) := congrArg₂ k0_pay53 (b7 _) (b5 _)
  have er11 : run_A.sl.r_11 c i arg2 harg2 x0 = k0_pay60 (blk3 x0 1 (row0 i)) := congrArg k0_pay60 (q1 _)
  have er12 : run_A.sl.r_12 c i arg7 harg7 x5 = k0_pay61 k0_pay44 (blk2 x5 (row0 i)) := congrArg (k0_pay61 k0_pay44) (b7 _)
  have er13 : run_A.sl.r_13 c i arg5 harg5 arg7 harg7 x3 x5 = k0_pay62 k0_pay44 (blk2 x5 (row0 i)) (k0_pay49 (blk2 x3 (row0 i))) :=
    congrArg₂ (fun a b => k0_pay62 k0_pay44 a (k0_pay49 b)) (b7 _) (b5 _)
  have er9 : run_A.sl.r_9 c i arg2 harg2 arg3 harg3 arg6 harg6 arg7 harg7 x0 x1 x4 x5
      = k0_pay57 rowI colI (k0_pay46 (headOf x1 0)) k0_pay48 (k0_pay50 (blk2 x4 (row0 i))) (k0_pay51 (blk3 x0 0 (row0 i))) (k0_pay52 (blk2 x5 (row0 i))) := by
    rw [← er1, ← er5, ← er6, ← er7]; rfl
  have er10 : run_A.sl.r_10 c i arg2 harg2 arg3 harg3 arg4 harg4 arg5 harg5 arg6 harg6 arg7 harg7 x0 x1 x2 x3 x4 x5
      = k0_pay58 rowI colI (k0_pay45 x2) (k0_pay46 (headOf x1 0)) k0_pay48 (k0_pay50 (blk2 x4 (row0 i))) (k0_pay51 (blk3 x0 0 (row0 i))) (k0_pay52 (blk2 x5 (row0 i))) (k0_pay53 (blk2 x5 (row0 i)) (blk2 x3 (row0 i))) := by
    rw [← er, ← er1, ← er5, ← er6, ← er7, ← er8]; rfl
  have t2 : Scf.trips (k0_t2_loop i).lb (k0_t2_loop i).ub (k0_t2_loop i).st = 0 := trips2 i
  have t1 : Scf.trips (k0_t1_loop i).lb (k0_t1_loop i).ub (k0_t1_loop i).st = 3 - (i 1).val := trips1 i
  have t1' : 3 - (i 1).val ≤ (k0_t1_loop i).trips := (trips1 i).ge
  isplitl [H6]
  · iexists _; isplitr; swap; · iexact H6
    ipureintro
    rw [t2, st_k0_t2.eq_1]
    dsimp only
    rw [List.nil_append, View.writes_append, t1]
    refine (st1 (w0 := x0) (w3 := x3) (w4 := x4) (w5 := x5) (hn := t1') ..).2.trans ?_
    unfold run_A.sl.H6_2 run_A.sl.H6_1
    rw [er, er1, er2, er5, er6, er7, er8, er11, er12, er13]
    have hz : ∀ (g : BufTy.Contents (Elt F) arg9.view.ty), arg9.view.read (Elt F) (arg9.view.writes (Elt F) g run_A.sl.H6_1) = k0_pay43 := fun g =>
      View.read_writes_full (s := S2x4096x128) arg9.view g _ _ _
    refine congrArg (fun D => dqN i x0 x3 x4 x5 _ _ _ D (3 - (i 1).val)) ?_
    refine (read_put3 arg9.view _ 1 (row0 i) _ _ _ (off3_eq i)).trans ?_
    refine (congrArg (fun D => put3 D 1 (row0 i) _) (read_put3 arg9.view _ 0 (row0 i) _ _ _ (off2_eq i))).trans ?_
    refine (congrArg (fun D => put3 (put3 D 0 (row0 i) _) 1 (row0 i) _) (hz _)).trans ?_
    refine congrArg₂ (fun a b => put3 (F := F) (e := .f32) (put3 (F := F) (e := .f32) k0_pay43 0 (row0 i) a) 1 (row0 i) b) ?_ ?_
    · exact congrArg (fun z => k0_pay59 rowI colI _ _ _ _ _ _ z) ((read_blk3 arg9.view _ 0 (row0 i) _ (off2_eq i)).trans (congrArg (fun D => blk3 D 0 (row0 i)) (hz _)))
    · refine congrArg (fun z => k0_pay68 rowI colI _ _ _ _ _ _ zeroB z) ?_
      refine (read_blk3 arg9.view _ 1 (row0 i) _ (off3_eq i)).trans ?_
      refine (congrArg (fun D => blk3 D 1 (row0 i)) (read_put3 arg9.view _ 0 (row0 i) _ _ _ (off2_eq i))).trans ?_
      exact (blk3_put3_ne _ 0 1 _ _ _ (by decide)).trans (congrArg (fun D => blk3 D 1 (row0 i)) (hz _))
  isplitl [H7]
  · iexists _; isplitr; swap; · iexact H7
    ipureintro
    refine (read_heads arg10.view _ _ _ _ _).trans ?_
    funext y
    rw [pay69_apply, pay1_apply]
    unfold run_A.sl.r_14
    rw [t2, st_k0_t2.eq_1]
    dsimp only
    rw [t1]
    refine congrArg (fun A : Acc F => if (y 0).val = 0 then A.1 (ix2 ⟨(y 1).val, (y 1).isLt⟩ ⟨(y 2).val, (y 2).isLt⟩)
      else A.2.1 (ix2 ⟨(y 1).val, (y 1).isLt⟩ ⟨(y 2).val, (y 2).isLt⟩)) ((st1 (w0 := x0) (w3 := x3) (w4 := x4) (w5 := x5) (hn := t1') ..).1.trans ?_)
    rw [er, er1, er2, er5, er9, er10, er11, er12, er13]
    rfl
  iexists _; isplitr; swap; · iexact H8
  ipureintro
  refine (View.read_writes_full (s := S1024x128) arg11.view _ _ _ _).trans ?_
  unfold run_A.sl.r_15
  rw [t2, st_k0_t2.eq_1]
  dsimp only
  rw [t1]
  refine congrArg (fun A : Acc F => k0_pay2 A.2.2) ((st1 (w0 := x0) (w3 := x3) (w4 := x4) (w5 := x5) (hn := t1') ..).1.trans ?_)
  rw [er, er1, er2, er5, er9, er10, er11, er12, er13]
  rfl

set_option maxHeartbeats 4000000 in
theorem run_B (c : Dev nD) (i : grid0.Coords) (arg2 : Memref sig .tc .vmem S2x4096x128 .bf16) (harg2 : arg2.IsWhole) (arg3 : Memref sig .tc .vmem S2x1024x128 .bf16) (harg3 : arg3.IsWhole) (arg4 : Memref sig .tc .vmem S1024x128 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg9 : Memref sig .tc .vmem S2x4096x128 .f32) (harg9 : arg9.IsWhole) (arg10 : Memref sig .tc .vmem S2x1024x128 .f32) (harg10 : arg10.IsWhole) (arg11 : Memref sig .tc .vmem S1024x128 .bf16) (harg11 : arg11.IsWhole) (hc0 : ¬ (Scalar.cmpi .ne (Scalar.extui (Scalar.cmpi .eq (BitVec.ofNat 32 (i 1).val) 0#32)) 0#32) = 1#1)
    (x0 : Vec F S2x4096x128 .bf16) (x1 : Vec F S2x1024x128 .bf16) (x2 : Vec F S1024x128 .bf16) (x3 : Vec F S4096x128 .f32) (x4 : Vec F S4096x128 .f32) (x5 : Vec F S4096x128 .f32) (x6 : Vec F S2x4096x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare x6 ∗ (∃ d, owns (c : Thread nD τ) arg10 fullShare d) ∗ (∃ d, owns (c : Thread nD τ) arg11 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (out6 i x0 x1 x2 x3 x4 x5 x6) ∗ owns (c : Thread nD τ) arg10 fullShare (out7 i x0 x1 x2 x3 x4 x5) ∗ owns (c : Thread nD τ) arg11 fullShare (out8 i x0 x1 x2 x3 x4 x5)) -∗ K ⟨⟩))
    ⊢ wp frame (wpE (defs₀ (F := F)) Variants.none c none) E (cc0_attn_bwd i arg2 harg2 arg3 harg3 arg4 harg4 arg5 harg5 arg6 harg6 arg7 harg7 (Memref.whole main_v74) (Memref.isWhole_whole _) arg9 harg9 arg10 harg10 arg11 harg11) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5

  have b7 : ∀ inb, arg7.view.readAt (Elt F) (Rect.unit (s := S4096x128) (k0_off1 i) S1024x128.size inb).toLoadRect (harg7.unread x5) = blk2 x5 (row0 i) := fun inb => by
    rw [read_blk2 arg7.view _ (row0 i) inb (off1_eq i), harg7.read_unread]
  have b5 : ∀ inb, arg5.view.readAt (Elt F) (Rect.unit (s := S4096x128) (k0_off1 i) S1024x128.size inb).toLoadRect (harg5.unread x3) = blk2 x3 (row0 i) := fun inb => by
    rw [read_blk2 arg5.view _ (row0 i) inb (off1_eq i), harg5.read_unread]
  have b6 : ∀ inb, arg6.view.readAt (Elt F) (Rect.unit (s := S4096x128) (k0_off1 i) S1024x128.size inb).toLoadRect (harg6.unread x4) = blk2 x4 (row0 i) := fun inb => by
    rw [read_blk2 arg6.view _ (row0 i) inb (off1_eq i), harg6.read_unread]
  have q0 : ∀ inb, arg2.view.readAt (Elt F) (Rect.unit (s := S2x4096x128) (k0_off2 i) S1x1024x128.size inb).toLoadRect (harg2.unread x0) = blk3 x0 0 (row0 i) := fun inb => by
    rw [read_blk3 arg2.view _ 0 (row0 i) inb (off2_eq i), harg2.read_unread]
  have q1 : ∀ inb, arg2.view.readAt (Elt F) (Rect.unit (s := S2x4096x128) (k0_off3 i) S1x1024x128.size inb).toLoadRect (harg2.unread x0) = blk3 x0 1 (row0 i) := fun inb => by
    rw [read_blk3 arg2.view _ 1 (row0 i) inb (off3_eq i), harg2.read_unread]
  have er : run_B.sl.r c arg4 harg4 x2 = k0_pay45 x2 := congrArg k0_pay45 (by
    refine (View.readAt_full (s := S1024x128) arg4.view _ _).trans ?_; exact harg4.read_unread _)
  have er1 : run_B.sl.r_1 c arg3 harg3 x1 = k0_pay46 (headOf x1 0) := congrArg k0_pay46 (by
    refine (read_head arg3.view _ 0 _ rfl).trans ?_; rw [harg3.read_unread])
  have er2 : run_B.sl.r_2 c arg3 harg3 x1 = k0_pay47 (headOf x1 1) := congrArg k0_pay47 (by
    refine (read_head arg3.view _ 1 _ rfl).trans ?_; rw [harg3.read_unread])
  have er5 : run_B.sl.r_5 c i arg6 harg6 x4 = k0_pay50 (blk2 x4 (row0 i)) := congrArg k0_pay50 (b6 _)
  have er6 : run_B.sl.r_6 c i arg2 harg2 x0 = k0_pay51 (blk3 x0 0 (row0 i)) := congrArg k0_pay51 (q0 _)
  have er7 : run_B.sl.r_7 c i arg7 harg7 x5 = k0_pay52 (blk2 x5 (row0 i)) := congrArg k0_pay52 (b7 _)
  have er8 : run_B.sl.r_8 c i arg5 harg5 arg7 harg7 x3 x5 = k0_pay53 (blk2 x5 (row0 i)) (blk2 x3 (row0 i)) := congrArg₂ k0_pay53 (b7 _) (b5 _)
  have er11 : run_B.sl.r_11 c i arg2 harg2 x0 = k0_pay60 (blk3 x0 1 (row0 i)) := congrArg k0_pay60 (q1 _)
  have er12 : run_B.sl.r_12 c i arg7 harg7 x5 = k0_pay61 k0_pay44 (blk2 x5 (row0 i)) := congrArg (k0_pay61 k0_pay44) (b7 _)
  have er13 : run_B.sl.r_13 c i arg5 harg5 arg7 harg7 x3 x5 = k0_pay62 k0_pay44 (blk2 x5 (row0 i)) (k0_pay49 (blk2 x3 (row0 i))) :=
    congrArg₂ (fun a b => k0_pay62 k0_pay44 a (k0_pay49 b)) (b7 _) (b5 _)
  have er9 : run_B.sl.r_9 c i arg2 harg2 arg3 harg3 arg6 harg6 arg7 harg7 x0 x1 x4 x5
      = k0_pay57 rowI colI (k0_pay46 (headOf x1 0)) k0_pay48 (k0_pay50 (blk2 x4 (row0 i))) (k0_pay51 (blk3 x0 0 (row0 i))) (k0_pay52 (blk2 x5 (row0 i))) := by
    rw [← er1, ← er5, ← er6, ← er7]; rfl
  have er10 : run_B.sl.r_10 c i arg2 harg2 arg3 harg3 arg4 harg4 arg5 harg5 arg6 harg6 arg7 harg7 x0 x1 x2 x3 x4 x5
      = k0_pay58 rowI colI (k0_pay45 x2) (k0_pay46 (headOf x1 0)) k0_pay48 (k0_pay50 (blk2 x4 (row0 i))) (k0_pay51 (blk3 x0 0 (row0 i))) (k0_pay52 (blk2 x5 (row0 i))) (k0_pay53 (blk2 x5 (row0 i)) (blk2 x3 (row0 i))) := by
    rw [← er, ← er1, ← er5, ← er6, ← er7, ← er8]; rfl
  have t2 : Scf.trips (k0_t2_loop i).lb (k0_t2_loop i).ub (k0_t2_loop i).st = 0 := trips2 i
  have t1 : Scf.trips (k0_t1_loop i).lb (k0_t1_loop i).ub (k0_t1_loop i).st = 3 - (i 1).val := trips1 i
  have t1' : 3 - (i 1).val ≤ (k0_t1_loop i).trips := (trips1 i).ge
  isplitl [H6]
  · iexists _; isplitr; swap; · iexact H6
    ipureintro
    rw [t2, st_k0_t2.eq_1]
    dsimp only
    rw [List.nil_append, View.writes_append, t1]
    refine (st1 (w0 := x0) (w3 := x3) (w4 := x4) (w5 := x5) (hn := t1') ..).2.trans ?_
    rw [er, er1, er2, er5, er6, er7, er8, er11, er12, er13]
    refine congrArg (fun D => dqN i x0 x3 x4 x5 _ _ _ D (3 - (i 1).val)) ?_
    refine (read_put3 arg9.view _ 1 (row0 i) _ _ _ (off3_eq i)).trans ?_
    refine (congrArg (fun D => put3 D 1 (row0 i) _) (read_put3 arg9.view _ 0 (row0 i) _ _ _ (off2_eq i))).trans ?_
    refine (congrArg (fun D => put3 (put3 D 0 (row0 i) _) 1 (row0 i) _) hf6).trans ?_
    refine congrArg₂ (fun a b => put3 (put3 x6 0 (row0 i) a) 1 (row0 i) b) ?_ ?_
    · exact congrArg (fun z => k0_pay59 rowI colI _ _ _ _ _ _ z) ((read_blk3 arg9.view _ 0 (row0 i) _ (off2_eq i)).trans (congrArg (fun D => blk3 D 0 (row0 i)) hf6))
    · exact congrArg (fun z => k0_pay68 rowI colI _ _ _ _ _ _ zeroB z) ((read_blk3 arg9.view _ 1 (row0 i) _ (off3_eq i)).trans (congrArg (fun D => blk3 D 1 (row0 i)) hf6))
  isplitl [H7]
  · iexists _; isplitr; swap; · iexact H7
    ipureintro
    refine (read_heads arg10.view _ _ _ _ _).trans ?_
    funext y
    rw [pay69_apply, pay1_apply]
    unfold run_B.sl.r_14
    rw [t2, st_k0_t2.eq_1]
    dsimp only
    rw [t1]
    refine congrArg (fun A : Acc F => if (y 0).val = 0 then A.1 (ix2 ⟨(y 1).val, (y 1).isLt⟩ ⟨(y 2).val, (y 2).isLt⟩)
      else A.2.1 (ix2 ⟨(y 1).val, (y 1).isLt⟩ ⟨(y 2).val, (y 2).isLt⟩)) ((st1 (w0 := x0) (w3 := x3) (w4 := x4) (w5 := x5) (hn := t1') ..).1.trans ?_)
    rw [er, er1, er2, er5, er9, er10, er11, er12, er13]
    rfl
  iexists _; isplitr; swap; · iexact H8
  ipureintro
  refine (View.read_writes_full (s := S1024x128) arg11.view _ _ _ _).trans ?_
  unfold run_B.sl.r_15
  rw [t2, st_k0_t2.eq_1]
  dsimp only
  rw [t1]
  refine congrArg (fun A : Acc F => k0_pay2 A.2.2) ((st1 (w0 := x0) (w3 := x3) (w4 := x4) (w5 := x5) (hn := t1') ..).1.trans ?_)
  rw [er, er1, er2, er5, er9, er10, er11, er12, er13]
  rfl

end Cert.AttnIdeal.Grad
end
-- ==== Proof.AttnFrame.lean ====
module
public import proofs.«01_k».proof.Proof.Gen.AttnIdeal.Frame
public import proofs.«01_k».proof.Proof.Gen.AttnIdeal.Loops
public import proofs.«01_k».proof.Proof.AttnStep
public import proofs.«01_k».proof.Proof.AttnBody
public import Idealize.ShloMosaic.Lib.Pipeline.ValueKit
public import Idealize.ShloMosaic.Lib.Pipeline.FrameBody
public import Idealize.ShloMosaic.Lib.Pipeline.FrameSuffix
public import Idealize.ShloMosaic.Lib.Tactic
public import Idealize.ShloMosaic.Lib.WordCmp
@[expose] public section
set_option maxRecDepth 16384

noncomputable section
namespace Cert.AttnIdeal.Grad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key block number of a point, from its place in the grid. -/
theorem first_iff (t : Fin cfg0.N) :
    (Scalar.cmpi .ne (Scalar.extui (Scalar.cmpi .eq (BitVec.ofNat 32 (grid0.coords t 1).val) 0#32)) 0#32) = 1#1 ↔ t.val % 4 = 0 := by
  have ht : t.val < 32 := t.isLt.trans_eq N_0
  have e1 : (grid0.coords t 1).val = t.val / 1 % 4 := Pipeline.Grid.coords_val t 1 (by decide) rfl
  rw [e1]
  word_cmp

/-- The gradient of a pair's queries after a point: the point's contribution on top of what the pair's earlier
    points left, and on zeros at the first point of a pair. -/
def acc6 (c : Dev nD) : (n : ℕ) → n < cfg0.N → Vec F S2x4096x128 .f32
  | 0, h => out6 (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) k0_pay43
  | n + 1, h => out6 (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 4 = 0 then k0_pay43 else acc6 c n (Nat.lt_of_succ_lt h))

theorem acc6_first (c : Dev nD) (t : Fin cfg0.N) (h0 : t.val % 4 = 0) :
    acc6 m c t.val t.isLt = out6 (grid0.coords t) (iblk m c 0 t) (iblk m c 1 t) (iblk m c 2 t) (iblk m c 3 t) (iblk m c 4 t) (iblk m c 5 t) k0_pay43 := by
  obtain ⟨n, hn⟩ := t
  cases n with
  | zero => rfl
  | succ n => simp only [acc6]; rw [if_pos h0]

theorem acc6_next (c : Dev nD) (t : Fin cfg0.N) (h0 : ¬t.val % 4 = 0) :
    acc6 m c t.val t.isLt = out6 (grid0.coords t) (iblk m c 0 t) (iblk m c 1 t) (iblk m c 2 t) (iblk m c 3 t) (iblk m c 4 t) (iblk m c 5 t)
      (acc6 m c (t.val - 1) (Nat.lt_of_le_of_lt (Nat.sub_le _ _) t.isLt)) := by
  obtain ⟨n, hn⟩ := t
  cases n with
  | zero => exact absurd rfl h0
  | succ n => simp only [acc6]; rw [if_neg h0]; rfl

/-- What the call's arrays hold at each point of the grid: an input's block as the call found it, and the three
    results' blocks as the body's run left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc6 m c t.val t.isLt
    | ⟨7, _⟩ => out7 (grid0.coords t) (iblk m c 0 t) (iblk m c 1 t) (iblk m c 2 t) (iblk m c 3 t) (iblk m c 4 t) (iblk m c 5 t)
    | ⟨8, _⟩ => out8 (grid0.coords t) (iblk m c 0 t) (iblk m c 1 t) (iblk m c 2 t) (iblk m c 3 t) (iblk m c 4 t) (iblk m c 5 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem found0 (c : Dev nD) (t : Fin cfg0.N) (d) : (dats m 0 c).before 0 t d = iblk m c 0 t :=
  before0_0_of m (dats m 0 c) (dats_A m c 0) (left0 m c) t d
theorem left1 (c : Dev nD) (t : Fin cfg0.N) : (dats m 0 c).after 1 t = iblk m c 1 t := by dsimp only [dats]
theorem found1 (c : Dev nD) (t : Fin cfg0.N) (d) : (dats m 0 c).before 1 t d = iblk m c 1 t :=
  before0_1_of m (dats m 0 c) (dats_A m c 1) (left1 m c) t d
theorem left2 (c : Dev nD) (t : Fin cfg0.N) : (dats m 0 c).after 2 t = iblk m c 2 t := by dsimp only [dats]
theorem found2 (c : Dev nD) (t : Fin cfg0.N) (d) : (dats m 0 c).before 2 t d = iblk m c 2 t :=
  before0_2_of m (dats m 0 c) (dats_A m c 2) (left2 m c) t d
theorem left3 (c : Dev nD) (t : Fin cfg0.N) : (dats m 0 c).after 3 t = iblk m c 3 t := by dsimp only [dats]
theorem found3 (c : Dev nD) (t : Fin cfg0.N) (d) : (dats m 0 c).before 3 t d = iblk m c 3 t :=
  before0_3_of m (dats m 0 c) (dats_A m c 3) (left3 m c) t d
theorem left4 (c : Dev nD) (t : Fin cfg0.N) : (dats m 0 c).after 4 t = iblk m c 4 t := by dsimp only [dats]
theorem found4 (c : Dev nD) (t : Fin cfg0.N) (d) : (dats m 0 c).before 4 t d = iblk m c 4 t :=
  before0_4_of m (dats m 0 c) (dats_A m c 4) (left4 m c) t d
theorem left5 (c : Dev nD) (t : Fin cfg0.N) : (dats m 0 c).after 5 t = iblk m c 5 t := by dsimp only [dats]
theorem found5 (c : Dev nD) (t : Fin cfg0.N) (d) : (dats m 0 c).before 5 t d = iblk m c 5 t :=
  before0_5_of m (dats m 0 c) (dats_A m c 5) (left5 m c) t d
theorem left6 (c : Dev nD) (t : Fin cfg0.N) : (dats m 0 c).after 6 t = acc6 m c t.val t.isLt := by dsimp only [dats]
theorem left7 (c : Dev nD) (t : Fin cfg0.N) : (dats m 0 c).after 7 t = out7 (grid0.coords t) (iblk m c 0 t) (iblk m c 1 t) (iblk m c 2 t) (iblk m c 3 t) (iblk m c 4 t) (iblk m c 5 t) := by dsimp only [dats]
theorem left8 (c : Dev nD) (t : Fin cfg0.N) : (dats m 0 c).after 8 t = out8 (grid0.coords t) (iblk m c 0 t) (iblk m c 1 t) (iblk m c 2 t) (iblk m c 3 t) (iblk m c 4 t) (iblk m c 5 t) := by dsimp only [dats]

/-- Within a pair the queries' block stays in place from point to point. -/
theorem found6 (c : Dev nD) (t : Fin cfg0.N) (h0 : ¬t.val % 4 = 0) (d) :
    (dats m 0 c).before 6 t d = acc6 m c (t.val - 1) (Nat.lt_of_le_of_lt (Nat.sub_le _ _) t.isLt) := by
  have hN : t.val < 32 := t.isLt.trans_eq N_0
  rw [Dat.before_out_kept _ 6 rfl t (by omega) (Bool.eq_false_iff.mpr fun h => by have := (flush0_6 _).mp h; dsimp only at this; omega)
    (fun _ => rfl) (fun _ _ => rfl)]
  dsimp only [dats]

abbrev stg (w : Fin 9) (t : Fin cfg0.N) := (win0 w).stage (cfg0.slots t w)

set_option maxHeartbeats 4000000 in
/-- The body at any point of the grid takes what the call gives it to what `dats` says it leaves. -/
theorem body_sound (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
    ⊢ wp frame (wpE (defs₀ (F := F)) Variants.none c none) Set.univ (bodyAt0 t) (fun _ =>
      iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))) := by
  unfold bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  by_cases h0 : t.val % 4 = 0
  · rw [acc6_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc6_next m c t h0]
    simp only [found6 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_B c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The whole program's run: it ends, with the call's arrays as `dats` says, the host lines after the call carried
    out on them, and every semaphore at zero. -/
theorem run : θ_run defs (onTc (τ := τ) (main (F := F))) (s₀ m ρ)
    (fun r => Pipeline.FramePost cfgs (dats m) 0 (Pipeline.afterTail₀ cfgs (dats m) 0 (V0 m) [hostOps1, hostOps1_1, hostOps1_2, hostOps1_3, hostOps1_4, hostOps1_5, hostOps1_6, hostOps1_7, hostOps1_8]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl) (howed := fun _ _ => rfl)
    (V₀ := V0 m) (opss := [hostOps1, hostOps1_1, hostOps1_2, hostOps1_3, hostOps1_4, hostOps1_5, hostOps1_6, hostOps1_7, hostOps1_8])
    (hsub := sfx_sub) (hfresh := sfx_fresh) (hkeep := sfx_keeps) (hmain := hmain m Variants.none) (hA := dats_A m) (hΦ := fun _ _ => rfl)

/-- The program terminates, leaves its arguments as they were and all semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.AttnIdeal.Grad
end
-- ==== Proof.AttnTile.lean ====
module
public import proofs.«01_k».proof.Proof.AttnFrame
public import Idealize.ShloMosaic.Lib.Pipeline.ValueKit
public import Idealize.ShloMosaic.Lib.Pointwise
public import Idealize.ShloMosaic.Lib.Claim
public import proofs.«01_k».proof.Proof.Real
@[expose] public section
set_option maxRecDepth 16384

/-! A score block of the attention's gradient, entry by entry over the reals. -/
noncomputable section
open Idealize.ShloMosaic Idealize.ShloMosaic.TcCoe Idealize.SL.Sem
open Idealize.ShloMosaic.Pipeline (Dat)

namespace Cert.AttnIdeal.Grad
open Cert.AttnIdeal Cert.AttnIdeal.Gen Cert.Real

/-- the weights of a score block from its queries, keys and row sums -/
def pF (Q K : Fin 1024 → Fin 128 → ℝ) (s : Fin 1024 → ℝ) (a b : Fin 1024) : ℝ := Real.exp ((∑ l, Q a l * K b l) - s a)
/-- the same on the diagonal, where later keys count for nothing -/
def pD (Q K : Fin 1024 → Fin 128 → ℝ) (s : Fin 1024 → ℝ) (a b : Fin 1024) : ℝ := if b.val ≤ a.val then pF Q K s a b else 0
/-- the gradient of the scores -/
def sB (P : Fin 1024 → Fin 1024 → ℝ) (D V O : Fin 1024 → Fin 128 → ℝ) (a b : Fin 1024) : ℝ :=
  P a b * ((∑ l, D a l * V b l) - ∑ l, D a l * O a l)
/-- the lanes of one head -/
def lane (n : ℕ) (D : Fin 1024 → Fin 128 → ℝ) (a : Fin 1024) (l : Fin 128) : ℝ := if l.val / 64 = n then D a l else 0

theorem mask_val : Named.named (F := Ideal) (φ := .f32) κ "mask" 0xF149F2CA#32 = (⊥ : EReal) :=
  IdealRules.named_const.ideal_named_scalar _ _ _ _ rfl

theorem pick0 : ∀ l : Fin 128, IntOp.xori (IntOp.xori (IntOp.cmpi .slt (BitVec.ofNat 32 l.val) 64#32) 1#1) 1#1 = BitVec.ofBool (decide (l.val / 64 = 0)) := by
  decide +kernel
theorem pick1 : ∀ l : Fin 128, IntOp.xori (IntOp.xori (IntOp.cmpi .slt (BitVec.ofNat 32 l.val) 64#32) 0#1) 1#1 = BitVec.ofBool (decide (l.val / 64 = 1)) := by
  decide +kernel
theorem low (a b : Fin 1024) : IntOp.cmpi .sge (BitVec.ofNat 32 a.val) (BitVec.ofNat 32 b.val) = BitVec.ofBool (decide (b.val ≤ a.val)) := by
  have ha := a.isLt
  have hb := b.isLt
  simp (disch := omega) only [WordCmp.cmpi_sge_ofNat]

section Block
variable {Q K V O D E : Fin 1024 → Fin 128 → ℝ} {S : Fin 1024 → Fin 128 → ℝ} {P G : Fin 1024 → Fin 1024 → ℝ}

theorem L52 {v18 : FVec Ideal S1024x128 .f32} (hv18 : ∀ a l, v18 (ix2 a l) = ((D a l : ℝ) : EReal)) (a l) :
    k0_pay52 (F := Ideal) v18 (ix2 a l) = ((lane 0 D a l : ℝ) : EReal) := by
  pointwise [k0_pay52, k0_pay44]
  rw [pick0, WordCmp.select_ofBool, hv18]
  unfold lane
  by_cases h : l.val / 64 = 0 <;> simp [h]

theorem L61 {v18 : FVec Ideal S1024x128 .f32} (hv18 : ∀ a l, v18 (ix2 a l) = ((D a l : ℝ) : EReal)) (a l) :
    k0_pay61 (F := Ideal) k0_pay44 v18 (ix2 a l) = ((lane 1 D a l : ℝ) : EReal) := by
  pointwise [k0_pay61, k0_pay44]
  rw [pick1, WordCmp.select_ofBool, hv18]
  unfold lane
  by_cases h : l.val / 64 = 1 <;> simp [h]

theorem L6 {v124 : FVec Ideal S1024x128 .f32} (hv124 : ∀ a l, v124 (ix2 a l) = ((D a l : ℝ) : EReal)) (a l) :
    k0_pay6 (F := Ideal) k0_pay44 v124 (ix2 a l) = ((lane 0 D a l : ℝ) : EReal) := by
  pointwise [k0_pay6, k0_pay44]
  rw [pick0, WordCmp.select_ofBool, hv124]
  unfold lane
  by_cases h : l.val / 64 = 0 <;> simp [h]

theorem L16 {v124 : FVec Ideal S1024x128 .f32} (hv124 : ∀ a l, v124 (ix2 a l) = ((D a l : ℝ) : EReal)) (a l) :
    k0_pay16 (F := Ideal) k0_pay44 v124 (ix2 a l) = ((lane 1 D a l : ℝ) : EReal) := by
  pointwise [k0_pay16, k0_pay44]
  rw [pick1, WordCmp.select_ofBool, hv124]
  unfold lane
  by_cases h : l.val / 64 = 1 <;> simp [h]

theorem L54 {v11 v27 : FVec Ideal S1024x128 .bf16} {v24 : FVec Ideal S1024x128 .f32}
    (hv11 : ∀ a l, v11 (ix2 a l) = ((K a l : ℝ) : EReal)) (hv27 : ∀ a l, v27 (ix2 a l) = ((Q a l : ℝ) : EReal)) (hv24 : ∀ a l, v24 (ix2 a l) = ((S a l : ℝ) : EReal)) (a b) :
    k0_pay54 rowI colI v11 v24 v27 (ix2 a b) = ((pD Q K (fun a => S a 0) a b : ℝ) : EReal) := by
  pointwise [k0_pay54]

  simp only [hv11, hv27, hv24, mask_val, low, WordCmp.select_ofBool, ← EReal.coe_mul, sum_coe]
  unfold pD pF
  by_cases h : b.val ≤ a.val
  · simp only [h, decide_true, if_true, ← EReal.coe_sub, Ideal.exp_coe]
  · simp only [h, decide_false, if_false, Bool.false_eq_true]
    rw [EReal.bot_sub]
    rfl

theorem L63 {v13 v67 : FVec Ideal S1024x128 .bf16} {v24 : FVec Ideal S1024x128 .f32}
    (hv13 : ∀ a l, v13 (ix2 a l) = ((K a l : ℝ) : EReal)) (hv67 : ∀ a l, v67 (ix2 a l) = ((Q a l : ℝ) : EReal)) (hv24 : ∀ a l, v24 (ix2 a l) = ((S a l : ℝ) : EReal)) (a b) :
    k0_pay63 rowI colI v13 v24 v67 zeroB (ix2 a b) = ((pD Q K (fun a => S a 64) a b : ℝ) : EReal) := by
  pointwise [k0_pay63]

  simp only [hv13, hv67, hv24, mask_val, low, WordCmp.select_ofBool, ← EReal.coe_mul, sum_coe]
  unfold pD pF
  by_cases h : b.val ≤ a.val
  · simp only [h, decide_true, if_true, ← EReal.coe_sub, Ideal.exp_coe]
  · simp only [h, decide_false, if_false, Bool.false_eq_true]
    rw [EReal.bot_sub]
    rfl

theorem L7 {v11 : FVec Ideal S1024x128 .bf16} {v129 : Vec Ideal S1024x128 .f32} {v132 : Vec Ideal S1x1024x128 .bf16}
    (hv11 : ∀ a l, v11 (ix2 a l) = ((K a l : ℝ) : EReal)) (hv132 : ∀ a l, v132 (ix3 0 a l) = ((Q a l : ℝ) : EReal)) (hv129 : ∀ a l, v129 (ix2 a l) = ((S a l : ℝ) : EReal)) (a b) :
    k0_pay7 v11 v129 v132 (ix2 a b) = ((pF Q K (fun a => S a 0) a b : ℝ) : EReal) := by
  pointwise [k0_pay7, k0_pay5, k0_pay4]

  simp only [hv11, hv132, hv129, ← EReal.coe_mul, sum_coe, ← EReal.coe_sub, Ideal.exp_coe]
  rfl

theorem L17 {v13 : FVec Ideal S1024x128 .bf16} {v130 : FVec Ideal S1024x128 .f32} {v169 : Vec Ideal S1x1024x128 .bf16}
    (hv13 : ∀ a l, v13 (ix2 a l) = ((K a l : ℝ) : EReal)) (hv169 : ∀ a l, v169 (ix3 0 a l) = ((Q a l : ℝ) : EReal)) (hv130 : ∀ a l, v130 (ix2 a l) = ((S a l : ℝ) : EReal)) (a b) :
    k0_pay17 v13 v130 v169 (ix2 a b) = ((pF Q K (fun a => S a 64) a b : ℝ) : EReal) := by
  pointwise [k0_pay17, k0_pay15]

  simp only [hv13, hv169, hv130, ← EReal.coe_mul, sum_coe, ← EReal.coe_sub, Ideal.exp_coe]
  rfl

theorem L56 {v9 v11 v27 : FVec Ideal S1024x128 .bf16} {v24 v33 v34 : FVec Ideal S1024x128 .f32}
    (hp : ∀ a b, k0_pay54 rowI colI v11 v24 v27 (ix2 a b) = ((P a b : ℝ) : EReal)) (hv9 : ∀ a l, v9 (ix2 a l) = ((V a l : ℝ) : EReal)) (hv33 : ∀ a l, v33 (ix2 a l) = ((D a l : ℝ) : EReal)) (hv34 : ∀ a l, v34 (ix2 a l) = ((D a l * O a l : ℝ) : EReal)) (a b) :
    k0_pay56 rowI colI v9 v11 v24 v27 v33 v34 (ix2 a b) = ((sB P D V O a b : ℝ) : EReal) := by
  pointwise [k0_pay56, k0_pay55]
  simp only [hp, hv9, hv33, hv34, ← EReal.coe_mul, sum_coe, ← EReal.coe_sub, ← EReal.coe_add]
  rfl

theorem L57 {v11 v27 : FVec Ideal S1024x128 .bf16} {v14 v24 v33 : FVec Ideal S1024x128 .f32}
    (hp : ∀ a b, k0_pay54 rowI colI v11 v24 v27 (ix2 a b) = ((P a b : ℝ) : EReal)) (hv14 : ∀ a l, v14 (ix2 a l) = ((E a l : ℝ) : EReal)) (hv33 : ∀ a l, v33 (ix2 a l) = ((D a l : ℝ) : EReal)) (b l) :
    k0_pay57 rowI colI v11 v14 v24 v27 v33 (ix2 b l) = ((E b l + ∑ a, P a b * D a l : ℝ) : EReal) := by
  pointwise [k0_pay57, k0_pay55]
  simp only [hp, hv14, hv33, ← EReal.coe_mul, sum_coe, ← EReal.coe_sub, ← EReal.coe_add]

theorem L58 {v9 v11 v27 : FVec Ideal S1024x128 .bf16} {v14 v24 v33 v34 : FVec Ideal S1024x128 .f32}
    (hg : ∀ a b, k0_pay56 rowI colI v9 v11 v24 v27 v33 v34 (ix2 a b) = ((G a b : ℝ) : EReal)) (hv14 : ∀ a l, v14 (ix2 a l) = ((E a l : ℝ) : EReal)) (hv27 : ∀ a l, v27 (ix2 a l) = ((Q a l : ℝ) : EReal)) (b l) :
    k0_pay58 rowI colI v9 v11 v14 v24 v27 v33 v34 (ix2 b l) = ((E b l + ∑ a, G a b * Q a l : ℝ) : EReal) := by
  pointwise [k0_pay58]
  simp only [hg, hv14, hv27, ← EReal.coe_mul, sum_coe, ← EReal.coe_sub, ← EReal.coe_add]

theorem L59 {v9 v11 v27 : FVec Ideal S1024x128 .bf16} {v24 v33 v34 : FVec Ideal S1024x128 .f32} {v57 : Vec Ideal S1x1024x128 .f32}
    (hg : ∀ a b, k0_pay56 rowI colI v9 v11 v24 v27 v33 v34 (ix2 a b) = ((G a b : ℝ) : EReal)) (hv11 : ∀ a l, v11 (ix2 a l) = ((K a l : ℝ) : EReal)) (hv57 : ∀ a l, v57 (ix3 0 a l) = ((E a l : ℝ) : EReal)) (a l) :
    k0_pay59 rowI colI v9 v11 v24 v27 v33 v34 v57 (ix3 0 a l) = ((E a l + ∑ b, G a b * K b l : ℝ) : EReal) := by
  pointwise [k0_pay59]
  simp only [hg, hv11, hv57, ← EReal.coe_mul, sum_coe, ← EReal.coe_sub, ← EReal.coe_add]

theorem L62 {v18 v21 : FVec Ideal S1024x128 .f32}
    (hd : ∀ a l, k0_pay61 (F := Ideal) k0_pay44 v18 (ix2 a l) = ((D a l : ℝ) : EReal)) (hv21 : ∀ a l, v21 (ix2 a l) = ((O a l : ℝ) : EReal)) (a) :
    k0_pay62 k0_pay44 v18 v21 (ix2 a 0) = ((∑ l, D a l * O a l : ℝ) : EReal) := by
  pointwise [k0_pay62]
  simp only [hd, hv21, ← EReal.coe_mul, sum_coe, ← EReal.coe_sub, ← EReal.coe_add]

theorem L65 {v9 v13 v67 : FVec Ideal S1024x128 .bf16} {v24 v73 : FVec Ideal S1024x128 .f32} {v76 : FVec Ideal S1024x1 .f32}
    (hp : ∀ a b, k0_pay63 rowI colI v13 v24 v67 zeroB (ix2 a b) = ((P a b : ℝ) : EReal)) (hv9 : ∀ a l, v9 (ix2 a l) = ((V a l : ℝ) : EReal)) (hv73 : ∀ a l, v73 (ix2 a l) = ((D a l : ℝ) : EReal)) (hv76 : ∀ a, v76 (ix2 a 0) = ((∑ l, D a l * O a l : ℝ) : EReal)) (a b) :
    k0_pay65 rowI colI v9 v13 v24 v67 v73 v76 zeroB (ix2 a b) = ((sB P D V O a b : ℝ) : EReal) := by
  pointwise [k0_pay65, k0_pay64]
  simp only [hp, hv9, hv73, hv76, ← EReal.coe_mul, sum_coe, ← EReal.coe_sub, ← EReal.coe_add]
  rfl

theorem L66 {v13 v67 : FVec Ideal S1024x128 .bf16} {v24 v53 v73 : FVec Ideal S1024x128 .f32}
    (hp : ∀ a b, k0_pay63 rowI colI v13 v24 v67 zeroB (ix2 a b) = ((P a b : ℝ) : EReal)) (hv53 : ∀ a l, v53 (ix2 a l) = ((E a l : ℝ) : EReal)) (hv73 : ∀ a l, v73 (ix2 a l) = ((D a l : ℝ) : EReal)) (b l) :
    k0_pay66 rowI colI v13 v24 v53 v67 v73 zeroB (ix2 b l) = ((E b l + ∑ a, P a b * D a l : ℝ) : EReal) := by
  pointwise [k0_pay66, k0_pay64]
  simp only [hp, hv53, hv73, ← EReal.coe_mul, sum_coe, ← EReal.coe_sub, ← EReal.coe_add]

theorem L67 {v9 v13 v67 : FVec Ideal S1024x128 .bf16} {v14 v24 v73 : FVec Ideal S1024x128 .f32} {v76 : FVec Ideal S1024x1 .f32}
    (hg : ∀ a b, k0_pay65 rowI colI v9 v13 v24 v67 v73 v76 zeroB (ix2 a b) = ((G a b : ℝ) : EReal)) (hv14 : ∀ a l, v14 (ix2 a l) = ((E a l : ℝ) : EReal)) (hv67 : ∀ a l, v67 (ix2 a l) = ((Q a l : ℝ) : EReal)) (b l) :
    k0_pay67 rowI colI v9 v13 v14 v24 v67 v73 v76 zeroB (ix2 b l) = ((E b l + ∑ a, G a b * Q a l : ℝ) : EReal) := by
  pointwise [k0_pay67]
  simp only [hg, hv14, hv67, ← EReal.coe_mul, sum_coe, ← EReal.coe_sub, ← EReal.coe_add]

theorem L68 {v9 v13 v67 : FVec Ideal S1024x128 .bf16} {v24 v73 : FVec Ideal S1024x128 .f32} {v76 : FVec Ideal S1024x1 .f32} {v97 : Vec Ideal S1x1024x128 .f32}
    (hg : ∀ a b, k0_pay65 rowI colI v9 v13 v24 v67 v73 v76 zeroB (ix2 a b) = ((G a b : ℝ) : EReal)) (hv13 : ∀ a l, v13 (ix2 a l) = ((K a l : ℝ) : EReal)) (hv97 : ∀ a l, v97 (ix3 0 a l) = ((E a l : ℝ) : EReal)) (a l) :
    k0_pay68 rowI colI v9 v13 v24 v67 v73 v76 zeroB v97 (ix3 0 a l) = ((E a l + ∑ b, G a b * K b l : ℝ) : EReal) := by
  pointwise [k0_pay68]
  simp only [hg, hv13, hv97, ← EReal.coe_mul, sum_coe, ← EReal.coe_sub, ← EReal.coe_add]

theorem L9 {v9 v11 : FVec Ideal S1024x128 .bf16} {v124 v126 v129 : Vec Ideal S1024x128 .f32} {v132 : Vec Ideal S1x1024x128 .bf16}
    (hp : ∀ a b, k0_pay7 v11 v129 v132 (ix2 a b) = ((P a b : ℝ) : EReal)) (hd : ∀ a l, k0_pay6 (F := Ideal) k0_pay44 v124 (ix2 a l) = ((D a l : ℝ) : EReal)) (hv9 : ∀ a l, v9 (ix2 a l) = ((V a l : ℝ) : EReal)) (hv126 : ∀ a l, v126 (ix2 a l) = ((O a l : ℝ) : EReal)) (a b) :
    k0_pay9 k0_pay44 v9 v11 v124 v126 v129 v132 (ix2 a b) = ((sB P D V O a b : ℝ) : EReal) := by
  pointwise [k0_pay9, k0_pay8, k0_pay3]
  simp only [hp, hd, hv9, hv126, ← EReal.coe_mul, sum_coe, ← EReal.coe_sub, ← EReal.coe_add]
  rfl

theorem L10 {v11 : FVec Ideal S1024x128 .bf16} {arg v124 v129 : Vec Ideal S1024x128 .f32} {v132 : Vec Ideal S1x1024x128 .bf16}
    (hp : ∀ a b, k0_pay7 v11 v129 v132 (ix2 a b) = ((P a b : ℝ) : EReal)) (hd : ∀ a l, k0_pay6 (F := Ideal) k0_pay44 v124 (ix2 a l) = ((D a l : ℝ) : EReal)) (harg : ∀ a l, arg (ix2 a l) = ((E a l : ℝ) : EReal)) (b l) :
    k0_pay10 k0_pay44 v11 arg v124 v129 v132 (ix2 b l) = ((E b l + ∑ a, P a b * D a l : ℝ) : EReal) := by
  pointwise [k0_pay10, k0_pay8]
  simp only [hp, hd, harg, ← EReal.coe_mul, sum_coe, ← EReal.coe_sub, ← EReal.coe_add]

theorem L11 {v9 v11 : FVec Ideal S1024x128 .bf16} {arg v124 v126 v129 : Vec Ideal S1024x128 .f32} {v132 : Vec Ideal S1x1024x128 .bf16}
    (hg : ∀ a b, k0_pay9 k0_pay44 v9 v11 v124 v126 v129 v132 (ix2 a b) = ((G a b : ℝ) : EReal)) (hv132 : ∀ a l, v132 (ix3 0 a l) = ((Q a l : ℝ) : EReal)) (harg : ∀ a l, arg (ix2 a l) = ((E a l : ℝ) : EReal)) (b l) :
    k0_pay11 k0_pay44 v9 v11 arg v124 v126 v129 v132 (ix2 b l) = ((E b l + ∑ a, G a b * Q a l : ℝ) : EReal) := by
  pointwise [k0_pay11, k0_pay5]
  simp only [hg, hv132, harg, ← EReal.coe_mul, sum_coe, ← EReal.coe_sub, ← EReal.coe_add]

theorem L14 {v9 v11 : FVec Ideal S1024x128 .bf16} {v124 v126 v129 : Vec Ideal S1024x128 .f32} {v132 : Vec Ideal S1x1024x128 .bf16} {v160 : Vec Ideal S1x1024x128 .f32}
    (hg : ∀ a b, k0_pay9 k0_pay44 v9 v11 v124 v126 v129 v132 (ix2 a b) = ((G a b : ℝ) : EReal)) (hv11 : ∀ a l, v11 (ix2 a l) = ((K a l : ℝ) : EReal)) (hv160 : ∀ a l, v160 (ix3 0 a l) = ((E a l : ℝ) : EReal)) (a l) :
    k0_pay14 (k0_pay12 v160) (k0_pay13 k0_pay44 v9 v11 v124 v126 v129 v132) (ix3 0 a l) = ((E a l + ∑ b, G a b * K b l : ℝ) : EReal) := by
  pointwise [k0_pay14, k0_pay12, k0_pay13]
  simp only [hg, hv11, hv160, ← EReal.coe_mul, sum_coe, ← EReal.coe_sub, ← EReal.coe_add]

theorem L19 {v9 v13 : FVec Ideal S1024x128 .bf16} {v124 v127 v130 : FVec Ideal S1024x128 .f32} {v169 : Vec Ideal S1x1024x128 .bf16}
    (hp : ∀ a b, k0_pay17 v13 v130 v169 (ix2 a b) = ((P a b : ℝ) : EReal)) (hd : ∀ a l, k0_pay16 (F := Ideal) k0_pay44 v124 (ix2 a l) = ((D a l : ℝ) : EReal)) (hv9 : ∀ a l, v9 (ix2 a l) = ((V a l : ℝ) : EReal)) (hv127 : ∀ a l, v127 (ix2 a l) = ((O a l : ℝ) : EReal)) (a b) :
    k0_pay19 k0_pay44 v9 v13 v124 v127 v130 v169 (ix2 a b) = ((sB P D V O a b : ℝ) : EReal) := by
  pointwise [k0_pay19, k0_pay18]
  simp only [hp, hd, hv9, hv127, ← EReal.coe_mul, sum_coe, ← EReal.coe_sub, ← EReal.coe_add]
  rfl

theorem L20 {v13 : FVec Ideal S1024x128 .bf16} {arg v124 v130 : FVec Ideal S1024x128 .f32} {v169 : Vec Ideal S1x1024x128 .bf16}
    (hp : ∀ a b, k0_pay17 v13 v130 v169 (ix2 a b) = ((P a b : ℝ) : EReal)) (hd : ∀ a l, k0_pay16 (F := Ideal) k0_pay44 v124 (ix2 a l) = ((D a l : ℝ) : EReal)) (harg : ∀ a l, arg (ix2 a l) = ((E a l : ℝ) : EReal)) (b l) :
    k0_pay20 k0_pay44 v13 v124 v130 arg v169 (ix2 b l) = ((E b l + ∑ a, P a b * D a l : ℝ) : EReal) := by
  pointwise [k0_pay20, k0_pay18]
  simp only [hp, hd, harg, ← EReal.coe_mul, sum_coe, ← EReal.coe_sub, ← EReal.coe_add]

theorem L21 {v9 v13 : FVec Ideal S1024x128 .bf16} {arg v124 v127 v130 : FVec Ideal S1024x128 .f32} {v169 : Vec Ideal S1x1024x128 .bf16}
    (hg : ∀ a b, k0_pay19 k0_pay44 v9 v13 v124 v127 v130 v169 (ix2 a b) = ((G a b : ℝ) : EReal)) (hv169 : ∀ a l, v169 (ix3 0 a l) = ((Q a l : ℝ) : EReal)) (harg : ∀ a l, arg (ix2 a l) = ((E a l : ℝ) : EReal)) (b l) :
    k0_pay21 k0_pay44 v9 v13 arg v124 v127 v130 v169 (ix2 b l) = ((E b l + ∑ a, G a b * Q a l : ℝ) : EReal) := by
  pointwise [k0_pay21, k0_pay15]
  simp only [hg, hv169, harg, ← EReal.coe_mul, sum_coe, ← EReal.coe_sub, ← EReal.coe_add]

theorem L22 {v9 v13 : FVec Ideal S1024x128 .bf16} {v124 v127 v130 : FVec Ideal S1024x128 .f32} {v169 : Vec Ideal S1x1024x128 .bf16} {v197 : Vec Ideal S1x1024x128 .f32}
    (hg : ∀ a b, k0_pay19 k0_pay44 v9 v13 v124 v127 v130 v169 (ix2 a b) = ((G a b : ℝ) : EReal)) (hv13 : ∀ a l, v13 (ix2 a l) = ((K a l : ℝ) : EReal)) (hv197 : ∀ a l, v197 (ix3 0 a l) = ((E a l : ℝ) : EReal)) (a l) :
    k0_pay22 k0_pay44 v9 v13 v124 v127 v130 v169 v197 (ix3 0 a l) = ((E a l + ∑ b, G a b * K b l : ℝ) : EReal) := by
  pointwise [k0_pay22]
  simp only [hg, hv13, hv197, ← EReal.coe_mul, sum_coe, ← EReal.coe_sub, ← EReal.coe_add]

end Block
end Cert.AttnIdeal.Grad
-- ==== Proof.AttnPoint.lean ====
module
public import proofs.«01_k».proof.Proof.AttnTile
public import Idealize.ShloMosaic.Lib.Pipeline.ValueKit
public import Idealize.ShloMosaic.Lib.Pointwise
public import Idealize.ShloMosaic.Lib.Claim
public import proofs.«01_k».proof.Proof.Real
@[expose] public section
set_option maxRecDepth 16384

/-! What a grid point of the attention's gradient computes, over the reals. -/
noncomputable section
open Idealize.ShloMosaic Idealize.ShloMosaic.TcCoe Idealize.SL.Sem
open Idealize.ShloMosaic.Pipeline (Dat)

namespace Cert.AttnIdeal.Grad
open Cert.AttnIdeal Cert.AttnIdeal.Gen Cert.Real

/-- row `a` of block `r` -/
def rowAt (r : Fin 4) (a : Fin 1024) : Fin 4096 := ⟨r.val * 1024 + a.val, by omega⟩
/-- the lane at which a head's row sums are read -/
def laneAt (h : Fin 2) : Fin 128 := ⟨h.val * 64, by omega⟩

/-- what a pair of heads works on, as arrays of reals -/
structure Pair where
  qa : Fin 2 → Fin 4096 → Fin 128 → ℝ
  ka : Fin 2 → Fin 4096 → Fin 128 → ℝ
  v : Fin 4096 → Fin 128 → ℝ
  o : Fin 4096 → Fin 128 → ℝ
  s : Fin 4096 → Fin 128 → ℝ
  d : Fin 4096 → Fin 128 → ℝ

/-- the weight of key `b` for query `i` -/
def Pair.W (g : Pair) (h : Fin 2) (i b : Fin 4096) : ℝ :=
  if b.val ≤ i.val then Real.exp ((∑ l, g.qa h i l * g.ka h b l) - g.s i (laneAt h)) else 0
/-- a head's lanes of the output's gradient -/
def Pair.dm (g : Pair) (h : Fin 2) (i : Fin 4096) (l : Fin 128) : ℝ := if l.val / 64 = h.val then g.d i l else 0
/-- the gradient of a score -/
def Pair.ds (g : Pair) (h : Fin 2) (i b : Fin 4096) : ℝ :=
  g.W h i b * ((∑ l, g.dm h i l * g.v b l) - ∑ l, g.dm h i l * g.o i l)
/-- a block's part of the keys' gradient -/
def Pair.kB (g : Pair) (h : Fin 2) (j r : Fin 4) (b : Fin 1024) (l : Fin 128) : ℝ :=
  ∑ a, g.ds h (rowAt r a) (rowAt j b) * g.qa h (rowAt r a) l
/-- a block's part of the values' gradient -/
def Pair.vB (g : Pair) (j r : Fin 4) (b : Fin 1024) (l : Fin 128) : ℝ :=
  (∑ a, g.W 0 (rowAt r a) (rowAt j b) * g.dm 0 (rowAt r a) l) + ∑ a, g.W 1 (rowAt r a) (rowAt j b) * g.dm 1 (rowAt r a) l
/-- a block's part of the queries' gradient -/
def Pair.qB (g : Pair) (h : Fin 2) (j : Fin 4) (i : Fin 4096) (l : Fin 128) : ℝ :=
  ∑ b, g.ds h i (rowAt j b) * g.ka h (rowAt j b) l

/-- the blocks a grid point reads hold a pair's arrays -/
structure Holds (g : Pair) (j : Fin 4) (w0 : Vec Ideal S2x4096x128 .bf16) (w1 : Vec Ideal S2x1024x128 .bf16) (w2 : Vec Ideal S1024x128 .bf16) (w3 w4 w5 : Vec Ideal S4096x128 .f32) : Prop where
  e0 : ∀ h i l, w0 (ix3 h i l) = ((g.qa h i l : ℝ) : EReal)
  e1 : ∀ h a l, w1 (ix3 h a l) = ((g.ka h (rowAt j a) l : ℝ) : EReal)
  e2 : ∀ a l, w2 (ix2 a l) = ((g.v (rowAt j a) l : ℝ) : EReal)
  e3 : ∀ i l, w3 (ix2 i l) = ((g.o i l : ℝ) : EReal)
  e4 : ∀ i l, w4 (ix2 i l) = ((g.s i l : ℝ) : EReal)
  e5 : ∀ i l, w5 (ix2 i l) = ((g.d i l : ℝ) : EReal)

variable {g : Pair} {j : Fin 4} {w0 : Vec Ideal S2x4096x128 .bf16} {w1 : Vec Ideal S2x1024x128 .bf16} {w2 : Vec Ideal S1024x128 .bf16} {w3 w4 w5 : Vec Ideal S4096x128 .f32}

theorem diag_W (h : Fin 2) (s : Fin 128) (hs : laneAt h = s) (a b : Fin 1024) :
    pD (fun a l => g.qa h (rowAt j a) l) (fun b l => g.ka h (rowAt j b) l) (fun a => g.s (rowAt j a) s) a b = g.W h (rowAt j a) (rowAt j b) := by
  subst hs
  unfold pD pF Pair.W
  have e : ((rowAt j b).val ≤ (rowAt j a).val) = (b.val ≤ a.val) := propext (by show j.val * 1024 + b.val ≤ j.val * 1024 + a.val ↔ _; omega)
  simp only [e]
theorem later_W (h : Fin 2) (s : Fin 128) (hs : laneAt h = s) (r : Fin 4) (hr : j.val < r.val) (a b : Fin 1024) :
    pF (fun a l => g.qa h (rowAt r a) l) (fun b l => g.ka h (rowAt j b) l) (fun a => g.s (rowAt r a) s) a b = g.W h (rowAt r a) (rowAt j b) := by
  subst hs
  unfold pF Pair.W
  exact (if_pos (show j.val * 1024 + b.val ≤ r.val * 1024 + a.val by have := b.isLt; omega)).symm

section Parts
variable (H : Holds g j w0 w1 w2 w3 w4 w5)
include H

theorem f45 (a l) : k0_pay45 w2 (ix2 a l) = ((g.v (rowAt j a) l : ℝ) : EReal) := by
  pointwise [k0_pay45]
  exact H.e2 a l
theorem f46 (a l) : k0_pay46 (headOf w1 0) (ix2 a l) = ((g.ka 0 (rowAt j a) l : ℝ) : EReal) := by
  pointwise [k0_pay46]
  exact H.e1 0 a l
theorem f47 (a l) : k0_pay47 (headOf w1 1) (ix2 a l) = ((g.ka 1 (rowAt j a) l : ℝ) : EReal) := by
  pointwise [k0_pay47]
  exact H.e1 1 a l
theorem f0 (h r a l) : blk3 w0 h r (ix3 0 a l) = ((g.qa h (rowAt r a) l : ℝ) : EReal) := H.e0 h (rowAt r a) l
theorem f3 (r a l) : blk2 w3 r (ix2 a l) = ((g.o (rowAt r a) l : ℝ) : EReal) := H.e3 (rowAt r a) l
theorem f4 (r a l) : blk2 w4 r (ix2 a l) = ((g.s (rowAt r a) l : ℝ) : EReal) := H.e4 (rowAt r a) l
theorem f5 (r a l) : blk2 w5 r (ix2 a l) = ((g.d (rowAt r a) l : ℝ) : EReal) := H.e5 (rowAt r a) l
theorem f49 (r a l) : k0_pay49 (blk2 w3 r) (ix2 a l) = ((g.o (rowAt r a) l : ℝ) : EReal) := by
  pointwise [k0_pay49]
  exact f3 H r a l
theorem f50 (r a l) : k0_pay50 (blk2 w4 r) (ix2 a l) = ((g.s (rowAt r a) l : ℝ) : EReal) := by
  pointwise [k0_pay50]
  exact f4 H r a l
theorem f3c (r a l) : k0_pay3 (blk2 w3 r) (ix2 a l) = ((g.o (rowAt r a) l : ℝ) : EReal) := by
  pointwise [k0_pay3]
  exact f3 H r a l
theorem f4c (r a l) : k0_pay4 (blk2 w4 r) (ix2 a l) = ((g.s (rowAt r a) l : ℝ) : EReal) := by
  pointwise [k0_pay4]
  exact f4 H r a l
theorem f51 (r a l) : k0_pay51 (blk3 w0 0 r) (ix2 a l) = ((g.qa 0 (rowAt r a) l : ℝ) : EReal) := by
  pointwise [k0_pay51]
  exact f0 H 0 r a l
theorem f60 (r a l) : k0_pay60 (blk3 w0 1 r) (ix2 a l) = ((g.qa 1 (rowAt r a) l : ℝ) : EReal) := by
  pointwise [k0_pay60]
  exact f0 H 1 r a l
theorem f52 (r a l) : k0_pay52 (F := Ideal) (blk2 w5 r) (ix2 a l) = ((g.dm 0 (rowAt r a) l : ℝ) : EReal) := L52 (f5 H r) a l
theorem f53 (r a l) : k0_pay53 (F := Ideal) (blk2 w5 r) (blk2 w3 r) (ix2 a l) = ((g.dm 0 (rowAt r a) l * g.o (rowAt r a) l : ℝ) : EReal) := by
  pointwise [k0_pay53]
  simp only [f52 H, f49 H, ← EReal.coe_mul]
theorem f61 (r a l) : k0_pay61 (F := Ideal) k0_pay44 (blk2 w5 r) (ix2 a l) = ((g.dm 1 (rowAt r a) l : ℝ) : EReal) := L61 (f5 H r) a l
theorem f6 (r a l) : k0_pay6 (F := Ideal) k0_pay44 (blk2 w5 r) (ix2 a l) = ((g.dm 0 (rowAt r a) l : ℝ) : EReal) := L6 (f5 H r) a l
theorem f16 (r a l) : k0_pay16 (F := Ideal) k0_pay44 (blk2 w5 r) (ix2 a l) = ((g.dm 1 (rowAt r a) l : ℝ) : EReal) := L16 (f5 H r) a l
theorem f62 (r a) : k0_pay62 (F := Ideal) k0_pay44 (blk2 w5 r) (k0_pay49 (blk2 w3 r)) (ix2 a 0) = ((∑ l, g.dm 1 (rowAt r a) l * g.o (rowAt r a) l : ℝ) : EReal) :=
  L62 (f61 H r) (f49 H r) a
omit H in
theorem f48 (a l) : k0_pay48 (F := Ideal) (ix2 a l) = (((0 : ℝ)) : EReal) := by
  pointwise! [k0_pay48]

/-! the diagonal block -/
theorem w54 (a b) : k0_pay54 rowI colI (k0_pay46 (headOf w1 0)) (k0_pay50 (blk2 w4 j)) (k0_pay51 (blk3 w0 0 j)) (ix2 a b) = ((g.W 0 (rowAt j a) (rowAt j b) : ℝ) : EReal) :=
  (L54 (f46 H) (f51 H j) (f50 H j) a b).trans (congrArg _ (diag_W 0 0 rfl a b))
theorem w63 (a b) : k0_pay63 rowI colI (k0_pay47 (headOf w1 1)) (k0_pay50 (blk2 w4 j)) (k0_pay60 (blk3 w0 1 j)) zeroB (ix2 a b) = ((g.W 1 (rowAt j a) (rowAt j b) : ℝ) : EReal) :=
  (L63 (f47 H) (f60 H j) (f50 H j) a b).trans (congrArg _ (diag_W 1 64 rfl a b))
theorem g56 (a b) : k0_pay56 rowI colI (k0_pay45 w2) (k0_pay46 (headOf w1 0)) (k0_pay50 (blk2 w4 j)) (k0_pay51 (blk3 w0 0 j)) (k0_pay52 (blk2 w5 j)) (k0_pay53 (blk2 w5 j) (blk2 w3 j)) (ix2 a b)
    = ((g.ds 0 (rowAt j a) (rowAt j b) : ℝ) : EReal) := L56 (w54 H) (f45 H) (f52 H j) (f53 H j) a b
theorem g65 (a b) : k0_pay65 rowI colI (k0_pay45 w2) (k0_pay47 (headOf w1 1)) (k0_pay50 (blk2 w4 j)) (k0_pay60 (blk3 w0 1 j)) (k0_pay61 k0_pay44 (blk2 w5 j)) (k0_pay62 k0_pay44 (blk2 w5 j) (k0_pay49 (blk2 w3 j))) zeroB (ix2 a b)
    = ((g.ds 1 (rowAt j a) (rowAt j b) : ℝ) : EReal) := L65 (w63 H) (f45 H) (f61 H j) (f62 H j) a b

/-! a later block -/
variable {r : Fin 4} (hr : j.val < r.val)
include hr
theorem w7 (a b) : k0_pay7 (k0_pay46 (headOf w1 0)) (blk2 w4 r) (blk3 w0 0 r) (ix2 a b) = ((g.W 0 (rowAt r a) (rowAt j b) : ℝ) : EReal) :=
  (L7 (f46 H) (f0 H 0 r) (f4 H r) a b).trans (congrArg _ (later_W 0 0 rfl r hr a b))
theorem w17 (a b) : k0_pay17 (k0_pay47 (headOf w1 1)) (k0_pay4 (blk2 w4 r)) (blk3 w0 1 r) (ix2 a b) = ((g.W 1 (rowAt r a) (rowAt j b) : ℝ) : EReal) :=
  (L17 (f47 H) (f0 H 1 r) (f4c H r) a b).trans (congrArg _ (later_W 1 64 rfl r hr a b))
theorem g9 (a b) : k0_pay9 k0_pay44 (k0_pay45 w2) (k0_pay46 (headOf w1 0)) (blk2 w5 r) (blk2 w3 r) (blk2 w4 r) (blk3 w0 0 r) (ix2 a b)
    = ((g.ds 0 (rowAt r a) (rowAt j b) : ℝ) : EReal) := L9 (w7 H hr) (f6 H r) (f45 H) (f3 H r) a b
theorem g19 (a b) : k0_pay19 k0_pay44 (k0_pay45 w2) (k0_pay47 (headOf w1 1)) (blk2 w5 r) (k0_pay3 (blk2 w3 r)) (k0_pay4 (blk2 w4 r)) (blk3 w0 1 r) (ix2 a b)
    = ((g.ds 1 (rowAt r a) (rowAt j b) : ℝ) : EReal) := L19 (w17 H hr) (f16 H r) (f45 H) (f3c H r) a b

theorem step_acc {a : Acc Ideal} {E0 E1 E2 : Fin 1024 → Fin 128 → ℝ} (h0 : ∀ b l, a.1 (ix2 b l) = ((E0 b l : ℝ) : EReal))
    (h1 : ∀ b l, a.2.1 (ix2 b l) = ((E1 b l : ℝ) : EReal)) (h2 : ∀ b l, a.2.2 (ix2 b l) = ((E2 b l : ℝ) : EReal)) (b l) :
    (accS w0 w3 w4 w5 (k0_pay45 w2) (k0_pay46 (headOf w1 0)) (k0_pay47 (headOf w1 1)) r a).1 (ix2 b l) = ((E0 b l + g.kB 0 j r b l : ℝ) : EReal)
    ∧ (accS w0 w3 w4 w5 (k0_pay45 w2) (k0_pay46 (headOf w1 0)) (k0_pay47 (headOf w1 1)) r a).2.1 (ix2 b l) = ((E1 b l + g.kB 1 j r b l : ℝ) : EReal)
    ∧ (accS w0 w3 w4 w5 (k0_pay45 w2) (k0_pay46 (headOf w1 0)) (k0_pay47 (headOf w1 1)) r a).2.2 (ix2 b l) = ((E2 b l + g.vB j r b l : ℝ) : EReal) :=
  ⟨L11 (g9 H hr) (f0 H 0 r) h0 b l, L21 (g19 H hr) (f0 H 1 r) h1 b l,
    (L20 (w17 H hr) (f16 H r) (L10 (w7 H hr) (f6 H r) h2) b l).trans (congrArg _ (add_assoc _ _ _))⟩
end Parts

/-- an entry of a pair of blocks after a write of a block of one head -/
theorem put3_at {e : EltTy} (x : Vec Ideal S2x4096x128 e) (h : Fin 2) (r : Fin 4) (w : Vec Ideal S1x1024x128 e) (h' : Fin 2) (i : Fin 4096) (l : Fin 128) :
    put3 x h r w (ix3 h' i l) = if h'.val = h.val ∧ i.val / 1024 = r.val then w (ix3 0 ⟨i.val % 1024, Nat.mod_lt _ (by norm_num)⟩ l) else x (ix3 h' i l) := rfl
theorem rowAt_of {r : Fin 4} {i : Fin 4096} (h : i.val / 1024 = r.val) : rowAt r ⟨i.val % 1024, Nat.mod_lt _ (by norm_num)⟩ = i :=
  Fin.ext (by show r.val * 1024 + i.val % 1024 = i.val; omega)

/-- both heads' blocks written, each the earlier contents and a part -/
theorem both (D : Vec Ideal S2x4096x128 .f32) {d : Fin 2 → Fin 4096 → Fin 128 → ℝ} {U : Fin 2 → Fin 4096 → Fin 128 → ℝ} (r : Fin 4) (u0 u1 : Vec Ideal S1x1024x128 .f32)
    (hD : ∀ h i l, D (ix3 h i l) = ((d h i l : ℝ) : EReal))
    (h0 : ∀ a l, u0 (ix3 0 a l) = ((d 0 (rowAt r a) l + U 0 (rowAt r a) l : ℝ) : EReal))
    (h1 : ∀ a l, u1 (ix3 0 a l) = ((d 1 (rowAt r a) l + U 1 (rowAt r a) l : ℝ) : EReal)) (h i l) :
    put3 (put3 D 0 r u0) 1 r u1 (ix3 h i l) = ((d h i l + (if i.val / 1024 = r.val then U h i l else 0) : ℝ) : EReal) := by
  rw [put3_at, put3_at]
  by_cases hi : i.val / 1024 = r.val
  · rw [h0, h1, rowAt_of hi, if_pos hi]
    fin_cases h
    · rw [if_neg (by simp), if_pos ⟨rfl, hi⟩]; rfl
    · rw [if_pos ⟨rfl, hi⟩]; rfl
  · rw [if_neg (fun c => hi c.2), if_neg (fun c => hi c.2), if_neg hi, add_zero, hD]

section Parts2
variable (H : Holds g j w0 w1 w2 w3 w4 w5)
include H
theorem f160 {D : Vec Ideal S2x4096x128 .f32} {d : Fin 2 → Fin 4096 → Fin 128 → ℝ} (hD : ∀ h i l, D (ix3 h i l) = ((d h i l : ℝ) : EReal)) (h r a l) :
    blk3 D h r (ix3 0 a l) = ((d h (rowAt r a) l : ℝ) : EReal) := hD h (rowAt r a) l

theorem step_dq {r : Fin 4} (hr : j.val < r.val) {D : Vec Ideal S2x4096x128 .f32} {d : Fin 2 → Fin 4096 → Fin 128 → ℝ}
    (hD : ∀ h i l, D (ix3 h i l) = ((d h i l : ℝ) : EReal)) (h i l) :
    dqS w0 w3 w4 w5 (k0_pay45 w2) (k0_pay46 (headOf w1 0)) (k0_pay47 (headOf w1 1)) r D (ix3 h i l)
      = ((d h i l + (if i.val / 1024 = r.val then g.qB h j i l else 0) : ℝ) : EReal) :=
  both D (U := fun h i l => g.qB h j i l) r _ _ hD (L14 (g9 H hr) (f46 H) (f160 H hD 0 r)) (L22 (g19 H hr) (f47 H) (f160 H hD 1 r)) h i l

theorem first_dq {i : grid0.Coords} (hi : row0 i = j) {D : Vec Ideal S2x4096x128 .f32} {d : Fin 2 → Fin 4096 → Fin 128 → ℝ}
    (hD : ∀ h i l, D (ix3 h i l) = ((d h i l : ℝ) : EReal)) (h x l) :
    dq0 i w0 w1 w2 w3 w4 w5 D (ix3 h x l) = ((d h x l + (if x.val / 1024 = j.val then g.qB h j x l else 0) : ℝ) : EReal) := by
  unfold dq0
  rw [hi]
  exact both D (U := fun h i l => g.qB h j i l) j _ _ hD (L59 (g56 H) (f46 H) (f160 H hD 0 j))
    (L68 (g65 H) (f47 H) (f160 H hD 1 j)) h x l

theorem first_acc {i : grid0.Coords} (hi : row0 i = j) (b l) :
    (acc0 i w0 w1 w2 w3 w4 w5).1 (ix2 b l) = ((g.kB 0 j j b l : ℝ) : EReal)
    ∧ (acc0 i w0 w1 w2 w3 w4 w5).2.1 (ix2 b l) = ((g.kB 1 j j b l : ℝ) : EReal)
    ∧ (acc0 i w0 w1 w2 w3 w4 w5).2.2 (ix2 b l) = ((g.vB j j b l : ℝ) : EReal) := by
  unfold acc0
  rw [hi]
  refine ⟨(L58 (E := fun _ _ => 0) (g56 H) f48 (f51 H j) b l).trans (congrArg _ (zero_add _)),
    (L67 (E := fun _ _ => 0) (g65 H) f48 (f60 H j) b l).trans (congrArg _ (zero_add _)),
    (L66 (w63 H) (fun b l => L57 (E := fun _ _ => 0) (w54 H) f48 (f52 H j) b l) (f61 H j) b l).trans (congrArg _ ?_)⟩
  rw [zero_add]
  rfl

theorem accN_val {i : grid0.Coords} (hi : row0 i = j) (n : ℕ) (hn : n + j.val ≤ 3) (b l) :
    (accN i w0 w3 w4 w5 (k0_pay45 w2) (k0_pay46 (headOf w1 0)) (k0_pay47 (headOf w1 1)) (acc0 i w0 w1 w2 w3 w4 w5) n).1 (ix2 b l) = ((g.kB 0 j j b l + ∑ x ∈ Finset.range n, g.kB 0 j (row1 i x) b l : ℝ) : EReal)
    ∧ (accN i w0 w3 w4 w5 (k0_pay45 w2) (k0_pay46 (headOf w1 0)) (k0_pay47 (headOf w1 1)) (acc0 i w0 w1 w2 w3 w4 w5) n).2.1 (ix2 b l) = ((g.kB 1 j j b l + ∑ x ∈ Finset.range n, g.kB 1 j (row1 i x) b l : ℝ) : EReal)
    ∧ (accN i w0 w3 w4 w5 (k0_pay45 w2) (k0_pay46 (headOf w1 0)) (k0_pay47 (headOf w1 1)) (acc0 i w0 w1 w2 w3 w4 w5) n).2.2 (ix2 b l) = ((g.vB j j b l + ∑ x ∈ Finset.range n, g.vB j (row1 i x) b l : ℝ) : EReal) := by
  induction n generalizing b l with
  | zero =>
    rw [Finset.range_zero, Finset.sum_empty, Finset.sum_empty, Finset.sum_empty, add_zero, add_zero, add_zero]
    exact first_acc H hi b l
  | succ n ih =>
    have e : (i 1).val = j.val := congrArg Fin.val hi
    have hr : j.val < (row1 i n).val := by
      show j.val < ((i 1).val + 1 + n) % 4
      omega
    have ih := ih (by omega)
    obtain ⟨s0, s1, s2⟩ := step_acc H hr (fun b l => (ih b l).1) (fun b l => (ih b l).2.1) (fun b l => (ih b l).2.2) b l
    simp only [Finset.sum_range_succ, ← add_assoc]
    exact ⟨s0, s1, s2⟩

theorem dqN_val {i : grid0.Coords} (hi : row0 i = j) {D : Vec Ideal S2x4096x128 .f32} {d : Fin 2 → Fin 4096 → Fin 128 → ℝ}
    (hD : ∀ h i l, D (ix3 h i l) = ((d h i l : ℝ) : EReal)) (n : ℕ) (hn : n + j.val ≤ 3) (h x l) :
    dqN i w0 w3 w4 w5 (k0_pay45 w2) (k0_pay46 (headOf w1 0)) (k0_pay47 (headOf w1 1)) (dq0 i w0 w1 w2 w3 w4 w5 D) n (ix3 h x l)
      = ((d h x l + (if j.val ≤ x.val / 1024 ∧ x.val / 1024 ≤ j.val + n then g.qB h j x l else 0) : ℝ) : EReal) := by
  induction n generalizing h x l with
  | zero =>
    refine (first_dq H hi hD h x l).trans ?_
    have e : (j.val ≤ x.val / 1024 ∧ x.val / 1024 ≤ j.val + 0) = (x.val / 1024 = j.val) := propext (by omega)
    simp only [e]
  | succ n ih =>
    have e : (i 1).val = j.val := congrArg Fin.val hi
    have er : (row1 i n).val = j.val + n + 1 := by
      show ((i 1).val + 1 + n) % 4 = _
      omega
    refine (step_dq H (r := row1 i n) (by omega) (ih (by omega)) h x l).trans (congrArg _ ?_)
    rw [er]
    by_cases h1 : x.val / 1024 = j.val + n + 1
    · rw [if_pos h1, if_neg (by omega), if_pos (by omega), add_zero]
    · rw [if_neg h1, add_zero]
      have e2 : (j.val ≤ x.val / 1024 ∧ x.val / 1024 ≤ j.val + (n + 1)) = (j.val ≤ x.val / 1024 ∧ x.val / 1024 ≤ j.val + n) := propext (by omega)
      simp only [e2]
end Parts2

theorem W_zero (h : Fin 2) {i b : Fin 4096} (hb : i.val < b.val) : g.W h i b = 0 := if_neg (by omega)
theorem ds_zero (h : Fin 2) {i b : Fin 4096} (hb : i.val < b.val) : g.ds h i b = 0 := by
  unfold Pair.ds; rw [W_zero h hb, zero_mul]
theorem kB_zero (h : Fin 2) {j r : Fin 4} (hr : r.val < j.val) (b l) : g.kB h j r b l = 0 :=
  Finset.sum_eq_zero fun a _ => by
    rw [ds_zero h (show r.val * 1024 + a.val < j.val * 1024 + b.val by have := a.isLt; omega), zero_mul]
theorem vB_zero {j r : Fin 4} (hr : r.val < j.val) (b l) : g.vB j r b l = 0 := by
  unfold Pair.vB
  have e : ∀ h a, g.W h (rowAt r a) (rowAt j b) = 0 := fun h a => W_zero h (show r.val * 1024 + a.val < j.val * 1024 + b.val by have := a.isLt; omega)
  simp only [e, zero_mul, Finset.sum_const_zero, add_zero]
theorem qB_zero (h : Fin 2) {j : Fin 4} {x : Fin 4096} (hx : x.val / 1024 < j.val) (l) : g.qB h j x l = 0 :=
  Finset.sum_eq_zero fun b _ => by
    rw [ds_zero h (show x.val < j.val * 1024 + b.val by omega), zero_mul]

/-- the blocks from the diagonal on are all that count -/
theorem sum_blocks {i : grid0.Coords} (hi : row0 i = j) (f : Fin 4 → ℝ) (hf : ∀ r : Fin 4, r.val < j.val → f r = 0) :
    f j + ∑ x ∈ Finset.range (3 - (i 1).val), f (row1 i x) = ∑ r, f r := by
  have e : (i 1).val = j.val := congrArg Fin.val hi
  have er : ∀ x, row1 i x = ⟨(j.val + 1 + x) % 4, Nat.mod_lt _ (by norm_num)⟩ := fun x => Fin.ext (by show ((i 1).val + 1 + x) % 4 = (j.val + 1 + x) % 4; rw [e])
  rw [e, Fin.sum_univ_four]
  simp only [er]
  fin_cases j
  · simp [Finset.sum_range_succ]; ring
  · have h0 := hf 0 (by simp)
    simp [Finset.sum_range_succ, h0]; ring
  · have h0 := hf 0 (by simp)
    have h1 := hf 1 (by simp)
    simp [Finset.sum_range_succ, h0, h1]
  · have h0 := hf 0 (by simp)
    have h1 := hf 1 (by simp)
    have h2 := hf 2 (by simp)
    simp [h0, h1, h2]

section Point
variable (H : Holds g j w0 w1 w2 w3 w4 w5) {i : grid0.Coords} (hi : row0 i = j)
include H hi
/-- the queries' gradient after a point -/
theorem out6_val {D : Vec Ideal S2x4096x128 .f32} {d : Fin 2 → Fin 4096 → Fin 128 → ℝ}
    (hD : ∀ h i l, D (ix3 h i l) = ((d h i l : ℝ) : EReal)) (h x l) :
    out6 i w0 w1 w2 w3 w4 w5 D (ix3 h x l) = ((d h x l + g.qB h j x l : ℝ) : EReal) := by
  have e : (i 1).val = j.val := congrArg Fin.val hi
  refine (dqN_val H hi hD (3 - (i 1).val) (by omega) h x l).trans (congrArg _ ?_)
  by_cases hx : j.val ≤ x.val / 1024
  · rw [if_pos ⟨hx, by omega⟩]
  · rw [if_neg (fun c => hx c.1), qB_zero h (by omega)]
/-- the keys' gradient a point leaves -/
theorem out7_val (h b l) : out7 i w0 w1 w2 w3 w4 w5 (ix3 h b l) = ((∑ x, g.ds h x (rowAt j b) * g.qa h x l : ℝ) : EReal) := by
  have e : (i 1).val = j.val := congrArg Fin.val hi
  have hv := accN_val H hi (3 - (i 1).val) (by omega) b l
  rw [sum_blocks hi (fun r => g.kB 0 j r b l) (fun r hr => kB_zero 0 hr b l), sum_blocks hi (fun r => g.kB 1 j r b l) (fun r hr => kB_zero 1 hr b l)] at hv
  have ht : ∀ h, ∑ r, g.kB h j r b l = ∑ x, g.ds h x (rowAt j b) * g.qa h x l := fun h => (Fin.sum_univ_tiles 4 1024 rfl fun x => g.ds h x (rowAt j b) * g.qa h x l).symm
  rw [ht, ht] at hv
  fin_cases h
  · exact hv.1
  · exact hv.2.1
/-- the values' gradient a point leaves -/
theorem out8_val (b l) : out8 i w0 w1 w2 w3 w4 w5 (ix2 b l) = (((∑ x, g.W 0 x (rowAt j b) * g.dm 0 x l) + ∑ x, g.W 1 x (rowAt j b) * g.dm 1 x l : ℝ) : EReal) := by
  have e : (i 1).val = j.val := congrArg Fin.val hi
  have hv := (accN_val H hi (3 - (i 1).val) (by omega) b l).2.2
  rw [sum_blocks hi (fun r => g.vB j r b l) (fun r hr => vB_zero hr b l)] at hv
  refine (show out8 i w0 w1 w2 w3 w4 w5 (ix2 b l) = (accF i w0 w1 w2 w3 w4 w5).2.2 (ix2 b l) from rfl).trans (hv.trans (congrArg _ ?_))
  unfold Pair.vB
  rw [Finset.sum_add_distrib]
  exact congrArg₂ (· + ·) (Fin.sum_univ_tiles 4 1024 rfl fun x => g.W 0 x (rowAt j b) * g.dm 0 x l).symm (Fin.sum_univ_tiles 4 1024 rfl fun x => g.W 1 x (rowAt j b) * g.dm 1 x l).symm
end Point
end Cert.AttnIdeal.Grad
-- ==== Proof.AttnVal.lean ====
module
public import proofs.«01_k».proof.Proof.Gen.AttnIdeal.Frame
public import proofs.«01_k».proof.Proof.AttnIn
public import proofs.«01_k».proof.Proof.AttnPoint
public import proofs.«01_k».proof.Proof.AttnFrame
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! What the attention kernel leaves in its arrays, over the reals. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)

/-! ## A pair of heads -/
section math
open Att
/-- the pair's columns -/
def col (p : Fin 8) (l : Fin 128) : Fin 1024 := ⟨p.val * 128 + l.val, by omega⟩
/-- the pair's heads -/
def headAt (p : Fin 8) (e : Fin 2) : Fin 16 := ⟨p.val * 2 + e.val, by omega⟩
/-- a head's lane -/
def laneOf (e : Fin 2) (x : Fin 64) : Fin 128 := ⟨e.val * 64 + x.val, by omega⟩
theorem hOf_col (p : Fin 8) (e : Fin 2) (x : Fin 64) : hOf (col p (laneOf e x)) = headAt p e := Fin.ext (by dsimp only [hOf, col, laneOf, headAt]; omega)
theorem col_lane (p : Fin 8) (e : Fin 2) (x : Fin 64) : col p (laneOf e x) = hd (headAt p e) x := Fin.ext (by dsimp only [hd, col, laneOf, headAt]; omega)
theorem laneAt_eq (e : Fin 2) : laneAt e = laneOf e 0 := rfl
/-- what the pair's blocks hold -/
def pairOf (q : Att.In) (p : Fin 8) : Pair where
  qa e := QA q (headAt p e)
  ka e := KA q (headAt p e)
  v i l := q.V (ix2 i (col p l))
  o i l := O q i (col p l)
  s i l := q.M (hOf (col p l)) i + Real.log (q.T (hOf (col p l)) i)
  d i l := q.D (ix2 i (col p l))
theorem pairOf_s (q : Att.In) (p : Fin 8) (i : Fin 4096) (l : Fin 128) : (pairOf q p).s i l = q.M (hOf (col p l)) i + Real.log (q.T (hOf (col p l)) i) := rfl
/-- a sum over one head's lanes -/
theorem sum_lane (e : Fin 2) (f : Fin 128 → ℝ) : (∑ l : Fin 128, if l.val / 64 = e.val then f l else 0) = ∑ x : Fin 64, f (laneOf e x) := by
  refine (Fin.sum_univ_tiles 2 64 rfl fun l : Fin 128 => if l.val / 64 = e.val then f l else 0).trans ?_
  rw [Finset.sum_eq_single e]
  · refine Finset.sum_congr rfl fun x _ => ?_
    exact (if_pos (show (e.val * 64 + x.val) / 64 = e.val by omega)).trans rfl
  · intro r _ hr
    refine Finset.sum_eq_zero fun x _ => if_neg ?_
    show ¬ (r.val * 64 + x.val) / 64 = e.val
    have : r.val ≠ e.val := fun h => hr (Fin.ext h)
    omega
  · exact fun h => absurd (Finset.mem_univ e) h
theorem W_eq (q : Att.In) (p : Fin 8) (e : Fin 2) (i b : Fin 4096) : (pairOf q p).W e i b = q.P (headAt p e) i b := by
  unfold Pair.W In.P In.E
  have hs : (pairOf q p).s i (laneAt e) = q.M (headAt p e) i + Real.log (q.T (headAt p e) i) := by
    rw [pairOf_s, laneAt_eq, hOf_col]
  have hl : (∑ l, (pairOf q p).qa e i l * (pairOf q p).ka e b l) = q.L (headAt p e) i b := QA_KA q _ i b
  rw [hs, hl]
  split_ifs
  · rw [← sub_sub, Real.exp_sub _ (Real.log _), Real.exp_log (T_pos q _ _)]
  · exact (zero_div _).symm
theorem dm_eq (q : Att.In) (p : Fin 8) (e : Fin 2) (i : Fin 4096) (f : Fin 128 → ℝ) :
    ∑ l, (pairOf q p).dm e i l * f l = ∑ x, q.D (ix2 i (hd (headAt p e) x)) * f (laneOf e x) := by
  rw [← Finset.sum_congr rfl fun x _ => congrArg (fun k => q.D (ix2 i k) * f (laneOf e x)) (col_lane p e x)]
  rw [← sum_lane e fun l => q.D (ix2 i (col p l)) * f l]
  refine Finset.sum_congr rfl fun l _ => ?_
  unfold Pair.dm
  rw [ite_mul, zero_mul]
  rfl
theorem ds_eq (q : Att.In) (p : Fin 8) (e : Fin 2) (i b : Fin 4096) : (pairOf q p).ds e i b = q.G (headAt p e) i b := by
  unfold Pair.ds
  rw [W_eq, dm_eq, dm_eq, G_eq]
  have h1 : (∑ x, q.D (ix2 i (hd (headAt p e) x)) * (pairOf q p).v b (laneOf e x)) = q.S (headAt p e) i b :=
    Finset.sum_congr rfl fun x _ => congrArg (fun k => q.D (ix2 i (hd (headAt p e) x)) * q.V (ix2 b k)) (col_lane p e x)
  have h2 : (∑ x, q.D (ix2 i (hd (headAt p e) x)) * (pairOf q p).o i (laneOf e x)) = q.C (headAt p e) i := by
    have : ∀ x, q.D (ix2 i (hd (headAt p e) x)) * (pairOf q p).o i (laneOf e x) = ∑ j, q.P (headAt p e) i j * (q.D (ix2 i (hd (headAt p e) x)) * q.V (ix2 j (hd (headAt p e) x))) := fun x => by
      show q.D (ix2 i (hd (headAt p e) x)) * O q i (col p (laneOf e x)) = _
      unfold O
      rw [hOf_col, col_lane, Finset.sum_div, Finset.mul_sum]
      refine Finset.sum_congr rfl fun j _ => ?_
      unfold In.P
      ring
    simp only [this]
    rw [Finset.sum_comm]
    unfold In.C In.S
    refine Finset.sum_congr rfl fun j _ => ?_
    rw [Finset.mul_sum]
  rw [h1, h2]
end math

/-! ## The blocks at a grid point -/
section blocks
variable {m : (ℓ : Loc nD τ sig) → Buf (Elt Ideal) ℓ} {q : Att.In} {c : Dev nD}
theorem idx : ∀ t : Fin cfg0.N, win0_0.index t = ![t.val / 4, 0, 0]
    ∧ win0_1.index t = ![t.val / 4, t.val % 4, 0]
    ∧ win0_2.index t = ![t.val % 4, t.val / 4]
    ∧ win0_3.index t = ![0, t.val / 4]
    ∧ win0_4.index t = ![0, t.val / 4]
    ∧ win0_5.index t = ![0, t.val / 4]
    ∧ win0_6.index t = ![t.val / 4, 0, 0]
    ∧ win0_7.index t = ![t.val / 4, t.val % 4, 0]
    ∧ win0_8.index t = ![t.val % 4, 32 + t.val / 4] :=
  (by decide +kernel : ∀ t : Fin grid0.N, _)
/-- a point's pair of heads and its block of keys -/
def pt (t : Fin cfg0.N) : Fin 8 := ⟨t.val / 4, by have := t.isLt.trans_eq N_0; omega⟩
def jt (t : Fin cfg0.N) : Fin 4 := ⟨t.val % 4, by omega⟩
theorem row_t (t : Fin cfg0.N) : row0 (grid0.coords t) = jt t := Fin.ext ((Pipeline.Grid.coords_val t 1 (by decide) rfl : (grid0.coords t 1).val = t.val / 1 % 4).trans (by rw [Nat.div_one]; rfl))
theorem zero43 (e i l) : k0_pay43 (F := Ideal) (ix3 e i l) = ((0 : ℝ) : EReal) := by
  pointwise [k0_pay43]
  rfl
variable (A : Args q m c)
include A
theorem w0 (t : Fin cfg0.N) (e i l) : iblk m c 0 t (ix3 e i l) = ((QA q (headAt (pt t) e) i l : ℝ) : EReal) := by
  refine (congrFun (congrFun (V0_eq m c) (Proc.devRef .tc main_v31)) _).trans ?_
  rw [U11_v31]
  refine Eq.trans ?_ (v31_val A (headAt (pt t) e) i l)
  refine congrArg _ ?_
  blk_ext [idx t]
  all_goals rfl
theorem w1 (t : Fin cfg0.N) (e a l) : iblk m c 1 t (ix3 e a l) = ((KA q (headAt (pt t) e) (rowAt (jt t) a) l : ℝ) : EReal) := by
  refine (congrFun (congrFun (V0_eq m c) (Proc.devRef .tc main_v39)) _).trans ?_
  rw [U11_v39]
  refine Eq.trans ?_ (v39_val A (headAt (pt t) e) (rowAt (jt t) a) l)
  refine congrArg _ ?_
  blk_ext [idx t]
  all_goals rfl
theorem w2 (t : Fin cfg0.N) (a l) : iblk m c 2 t (ix2 a l) = ((q.V (ix2 (rowAt (jt t) a) (col (pt t) l)) : ℝ) : EReal) := by
  refine (congrFun (congrFun (V0_eq m c) (Proc.devRef .tc main_v40)) _).trans ?_
  rw [U11_v40]
  refine Eq.trans ?_ (v40_val A (rowAt (jt t) a) (col (pt t) l))
  refine congrArg _ ?_
  blk_ext [idx t]
  all_goals rfl
theorem w3 (t : Fin cfg0.N) (i l) : iblk m c 3 t (ix2 i l) = ((O q i (col (pt t) l) : ℝ) : EReal) := by
  refine (congrFun (congrFun (V0_eq m c) (Proc.devRef .tc main_v66)) _).trans ?_
  refine Eq.trans ?_ (v66_val A i (col (pt t) l))
  refine congrArg _ ?_
  blk_ext [idx t]
  all_goals rfl
omit A in
theorem rd4 (X : Buf (Elt Ideal) ((c.tc : Thread nD τ).loc main_v73)) (t : Fin cfg0.N) (y) :
    ((cfg0.win 4).blk t).view.read (Elt Ideal) X y = X (((cfg0.win 4).blk t).view.emb y) := rfl
omit A in
theorem iblk4 (t : Fin cfg0.N) : iblk m c 4 t = ((cfg0.win 4).blk t).view.read (Elt Ideal) (V m c main_v73) := by
  unfold iblk; rfl
omit A in
theorem V_v73 : V m c main_v73 = U11 m c (Proc.devRef .tc main_v73) := congrFun (V0_eq m c) (Proc.devRef .tc main_v73)
omit A in
theorem x4 (t : Fin cfg0.N) (i : Fin 4096) (l : Fin 128) : ((cfg0.win 4).blk t).view.emb (ix2 i l) = ix2 i (col (pt t) l) := by
  blk_ext [idx t]
  all_goals rfl
omit A in
theorem at4 {X : Buf (Elt Ideal) ((c.tc : Thread nD τ).loc main_v73)} {f : Fin 4096 → Fin 1024 → ℝ} (hX : ∀ i k, X (ix2 i k) = ((f i k : ℝ) : EReal)) (t : Fin cfg0.N) (i : Fin 4096) (l : Fin 128) :
    ((cfg0.win 4).blk t).view.read (Elt Ideal) X (ix2 i l) = ((f i (col (pt t) l) : ℝ) : EReal) :=
  (rd4 X t _).trans ((congrArg X (x4 t i l)).trans (hX _ _))
theorem w4 (t : Fin cfg0.N) (i : Fin 4096) (l : Fin 128) : iblk m c 4 t (ix2 i l) = (((pairOf q (pt t)).s i l : ℝ) : EReal) := by
  rw [pairOf_s, iblk4, V_v73]
  exact at4 (c := c) (f := fun i k => q.M (Att.hOf k) i + Real.log (q.T (Att.hOf k) i)) (v73_val A) t i l
theorem w5 (t : Fin cfg0.N) (i l) : iblk m c 5 t (ix2 i l) = ((q.D (ix2 i (col (pt t) l)) : ℝ) : EReal) := by
  refine (congrFun (V_main_arg5 m c) _).trans ?_
  rw [A.h5]
  refine congrArg (fun x => ((q.D x : ℝ) : EReal)) ?_
  blk_ext [idx t]
  all_goals rfl
theorem holds (t : Fin cfg0.N) : Holds (pairOf q (pt t)) (jt t) (iblk m c 0 t) (iblk m c 1 t) (iblk m c 2 t) (iblk m c 3 t) (iblk m c 4 t) (iblk m c 5 t) :=
  ⟨w0 A t, w1 A t, w2 A t, w3 A t, w4 A t, w5 A t⟩

/-- the queries' gradient after a point: the sum over the key blocks so far -/
theorem acc6_val (n : ℕ) (hn : n < cfg0.N) (e x l) :
    acc6 m c n hn (ix3 e x l) = ((∑ j : Fin 4, if j.val ≤ n % 4 then (pairOf q (pt ⟨n, hn⟩)).qB e j x l else 0 : ℝ) : EReal) := by
  induction n generalizing e x l with
  | zero =>
    rw [show acc6 m c 0 hn = out6 (grid0.coords ⟨0, hn⟩) _ _ _ _ _ _ k0_pay43 from acc6_first m c ⟨0, hn⟩ rfl]
    refine (out6_val (d := fun _ _ _ => 0) (holds A ⟨0, hn⟩) (row_t ⟨0, hn⟩) zero43 e x l).trans (congrArg (fun r : ℝ => (r : EReal)) ?_)
    rw [zero_add, Fin.sum_univ_four]
    simp [jt]
  | succ n ih =>
    by_cases h0 : (n + 1) % 4 = 0
    · rw [acc6_first m c ⟨n + 1, hn⟩ h0]
      refine (out6_val (d := fun _ _ _ => 0) (holds A ⟨n + 1, hn⟩) (row_t ⟨n + 1, hn⟩) zero43 e x l).trans (congrArg (fun r : ℝ => (r : EReal)) ?_)
      have hj : jt ⟨n + 1, hn⟩ = 0 := Fin.ext h0
      rw [zero_add, Fin.sum_univ_four, hj, h0]
      simp
    · rw [acc6_next m c ⟨n + 1, hn⟩ h0]
      refine (out6_val (holds A ⟨n + 1, hn⟩) (row_t ⟨n + 1, hn⟩) (ih (Nat.lt_of_succ_lt hn)) e x l).trans (congrArg (fun r : ℝ => (r : EReal)) ?_)
      have hp : pt ⟨n, Nat.lt_of_succ_lt hn⟩ = pt ⟨n + 1, hn⟩ := Fin.ext (show n / 4 = (n + 1) / 4 by omega)
      rw [hp]
      have h3 : n % 4 = 0 ∨ n % 4 = 1 ∨ n % 4 = 2 := by omega
      rcases h3 with hk | hk | hk
      · have hj : jt ⟨n + 1, hn⟩ = 1 := Fin.ext (show (n + 1) % 4 = 1 by omega)
        have hm : (n + 1) % 4 = 1 := by omega
        rw [hj, hm, hk, Fin.sum_univ_four, Fin.sum_univ_four]
        simp
      · have hj : jt ⟨n + 1, hn⟩ = 2 := Fin.ext (show (n + 1) % 4 = 2 by omega)
        have hm : (n + 1) % 4 = 2 := by omega
        rw [hj, hm, hk, Fin.sum_univ_four, Fin.sum_univ_four]
        simp
      · have hj : jt ⟨n + 1, hn⟩ = 3 := Fin.ext (show (n + 1) % 4 = 3 by omega)
        have hm : (n + 1) % 4 = 3 := by omega
        rw [hj, hm, hk, Fin.sum_univ_four, Fin.sum_univ_four]
        simp
/-- after the last key block: the whole sum -/
theorem acc6_last (t : Fin cfg0.N) (h3 : t.val % 4 = 3) (e x l) :
    acc6 m c t.val t.isLt (ix3 e x l) = ((∑ b, q.G (headAt (pt t) e) x b * KA q (headAt (pt t) e) b l : ℝ) : EReal) := by
  refine (acc6_val A t.val t.isLt e x l).trans (congrArg (fun r : ℝ => (r : EReal)) ?_)
  refine Eq.trans ?_ (Fin.sum_univ_tiles 4 1024 rfl fun b => q.G (headAt (pt t) e) x b * KA q (headAt (pt t) e) b l).symm
  refine Finset.sum_congr rfl fun j _ => ?_
  rw [h3, if_pos (by omega)]
  exact Finset.sum_congr rfl fun b _ => congrArg (· * _) (ds_eq q (pt t) e x (rowAt j b))
end blocks

end Cert.AttnIdeal.Grad
-- ==== Proof.AttnArr.lean ====
module
public import proofs.«01_k».proof.Proof.Gen.AttnIdeal.Frame
public import proofs.«01_k».proof.Proof.AttnVal
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! What the attention kernel leaves in its three arrays, over the reals. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)
variable {q : Att.In} {c : Dev nD}

/-- the gradient of the scaled queries' rows -/
def G6 (q : Att.In) : FVec Ideal S16x4096x128 .f32 := fun y => ((∑ b, q.G (y 0) (y 1) b * KA q (y 0) b (y 2) : ℝ) : EReal)
/-- the gradient of the keys' rows -/
def G7 (q : Att.In) : FVec Ideal S16x4096x128 .f32 := fun y => ((∑ x, q.G (y 0) x (y 1) * QA q (y 0) x (y 2) : ℝ) : EReal)
/-- the values' gradient -/
def dv (q : Att.In) (j : Fin 4096) (k : Fin 1024) : ℝ := ∑ x, q.P (Att.hOf k) x j * q.D (ix2 x k)
variable {m} (A : Args q m c)
include A
theorem final6 : (dats m 0 c).arrAt 6 cfg0.N = G6 q := by
  refine (dats m 0 c).arrAt_eq_of_covers 6 _ (by decide +kernel) fun t hf y => ?_
  have e : ((cfg0.win 6).blk t).view.emb y = ix3 (headAt (pt t) (y 0)) (y 1) (y 2) := by
    idx_vars y
    blk_ext [idx t]
    all_goals rfl
  have p : acc6 m c t.val t.isLt y = G6 q (ix3 (headAt (pt t) (y 0)) (y 1) (y 2)) := by
    idx_vars y
    exact acc6_last A t ((flush0_6 t).mp hf) _ _ _
  rw [e]
  blk_simp; rw [left6]
  exact p
theorem final7 : (dats m 0 c).arrAt 7 cfg0.N = G7 q := by
  refine (dats m 0 c).arrAt_eq_of_covers 7 _ (by decide +kernel) fun t hf y => ?_
  have e : ((cfg0.win 7).blk t).view.emb y = ix3 (headAt (pt t) (y 0)) (rowAt (jt t) (y 1)) (y 2) := by
    idx_vars y
    blk_ext [idx t]
    all_goals rfl
  have p : out7 (grid0.coords t) (iblk m c 0 t) (iblk m c 1 t) (iblk m c 2 t) (iblk m c 3 t) (iblk m c 4 t) (iblk m c 5 t) y = G7 q (ix3 (headAt (pt t) (y 0)) (rowAt (jt t) (y 1)) (y 2)) := by
    idx_vars y
    refine (out7_val (holds A t) (row_t t) y0 y1 y2).trans (congrArg (fun r : ℝ => (r : EReal)) ?_)
    exact Finset.sum_congr rfl fun x _ => congrArg (· * _) (ds_eq q (pt t) y0 x (rowAt (jt t) y1))
  rw [e]
  blk_simp; rw [left7]
  exact p
theorem dv_val (t : Fin cfg0.N) (b : Fin 1024) (l : Fin 128) :
    out8 (grid0.coords t) (iblk m c 0 t) (iblk m c 1 t) (iblk m c 2 t) (iblk m c 3 t) (iblk m c 4 t) (iblk m c 5 t) (ix2 b l) = ((dv q (rowAt (jt t) b) (col (pt t) l) : ℝ) : EReal) := by
  refine (out8_val (holds A t) (row_t t) b l).trans (congrArg (fun r : ℝ => (r : EReal)) ?_)
  unfold dv
  rw [← Finset.sum_add_distrib]
  refine Finset.sum_congr rfl fun x _ => ?_
  rw [W_eq, W_eq]
  have hl := l.isLt
  have hd : ∀ e : Fin 2, (pairOf q (pt t)).dm e x l = if l.val / 64 = e.val then q.D (ix2 x (col (pt t) l)) else 0 := fun e => rfl
  rw [hd, hd]
  rcases (show l.val / 64 = 0 ∨ l.val / 64 = 1 by omega) with h | h
  · have eh : Att.hOf (col (pt t) l) = headAt (pt t) 0 := Fin.ext (show ((pt t).val * 128 + l.val) / 64 = (pt t).val * 2 + 0 by omega)
    rw [eh, h]
    simp
  · have eh : Att.hOf (col (pt t) l) = headAt (pt t) 1 := Fin.ext (show ((pt t).val * 128 + l.val) / 64 = (pt t).val * 2 + 1 by omega)
    rw [eh, h]
    simp
/-- the values' gradient in its columns of the projection's gradient -/
theorem final8 (j : Fin 4096) (k : Fin 1024) : ((dats m 0 c).arrAt 8 cfg0.N : FVec Ideal S4096x5760 .bf16) (ix2 j ⟨4096 + k.val, by omega⟩) = ((dv q j k : ℝ) : EReal) := by
  have h := (dats m 0 c).arrAt_eq_of_coversWhere 8 (fun i => ((dv q (i 0) ⟨(i 1).val % 1024, by omega⟩ : ℝ) : EReal)) (P := fun i => 4096 ≤ (i 1).val ∧ (i 1).val < 5120)
    (fun β => 32 ≤ β (1 : Fin _) ∧ β (1 : Fin _) < 40) (by decide +kernel) (fun t hf y => ?_) (fun j => ?_)
  · rw [h]
    have hk := k.isLt
    refine (if_pos (show 4096 ≤ 4096 + k.val ∧ 4096 + k.val < 5120 by omega)).trans ?_
    refine congrArg (fun z => ((dv q j z : ℝ) : EReal)) (Fin.ext ?_)
    show (4096 + k.val) % 1024 = k.val
    omega
  · have e : ((cfg0.win 8).blk t).view.emb y = ix2 (rowAt (jt t) (y 0)) ⟨4096 + (col (pt t) (y 1)).val, by have := (col (pt t) (y 1)).isLt; omega⟩ := by
      idx_vars y
      blk_ext [idx t]
      · rfl
      · show (32 + t.val / 4) * 128 + y1.val = 4096 + (t.val / 4 * 128 + y1.val)
        omega
    have p : out8 (grid0.coords t) (iblk m c 0 t) (iblk m c 1 t) (iblk m c 2 t) (iblk m c 3 t) (iblk m c 4 t) (iblk m c 5 t) y = ((dv q (rowAt (jt t) (y 0)) (col (pt t) (y 1)) : ℝ) : EReal) := by
      idx_vars y
      exact dv_val A t _ _
    rw [e]
    blk_simp; rw [left8]
    refine p.trans (congrArg (fun z => ((dv q (rowAt (jt t) (y 0)) z : ℝ) : EReal)) (Fin.ext ?_))
    show _ = (4096 + (col (pt t) (y 1)).val) % 1024
    have := (col (pt t) (y 1)).isLt
    omega
  · blk_simp [Pipeline.Window.cell_apply]
    omega

end Cert.AttnIdeal.Grad
-- ==== Proof.AttnTail.lean ====
module
public import proofs.«01_k».proof.Proof.Gen.AttnIdeal.Frame
public import proofs.«01_k».proof.Proof.AttnIn
public import proofs.«01_k».proof.Proof.AttnPoint
public import proofs.«01_k».proof.Proof.AttnFrame
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! The attention kernel: its host lines after the call. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)

/-! ## The host lines after the call -/
/-- the buffers when the call ends, and after each stretch of host lines -/
def Z0 (c : Dev nD) : Valuation τ sig (Elt Ideal) := Pipeline.withArrays spec0 c (V0 m c) fun w => (dats m 0 c).arrAt w cfg0.N
def Z1 (c : Dev nD) : Valuation τ sig (Elt Ideal) := StableHlo.after hostOps1 (Z0 m c)
def Z2 (c : Dev nD) : Valuation τ sig (Elt Ideal) := StableHlo.after hostOps1_1 (Z1 m c)
def Z3 (c : Dev nD) : Valuation τ sig (Elt Ideal) := StableHlo.after hostOps1_2 (Z2 m c)
def Z4 (c : Dev nD) : Valuation τ sig (Elt Ideal) := StableHlo.after hostOps1_3 (Z3 m c)
def Z5 (c : Dev nD) : Valuation τ sig (Elt Ideal) := StableHlo.after hostOps1_4 (Z4 m c)
def Z6 (c : Dev nD) : Valuation τ sig (Elt Ideal) := StableHlo.after hostOps1_5 (Z5 m c)
def Z7 (c : Dev nD) : Valuation τ sig (Elt Ideal) := StableHlo.after hostOps1_6 (Z6 m c)
def Z8 (c : Dev nD) : Valuation τ sig (Elt Ideal) := StableHlo.after hostOps1_7 (Z7 m c)
def Z9 (c : Dev nD) : Valuation τ sig (Elt Ideal) := StableHlo.after hostOps1_8 (Z8 m c)
theorem tail_eq (c : Dev nD) (b : Ref sig .tc) : Pipeline.afterTail₀ cfgs (dats m) 0 (V0 m) [hostOps1, hostOps1_1, hostOps1_2, hostOps1_3, hostOps1_4, hostOps1_5, hostOps1_6, hostOps1_7, hostOps1_8] c b = Z9 m c (Proc.devRef .tc b) := by
  unfold Pipeline.afterTail₀ Z9 Z8 Z7 Z6 Z5 Z4 Z3 Z2 Z1 Z0
  simp only [List.flatten_cons, List.flatten_nil, List.append_nil, StableHlo.after_append]
/-- one half of every head's row, the even heads' from `a` and the odd heads' from `b` -/
def half (e : IVec S16x1x1 1) (a b : FVec Ideal S16x4096x64 .f32) : FVec Ideal S16x4096x64 .f32 :=
  select (broadcastInDim S16x4096x64 ![0, 1, 2] bcast_S16x1x1_S16x4096x64_0_1_2 e) a b
def lo (x : FVec Ideal S16x4096x128 .f32) : FVec Ideal S16x4096x64 .f32 := extractStridedSlice S16x4096x64 ![0, 0, 0] x slices_S16x4096x128_S16x4096x64_0_0_0
def hi (x : FVec Ideal S16x4096x128 .f32) : FVec Ideal S16x4096x64 .f32 := extractStridedSlice S16x4096x64 ![0, 0, 64] x slices_S16x4096x128_S16x4096x64_0_0_64
def flat (x : FVec Ideal S16x4096x64 .f32) : FVec Ideal S4096x1024 .f32 :=
  shapeCast S4096x1024 (transpose S4096x16x64 [1, 0, 2] x transposes_S16x4096x64_S4096x16x64_1_0_2 : FVec Ideal S4096x16x64 .f32) shapeCasts_S4096x16x64_S4096x1024
theorem Z2_v78 (c : Dev nD) : Z2 m c (Proc.devRef .tc main_v78) = half (Z0 m c (Proc.devRef .tc main_v22)) (lo (Z0 m c (Proc.devRef .tc main_v75_0))) (hi (Z0 m c (Proc.devRef .tc main_v75_0))) := by
  unfold Z2 Z1; after_results; rfl
theorem Z8_v78 (c : Dev nD) : Z8 m c (Proc.devRef .tc main_v78) = Z2 m c (Proc.devRef .tc main_v78) := by
  unfold Z8 Z7 Z6 Z5 Z4 Z3; after_results
theorem Z4_v81 (c : Dev nD) : Z4 m c (Proc.devRef .tc main_v81) = half (Z2 m c (Proc.devRef .tc main_v22)) (hi (Z2 m c (Proc.devRef .tc main_v75_0))) (lo (Z2 m c (Proc.devRef .tc main_v75_0))) := by
  unfold Z4 Z3; after_results; rfl
theorem Z8_v81 (c : Dev nD) : Z8 m c (Proc.devRef .tc main_v81) = Z4 m c (Proc.devRef .tc main_v81) := by
  unfold Z8 Z7 Z6 Z5; after_results
theorem Z6_v84 (c : Dev nD) : Z6 m c (Proc.devRef .tc main_v84) = half (Z4 m c (Proc.devRef .tc main_v22)) (lo (Z4 m c (Proc.devRef .tc main_v75_1))) (hi (Z4 m c (Proc.devRef .tc main_v75_1))) := by
  unfold Z6 Z5; after_results; rfl
theorem Z8_v84 (c : Dev nD) : Z8 m c (Proc.devRef .tc main_v84) = Z6 m c (Proc.devRef .tc main_v84) := by
  unfold Z8 Z7; after_results
theorem Z8_v87 (c : Dev nD) : Z8 m c (Proc.devRef .tc main_v87) = half (Z6 m c (Proc.devRef .tc main_v22)) (hi (Z6 m c (Proc.devRef .tc main_v75_1))) (lo (Z6 m c (Proc.devRef .tc main_v75_1))) := by
  unfold Z8 Z7; after_results; rfl
theorem Z2_v22 (c : Dev nD) : Z2 m c (Proc.devRef .tc main_v22) = Z0 m c (Proc.devRef .tc main_v22) := by
  unfold Z2 Z1; after_results
theorem Z4_v22 (c : Dev nD) : Z4 m c (Proc.devRef .tc main_v22) = Z2 m c (Proc.devRef .tc main_v22) := by
  unfold Z4 Z3; after_results
theorem Z6_v22 (c : Dev nD) : Z6 m c (Proc.devRef .tc main_v22) = Z4 m c (Proc.devRef .tc main_v22) := by
  unfold Z6 Z5; after_results
theorem Z2_v750 (c : Dev nD) : Z2 m c (Proc.devRef .tc main_v75_0) = Z0 m c (Proc.devRef .tc main_v75_0) := by
  unfold Z2 Z1; after_results
theorem Z4_v751 (c : Dev nD) : Z4 m c (Proc.devRef .tc main_v75_1) = Z0 m c (Proc.devRef .tc main_v75_1) := by
  unfold Z4 Z3 Z2 Z1; after_results
theorem Z6_v751 (c : Dev nD) : Z6 m c (Proc.devRef .tc main_v75_1) = Z4 m c (Proc.devRef .tc main_v75_1) := by
  unfold Z6 Z5; after_results
theorem Z8_v752 (c : Dev nD) : Z8 m c (Proc.devRef .tc main_v75_2) = Z0 m c (Proc.devRef .tc main_v75_2) := by
  unfold Z8 Z7 Z6 Z5 Z4 Z3 Z2 Z1; after_results
def dqOut (x : FVec Ideal S16x4096x64 .f32) : FVec Ideal S4096x1024 .f32 := mulf (flat x) (broadcastInDim S4096x1024 ![] bcast_S_S4096x1024 (constant (F := Ideal) S_ .f32 0x3E000000#32))
def dcOut (x y : FVec Ideal S16x4096x64 .f32) : FVec Ideal S4096x16 .f32 := transpose S4096x16 [1, 0] (subf (shapeCast S16x4096 (extractStridedSlice S16x4096x1 ![0, 0, 0] x slices_S16x4096x64_S16x4096x1_0_0_0) shapeCasts_S16x4096x1_S16x4096 : FVec Ideal S16x4096 .f32)
  (shapeCast S16x4096 (extractStridedSlice S16x4096x1 ![0, 0, 3] y slices_S16x4096x64_S16x4096x1_0_0_3) shapeCasts_S16x4096x1_S16x4096 : FVec Ideal S16x4096 .f32)) transposes_S16x4096_S4096x16_1_0
theorem Z9_v91 (c : Dev nD) : Z9 m c (Proc.devRef .tc main_v91) = dqOut (Z8 m c (Proc.devRef .tc main_v78)) := by
  unfold Z9; after_results; rfl
theorem Z9_v93 (c : Dev nD) : Z9 m c (Proc.devRef .tc main_v93) = flat (Z8 m c (Proc.devRef .tc main_v84)) := by
  unfold Z9; after_results; rfl
theorem Z9_v94 (c : Dev nD) : Z9 m c (Proc.devRef .tc main_v94) = extractStridedSlice S4096x1024 ![0, 4096] (Z8 m c (Proc.devRef .tc main_v75_2) : FVec Ideal S4096x5760 .bf16) slices_S4096x5760_S4096x1024_0_4096 := by
  unfold Z9; after_results
theorem Z9_v100 (c : Dev nD) : Z9 m c (Proc.devRef .tc main_v100) = dcOut (Z8 m c (Proc.devRef .tc main_v81)) (Z8 m c (Proc.devRef .tc main_v87)) := by
  unfold Z9; after_results; rfl

end Cert.AttnIdeal.Grad
-- ==== Proof.AttnOut.lean ====
module
public import proofs.«01_k».proof.Proof.Gen.AttnIdeal.Frame
public import proofs.«01_k».proof.Proof.AttnIn
public import proofs.«01_k».proof.Proof.AttnPoint
public import proofs.«01_k».proof.Proof.AttnFrame
public import proofs.«01_k».proof.Proof.AttnArr
public import proofs.«01_k».proof.Proof.AttnTail
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! The attention kernel: the values of its four results. -/
noncomputable section
open Idealize.ShloMosaic Idealize.ShloMosaic.TcCoe Idealize.SL.Sem

namespace Cert.AttnIdeal.Grad
open Cert.AttnIdeal Cert.AttnIdeal.Gen Cert.Real
variable (m : (ℓ : Loc nD τ sig) → Buf (Elt Ideal) ℓ)
variable {m}
open Cert.Att (In hOf eOf hd hd_of)

/-- the lane of a head's own half, and the same lane of the other half -/
def own (h : Fin 16) (e : Fin 64) : Fin 128 := ⟨h.val % 2 * 64 + e.val, by omega⟩
def oth (h : Fin 16) (e : Fin 64) : Fin 128 := ⟨(1 - h.val % 2) * 64 + e.val, by omega⟩

theorem half_own {x : FVec Ideal S16x4096x128 .f32} (h i e) : half evens (lo x) (hi x) (ix3 h i e) = x (ix3 h i (own h e)) := by
  pointwise [half, lo, hi]
  rw [show evens _ = BitVec.ofBool (decide (h.val % 2 = 0)) from rfl, WordCmp.select_ofBool]
  split_ifs with g
  all_goals simp only [decide_eq_true_eq] at g
  all_goals refine congrArg x ?_
  all_goals (funext a; fin_cases a <;> first | rfl | (apply Fin.ext; first | (show e.val = h.val % 2 * 64 + e.val; omega) | (show 64 + e.val = h.val % 2 * 64 + e.val; omega)))
theorem half_oth {x : FVec Ideal S16x4096x128 .f32} (h i e) : half evens (hi x) (lo x) (ix3 h i e) = x (ix3 h i (oth h e)) := by
  pointwise [half, lo, hi]
  rw [show evens _ = BitVec.ofBool (decide (h.val % 2 = 0)) from rfl, WordCmp.select_ofBool]
  split_ifs with g
  all_goals simp only [decide_eq_true_eq] at g
  all_goals refine congrArg x ?_
  all_goals (funext a; fin_cases a <;> first | rfl | (apply Fin.ext; first | (show e.val = (1 - h.val % 2) * 64 + e.val; omega) | (show 64 + e.val = (1 - h.val % 2) * 64 + e.val; omega)))
theorem flat_val (x : FVec Ideal S16x4096x64 .f32) (i k) : flat x (ix2 i k) = x (ix3 (hOf k) i (eOf k)) := by
  pointwise [flat]
  rfl
theorem dqOut_val {x : FVec Ideal S16x4096x64 .f32} {X : Fin 16 → Fin 4096 → Fin 64 → ℝ} (hx : ∀ h i e, x (ix3 h i e) = ((X h i e : ℝ) : EReal)) (i k) :
    dqOut x (ix2 i k) = ((X (hOf k) i (eOf k) * (1 / 8) : ℝ) : EReal) := by
  pointwise [dqOut]
  refine (congrArg (· * _) ((flat_val x i k).trans (hx _ _ _))).trans ?_
  rw [Att.word_eighth, ← EReal.coe_mul]
theorem dcOut_val {x y : FVec Ideal S16x4096x64 .f32} {s h} {X Y : ℝ} (hx : x (ix3 h s 0) = ((X : ℝ) : EReal)) (hy : y (ix3 h s 3) = ((Y : ℝ) : EReal)) :
    dcOut x y (ix2 s h) = ((X - Y : ℝ) : EReal) := by
  pointwise [dcOut]
  rw [EReal.coe_sub, ← hx, ← hy]

theorem G6_val (q : In) (h i l) : G6 q (ix3 h i l) = ((∑ b, q.G h i b * KA q h b l : ℝ) : EReal) := rfl
theorem G7_val (q : In) (h i l) : G7 q (ix3 h i l) = ((∑ x, q.G h x i * QA q h x l : ℝ) : EReal) := rfl
theorem ext_dv (x : FVec Ideal S4096x5760 .bf16) (i : Fin 4096) (k : Fin 1024) :
    extractStridedSlice S4096x1024 ![0, 4096] x slices_S4096x5760_S4096x1024_0_4096 (ix2 i k) = x (ix2 i ⟨4096 + k.val, by omega⟩) := by
  pointwise!
theorem ext1024 {α : Type} {f g : S4096x1024.Idx → α} (h : ∀ (i : Fin 4096) (k : Fin 1024), f (ix2 i k) = g (ix2 i k)) : f = g := by
  funext j
  idx_vars j
  exact h _ _
theorem ext16 {α : Type} {f g : S4096x16.Idx → α} (h : ∀ (i : Fin 4096) (k : Fin 16), f (ix2 i k) = g (ix2 i k)) : f = g := by
  funext j
  idx_vars j
  exact h _ _

theorem own_KA (q : In) (h j e) : KA q h j (own h e) = q.K (ix2 j (hd h e)) := laneR_own (by dsimp [own]; omega) (by dsimp [own]; omega)
theorem own_QA (q : In) (h j e) : QA q h j (own h e) = q.Q (ix2 j (hd h e)) * (1 / 8) := laneR_own (e := e) (by dsimp [own]; omega) (by dsimp [own]; omega)
theorem oth_KA (q : In) (h j) : KA q h j (oth h 0) = 1 := (laneR_other (e := 0) (by dsimp [oth]; omega) (by dsimp [oth]; omega)).trans (by unfold augK; rfl)
theorem oth_QA (q : In) (h j) : QA q h j (oth h 3) = 1 := (laneR_other (e := 3) (by dsimp [oth]; omega) (by dsimp [oth]; omega)).trans (by unfold augQ; rfl)

theorem Z0_v22 (c : Dev nD) : Z0 m c (Proc.devRef .tc main_v22) = evens := by
  refine (Pipeline.withArrays_of_ne _ c (V0 m c) _ main_v22 (by decide)).trans ?_
  rw [V0_eq, U11_v22, U7_v22, U5_v22]
variable {q : Att.In} {c : Dev nD} (A : Args q m c)
include A
theorem Z0_6 : Z0 m c (Proc.devRef .tc main_v75_0) = G6 q := (Pipeline.withArrays_arr spec0 (by decide) c (V0 m c) _ 6).trans (final6 A)
theorem Z0_7 : Z0 m c (Proc.devRef .tc main_v75_1) = G7 q := (Pipeline.withArrays_arr spec0 (by decide) c (V0 m c) _ 7).trans (final7 A)
theorem z78 (h i e) : (Z8 m c (Proc.devRef .tc main_v78) : FVec Ideal S16x4096x64 .f32) (ix3 h i e) = ((∑ b, q.G h i b * q.K (ix2 b (hd h e)) : ℝ) : EReal) := by
  rw [Z8_v78, Z2_v78, Z0_v22, Z0_6 A, half_own, G6_val]
  simp only [own_KA]
theorem z81 (h i) : (Z8 m c (Proc.devRef .tc main_v81) : FVec Ideal S16x4096x64 .f32) (ix3 h i 0) = ((∑ b, q.G h i b : ℝ) : EReal) := by
  rw [Z8_v81, Z4_v81, Z2_v22, Z2_v750, Z0_v22, Z0_6 A, half_oth, G6_val]
  simp only [oth_KA, mul_one]
theorem z84 (h j e) : (Z8 m c (Proc.devRef .tc main_v84) : FVec Ideal S16x4096x64 .f32) (ix3 h j e) = ((∑ x, q.G h x j * (q.Q (ix2 x (hd h e)) * (1 / 8)) : ℝ) : EReal) := by
  rw [Z8_v84, Z6_v84, Z4_v22, Z2_v22, Z4_v751, Z0_v22, Z0_7 A, half_own, G7_val]
  simp only [own_QA]
theorem z87 (h j) : (Z8 m c (Proc.devRef .tc main_v87) : FVec Ideal S16x4096x64 .f32) (ix3 h j 3) = ((∑ x, q.G h x j : ℝ) : EReal) := by
  rw [Z8_v87, Z6_v22, Z6_v751, Z4_v22, Z2_v22, Z4_v751, Z0_v22, Z0_7 A, half_oth, G7_val]
  simp only [oth_QA, mul_one]
theorem res_dq : Z9 m c (Proc.devRef .tc main_v91) = AttnRefIdeal.Plain.out0 (up q.Q) (up q.K) (up q.V) (up q.Fr) (up q.Fb) (up q.D) := by
  rw [Z9_v91]
  refine ext1024 fun i k => ?_
  refine (dqOut_val (z78 A) i k).trans (Eq.trans ?_ (Att.r_out0 q i k).symm)
  rw [Finset.sum_mul, hd_of]
  refine congrArg (fun r : ℝ => (r : EReal)) (Finset.sum_congr rfl fun j _ => ?_)
  ring
theorem res_dk : Z9 m c (Proc.devRef .tc main_v93) = AttnRefIdeal.Plain.out1 (up q.Q) (up q.K) (up q.V) (up q.Fr) (up q.Fb) (up q.D) := by
  rw [Z9_v93]
  refine ext1024 fun i k => ?_
  refine (flat_val _ i k).trans ((z84 A _ _ _).trans (Eq.trans ?_ (Att.r_out1 q i k).symm))
  rw [hd_of]
  refine congrArg (fun r : ℝ => (r : EReal)) (Finset.sum_congr rfl fun j _ => ?_)
  ring
theorem res_dv : Z9 m c (Proc.devRef .tc main_v94) = AttnRefIdeal.Plain.out2 (up q.Q) (up q.K) (up q.Fr) (up q.Fb) (up q.D) := by
  rw [Z9_v94, Z8_v752]
  refine ext1024 fun i k => ?_
  refine Eq.trans ?_ ((final8 A i k).trans (Eq.trans ?_ (Att.r_out2 q i k).symm))
  · refine (ext_dv _ i k).trans ?_
    exact congrFun (Pipeline.withArrays_arr spec0 (by decide) c (V0 m c) (fun w => (dats m 0 c).arrAt w cfg0.N) 8) _
  · unfold dv
    refine congrArg (fun r : ℝ => (r : EReal)) (Finset.sum_congr rfl fun j _ => ?_)
    ring
theorem res_dc : Z9 m c (Proc.devRef .tc main_v100) = AttnRefIdeal.Plain.out3 (up q.Q) (up q.K) (up q.V) (up q.Fr) (up q.Fb) (up q.D) := by
  rw [Z9_v100]
  refine ext16 fun s h => ?_
  refine (dcOut_val (z81 A h s) (z87 A h s)).trans (Eq.trans ?_ (Att.r_out3 q s h).symm)
  rw [Finset.sum_neg_distrib]
  refine congrArg (fun r : ℝ => (r : EReal)) ?_
  ring
omit A in
/-- The whole program: it ends with its results as the host lines after the call leave them, and its arguments kept. -/
theorem run_main (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v91) = Z9 m c (Proc.devRef .tc main_v91)
      ∧ r.2.mem ((c.tc : Thread nD τ).loc main_v93) = Z9 m c (Proc.devRef .tc main_v93)
      ∧ r.2.mem ((c.tc : Thread nD τ).loc main_v94) = Z9 m c (Proc.devRef .tc main_v94)
      ∧ r.2.mem ((c.tc : Thread nD τ).loc main_v100) = Z9 m c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).2 main_v91 (Pipeline.mem_restRefs_of main_v91 (by decide) (by decide))).trans (tail_eq m c main_v91),
    ((h.1.1 c).2 main_v93 (Pipeline.mem_restRefs_of main_v93 (by decide) (by decide))).trans (tail_eq m c main_v93),
    ((h.1.1 c).2 main_v94 (Pipeline.mem_restRefs_of main_v94 (by decide) (by decide))).trans (tail_eq m c main_v94),
    ((h.1.1 c).2 main_v100 (Pipeline.mem_restRefs_of main_v100 (by decide) (by decide))).trans (tail_eq m c main_v100),
    h.2.1 c⟩) (θ_run_and ((θ_run defs _ _).mono (fun _ h => h) (run m ρ)) (frame m ρ))

end Cert.AttnIdeal.Grad
-- ==== Proof.AttnBits.lean ====
module
public import proofs.«01_k».proof.Proof.Gen.Attn.Frame
public import proofs.«01_k».proof.Proof.AttnFrame
@[expose] public section
set_option maxRecDepth 16384

noncomputable section
namespace Cert.Attn.Grad
open Idealize.ShloMosaic Idealize.ShloMosaic.TcCoe Idealize.ShloMosaic.Tactic
open Idealize.SL.Sem
open Cert.Attn

/-- At machine words a named constant is its literal. -/
@[instance_reducible] def words : Named Bits := ⟨fun _ _ {φ} b => FloatOps.ofBits φ b⟩

attribute [local instance] words

set_option maxHeartbeats 1000000 in
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have h := Cert.AttnIdeal.Grad.frame (F := Bits) m ρ
  refine Eq.mp ?_ h
  sl_kernel_rfl

end Cert.Attn.Grad
end
-- ==== Proof.GateRef.lean ====
module
public import proofs.«01_k».proof.Proof.Gen.GateRefIdeal.Run
public import Idealize.ShloMosaic.Lib.Pipeline.ValueKit
public import Idealize.ShloMosaic.Lib.Pointwise
public import Idealize.ShloMosaic.Lib.Claim
public import Idealize.ShloMosaic.Lib.WordCmp
public import Idealize.ShloMosaic.Lib.Routing.OpsOne
public import proofs.«01_k».proof.Proof.Real
@[expose] public section
set_option maxRecDepth 16384

/-! The plain program of the forget gate's gradient, in stages, and its stages over the reals. -/
noncomputable section
open Idealize.ShloMosaic Idealize.ShloMosaic.TcCoe Idealize.SL.Sem

namespace Cert.GateRefIdeal.Plain
open Cert.GateRefIdeal Cert.GateRefIdeal.Gen Cert.Real

def call0_v0 (a0 : FVec Ideal S4096x16 .f32) (a1 : FVec Ideal S1x16 .f32) : FVec Ideal S4096x16 .f32 :=
  Host.negf (addf a0 (broadcastInDim S4096x16 ![0, 1] bcast_S1x16_S4096x16_0_1 a1))

def call0_call0_v21 (a0 : FVec Ideal S4096x16 .f32) (a1 : FVec Ideal S1x16 .f32) : FVec Ideal S4096x16 .f32 :=
  subf (select (cmpf .oeq (call0_v0 a0 a1) (broadcastInDim S4096x16 ![] bcast_S_S4096x16 (constant S_ .f32 0x7F800000#32))) (broadcastInDim S4096x16 ![] bcast_S_S4096x16 (constant S_ .f32 0x00000000#32)) (call0_v0 a0 a1)) (select (cmpf .oeq (select (cmpf .une (subf (call0_v0 a0 a1) (broadcastInDim S4096x16 ![] bcast_S_S4096x16 (constant S_ .f32 0x00000000#32))) (subf (call0_v0 a0 a1) (broadcastInDim S4096x16 ![] bcast_S_S4096x16 (constant S_ .f32 0x00000000#32)))) (addf (call0_v0 a0 a1) (broadcastInDim S4096x16 ![] bcast_S_S4096x16 (constant S_ .f32 0x00000000#32))) (addf (maximumf (call0_v0 a0 a1) (broadcastInDim S4096x16 ![] bcast_S_S4096x16 (constant S_ .f32 0x00000000#32))) (Host.log1p (Host.exp (Host.negf (Host.absf (subf (call0_v0 a0 a1) (broadcastInDim S4096x16 ![] bcast_S_S4096x16 (constant S_ .f32 0x00000000#32))))))))) (broadcastInDim S4096x16 ![] bcast_S_S4096x16 (constant S_ .f32 0x7F800000#32))) (broadcastInDim S4096x16 ![] bcast_S_S4096x16 (constant S_ .f32 0x00000000#32)) (select (cmpf .une (subf (call0_v0 a0 a1) (broadcastInDim S4096x16 ![] bcast_S_S4096x16 (constant S_ .f32 0x00000000#32))) (subf (call0_v0 a0 a1) (broadcastInDim S4096x16 ![] bcast_S_S4096x16 (constant S_ .f32 0x00000000#32)))) (addf (call0_v0 a0 a1) (broadcastInDim S4096x16 ![] bcast_S_S4096x16 (constant S_ .f32 0x00000000#32))) (addf (maximumf (call0_v0 a0 a1) (broadcastInDim S4096x16 ![] bcast_S_S4096x16 (constant S_ .f32 0x00000000#32))) (Host.log1p (Host.exp (Host.negf (Host.absf (subf (call0_v0 a0 a1) (broadcastInDim S4096x16 ![] bcast_S_S4096x16 (constant S_ .f32 0x00000000#32))))))))))

def v2_1 (a0 : FVec Ideal S4096x16 .f32) (a1 : FVec Ideal S1x16 .f32) : FVec Ideal S4096x16 .f32 :=
  Host.exp (call0_call0_v21 a0 a1)

def v4 (a2 : FVec Ideal S4096x16 .f32) : FVec Ideal S4096x16 .f32 :=
  Host.reduceWindowAdd ![4096, 1] ![1, 1] ![0, 0] ![4095, 0] a2 (broadcastInDim S_ ![] bcast_S_S_ (constant S_ .f32 0x00000000#32)) reduceWindows_S4096x16_S4096x16_w4096s1p0_4095_w1s1p0_0 h_S_

def v5 (a0 : FVec Ideal S4096x16 .f32) (a1 : FVec Ideal S1x16 .f32) (a2 : FVec Ideal S4096x16 .f32) : FVec Ideal S4096x16 .f32 :=
  Host.negf (mulf (Host.negf (v4 a2)) (v2_1 a0 a1))

def out0 (a0 : FVec Ideal S4096x16 .f32) (a1 : FVec Ideal S1x16 .f32) (a2 : FVec Ideal S4096x16 .f32) (a3 : FVec Ideal S4096x16 .f32) : FVec Ideal S4096x5760 .bf16 :=
  pad S4096x5760 ![0, 5632] ![0, 96] ![0, 0] ((truncf .bf16 · bitsLt_bf16_f32) (concatenate S4096x32 1 [⟨S4096x16, a3⟩, ⟨S4096x16, (v5 a0 a1 a2)⟩] concatenates_S4096x16_S4096x16_S4096x32_d1)) (sitofp .bf16 (constantI S_ 32 0#32)) pads_S4096x32_S4096x5760_000_5632960 h_S_

def out1 (a0 : FVec Ideal S4096x16 .f32) (a1 : FVec Ideal S1x16 .f32) (a2 : FVec Ideal S4096x16 .f32) : FVec Ideal S1x128 .f32 :=
  pad S1x128 ![0, 16] ![0, 96] ![0, 0] (shapeCast _ (Host.reduceAdd (v5 a0 a1 a2) (constant S_ .f32 0x00000000#32) reducesTo_S4096x16_S16_d0 h_S_) shapeCasts_S16_S1x16) (sitofp .f32 (constantI S_ 32 0#32)) pads_S1x16_S1x128_000_16960 h_S_

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = out1 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by rfl), (h c).2.1.trans (by rfl), (h c).2.2⟩) (Value.run (F := Ideal) m ρ)

/-! ## Over the reals -/

/-- the sum of the rows from `i` to the last one -/
def suf (u : ℕ → ℝ) (i : ℕ) : ℝ := ∑ j ∈ Finset.Ico i 4096, u j
/-- a column by its rows' numbers -/
def nat (D : S4096x16.Idx → ℝ) (h : Fin 16) (j : ℕ) : ℝ := if hj : j < 4096 then D (ix2 ⟨j, hj⟩ h) else 0

theorem foldl_coe {α : Type} (g : α → EReal) (g' : α → ℝ) (h : ∀ n, g n = ((g' n : ℝ) : EReal)) (l : List α) (a : ℝ) :
    l.foldl (fun r n => r + g n) ((a : ℝ) : EReal) = ((a + (l.map g').sum : ℝ) : EReal) := by
  induction l generalizing a with
  | nil => simp
  | cons x l ih =>
    rw [List.foldl_cons, h x, ← EReal.coe_add, ih, List.map_cons, List.sum_cons, add_assoc]

theorem sum_nat (D : S4096x16.Idx → ℝ) (h : Fin 16) (i : ℕ) : ∑ n ∈ Finset.range 4096, nat D h (i + n) = suf (nat D h) i := by
  rw [suf, Finset.sum_Ico_eq_sum_range]
  refine (Finset.sum_subset (Finset.range_mono (Nat.sub_le _ _)) fun x _ hx => ?_).symm
  rw [Finset.mem_range] at hx
  exact dif_neg (by omega)

/-- the real arguments -/
structure In where
  Fr : S4096x16.Idx → ℝ
  B : S1x16.Idx → ℝ
  D : S4096x16.Idx → ℝ
variable (q : In)

/-- a window's sum of reals -/
theorem window_real {s t u : Shape} (w st lo hi : Fin s.rank → ℕ) (x : FVec Ideal s .f32) (init : FVec Ideal u .f32)
    (h : s.ReduceWindows w st lo hi t) (hu : 0 < u.numel) (j : t.Idx) (g' : Fin (Shape.mk s.rank w).numel → ℝ)
    (h0 : init (Shape.Idx.first hu) = ((0 : ℝ) : EReal))
    (hg : ∀ n, (if hin : ∀ a, lo a ≤ (j (a.cast h.1.symm)).val * st a + ((Shape.mk s.rank w).rowMajor.symm n a).val
        ∧ (j (a.cast h.1.symm)).val * st a + ((Shape.mk s.rank w).rowMajor.symm n a).val - lo a < s.size a
      then (x (fun a => ⟨(j (a.cast h.1.symm)).val * st a + ((Shape.mk s.rank w).rowMajor.symm n a).val - lo a, (hin a).2⟩) : EReal)
      else ((0 : ℝ) : EReal)) = ((g' n : ℝ) : EReal)) :
    Host.reduceWindowAdd w st lo hi x init h hu j = ((∑ n, g' n : ℝ) : EReal) := by
  show Host.reduceWindow (· + ·) w st lo hi x (fun _ : (⟨0, ![]⟩ : Shape).Idx => init (Shape.Idx.first hu)) h (by decide) j = _
  unfold Host.reduceWindow
  simp only [h0]
  refine (foldl_coe _ g' hg (List.finRange _) 0).trans ?_
  rw [zero_add, ← Fin.sum_univ_def]

theorem r_v4 (i h) : v4 (up q.D) (ix2 i h) = ((suf (nat q.D h) i.val : ℝ) : EReal) := by
  unfold v4
  refine (window_real _ _ _ _ _ _ _ _ _ (fun n => nat q.D h (i.val + n.val)) (by pointwise!) fun n => ?_).trans ?_
  · have w0 : ((⟨2, ![4096, 1]⟩ : Shape).rowMajor.symm n 0).val = n.val := by rw [Idealize.ShloMosaic.Routing.symm_col]; rfl
    have w1 : ((⟨2, ![4096, 1]⟩ : Shape).rowMajor.symm n 1).val = 0 := by rw [Idealize.ShloMosaic.Routing.symm_col]; rfl
    split
    · next g =>
      have g0 := (g 0).2
      change i.val * 1 + ((⟨2, ![4096, 1]⟩ : Shape).rowMajor.symm n 0).val - 0 < 4096 at g0
      rw [w0] at g0
      have e : nat q.D h (i.val + n.val) = q.D (ix2 ⟨i.val + n.val, by omega⟩ h) := dif_pos (by omega)
      rw [e]
      refine congrArg (up q.D) (funext fun a => Fin.ext ?_)
      match a with
      | ⟨0, _⟩ =>
        show i.val * 1 + ((⟨2, ![4096, 1]⟩ : Shape).rowMajor.symm n 0).val - 0 = i.val + n.val
        rw [w0]; omega
      | ⟨1, _⟩ =>
        show h.val * 1 + ((⟨2, ![4096, 1]⟩ : Shape).rowMajor.symm n 1).val - 0 = h.val
        rw [w1]; omega
    · next g =>
      have e : nat q.D h (i.val + n.val) = 0 := by
        refine dif_neg fun lt => g fun a => ?_
        match a with
        | ⟨0, _⟩ =>
          show 0 ≤ i.val * 1 + ((⟨2, ![4096, 1]⟩ : Shape).rowMajor.symm n 0).val ∧ i.val * 1 + ((⟨2, ![4096, 1]⟩ : Shape).rowMajor.symm n 0).val - 0 < 4096
          rw [w0]; omega
        | ⟨1, _⟩ =>
          show 0 ≤ h.val * 1 + ((⟨2, ![4096, 1]⟩ : Shape).rowMajor.symm n 1).val ∧ h.val * 1 + ((⟨2, ![4096, 1]⟩ : Shape).rowMajor.symm n 1).val - 0 < 16
          rw [w1]; omega
      rw [e]
  · refine congrArg (fun x : ℝ => (x : EReal)) ?_
    rw [← sum_nat, ← Fin.sum_univ_eq_sum_range (fun n => nat q.D h (i.val + n)) 4096]
    exact Fin.sum_congr' _ (Idealize.ShloMosaic.Routing.numel_col 4096).symm |>.symm

theorem r_call0_v0 (i h) : call0_v0 (up q.Fr) (up q.B) (ix2 i h) = ((-(q.Fr (ix2 i h) + q.B (ix2 0 h)) : ℝ) : EReal) := by
  pointwise [call0_v0]
  simp only [up_apply, ← EReal.coe_add, ← EReal.coe_neg]

/-- the sigmoid, as the logarithm's gradient gives it -/
theorem sig_eq (z : ℝ) : Real.exp (z - (max z 0 + Real.log (1 + Real.exp (-|z|)))) = 1 / (1 + Real.exp (-z)) := by
  have p : ∀ y : ℝ, 0 < 1 + Real.exp y := fun y => add_pos_of_pos_of_nonneg one_pos (Real.exp_pos y).le
  rcases le_total 0 z with hz | hz
  · rw [max_eq_left hz, abs_of_nonneg hz, show z - (z + Real.log (1 + Real.exp (-z))) = -Real.log (1 + Real.exp (-z)) by ring,
      Real.exp_neg, Real.exp_log (p _), one_div]
  · rw [max_eq_right hz, abs_of_nonpos hz, neg_neg, zero_add, Real.exp_sub, Real.exp_log (p _), div_eq_div_iff (p _).ne' (p _).ne',
      mul_add, ← Real.exp_add, add_neg_cancel, Real.exp_zero]
    ring

/-- the gate's sigmoid of the negative -/
def In.sg (i : Fin 4096) (h : Fin 16) : ℝ := 1 / (1 + Real.exp (q.Fr (ix2 i h) + q.B (ix2 0 h)))

theorem r_v2_1 (i h) : v2_1 (up q.Fr) (up q.B) (ix2 i h) = ((q.sg i h : ℝ) : EReal) := by
  pointwise [v2_1, call0_call0_v21]
  simp only [r_call0_v0]
  unfold In.sg
  generalize e : -(q.Fr (ix2 i h) + q.B (ix2 0 h)) = z
  have lg : (max ((z : ℝ) : EReal) 0 + Ideal.log1p (Ideal.exp (-max ((z : ℝ) : EReal) (-((z : ℝ) : EReal)))) : EReal)
      = ((max z 0 + Real.log (1 + Real.exp (-|z|)) : ℝ) : EReal) := by
    rw [← EReal.coe_neg, max_real, ← EReal.coe_neg, Ideal.exp_coe]
    show max ((z : ℝ) : EReal) 0 + Ideal.log (1 + _) = _
    rw [one_real, ← EReal.coe_add, Ideal.log_coe, if_neg (not_le.mpr (add_pos_of_pos_of_nonneg one_pos (Real.exp_pos _).le)), zero_real,
      max_real, ← EReal.coe_add]
    rfl
  rw [if_neg (not_not.mpr rfl), word_inf, if_neg (EReal.coe_ne_top z)]
  refine (congrArg (fun y : EReal => Ideal.exp ((z : EReal) - if y = ⊤ then 0 else y)) lg).trans ?_
  show Ideal.exp ((z : EReal) - if ((max z 0 + Real.log (1 + Real.exp (-|z|)) : ℝ) : EReal) = ⊤ then 0 else _) = _
  rw [if_neg (EReal.coe_ne_top _), ← EReal.coe_sub, Ideal.exp_coe, sig_eq, ← e, neg_neg]

/-- the number zero -/
theorem no_word (φ : FTy) : (FloatOps.sitofp (F := Ideal) φ (0#32) : EReal) = 0 := by
  show (((BitVec.toInt 0#32 : ℤ) : ℝ) : EReal) = 0
  norm_num

/-- the gradient of the gate's columns -/
def In.df (i : Fin 4096) (h : Fin 16) : ℝ := suf (nat q.D h) i.val * q.sg i h
theorem r_v5 (i h) : v5 (up q.Fr) (up q.B) (up q.D) (ix2 i h) = ((q.df i h : ℝ) : EReal) := by
  pointwise [v5]
  rw [r_v4, r_v2_1, ← EReal.coe_neg, ← EReal.coe_mul, ← EReal.coe_neg]
  refine congrArg (fun x : ℝ => (x : EReal)) ?_
  rw [In.df, neg_mul, neg_neg]

/-- the packed columns' gradient: the step sizes' first, then the gates' -/
def In.cols (T : S4096x16.Idx → EReal) (i : Fin 4096) (x : Fin 5760) : EReal :=
  if h : 5632 ≤ x.val ∧ x.val < 5648 then T (ix2 i ⟨x.val - 5632, by omega⟩)
  else if h : 5648 ≤ x.val ∧ x.val < 5664 then ((q.df i ⟨x.val - 5648, by omega⟩ : ℝ) : EReal) else 0

theorem r_out0 (T : S4096x16.Idx → EReal) (i x) : out0 (up q.Fr) (up q.B) (up q.D) T (ix2 i x) = q.cols T i x := by
  pointwise [out0]
  unfold In.cols
  by_cases a : 5632 ≤ x.val ∧ x.val - 5632 < 32
  · rw [dif_pos a]
    by_cases b : x.val - 5632 < 16
    · rw [dif_pos b, dif_pos (by omega)]
    · rw [dif_neg b, dif_neg (by omega), dif_pos (by omega), r_v5]
      exact congrArg (fun z : ℝ => (z : EReal)) (congrArg (q.df i) (Fin.ext (by dsimp only; omega)))
  · rw [dif_neg a, dif_neg (by omega), dif_neg (by omega)]
    exact no_word .bf16

/-- the bias's gradient -/
def In.db (l : Fin 128) : ℝ := if h : 16 ≤ l.val ∧ l.val < 32 then ∑ i : Fin 4096, q.df i ⟨l.val - 16, by omega⟩ else 0
theorem r_out1 (l) : out1 (up q.Fr) (up q.B) (up q.D) (ix2 0 l) = ((q.db l : ℝ) : EReal) := by
  pointwise [out1]
  unfold In.db
  simp only [r_v5]
  by_cases a : 16 ≤ l.val ∧ l.val < 32
  · rw [dif_pos (by omega), dif_pos a, sum_coe]
  · rw [dif_neg (by omega), dif_neg a]
    exact (no_word .f32).trans EReal.coe_zero.symm
end Cert.GateRefIdeal.Plain
-- ==== Proof.GateStep.lean ====
module
public import proofs.«01_k».proof.Proof.Gen.GateIdeal.Value
public import proofs.«01_k».proof.Proof.GateRef
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384

/-! The forget gate's gradient: the blocks from the last to the first, with the sum below a block carried, over the reals. -/
noncomputable section
open Idealize.ShloMosaic Idealize.ShloMosaic.TcCoe Idealize.SL.Sem

namespace Cert.GateIdeal.Grad
open Cert.GateIdeal Cert.GateIdeal.Gen Cert.Real
open Cert.GateRefIdeal.Plain (suf)

/-! ## A block -/
theorem tri_val (i j : Fin 128) : k0_pay1 (F := Ideal) (ix2 i j) = ((if i.val ≤ j.val then 1 else 0 : ℝ) : EReal) := by
  pointwise [k0_pay1]
  have hi := i.isLt
  have hj := j.isLt
  simp (disch := omega) only [WordCmp.cmpi_sle_ofNat]
  split_ifs with h
  · rw [decide_eq_true h]
    show (((BitVec.toInt (BitVec.setWidth 32 (BitVec.ofBool true)) : ℤ) : ℝ) : EReal) = _
    rw [show BitVec.toInt (BitVec.setWidth 32 (BitVec.ofBool true)) = 1 by decide, Int.cast_one]
  · rw [decide_eq_false h]
    show (((BitVec.toInt (BitVec.setWidth 32 (BitVec.ofBool false)) : ℤ) : ℝ) : EReal) = _
    norm_num

theorem mask_val (i l : Fin 128) : k0_pay2 (ix2 i l) = BitVec.ofBool (decide (16 ≤ l.val ∧ l.val < 32)) := by
  pointwise [k0_pay2]
  have hl := l.isLt
  have e1 : IntOp.cmpi .sge (BitVec.ofNat 32 l.val) 16#32 = BitVec.ofBool (decide (16 ≤ l.val)) :=
    WordCmp.cmpi_sge_ofNat (b := 16) (by omega) (by omega)
  have e2 : IntOp.cmpi .slt (BitVec.ofNat 32 l.val) 32#32 = BitVec.ofBool (decide (l.val < 32)) :=
    WordCmp.cmpi_slt_ofNat (b := 32) (by omega) (by omega)
  rw [e1, e2, WordCmp.andi_ofBool, Bool.decide_and]

/-- a block's part of the sum of the rows from `b + r` on -/
theorem tri_sum (u : ℕ → ℝ) (b : ℕ) (hb : b + 128 ≤ 4096) (r : Fin 128) :
    (∑ j : Fin 128, (if r.val ≤ j.val then 1 else 0) * u (b + j.val)) + suf u (b + 128) = suf u (b + r.val) := by
  have e : (∑ j : Fin 128, (if r.val ≤ j.val then 1 else 0) * u (b + j.val)) = ∑ j ∈ Finset.Ico (b + r.val) (b + 128), u j := by
    rw [Fin.sum_univ_eq_sum_range (fun j => (if r.val ≤ j then (1 : ℝ) else 0) * u (b + j)) 128, add_comm b r.val, add_comm b 128,
      ← Finset.sum_Ico_add u r.val 128 b]
    refine (Finset.sum_subset (s₁ := Finset.Ico r.val 128) (fun x hx => Finset.mem_range.mpr (Finset.mem_Ico.mp hx).2) (fun x hx hn => ?_)).symm.trans
      (Finset.sum_congr rfl fun x hx => ?_)
    · rw [if_neg, zero_mul]
      intro h
      exact hn (Finset.mem_Ico.mpr ⟨h, Finset.mem_range.mp hx⟩)
    · rw [if_pos (Finset.mem_Ico.mp hx).1, one_mul]
  have hr := r.isLt
  rw [e, suf, suf]
  exact Finset.sum_Ico_consecutive _ (by omega) (by omega)

section block
variable {x : FVec Ideal S128x128 .f32} {cy : FVec Ideal S1x128 .f32} {u : Fin 128 → ℕ → ℝ} {b : ℕ}
theorem pay8_val (hb : b + 128 ≤ 4096) (hx : ∀ r l, x (ix2 r l) = ((u l (b + r.val) : ℝ) : EReal)) (hc : ∀ l, cy (ix2 0 l) = ((suf (u l) (b + 128) : ℝ) : EReal)) (r l) :
    k0_pay8 (F := Ideal) k0_pay1 cy x (ix2 r l) = ((suf (u l) (b + r.val) : ℝ) : EReal) := by
  pointwise [k0_pay8]
  simp only [tri_val, hx, hc, ← EReal.coe_sub, sub_self, ← EReal.coe_mul, sum_coe, mul_zero, Finset.sum_const_zero, ← EReal.coe_add, add_zero]
  exact congrArg (fun z : ℝ => (z : EReal)) (tri_sum (u l) b hb r)

theorem pay6_val {y : FVec Ideal S128x128 .f32} (hy : ∀ r l, y (ix2 r l) = ((suf (u l) (b + r.val) : ℝ) : EReal)) (l) :
    k0_pay6 (F := Ideal) y (ix2 0 l) = ((suf (u l) b : ℝ) : EReal) := by
  pointwise [k0_pay6]
  exact hy 0 l

/-- the gate's gradient on a row, lane by lane -/
def g (u f : Fin 128 → ℕ → ℝ) (bb : Fin 128 → ℝ) (l : Fin 128) (j : ℕ) : ℝ :=
  if h : 16 ≤ l.val ∧ l.val < 32 then suf (u ⟨l.val - 16, by omega⟩) j * (1 / (1 + Real.exp (f l j + bb l))) else 0

theorem pay9_val {f : Fin 128 → ℕ → ℝ} {bb : Fin 128 → ℝ} {xf : FVec Ideal S128x128 .f32} {xb : FVec Ideal S1x128 .f32} (hb : b + 128 ≤ 4096)
    (hx : ∀ r l, x (ix2 r l) = ((u l (b + r.val) : ℝ) : EReal)) (hc : ∀ l, cy (ix2 0 l) = ((suf (u l) (b + 128) : ℝ) : EReal))
    (hf : ∀ r l, xf (ix2 r l) = ((f l (b + r.val) : ℝ) : EReal)) (hbb : ∀ l, xb (ix2 0 l) = ((bb l : ℝ) : EReal)) (r l) :
    k0_pay9 (F := Ideal) k0_pay1 k0_pay2 cy x xf xb (ix2 r l) = ((g u f bb l (b + r.val) : ℝ) : EReal) := by
  pointwise [k0_pay9]
  simp only [pay8_val hb hx hc, hf, hbb, mask_val]
  have e : ∀ p, (⟨(l.val + 128 - 16) % 128, p⟩ : Fin 128) = ⟨(l.val + 112) % 128, Nat.mod_lt _ (by decide)⟩ := fun p => Fin.ext rfl
  rw [e, WordCmp.select_ofBool]
  unfold g
  by_cases h : 16 ≤ l.val ∧ l.val < 32
  · have e' : (⟨(l.val + 112) % 128, Nat.mod_lt _ (by decide)⟩ : Fin 128) = ⟨l.val - 16, by omega⟩ := Fin.ext (by dsimp only; omega)
    rw [if_pos (decide_eq_true h), dif_pos h, e', ← EReal.coe_add, zero_sub, zero_sub, neg_neg, Ideal.exp_coe, one_real, ← EReal.coe_add,
      div_real (add_pos_of_pos_of_nonneg one_pos (Real.exp_pos _).le).ne', ← EReal.coe_mul]
  · rw [decide_eq_false h, dif_neg h]
    rfl

theorem pay7_val {v : Fin 128 → ℕ → ℝ} {y : FVec Ideal S128x128 .f32} (hb : b + 128 ≤ 4096) (hy : ∀ r l, y (ix2 r l) = ((v l (b + r.val) : ℝ) : EReal))
    (hc : ∀ l, cy (ix2 0 l) = ((suf (v l) (b + 128) : ℝ) : EReal)) (l) :
    k0_pay7 (F := Ideal) cy y (ix2 0 l) = ((suf (v l) b : ℝ) : EReal) := by
  pointwise [k0_pay7]
  simp only [hy, hc, sum_coe, ← EReal.coe_add]
  refine congrArg (fun z : ℝ => (z : EReal)) ?_
  have := tri_sum (v l) b hb 0
  simp only [Fin.val_zero, Nat.zero_le, if_true, one_mul, add_zero] at this
  rw [← this, add_comm]

theorem pay5_val {v : Fin 128 → ℕ → ℝ} {T : Fin 128 → ℕ → EReal} {y t : FVec Ideal S128x128 .f32} (hy : ∀ r l, y (ix2 r l) = ((v l (b + r.val) : ℝ) : EReal))
    (ht : ∀ r l, t (ix2 r l) = T l (b + r.val)) (r l) :
    k0_pay5 (F := Ideal) y (k0_pay10 t) (ix2 r l) = ((v l (b + r.val) : ℝ) : EReal) + T l (b + r.val) := by
  pointwise [k0_pay5, k0_pay10]
  rw [hy, ht]
end block

/-! ## The trips -/
theorem off_eq : ∀ k : Fin k0_t1_loop.trips, k0_off1 k = ![(31 - k.val) * 128, 0] := by decide +kernel
theorem trips_eq : k0_t1_loop.trips = 32 := by decide +kernel

section trip
variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S4096x128 .f32) (harg4 : arg4.IsWhole) (arg5 : Memref sig .tc .hbm S4096x5760 .bf16) (harg5 : arg5.IsWhole) (arg6 : Memref sig .tc .vmem S4096x128 .bf16) (harg6 : arg6.IsWhole) (arg7 : Memref sig .tc .vmem S1x128 .f32) (harg7 : arg7.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty)

/-- the rectangle that a trip reads and writes -/
abbrev rect (k : Fin k0_t1_loop.trips) : Rect S4096x128 := Rect.unit (s := S4096x128) (k0_off1 k) S128x128.size (k0_off1_inb k)
abbrev ld1 (k : Fin k0_t1_loop.trips) : Vec Ideal S128x128 .f32 := arg1.view.readAt (Elt Ideal) (rect k).toLoadRect X1
abbrev ld2 (k : Fin k0_t1_loop.trips) : Vec Ideal S128x128 .f32 := arg2.view.readAt (Elt Ideal) (rect k).toLoadRect X2
abbrev ld3 : Vec Ideal S1x128 .f32 := arg3.view.readAt (Elt Ideal) (Rect.unit (s := S1x128) ![0, 0] S1x128.size inb_S1x128_S1x128_0_0).toLoadRect X3
abbrev ld4 (k : Fin k0_t1_loop.trips) : Vec Ideal S128x128 .f32 := arg4.view.readAt (Elt Ideal) (rect k).toLoadRect X4

theorem tripR_eq (k : Fin k0_t1_loop.trips) (acc : FVec Ideal S1x128 .f32 × FVec Ideal S1x128 .f32) :
    tripR_k0_t1 (F := Ideal) 𝒱 c bd i arg1 harg1 arg2 harg2 arg3 harg3 arg4 harg4 arg5 harg5 arg6 harg6 arg7 harg7 X1 X2 X3 X4 k acc
      = (k0_pay6 (k0_pay8 k0_pay1 acc.1 (ld1 arg1 X1 k)), k0_pay7 acc.2 (k0_pay9 k0_pay1 k0_pay2 acc.1 (ld1 arg1 X1 k) (ld2 arg2 X2 k) (ld3 arg3 X3))) := by
  unfold tripR_k0_t1 trip_k0_t1
  rfl
theorem tripL_eq (k : Fin k0_t1_loop.trips) (acc : FVec Ideal S1x128 .f32 × FVec Ideal S1x128 .f32) :
    tripL_k0_t1 (F := Ideal) 𝒱 c bd i arg1 harg1 arg2 harg2 arg3 harg3 arg4 harg4 arg5 harg5 arg6 harg6 arg7 harg7 X1 X2 X3 X4 k acc
      = [⟨rect k, k0_pay5 (k0_pay9 k0_pay1 k0_pay2 acc.1 (ld1 arg1 X1 k) (ld2 arg2 X2 k) (ld3 arg3 X3)) (k0_pay10 (ld4 arg4 X4 k))⟩] := by
  unfold tripL_k0_t1 trip_k0_t1
  rfl

theorem emb_eq (k : Fin k0_t1_loop.trips) (r l : Fin 128) : (rect k).emb (ix2 r l) = ix2 ⟨(31 - k.val) * 128 + r.val, by have := k.isLt.trans_eq trips_eq; omega⟩ l := by
  funext a
  refine Fin.ext ?_
  show k0_off1 k a + 1 * _ = _
  rw [off_eq]
  match a with
  | ⟨0, _⟩ =>
    show (31 - k.val) * 128 + 1 * r.val = (31 - k.val) * 128 + r.val
    omega
  | ⟨1, _⟩ =>
    show 0 + 1 * l.val = l.val
    omega
theorem row_eq (l : Fin 128) : (Rect.unit (s := S1x128) ![0, 0] S1x128.size inb_S1x128_S1x128_0_0).emb (ix2 0 l) = ix2 0 l := by
  funext a
  refine Fin.ext ?_
  match a with
  | ⟨0, _⟩ => rfl
  | ⟨1, _⟩ =>
    show 0 + 1 * l.val = l.val
    omega

variable {u f : Fin 128 → ℕ → ℝ} {bb : Fin 128 → ℝ} {T : Fin 128 → ℕ → EReal}
variable (h1 : ∀ i l, arg1.view.read (Elt Ideal) X1 (ix2 i l) = ((u l i.val : ℝ) : EReal)) (h2 : ∀ i l, arg2.view.read (Elt Ideal) X2 (ix2 i l) = ((f l i.val : ℝ) : EReal))
  (h3 : ∀ l, arg3.view.read (Elt Ideal) X3 (ix2 0 l) = ((bb l : ℝ) : EReal)) (h4 : ∀ i l, arg4.view.read (Elt Ideal) X4 (ix2 i l) = T l i.val)
include h1 h2 h3 h4

/-- what the last trips leave: the sums carried, and every piece written -/
theorem st_inv (init : FVec Ideal S1x128 .f32 × FVec Ideal S1x128 .f32) (i1 : ∀ l, init.1 (ix2 0 l) = ((0 : ℝ) : EReal)) (i2 : ∀ l, init.2 (ix2 0 l) = ((0 : ℝ) : EReal))
    (G : S4096x128.Idx → EReal) (hG : ∀ i l, G (ix2 i l) = ((g u f bb l i.val : ℝ) : EReal) + T l i.val) : ∀ k, k ≤ 32 →
    (∀ l, (st_k0_t1 (F := Ideal) 𝒱 c bd i arg1 harg1 arg2 harg2 arg3 harg3 arg4 harg4 arg5 harg5 arg6 harg6 arg7 harg7 X1 X2 X3 X4 init k).1.1 (ix2 0 l) = ((suf (u l) (4096 - 128 * k) : ℝ) : EReal))
    ∧ (∀ l, (st_k0_t1 (F := Ideal) 𝒱 c bd i arg1 harg1 arg2 harg2 arg3 harg3 arg4 harg4 arg5 harg5 arg6 harg6 arg7 harg7 X1 X2 X3 X4 init k).1.2 (ix2 0 l) = ((suf (g u f bb l) (4096 - 128 * k) : ℝ) : EReal))
    ∧ ∀ p ∈ (st_k0_t1 (F := Ideal) 𝒱 c bd i arg1 harg1 arg2 harg2 arg3 harg3 arg4 harg4 arg5 harg5 arg6 harg6 arg7 harg7 X1 X2 X3 X4 init k).2, ∀ x, p.2 x = G (p.1.emb x)
  | 0, _ => by
    refine ⟨fun l => ?_, fun l => ?_, fun p hp => ?_⟩
    · exact (i1 l).trans (by rw [suf, Nat.mul_zero, Nat.sub_zero, Finset.Ico_self, Finset.sum_empty])
    · exact (i2 l).trans (by rw [suf, Nat.mul_zero, Nat.sub_zero, Finset.Ico_self, Finset.sum_empty])
    · exact absurd hp (List.not_mem_nil)
  | k + 1, hk => by
    obtain ⟨a1, a2, a3⟩ := st_inv init i1 i2 G hG k (by omega)
    have e := st_k0_t1_succ (F := Ideal) 𝒱 c bd i arg1 harg1 arg2 harg2 arg3 harg3 arg4 harg4 arg5 harg5 arg6 harg6 arg7 harg7 X1 X2 X3 X4 init ⟨k, by rw [trips_eq]; omega⟩
    have hb : (31 - k) * 128 + 128 ≤ 4096 := by omega
    have en : 4096 - 128 * k = (31 - k) * 128 + 128 := by omega
    have es : 4096 - 128 * (k + 1) = (31 - k) * 128 := by omega
    rw [en] at a1 a2
    have l1 : ∀ r l, ld1 arg1 X1 ⟨k, by rw [trips_eq]; omega⟩ (ix2 r l) = ((u l ((31 - k) * 128 + r.val) : ℝ) : EReal) := fun r l =>
      (congrArg (arg1.view.read (Elt Ideal) X1) (emb_eq ⟨k, by rw [trips_eq]; omega⟩ r l)).trans (h1 _ l)
    have l2 : ∀ r l, ld2 arg2 X2 ⟨k, by rw [trips_eq]; omega⟩ (ix2 r l) = ((f l ((31 - k) * 128 + r.val) : ℝ) : EReal) := fun r l =>
      (congrArg (arg2.view.read (Elt Ideal) X2) (emb_eq ⟨k, by rw [trips_eq]; omega⟩ r l)).trans (h2 _ l)
    have l3 : ∀ l, ld3 arg3 X3 (ix2 0 l) = ((bb l : ℝ) : EReal) := fun l =>
      (congrArg (arg3.view.read (Elt Ideal) X3) (row_eq l)).trans (h3 l)
    have l4 : ∀ r l, ld4 arg4 X4 ⟨k, by rw [trips_eq]; omega⟩ (ix2 r l) = T l ((31 - k) * 128 + r.val) := fun r l =>
      (congrArg (arg4.view.read (Elt Ideal) X4) (emb_eq ⟨k, by rw [trips_eq]; omega⟩ r l)).trans (h4 _ l)
    rw [es]
    refine ⟨fun l => ?_, fun l => ?_, fun p hp => ?_⟩
    · rw [congrArg (fun z => z.1.1) e, tripR_eq]
      exact pay6_val (pay8_val hb l1 a1) l
    · rw [congrArg (fun z => z.1.2) e, tripR_eq]
      exact pay7_val hb (pay9_val hb l1 a1 l2 l3) a2 l
    · rw [congrArg (fun z => z.2) e, tripL_eq] at hp
      rcases List.mem_append.mp hp with hp | hp
      · obtain rfl := List.mem_singleton.mp hp
        intro x
        idx_vars x
        refine (pay5_val (pay9_val hb l1 a1 l2 l3) l4 x0 x1).trans ?_
        exact (hG _ _).symm.trans (congrArg G (emb_eq ⟨k, by rw [trips_eq]; omega⟩ x0 x1).symm)
      · exact a3 p hp
end trip

/-! ## What the body leaves -/
section body
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S1x128 .f32) (harg3 : arg3.IsWhole) (arg4 : Memref sig .tc .vmem S4096x128 .f32) (harg4 : arg4.IsWhole) (arg6 : Memref sig .tc .vmem S4096x128 .bf16) (harg6 : arg6.IsWhole) (arg7 : Memref sig .tc .vmem S1x128 .f32) (harg7 : arg7.IsWhole)
variable (x0 : Vec Ideal S4096x128 .f32) (x1 : Vec Ideal S4096x128 .f32) (x2 : Vec Ideal S1x128 .f32) (x3 : Vec Ideal S4096x128 .f32)

theorem run4 : (kernelRun0_A (F := Ideal) c i arg1 harg1 arg2 harg2 arg3 harg3 arg4 harg4 arg6 harg6 arg7 harg7 x0 x1 x2 x3).1 = (st_k0_t1 (F := Ideal) Variants.none c none i arg1 harg1 arg2 harg2 arg3 harg3 arg4 harg4 (Memref.whole main_v4) (Memref.isWhole_whole _) arg6 harg6 arg7 harg7 (harg1.unread x0) (harg2.unread x1) (harg3.unread x2) (harg4.unread x3) (k0_pay3, k0_pay4) k0_t1_loop.trips).2 := by
  unfold kernelRun0_A
  rfl
theorem run5 : (kernelRun0_A (F := Ideal) c i arg1 harg1 arg2 harg2 arg3 harg3 arg4 harg4 arg6 harg6 arg7 harg7 x0 x1 x2 x3).2.1 = [⟨Rect.unit (s := S1x128) ![0, 0] S1x128.size inb_S1x128_S1x128_0_0, (st_k0_t1 (F := Ideal) Variants.none c none i arg1 harg1 arg2 harg2 arg3 harg3 arg4 harg4 (Memref.whole main_v4) (Memref.isWhole_whole _) arg6 harg6 arg7 harg7 (harg1.unread x0) (harg2.unread x1) (harg3.unread x2) (harg4.unread x3) (k0_pay3, k0_pay4) k0_t1_loop.trips).1.2⟩] := by
  unfold kernelRun0_A
  rfl
theorem zero3 (l) : k0_pay3 (F := Ideal) (ix2 0 l) = ((0 : ℝ) : EReal) := by
  pointwise! [k0_pay3]
theorem zero4 (l) : k0_pay4 (F := Ideal) (ix2 0 l) = ((0 : ℝ) : EReal) := by
  pointwise! [k0_pay4]

variable {u f : Fin 128 → ℕ → ℝ} {bb : Fin 128 → ℝ} {T : Fin 128 → ℕ → EReal}
variable (h0 : ∀ i l, x0 (ix2 i l) = ((u l i.val : ℝ) : EReal)) (h1 : ∀ i l, x1 (ix2 i l) = ((f l i.val : ℝ) : EReal))
  (h2 : ∀ l, x2 (ix2 0 l) = ((bb l : ℝ) : EReal)) (h3 : ∀ i l, x3 (ix2 i l) = T l i.val)
include h0 h1 h2 h3

theorem inv32 (G : S4096x128.Idx → EReal) (hG : ∀ i l, G (ix2 i l) = ((g u f bb l i.val : ℝ) : EReal) + T l i.val) :
    (∀ l, (st_k0_t1 (F := Ideal) Variants.none c none i arg1 harg1 arg2 harg2 arg3 harg3 arg4 harg4 (Memref.whole main_v4) (Memref.isWhole_whole _) arg6 harg6 arg7 harg7 (harg1.unread x0) (harg2.unread x1) (harg3.unread x2) (harg4.unread x3) (k0_pay3, k0_pay4) k0_t1_loop.trips).1.2 (ix2 0 l) = ((suf (g u f bb l) 0 : ℝ) : EReal))
    ∧ ∀ p ∈ (st_k0_t1 (F := Ideal) Variants.none c none i arg1 harg1 arg2 harg2 arg3 harg3 arg4 harg4 (Memref.whole main_v4) (Memref.isWhole_whole _) arg6 harg6 arg7 harg7 (harg1.unread x0) (harg2.unread x1) (harg3.unread x2) (harg4.unread x3) (k0_pay3, k0_pay4) k0_t1_loop.trips).2, ∀ x, p.2 x = G (p.1.emb x) := by
  have := st_inv Variants.none c none i arg1 harg1 arg2 harg2 arg3 harg3 arg4 harg4 (Memref.whole main_v4) (Memref.isWhole_whole _) arg6 harg6 arg7 harg7 (harg1.unread x0) (harg2.unread x1) (harg3.unread x2) (harg4.unread x3)
    (fun i l => (congrFun (harg1.read_unread x0) _).trans (h0 i l)) (fun i l => (congrFun (harg2.read_unread x1) _).trans (h1 i l))
    (fun l => (congrFun (harg3.read_unread x2) _).trans (h2 l)) (fun i l => (congrFun (harg4.read_unread x3) _).trans (h3 i l))
    (k0_pay3, k0_pay4) zero3 zero4 G hG k0_t1_loop.trips (le_of_eq trips_eq)
  refine ⟨fun l => (this.2.1 l).trans ?_, this.2.2⟩
  rw [trips_eq]

theorem out4_val (a l) : out0_A_4 (F := Ideal) c i arg1 harg1 arg2 harg2 arg3 harg3 arg4 harg4 arg6 harg6 arg7 harg7 x0 x1 x2 x3 (ix2 a l) = ((g u f bb l a.val : ℝ) : EReal) + T l a.val := by
  unfold out0_A_4
  refine View.read_writes_apply_of_pieces VO0_4 _ (fun j => ((g u f bb (j 1) (j 0).val : ℝ) : EReal) + T (j 1) (j 0).val) _ (fun p hp x => ?_) _
    (cover0_A_4 c i arg1 harg1 arg2 harg2 arg3 harg3 arg4 harg4 arg6 harg6 arg7 harg7 x0 x1 x2 x3 _)
  rw [run4] at hp
  exact (inv32 c i arg1 harg1 arg2 harg2 arg3 harg3 arg4 harg4 arg6 harg6 arg7 harg7 x0 x1 x2 x3 h0 h1 h2 h3 (fun j => ((g u f bb (j 1) (j 0).val : ℝ) : EReal) + T (j 1) (j 0).val) (fun _ _ => rfl)).2 p hp x

theorem out5_val (l) : out0_A_5 (F := Ideal) c i arg1 harg1 arg2 harg2 arg3 harg3 arg4 harg4 arg6 harg6 arg7 harg7 x0 x1 x2 x3 (ix2 0 l) = ((suf (g u f bb l) 0 : ℝ) : EReal) := by
  unfold out0_A_5
  refine View.read_writes_apply_of_pieces VO0_5 _ (fun j => ((suf (g u f bb (j 1)) 0 : ℝ) : EReal)) _ (fun p hp y => ?_) _
    (cover0_A_5 c i arg1 harg1 arg2 harg2 arg3 harg3 arg4 harg4 arg6 harg6 arg7 harg7 x0 x1 x2 x3 _)
  rw [run5] at hp
  obtain rfl := List.mem_singleton.mp hp
  idx_vars y
  obtain rfl : y0 = 0 := Subsingleton.elim _ _
  refine ((inv32 c i arg1 harg1 arg2 harg2 arg3 harg3 arg4 harg4 arg6 harg6 arg7 harg7 x0 x1 x2 x3 h0 h1 h2 h3 (fun j => ((g u f bb (j 1) (j 0).val : ℝ) : EReal) + T (j 1) (j 0).val) (fun _ _ => rfl)).1 y1).trans ?_
  exact congrArg (fun z : S1x128.Idx => ((suf (g u f bb (z 1)) 0 : ℝ) : EReal)) (row_eq y1).symm
end body
end Cert.GateIdeal.Grad
end
-- ==== Proof.GateVal.lean ====
module
public import proofs.«01_k».proof.Proof.GateStep
@[expose] public section
set_option maxRecDepth 16384

/-! The forget gate's gradient: the kernel's results are the plain program's. -/
noncomputable section
open Idealize.ShloMosaic Idealize.ShloMosaic.TcCoe Idealize.SL.Sem

namespace Cert.GateIdeal.Grad
open Cert.GateIdeal Cert.GateIdeal.Gen Cert.Real
open Cert.GateRefIdeal.Plain (suf nat In out0 out1 r_out0 r_out1)
variable (m : (ℓ : Loc nD τ sig) → Buf (Elt Ideal) ℓ)

theorem V0 (c : Dev nD) : V m c main_v0 = pad (s := S4096x16) (α := EReal) S4096x5760 ![0, 5648] ![0, 96] ![0, 0] (m ((c : Thread nD τ).loc main_arg0) : FVec Ideal S4096x16 .f32) (sitofp (F := Ideal) .f32 (constantI S_ 32 0#32)) pads_S4096x16_S4096x5760_000_5648960 h_S_ := by
  unfold V
  simp only [List.flatten_cons, List.flatten_nil, List.append_nil, StableHlo.after_append]
  after_results
  rfl
theorem V1 (c : Dev nD) : V m c main_v1 = pad (s := S4096x16) (α := EReal) S4096x128 ![0, 0] ![0, 112] ![0, 0] (m ((c : Thread nD τ).loc main_arg2) : FVec Ideal S4096x16 .f32) (sitofp (F := Ideal) .f32 (constantI S_ 32 0#32)) pads_S4096x16_S4096x128_000_01120 h_S_ := by
  unfold V
  simp only [List.flatten_cons, List.flatten_nil, List.append_nil, StableHlo.after_append]
  after_results
  rfl
theorem V2 (c : Dev nD) : V m c main_v2 = pad (s := S1x16) (α := EReal) S1x128 ![0, 16] ![0, 96] ![0, 0] (m ((c : Thread nD τ).loc main_arg1) : FVec Ideal S1x16 .f32) (sitofp (F := Ideal) .f32 (constantI S_ 32 0#32)) pads_S1x16_S1x128_000_16960 h_S_ := by
  unfold V
  simp only [List.flatten_cons, List.flatten_nil, List.append_nil, StableHlo.after_append]
  after_results
  rfl
theorem V3 (c : Dev nD) : V m c main_v3 = pad (s := S4096x16) (α := EReal) S4096x128 ![0, 0] ![0, 112] ![0, 0] (m ((c : Thread nD τ).loc main_arg3) : FVec Ideal S4096x16 .f32) (sitofp (F := Ideal) .f32 (constantI S_ 32 0#32)) pads_S4096x16_S4096x128_000_01120 h_S_ := by
  unfold V
  simp only [List.flatten_cons, List.flatten_nil, List.append_nil, StableHlo.after_append]
  after_results
  rfl
theorem V5 (c : Dev nD) (j : S4096x5760.Idx) : (V m c main_v5_0 : S4096x5760.Idx → EReal) j = (0 : EReal) := by
  have e : V m c main_v5_0 = (broadcastInDim S4096x5760 ![] bcast_S_S4096x5760 (constant S_ .bf16 0x0000#16) : FVec Ideal S4096x5760 .bf16) := by
    unfold V; after_results
    rfl
  rw [e]
  pointwise!

theorem idx : ∀ t : Fin cfg0.N, win0_0.index t = ![0, 0] ∧ win0_1.index t = ![0, 44] ∧ win0_2.index t = ![0, 0] ∧ win0_3.index t = ![0, 0]
    ∧ win0_4.index t = ![0, 44] ∧ win0_5.index t = ![0, 0] :=
  (by decide +kernel : ∀ t : Fin grid0.N, _)
theorem e0 (t : Fin cfg0.N) (i k) : ((cfg0.win 0).blk t).view.emb (ix2 i k) = ix2 i k := by blk_ext [idx t]
theorem e1 (t : Fin cfg0.N) (i : Fin 4096) (k : Fin 128) : ((cfg0.win 1).blk t).view.emb (ix2 i k) = (ix2 i ⟨5632 + k.val, by omega⟩ : S4096x5760.Idx) := by blk_ext [idx t]
theorem e2 (t : Fin cfg0.N) (i k) : ((cfg0.win 2).blk t).view.emb (ix2 i k) = ix2 i k := by blk_ext [idx t]
theorem e3 (t : Fin cfg0.N) (i k) : ((cfg0.win 3).blk t).view.emb (ix2 i k) = ix2 i k := by blk_ext [idx t]
theorem e4 (t : Fin cfg0.N) (i : Fin 4096) (k : Fin 128) : ((cfg0.win 4).blk t).view.emb (ix2 i k) = (ix2 i ⟨5632 + k.val, by omega⟩ : S4096x5760.Idx) := by blk_ext [idx t]
theorem e5 (t : Fin cfg0.N) (i k) : ((cfg0.win 5).blk t).view.emb (ix2 i k) = ix2 i k := by blk_ext [idx t]

/-- the arguments are reals, but for the step sizes' gradient -/
structure Args (q : In) (c : Dev nD) : Prop where
  h0 : (m ((c : Thread nD τ).loc main_arg0) : FVec Ideal S4096x16 .f32) = up q.Fr
  h1 : (m ((c : Thread nD τ).loc main_arg1) : FVec Ideal S1x16 .f32) = up q.B
  h2 : (m ((c : Thread nD τ).loc main_arg2) : FVec Ideal S4096x16 .f32) = up q.D

/-- the lanes of the sums' gradient -/
def lu (q : In) (l : Fin 128) (j : ℕ) : ℝ := if h : l.val < 16 then nat q.D ⟨l.val, h⟩ j else 0
/-- the lanes of the gates -/
def lf (q : In) (l : Fin 128) (j : ℕ) : ℝ := if h : 16 ≤ l.val ∧ l.val < 32 then nat q.Fr ⟨l.val - 16, by omega⟩ j else 0
/-- the lanes of the bias -/
def lb (q : In) (l : Fin 128) : ℝ := if h : 16 ≤ l.val ∧ l.val < 32 then q.B (ix2 0 ⟨l.val - 16, by omega⟩) else 0
/-- the lanes of the step sizes' gradient -/
def lt (T : S4096x16.Idx → EReal) (l : Fin 128) (j : ℕ) : EReal := if h : l.val < 16 ∧ j < 4096 then T (ix2 ⟨j, h.2⟩ ⟨l.val, h.1⟩) else 0

variable {m} {q : In} {c : Dev nD} (A : Args m q c)
include A

theorem b0 (t : Fin cfg0.N) (i l) : iblk m c 0 t (ix2 i l) = ((lu q l i.val : ℝ) : EReal) := by
  refine (congrFun (V1 m c) _).trans ?_
  rw [e0, A.h2]
  pointwise!
  unfold lu nat
  split_ifs with h h'
  · rfl
  · exact absurd i.isLt h'
  · exact (Cert.GateRefIdeal.Plain.no_word .f32).trans EReal.coe_zero.symm
theorem b1 (t : Fin cfg0.N) (i l) : iblk m c 1 t (ix2 i l) = ((lf q l i.val : ℝ) : EReal) := by
  refine (congrFun (V0 m c) _).trans ?_
  rw [e1, A.h0]
  pointwise!
  unfold lf nat
  by_cases h : 16 ≤ l.val ∧ l.val < 32
  · rw [dif_pos (by omega), dif_pos h, dif_pos i.isLt]
    exact congrArg (fun z : S4096x16.Idx => ((q.Fr z : ℝ) : EReal)) (congrArg (ix2 i) (Fin.ext (by dsimp only; omega)))
  · rw [dif_neg (by omega), dif_neg h]
    exact (Cert.GateRefIdeal.Plain.no_word .f32).trans EReal.coe_zero.symm
theorem b2 (t : Fin cfg0.N) (l) : iblk m c 2 t (ix2 0 l) = ((lb q l : ℝ) : EReal) := by
  refine (congrFun (V2 m c) _).trans ?_
  rw [e2, A.h1]
  pointwise!
  unfold lb
  by_cases h : 16 ≤ l.val ∧ l.val < 32
  · rw [dif_pos (by omega), dif_pos h, up_apply]
  · rw [dif_neg (by omega), dif_neg h]
    exact (Cert.GateRefIdeal.Plain.no_word .f32).trans EReal.coe_zero.symm
omit A in
theorem b3 (t : Fin cfg0.N) (i l) : iblk m c 3 t (ix2 i l) = lt (m ((c : Thread nD τ).loc main_arg3) : FVec Ideal S4096x16 .f32) l i.val := by
  refine (congrFun (V3 m c) _).trans ?_
  rw [e3]
  pointwise!
  unfold lt
  by_cases h : l.val < 16
  · rw [dif_pos h, dif_pos ⟨h, i.isLt⟩]
  · rw [dif_neg h, dif_neg (fun a => h a.1)]
    exact (Cert.GateRefIdeal.Plain.no_word .f32)

omit A in
theorem g_eq (l : Fin 128) (i : Fin 4096) (h : 16 ≤ l.val ∧ l.val < 32) : g (lu q) (lf q) (lb q) l i.val = q.df i ⟨l.val - 16, by omega⟩ := by
  unfold g
  rw [dif_pos h]
  unfold In.df In.sg
  have e1 : lu q ⟨l.val - 16, by omega⟩ = nat q.D ⟨l.val - 16, by omega⟩ := funext fun j => dif_pos (by dsimp only; omega)
  rw [e1]
  simp only [lf, lb, dif_pos h, nat, dif_pos i.isLt]
omit A in
theorem g_zero (l : Fin 128) (j : ℕ) (h : ¬ (16 ≤ l.val ∧ l.val < 32)) : g (lu q) (lf q) (lb q) l j = 0 := dif_neg h

theorem final4 : (dats m 0 c).arrAt 4 (cfgs 0).N = out0 (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 4 _ (fun β => β (1 : Fin _) = 44) (by decide +kernel) (fun t hf y => ?_) fun j hj => ?_
  · idx_vars y
    rw [A.h0, A.h1, A.h2, e4 t y0 y1, r_out0]
    blk_simp; rw [after0_4]
    refine (out4_val c _ _ _ _ _ _ _ _ _ _ _ _ _ _ _ _ _ (b0 A t) (b1 A t) (b2 A t) (b3 t) y0 y1).trans ?_
    unfold In.cols lt
    have := y0.isLt
    have := y1.isLt
    by_cases h1 : y1.val < 16
    · rw [g_zero _ _ (by omega), dif_pos ⟨h1, y0.isLt⟩, dif_pos (by dsimp only; omega), EReal.coe_zero, zero_add]
      refine congrArg _ (congrArg (ix2 y0) (Fin.ext ?_))
      dsimp only; omega
    · rw [dif_neg (fun h => h1 h.1), add_zero, dif_neg (by dsimp only; omega)]
      by_cases h2 : y1.val < 32
      · rw [g_eq y1 y0 (by omega), dif_pos (by dsimp only; omega)]
        refine congrArg (fun z : ℝ => (z : EReal)) (congrArg (q.df y0) (Fin.ext ?_))
        dsimp only; omega
      · rw [g_zero _ _ (by omega), dif_neg (by dsimp only; omega), EReal.coe_zero]
  · rw [A.h0, A.h1, A.h2]
    refine (V5 m c _).trans ?_
    idx_vars j
    have hj' : ¬ j1.val / 128 = 44 := hj
    refine Eq.trans ?_ (r_out0 q _ j0 j1).symm
    unfold In.cols
    have := j1.isLt
    rw [dif_neg (by omega), dif_neg (by omega)]

theorem final5 : (dats m 0 c).arrAt 5 (cfgs 0).N = out1 (m ((c : Thread nD τ).loc main_arg0)) (m ((c : Thread nD τ).loc main_arg1)) (m ((c : Thread nD τ).loc main_arg2)) := by
  refine (dats m 0 c).arrAt_eq_of_covers 5 _ (by decide +kernel) fun t hf y => ?_
  idx_vars y
  obtain rfl := Subsingleton.elim y0 0
  rw [A.h0, A.h1, A.h2, e5 t 0 y1, r_out1]
  blk_simp; rw [after0_5]
  refine (out5_val c _ _ _ _ _ _ _ _ _ _ _ _ _ _ _ _ _ (b0 A t) (b1 A t) (b2 A t) (b3 t) y1).trans ?_
  refine congrArg (fun z : ℝ => (z : EReal)) ?_
  unfold In.db suf
  rw [← Finset.range_eq_Ico, ← Fin.sum_univ_eq_sum_range (fun j => g (lu q) (lf q) (lb q) y1 j) 4096]
  split_ifs with h
  · exact Finset.sum_congr rfl fun i _ => g_eq y1 i h
  · exact Finset.sum_eq_zero fun i _ => g_zero y1 i.val h
end Cert.GateIdeal.Grad
end
-- ==== Proof.AttnFStep.lean ====
module
public import proofs.«01_k».proof.Proof.Gen.AttnFIdeal.Frame
public import proofs.«01_k».proof.Proof.Gen.AttnFIdeal.Loops
public import Idealize.ShloMosaic.Lib.VecWindow
public import Idealize.ShloMosaic.Lib.Pointwise
public import Idealize.ShloMosaic.Lib.Pipeline.ValueKit
@[expose] public section
set_option maxRecDepth 16384

/-! A grid point of the attention: the two heads' running greatest score, sum and weighted rows, one block of keys
    after the other, and what the point stores. -/
noncomputable section
namespace Cert.AttnFIdeal.Fwd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFIdeal Cert.AttnFIdeal.Gen

variable {F : FTy → Type} [FloatOps F] [Named F]

/-- Rows `1024 r …` of a block of 4096 rows. -/
def vals {e : EltTy} (x : Vec F S4096x128 e) (r : Fin 4) : Vec F S1024x128 e :=
  fun y => x (ix2 ⟨r.val * 1024 + (y 0).val, by have : (y 0).val < 1024 := (y 0).isLt; omega⟩ ⟨(y 1).val, (y 1).isLt⟩)
/-- Rows `1024 r …` of one head's keys. -/
def keys {e : EltTy} (x : Vec F S2x4096x128 e) (h : Fin 2) (r : Fin 4) : Vec F S1x1024x128 e :=
  fun y => x (ix3 h ⟨r.val * 1024 + (y 1).val, by have : (y 1).val < 1024 := (y 1).isLt; omega⟩ ⟨(y 2).val, (y 2).isLt⟩)
/-- One head's queries. -/
def queries {e : EltTy} (x : Vec F S2x1024x128 e) (h : Fin 2) : Vec F S1x1024x128 e :=
  fun y => x (ix3 h ⟨(y 1).val, (y 1).isLt⟩ ⟨(y 2).val, (y 2).isLt⟩)

section Views
variable {κ : Kind} {sp : Space}
theorem read_vals {e : EltTy} (v : View sig κ sp S4096x128 e) (f : v.ty.Contents (Elt F)) {off : Fin 2 → ℕ} (r : Fin 4)
    (inb : ∀ a, off a + S1024x128.size a ≤ S4096x128.size a) (h : off = ![r.val * 1024, 0]) :
    v.readAt (Elt F) (Rect.unit (s := S4096x128) off S1024x128.size inb).toLoadRect f = vals (v.read (Elt F) f) r := by
  subst h
  funext y
  exact congrArg (v.read (Elt F) f) (funext fun a => by
    match a with
    | ⟨0, _⟩ => exact Fin.ext (show r.val * 1024 + 1 * (y 0).val = r.val * 1024 + (y 0).val by omega)
    | ⟨1, _⟩ => exact Fin.ext (show 0 + 1 * (y 1).val = (y 1).val by omega))
theorem read_keys {e : EltTy} (v : View sig κ sp S2x4096x128 e) (f : v.ty.Contents (Elt F)) {off : Fin 3 → ℕ} (h : Fin 2) (r : Fin 4)
    (inb : ∀ a, off a + S1x1024x128.size a ≤ S2x4096x128.size a) (ho : off = ![h.val, r.val * 1024, 0]) :
    v.readAt (Elt F) (Rect.unit (s := S2x4096x128) off S1x1024x128.size inb).toLoadRect f = keys (v.read (Elt F) f) h r := by
  subst ho
  funext y
  have h0 : (y 0).val < 1 := (y 0).isLt
  exact congrArg (v.read (Elt F) f) (funext fun a => by
    match a with
    | ⟨0, _⟩ => exact Fin.ext (show h.val + 1 * (y 0).val = h.val by omega)
    | ⟨1, _⟩ => exact Fin.ext (show r.val * 1024 + 1 * (y 1).val = r.val * 1024 + (y 1).val by omega)
    | ⟨2, _⟩ => exact Fin.ext (show 0 + 1 * (y 2).val = (y 2).val by omega))
theorem read_queries {e : EltTy} (v : View sig κ sp S2x1024x128 e) (f : v.ty.Contents (Elt F)) {off : Fin 3 → ℕ} (h : Fin 2)
    (inb : ∀ a, off a + S1x1024x128.size a ≤ S2x1024x128.size a) (ho : off = ![h.val, 0, 0]) :
    v.readAt (Elt F) (Rect.unit (s := S2x1024x128) off S1x1024x128.size inb).toLoadRect f = queries (v.read (Elt F) f) h := by
  subst ho
  funext y
  have h0 : (y 0).val < 1 := (y 0).isLt
  exact congrArg (v.read (Elt F) f) (funext fun a => by
    match a with
    | ⟨0, _⟩ => exact Fin.ext (show h.val + 1 * (y 0).val = h.val by omega)
    | ⟨1, _⟩ => exact Fin.ext (show 0 + 1 * (y 1).val = (y 1).val by omega)
    | ⟨2, _⟩ => exact Fin.ext (show 0 + 1 * (y 2).val = (y 2).val by omega))
end Views

/-- The block row of the grid point. -/
def row0 (i : grid0.Coords) : Fin 4 := ⟨(i 1).val, (i 1).isLt⟩
/-- The block of trip `n`. -/
def row1 (n : ℕ) : Fin 4 := ⟨n % 4, Nat.mod_lt _ (by norm_num)⟩

theorem trips1 (i : grid0.Coords) : (k0_t1_loop i).trips = (i 1).val := by
  have h : ∀ a : Fin 4, Scf.trips 0#32 (Scalar.addi 0#32 (Scalar.muli (Scalar.divsi (Scalar.subi (BitVec.ofNat 32 a.val) 0#32) 1#32) 1#32)) 1#32 = a.val := by decide +kernel
  exact h (row0 i)
theorem trips2 (i : grid0.Coords) : (k0_t2_loop i).trips = 0 := by
  have h : ∀ a : Fin 4, Scf.trips (Scalar.addi 0#32 (Scalar.muli (Scalar.divsi (Scalar.subi (BitVec.ofNat 32 a.val) 0#32) 1#32) 1#32))
      (Scalar.addi 0#32 (Scalar.subi (BitVec.ofNat 32 a.val) 0#32)) 1#32 = 0 := by decide +kernel
  exact h (row0 i)
theorem iv_eq (i : grid0.Coords) (k : Fin (k0_t1_loop i).trips) :
    (Scalar.indexCast (Scalar.muli (Scf.iv 0#32 1#32 k.val) 1024#32) : Index).toNat = (row1 k.val).val * 1024 := by
  have h : ∀ b : Fin 4, (Scalar.indexCast (Scalar.muli (Scf.iv 0#32 1#32 b.val) 1024#32) : Index).toNat = (b.val % 4) * 1024 := by decide +kernel
  have hk := k.isLt.trans_eq (trips1 i)
  have hi : (i 1).val < 4 := (i 1).isLt
  exact h ⟨k.val, by omega⟩
theorem off1_eq (i : grid0.Coords) (k : Fin (k0_t1_loop i).trips) : k0_off1 i k = ![(row1 k.val).val * 1024, 0] :=
  congrArg (fun z : ℕ => (![z, 0] : Fin 2 → ℕ)) (iv_eq i k)
theorem off2_eq (i : grid0.Coords) (k : Fin (k0_t1_loop i).trips) : k0_off2 i k = ![(0 : Fin 2).val, (row1 k.val).val * 1024, 0] :=
  congrArg (fun z : ℕ => (![0, z, 0] : Fin 3 → ℕ)) (iv_eq i k)
theorem off3_eq (i : grid0.Coords) (k : Fin (k0_t1_loop i).trips) : k0_off3 i k = ![(1 : Fin 2).val, (row1 k.val).val * 1024, 0] :=
  congrArg (fun z : ℕ => (![1, z, 0] : Fin 3 → ℕ)) (iv_eq i k)
theorem lo_eq : ∀ a : Fin 4, (Scalar.indexCast (Scalar.muli (BitVec.ofNat 32 a.val) 1024#32) : Index).toNat = a.val * 1024 := by decide +kernel
theorem off7_eq (i : grid0.Coords) : k0_off7 i = ![(row0 i).val * 1024, 0] := congrArg (fun z : ℕ => (![z, 0] : Fin 2 → ℕ)) (lo_eq (row0 i))
theorem off8_eq (i : grid0.Coords) : k0_off8 i = ![(0 : Fin 2).val, (row0 i).val * 1024, 0] := congrArg (fun z : ℕ => (![0, z, 0] : Fin 3 → ℕ)) (lo_eq (row0 i))
theorem off9_eq (i : grid0.Coords) : k0_off9 i = ![(1 : Fin 2).val, (row0 i).val * 1024, 0] := congrArg (fun z : ℕ => (![1, z, 0] : Fin 3 → ℕ)) (lo_eq (row0 i))

/-! ## One head -/

/-- The greatest scores once the scores `s` are counted. -/
def stM (s : FVec F S1024x1024 .f32) (m : FVec F S1024x1 .f32) : FVec F S1024x1 .f32 :=
  maximumf m (shapeCast S1024x1 (multiReduction .maximumf [1] S1024 s 0xFF800000#32 reduces_S1024x1024_S1024 (.inl rfl) rfl) shapeCasts_S1024_S1024x1)
/-- The factor of what was summed before. -/
def stC (s : FVec F S1024x1024 .f32) (m : FVec F S1024x1 .f32) : FVec F S1024x1 .f32 := exp (subf m (stM s m))
/-- The weights. -/
def stW (s : FVec F S1024x1024 .f32) (m : FVec F S1024x1 .f32) : FVec F S1024x1024 .f32 :=
  exp (subf s (broadcastTo S1024x1024 (stM s m) broadcasts_S1024x1_S1024x1024))
/-- The sums of weights. -/
def stL (s : FVec F S1024x1024 .f32) (m l : FVec F S1024x1 .f32) : FVec F S1024x1 .f32 :=
  addf (mulf (stC s m) l) (shapeCast S1024x1 (multiReduction .add [1] S1024 (stW s m) 0x00000000#32 reduces_S1024x1024_S1024 (.inl rfl) rfl) shapeCasts_S1024_S1024x1)
/-- The weighted sums of rows. -/
def stA (s : FVec F S1024x1024 .f32) (m : FVec F S1024x1 .f32) (a : FVec F S1024x128 .f32) (v : FVec F S1024x128 .bf16) : FVec F S1024x128 .f32 :=
  addf (mulf (broadcastTo S1024x128 (stC s m) broadcasts_S1024x1_S1024x128) a)
    (matmul dot_S1024x1024_S1024x128_S1024x128_1_0_0_1_n_n none (truncf .bf16 (stW s m) bitsLt_bf16_f32) v (constant S1024x128 .f32 0x00000000#32))

/-- What is carried for one head: greatest scores, sums, weighted sums of rows. -/
abbrev St (F : FTy → Type) := FVec F S1024x1 .f32 × FVec F S1024x1 .f32 × FVec F S1024x128 .f32
abbrev Both (F : FTy → Type) := FVec F S1024x1 .f32 × FVec F S1024x1 .f32 × FVec F S1024x128 .f32 × FVec F S1024x1 .f32 × FVec F S1024x1 .f32 × FVec F S1024x128 .f32
def both (x y : St F) : Both F := (x.1, x.2.1, x.2.2, y.1, y.2.1, y.2.2)
def step (s : FVec F S1024x1024 .f32) (v : FVec F S1024x128 .bf16) (x : St F) : St F := (stM s x.1, stL s x.1 x.2.1, stA s x.1 x.2.2 v)
def start : St F := (k0_pay33, k0_pay34, k0_pay35)

/-- One head before the `n`-th block of keys. -/
def headN (q : FVec F S1024x128 .bf16) (w1 : Vec F S2x4096x128 .bf16) (w2 : Vec F S4096x128 .bf16) (e : Fin 2) : ℕ → St F
  | 0 => start
  | n + 1 => step (k0_pay3 q (keys w1 e (row1 n))) (k0_pay2 (vals w2 (row1 n))) (headN q w1 w2 e n)

/-- The diagonal block's scores. -/
def diag (q : FVec F S1024x128 .bf16) (k : Vec F S1x1024x128 .bf16) : FVec F S1024x1024 .f32 :=
  select (cmpi .sge (iota .tc S1024x1024 32 [0] iota_S1024x1024_d0_w32) (iota .tc S1024x1024 32 [1] iota_S1024x1024_d1_w32)) (k0_pay3 q k)
    (broadcast S1024x1024 (Named.named κ "mask" 0xF149F2CA#32))

/-- One head after the point's last block. -/
def headF (q : FVec F S1024x128 .bf16) (w1 : Vec F S2x4096x128 .bf16) (w2 : Vec F S4096x128 .bf16) (e : Fin 2) (i : grid0.Coords) : St F :=
  step (diag q (keys w1 e (row0 i))) (k0_pay38 (vals w2 (row0 i))) (headN q w1 w2 e (i 1).val)

/-- The rows a point stores. -/
def outO (x y : St F) : FVec F S1024x128 .f32 :=
  select k0_pay30 (divf x.2.2 (broadcastTo S1024x128 x.2.1 broadcasts_S1024x1_S1024x128)) (divf y.2.2 (broadcastTo S1024x128 y.2.1 broadcasts_S1024x1_S1024x128))
/-- The row log-sums a point stores. -/
def outS (x y : St F) : FVec F S1024x128 .f32 :=
  select k0_pay30 (broadcastTo S1024x128 (shapeCast S1024x1 (addf x.1 (log x.2.1)) shapeCasts_S1024x1_S1024x1) broadcasts_S1024x1_S1024x128)
    (broadcastTo S1024x128 (shapeCast S1024x1 (addf y.1 (log y.2.1)) shapeCasts_S1024x1_S1024x1) broadcasts_S1024x1_S1024x128)

section Trip
variable (𝒱 : Variants) (c : Dev nD) (bd : Option 𝒱.V) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .f32) (harg6 : arg6.IsWhole)
  (v5 v7 : Vec F S1x1024x128 .bf16) (w1 : Vec F S2x4096x128 .bf16) (w2 : Vec F S4096x128 .bf16)

set_option maxHeartbeats 1000000 in
theorem tripR1 (k : Fin (k0_t1_loop i).trips) (x y : St F) :
    tripR_k0_t1 (F := F) 𝒱 c bd i arg2 harg2 arg3 harg3 arg4 harg4 arg5 harg5 arg6 harg6 v5 v7 (harg3.unread w1) (harg4.unread w2) k (both x y)
      = both (step (k0_pay3 (k0_pay31 v5) (keys w1 0 (row1 k.val))) (k0_pay2 (vals w2 (row1 k.val))) x)
        (step (k0_pay3 (k0_pay32 v7) (keys w1 1 (row1 k.val))) (k0_pay2 (vals w2 (row1 k.val))) y) := by
  have e4 : ∀ inb, arg4.view.readAt (Elt F) (Rect.unit (s := S4096x128) (k0_off1 i k) S1024x128.size inb).toLoadRect (harg4.unread w2) = vals w2 (row1 k.val) := fun inb => by
    rw [read_vals arg4.view _ (row1 k.val) inb (off1_eq i k), harg4.read_unread]
  have e2 : ∀ inb, arg3.view.readAt (Elt F) (Rect.unit (s := S2x4096x128) (k0_off2 i k) S1x1024x128.size inb).toLoadRect (harg3.unread w1) = keys w1 0 (row1 k.val) := fun inb => by
    rw [read_keys arg3.view _ 0 (row1 k.val) inb (off2_eq i k), harg3.read_unread]
  have e3 : ∀ inb, arg3.view.readAt (Elt F) (Rect.unit (s := S2x4096x128) (k0_off3 i k) S1x1024x128.size inb).toLoadRect (harg3.unread w1) = keys w1 1 (row1 k.val) := fun inb => by
    rw [read_keys arg3.view _ 1 (row1 k.val) inb (off3_eq i k), harg3.read_unread]
  unfold tripR_k0_t1 trip_k0_t1; dsimp only
  rw [← e4 (k0_off1_inb i k), ← e2 (k0_off2_inb i k), ← e3 (k0_off3_inb i k)]
  rfl

theorem st1 (n : ℕ) (hn : n ≤ (k0_t1_loop i).trips) :
    st_k0_t1 (F := F) 𝒱 c bd i arg2 harg2 arg3 harg3 arg4 harg4 arg5 harg5 arg6 harg6 v5 v7 (harg3.unread w1) (harg4.unread w2) (both start start) n
      = both (headN (k0_pay31 v5) w1 w2 0 n) (headN (k0_pay32 v7) w1 w2 1 n) := by
  induction n with
  | zero => rfl
  | succ n ih =>
    rw [st_k0_t1_succ (k := ⟨n, hn⟩), ih (by omega), tripR1]
    rfl

theorem st1_end :
    st_k0_t1 (F := F) 𝒱 c bd i arg2 harg2 arg3 harg3 arg4 harg4 arg5 harg5 arg6 harg6 v5 v7 (harg3.unread w1) (harg4.unread w2) (k0_pay33, k0_pay34, k0_pay35, k0_pay33, k0_pay34, k0_pay35) (k0_t1_loop i).trips
      = both (headN (k0_pay31 v5) w1 w2 0 (i 1).val) (headN (k0_pay32 v7) w1 w2 1 (i 1).val) := by
  refine (st1 𝒱 c bd i arg2 harg2 arg3 harg3 arg4 harg4 arg5 harg5 arg6 harg6 v5 v7 w1 w2 _ le_rfl).trans ?_
  rw [trips1]
end Trip

section Point
variable (c : Dev nD) (i : grid0.Coords) (arg2 : Memref sig .tc .vmem S2x1024x128 .bf16) (harg2 : arg2.IsWhole) (arg3 : Memref sig .tc .vmem S2x4096x128 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .f32) (harg6 : arg6.IsWhole)
    (x0 : Vec F S2x1024x128 .bf16) (x1 : Vec F S2x4096x128 .bf16) (x2 : Vec F S4096x128 .bf16)
theorem ld0 : ∀ inb, arg2.view.readAt (Elt F) (Rect.unit (s := S2x1024x128) ![0, 0, 0] S1x1024x128.size inb).toLoadRect (harg2.unread x0) = queries x0 0 := fun inb => by
  rw [read_queries arg2.view _ 0 inb rfl, harg2.read_unread]
theorem ld1 : ∀ inb, arg2.view.readAt (Elt F) (Rect.unit (s := S2x1024x128) ![1, 0, 0] S1x1024x128.size inb).toLoadRect (harg2.unread x0) = queries x0 1 := fun inb => by
  rw [read_queries arg2.view _ 1 inb rfl, harg2.read_unread]
theorem ld7 : ∀ inb, arg4.view.readAt (Elt F) (Rect.unit (s := S4096x128) (k0_off7 i) S1024x128.size inb).toLoadRect (harg4.unread x2) = vals x2 (row0 i) := fun inb => by
  rw [read_vals arg4.view _ (row0 i) inb (off7_eq i), harg4.read_unread]
theorem ld8 : ∀ inb, arg3.view.readAt (Elt F) (Rect.unit (s := S2x4096x128) (k0_off8 i) S1x1024x128.size inb).toLoadRect (harg3.unread x1) = keys x1 0 (row0 i) := fun inb => by
  rw [read_keys arg3.view _ 0 (row0 i) inb (off8_eq i), harg3.read_unread]
theorem ld9 : ∀ inb, arg3.view.readAt (Elt F) (Rect.unit (s := S2x4096x128) (k0_off9 i) S1x1024x128.size inb).toLoadRect (harg3.unread x1) = keys x1 1 (row0 i) := fun inb => by
  rw [read_keys arg3.view _ 1 (row0 i) inb (off9_eq i), harg3.read_unread]

/-- What both heads carry after the loops. -/
def ends : Both F := both (headN (k0_pay31 (queries x0 0)) x1 x2 0 (i 1).val) (headN (k0_pay32 (queries x0 1)) x1 x2 1 (i 1).val)
section
set_option maxHeartbeats 2000000
theorem loop_ends : st_k0_t1 (F := F) Variants.none c none i arg2 harg2 arg3 harg3 arg4 harg4 arg5 harg5 arg6 harg6
    (arg2.view.readAt (Elt F) (Rect.unit (s := S2x1024x128) ![0, 0, 0] S1x1024x128.size inb_S2x1024x128_S1x1024x128_0_0_0).toLoadRect (harg2.unread x0))
    (arg2.view.readAt (Elt F) (Rect.unit (s := S2x1024x128) ![1, 0, 0] S1x1024x128.size inb_S2x1024x128_S1x1024x128_1_0_0).toLoadRect (harg2.unread x0)) (harg3.unread x1) (harg4.unread x2)
    (k0_pay33, k0_pay34, k0_pay35, k0_pay33, k0_pay34, k0_pay35) (Scf.trips (k0_t1_loop i).lb (k0_t1_loop i).ub (k0_t1_loop i).st) = ends i x0 x1 x2 := by
  refine (st1_end (F := F) Variants.none c none i arg2 harg2 arg3 harg3 arg4 harg4 arg5 harg5 arg6 harg6 _ _ x1 x2).trans ?_
  rw [ld0, ld1]
  rfl
theorem er0 : kernelRun0_A.sl.r c arg2 harg2 x0 = k0_pay32 (queries x0 1) := congrArg k0_pay32 (ld1 arg2 harg2 x0 _)
theorem er6 : kernelRun0_A.sl.r_6 i arg4 harg4 x2 = k0_pay38 (vals x2 (row0 i)) := congrArg k0_pay38 (ld7 i arg4 harg4 x2 _)
theorem er7 : kernelRun0_A.sl.r_7 c i arg2 harg2 arg3 harg3 x0 x1 = k0_pay39 (queries x0 0) (keys x1 0 (row0 i)) :=
  congrArg₂ k0_pay39 (ld0 arg2 harg2 x0 _) (ld8 i arg3 harg3 x1 _)
theorem trips2' : Scf.trips (k0_t2_loop i).lb (k0_t2_loop i).ub (k0_t2_loop i).st = 0 := trips2 i
theorem er1 : kernelRun0_A.sl.r_1 c i arg2 harg2 arg3 harg3 arg4 harg4 arg5 harg5 arg6 harg6 x0 x1 x2 = (ends i x0 x1 x2).2.1 := by
  unfold kernelRun0_A.sl.r_1
  rw [trips2', st_k0_t2.eq_1]
  exact congrArg (fun A : Both F => A.2.1) (loop_ends c i arg2 harg2 arg3 harg3 arg4 harg4 arg5 harg5 arg6 harg6 x0 x1 x2)
theorem er2 : kernelRun0_A.sl.r_2 c i arg2 harg2 arg3 harg3 arg4 harg4 arg5 harg5 arg6 harg6 x0 x1 x2 = (ends i x0 x1 x2).2.2.1 := by
  unfold kernelRun0_A.sl.r_2
  rw [trips2', st_k0_t2.eq_1]
  exact congrArg (fun A : Both F => A.2.2.1) (loop_ends c i arg2 harg2 arg3 harg3 arg4 harg4 arg5 harg5 arg6 harg6 x0 x1 x2)
theorem er3 : kernelRun0_A.sl.r_3 c i arg2 harg2 arg3 harg3 arg4 harg4 arg5 harg5 arg6 harg6 x0 x1 x2 = (ends i x0 x1 x2).2.2.2.1 := by
  unfold kernelRun0_A.sl.r_3
  rw [trips2', st_k0_t2.eq_1]
  exact congrArg (fun A : Both F => A.2.2.2.1) (loop_ends c i arg2 harg2 arg3 harg3 arg4 harg4 arg5 harg5 arg6 harg6 x0 x1 x2)
theorem er4 : kernelRun0_A.sl.r_4 c i arg2 harg2 arg3 harg3 arg4 harg4 arg5 harg5 arg6 harg6 x0 x1 x2 = (ends i x0 x1 x2).2.2.2.2.1 := by
  unfold kernelRun0_A.sl.r_4
  rw [trips2', st_k0_t2.eq_1]
  exact congrArg (fun A : Both F => A.2.2.2.2.1) (loop_ends c i arg2 harg2 arg3 harg3 arg4 harg4 arg5 harg5 arg6 harg6 x0 x1 x2)
theorem er5 : kernelRun0_A.sl.r_5 c i arg2 harg2 arg3 harg3 arg4 harg4 arg5 harg5 arg6 harg6 x0 x1 x2 = (ends i x0 x1 x2).2.2.2.2.2 := by
  unfold kernelRun0_A.sl.r_5
  rw [trips2', st_k0_t2.eq_1]
  exact congrArg (fun A : Both F => A.2.2.2.2.2) (loop_ends c i arg2 harg2 arg3 harg3 arg4 harg4 arg5 harg5 arg6 harg6 x0 x1 x2)
theorem er8 : kernelRun0_A.sl.r_8 c i arg2 harg2 arg3 harg3 arg4 harg4 arg5 harg5 arg6 harg6 x0 x1 x2 = k0_pay40 (queries x0 0) (ends i x0 x1 x2).1 (keys x1 0 (row0 i)) := by
  unfold kernelRun0_A.sl.r_8
  rw [trips2', st_k0_t2.eq_1]
  dsimp only
  rw [loop_ends, ld0, ld8]
theorem er9 : kernelRun0_A.sl.r_9 c i arg2 harg2 arg3 harg3 arg4 harg4 arg5 harg5 arg6 harg6 x0 x1 x2 = k0_pay41 (queries x0 0) (ends i x0 x1 x2).1 (keys x1 0 (row0 i)) := by
  unfold kernelRun0_A.sl.r_9
  rw [trips2', st_k0_t2.eq_1]
  dsimp only
  rw [loop_ends, ld0, ld8]
theorem er10 : kernelRun0_A.sl.r_10 c i arg2 harg2 arg3 harg3 arg4 harg4 arg5 harg5 arg6 harg6 x0 x1 x2 = k0_pay42 (queries x0 0) (ends i x0 x1 x2).1 (keys x1 0 (row0 i)) := by
  unfold kernelRun0_A.sl.r_10
  rw [trips2', st_k0_t2.eq_1]
  dsimp only
  rw [loop_ends, ld0, ld8]
theorem er11 : kernelRun0_A.sl.r_11 c i arg2 harg2 arg3 harg3 arg4 harg4 arg5 harg5 arg6 harg6 x0 x1 x2 = k0_pay51 (ends i x0 x1 x2).2.1 (k0_pay39 (queries x0 0) (keys x1 0 (row0 i)))
    (k0_pay40 (queries x0 0) (ends i x0 x1 x2).1 (keys x1 0 (row0 i))) (k0_pay41 (queries x0 0) (ends i x0 x1 x2).1 (keys x1 0 (row0 i)))
    (k0_pay42 (queries x0 0) (ends i x0 x1 x2).1 (keys x1 0 (row0 i))) := by
  unfold kernelRun0_A.sl.r_11
  rw [er1, er7, er8, er9, er10]
theorem er12 : kernelRun0_A.sl.r_12 c i arg2 harg2 arg3 harg3 arg4 harg4 arg5 harg5 arg6 harg6 x0 x1 x2 = k0_pay52 (iota .tc S1024x1024 32 [0] iota_S1024x1024_d0_w32) (iota .tc S1024x1024 32 [1] iota_S1024x1024_d1_w32)
    (k0_pay32 (queries x0 1)) (ends i x0 x1 x2).2.2.2.1 (ends i x0 x1 x2).2.2.2.2.1 (keys x1 1 (row0 i)) := by
  unfold kernelRun0_A.sl.r_12
  rw [er0, er3, er4, ld9]
  rfl
theorem out3_eq :
    out0_A_3 c i arg2 harg2 arg3 harg3 arg4 harg4 arg5 harg5 arg6 harg6 x0 x1 x2 = outO (headF (k0_pay31 (queries x0 0)) x1 x2 0 i) (headF (k0_pay32 (queries x0 1)) x1 x2 1 i) := by
  unfold out0_A_3 kernelRun0_A; dsimp only
  refine (View.read_writes_full (s := S1024x128) VO0_3 _ _ _ _).trans ?_
  rw [er0, er1, er2, er3, er4, er5, er6, er7, er9, er10]
  refine (congrArg (fun z => k0_pay50 kernelRun0_A.sl.v0 kernelRun0_A.sl.v1 k0_pay30 _ _ _ _ _ _ _ _ _ _ z) (ld9 i arg3 harg3 x1 _)).trans ?_
  rfl
theorem out4_eq :
    out0_A_4 c i arg2 harg2 arg3 harg3 arg4 harg4 arg5 harg5 arg6 harg6 x0 x1 x2 = outS (headF (k0_pay31 (queries x0 0)) x1 x2 0 i) (headF (k0_pay32 (queries x0 1)) x1 x2 1 i) := by
  unfold out0_A_4 kernelRun0_A; dsimp only
  refine (View.read_writes_full (s := S1024x128) VO0_4 _ _ _ _).trans ?_
  rw [er11, er12]
  rfl
end
end Point

end Cert.AttnFIdeal.Fwd
end
-- ==== Proof.AttnFRow.lean ====
module
public import proofs.«01_k».proof.Proof.AttnFStep
public import proofs.«01_k».proof.Proof.AttnVal
@[expose] public section
set_option maxRecDepth 16384

/-! One row of the running attention over the reals: after any number of blocks the sum and the weighted sums
    are the plain ones, scaled by the exponential of the greatest score so far. -/
noncomputable section
open Idealize.ShloMosaic Idealize.ShloMosaic.TcCoe Idealize.SL.Sem

namespace Cert.AttnFIdeal.Fwd
open Cert.AttnFIdeal Cert.AttnFIdeal.Gen Cert.Real

/-! ## Entries of a step -/
section Entries
variable (s : FVec Ideal S1024x1024 .f32) (m l : FVec Ideal S1024x1 .f32) (x : FVec Ideal S1024x128 .f32) (v : FVec Ideal S1024x128 .bf16)
theorem stM_at (a : Fin 1024) : stM s m (ix2 a 0) = max (m (ix2 a 0)) (Finset.fold max ⊥ (fun b => s (ix2 a b)) Finset.univ) := by
  pointwise [stM]
  rw [word_neg_inf]
theorem stC_at (a : Fin 1024) : stC s m (ix2 a 0) = Ideal.exp (m (ix2 a 0) - stM s m (ix2 a 0)) := by
  pointwise [stC]
theorem stW_at (a b : Fin 1024) : stW s m (ix2 a b) = Ideal.exp (s (ix2 a b) - stM s m (ix2 a 0)) := by
  pointwise [stW]
theorem stL_at (a : Fin 1024) : stL s m l (ix2 a 0) = stC s m (ix2 a 0) * l (ix2 a 0) + ∑ b, stW s m (ix2 a b) := by
  pointwise [stL]
theorem stA_at (a : Fin 1024) (k : Fin 128) : stA s m x v (ix2 a k) = stC s m (ix2 a 0) * x (ix2 a k) + ∑ b, stW s m (ix2 a b) * v (ix2 b k) := by
  pointwise [stA]
end Entries

/-! ## A row -/
/-- Greatest score `m`, sum `l` and weighted sums `acc` of a row whose plain sums are `S` and `R`. -/
def Row (S : ℝ) (R : Fin 128 → ℝ) (m l : EReal) (acc : Fin 128 → EReal) : Prop :=
  (m = ⊥ ∧ l = 0 ∧ (∀ k, acc k = 0) ∧ S = 0 ∧ ∀ k, R k = 0)
    ∨ ∃ M : ℝ, m = (M : EReal) ∧ l = ((Real.exp (-M) * S : ℝ) : EReal) ∧ ∀ k, acc k = ((Real.exp (-M) * R k : ℝ) : EReal)

variable {S : ℝ} {R : Fin 128 → ℝ} {m l : EReal} {acc : Fin 128 → EReal} {keep : Fin 1024 → Prop} [DecidablePred keep] {L : Fin 1024 → ℝ}
/-- A weight, nothing where the key comes later. -/
def wt (keep : Fin 1024 → Prop) [DecidablePred keep] (L : Fin 1024 → ℝ) (b : Fin 1024) : ℝ := if keep b then Real.exp (L b) else 0
/-- A score, the mask where the key comes later. -/
def scr (keep : Fin 1024 → Prop) [DecidablePred keep] (L : Fin 1024 → ℝ) (b : Fin 1024) : EReal := if keep b then ((L b : ℝ) : EReal) else ⊥

theorem exp_scr (M : ℝ) (b : Fin 1024) : Ideal.exp (scr keep L b - (M : EReal)) = ((Real.exp (-M) * wt keep L b : ℝ) : EReal) := by
  unfold scr wt
  by_cases h : keep b
  · rw [if_pos h, if_pos h, ← EReal.coe_sub, Ideal.exp_coe, ← Real.exp_add]
    exact congrArg (fun r : ℝ => ((Real.exp r : ℝ) : EReal)) (by ring)
  · rw [if_neg h, if_neg h, EReal.bot_sub, mul_zero]
    rfl
theorem isR_scr (b : Fin 1024) : Att.IsR (scr keep L b) ∨ scr keep L b = ⊥ := by
  unfold scr
  by_cases h : keep b
  · exact .inl ⟨L b, if_pos h⟩
  · exact .inr (if_neg h)

theorem Row.next (h : Row S R m l acc) (b0 : Fin 1024) (h0 : keep b0) (v : Fin 1024 → Fin 128 → ℝ) :
    ∃ M : ℝ, max m (Finset.fold max ⊥ (scr keep L) Finset.univ) = (M : EReal)
      ∧ Ideal.exp (m - (M : EReal)) * l + ∑ b, Ideal.exp (scr keep L b - (M : EReal)) = ((Real.exp (-M) * (S + ∑ b, wt keep L b) : ℝ) : EReal)
      ∧ ∀ k, Ideal.exp (m - (M : EReal)) * acc k + ∑ b, Ideal.exp (scr keep L b - (M : EReal)) * ((v b k : ℝ) : EReal)
          = ((Real.exp (-M) * (R k + ∑ b, wt keep L b * v b k) : ℝ) : EReal) := by
  obtain ⟨f, hf⟩ := Att.isR_fold (scr keep L) isR_scr b0 ⟨L b0, if_pos h0⟩
  rw [hf]
  have e1 : ∀ M : ℝ, (∑ b, Ideal.exp (scr keep L b - (M : EReal))) = ((Real.exp (-M) * ∑ b, wt keep L b : ℝ) : EReal) := fun M => by
    simp only [exp_scr, sum_coe]
    rw [Finset.mul_sum]
  have e2 : ∀ (M : ℝ) (k : Fin 128), (∑ b, Ideal.exp (scr keep L b - (M : EReal)) * ((v b k : ℝ) : EReal)) = ((Real.exp (-M) * ∑ b, wt keep L b * v b k : ℝ) : EReal) := fun M k => by
    simp only [exp_scr, ← EReal.coe_mul, sum_coe]
    rw [Finset.mul_sum]
    simp only [mul_assoc]
  simp only [e1, e2]
  rcases h with ⟨rfl, rfl, ha, rfl, hR⟩ | ⟨M0, rfl, rfl, ha⟩
  · refine ⟨f, max_eq_right bot_le, ?_, fun k => ?_⟩
    · rw [mul_zero, zero_add, zero_add]
    · rw [ha, hR, mul_zero, zero_add, zero_add]
  · have ee : ∀ (M x : ℝ), Ideal.exp ((M0 : EReal) - (M : EReal)) * ((Real.exp (-M0) * x : ℝ) : EReal) = ((Real.exp (-M) * x : ℝ) : EReal) := fun M x => by
      rw [← EReal.coe_sub, Ideal.exp_coe, ← EReal.coe_mul, ← mul_assoc, ← Real.exp_add]
      exact congrArg (fun r : ℝ => ((Real.exp r * x : ℝ) : EReal)) (by ring)
    refine ⟨max M0 f, max_real _ _, ?_, fun k => ?_⟩
    · rw [ee, ← EReal.coe_add, mul_add]
    · rw [ha, ee, ← EReal.coe_add, mul_add]

/-- One more block of keys, of which the row counts at least one. -/
theorem row_step {s : FVec Ideal S1024x1024 .f32} {v : FVec Ideal S1024x128 .bf16} {x : St Ideal} {a : Fin 1024} {w : Fin 1024 → Fin 128 → ℝ}
    (h : Row S R (x.1 (ix2 a 0)) (x.2.1 (ix2 a 0)) (fun k => x.2.2 (ix2 a k))) (b0 : Fin 1024) (h0 : keep b0)
    (hs : ∀ b, s (ix2 a b) = scr keep L b) (hv : ∀ b k, v (ix2 b k) = ((w b k : ℝ) : EReal)) :
    ∃ M : ℝ, (step s v x).1 (ix2 a 0) = (M : EReal) ∧ (step s v x).2.1 (ix2 a 0) = ((Real.exp (-M) * (S + ∑ b, wt keep L b) : ℝ) : EReal)
      ∧ ∀ k, (step s v x).2.2 (ix2 a k) = ((Real.exp (-M) * (R k + ∑ b, wt keep L b * w b k) : ℝ) : EReal) := by
  obtain ⟨M, hM, hl, ha⟩ := h.next (L := L) b0 h0 w
  have e : stM s x.1 (ix2 a 0) = (M : EReal) := by
    rw [stM_at, ← hM]
    exact congrArg (fun f => max _ (Finset.fold max ⊥ f Finset.univ)) (funext hs)
  refine ⟨M, e, ?_, fun k => ?_⟩
  · refine (stL_at s x.1 x.2.1 a).trans ?_
    rw [stC_at, e]
    simp only [stW_at, e, hs]
    exact hl
  · refine (stA_at s x.1 x.2.2 v a k).trans ?_
    rw [stC_at, e]
    simp only [stW_at, e, hs, hv]
    exact ha k

end Cert.AttnFIdeal.Fwd
end
-- ==== Proof.AttnFHost.lean ====
module
public import proofs.«01_k».proof.Proof.Gen.AttnFIdeal.Frame
public import proofs.«01_k».proof.Proof.AttnVal
public import Idealize.ShloMosaic.Lib.Pipeline.ValueKit
public import Idealize.ShloMosaic.Lib.Pointwise
public import Idealize.ShloMosaic.Lib.Claim
public import Idealize.ShloMosaic.Lib.WordCmp
public import proofs.«01_k».proof.Proof.Real
@[expose] public section
set_option maxRecDepth 16384
set_option maxHeartbeats 2000000

/-! What the attention's host code hands to the kernel, over the reals: the same rows of scaled queries and of
    keys as in the attention's gradient. -/
noncomputable section
open Idealize.ShloMosaic Idealize.ShloMosaic.TcCoe Idealize.SL.Sem

namespace Cert.AttnFIdeal.Fwd
open Cert.AttnFIdeal Cert.AttnFIdeal.Gen Cert.Real
open Cert.AttnIdeal.Grad (h15 hOne hZero aug heads scaled cat2 pick evens rem2 even_bit h15_val hOne_val hZero_val neg_val aug_val heads_val scaled_val pick_val augQ augK augQ_eq augK_eq QA KA)
variable (m : (ℓ : Loc nD τ sig) → Buf (Elt Ideal) ℓ)

/-- the buffers after the host operations up to each call -/
def U0 (c : Dev nD) : Valuation τ sig (Elt Ideal) := StableHlo.after hostOps0 (fun b => m (c, b))
def U1 (c : Dev nD) : Valuation τ sig (Elt Ideal) := StableHlo.after hostOps0_1 (U0 m c)
def U2 (c : Dev nD) : Valuation τ sig (Elt Ideal) := StableHlo.after hostOps0_2 (U1 m c)
def U3 (c : Dev nD) : Valuation τ sig (Elt Ideal) := StableHlo.after hostOps0_3 (U2 m c)
def U4 (c : Dev nD) : Valuation τ sig (Elt Ideal) := StableHlo.after hostOps0_4 (U3 m c)
def U5 (c : Dev nD) : Valuation τ sig (Elt Ideal) := StableHlo.after hostOps0_5 (U4 m c)
def U6 (c : Dev nD) : Valuation τ sig (Elt Ideal) := StableHlo.after hostOps0_6 (U5 m c)
def U7 (c : Dev nD) : Valuation τ sig (Elt Ideal) := StableHlo.after hostOps0_7 (U6 m c)
def U8 (c : Dev nD) : Valuation τ sig (Elt Ideal) := StableHlo.after hostOps0_8 (U7 m c)
def U9 (c : Dev nD) : Valuation τ sig (Elt Ideal) := StableHlo.after hostOps0_9 (U8 m c)
theorem V_eq (c : Dev nD) (b : Ref sig .tc) : V m c b = U9 m c (Proc.devRef .tc b) := by
  unfold V U9 U8 U7 U6 U5 U4 U3 U2 U1 U0
  simp only [List.flatten_cons, List.flatten_nil, List.append_nil, StableHlo.after_append]
theorem U2_v3 (c : Dev nD) : U2 m c (Proc.devRef .tc main_v3) = Cert.AttnRefIdeal.Plain.v3 (m ((c : Thread nD τ).loc main_arg3)) (m ((c : Thread nD τ).loc main_arg4)) := by
  unfold U2 U1 U0; after_results; rfl
theorem U3_v15 (c : Dev nD) : U3 m c (Proc.devRef .tc main_v15) = h15 (U2 m c (Proc.devRef .tc main_v3)) := by
  unfold U3; after_results; rfl
theorem U3_v16 (c : Dev nD) : U3 m c (Proc.devRef .tc main_v16) = hOne := by
  unfold U3; after_results; rfl
theorem U3_v17 (c : Dev nD) : U3 m c (Proc.devRef .tc main_v17) = hZero := by
  unfold U3; after_results; rfl
theorem U5_v25 (c : Dev nD) : U5 m c (Proc.devRef .tc main_v25) = aug (U4 m c (Proc.devRef .tc main_v15)) (U4 m c (Proc.devRef .tc main_v16)) (U4 m c (Proc.devRef .tc main_v17)) := by
  unfold U5; after_results; rfl
/-- an array's heads, a head's columns in a row -/
theorem U4_v19 (c : Dev nD) : U4 m c (Proc.devRef .tc main_v19) = rem2 := by
  unfold U4 U3; after_results; rfl
theorem U5_v22 (c : Dev nD) : U5 m c (Proc.devRef .tc main_v22) = evens := by
  have e : U5 m c (Proc.devRef .tc main_v22) = (broadcastInDim S16x1x1 ![0] bcast_S16_S16x1x1_0 (cmpi .eq (U4 m c (Proc.devRef .tc main_v19) : IVec S16 32) (broadcastInDim S16 ![] bcast_S_S16 (constantI S_ 32 0#32))) : IVec S16x1x1 1) := by
    unfold U5; after_results
  rw [e, U4_v19]
  funext j
  idx_vars j
  pointwise [evens]
  exact even_bit _
theorem U4_v15 (c : Dev nD) : U4 m c (Proc.devRef .tc main_v15) = U3 m c (Proc.devRef .tc main_v15) := by
  unfold U4; after_results
theorem U4_v16 (c : Dev nD) : U4 m c (Proc.devRef .tc main_v16) = U3 m c (Proc.devRef .tc main_v16) := by
  unfold U4; after_results
theorem U4_v17 (c : Dev nD) : U4 m c (Proc.devRef .tc main_v17) = U3 m c (Proc.devRef .tc main_v17) := by
  unfold U4; after_results
theorem U4_arg0 (c : Dev nD) : U4 m c (Proc.devRef .tc main_arg0) = m ((c : Thread nD τ).loc main_arg0) := by
  unfold U4 U3 U2 U1 U0; after_results
theorem U6_arg1 (c : Dev nD) : U6 m c (Proc.devRef .tc main_arg1) = m ((c : Thread nD τ).loc main_arg1) := by
  unfold U6 U5 U4 U3 U2 U1 U0; after_results
theorem U8_arg2 (c : Dev nD) : U8 m c (Proc.devRef .tc main_arg2) = m ((c : Thread nD τ).loc main_arg2) := by
  unfold U8 U7 U6 U5 U4 U3 U2 U1 U0; after_results
theorem U6_v15 (c : Dev nD) : U6 m c (Proc.devRef .tc main_v15) = U3 m c (Proc.devRef .tc main_v15) := by
  unfold U6 U5 U4; after_results
theorem U6_v16 (c : Dev nD) : U6 m c (Proc.devRef .tc main_v16) = U3 m c (Proc.devRef .tc main_v16) := by
  unfold U6 U5 U4; after_results
theorem U6_v17 (c : Dev nD) : U6 m c (Proc.devRef .tc main_v17) = U3 m c (Proc.devRef .tc main_v17) := by
  unfold U6 U5 U4; after_results
theorem U7_v22 (c : Dev nD) : U7 m c (Proc.devRef .tc main_v22) = U5 m c (Proc.devRef .tc main_v22) := by
  unfold U7 U6; after_results
theorem U5_v29 (c : Dev nD) : U5 m c (Proc.devRef .tc main_v29) = cat2 (heads (scaled (U4 m c (Proc.devRef .tc main_arg0)))) (U5 m c (Proc.devRef .tc main_v25)) := by
  unfold U5; after_results; rfl
theorem U5_v30 (c : Dev nD) : U5 m c (Proc.devRef .tc main_v30) = cat2 (U5 m c (Proc.devRef .tc main_v25)) (heads (scaled (U4 m c (Proc.devRef .tc main_arg0)))) := by
  unfold U5; after_results; rfl
theorem U6_v31 (c : Dev nD) : U6 m c (Proc.devRef .tc main_v31) = pick (U5 m c (Proc.devRef .tc main_v22)) (U5 m c (Proc.devRef .tc main_v29)) (U5 m c (Proc.devRef .tc main_v30)) := by
  unfold U6; after_results; rfl
theorem U7_v33 (c : Dev nD) : U7 m c (Proc.devRef .tc main_v33) = aug (U6 m c (Proc.devRef .tc main_v16)) (Host.negf (U6 m c (Proc.devRef .tc main_v15) : FVec Ideal S16x4096x3 .bf16)) (U6 m c (Proc.devRef .tc main_v17)) := by
  unfold U7; after_results; rfl
theorem U7_v37 (c : Dev nD) : U7 m c (Proc.devRef .tc main_v37) = cat2 (heads (U6 m c (Proc.devRef .tc main_arg1))) (U7 m c (Proc.devRef .tc main_v33)) := by
  unfold U7; after_results; rfl
theorem U7_v38 (c : Dev nD) : U7 m c (Proc.devRef .tc main_v38) = cat2 (U7 m c (Proc.devRef .tc main_v33)) (heads (U6 m c (Proc.devRef .tc main_arg1))) := by
  unfold U7; after_results; rfl
theorem U8_v39 (c : Dev nD) : U8 m c (Proc.devRef .tc main_v39) = pick (U7 m c (Proc.devRef .tc main_v22)) (U7 m c (Proc.devRef .tc main_v37)) (U7 m c (Proc.devRef .tc main_v38)) := by
  unfold U8; after_results; rfl
theorem U8_v31 (c : Dev nD) : U8 m c (Proc.devRef .tc main_v31) = U6 m c (Proc.devRef .tc main_v31) := by
  unfold U8 U7; after_results
theorem U9_v31 (c : Dev nD) : U9 m c (Proc.devRef .tc main_v31) = U8 m c (Proc.devRef .tc main_v31) := by
  unfold U9; after_results
theorem U9_v39 (c : Dev nD) : U9 m c (Proc.devRef .tc main_v39) = U8 m c (Proc.devRef .tc main_v39) := by
  unfold U9; after_results
theorem U9_v40 (c : Dev nD) : U9 m c (Proc.devRef .tc main_v40) = (truncf .bf16 (U8 m c (Proc.devRef .tc main_arg2) : FVec Ideal S4096x1024 .f32) bitsLt_bf16_f32 : FVec Ideal S4096x1024 .bf16) := by
  unfold U9; after_results

/-- the arguments hold the reals `q` -/
structure Args (q : Att.In) (m : (ℓ : Loc nD τ sig) → Buf (Elt Ideal) ℓ) (c : Dev nD) : Prop where
  h0 : m ((c : Thread nD τ).loc main_arg0) = up q.Q
  h1 : m ((c : Thread nD τ).loc main_arg1) = up q.K
  h2 : m ((c : Thread nD τ).loc main_arg2) = up q.V
  h3 : m ((c : Thread nD τ).loc main_arg3) = up q.Fr
  h4 : m ((c : Thread nD τ).loc main_arg4) = up q.Fb

section values
variable {m} {q : Att.In} {c : Dev nD} (A : Args q m c)
include A
theorem c_val (i : Fin 4096) (h : Fin 16) : (U2 m c (Proc.devRef .tc main_v3) : FVec Ideal S4096x16 .f32) (ix2 i h) = ((q.c i h : ℝ) : EReal) := by
  rw [U2_v3, A.h3, A.h4]
  exact Att.r_v3 q i h
theorem v15_val (h : Fin 16) (i : Fin 4096) (l : Fin 3) : (U3 m c (Proc.devRef .tc main_v15) : FVec Ideal S16x4096x3 .bf16) (ix3 h i l) = ((if l.val = 0 then q.c i h else 0 : ℝ) : EReal) := by
  rw [U3_v15]
  exact h15_val (C := fun i h => q.c i h) (c_val A) h i l
theorem v31_val (h : Fin 16) (i : Fin 4096) (l : Fin 128) : (U8 m c (Proc.devRef .tc main_v31) : FVec Ideal S16x4096x128 .bf16) (ix3 h i l) = ((QA q h i l : ℝ) : EReal) := by
  rw [U8_v31, U6_v31, U5_v22, U5_v29, U5_v30, U5_v25, U4_v15, U4_v16, U4_v17, U3_v16, U3_v17, U4_arg0, A.h0]
  refine (pick_val (A := fun h i e => q.Q (ix2 i (Att.hd h e)) * (1 / 8)) (B := fun h i => augQ (q.c i h)) (fun h i e => heads_val (scaled_val (X := fun i k => q.Q (ix2 i k)) fun i k => rfl) h i e) (fun h i e => ?_) h i l).trans rfl
  exact (aug_val (v15_val A) hOne_val hZero_val h i e).trans (congrArg (fun x : ℝ => (x : EReal)) (augQ_eq (q.c i h) e))
theorem v39_val (h : Fin 16) (i : Fin 4096) (l : Fin 128) : (U8 m c (Proc.devRef .tc main_v39) : FVec Ideal S16x4096x128 .bf16) (ix3 h i l) = ((KA q h i l : ℝ) : EReal) := by
  rw [U8_v39, U7_v22, U5_v22, U7_v37, U7_v38, U7_v33, U6_v15, U6_v16, U6_v17, U3_v16, U3_v17, U6_arg1, A.h1]
  refine (pick_val (A := fun h i e => q.K (ix2 i (Att.hd h e))) (B := fun h i => augK (q.c i h)) (fun h i e => heads_val (X := fun i k => q.K (ix2 i k)) (fun i k => rfl) h i e) (fun h i e => ?_) h i l).trans rfl
  exact (aug_val hOne_val (fun h i l => neg_val (v15_val A h i l)) hZero_val h i e).trans (congrArg (fun x : ℝ => (x : EReal)) (augK_eq (q.c i h) e))
theorem v40_val (i : Fin 4096) (k : Fin 1024) : (U9 m c (Proc.devRef .tc main_v40) : FVec Ideal S4096x1024 .bf16) (ix2 i k) = ((q.V (ix2 i k) : ℝ) : EReal) := by
  rw [U9_v40, U8_arg2, A.h2]
  rfl
end values

end Cert.AttnFIdeal.Fwd
end
-- ==== Proof.AttnFRef.lean ====
module
public import proofs.«01_k».proof.Proof.Gen.AttnFRefIdeal.Run
public import proofs.«01_k».proof.Proof.AttnIn
@[expose] public section
set_option maxRecDepth 16384

/-! The plain program of the attention, in stages, and its results over the reals. Its first stages are those of
    the gradient's plain program. -/
noncomputable section
open Idealize.ShloMosaic Idealize.ShloMosaic.TcCoe Idealize.SL.Sem

namespace Cert.AttnFRefIdeal.Plain
open Cert.AttnFRefIdeal Cert.AttnFRefIdeal.Gen
open Cert.AttnRefIdeal.Plain (v24_0 v25 v49)

def v36 (a0 a1 a2 : FVec Ideal S4096x1024 .f32) (a3 : FVec Ideal S4096x16 .f32) (a4 : FVec Ideal S1x16 .f32) : FVec Ideal S16x64x4096 .f32 :=
  Host.dotGeneral dot_S4096x16x64_S16x4096x4096_S16x64x4096_0_2_2_1_1_0 none (shapeCast _ a2 shapeCasts_S4096x1024_S4096x16x64 : FVec Ideal S4096x16x64 .f32) (v49 a0 a1 a3 a4)

def out0 (a0 a1 a2 : FVec Ideal S4096x1024 .f32) (a3 : FVec Ideal S4096x16 .f32) (a4 : FVec Ideal S1x16 .f32) : FVec Ideal S4096x1024 .f32 :=
  shapeCast _ ((transpose S4096x16x64 [2, 0, 1] · transposes_S16x64x4096_S4096x16x64_2_0_1) (v36 a0 a1 a2 a3 a4)) shapeCasts_S4096x16x64_S4096x1024

def v44 (a0 a1 : FVec Ideal S4096x1024 .f32) (a3 : FVec Ideal S4096x16 .f32) (a4 : FVec Ideal S1x16 .f32) : FVec Ideal S16x4096x4096 .f32 :=
  Host.exp (subf (v24_0 a0 a1 a3 a4) (broadcastInDim S16x4096x4096 ![0, 1, 2] bcast_S16x4096x1_S16x4096x4096_0_1_2 (broadcastInDim S16x4096x1 ![0, 1] bcast_S16x4096_S16x4096x1_0_1 (v25 a0 a1 a3 a4))))

def v45 (a0 a1 : FVec Ideal S4096x1024 .f32) (a3 : FVec Ideal S4096x16 .f32) (a4 : FVec Ideal S1x16 .f32) : FVec Ideal S16x4096 .f32 :=
  Host.reduceAdd (v44 a0 a1 a3 a4) (constant S_ .f32 0x00000000#32) reducesTo_S16x4096x4096_S16x4096_d2 h_S_

/-- a row's log-sum from its greatest score and its sum -/
def lse (x y : FVec Ideal S16x4096 .f32) : FVec Ideal S16x4096 .f32 := addf x (Host.log y)
/-- each head's number in all of the head's lanes -/
def spread (x : FVec Ideal S16x4096 .f32) : FVec Ideal S4096x1024 .f32 :=
  shapeCast _ (broadcastInDim S4096x16x64 ![0, 1] bcast_S4096x16_S4096x16x64_0_1 ((transpose S4096x16 [1, 0] · transposes_S16x4096_S4096x16_1_0) x)) shapeCasts_S4096x16x64_S4096x1024

def out1 (a0 a1 : FVec Ideal S4096x1024 .f32) (a3 : FVec Ideal S4096x16 .f32) (a4 : FVec Ideal S1x16 .f32) : FVec Ideal S4096x1024 .f32 :=
  spread (lse (v25 a0 a1 a3 a4) (v45 a0 a1 a3 a4))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v50) = out1 (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by rfl), (h c).2.1.trans (by rfl), (h c).2.2⟩) (Value.run (F := Ideal) m ρ)

section reals
open Cert.Real Cert.Att
variable (q : Att.In)
theorem r_v36 (h : Fin 16) (e : Fin 64) (i : Fin 4096) : v36 (up q.Q) (up q.K) (up q.V) (up q.Fr) (up q.Fb) (ix3 h e i) = ((∑ j, q.V (ix2 j (hd h e)) * q.P h i j : ℝ) : EReal) := by
  pointwise [v36]
  simp only [r_v49, up_apply, ← EReal.coe_mul, sum_coe]
  rfl
theorem r_out0 (i : Fin 4096) (k : Fin 1024) : out0 (up q.Q) (up q.K) (up q.V) (up q.Fr) (up q.Fb) (ix2 i k) = ((∑ j, q.V (ix2 j k) * q.P (hOf k) i j : ℝ) : EReal) := by
  pointwise [out0]
  refine (r_v36 q (hOf k) (eOf k) i).trans ?_
  rw [hd_of]
theorem r_v44 (h : Fin 16) (i j : Fin 4096) : v44 (up q.Q) (up q.K) (up q.Fr) (up q.Fb) (ix3 h i j) = ((q.E h i j : ℝ) : EReal) := by
  pointwise [v44]
  rw [r_v24, r_v25]
  unfold In.E
  split_ifs
  · rw [← EReal.coe_sub, Ideal.exp_coe]
  · rw [EReal.bot_sub]
    rfl
theorem r_v45 (h : Fin 16) (i : Fin 4096) : v45 (up q.Q) (up q.K) (up q.Fr) (up q.Fb) (ix2 h i) = ((q.T h i : ℝ) : EReal) := by
  pointwise [v45]
  simp only [r_v44, sum_coe]
  rfl
theorem lse_val (x y : FVec Ideal S16x4096 .f32) (h : Fin 16) (i : Fin 4096) : lse x y (ix2 h i) = x (ix2 h i) + Ideal.log (y (ix2 h i)) := by
  pointwise [lse]
theorem spread_val (x : FVec Ideal S16x4096 .f32) (i : Fin 4096) (k : Fin 1024) : spread x (ix2 i k) = x (ix2 (hOf k) i) := by
  pointwise [spread]
  rfl
theorem r_out1 (i : Fin 4096) (k : Fin 1024) : out1 (up q.Q) (up q.K) (up q.Fr) (up q.Fb) (ix2 i k) = ((q.M (hOf k) i + Real.log (q.T (hOf k) i) : ℝ) : EReal) := by
  unfold out1
  rw [spread_val, lse_val, r_v25, r_v45, Ideal.log_coe, if_neg (not_le.2 (T_pos q _ _)), EReal.coe_add]
end reals

end Cert.AttnFRefIdeal.Plain
end
-- ==== Proof.AttnFVal.lean ====
module
public import proofs.«01_k».proof.Proof.AttnFRow
public import proofs.«01_k».proof.Proof.Gen.AttnFIdeal.Value
public import proofs.«01_k».proof.Proof.AttnFHost
public import proofs.«01_k».proof.Proof.AttnFRef
@[expose] public section
set_option maxRecDepth 16384

/-! What the attention leaves in its two arrays, over the reals. -/
noncomputable section
open Idealize.ShloMosaic Idealize.ShloMosaic.TcCoe Idealize.SL.Sem

namespace Cert.AttnFIdeal.Fwd
open Cert.AttnFIdeal Cert.AttnFIdeal.Gen Cert.Real
open Cert.AttnIdeal.Grad (QA KA QA_KA rowAt col headAt low)

theorem mask_val : Named.named (F := Ideal) (φ := .f32) κ "mask" 0xF149F2CA#32 = (⊥ : EReal) :=
  IdealRules.named_const.ideal_named_scalar _ _ _ _ rfl
theorem lanes : ∀ l : Fin 128, IntOp.cmpi .slt (BitVec.ofNat 32 l.val) 64#32 = BitVec.ofBool (decide (l.val / 64 = 0)) := by
  decide +kernel

section Scores
variable {q : FVec Ideal S1024x128 .bf16} {k : Vec Ideal S1x1024x128 .bf16} {Q K : Fin 1024 → Fin 128 → ℝ}
  (hq : ∀ a l, q (ix2 a l) = ((Q a l : ℝ) : EReal)) (hk : ∀ b l, k (ix3 0 b l) = ((K b l : ℝ) : EReal))
include hq hk
theorem block_val (a b : Fin 1024) : k0_pay3 q k (ix2 a b) = ((∑ l, Q a l * K b l : ℝ) : EReal) := by
  pointwise [k0_pay3]
  simp only [hq, hk, ← EReal.coe_mul, sum_coe]
theorem diag_val (a b : Fin 1024) : diag q k (ix2 a b) = scr (fun b => b.val ≤ a.val) (fun b => ∑ l, Q a l * K b l) b := by
  pointwise [diag]
  rw [block_val hq hk, mask_val, low, WordCmp.select_ofBool]
  unfold scr
  by_cases h : b.val ≤ a.val <;> simp [h]
end Scores

theorem sum_upto (i : Fin 4) (f : Fin 4096 → ℝ) (hf : ∀ (j : Fin 4) (b : Fin 1024), i.val < j.val → f (rowAt j b) = 0) :
    ∑ k ∈ Finset.range (i.val + 1), ∑ b, f (rowAt (row1 k) b) = ∑ c, f c := by
  have e : ∑ c, f c = ∑ k ∈ Finset.range 4, ∑ b, f (rowAt (row1 k) b) := by
    refine (Fin.sum_univ_tiles 4 1024 rfl f).trans ?_
    refine Eq.trans ?_ (Fin.sum_univ_eq_sum_range (fun k => ∑ b, f (rowAt (row1 k) b)) 4)
    refine Finset.sum_congr rfl fun j _ => Finset.sum_congr rfl fun b _ => ?_
    refine congrArg f (Fin.ext ?_)
    show j.val * 1024 + b.val = (j.val % 4) * 1024 + b.val
    omega
  rw [e]
  refine Finset.sum_subset (fun k hk => ?_) fun k hk hk' => ?_
  · have := Finset.mem_range.1 hk
    exact Finset.mem_range.2 (by omega)
  · have h1 := Finset.mem_range.1 hk
    have h2 : ¬ k < i.val + 1 := fun h => hk' (Finset.mem_range.2 h)
    refine Finset.sum_eq_zero fun b _ => hf _ _ ?_
    show i.val < k % 4
    omega

/-! ## A head's rows -/
section Head
variable {q : FVec Ideal S1024x128 .bf16} {w1 : Vec Ideal S2x4096x128 .bf16} {w2 : Vec Ideal S4096x128 .bf16} {e : Fin 2}
  {Q : Fin 1024 → Fin 128 → ℝ} {K V : Fin 4096 → Fin 128 → ℝ}

/-- A key's weight for a row. -/
def wtOf (K : Fin 4096 → Fin 128 → ℝ) (Q : Fin 128 → ℝ) (r c : Fin 4096) : ℝ := if c.val ≤ r.val then Real.exp (∑ l, Q l * K c l) else 0

variable (hq : ∀ a l, q (ix2 a l) = ((Q a l : ℝ) : EReal)) (hk : ∀ c l, w1 (ix3 e c l) = ((K c l : ℝ) : EReal)) (hv : ∀ c l, w2 (ix2 c l) = ((V c l : ℝ) : EReal))
include hq hk hv
theorem headN_row (i : Fin 4) (a : Fin 1024) (n : ℕ) (hn : n ≤ i.val) :
    Row (∑ k ∈ Finset.range n, ∑ b, wtOf K (Q a) (rowAt i a) (rowAt (row1 k) b))
      (fun x => ∑ k ∈ Finset.range n, ∑ b, wtOf K (Q a) (rowAt i a) (rowAt (row1 k) b) * V (rowAt (row1 k) b) x)
      ((headN q w1 w2 e n).1 (ix2 a 0)) ((headN q w1 w2 e n).2.1 (ix2 a 0)) (fun x => (headN q w1 w2 e n).2.2 (ix2 a x)) := by
  induction n with
  | zero =>
    refine .inl ⟨?_, ?_, fun x => ?_, Finset.sum_range_zero _, fun x => Finset.sum_range_zero _⟩
    · show k0_pay33 (F := Ideal) (ix2 a 0) = ⊥
      pointwise [k0_pay33]
      exact mask_val
    · show k0_pay34 (F := Ideal) (ix2 a 0) = 0
      pointwise [k0_pay34]
    · show k0_pay35 (F := Ideal) (ix2 a x) = 0
      pointwise [k0_pay35]
  | succ n ih =>
    obtain ⟨M, h1, h2, h3⟩ := row_step (keep := fun _ => True) (L := fun b => ∑ l, Q a l * K (rowAt (row1 n) b) l) (s := k0_pay3 q (keys w1 e (row1 n)))
      (v := k0_pay2 (vals w2 (row1 n))) (w := fun b x => V (rowAt (row1 n) b) x) (ih (by omega)) 0 trivial
      (fun b => (block_val (K := fun b l => K (rowAt (row1 n) b) l) hq (fun b l => hk _ l) a b).trans (if_pos trivial).symm)
      (fun b x => by
        pointwise [k0_pay2]
        exact hv _ _)
    have ew : ∀ b, wt (fun _ => True) (fun b => ∑ l, Q a l * K (rowAt (row1 n) b) l) b = wtOf K (Q a) (rowAt i a) (rowAt (row1 n) b) := fun b => by
      have : (rowAt (row1 n) b).val ≤ (rowAt i a).val := by
        show (n % 4) * 1024 + b.val ≤ i.val * 1024 + a.val
        have := i.isLt
        omega
      exact (if_pos trivial).trans (if_pos this).symm
    refine .inr ⟨M, h1, h2.trans ?_, fun x => (h3 x).trans ?_⟩
    · rw [Finset.sum_range_succ]
      simp only [ew]
    · dsimp only
      rw [Finset.sum_range_succ]
      simp only [ew]

theorem headF_row (i : Fin 4) (g : grid0.Coords) (hg : row0 g = i) (a : Fin 1024) :
    ∃ M : ℝ, (headF q w1 w2 e g).1 (ix2 a 0) = (M : EReal)
      ∧ (headF q w1 w2 e g).2.1 (ix2 a 0) = ((Real.exp (-M) * ∑ c, wtOf K (Q a) (rowAt i a) c : ℝ) : EReal)
      ∧ ∀ x, (headF q w1 w2 e g).2.2 (ix2 a x) = ((Real.exp (-M) * ∑ c, wtOf K (Q a) (rowAt i a) c * V c x : ℝ) : EReal) := by
  have hi : (g 1).val = i.val := congrArg Fin.val hg
  have h := headN_row hq hk hv i a i.val le_rfl
  obtain ⟨M, h1, h2, h3⟩ := row_step (keep := fun b => b.val ≤ a.val) (L := fun b => ∑ l, Q a l * K (rowAt i b) l) (s := diag q (keys w1 e i))
    (v := k0_pay38 (vals w2 i)) (w := fun b x => V (rowAt i b) x) h a le_rfl
    (fun b => diag_val (K := fun b l => K (rowAt i b) l) hq (fun b l => hk _ l) a b)
    (fun b x => by
      pointwise [k0_pay38]
      exact hv _ _)
  have ew : ∀ b, wt (fun b => b.val ≤ a.val) (fun b => ∑ l, Q a l * K (rowAt i b) l) b = wtOf K (Q a) (rowAt i a) (rowAt (row1 i.val) b) := fun b => by
    have hr : row1 i.val = i := Fin.ext (Nat.mod_eq_of_lt i.isLt)
    rw [hr]
    unfold wt wtOf
    refine if_congr ?_ rfl rfl
    show b.val ≤ a.val ↔ i.val * 1024 + b.val ≤ i.val * 1024 + a.val
    omega
  have ev : ∀ b x, V (rowAt i b) x = V (rowAt (row1 i.val) b) x := fun b x => by
    have hr : row1 i.val = i := Fin.ext (Nat.mod_eq_of_lt i.isLt)
    rw [hr]
  have hz : ∀ (j : Fin 4) (b : Fin 1024), i.val < j.val → wtOf K (Q a) (rowAt i a) (rowAt j b) = 0 := fun j b hj => if_neg (by
    show ¬ j.val * 1024 + b.val ≤ i.val * 1024 + a.val
    have := a.isLt
    omega)
  unfold headF
  rw [hg, hi]
  refine ⟨M, h1, h2.trans ?_, fun x => (h3 x).trans ?_⟩
  · simp only [ew]
    rw [← Finset.sum_range_succ (fun k => ∑ b, wtOf K (Q a) (rowAt i a) (rowAt (row1 k) b)), sum_upto i _ hz]
  · simp only [ew, ev]
    rw [← Finset.sum_range_succ (fun k => ∑ b, wtOf K (Q a) (rowAt i a) (rowAt (row1 k) b) * V (rowAt (row1 k) b) x),
      sum_upto i (fun c => wtOf K (Q a) (rowAt i a) c * V c x) fun j b hj => by rw [hz j b hj, zero_mul]]
end Head

/-! ## The reference's rows -/
section Plain
variable (q : Att.In) (h : Fin 16) (i : Fin 4096)
/-- A key's weight for a row, not scaled. -/
def wE (j : Fin 4096) : ℝ := if j.val ≤ i.val then Real.exp (q.L h i j) else 0
theorem wtOf_eq (j : Fin 4096) : wtOf (KA q h) (QA q h i) i j = wE q h i j := by
  unfold wtOf wE
  rw [QA_KA]
theorem E_eq (j : Fin 4096) : q.E h i j = Real.exp (-q.M h i) * wE q h i j := by
  unfold Att.In.E wE
  split_ifs
  · rw [← Real.exp_add]
    exact congrArg Real.exp (by ring)
  · rw [mul_zero]
theorem T_eq : q.T h i = Real.exp (-q.M h i) * ∑ j, wE q h i j := by
  unfold Att.In.T
  rw [Finset.mul_sum]
  exact Finset.sum_congr rfl fun j _ => E_eq q h i j
theorem S_pos : 0 < ∑ j, wE q h i j := by
  have := Att.T_pos q h i
  rw [T_eq] at this
  exact (pos_iff_pos_of_mul_pos this).1 (Real.exp_pos _)
theorem mean_eq (M : ℝ) (v : Fin 4096 → ℝ) :
    (Real.exp (-M) * ∑ j, wE q h i j * v j) / (Real.exp (-M) * ∑ j, wE q h i j) = ∑ j, v j * q.P h i j := by
  rw [mul_div_mul_left _ _ (Real.exp_pos _).ne', Finset.sum_div]
  refine Finset.sum_congr rfl fun j _ => ?_
  unfold Att.In.P
  rw [T_eq, E_eq, mul_div_mul_left _ _ (Real.exp_pos _).ne']
  ring
theorem log_eq (M : ℝ) : M + Real.log (Real.exp (-M) * ∑ j, wE q h i j) = q.M h i + Real.log (q.T h i) := by
  rw [T_eq, Real.log_mul (Real.exp_pos _).ne' (S_pos q h i).ne', Real.log_mul (Real.exp_pos _).ne' (S_pos q h i).ne', Real.log_exp, Real.log_exp]
  ring
end Plain

/-! ## What a point stores -/
section Stores
variable (x y : St Ideal)
theorem outO_at (a : Fin 1024) (k : Fin 128) : outO x y (ix2 a k) = if k.val / 64 = 0 then Ideal.div (x.2.2 (ix2 a k)) (x.2.1 (ix2 a 0)) else Ideal.div (y.2.2 (ix2 a k)) (y.2.1 (ix2 a 0)) := by
  pointwise [outO, k0_pay30]
  rw [lanes, WordCmp.select_ofBool]
  by_cases h : k.val / 64 = 0 <;> simp [h]
theorem outS_at (a : Fin 1024) (k : Fin 128) : outS x y (ix2 a k) = if k.val / 64 = 0 then x.1 (ix2 a 0) + Ideal.log (x.2.1 (ix2 a 0)) else y.1 (ix2 a 0) + Ideal.log (y.2.1 (ix2 a 0)) := by
  pointwise [outS, k0_pay30]
  rw [lanes, WordCmp.select_ofBool]
  by_cases h : k.val / 64 = 0 <;> simp [h]
theorem q31 (w : Vec Ideal S2x1024x128 .bf16) (a : Fin 1024) (l : Fin 128) : k0_pay31 (queries w 0) (ix2 a l) = w (ix3 0 a l) := by
  pointwise [k0_pay31]
  rfl
theorem q32 (w : Vec Ideal S2x1024x128 .bf16) (a : Fin 1024) (l : Fin 128) : k0_pay32 (queries w 1) (ix2 a l) = w (ix3 1 a l) := by
  pointwise [k0_pay32]
  rfl
end Stores

/-! ## The blocks at a grid point -/
section Blocks
variable {m : (ℓ : Loc nD τ sig) → Buf (Elt Ideal) ℓ} {q : Att.In} {c : Dev nD}
theorem idx : ∀ t : Fin cfg0.N, win0_0.index t = ![t.val / 4, t.val % 4, 0]
    ∧ win0_1.index t = ![t.val / 4, 0, 0]
    ∧ win0_2.index t = ![0, t.val / 4]
    ∧ win0_3.index t = ![t.val % 4, t.val / 4]
    ∧ win0_4.index t = ![t.val % 4, t.val / 4] :=
  (by decide +kernel : ∀ t : Fin grid0.N, _)
/-- A point's pair of heads and its block of rows. -/
def pt (t : Fin cfg0.N) : Fin 8 := ⟨t.val / 4, by have := t.isLt.trans_eq N_0; omega⟩
def it (t : Fin cfg0.N) : Fin 4 := ⟨t.val % 4, by omega⟩
theorem row_t (t : Fin cfg0.N) : row0 (grid0.coords t) = it t := Fin.ext ((Pipeline.Grid.coords_val t 1 (by decide) rfl : (grid0.coords t 1).val = t.val / 1 % 4).trans (by rw [Nat.div_one]; rfl))
variable (A : Args q m c)
include A
theorem w0 (t : Fin cfg0.N) (e a l) : iblk m c 0 t (ix3 e a l) = ((QA q (headAt (pt t) e) (rowAt (it t) a) l : ℝ) : EReal) := by
  refine (congrFun (V_eq m c main_v31) _).trans ?_
  rw [U9_v31]
  refine Eq.trans ?_ (v31_val A (headAt (pt t) e) (rowAt (it t) a) l)
  refine congrArg _ ?_
  blk_ext [idx t]
  all_goals rfl
theorem w1 (t : Fin cfg0.N) (e j l) : iblk m c 1 t (ix3 e j l) = ((KA q (headAt (pt t) e) j l : ℝ) : EReal) := by
  refine (congrFun (V_eq m c main_v39) _).trans ?_
  rw [U9_v39]
  refine Eq.trans ?_ (v39_val A (headAt (pt t) e) j l)
  refine congrArg _ ?_
  blk_ext [idx t]
  all_goals rfl
theorem w2 (t : Fin cfg0.N) (j l) : iblk m c 2 t (ix2 j l) = ((q.V (ix2 j (col (pt t) l)) : ℝ) : EReal) := by
  refine (congrFun (V_eq m c main_v40) _).trans ?_
  refine Eq.trans ?_ (v40_val A j (col (pt t) l))
  refine congrArg _ ?_
  blk_ext [idx t]
  all_goals rfl

theorem head_val (t : Fin cfg0.N) (e : Fin 2) {qv : FVec Ideal S1024x128 .bf16} (hq : ∀ a l, qv (ix2 a l) = iblk m c 0 t (ix3 e a l)) (a : Fin 1024) :
    ∃ M : ℝ, (headF qv (iblk m c 1 t) (iblk m c 2 t) e (grid0.coords t)).1 (ix2 a 0) = (M : EReal)
      ∧ (headF qv (iblk m c 1 t) (iblk m c 2 t) e (grid0.coords t)).2.1 (ix2 a 0) = ((Real.exp (-M) * ∑ j, wE q (headAt (pt t) e) (rowAt (it t) a) j : ℝ) : EReal)
      ∧ ∀ x, (headF qv (iblk m c 1 t) (iblk m c 2 t) e (grid0.coords t)).2.2 (ix2 a x)
          = ((Real.exp (-M) * ∑ j, wE q (headAt (pt t) e) (rowAt (it t) a) j * q.V (ix2 j (col (pt t) x)) : ℝ) : EReal) := by
  obtain ⟨M, h1, h2, h3⟩ := headF_row (q := qv) (w1 := iblk m c 1 t) (w2 := iblk m c 2 t) (e := e) (Q := fun a l => QA q (headAt (pt t) e) (rowAt (it t) a) l)
    (K := KA q (headAt (pt t) e)) (V := fun j l => q.V (ix2 j (col (pt t) l))) (fun a l => (hq a l).trans (w0 A t e a l)) (w1 A t e) (w2 A t)
    (it t) (grid0.coords t) (row_t t) a
  refine ⟨M, h1, h2.trans ?_, fun x => (h3 x).trans ?_⟩
  · exact congrArg (fun r : ℝ => ((Real.exp (-M) * r : ℝ) : EReal)) (Finset.sum_congr rfl fun j _ => wtOf_eq q _ _ j)
  · exact congrArg (fun r : ℝ => ((Real.exp (-M) * r : ℝ) : EReal)) (Finset.sum_congr rfl fun j _ => congrArg (· * _) (wtOf_eq q _ _ j))
theorem mean_val (t : Fin cfg0.N) (e : Fin 2) {qv : FVec Ideal S1024x128 .bf16} (hq : ∀ a l, qv (ix2 a l) = iblk m c 0 t (ix3 e a l)) (a : Fin 1024) (k : Fin 128) :
    Ideal.div ((headF qv (iblk m c 1 t) (iblk m c 2 t) e (grid0.coords t)).2.2 (ix2 a k)) ((headF qv (iblk m c 1 t) (iblk m c 2 t) e (grid0.coords t)).2.1 (ix2 a 0))
      = ((∑ j, q.V (ix2 j (col (pt t) k)) * q.P (headAt (pt t) e) (rowAt (it t) a) j : ℝ) : EReal) := by
  obtain ⟨M, -, h2, h3⟩ := head_val A t e hq a
  rw [h2, h3, div_real (mul_pos (Real.exp_pos _) (S_pos q _ _)).ne']
  exact congrArg (fun r : ℝ => (r : EReal)) (mean_eq q _ _ M _)
theorem sum_val (t : Fin cfg0.N) (e : Fin 2) {qv : FVec Ideal S1024x128 .bf16} (hq : ∀ a l, qv (ix2 a l) = iblk m c 0 t (ix3 e a l)) (a : Fin 1024) :
    (headF qv (iblk m c 1 t) (iblk m c 2 t) e (grid0.coords t)).1 (ix2 a 0) + Ideal.log ((headF qv (iblk m c 1 t) (iblk m c 2 t) e (grid0.coords t)).2.1 (ix2 a 0))
      = ((q.M (headAt (pt t) e) (rowAt (it t) a) + Real.log (q.T (headAt (pt t) e) (rowAt (it t) a)) : ℝ) : EReal) := by
  obtain ⟨M, h1, h2, -⟩ := head_val A t e hq a
  rw [h1, h2, Ideal.log_coe, if_neg (not_le.2 (mul_pos (Real.exp_pos _) (S_pos q _ _))), ← EReal.coe_add]
  exact congrArg (fun r : ℝ => (r : EReal)) (log_eq q _ _ M)

theorem out3_val (t : Fin cfg0.N) (a : Fin 1024) (k : Fin 128) : (outsAt0 m c t).1 (ix2 a k)
    = ((∑ j, q.V (ix2 j (col (pt t) k)) * q.P (Att.hOf (col (pt t) k)) (rowAt (it t) a) j : ℝ) : EReal) := by
  unfold outsAt0
  dsimp only
  rw [out3_eq, outO_at]
  have hk := k.isLt
  rcases (show k.val / 64 = 0 ∨ k.val / 64 = 1 by omega) with h | h
  · rw [if_pos h, mean_val A t 0 (q31 (iblk m c 0 t)),
      show Att.hOf (col (pt t) k) = headAt (pt t) 0 from Fin.ext (show ((pt t).val * 128 + k.val) / 64 = (pt t).val * 2 + 0 by omega)]
  · rw [if_neg (by omega), mean_val A t 1 (q32 (iblk m c 0 t)),
      show Att.hOf (col (pt t) k) = headAt (pt t) 1 from Fin.ext (show ((pt t).val * 128 + k.val) / 64 = (pt t).val * 2 + 1 by omega)]
theorem out4_val (t : Fin cfg0.N) (a : Fin 1024) (k : Fin 128) : (outsAt0 m c t).2 (ix2 a k)
    = ((q.M (Att.hOf (col (pt t) k)) (rowAt (it t) a) + Real.log (q.T (Att.hOf (col (pt t) k)) (rowAt (it t) a)) : ℝ) : EReal) := by
  unfold outsAt0
  dsimp only
  rw [out4_eq, outS_at]
  have hk := k.isLt
  rcases (show k.val / 64 = 0 ∨ k.val / 64 = 1 by omega) with h | h
  · rw [if_pos h, sum_val A t 0 (q31 (iblk m c 0 t)),
      show Att.hOf (col (pt t) k) = headAt (pt t) 0 from Fin.ext (show ((pt t).val * 128 + k.val) / 64 = (pt t).val * 2 + 0 by omega)]
  · rw [if_neg (by omega), sum_val A t 1 (q32 (iblk m c 0 t)),
      show Att.hOf (col (pt t) k) = headAt (pt t) 1 from Fin.ext (show ((pt t).val * 128 + k.val) / 64 = (pt t).val * 2 + 1 by omega)]

omit A in
/-- The attention's rows. -/
def resO (q : Att.In) : FVec Ideal S4096x1024 .f32 := fun y => ((∑ j, q.V (ix2 j (y 1)) * q.P (Att.hOf (y 1)) (y 0) j : ℝ) : EReal)
omit A in
/-- The attention's row log-sums. -/
def resS (q : Att.In) : FVec Ideal S4096x1024 .f32 := fun y => ((q.M (Att.hOf (y 1)) (y 0) + Real.log (q.T (Att.hOf (y 1)) (y 0)) : ℝ) : EReal)
theorem final3 : (dats m 0 c).arrAt 3 cfg0.N = resO q := by
  refine (dats m 0 c).arrAt_eq_of_covers 3 _ (by decide +kernel) fun t hf y => ?_
  have e : ((cfg0.win 3).blk t).view.emb y = ix2 (rowAt (it t) (y 0)) (col (pt t) (y 1)) := by
    idx_vars y
    blk_ext [idx t]
    all_goals rfl
  have p : (outsAt0 m c t).1 y = resO q (ix2 (rowAt (it t) (y 0)) (col (pt t) (y 1))) := by
    idx_vars y
    exact out3_val A t _ _
  rw [e]
  blk_simp; rw [after0_3]
  exact p
theorem final4 : (dats m 0 c).arrAt 4 cfg0.N = resS q := by
  refine (dats m 0 c).arrAt_eq_of_covers 4 _ (by decide +kernel) fun t hf y => ?_
  have e : ((cfg0.win 4).blk t).view.emb y = ix2 (rowAt (it t) (y 0)) (col (pt t) (y 1)) := by
    idx_vars y
    blk_ext [idx t]
    all_goals rfl
  have p : (outsAt0 m c t).2 y = resS q (ix2 (rowAt (it t) (y 0)) (col (pt t) (y 1))) := by
    idx_vars y
    exact out4_val A t _ _
  rw [e]
  blk_simp; rw [after0_4]
  exact p
theorem rows_eq : (dats m 0 c).arrAt 3 cfg0.N = Cert.AttnFRefIdeal.Plain.out0 (up q.Q) (up q.K) (up q.V) (up q.Fr) (up q.Fb) := by
  rw [final3 A]
  funext y
  idx_vars y
  exact (Cert.AttnFRefIdeal.Plain.r_out0 q y0 y1).symm
theorem sums_eq : (dats m 0 c).arrAt 4 cfg0.N = Cert.AttnFRefIdeal.Plain.out1 (up q.Q) (up q.K) (up q.Fr) (up q.Fb) := by
  rw [final4 A]
  funext y
  idx_vars y
  exact (Cert.AttnFRefIdeal.Plain.r_out1 q y0 y1).symm
end Blocks

/-! ## The run -/
section Run
variable (m : (ℓ : Loc nD τ sig) → Buf (Elt Ideal) ℓ)
/-- The rows left. -/
def rowsLeft (c : Dev nD) : FVec Ideal S4096x1024 .f32 := (dats m 0 c).arrAt 3 cfg0.N
/-- The row log-sums left. -/
def sumsLeft (c : Dev nD) : FVec Ideal S4096x1024 .f32 := (dats m 0 c).arrAt 4 cfg0.N
theorem run_left (ρ : Dev nD → PrngReg) : θ_run defs (onTc (τ := τ) (main (F := Ideal))) ⟨m, fun _ => 0, ρ⟩ fun r => ∀ c : Dev nD,
      r.2.mem ((c : Thread nD τ).loc main_v41_0) = rowsLeft m c
      ∧ r.2.mem ((c : Thread nD τ).loc main_v41_1) = sumsLeft m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Cert.AttnFIdeal.Value.run_blocks m ρ
end Run

end Cert.AttnFIdeal.Fwd
end
-- ==== Proof.Mod1Val.lean ====
/- The modulated input: the rows the kernel leaves are the plain program's. -/
module
public import proofs.«01_k».proof.Proof.Gen.Mod1Ideal.Frame
public import proofs.«01_k».proof.Proof.Gen.Mod1Ideal.Value
public import proofs.«01_k».proof.Proof.Gen.Mod1RefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.Mod1RefIdeal.Plain
open Cert.Mod1RefIdeal Cert.Mod1RefIdeal.Gen

/-- the plain result 0 -/
def out0 (a0 : FVec Ideal S4096x1024 .f32) (a1 : FVec Ideal S1x1024 .f32) (a2 : FVec Ideal S1x1024 .f32) : FVec Ideal S4096x1024 .bf16 :=
  truncf .bf16 (addf (mulf a0 (broadcastInDim S4096x1024 ![0, 1] bcast_S1x1024_S4096x1024_0_1 (addf (broadcastInDim S1x1024 ![] bcast_S_S1x1024 (constant S_ .f32 0x3F800000#32)) a1))) (broadcastInDim S4096x1024 ![0, 1] bcast_S1x1024_S4096x1024_0_1 a2)) bitsLt_bf16_f32

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = out0 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl), (h c).2⟩) (Value.run (F := Ideal) m ρ)

end Cert.Mod1RefIdeal.Plain

namespace Cert.Mod1Ideal.Left
open Cert.Mod1Ideal Cert.Mod1Ideal.Gen
open Cert.Mod1RefIdeal.Plain (out0)
variable (m : (ℓ : Loc nD τ sig) → Buf (Elt Ideal) ℓ)

/-- each window's block index at each grid point -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- what the body stores at a block index is the plain result where it lies -/
theorem point3 (c : Dev nD) (t : Fin cfg0.N) (y) :
    k0_pay1 (iblk m c 0 t) (iblk m c 1 t) (iblk m c 2 t) y
      = out0 (m ((c : Thread nD τ).loc main_arg0)) (m ((c : Thread nD τ).loc main_arg1)) (m ((c : Thread nD τ).loc main_arg2)) (((cfg0.win 3).blk t).view.emb y) := by
  pointwise [k0_pay1, out0]
  blk_point [iblk, V, idx t]
theorem final3 (c : Dev nD) : (dats m 0 c).arrAt 3 cfg0.N = out0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point3 m c t y
end Cert.Mod1Ideal.Left
end
-- ==== Proof.FFInVal.lean ====
/- The up product and the squared relu: both arrays the kernel leaves are the plain program's. -/
module
public import proofs.«01_k».proof.Proof.Gen.FFInIdeal.Frame
public import proofs.«01_k».proof.Proof.Gen.FFInIdeal.Value
public import proofs.«01_k».proof.Proof.Gen.FFInRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.FFInRefIdeal.Plain
open Cert.FFInRefIdeal Cert.FFInRefIdeal.Gen

/-- the plain result 0 -/
def out0 (a0 : FVec Ideal S4096x1024 .f32) (a1 : FVec Ideal S1024x4096 .f32) : FVec Ideal S4096x4096 .bf16 :=
  truncf .bf16 (mulf (maximumf (Host.dotGeneral dot_S4096x1024_S1024x4096_S4096x4096_1_0_0_1_n_n none a0 a1) (broadcastInDim S4096x4096 ![] bcast_S_S4096x4096 (constant S_ .f32 0x00000000#32))) (maximumf (Host.dotGeneral dot_S4096x1024_S1024x4096_S4096x4096_1_0_0_1_n_n none a0 a1) (broadcastInDim S4096x4096 ![] bcast_S_S4096x4096 (constant S_ .f32 0x00000000#32)))) bitsLt_bf16_f32
/-- the plain result 1 -/
def out1 (a0 : FVec Ideal S4096x1024 .f32) (a1 : FVec Ideal S1024x4096 .f32) : FVec Ideal S4096x4096 .bf16 :=
  truncf .bf16 (transpose S4096x4096 [1, 0] (mulf (maximumf (Host.dotGeneral dot_S4096x1024_S1024x4096_S4096x4096_1_0_0_1_n_n none a0 a1) (broadcastInDim S4096x4096 ![] bcast_S_S4096x4096 (constant S_ .f32 0x00000000#32))) (maximumf (Host.dotGeneral dot_S4096x1024_S1024x4096_S4096x4096_1_0_0_1_n_n none a0 a1) (broadcastInDim S4096x4096 ![] bcast_S_S4096x4096 (constant S_ .f32 0x00000000#32)))) transposes_S4096x4096_S4096x4096_1_0) bitsLt_bf16_f32

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = out0 (m ((c.tc : Thread nD τ).loc main_arg0)) (m ((c.tc : Thread nD τ).loc main_arg1))
      ∧ r.2.mem ((c.tc : Thread nD τ).loc main_v5) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2.1.trans (by rfl), (h c).2.2⟩) (Value.run (F := Ideal) m ρ)

end Cert.FFInRefIdeal.Plain

namespace Cert.FFInIdeal.Left
open Cert.FFInIdeal Cert.FFInIdeal.Gen
open Cert.FFInRefIdeal.Plain (out0 out1)
variable (m : (ℓ : Loc nD τ sig) → Buf (Elt Ideal) ℓ)

/-- each window's block index at each grid point -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 1).val, (grid0.coords t 0).val] :=
  (by decide +kernel : ∀ t : Fin grid0.N, _)

theorem V0 (c : Dev nD) : V m c main_v0 = (truncf .bf16 (m ((c : Thread nD τ).loc main_arg0) : FVec Ideal S4096x1024 .f32) bitsLt_bf16_f32 : FVec Ideal S4096x1024 .bf16) := by
  unfold V; after_results; try rfl
theorem V1 (c : Dev nD) : V m c main_v1 = (truncf .bf16 (m ((c : Thread nD τ).loc main_arg1) : FVec Ideal S1024x4096 .f32) bitsLt_bf16_f32 : FVec Ideal S1024x4096 .bf16) := by
  unfold V; after_results; try rfl
/-- what the body stores at a block index is the plain result where it lies -/
theorem point2 (c : Dev nD) (t : Fin cfg0.N) (y) :
    k0_pay2 (iblk m c 0 t) (iblk m c 1 t) y
      = out0 (m ((c : Thread nD τ).loc main_arg0)) (m ((c : Thread nD τ).loc main_arg1)) (((cfg0.win 2).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, k0_pay2, k0_pay3, out0]
  simp only [e0, e1]
  refine congrArg (fun x : EReal => max x 0 * max x 0) (Finset.sum_congr rfl fun x _ => ?_)
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
/-- what the body stores at a block index is the plain result where it lies -/
theorem point3 (c : Dev nD) (t : Fin cfg0.N) (y) :
    k0_pay3 (iblk m c 0 t) (iblk m c 1 t) y
      = out1 (m ((c : Thread nD τ).loc main_arg0)) (m ((c : Thread nD τ).loc main_arg1)) (((cfg0.win 3).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, k0_pay2, k0_pay3, out1]
  simp only [e0, e1]
  refine congrArg (fun x : EReal => max x 0 * max x 0) (Finset.sum_congr rfl fun x _ => ?_)
  blk_point [idx t]
theorem final3 (c : Dev nD) : (dats m 0 c).arrAt 3 cfg0.N = out1 (m ((c : Thread nD τ).loc main_arg0)) (m ((c : Thread nD τ).loc main_arg1)) := by
  refine (dats m 0 c).arrAt_eq_of_covers 3 _ (by decide +kernel) fun t hf y => ?_
  blk_simp; rw [after0_3]; unfold outsAt0; frame_out
  exact point3 m c t y
end Cert.FFInIdeal.Left
end
-- ==== Proof.ModPartVal.lean ====
/- The conditioning product: the array the kernel leaves is the plain program's. -/
module
public import proofs.«01_k».proof.Proof.Gen.ModPartIdeal.Frame
public import proofs.«01_k».proof.Proof.Gen.ModPartIdeal.Value
public import proofs.«01_k».proof.Proof.Gen.ModPartRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.ModPartRefIdeal.Plain
open Cert.ModPartRefIdeal Cert.ModPartRefIdeal.Gen

/-- the plain result 0 -/
def out0 (a0 : FVec Ideal S8x1024 .f32) (a1 : FVec Ideal S1024x1536 .f32) (a2 : FVec Ideal S1x1536 .f32) : FVec Ideal S8x1536 .f32 :=
  addf (Host.dotGeneral dot_S8x1024_S1024x1536_S8x1536_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) a1) (broadcastInDim S8x1536 ![0, 1] bcast_S1x1536_S8x1536_0_1 a2)

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = out0 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rfl), (h c).2⟩) (Value.run (F := Ideal) m ρ)

end Cert.ModPartRefIdeal.Plain

namespace Cert.ModPartIdeal.Left
open Cert.ModPartIdeal Cert.ModPartIdeal.Gen
open Cert.ModPartRefIdeal.Plain (out0)
variable (m : (ℓ : Loc nD τ sig) → Buf (Elt Ideal) ℓ)

/-- each window's block index at each grid point -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- what the body stores at a block index is the plain result where it lies -/
theorem point3 (c : Dev nD) (t : Fin cfg0.N) (y) :
    k0_pay1 (iblk m c 0 t) (iblk m c 1 t) (iblk m c 2 t) y
      = out0 (m ((c : Thread nD τ).loc main_arg0)) (m ((c : Thread nD τ).loc main_arg1)) (m ((c : Thread nD τ).loc main_arg2)) (((cfg0.win 3).blk t).view.emb y) := by
  pointwise [k0_pay1, out0]
  simp only [zero_sub]
  blk_point [iblk, V, idx t]
theorem final3 (c : Dev nD) : (dats m 0 c).arrAt 3 cfg0.N = out0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point3 m c t y
end Cert.ModPartIdeal.Left
end
-- ==== Proof.OptVal.lean ====
/- The optimiser's step: the four arrays the kernel leaves are the plain program's. -/
module
public import proofs.«01_k».proof.Proof.Gen.OptIdeal.Frame
public import proofs.«01_k».proof.Proof.Gen.OptIdeal.Value
public import proofs.«01_k».proof.Proof.Gen.OptRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.OptRefIdeal.Plain
open Cert.OptRefIdeal Cert.OptRefIdeal.Gen

/-- the plain result 0 -/
def out0 (a0 : FVec Ideal S1x1024x1536 .f32) (a1 : FVec Ideal S1024x1536 .f32) (a2 : FVec Ideal S1x1024x1536 .f32) (a3 : FVec Ideal S1x1024x1536 .f32) : FVec Ideal S1x1024x1536 .f32 :=
  broadcastInDim S1x1024x1536 ![1, 2] bcast_S1024x1536_S1x1024x1536_1_2 a1
/-- the plain result 1 -/
def out1 (a0 : FVec Ideal S1x1024x1536 .f32) (a1 : FVec Ideal S1024x1536 .f32) (a2 : FVec Ideal S1x1024x1536 .f32) (a3 : FVec Ideal S1x1024x1536 .f32) : FVec Ideal S1x1024x1536 .f32 :=
  mulf (broadcastInDim S1x1024x1536 ![] bcast_S_S1x1024x1536 (constant S_ .f32 0xBA83126F#32)) (addf (Host.divf (Host.divf (addf (mulf (broadcastInDim S1x1024x1536 ![] bcast_S_S1x1024x1536 (constant S_ .f32 0x3F666666#32)) a2) (mulf (broadcastInDim S1x1024x1536 ![] bcast_S_S1x1024x1536 (constant S_ .f32 0x3DCCCCCD#32)) (broadcastInDim S1x1024x1536 ![1, 2] bcast_S1024x1536_S1x1024x1536_1_2 a1))) (broadcastInDim S1x1024x1536 ![] bcast_S_S1x1024x1536 (constant S_ .f32 0x3F26BD02#32))) (addf (Host.sqrt (Host.divf (addf (mulf (broadcastInDim S1x1024x1536 ![] bcast_S_S1x1024x1536 (constant S_ .f32 0x3F7FBE77#32)) a3) (mulf (broadcastInDim S1x1024x1536 ![] bcast_S_S1x1024x1536 (constant S_ .f32 0x3A83126F#32)) (mulf (broadcastInDim S1x1024x1536 ![1, 2] bcast_S1024x1536_S1x1024x1536_1_2 a1) (broadcastInDim S1x1024x1536 ![1, 2] bcast_S1024x1536_S1x1024x1536_1_2 a1)))) (broadcastInDim S1x1024x1536 ![] bcast_S_S1x1024x1536 (constant S_ .f32 0x3C231ACC#32)))) (broadcastInDim S1x1024x1536 ![] bcast_S_S1x1024x1536 (constant S_ .f32 0x322BCC77#32)))) (mulf (broadcastInDim S1x1024x1536 ![] bcast_S_S1x1024x1536 (constant S_ .f32 0x3C23D70A#32)) a0))
/-- the plain result 2 -/
def out2 (a0 : FVec Ideal S1x1024x1536 .f32) (a1 : FVec Ideal S1024x1536 .f32) (a2 : FVec Ideal S1x1024x1536 .f32) (a3 : FVec Ideal S1x1024x1536 .f32) : FVec Ideal S1x1024x1536 .f32 :=
  addf (mulf (broadcastInDim S1x1024x1536 ![] bcast_S_S1x1024x1536 (constant S_ .f32 0x3F666666#32)) a2) (mulf (broadcastInDim S1x1024x1536 ![] bcast_S_S1x1024x1536 (constant S_ .f32 0x3DCCCCCD#32)) (broadcastInDim S1x1024x1536 ![1, 2] bcast_S1024x1536_S1x1024x1536_1_2 a1))
/-- the plain result 3 -/
def out3 (a0 : FVec Ideal S1x1024x1536 .f32) (a1 : FVec Ideal S1024x1536 .f32) (a2 : FVec Ideal S1x1024x1536 .f32) (a3 : FVec Ideal S1x1024x1536 .f32) : FVec Ideal S1x1024x1536 .f32 :=
  addf (mulf (broadcastInDim S1x1024x1536 ![] bcast_S_S1x1024x1536 (constant S_ .f32 0x3F7FBE77#32)) a3) (mulf (broadcastInDim S1x1024x1536 ![] bcast_S_S1x1024x1536 (constant S_ .f32 0x3A83126F#32)) (mulf (broadcastInDim S1x1024x1536 ![1, 2] bcast_S1024x1536_S1x1024x1536_1_2 a1) (broadcastInDim S1x1024x1536 ![1, 2] bcast_S1024x1536_S1x1024x1536_1_2 a1)))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by rfl), (h c).2.1.trans (by rfl), (h c).2.2.1.trans (by rfl), (h c).2.2.2.1.trans (by rfl), (h c).2.2.2.2⟩) (Value.run (F := Ideal) m ρ)

end Cert.OptRefIdeal.Plain

namespace Cert.OptIdeal.Left
open Cert.OptIdeal Cert.OptIdeal.Gen
open Cert.OptRefIdeal.Plain (out0 out1 out2 out3)
variable (m : (ℓ : Loc nD τ sig) → Buf (Elt Ideal) ℓ)

/-- each window's block index at each grid point -/
theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- what the body stores at a block index is the plain result where it lies -/
theorem point4 (c : Dev nD) (t : Fin cfg0.N) (y) :
    k0_pay4 (iblk m c 1 t) y
      = out0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, k0_pay7, out0]
  blk_point [iblk, V, idx t]
theorem final4 (c : Dev nD) : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point4 m c t y
/-- what the body stores at a block index is the plain result where it lies -/
theorem point5 (c : Dev nD) (t : Fin cfg0.N) (y) :
    k0_pay1 (k0_pay7 (iblk m c 0 t) (iblk m c 1 t) (iblk m c 2 t) (iblk m c 3 t)) (Scalar.ofBits .f32 0xBA83126F#32) y
      = out1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, k0_pay7, out1]
  blk_point [iblk, V, idx t]
theorem final5 (c : Dev nD) : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point5 m c t y
/-- what the body stores at a block index is the plain result where it lies -/
theorem point6 (c : Dev nD) (t : Fin cfg0.N) (y) :
    k0_pay2 (k0_pay5 (iblk m c 1 t) (iblk m c 2 t)) y
      = out2 (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay2, k0_pay3, k0_pay4, k0_pay5, k0_pay6, k0_pay7, out2]
  blk_point [iblk, V, idx t]
theorem final6 (c : Dev nD) : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point6 m c t y
/-- what the body stores at a block index is the plain result where it lies -/
theorem point7 (c : Dev nD) (t : Fin cfg0.N) (y) :
    k0_pay3 (k0_pay6 (iblk m c 1 t) (iblk m c 3 t)) y
      = out3 (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay4, k0_pay5, k0_pay6, k0_pay7, out3]
  blk_point [iblk, V, idx t]
theorem final7 (c : Dev nD) : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point7 m c t y
end Cert.OptIdeal.Left
end
-- ==== Proof.OptConvVal.lean ====
/- The optimiser's step: the four arrays the kernel leaves are the plain program's. -/
module
public import proofs.«01_k».proof.Proof.Gen.OptConvIdeal.Frame
public import proofs.«01_k».proof.Proof.Gen.OptConvIdeal.Value
public import proofs.«01_k».proof.Proof.Gen.OptConvRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.OptConvRefIdeal.Plain
open Cert.OptConvRefIdeal Cert.OptConvRefIdeal.Gen

/-- the plain result 0 -/
def out0 (a0 : FVec Ideal S1x4x384 .f32) (a1 : FVec Ideal S4x384 .f32) (a2 : FVec Ideal S1x4x384 .f32) (a3 : FVec Ideal S1x4x384 .f32) : FVec Ideal S1x4x384 .f32 :=
  broadcastInDim S1x4x384 ![1, 2] bcast_S4x384_S1x4x384_1_2 a1
/-- the plain result 1 -/
def out1 (a0 : FVec Ideal S1x4x384 .f32) (a1 : FVec Ideal S4x384 .f32) (a2 : FVec Ideal S1x4x384 .f32) (a3 : FVec Ideal S1x4x384 .f32) : FVec Ideal S1x4x384 .f32 :=
  mulf (broadcastInDim S1x4x384 ![] bcast_S_S1x4x384 (constant S_ .f32 0xBA83126F#32)) (addf (Host.divf (Host.divf (addf (mulf (broadcastInDim S1x4x384 ![] bcast_S_S1x4x384 (constant S_ .f32 0x3F666666#32)) a2) (mulf (broadcastInDim S1x4x384 ![] bcast_S_S1x4x384 (constant S_ .f32 0x3DCCCCCD#32)) (broadcastInDim S1x4x384 ![1, 2] bcast_S4x384_S1x4x384_1_2 a1))) (broadcastInDim S1x4x384 ![] bcast_S_S1x4x384 (constant S_ .f32 0x3F26BD02#32))) (addf (Host.sqrt (Host.divf (addf (mulf (broadcastInDim S1x4x384 ![] bcast_S_S1x4x384 (constant S_ .f32 0x3F7FBE77#32)) a3) (mulf (broadcastInDim S1x4x384 ![] bcast_S_S1x4x384 (constant S_ .f32 0x3A83126F#32)) (mulf (broadcastInDim S1x4x384 ![1, 2] bcast_S4x384_S1x4x384_1_2 a1) (broadcastInDim S1x4x384 ![1, 2] bcast_S4x384_S1x4x384_1_2 a1)))) (broadcastInDim S1x4x384 ![] bcast_S_S1x4x384 (constant S_ .f32 0x3C231ACC#32)))) (broadcastInDim S1x4x384 ![] bcast_S_S1x4x384 (constant S_ .f32 0x322BCC77#32)))) (mulf (broadcastInDim S1x4x384 ![] bcast_S_S1x4x384 (constant S_ .f32 0x3C23D70A#32)) a0))
/-- the plain result 2 -/
def out2 (a0 : FVec Ideal S1x4x384 .f32) (a1 : FVec Ideal S4x384 .f32) (a2 : FVec Ideal S1x4x384 .f32) (a3 : FVec Ideal S1x4x384 .f32) : FVec Ideal S1x4x384 .f32 :=
  addf (mulf (broadcastInDim S1x4x384 ![] bcast_S_S1x4x384 (constant S_ .f32 0x3F666666#32)) a2) (mulf (broadcastInDim S1x4x384 ![] bcast_S_S1x4x384 (constant S_ .f32 0x3DCCCCCD#32)) (broadcastInDim S1x4x384 ![1, 2] bcast_S4x384_S1x4x384_1_2 a1))
/-- the plain result 3 -/
def out3 (a0 : FVec Ideal S1x4x384 .f32) (a1 : FVec Ideal S4x384 .f32) (a2 : FVec Ideal S1x4x384 .f32) (a3 : FVec Ideal S1x4x384 .f32) : FVec Ideal S1x4x384 .f32 :=
  addf (mulf (broadcastInDim S1x4x384 ![] bcast_S_S1x4x384 (constant S_ .f32 0x3F7FBE77#32)) a3) (mulf (broadcastInDim S1x4x384 ![] bcast_S_S1x4x384 (constant S_ .f32 0x3A83126F#32)) (mulf (broadcastInDim S1x4x384 ![1, 2] bcast_S4x384_S1x4x384_1_2 a1) (broadcastInDim S1x4x384 ![1, 2] bcast_S4x384_S1x4x384_1_2 a1)))

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v5) = out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by rfl), (h c).2.1.trans (by rfl), (h c).2.2.1.trans (by rfl), (h c).2.2.2.1.trans (by rfl), (h c).2.2.2.2⟩) (Value.run (F := Ideal) m ρ)

end Cert.OptConvRefIdeal.Plain

namespace Cert.OptConvIdeal.Left
open Cert.OptConvIdeal Cert.OptConvIdeal.Gen
open Cert.OptConvRefIdeal.Plain (out0 out1 out2 out3)
variable (m : (ℓ : Loc nD τ sig) → Buf (Elt Ideal) ℓ)

/-- each window's block index at each grid point -/
theorem idx : ∀ t : Fin cfg0.N, win0_0.index t = ![0, t.val, 0]
    ∧ win0_1.index t = ![t.val, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0] :=
  (by decide +kernel : ∀ t : Fin grid0.N, _)

/-- what the body stores at a block index is the plain result where it lies -/
theorem point4 (c : Dev nD) (t : Fin cfg0.N) (y) :
    k0_pay4 (iblk m c 1 t) y
      = out0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, k0_pay7, out0]
  blk_point [iblk, V, idx t]
theorem final4 (c : Dev nD) : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point4 m c t y
/-- what the body stores at a block index is the plain result where it lies -/
theorem point5 (c : Dev nD) (t : Fin cfg0.N) (y) :
    k0_pay1 (k0_pay7 (iblk m c 0 t) (iblk m c 1 t) (iblk m c 2 t) (iblk m c 3 t)) (Scalar.ofBits .f32 0xBA83126F#32) y
      = out1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, k0_pay7, out1]
  blk_point [iblk, V, idx t]
theorem final5 (c : Dev nD) : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point5 m c t y
/-- what the body stores at a block index is the plain result where it lies -/
theorem point6 (c : Dev nD) (t : Fin cfg0.N) (y) :
    k0_pay2 (k0_pay5 (iblk m c 1 t) (iblk m c 2 t)) y
      = out2 (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay1, k0_pay2, k0_pay3, k0_pay4, k0_pay5, k0_pay6, k0_pay7, out2]
  blk_point [iblk, V, idx t]
theorem final6 (c : Dev nD) : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point6 m c t y
/-- what the body stores at a block index is the plain result where it lies -/
theorem point7 (c : Dev nD) (t : Fin cfg0.N) (y) :
    k0_pay3 (k0_pay6 (iblk m c 1 t) (iblk m c 3 t)) y
      = out3 (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay4, k0_pay5, k0_pay6, k0_pay7, out3]
  blk_point [iblk, V, idx t]
theorem final7 (c : Dev nD) : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point7 m c t y
end Cert.OptConvIdeal.Left
end
-- ==== Proof.ProjVal.lean ====
/- The input projection: the array the kernel leaves is the plain program's. -/
module
public import proofs.«01_k».proof.Proof.Gen.ProjIdeal.Frame
public import proofs.«01_k».proof.Proof.Gen.ProjIdeal.Value
public import proofs.«01_k».proof.Proof.Gen.ProjRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.ProjRefIdeal.Plain
open Cert.ProjRefIdeal Cert.ProjRefIdeal.Gen

/-- the plain result 0 -/
def out0 (a0 : FVec Ideal S4096x1024 .f32) (a1 : FVec Ideal S5760x1024 .f32) : FVec Ideal S4096x5760 .f32 :=
  Host.dotGeneral dot_S4096x1024_S5760x1024_S4096x5760_1_1_0_0_n_n none a0 a1

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.ProjRefIdeal.Plain

namespace Cert.ProjIdeal.Left
open Cert.ProjIdeal Cert.ProjIdeal.Gen
open Cert.ProjRefIdeal.Plain (out0)
variable (m : (ℓ : Loc nD τ sig) → Buf (Elt Ideal) ℓ)

/-- each window's block index at each grid point -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

theorem V0 (c : Dev nD) : V m c main_v0 = (truncf .bf16 (m ((c : Thread nD τ).loc main_arg0) : FVec Ideal S4096x1024 .f32) bitsLt_bf16_f32 : FVec Ideal S4096x1024 .bf16) := by
  unfold V; after_results; try rfl
theorem V1 (c : Dev nD) : V m c main_v1 = (truncf .bf16 (m ((c : Thread nD τ).loc main_arg1) : FVec Ideal S5760x1024 .f32) bitsLt_bf16_f32 : FVec Ideal S5760x1024 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  refine Finset.sum_congr rfl fun x _ => ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.ProjIdeal.Left
end
-- ==== Proof.DyMixVal.lean ====
/- The mixed gradient: the array the kernel leaves is the plain program's. -/
module
public import proofs.«01_k».proof.Proof.Gen.DyMixIdeal.Frame
public import proofs.«01_k».proof.Proof.Gen.DyMixIdeal.Value
public import proofs.«01_k».proof.Proof.Gen.DyMixRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DyMixRefIdeal.Plain
open Cert.DyMixRefIdeal Cert.DyMixRefIdeal.Gen

/-- the plain result 0 -/
def out0 (a0 : FVec Ideal S4096x1024 .f32) (a1 : FVec Ideal S1024x1024 .f32) : FVec Ideal S4096x1024 .f32 :=
  Host.dotGeneral dot_S4096x1024_S1024x1024_S4096x1024_1_1_0_0_n_n none a0 a1

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.DyMixRefIdeal.Plain

namespace Cert.DyMixIdeal.Left
open Cert.DyMixIdeal Cert.DyMixIdeal.Gen
open Cert.DyMixRefIdeal.Plain (out0)
variable (m : (ℓ : Loc nD τ sig) → Buf (Elt Ideal) ℓ)

/-- each window's block index at each grid point -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

theorem V0 (c : Dev nD) : V m c main_v0 = (truncf .bf16 (m ((c : Thread nD τ).loc main_arg0) : FVec Ideal S4096x1024 .f32) bitsLt_bf16_f32 : FVec Ideal S4096x1024 .bf16) := by
  unfold V; after_results; try rfl
theorem V1 (c : Dev nD) : V m c main_v1 = (truncf .bf16 (m ((c : Thread nD τ).loc main_arg1) : FVec Ideal S1024x1024 .f32) bitsLt_bf16_f32 : FVec Ideal S1024x1024 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  refine Finset.sum_congr rfl fun x _ => ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.DyMixIdeal.Left
end
-- ==== Proof.DwFoVal.lean ====
/- The down projection's weight gradient: the array the kernel leaves is the plain program's. -/
module
public import proofs.«01_k».proof.Proof.Gen.DwFoIdeal.Frame
public import proofs.«01_k».proof.Proof.Gen.DwFoIdeal.Value
public import proofs.«01_k».proof.Proof.Gen.DwFoRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DwFoRefIdeal.Plain
open Cert.DwFoRefIdeal Cert.DwFoRefIdeal.Gen

/-- the plain result 0 -/
def out0 (a0 : FVec Ideal S4096x4096 .f32) (a1 : FVec Ideal S4096x1024 .f32) : FVec Ideal S4x1024x1024 .bf16 :=
  shapeCast _ (truncf .bf16 (transpose S4096x1024 [1, 0] (Host.dotGeneral dot_S4096x1024_S4096x4096_S1024x4096_0_0_1_1_n_n none a1 a0) transposes_S1024x4096_S4096x1024_1_0) bitsLt_bf16_f32) shapeCasts_S4096x1024_S4x1024x1024

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.DwFoRefIdeal.Plain

namespace Cert.DwFoIdeal.Left
open Cert.DwFoIdeal Cert.DwFoIdeal.Gen
open Cert.DwFoRefIdeal.Plain (out0)
variable (m : (ℓ : Loc nD τ sig) → Buf (Elt Ideal) ℓ)

/-- each window's block index at each grid point -/
theorem idx : ∀ t : Fin cfg0.N, win0_0.index t = ![(grid0.coords t 0).val, 0]
    ∧ win0_1.index t = ![0, 0]
    ∧ win0_2.index t = ![(grid0.coords t 0).val, 0, 0] :=
  (by decide +kernel : ∀ t : Fin grid0.N, _)

theorem V0 (c : Dev nD) : V m c main_v1 = (truncf .bf16 (transpose S4096x4096 [1, 0] (m ((c : Thread nD τ).loc main_arg0) : FVec Ideal S4096x4096 .f32) transposes_S4096x4096_S4096x4096_1_0 : FVec Ideal S4096x4096 .f32) bitsLt_bf16_f32 : FVec Ideal S4096x4096 .bf16) := by
  unfold V; after_results; try rfl
theorem V1 (c : Dev nD) : V m c main_v2 = (truncf .bf16 (m ((c : Thread nD τ).loc main_arg1) : FVec Ideal S4096x1024 .f32) bitsLt_bf16_f32 : FVec Ideal S4096x1024 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = (truncf .bf16 (transpose S4096x4096 [1, 0] (m ((c : Thread nD τ).loc main_arg0) : FVec Ideal S4096x4096 .f32) transposes_S4096x4096_S4096x4096_1_0 : FVec Ideal S4096x4096 .f32) bitsLt_bf16_f32 : FVec Ideal S4096x4096 .bf16) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  pointwise []
  refine Finset.sum_congr rfl fun x _ => (mul_comm _ _).trans ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.DwFoIdeal.Left
end
-- ==== Proof.DwFiVal.lean ====
/- The up projection's weight gradient: the array the kernel leaves is the plain program's. -/
module
public import proofs.«01_k».proof.Proof.Gen.DwFiIdeal.Frame
public import proofs.«01_k».proof.Proof.Gen.DwFiIdeal.Value
public import proofs.«01_k».proof.Proof.Gen.DwFiRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DwFiRefIdeal.Plain
open Cert.DwFiRefIdeal Cert.DwFiRefIdeal.Gen

/-- the plain result 0 -/
def out0 (a0 : FVec Ideal S4096x1024 .f32) (a1 : FVec Ideal S4096x4096 .f32) : FVec Ideal S4x1024x1024 .bf16 :=
  transpose S4x1024x1024 [1, 0, 2] (shapeCast _ (truncf .bf16 (transpose S1024x4096 [1, 0] (Host.dotGeneral dot_S4096x4096_S4096x1024_S4096x1024_0_0_1_1_n_n none a1 a0) transposes_S4096x1024_S1024x4096_1_0) bitsLt_bf16_f32) shapeCasts_S1024x4096_S1024x4x1024) transposes_S1024x4x1024_S4x1024x1024_1_0_2

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.DwFiRefIdeal.Plain

namespace Cert.DwFiIdeal.Left
open Cert.DwFiIdeal Cert.DwFiIdeal.Gen
open Cert.DwFiRefIdeal.Plain (out0)
variable (m : (ℓ : Loc nD τ sig) → Buf (Elt Ideal) ℓ)

/-- each window's block index at each grid point -/
theorem idx : ∀ t : Fin cfg0.N, win0_0.index t = ![0, 0]
    ∧ win0_1.index t = ![0, (grid0.coords t 1).val]
    ∧ win0_2.index t = ![(grid0.coords t 1).val, 0, 0] :=
  (by decide +kernel : ∀ t : Fin grid0.N, _)

theorem V0 (c : Dev nD) : V m c main_v1 = (truncf .bf16 (transpose S1024x4096 [1, 0] (m ((c : Thread nD τ).loc main_arg0) : FVec Ideal S4096x1024 .f32) transposes_S4096x1024_S1024x4096_1_0 : FVec Ideal S1024x4096 .f32) bitsLt_bf16_f32 : FVec Ideal S1024x4096 .bf16) := by
  unfold V; after_results; try rfl
theorem V1 (c : Dev nD) : V m c main_v2 = (truncf .bf16 (m ((c : Thread nD τ).loc main_arg1) : FVec Ideal S4096x4096 .f32) bitsLt_bf16_f32 : FVec Ideal S4096x4096 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = (truncf .bf16 (transpose S1024x4096 [1, 0] (m ((c : Thread nD τ).loc main_arg0) : FVec Ideal S4096x1024 .f32) transposes_S4096x1024_S1024x4096_1_0 : FVec Ideal S1024x4096 .f32) bitsLt_bf16_f32 : FVec Ideal S1024x4096 .bf16) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  pointwise []
  refine Finset.sum_congr rfl fun x _ => (mul_comm _ _).trans ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.DwFiIdeal.Left
end
-- ==== Proof.DwOutVal.lean ====
/- The output projection's weight gradient: the array the kernel leaves is the plain program's. -/
module
public import proofs.«01_k».proof.Proof.Gen.DwOutIdeal.Frame
public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DwOutRefIdeal.Plain
open Cert.DwOutRefIdeal Cert.DwOutRefIdeal.Gen

/-- the plain result 0 -/
def out0 (a0 : FVec Ideal S4096x2048 .f32) (a1 : FVec Ideal S4096x1024 .f32) : FVec Ideal S4x512x1024 .bf16 :=
  shapeCast _ (truncf .bf16 (transpose S2048x1024 [1, 0] (Host.dotGeneral dot_S4096x1024_S4096x2048_S1024x2048_0_0_1_1_n_n none a1 a0) transposes_S1024x2048_S2048x1024_1_0) bitsLt_bf16_f32) shapeCasts_S2048x1024_S4x512x1024

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.DwOutRefIdeal.Plain

namespace Cert.DwOutIdeal.Left
open Cert.DwOutIdeal Cert.DwOutIdeal.Gen
open Cert.DwOutRefIdeal.Plain (out0)
variable (m : (ℓ : Loc nD τ sig) → Buf (Elt Ideal) ℓ)

/-- each window's block index at each grid point -/
theorem idx : ∀ t : Fin cfg0.N, win0_0.index t = ![0, (grid0.coords t 0).val]
    ∧ win0_1.index t = ![0, 0]
    ∧ win0_2.index t = ![(grid0.coords t 0).val, 0, 0] :=
  (by decide +kernel : ∀ t : Fin grid0.N, _)

theorem V0 (c : Dev nD) : V m c main_v0 = (truncf .bf16 (m ((c : Thread nD τ).loc main_arg0) : FVec Ideal S4096x2048 .f32) bitsLt_bf16_f32 : FVec Ideal S4096x2048 .bf16) := by
  unfold V; after_results; try rfl
theorem V1 (c : Dev nD) : V m c main_v1 = (truncf .bf16 (m ((c : Thread nD τ).loc main_arg1) : FVec Ideal S4096x1024 .f32) bitsLt_bf16_f32 : FVec Ideal S4096x1024 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  refine Finset.sum_congr rfl fun x _ => (mul_comm _ _).trans ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.DwOutIdeal.Left
end
-- ==== Proof.DwInVal.lean ====
/- The input projection's weight gradient: the array the kernel leaves is the plain program's. -/
module
public import proofs.«01_k».proof.Proof.Gen.DwInIdeal.Frame
public import proofs.«01_k».proof.Proof.Gen.DwInIdeal.Value
public import proofs.«01_k».proof.Proof.Gen.DwInRefIdeal.Run
public import Idealize.ShloMosaic.Lib.Pipeline.ValueKit
public import Idealize.ShloMosaic.Lib.Pointwise
public import Idealize.ShloMosaic.Lib.Claim
@[expose] public section
set_option maxRecDepth 16384

noncomputable section
open Idealize.ShloMosaic Idealize.ShloMosaic.TcCoe Idealize.SL.Sem
open Idealize.ShloMosaic.Pipeline (Dat)

namespace Cert.DwInRefIdeal.Plain
open Cert.DwInRefIdeal Cert.DwInRefIdeal.Gen

/-- the plain result 0 -/
def out0 (a0 : FVec Ideal S4096x5760 .f32) (a1 : FVec Ideal S4096x1024 .f32) : FVec Ideal S5760x1024 .bf16 :=
  truncf .bf16 (Host.dotGeneral dot_S4096x5760_S4096x1024_S5760x1024_0_0_1_1_n_n none a0 a1) bitsLt_bf16_f32

/-- the plain program ends with these results, its arguments as they were -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = out0 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rfl), (h c).2⟩) (Value.run (F := Ideal) m ρ)

end Cert.DwInRefIdeal.Plain

namespace Cert.DwInIdeal.Left
open Cert.DwInIdeal Cert.DwInIdeal.Gen
open Cert.DwInRefIdeal.Plain (out0)
variable (m : (ℓ : Loc nD τ sig) → Buf (Elt Ideal) ℓ)

/-- each window's block index at each grid point -/
theorem idx : ∀ t : Fin cfg0.N, win0_0.index t = ![0, (grid0.coords t 0).val]
    ∧ win0_1.index t = ![0, 0]
    ∧ win0_2.index t = ![(grid0.coords t 0).val, 0] :=
  (by decide +kernel : ∀ t : Fin grid0.N, _)

theorem V0 (c : Dev nD) : V m c main_v0 = (truncf .bf16 (m ((c : Thread nD τ).loc main_arg0) : FVec Ideal S4096x5760 .f32) bitsLt_bf16_f32 : FVec Ideal S4096x5760 .bf16) := by
  unfold V; after_results; try rfl
theorem V1 (c : Dev nD) : V m c main_v1 = (truncf .bf16 (m ((c : Thread nD τ).loc main_arg1) : FVec Ideal S4096x1024 .f32) bitsLt_bf16_f32 : FVec Ideal S4096x1024 .bf16) := by
  unfold V; after_results; try rfl
/-- what the body stores at a block index is the plain result where it lies -/
theorem point2 (c : Dev nD) (t : Fin cfg0.N) (y) :
    k0_pay1 (iblk m c 0 t) (iblk m c 1 t) y
      = out0 (m ((c : Thread nD τ).loc main_arg0)) (m ((c : Thread nD τ).loc main_arg1)) (((cfg0.win 2).blk t).view.emb y) := by
  have e0 (x) : iblk m c 0 t x = m ((c : Thread nD τ).loc main_arg0) (((cfg0.win 0).blk t).view.emb x) :=
    congrFun (V0 m c) _
  have e1 (x) : iblk m c 1 t x = m ((c : Thread nD τ).loc main_arg1) (((cfg0.win 1).blk t).view.emb x) :=
    congrFun (V1 m c) _
  pointwise [k0_pay1, out0]
  simp only [e0, e1]
  refine Finset.sum_congr rfl fun x _ => ?_
  blk_point [idx t]
theorem final2 (c : Dev nD) : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp; rw [after0_2]; unfold outsAt0; frame_out
  exact point2 m c t y
end Cert.DwInIdeal.Left
end
-- ==== Proof.lean ====
/- The proof of the certificate's claim. For every call of the training step that is claimed: the three
   programs end with their arguments unchanged and their counters at zero, and the call's results equal the
   plain program's. The value lemmas are in `Proof/<Name>Val.lean`. -/
module

public import proofs.«01_k».proof.Defs
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.AdaVal
public import proofs.«01_k».proof.Proof.Gen.ANorm
public import proofs.«01_k».proof.Proof.Gen.ANorm.Skeleton
public import proofs.«01_k».proof.Proof.Gen.ANorm.Launch
public import proofs.«01_k».proof.Proof.Gen.ANorm.Points
public import proofs.«01_k».proof.Proof.Gen.ANorm.Frame
public import proofs.«01_k».proof.Proof.Gen.ANormIdeal
public import proofs.«01_k».proof.Proof.Gen.ANormIdeal.Skeleton
public import proofs.«01_k».proof.Proof.Gen.ANormIdeal.Launch
public import proofs.«01_k».proof.Proof.Gen.ANormIdeal.Points
public import proofs.«01_k».proof.Proof.Gen.ANormIdeal.Frame
public import proofs.«01_k».proof.Proof.Gen.ANormRefIdeal
public import proofs.«01_k».proof.Proof.Gen.ANormRefIdeal.Run
public import proofs.«01_k».proof.Proof.ANormVal
public import proofs.«01_k».proof.Proof.Gen.Pre_anorm_finite
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActRefIdeal
public import proofs.«01_k».proof.Proof.Gen.DActRefIdeal.Run
public import proofs.«01_k».proof.Proof.DActVal
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.HeadRefIdeal.Run
public import proofs.«01_k».proof.Proof.HeadVal
public import proofs.«01_k».proof.Proof.Gen.Pre_head_finite
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2RefIdeal
public import proofs.«01_k».proof.Proof.Gen.Dh2RefIdeal.Run
public import proofs.«01_k».proof.Proof.Dh2Val
public import proofs.«01_k».proof.Proof.Gen.Pre_dh2_finite
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Dh1RefIdeal.Run
public import proofs.«01_k».proof.Proof.Dh1Val
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.AttnVal
public import proofs.«01_k».proof.Proof.Gen.Pre_attn_finite
public import proofs.«01_k».proof.Proof.AttnOut
public import proofs.«01_k».proof.Proof.AttnBits
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.GateVal
public import proofs.«01_k».proof.Proof.Gen.Pre_gate_finite
public import proofs.«01_k».proof.Proof.Gen.AttnF
public import proofs.«01_k».proof.Proof.Gen.AttnF.Skeleton
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFRefIdeal
public import proofs.«01_k».proof.Proof.Gen.AttnFRefIdeal.Run
public import proofs.«01_k».proof.Proof.AttnFVal
public import proofs.«01_k».proof.Proof.Gen.Pre_attnf_finite
public import proofs.«01_k».proof.Proof.AttnFRef
public import proofs.«01_k».proof.Proof.Gen.Mod1
public import proofs.«01_k».proof.Proof.Gen.Mod1.Skeleton
public import proofs.«01_k».proof.Proof.Gen.Mod1.Launch
public import proofs.«01_k».proof.Proof.Gen.Mod1.Points
public import proofs.«01_k».proof.Proof.Gen.Mod1.Frame
public import proofs.«01_k».proof.Proof.Gen.Mod1Ideal
public import proofs.«01_k».proof.Proof.Gen.Mod1Ideal.Skeleton
public import proofs.«01_k».proof.Proof.Gen.Mod1Ideal.Launch
public import proofs.«01_k».proof.Proof.Gen.Mod1Ideal.Points
public import proofs.«01_k».proof.Proof.Gen.Mod1Ideal.Frame
public import proofs.«01_k».proof.Proof.Gen.Mod1RefIdeal
public import proofs.«01_k».proof.Proof.Gen.Mod1RefIdeal.Run
public import proofs.«01_k».proof.Proof.Mod1Val
public import proofs.«01_k».proof.Proof.Gen.FFIn
public import proofs.«01_k».proof.Proof.Gen.FFIn.Skeleton
public import proofs.«01_k».proof.Proof.Gen.FFIn.Launch
public import proofs.«01_k».proof.Proof.Gen.FFIn.Points
public import proofs.«01_k».proof.Proof.Gen.FFIn.Frame
public import proofs.«01_k».proof.Proof.Gen.FFInIdeal
public import proofs.«01_k».proof.Proof.Gen.FFInIdeal.Skeleton
public import proofs.«01_k».proof.Proof.Gen.FFInIdeal.Launch
public import proofs.«01_k».proof.Proof.Gen.FFInIdeal.Points
public import proofs.«01_k».proof.Proof.Gen.FFInIdeal.Frame
public import proofs.«01_k».proof.Proof.Gen.FFInRefIdeal
public import proofs.«01_k».proof.Proof.Gen.FFInRefIdeal.Run
public import proofs.«01_k».proof.Proof.FFInVal
public import proofs.«01_k».proof.Proof.Gen.ModPart
public import proofs.«01_k».proof.Proof.Gen.ModPart.Skeleton
public import proofs.«01_k».proof.Proof.Gen.ModPart.Launch
public import proofs.«01_k».proof.Proof.Gen.ModPart.Points
public import proofs.«01_k».proof.Proof.Gen.ModPart.Frame
public import proofs.«01_k».proof.Proof.Gen.ModPartIdeal
public import proofs.«01_k».proof.Proof.Gen.ModPartIdeal.Skeleton
public import proofs.«01_k».proof.Proof.Gen.ModPartIdeal.Launch
public import proofs.«01_k».proof.Proof.Gen.ModPartIdeal.Points
public import proofs.«01_k».proof.Proof.Gen.ModPartIdeal.Frame
public import proofs.«01_k».proof.Proof.Gen.ModPartRefIdeal
public import proofs.«01_k».proof.Proof.Gen.ModPartRefIdeal.Run
public import proofs.«01_k».proof.Proof.ModPartVal
public import proofs.«01_k».proof.Proof.Gen.Opt
public import proofs.«01_k».proof.Proof.Gen.Opt.Skeleton
public import proofs.«01_k».proof.Proof.Gen.Opt.Launch
public import proofs.«01_k».proof.Proof.Gen.Opt.Points
public import proofs.«01_k».proof.Proof.Gen.Opt.Frame
public import proofs.«01_k».proof.Proof.Gen.OptIdeal
public import proofs.«01_k».proof.Proof.Gen.OptIdeal.Skeleton
public import proofs.«01_k».proof.Proof.Gen.OptIdeal.Launch
public import proofs.«01_k».proof.Proof.Gen.OptIdeal.Points
public import proofs.«01_k».proof.Proof.Gen.OptIdeal.Frame
public import proofs.«01_k».proof.Proof.Gen.OptRefIdeal
public import proofs.«01_k».proof.Proof.Gen.OptRefIdeal.Run
public import proofs.«01_k».proof.Proof.OptVal
public import proofs.«01_k».proof.Proof.Gen.OptConv
public import proofs.«01_k».proof.Proof.Gen.OptConv.Skeleton
public import proofs.«01_k».proof.Proof.Gen.OptConv.Launch
public import proofs.«01_k».proof.Proof.Gen.OptConv.Points
public import proofs.«01_k».proof.Proof.Gen.OptConv.Frame
public import proofs.«01_k».proof.Proof.Gen.OptConvIdeal
public import proofs.«01_k».proof.Proof.Gen.OptConvIdeal.Skeleton
public import proofs.«01_k».proof.Proof.Gen.OptConvIdeal.Launch
public import proofs.«01_k».proof.Proof.Gen.OptConvIdeal.Points
public import proofs.«01_k».proof.Proof.Gen.OptConvIdeal.Frame
public import proofs.«01_k».proof.Proof.Gen.OptConvRefIdeal
public import proofs.«01_k».proof.Proof.Gen.OptConvRefIdeal.Run
public import proofs.«01_k».proof.Proof.OptConvVal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.ProjVal
public import proofs.«01_k».proof.Proof.Gen.DyMix
public import proofs.«01_k».proof.Proof.Gen.DyMix.Skeleton
public import proofs.«01_k».proof.Proof.Gen.DyMix.Launch
public import proofs.«01_k».proof.Proof.Gen.DyMix.Points
public import proofs.«01_k».proof.Proof.Gen.DyMix.Frame
public import proofs.«01_k».proof.Proof.Gen.DyMixIdeal
public import proofs.«01_k».proof.Proof.Gen.DyMixIdeal.Skeleton
public import proofs.«01_k».proof.Proof.Gen.DyMixIdeal.Launch
public import proofs.«01_k».proof.Proof.Gen.DyMixIdeal.Points
public import proofs.«01_k».proof.Proof.Gen.DyMixIdeal.Frame
public import proofs.«01_k».proof.Proof.Gen.DyMixRefIdeal
public import proofs.«01_k».proof.Proof.Gen.DyMixRefIdeal.Run
public import proofs.«01_k».proof.Proof.DyMixVal
public import proofs.«01_k».proof.Proof.Gen.DwFo
public import proofs.«01_k».proof.Proof.Gen.DwFo.Skeleton
public import proofs.«01_k».proof.Proof.Gen.DwFo.Launch
public import proofs.«01_k».proof.Proof.Gen.DwFo.Points
public import proofs.«01_k».proof.Proof.Gen.DwFo.Frame
public import proofs.«01_k».proof.Proof.Gen.DwFoIdeal
public import proofs.«01_k».proof.Proof.Gen.DwFoIdeal.Skeleton
public import proofs.«01_k».proof.Proof.Gen.DwFoIdeal.Launch
public import proofs.«01_k».proof.Proof.Gen.DwFoIdeal.Points
public import proofs.«01_k».proof.Proof.Gen.DwFoIdeal.Frame
public import proofs.«01_k».proof.Proof.Gen.DwFoRefIdeal
public import proofs.«01_k».proof.Proof.Gen.DwFoRefIdeal.Run
public import proofs.«01_k».proof.Proof.DwFoVal
public import proofs.«01_k».proof.Proof.Gen.DwFi
public import proofs.«01_k».proof.Proof.Gen.DwFi.Skeleton
public import proofs.«01_k».proof.Proof.Gen.DwFi.Launch
public import proofs.«01_k».proof.Proof.Gen.DwFi.Points
public import proofs.«01_k».proof.Proof.Gen.DwFi.Frame
public import proofs.«01_k».proof.Proof.Gen.DwFiIdeal
public import proofs.«01_k».proof.Proof.Gen.DwFiIdeal.Skeleton
public import proofs.«01_k».proof.Proof.Gen.DwFiIdeal.Launch
public import proofs.«01_k».proof.Proof.Gen.DwFiIdeal.Points
public import proofs.«01_k».proof.Proof.Gen.DwFiIdeal.Frame
public import proofs.«01_k».proof.Proof.Gen.DwFiRefIdeal
public import proofs.«01_k».proof.Proof.Gen.DwFiRefIdeal.Run
public import proofs.«01_k».proof.Proof.DwFiVal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Run
public import proofs.«01_k».proof.Proof.DwOutVal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.DwInVal
public import proofs.«01_k».proof.Proof.Real
public import Idealize.ShloMosaic.Lib.Claim
public import Idealize.ShloMosaic.Lib.Quiescent
public import Idealize.ShloMosaic.Adequacy
public import Idealize.ShloMosaic.Init

@[expose] public section

set_option maxRecDepth 8192

noncomputable section

namespace Cert.Proof

open Idealize.ShloMosaic Idealize.SL.Sem

/-- The plain program `AdaRefIdeal` ends, with its arguments as they were and every counter at zero. -/
theorem refFrame_AdaRefIdeal (m : (ℓ : Loc Cert.AdaRefIdeal.nD Cert.AdaRefIdeal.τ Cert.AdaRefIdeal.sig) → Buf (Elt Ideal) ℓ) (ρ : Dev Cert.AdaRefIdeal.nD → PrngReg) :
    θ_run (Cert.AdaRefIdeal.defs (F := Ideal)) (onTc (τ := Cert.AdaRefIdeal.τ) (Cert.AdaRefIdeal.main (F := Ideal))) ⟨m, fun _ => 0, ρ⟩ (fun r => (∀ c : Dev Cert.AdaRefIdeal.nD, r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0) ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)) ∧ r.2.sem = fun _ => 0) :=
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

/-- The plain program `ANormRefIdeal` ends, with its arguments as they were and every counter at zero. -/
theorem refFrame_ANormRefIdeal (m : (ℓ : Loc Cert.ANormRefIdeal.nD Cert.ANormRefIdeal.τ Cert.ANormRefIdeal.sig) → Buf (Elt Ideal) ℓ) (ρ : Dev Cert.ANormRefIdeal.nD → PrngReg) :
    θ_run (Cert.ANormRefIdeal.defs (F := Ideal)) (onTc (τ := Cert.ANormRefIdeal.τ) (Cert.ANormRefIdeal.main (F := Ideal))) ⟨m, fun _ => 0, ρ⟩ (fun r => (∀ c : Dev Cert.ANormRefIdeal.nD, r.2.mem ((c.tc : Thread Cert.ANormRefIdeal.nD Cert.ANormRefIdeal.τ).loc Cert.ANormRefIdeal.main_arg0) = m ((c.tc : Thread Cert.ANormRefIdeal.nD Cert.ANormRefIdeal.τ).loc Cert.ANormRefIdeal.main_arg0) ∧ r.2.mem ((c.tc : Thread Cert.ANormRefIdeal.nD Cert.ANormRefIdeal.τ).loc Cert.ANormRefIdeal.main_arg1) = m ((c.tc : Thread Cert.ANormRefIdeal.nD Cert.ANormRefIdeal.τ).loc Cert.ANormRefIdeal.main_arg1) ∧ r.2.mem ((c.tc : Thread Cert.ANormRefIdeal.nD Cert.ANormRefIdeal.τ).loc Cert.ANormRefIdeal.main_arg2) = m ((c.tc : Thread Cert.ANormRefIdeal.nD Cert.ANormRefIdeal.τ).loc Cert.ANormRefIdeal.main_arg2) ∧ r.2.mem ((c.tc : Thread Cert.ANormRefIdeal.nD Cert.ANormRefIdeal.τ).loc Cert.ANormRefIdeal.main_arg3) = m ((c.tc : Thread Cert.ANormRefIdeal.nD Cert.ANormRefIdeal.τ).loc Cert.ANormRefIdeal.main_arg3)) ∧ r.2.sem = fun _ => 0) :=
  (θ_run Cert.ANormRefIdeal.defs _ _).mono
    (fun r h => ⟨fun c => (h c).2.2, Idealize.ShloMosaic.sem_eq_zero_of_no_sems (by decide) r.2⟩)
    (Cert.ANormRefIdeal.Value.run (F := Ideal) m ρ)

/-- The plain program `DActRefIdeal` ends, with its arguments as they were and every counter at zero. -/
theorem refFrame_DActRefIdeal (m : (ℓ : Loc Cert.DActRefIdeal.nD Cert.DActRefIdeal.τ Cert.DActRefIdeal.sig) → Buf (Elt Ideal) ℓ) (ρ : Dev Cert.DActRefIdeal.nD → PrngReg) :
    θ_run (Cert.DActRefIdeal.defs (F := Ideal)) (onTc (τ := Cert.DActRefIdeal.τ) (Cert.DActRefIdeal.main (F := Ideal))) ⟨m, fun _ => 0, ρ⟩ (fun r => (∀ c : Dev Cert.DActRefIdeal.nD, r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0) ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1) ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2) ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3)) ∧ r.2.sem = fun _ => 0) :=
  (θ_run Cert.DActRefIdeal.defs _ _).mono
    (fun r h => ⟨fun c => (h c).2, Idealize.ShloMosaic.sem_eq_zero_of_no_sems (by decide) r.2⟩)
    (Cert.DActRefIdeal.Value.run (F := Ideal) m ρ)

/-- The plain program `HeadRefIdeal` ends, with its arguments as they were and every counter at zero. -/
theorem refFrame_HeadRefIdeal (m : (ℓ : Loc Cert.HeadRefIdeal.nD Cert.HeadRefIdeal.τ Cert.HeadRefIdeal.sig) → Buf (Elt Ideal) ℓ) (ρ : Dev Cert.HeadRefIdeal.nD → PrngReg) :
    θ_run (Cert.HeadRefIdeal.defs (F := Ideal)) (onTc (τ := Cert.HeadRefIdeal.τ) (Cert.HeadRefIdeal.main (F := Ideal))) ⟨m, fun _ => 0, ρ⟩ (fun r => (∀ c : Dev Cert.HeadRefIdeal.nD, r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0) ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1) ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2) ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3) ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4) ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5) ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6) ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7) ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)) ∧ r.2.sem = fun _ => 0) :=
  (θ_run Cert.HeadRefIdeal.defs _ _).mono
    (fun r h => ⟨fun c => (h c).2.2.2.2.2.2, Idealize.ShloMosaic.sem_eq_zero_of_no_sems (by decide) r.2⟩)
    (Cert.HeadRefIdeal.Value.run (F := Ideal) m ρ)

/-- The plain program `Dh2RefIdeal` ends, with its arguments as they were and every counter at zero. -/
theorem refFrame_Dh2RefIdeal (m : (ℓ : Loc Cert.Dh2RefIdeal.nD Cert.Dh2RefIdeal.τ Cert.Dh2RefIdeal.sig) → Buf (Elt Ideal) ℓ) (ρ : Dev Cert.Dh2RefIdeal.nD → PrngReg) :
    θ_run (Cert.Dh2RefIdeal.defs (F := Ideal)) (onTc (τ := Cert.Dh2RefIdeal.τ) (Cert.Dh2RefIdeal.main (F := Ideal))) ⟨m, fun _ => 0, ρ⟩ (fun r => (∀ c : Dev Cert.Dh2RefIdeal.nD, r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0) ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1) ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2) ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3) ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4) ∧ r.2.mem ((c.tc : Thread Cert.Dh2RefIdeal.nD Cert.Dh2RefIdeal.τ).loc Cert.Dh2RefIdeal.main_arg5) = m ((c.tc : Thread Cert.Dh2RefIdeal.nD Cert.Dh2RefIdeal.τ).loc Cert.Dh2RefIdeal.main_arg5) ∧ r.2.mem ((c.tc : Thread Cert.Dh2RefIdeal.nD Cert.Dh2RefIdeal.τ).loc Cert.Dh2RefIdeal.main_arg6) = m ((c.tc : Thread Cert.Dh2RefIdeal.nD Cert.Dh2RefIdeal.τ).loc Cert.Dh2RefIdeal.main_arg6) ∧ r.2.mem ((c.tc : Thread Cert.Dh2RefIdeal.nD Cert.Dh2RefIdeal.τ).loc Cert.Dh2RefIdeal.main_arg7) = m ((c.tc : Thread Cert.Dh2RefIdeal.nD Cert.Dh2RefIdeal.τ).loc Cert.Dh2RefIdeal.main_arg7) ∧ r.2.mem ((c.tc : Thread Cert.Dh2RefIdeal.nD Cert.Dh2RefIdeal.τ).loc Cert.Dh2RefIdeal.main_arg8) = m ((c.tc : Thread Cert.Dh2RefIdeal.nD Cert.Dh2RefIdeal.τ).loc Cert.Dh2RefIdeal.main_arg8)) ∧ r.2.sem = fun _ => 0) :=
  (θ_run Cert.Dh2RefIdeal.defs _ _).mono
    (fun r h => ⟨fun c => (h c).2.2.2.2.2.2.2, Idealize.ShloMosaic.sem_eq_zero_of_no_sems (by decide) r.2⟩)
    (Cert.Dh2RefIdeal.Value.run (F := Ideal) m ρ)

/-- The plain program `Dh1RefIdeal` ends, with its arguments as they were and every counter at zero. -/
theorem refFrame_Dh1RefIdeal (m : (ℓ : Loc Cert.Dh1RefIdeal.nD Cert.Dh1RefIdeal.τ Cert.Dh1RefIdeal.sig) → Buf (Elt Ideal) ℓ) (ρ : Dev Cert.Dh1RefIdeal.nD → PrngReg) :
    θ_run (Cert.Dh1RefIdeal.defs (F := Ideal)) (onTc (τ := Cert.Dh1RefIdeal.τ) (Cert.Dh1RefIdeal.main (F := Ideal))) ⟨m, fun _ => 0, ρ⟩ (fun r => (∀ c : Dev Cert.Dh1RefIdeal.nD, r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0) ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1) ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2) ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3) ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)) ∧ r.2.sem = fun _ => 0) :=
  (θ_run Cert.Dh1RefIdeal.defs _ _).mono
    (fun r h => ⟨fun c => (h c).2.2.2, Idealize.ShloMosaic.sem_eq_zero_of_no_sems (by decide) r.2⟩)
    (Cert.Dh1RefIdeal.Value.run (F := Ideal) m ρ)

/-- The plain program `AttnRefIdeal` ends, with its arguments as they were and every counter at zero. -/
theorem refFrame_AttnRefIdeal (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ (fun r => (∀ c : Dev Cert.AttnRefIdeal.nD, r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0) ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1) ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2) ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3) ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4) ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)) ∧ r.2.sem = fun _ => 0) :=
  (θ_run Cert.AttnRefIdeal.defs _ _).mono
    (fun r h => ⟨fun c => (h c).2.2.2.2, Idealize.ShloMosaic.sem_eq_zero_of_no_sems (by decide) r.2⟩)
    (Cert.AttnRefIdeal.Value.run (F := Ideal) m ρ)

/-- The plain program `GateRefIdeal` ends, with its arguments as they were and every counter at zero. -/
theorem refFrame_GateRefIdeal (m : (ℓ : Loc Cert.GateRefIdeal.nD Cert.GateRefIdeal.τ Cert.GateRefIdeal.sig) → Buf (Elt Ideal) ℓ) (ρ : Dev Cert.GateRefIdeal.nD → PrngReg) :
    θ_run (Cert.GateRefIdeal.defs (F := Ideal)) (onTc (τ := Cert.GateRefIdeal.τ) (Cert.GateRefIdeal.main (F := Ideal))) ⟨m, fun _ => 0, ρ⟩ (fun r => (∀ c : Dev Cert.GateRefIdeal.nD, r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0) ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1) ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2) ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)) ∧ r.2.sem = fun _ => 0) :=
  (θ_run Cert.GateRefIdeal.defs _ _).mono
    (fun r h => ⟨fun c => (h c).2.2, Idealize.ShloMosaic.sem_eq_zero_of_no_sems (by decide) r.2⟩)
    (Cert.GateRefIdeal.Value.run (F := Ideal) m ρ)

/-- The plain program `AttnFRefIdeal` ends, with its arguments as they were and every counter at zero. -/
theorem refFrame_AttnFRefIdeal (m : (ℓ : Loc Cert.AttnFRefIdeal.nD Cert.AttnFRefIdeal.τ Cert.AttnFRefIdeal.sig) → Buf (Elt Ideal) ℓ) (ρ : Dev Cert.AttnFRefIdeal.nD → PrngReg) :
    θ_run (Cert.AttnFRefIdeal.defs (F := Ideal)) (onTc (τ := Cert.AttnFRefIdeal.τ) (Cert.AttnFRefIdeal.main (F := Ideal))) ⟨m, fun _ => 0, ρ⟩ (fun r => (∀ c : Dev Cert.AttnFRefIdeal.nD, r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0) ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1) ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2) ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3) ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4)) ∧ r.2.sem = fun _ => 0) :=
  (θ_run Cert.AttnFRefIdeal.defs _ _).mono
    (fun r h => ⟨fun c => (h c).2.2, Idealize.ShloMosaic.sem_eq_zero_of_no_sems (by decide) r.2⟩)
    (Cert.AttnFRefIdeal.Value.run (F := Ideal) m ρ)

/-- The plain program `Mod1RefIdeal` ends, with its arguments as they were and every counter at zero. -/
theorem refFrame_Mod1RefIdeal (m : (ℓ : Loc Cert.Mod1RefIdeal.nD Cert.Mod1RefIdeal.τ Cert.Mod1RefIdeal.sig) → Buf (Elt Ideal) ℓ) (ρ : Dev Cert.Mod1RefIdeal.nD → PrngReg) :
    θ_run (Cert.Mod1RefIdeal.defs (F := Ideal)) (onTc (τ := Cert.Mod1RefIdeal.τ) (Cert.Mod1RefIdeal.main (F := Ideal))) ⟨m, fun _ => 0, ρ⟩ (fun r => (∀ c : Dev Cert.Mod1RefIdeal.nD, r.2.mem ((c.tc : Thread Cert.Mod1RefIdeal.nD Cert.Mod1RefIdeal.τ).loc Cert.Mod1RefIdeal.main_arg0) = m ((c.tc : Thread Cert.Mod1RefIdeal.nD Cert.Mod1RefIdeal.τ).loc Cert.Mod1RefIdeal.main_arg0) ∧ r.2.mem ((c.tc : Thread Cert.Mod1RefIdeal.nD Cert.Mod1RefIdeal.τ).loc Cert.Mod1RefIdeal.main_arg1) = m ((c.tc : Thread Cert.Mod1RefIdeal.nD Cert.Mod1RefIdeal.τ).loc Cert.Mod1RefIdeal.main_arg1) ∧ r.2.mem ((c.tc : Thread Cert.Mod1RefIdeal.nD Cert.Mod1RefIdeal.τ).loc Cert.Mod1RefIdeal.main_arg2) = m ((c.tc : Thread Cert.Mod1RefIdeal.nD Cert.Mod1RefIdeal.τ).loc Cert.Mod1RefIdeal.main_arg2)) ∧ r.2.sem = fun _ => 0) :=
  (θ_run Cert.Mod1RefIdeal.defs _ _).mono
    (fun r h => ⟨fun c => (h c).2, Idealize.ShloMosaic.sem_eq_zero_of_no_sems (by decide) r.2⟩)
    (Cert.Mod1RefIdeal.Value.run (F := Ideal) m ρ)

/-- The plain program `FFInRefIdeal` ends, with its arguments as they were and every counter at zero. -/
theorem refFrame_FFInRefIdeal (m : (ℓ : Loc Cert.FFInRefIdeal.nD Cert.FFInRefIdeal.τ Cert.FFInRefIdeal.sig) → Buf (Elt Ideal) ℓ) (ρ : Dev Cert.FFInRefIdeal.nD → PrngReg) :
    θ_run (Cert.FFInRefIdeal.defs (F := Ideal)) (onTc (τ := Cert.FFInRefIdeal.τ) (Cert.FFInRefIdeal.main (F := Ideal))) ⟨m, fun _ => 0, ρ⟩ (fun r => (∀ c : Dev Cert.FFInRefIdeal.nD, r.2.mem ((c.tc : Thread Cert.FFInRefIdeal.nD Cert.FFInRefIdeal.τ).loc Cert.FFInRefIdeal.main_arg0) = m ((c.tc : Thread Cert.FFInRefIdeal.nD Cert.FFInRefIdeal.τ).loc Cert.FFInRefIdeal.main_arg0) ∧ r.2.mem ((c.tc : Thread Cert.FFInRefIdeal.nD Cert.FFInRefIdeal.τ).loc Cert.FFInRefIdeal.main_arg1) = m ((c.tc : Thread Cert.FFInRefIdeal.nD Cert.FFInRefIdeal.τ).loc Cert.FFInRefIdeal.main_arg1)) ∧ r.2.sem = fun _ => 0) :=
  (θ_run Cert.FFInRefIdeal.defs _ _).mono
    (fun r h => ⟨fun c => (h c).2.2, Idealize.ShloMosaic.sem_eq_zero_of_no_sems (by decide) r.2⟩)
    (Cert.FFInRefIdeal.Value.run (F := Ideal) m ρ)

/-- The plain program `ModPartRefIdeal` ends, with its arguments as they were and every counter at zero. -/
theorem refFrame_ModPartRefIdeal (m : (ℓ : Loc Cert.ModPartRefIdeal.nD Cert.ModPartRefIdeal.τ Cert.ModPartRefIdeal.sig) → Buf (Elt Ideal) ℓ) (ρ : Dev Cert.ModPartRefIdeal.nD → PrngReg) :
    θ_run (Cert.ModPartRefIdeal.defs (F := Ideal)) (onTc (τ := Cert.ModPartRefIdeal.τ) (Cert.ModPartRefIdeal.main (F := Ideal))) ⟨m, fun _ => 0, ρ⟩ (fun r => (∀ c : Dev Cert.ModPartRefIdeal.nD, r.2.mem ((c.tc : Thread Cert.ModPartRefIdeal.nD Cert.ModPartRefIdeal.τ).loc Cert.ModPartRefIdeal.main_arg0) = m ((c.tc : Thread Cert.ModPartRefIdeal.nD Cert.ModPartRefIdeal.τ).loc Cert.ModPartRefIdeal.main_arg0) ∧ r.2.mem ((c.tc : Thread Cert.ModPartRefIdeal.nD Cert.ModPartRefIdeal.τ).loc Cert.ModPartRefIdeal.main_arg1) = m ((c.tc : Thread Cert.ModPartRefIdeal.nD Cert.ModPartRefIdeal.τ).loc Cert.ModPartRefIdeal.main_arg1) ∧ r.2.mem ((c.tc : Thread Cert.ModPartRefIdeal.nD Cert.ModPartRefIdeal.τ).loc Cert.ModPartRefIdeal.main_arg2) = m ((c.tc : Thread Cert.ModPartRefIdeal.nD Cert.ModPartRefIdeal.τ).loc Cert.ModPartRefIdeal.main_arg2)) ∧ r.2.sem = fun _ => 0) :=
  (θ_run Cert.ModPartRefIdeal.defs _ _).mono
    (fun r h => ⟨fun c => (h c).2, Idealize.ShloMosaic.sem_eq_zero_of_no_sems (by decide) r.2⟩)
    (Cert.ModPartRefIdeal.Value.run (F := Ideal) m ρ)

/-- The plain program `OptRefIdeal` ends, with its arguments as they were and every counter at zero. -/
theorem refFrame_OptRefIdeal (m : (ℓ : Loc Cert.OptRefIdeal.nD Cert.OptRefIdeal.τ Cert.OptRefIdeal.sig) → Buf (Elt Ideal) ℓ) (ρ : Dev Cert.OptRefIdeal.nD → PrngReg) :
    θ_run (Cert.OptRefIdeal.defs (F := Ideal)) (onTc (τ := Cert.OptRefIdeal.τ) (Cert.OptRefIdeal.main (F := Ideal))) ⟨m, fun _ => 0, ρ⟩ (fun r => (∀ c : Dev Cert.OptRefIdeal.nD, r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0) ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1) ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2) ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3)) ∧ r.2.sem = fun _ => 0) :=
  (θ_run Cert.OptRefIdeal.defs _ _).mono
    (fun r h => ⟨fun c => (h c).2.2.2.2, Idealize.ShloMosaic.sem_eq_zero_of_no_sems (by decide) r.2⟩)
    (Cert.OptRefIdeal.Value.run (F := Ideal) m ρ)

/-- The plain program `OptConvRefIdeal` ends, with its arguments as they were and every counter at zero. -/
theorem refFrame_OptConvRefIdeal (m : (ℓ : Loc Cert.OptConvRefIdeal.nD Cert.OptConvRefIdeal.τ Cert.OptConvRefIdeal.sig) → Buf (Elt Ideal) ℓ) (ρ : Dev Cert.OptConvRefIdeal.nD → PrngReg) :
    θ_run (Cert.OptConvRefIdeal.defs (F := Ideal)) (onTc (τ := Cert.OptConvRefIdeal.τ) (Cert.OptConvRefIdeal.main (F := Ideal))) ⟨m, fun _ => 0, ρ⟩ (fun r => (∀ c : Dev Cert.OptConvRefIdeal.nD, r.2.mem ((c.tc : Thread Cert.OptConvRefIdeal.nD Cert.OptConvRefIdeal.τ).loc Cert.OptConvRefIdeal.main_arg0) = m ((c.tc : Thread Cert.OptConvRefIdeal.nD Cert.OptConvRefIdeal.τ).loc Cert.OptConvRefIdeal.main_arg0) ∧ r.2.mem ((c.tc : Thread Cert.OptConvRefIdeal.nD Cert.OptConvRefIdeal.τ).loc Cert.OptConvRefIdeal.main_arg1) = m ((c.tc : Thread Cert.OptConvRefIdeal.nD Cert.OptConvRefIdeal.τ).loc Cert.OptConvRefIdeal.main_arg1) ∧ r.2.mem ((c.tc : Thread Cert.OptConvRefIdeal.nD Cert.OptConvRefIdeal.τ).loc Cert.OptConvRefIdeal.main_arg2) = m ((c.tc : Thread Cert.OptConvRefIdeal.nD Cert.OptConvRefIdeal.τ).loc Cert.OptConvRefIdeal.main_arg2) ∧ r.2.mem ((c.tc : Thread Cert.OptConvRefIdeal.nD Cert.OptConvRefIdeal.τ).loc Cert.OptConvRefIdeal.main_arg3) = m ((c.tc : Thread Cert.OptConvRefIdeal.nD Cert.OptConvRefIdeal.τ).loc Cert.OptConvRefIdeal.main_arg3)) ∧ r.2.sem = fun _ => 0) :=
  (θ_run Cert.OptConvRefIdeal.defs _ _).mono
    (fun r h => ⟨fun c => (h c).2.2.2.2, Idealize.ShloMosaic.sem_eq_zero_of_no_sems (by decide) r.2⟩)
    (Cert.OptConvRefIdeal.Value.run (F := Ideal) m ρ)

/-- The plain program `ProjRefIdeal` ends, with its arguments as they were and every counter at zero. -/
theorem refFrame_ProjRefIdeal (m : (ℓ : Loc Cert.ProjRefIdeal.nD Cert.ProjRefIdeal.τ Cert.ProjRefIdeal.sig) → Buf (Elt Ideal) ℓ) (ρ : Dev Cert.ProjRefIdeal.nD → PrngReg) :
    θ_run (Cert.ProjRefIdeal.defs (F := Ideal)) (onTc (τ := Cert.ProjRefIdeal.τ) (Cert.ProjRefIdeal.main (F := Ideal))) ⟨m, fun _ => 0, ρ⟩ (fun r => (∀ c : Dev Cert.ProjRefIdeal.nD, r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0) ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)) ∧ r.2.sem = fun _ => 0) :=
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

/-- The plain program `DyMixRefIdeal` ends, with its arguments as they were and every counter at zero. -/
theorem refFrame_DyMixRefIdeal (m : (ℓ : Loc Cert.DyMixRefIdeal.nD Cert.DyMixRefIdeal.τ Cert.DyMixRefIdeal.sig) → Buf (Elt Ideal) ℓ) (ρ : Dev Cert.DyMixRefIdeal.nD → PrngReg) :
    θ_run (Cert.DyMixRefIdeal.defs (F := Ideal)) (onTc (τ := Cert.DyMixRefIdeal.τ) (Cert.DyMixRefIdeal.main (F := Ideal))) ⟨m, fun _ => 0, ρ⟩ (fun r => (∀ c : Dev Cert.DyMixRefIdeal.nD, r.2.mem ((c.tc : Thread Cert.DyMixRefIdeal.nD Cert.DyMixRefIdeal.τ).loc Cert.DyMixRefIdeal.main_arg0) = m ((c.tc : Thread Cert.DyMixRefIdeal.nD Cert.DyMixRefIdeal.τ).loc Cert.DyMixRefIdeal.main_arg0) ∧ r.2.mem ((c.tc : Thread Cert.DyMixRefIdeal.nD Cert.DyMixRefIdeal.τ).loc Cert.DyMixRefIdeal.main_arg1) = m ((c.tc : Thread Cert.DyMixRefIdeal.nD Cert.DyMixRefIdeal.τ).loc Cert.DyMixRefIdeal.main_arg1)) ∧ r.2.sem = fun _ => 0) :=
  (θ_run Cert.DyMixRefIdeal.defs _ _).mono
    (fun r h => ⟨fun c => (h c).2, Idealize.ShloMosaic.sem_eq_zero_of_no_sems (by decide) r.2⟩)
    (Cert.DyMixRefIdeal.Value.run (F := Ideal) m ρ)

/-- The plain program `DwFoRefIdeal` ends, with its arguments as they were and every counter at zero. -/
theorem refFrame_DwFoRefIdeal (m : (ℓ : Loc Cert.DwFoRefIdeal.nD Cert.DwFoRefIdeal.τ Cert.DwFoRefIdeal.sig) → Buf (Elt Ideal) ℓ) (ρ : Dev Cert.DwFoRefIdeal.nD → PrngReg) :
    θ_run (Cert.DwFoRefIdeal.defs (F := Ideal)) (onTc (τ := Cert.DwFoRefIdeal.τ) (Cert.DwFoRefIdeal.main (F := Ideal))) ⟨m, fun _ => 0, ρ⟩ (fun r => (∀ c : Dev Cert.DwFoRefIdeal.nD, r.2.mem ((c.tc : Thread Cert.DwFoRefIdeal.nD Cert.DwFoRefIdeal.τ).loc Cert.DwFoRefIdeal.main_arg0) = m ((c.tc : Thread Cert.DwFoRefIdeal.nD Cert.DwFoRefIdeal.τ).loc Cert.DwFoRefIdeal.main_arg0) ∧ r.2.mem ((c.tc : Thread Cert.DwFoRefIdeal.nD Cert.DwFoRefIdeal.τ).loc Cert.DwFoRefIdeal.main_arg1) = m ((c.tc : Thread Cert.DwFoRefIdeal.nD Cert.DwFoRefIdeal.τ).loc Cert.DwFoRefIdeal.main_arg1)) ∧ r.2.sem = fun _ => 0) :=
  (θ_run Cert.DwFoRefIdeal.defs _ _).mono
    (fun r h => ⟨fun c => (h c).2, Idealize.ShloMosaic.sem_eq_zero_of_no_sems (by decide) r.2⟩)
    (Cert.DwFoRefIdeal.Value.run (F := Ideal) m ρ)

/-- The plain program `DwFiRefIdeal` ends, with its arguments as they were and every counter at zero. -/
theorem refFrame_DwFiRefIdeal (m : (ℓ : Loc Cert.DwFiRefIdeal.nD Cert.DwFiRefIdeal.τ Cert.DwFiRefIdeal.sig) → Buf (Elt Ideal) ℓ) (ρ : Dev Cert.DwFiRefIdeal.nD → PrngReg) :
    θ_run (Cert.DwFiRefIdeal.defs (F := Ideal)) (onTc (τ := Cert.DwFiRefIdeal.τ) (Cert.DwFiRefIdeal.main (F := Ideal))) ⟨m, fun _ => 0, ρ⟩ (fun r => (∀ c : Dev Cert.DwFiRefIdeal.nD, r.2.mem ((c.tc : Thread Cert.DwFiRefIdeal.nD Cert.DwFiRefIdeal.τ).loc Cert.DwFiRefIdeal.main_arg0) = m ((c.tc : Thread Cert.DwFiRefIdeal.nD Cert.DwFiRefIdeal.τ).loc Cert.DwFiRefIdeal.main_arg0) ∧ r.2.mem ((c.tc : Thread Cert.DwFiRefIdeal.nD Cert.DwFiRefIdeal.τ).loc Cert.DwFiRefIdeal.main_arg1) = m ((c.tc : Thread Cert.DwFiRefIdeal.nD Cert.DwFiRefIdeal.τ).loc Cert.DwFiRefIdeal.main_arg1)) ∧ r.2.sem = fun _ => 0) :=
  (θ_run Cert.DwFiRefIdeal.defs _ _).mono
    (fun r h => ⟨fun c => (h c).2, Idealize.ShloMosaic.sem_eq_zero_of_no_sems (by decide) r.2⟩)
    (Cert.DwFiRefIdeal.Value.run (F := Ideal) m ρ)

/-- The plain program `DwOutRefIdeal` ends, with its arguments as they were and every counter at zero. -/
theorem refFrame_DwOutRefIdeal (m : (ℓ : Loc Cert.DwOutRefIdeal.nD Cert.DwOutRefIdeal.τ Cert.DwOutRefIdeal.sig) → Buf (Elt Ideal) ℓ) (ρ : Dev Cert.DwOutRefIdeal.nD → PrngReg) :
    θ_run (Cert.DwOutRefIdeal.defs (F := Ideal)) (onTc (τ := Cert.DwOutRefIdeal.τ) (Cert.DwOutRefIdeal.main (F := Ideal))) ⟨m, fun _ => 0, ρ⟩ (fun r => (∀ c : Dev Cert.DwOutRefIdeal.nD, r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0) ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)) ∧ r.2.sem = fun _ => 0) :=
  (θ_run Cert.DwOutRefIdeal.defs _ _).mono
    (fun r h => ⟨fun c => (h c).2, Idealize.ShloMosaic.sem_eq_zero_of_no_sems (by decide) r.2⟩)
    (Cert.DwOutRefIdeal.Value.run (F := Ideal) m ρ)

/-- The plain program `DwInRefIdeal` ends, with its arguments as they were and every counter at zero. -/
theorem refFrame_DwInRefIdeal (m : (ℓ : Loc Cert.DwInRefIdeal.nD Cert.DwInRefIdeal.τ Cert.DwInRefIdeal.sig) → Buf (Elt Ideal) ℓ) (ρ : Dev Cert.DwInRefIdeal.nD → PrngReg) :
    θ_run (Cert.DwInRefIdeal.defs (F := Ideal)) (onTc (τ := Cert.DwInRefIdeal.τ) (Cert.DwInRefIdeal.main (F := Ideal))) ⟨m, fun _ => 0, ρ⟩ (fun r => (∀ c : Dev Cert.DwInRefIdeal.nD, r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0) ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)) ∧ r.2.sem = fun _ => 0) :=
  (θ_run Cert.DwInRefIdeal.defs _ _).mono
    (fun r h => ⟨fun c => (h c).2, Idealize.ShloMosaic.sem_eq_zero_of_no_sems (by decide) r.2⟩)
    (Cert.DwInRefIdeal.Value.run (F := Ideal) m ρ)

theorem alg_Ada : Cert.algebraic_AdaIdeal_AdaRefIdeal := by
  pair_intro
  · run_from Cert.AdaIdeal.Gen.run_main m g
  · run_from Cert.AdaRefIdeal.Value.run m' g'
    exact (Cert.AdaIdeal.Grad.final m c).symm

theorem args_ANorm (m : (ℓ : Loc Cert.ANormIdeal.nD Cert.ANormIdeal.τ Cert.ANormIdeal.sig) → Buf (Elt Ideal) ℓ)
    (hp : Cert.Pre_ANormIdeal_anorm_finite m) (c : Dev Cert.ANormIdeal.nD) : ∃ D O W N, Cert.ANormIdeal.Grad.Args m D O W N c := by
  have e := congrFun (hp c) (fun a => a.elim0)
  obtain ⟨e, e3⟩ := IntOp.andi_eq_one.1 e
  obtain ⟨e, e2⟩ := IntOp.andi_eq_one.1 e
  obtain ⟨e0, e1⟩ := IntOp.andi_eq_one.1 e
  obtain ⟨D, h0⟩ := Cert.Real.exists_real _ _ (fun _ => Cert.Real.word_inf) _ _ _ _ e0
  obtain ⟨W, h1⟩ := Cert.Real.exists_real _ _ (fun _ => Cert.Real.word_inf) _ _ _ _ e1
  obtain ⟨O, h2⟩ := Cert.Real.exists_real _ _ (fun _ => Cert.Real.word_inf) _ _ _ _ e2
  obtain ⟨N, h3⟩ := Cert.Real.exists_real _ _ (fun _ => Cert.Real.word_inf) _ _ _ _ e3
  exact ⟨D, O, W, N, h0, h1, h2, h3⟩

theorem alg_ANorm : Cert.algebraic_ANormIdeal_ANormRefIdeal_pre_anorm_finite := by
  pair_intro
  · run_from Cert.ANormIdeal.Gen.run_main m g
  · run_from Cert.ANormRefIdeal.Plain.run m' g'
    all_goals obtain ⟨D, O, W, N, h⟩ := args_ANorm m hpre c
    · exact (Cert.ANormIdeal.Grad.final4 h).symm
    · exact (Cert.ANormIdeal.Grad.final5 h).symm

theorem alg_DAct : Cert.algebraic_DActIdeal_DActRefIdeal := by
  pair_intro
  · run_from Cert.DActIdeal.Gen.run_main m g
  · run_from Cert.DActRefIdeal.Value.run m' g'
    rw [Cert.DActIdeal.Grad.final m c]
    rfl

theorem args_Head (m : (ℓ : Loc Cert.HeadIdeal.nD Cert.HeadIdeal.τ Cert.HeadIdeal.sig) → Buf (Elt Ideal) ℓ)
    (hp : Cert.Pre_HeadIdeal_head_finite m) (c : Dev Cert.HeadIdeal.nD) : ∃ q, Cert.HeadIdeal.Grad.Args m q c := by
  have e := congrFun (hp c) (fun a => a.elim0)
  dsimp only [Cert.Pre_head_finite.fn, Cert.Pre_head_finite.fn_part1, Cert.Pre_head_finite.fn_part2] at e
  obtain ⟨e, e8⟩ := Cert.Real.and_split _ _ _ e
  obtain ⟨e, e7⟩ := Cert.Real.and_split _ _ _ e
  obtain ⟨e, e6⟩ := Cert.Real.and_split _ _ _ e
  obtain ⟨e, e5⟩ := Cert.Real.and_split _ _ _ e
  obtain ⟨e, e4⟩ := Cert.Real.and_split _ _ _ e
  obtain ⟨e, e3⟩ := Cert.Real.and_split _ _ _ e
  obtain ⟨e, e2⟩ := Cert.Real.and_split _ _ _ e
  obtain ⟨e0, e1⟩ := Cert.Real.and_split _ _ _ e
  obtain ⟨A0, h0⟩ := Cert.Real.exists_real _ _ (fun _ => Cert.Real.word_inf) _ _ _ _ e0
  obtain ⟨A1, h1⟩ := Cert.Real.exists_real _ _ (fun _ => Cert.Real.word_inf) _ _ _ _ e1
  obtain ⟨A2, h2⟩ := Cert.Real.exists_real _ _ (fun _ => Cert.Real.word_inf) _ _ _ _ e2
  obtain ⟨A3, h3⟩ := Cert.Real.exists_real _ _ (fun _ => Cert.Real.word_inf) _ _ _ _ e3
  obtain ⟨A4, h4⟩ := Cert.Real.exists_real _ _ (fun _ => Cert.Real.word_inf) _ _ _ _ e4
  obtain ⟨A5, h5⟩ := Cert.Real.exists_real _ _ (fun _ => Cert.Real.word_inf) _ _ _ _ e5
  obtain ⟨A6, h6⟩ := Cert.Real.exists_real _ _ (fun _ => Cert.Real.word_inf) _ _ _ _ e6
  obtain ⟨A7, h7⟩ := Cert.Real.exists_real _ _ (fun _ => Cert.Real.word_inf) _ _ _ _ e7
  obtain ⟨A8, h8⟩ := Cert.Real.exists_real _ _ (fun _ => Cert.Real.word_inf) _ _ _ _ e8
  exact ⟨⟨A0, A1, A2, A3, A4, A5, A6, A7, A8⟩, ⟨h0, h1, h2, h3, h4, h5, h6, h7, h8⟩⟩

set_option maxHeartbeats 4000000 in
theorem alg_Head : Cert.algebraic_HeadIdeal_HeadRefIdeal_pre_head_finite := by
  pair_intro
  · run_from Cert.HeadIdeal.Gen.run_main m g
  · run_from Cert.HeadRefIdeal.Plain.run m' g'
    all_goals obtain ⟨q, h⟩ := args_Head m hpre c
    · exact (Cert.HeadIdeal.Grad.final9 h).symm
    · exact (Cert.HeadIdeal.Grad.final10 h).symm
    · exact (Cert.HeadIdeal.Grad.final11 h).symm
    · exact (Cert.HeadIdeal.Grad.final12 h).symm
    · exact (Cert.HeadIdeal.Grad.final13 h).symm
    · exact (Cert.HeadIdeal.Grad.final14 h).symm

theorem args_Dh2 (m : (ℓ : Loc Cert.Dh2Ideal.nD Cert.Dh2Ideal.τ Cert.Dh2Ideal.sig) → Buf (Elt Ideal) ℓ)
    (hp : Cert.Pre_Dh2Ideal_dh2_finite m) (c : Dev Cert.Dh2Ideal.nD) : ∃ q, Cert.Dh2Ideal.Grad.Args m q c := by
  have e := congrFun (hp c) (fun a => a.elim0)
  dsimp only [Cert.Pre_dh2_finite.fn, Cert.Pre_dh2_finite.fn_part1, Cert.Pre_dh2_finite.fn_part2] at e
  obtain ⟨e, e8⟩ := Cert.Real.and_split _ _ _ e
  obtain ⟨e, e7⟩ := Cert.Real.and_split _ _ _ e
  obtain ⟨e, e6⟩ := Cert.Real.and_split _ _ _ e
  obtain ⟨e, e5⟩ := Cert.Real.and_split _ _ _ e
  obtain ⟨e, e4⟩ := Cert.Real.and_split _ _ _ e
  obtain ⟨e, e3⟩ := Cert.Real.and_split _ _ _ e
  obtain ⟨e, e2⟩ := Cert.Real.and_split _ _ _ e
  obtain ⟨e0, e1⟩ := Cert.Real.and_split _ _ _ e
  obtain ⟨A0, h0⟩ := Cert.Real.exists_real _ _ (fun _ => Cert.Real.word_inf) _ _ _ _ e0
  obtain ⟨A1, h1⟩ := Cert.Real.exists_real _ _ (fun _ => Cert.Real.word_inf) _ _ _ _ e1
  obtain ⟨A2, h2⟩ := Cert.Real.exists_real _ _ (fun _ => Cert.Real.word_inf) _ _ _ _ e2
  obtain ⟨A3, h3⟩ := Cert.Real.exists_real _ _ (fun _ => Cert.Real.word_inf) _ _ _ _ e3
  obtain ⟨A4, h4⟩ := Cert.Real.exists_real _ _ (fun _ => Cert.Real.word_inf) _ _ _ _ e4
  obtain ⟨A5, h5⟩ := Cert.Real.exists_real _ _ (fun _ => Cert.Real.word_inf) _ _ _ _ e5
  obtain ⟨A6, h6⟩ := Cert.Real.exists_real _ _ (fun _ => Cert.Real.word_inf) _ _ _ _ e6
  obtain ⟨A7, h7⟩ := Cert.Real.exists_real _ _ (fun _ => Cert.Real.word_inf) _ _ _ _ e7
  obtain ⟨A8, h8⟩ := Cert.Real.exists_real _ _ (fun _ => Cert.Real.word_inf) _ _ _ _ e8
  exact ⟨⟨A0, A1, A2, A3, A4, A5, A6, A7, A8⟩, ⟨h0, h1, h2, h3, h4, h5, h6, h7, h8⟩⟩

set_option maxHeartbeats 4000000 in
theorem alg_Dh2 : Cert.algebraic_Dh2Ideal_Dh2RefIdeal_pre_dh2_finite := by
  pair_intro
  · run_from Cert.Dh2Ideal.Gen.run_main m g
  · run_from Cert.Dh2RefIdeal.Plain.run m' g'
    all_goals obtain ⟨q, h⟩ := args_Dh2 m hpre c
    · exact (Cert.Dh2Ideal.Grad.final9 h).symm
    · exact (Cert.Dh2Ideal.Grad.final10 h).symm
    · exact (Cert.Dh2Ideal.Grad.final11 h).symm
    · exact (Cert.Dh2Ideal.Grad.final12 h).symm
    · exact (Cert.Dh2Ideal.Grad.final13 h).symm
    · exact (Cert.Dh2Ideal.Grad.final14 h).symm
    · exact (Cert.Dh2Ideal.Grad.final15 h).symm

set_option maxHeartbeats 4000000 in
theorem alg_Dh1 : Cert.algebraic_Dh1Ideal_Dh1RefIdeal := by
  pair_intro
  · run_from Cert.Dh1Ideal.Gen.run_main m g
  · run_from Cert.Dh1RefIdeal.Plain.run m' g'
    · exact (Cert.Dh1Ideal.Grad.final5 m c).symm
    · exact (Cert.Dh1Ideal.Grad.final6 m c).symm
    · exact (Cert.Dh1Ideal.Grad.final7 m c).symm

theorem args_Attn (m : (ℓ : Loc Cert.AttnIdeal.nD Cert.AttnIdeal.τ Cert.AttnIdeal.sig) → Buf (Elt Ideal) ℓ)
    (hp : Cert.Pre_AttnIdeal_attn_finite m) (c : Dev Cert.AttnIdeal.nD) : ∃ q, Cert.AttnIdeal.Grad.Args q m c := by
  have e := congrFun (hp c) (fun a => a.elim0)
  dsimp only [Cert.Pre_attn_finite.fn, Cert.Pre_attn_finite.fn_part1] at e
  obtain ⟨e, e5⟩ := Cert.Real.and_split _ _ _ e
  obtain ⟨e, e4⟩ := Cert.Real.and_split _ _ _ e
  obtain ⟨e, e3⟩ := Cert.Real.and_split _ _ _ e
  obtain ⟨e, e2⟩ := Cert.Real.and_split _ _ _ e
  obtain ⟨e0, e1⟩ := Cert.Real.and_split _ _ _ e
  obtain ⟨A0, h0⟩ := Cert.Real.exists_real _ _ (fun _ => Cert.Real.word_inf) _ _ _ _ e0
  obtain ⟨A1, h1⟩ := Cert.Real.exists_real _ _ (fun _ => Cert.Real.word_inf) _ _ _ _ e1
  obtain ⟨A2, h2⟩ := Cert.Real.exists_real _ _ (fun _ => Cert.Real.word_inf) _ _ _ _ e2
  obtain ⟨A3, h3⟩ := Cert.Real.exists_real _ _ (fun _ => Cert.Real.word_inf) _ _ _ _ e3
  obtain ⟨A4, h4⟩ := Cert.Real.exists_real _ _ (fun _ => Cert.Real.word_inf) _ _ _ _ e4
  obtain ⟨A5, h5⟩ := Cert.Real.exists_real _ _ (fun _ => Cert.Real.word_inf) _ _ _ _ e5
  exact ⟨⟨A0, A1, A2, A3, A4, A5⟩, ⟨h0, h1, h2, h3, h4, h5⟩⟩

set_option maxHeartbeats 4000000 in
theorem alg_Attn : Cert.algebraic_AttnIdeal_AttnRefIdeal_pre_attn_finite := by
  pair_intro
  · run_from Cert.AttnIdeal.Grad.run_main m g
  · run_from Cert.AttnRefIdeal.Plain.run m' g'
    all_goals obtain ⟨q, A⟩ := args_Attn m hpre c
    · rw [A.h0, A.h1, A.h2, A.h3, A.h4, A.h5]; exact (Cert.AttnIdeal.Grad.res_dq A).symm
    · rw [A.h0, A.h1, A.h2, A.h3, A.h4, A.h5]; exact (Cert.AttnIdeal.Grad.res_dk A).symm
    · rw [A.h0, A.h1, A.h3, A.h4, A.h5]; exact (Cert.AttnIdeal.Grad.res_dv A).symm
    · rw [A.h0, A.h1, A.h2, A.h3, A.h4, A.h5]; exact (Cert.AttnIdeal.Grad.res_dc A).symm

theorem args_Gate (m : (ℓ : Loc Cert.GateIdeal.nD Cert.GateIdeal.τ Cert.GateIdeal.sig) → Buf (Elt Ideal) ℓ)
    (hp : Cert.Pre_GateIdeal_gate_finite m) (c : Dev Cert.GateIdeal.nD) : ∃ q, Cert.GateIdeal.Grad.Args m q c := by
  have e := congrFun (hp c) (fun a => a.elim0)
  dsimp only [Cert.Pre_gate_finite.fn] at e
  obtain ⟨e, e2⟩ := Cert.Real.and_split _ _ _ e
  obtain ⟨e0, e1⟩ := Cert.Real.and_split _ _ _ e
  obtain ⟨A0, h0⟩ := Cert.Real.exists_real _ _ (fun _ => Cert.Real.word_inf) _ _ _ _ e0
  obtain ⟨A1, h1⟩ := Cert.Real.exists_real _ _ (fun _ => Cert.Real.word_inf) _ _ _ _ e1
  obtain ⟨A2, h2⟩ := Cert.Real.exists_real _ _ (fun _ => Cert.Real.word_inf) _ _ _ _ e2
  exact ⟨⟨A0, A1, A2⟩, ⟨h0, h1, h2⟩⟩

set_option maxHeartbeats 4000000 in
theorem alg_Gate : Cert.algebraic_GateIdeal_GateRefIdeal_pre_gate_finite := by
  pair_intro
  · run_from Cert.GateIdeal.Value.run_blocks m g
  · run_from Cert.GateRefIdeal.Plain.run m' g'
    all_goals obtain ⟨q, h⟩ := args_Gate m hpre c
    · exact (Cert.GateIdeal.Grad.final4 h).symm
    · exact (Cert.GateIdeal.Grad.final5 h).symm

theorem args_AttnF (m : (ℓ : Loc Cert.AttnFIdeal.nD Cert.AttnFIdeal.τ Cert.AttnFIdeal.sig) → Buf (Elt Ideal) ℓ)
    (hp : Cert.Pre_AttnFIdeal_attnf_finite m) (c : Dev Cert.AttnFIdeal.nD) : ∃ q, Cert.AttnFIdeal.Fwd.Args q m c := by
  have e := congrFun (hp c) (fun a => a.elim0)
  dsimp only [Cert.Pre_attnf_finite.fn, Cert.Pre_attnf_finite.fn_part1] at e
  obtain ⟨e, e4⟩ := Cert.Real.and_split _ _ _ e
  obtain ⟨e, e3⟩ := Cert.Real.and_split _ _ _ e
  obtain ⟨e, e2⟩ := Cert.Real.and_split _ _ _ e
  obtain ⟨e0, e1⟩ := Cert.Real.and_split _ _ _ e
  obtain ⟨A0, h0⟩ := Cert.Real.exists_real _ _ (fun _ => Cert.Real.word_inf) _ _ _ _ e0
  obtain ⟨A1, h1⟩ := Cert.Real.exists_real _ _ (fun _ => Cert.Real.word_inf) _ _ _ _ e1
  obtain ⟨A2, h2⟩ := Cert.Real.exists_real _ _ (fun _ => Cert.Real.word_inf) _ _ _ _ e2
  obtain ⟨A3, h3⟩ := Cert.Real.exists_real _ _ (fun _ => Cert.Real.word_inf) _ _ _ _ e3
  obtain ⟨A4, h4⟩ := Cert.Real.exists_real _ _ (fun _ => Cert.Real.word_inf) _ _ _ _ e4
  exact ⟨⟨A0, A1, A2, A3, A4, fun _ => 0⟩, ⟨h0, h1, h2, h3, h4⟩⟩

theorem alg_AttnF : Cert.algebraic_AttnFIdeal_AttnFRefIdeal_pre_attnf_finite := by
  intro m g m' g' hpre hagree
  refine ⟨Cert.AttnFIdeal.Fwd.rowsLeft m, Cert.AttnFIdeal.Fwd.sumsLeft m, Cert.AttnFIdeal.Fwd.run_left m g, Idealize.ShloMosaic.θ_run_mono (Cert.AttnFRefIdeal.Plain.run m' g') ?_⟩
  intro r hr c
  obtain ⟨q, A⟩ := args_AttnF m hpre c
  obtain ⟨e0, e1, e2, e3, e4⟩ := hagree c
  obtain ⟨h0, h1, h2⟩ := hr c
  refine ⟨h0.trans ?_, h1.trans ?_, h2⟩
  · rw [e0, e1, e2, e3, e4, A.h0, A.h1, A.h2, A.h3, A.h4]
    exact (Cert.AttnFIdeal.Fwd.rows_eq A).symm
  · rw [e0, e1, e3, e4, A.h0, A.h1, A.h3, A.h4]
    exact (Cert.AttnFIdeal.Fwd.sums_eq A).symm

theorem alg_Mod1 : Cert.algebraic_Mod1Ideal_Mod1RefIdeal := by
  intro m g m' g' _ hagree
  refine ⟨fun c => (Cert.Mod1Ideal.Gen.dats m 0 c).arrAt 3 Cert.Mod1Ideal.cfg0.N, Cert.Mod1Ideal.Value.run_blocks m g, Idealize.ShloMosaic.θ_run_mono (Cert.Mod1RefIdeal.Plain.run m' g') ?_⟩
  intro r hr c
  obtain ⟨e0, e1, e2⟩ := hagree c
  obtain ⟨h0, h⟩ := hr c
  refine ⟨h0.trans ?_, h⟩
  · rw [e0, e1, e2]; exact (Cert.Mod1Ideal.Left.final3 m c).symm

theorem alg_FFIn : Cert.algebraic_FFInIdeal_FFInRefIdeal := by
  intro m g m' g' _ hagree
  refine ⟨fun c => (Cert.FFInIdeal.Gen.dats m 0 c).arrAt 2 Cert.FFInIdeal.cfg0.N, fun c => (Cert.FFInIdeal.Gen.dats m 0 c).arrAt 3 Cert.FFInIdeal.cfg0.N, Cert.FFInIdeal.Value.run_blocks m g, Idealize.ShloMosaic.θ_run_mono (Cert.FFInRefIdeal.Plain.run m' g') ?_⟩
  intro r hr c
  obtain ⟨e0, e1⟩ := hagree c
  obtain ⟨h0, h1, h⟩ := hr c
  refine ⟨h0.trans ?_, h1.trans ?_, h⟩
  · rw [e0, e1]; exact (Cert.FFInIdeal.Left.final2 m c).symm
  · rw [e0, e1]; exact (Cert.FFInIdeal.Left.final3 m c).symm

theorem alg_ModPart : Cert.algebraic_ModPartIdeal_ModPartRefIdeal := by
  intro m g m' g' _ hagree
  refine ⟨fun c => (Cert.ModPartIdeal.Gen.dats m 0 c).arrAt 3 Cert.ModPartIdeal.cfg0.N, Cert.ModPartIdeal.Value.run_blocks m g, Idealize.ShloMosaic.θ_run_mono (Cert.ModPartRefIdeal.Plain.run m' g') ?_⟩
  intro r hr c
  obtain ⟨e0, e1, e2⟩ := hagree c
  obtain ⟨h0, h⟩ := hr c
  refine ⟨h0.trans ?_, h⟩
  · rw [e0, e1, e2]; exact (Cert.ModPartIdeal.Left.final3 m c).symm

theorem alg_Opt : Cert.algebraic_OptIdeal_OptRefIdeal := by
  intro m g m' g' _ hagree
  refine ⟨fun c => (Cert.OptIdeal.Gen.dats m 0 c).arrAt 4 Cert.OptIdeal.cfg0.N, fun c => (Cert.OptIdeal.Gen.dats m 0 c).arrAt 5 Cert.OptIdeal.cfg0.N, fun c => (Cert.OptIdeal.Gen.dats m 0 c).arrAt 6 Cert.OptIdeal.cfg0.N, fun c => (Cert.OptIdeal.Gen.dats m 0 c).arrAt 7 Cert.OptIdeal.cfg0.N, Cert.OptIdeal.Value.run_blocks m g, Idealize.ShloMosaic.θ_run_mono (Cert.OptRefIdeal.Plain.run m' g') ?_⟩
  intro r hr c
  obtain ⟨e0, e1, e2, e3⟩ := hagree c
  obtain ⟨h0, h1, h2, h3, h⟩ := hr c
  refine ⟨h0.trans ?_, h1.trans ?_, h2.trans ?_, h3.trans ?_, h⟩
  · rw [e0, e1, e2, e3]; exact (Cert.OptIdeal.Left.final4 m c).symm
  · rw [e0, e1, e2, e3]; exact (Cert.OptIdeal.Left.final5 m c).symm
  · rw [e0, e1, e2, e3]; exact (Cert.OptIdeal.Left.final6 m c).symm
  · rw [e0, e1, e2, e3]; exact (Cert.OptIdeal.Left.final7 m c).symm

theorem alg_OptConv : Cert.algebraic_OptConvIdeal_OptConvRefIdeal := by
  intro m g m' g' _ hagree
  refine ⟨fun c => (Cert.OptConvIdeal.Gen.dats m 0 c).arrAt 4 Cert.OptConvIdeal.cfg0.N, fun c => (Cert.OptConvIdeal.Gen.dats m 0 c).arrAt 5 Cert.OptConvIdeal.cfg0.N, fun c => (Cert.OptConvIdeal.Gen.dats m 0 c).arrAt 6 Cert.OptConvIdeal.cfg0.N, fun c => (Cert.OptConvIdeal.Gen.dats m 0 c).arrAt 7 Cert.OptConvIdeal.cfg0.N, Cert.OptConvIdeal.Value.run_blocks m g, Idealize.ShloMosaic.θ_run_mono (Cert.OptConvRefIdeal.Plain.run m' g') ?_⟩
  intro r hr c
  obtain ⟨e0, e1, e2, e3⟩ := hagree c
  obtain ⟨h0, h1, h2, h3, h⟩ := hr c
  refine ⟨h0.trans ?_, h1.trans ?_, h2.trans ?_, h3.trans ?_, h⟩
  · rw [e0, e1, e2, e3]; exact (Cert.OptConvIdeal.Left.final4 m c).symm
  · rw [e0, e1, e2, e3]; exact (Cert.OptConvIdeal.Left.final5 m c).symm
  · rw [e0, e1, e2, e3]; exact (Cert.OptConvIdeal.Left.final6 m c).symm
  · rw [e0, e1, e2, e3]; exact (Cert.OptConvIdeal.Left.final7 m c).symm

theorem alg_Proj : Cert.algebraic_ProjIdeal_ProjRefIdeal := by
  intro m g m' g' _ hagree
  refine ⟨fun c => (Cert.ProjIdeal.Gen.dats m 0 c).arrAt 2 Cert.ProjIdeal.cfg0.N, Cert.ProjIdeal.Value.run_blocks m g, Idealize.ShloMosaic.θ_run_mono (Cert.ProjRefIdeal.Plain.run m' g') ?_⟩
  intro r hr c
  obtain ⟨e0, e1⟩ := hagree c
  obtain ⟨h0, h⟩ := hr c
  refine ⟨h0.trans ?_, h⟩
  · rw [e0, e1]; exact (Cert.ProjIdeal.Left.final2 m c).symm

theorem alg_DyMix : Cert.algebraic_DyMixIdeal_DyMixRefIdeal := by
  intro m g m' g' _ hagree
  refine ⟨fun c => (Cert.DyMixIdeal.Gen.dats m 0 c).arrAt 2 Cert.DyMixIdeal.cfg0.N, Cert.DyMixIdeal.Value.run_blocks m g, Idealize.ShloMosaic.θ_run_mono (Cert.DyMixRefIdeal.Plain.run m' g') ?_⟩
  intro r hr c
  obtain ⟨e0, e1⟩ := hagree c
  obtain ⟨h0, h⟩ := hr c
  refine ⟨h0.trans ?_, h⟩
  · rw [e0, e1]; exact (Cert.DyMixIdeal.Left.final2 m c).symm

theorem alg_DwFo : Cert.algebraic_DwFoIdeal_DwFoRefIdeal := by
  intro m g m' g' _ hagree
  refine ⟨fun c => (Cert.DwFoIdeal.Gen.dats m 0 c).arrAt 2 Cert.DwFoIdeal.cfg0.N, Cert.DwFoIdeal.Value.run_blocks m g, Idealize.ShloMosaic.θ_run_mono (Cert.DwFoRefIdeal.Plain.run m' g') ?_⟩
  intro r hr c
  obtain ⟨e0, e1⟩ := hagree c
  obtain ⟨h0, h⟩ := hr c
  refine ⟨h0.trans ?_, h⟩
  · rw [e0, e1]; exact (Cert.DwFoIdeal.Left.final2 m c).symm

theorem alg_DwFi : Cert.algebraic_DwFiIdeal_DwFiRefIdeal := by
  intro m g m' g' _ hagree
  refine ⟨fun c => (Cert.DwFiIdeal.Gen.dats m 0 c).arrAt 2 Cert.DwFiIdeal.cfg0.N, Cert.DwFiIdeal.Value.run_blocks m g, Idealize.ShloMosaic.θ_run_mono (Cert.DwFiRefIdeal.Plain.run m' g') ?_⟩
  intro r hr c
  obtain ⟨e0, e1⟩ := hagree c
  obtain ⟨h0, h⟩ := hr c
  refine ⟨h0.trans ?_, h⟩
  · rw [e0, e1]; exact (Cert.DwFiIdeal.Left.final2 m c).symm

theorem alg_DwOut : Cert.algebraic_DwOutIdeal_DwOutRefIdeal := by
  intro m g m' g' _ hagree
  refine ⟨fun c => (Cert.DwOutIdeal.Gen.dats m 0 c).arrAt 2 Cert.DwOutIdeal.cfg0.N, Cert.DwOutIdeal.Value.run_blocks m g, Idealize.ShloMosaic.θ_run_mono (Cert.DwOutRefIdeal.Plain.run m' g') ?_⟩
  intro r hr c
  obtain ⟨e0, e1⟩ := hagree c
  obtain ⟨h0, h⟩ := hr c
  refine ⟨h0.trans ?_, h⟩
  · rw [e0, e1]; exact (Cert.DwOutIdeal.Left.final2 m c).symm

theorem alg_DwIn : Cert.algebraic_DwInIdeal_DwInRefIdeal := by
  intro m g m' g' _ hagree
  refine ⟨fun c => (Cert.DwInIdeal.Gen.dats m 0 c).arrAt 2 Cert.DwInIdeal.cfg0.N, Cert.DwInIdeal.Value.run_blocks m g, Idealize.ShloMosaic.θ_run_mono (Cert.DwInRefIdeal.Plain.run m' g') ?_⟩
  intro r hr c
  obtain ⟨e0, e1⟩ := hagree c
  obtain ⟨h0, h⟩ := hr c
  refine ⟨h0.trans ?_, h⟩
  · rw [e0, e1]; exact (Cert.DwInIdeal.Left.final2 m c).symm

theorem claim : Cert.Claim := ⟨Cert.Ada.Gen.facts,
  Cert.AdaIdeal.Gen.facts,
  Cert.AdaRefIdeal.Gen.facts,
  Cert.ANorm.Gen.facts,
  Cert.ANormIdeal.Gen.facts,
  Cert.ANormRefIdeal.Gen.facts,
  Cert.DAct.Gen.facts,
  Cert.DActIdeal.Gen.facts,
  Cert.DActRefIdeal.Gen.facts,
  Cert.Head.Gen.facts,
  Cert.HeadIdeal.Gen.facts,
  Cert.HeadRefIdeal.Gen.facts,
  Cert.Dh2.Gen.facts,
  Cert.Dh2Ideal.Gen.facts,
  Cert.Dh2RefIdeal.Gen.facts,
  Cert.Dh1.Gen.facts,
  Cert.Dh1Ideal.Gen.facts,
  Cert.Dh1RefIdeal.Gen.facts,
  Cert.Attn.Gen.facts,
  Cert.AttnIdeal.Gen.facts,
  Cert.AttnRefIdeal.Gen.facts,
  Cert.Gate.Gen.facts,
  Cert.GateIdeal.Gen.facts,
  Cert.GateRefIdeal.Gen.facts,
  Cert.AttnF.Gen.facts,
  Cert.AttnFIdeal.Gen.facts,
  Cert.AttnFRefIdeal.Gen.facts,
  Cert.Mod1.Gen.facts,
  Cert.Mod1Ideal.Gen.facts,
  Cert.Mod1RefIdeal.Gen.facts,
  Cert.FFIn.Gen.facts,
  Cert.FFInIdeal.Gen.facts,
  Cert.FFInRefIdeal.Gen.facts,
  Cert.ModPart.Gen.facts,
  Cert.ModPartIdeal.Gen.facts,
  Cert.ModPartRefIdeal.Gen.facts,
  Cert.Opt.Gen.facts,
  Cert.OptIdeal.Gen.facts,
  Cert.OptRefIdeal.Gen.facts,
  Cert.OptConv.Gen.facts,
  Cert.OptConvIdeal.Gen.facts,
  Cert.OptConvRefIdeal.Gen.facts,
  Cert.Proj.Gen.facts,
  Cert.ProjIdeal.Gen.facts,
  Cert.ProjRefIdeal.Gen.facts,
  Cert.DyMix.Gen.facts,
  Cert.DyMixIdeal.Gen.facts,
  Cert.DyMixRefIdeal.Gen.facts,
  Cert.DwFo.Gen.facts,
  Cert.DwFoIdeal.Gen.facts,
  Cert.DwFoRefIdeal.Gen.facts,
  Cert.DwFi.Gen.facts,
  Cert.DwFiIdeal.Gen.facts,
  Cert.DwFiRefIdeal.Gen.facts,
  Cert.DwOut.Gen.facts,
  Cert.DwOutIdeal.Gen.facts,
  Cert.DwOutRefIdeal.Gen.facts,
  Cert.DwIn.Gen.facts,
  Cert.DwInIdeal.Gen.facts,
  Cert.DwInRefIdeal.Gen.facts,
  Cert.Pre_anorm_finite.Gen.facts,
  Cert.Pre_head_finite.Gen.facts,
  Cert.Pre_dh2_finite.Gen.facts,
  Cert.Pre_attn_finite.Gen.facts,
  Cert.Pre_gate_finite.Gen.facts,
  Cert.Pre_attnf_finite.Gen.facts,
  fun m ρ _ => Cert.Ada.Gen.frame m ρ,
  fun m ρ _ => Cert.AdaIdeal.Gen.frame m ρ,
  fun m ρ _ => refFrame_AdaRefIdeal m ρ,
  fun m ρ _ => Cert.ANorm.Gen.frame m ρ,
  fun m ρ _ => Cert.ANormIdeal.Gen.frame m ρ,
  fun m ρ _ => Cert.ANormIdeal.Gen.frame m ρ,
  fun m ρ _ => refFrame_ANormRefIdeal m ρ,
  fun m ρ _ => refFrame_ANormRefIdeal m ρ,
  fun m ρ _ => Cert.DAct.Gen.frame m ρ,
  fun m ρ _ => Cert.DActIdeal.Gen.frame m ρ,
  fun m ρ _ => refFrame_DActRefIdeal m ρ,
  fun m ρ _ => Cert.Head.Gen.frame m ρ,
  fun m ρ _ => Cert.HeadIdeal.Gen.frame m ρ,
  fun m ρ _ => Cert.HeadIdeal.Gen.frame m ρ,
  fun m ρ _ => refFrame_HeadRefIdeal m ρ,
  fun m ρ _ => refFrame_HeadRefIdeal m ρ,
  fun m ρ _ => Cert.Dh2.Gen.frame m ρ,
  fun m ρ _ => Cert.Dh2Ideal.Gen.frame m ρ,
  fun m ρ _ => Cert.Dh2Ideal.Gen.frame m ρ,
  fun m ρ _ => refFrame_Dh2RefIdeal m ρ,
  fun m ρ _ => refFrame_Dh2RefIdeal m ρ,
  fun m ρ _ => Cert.Dh1.Gen.frame m ρ,
  fun m ρ _ => Cert.Dh1Ideal.Gen.frame m ρ,
  fun m ρ _ => refFrame_Dh1RefIdeal m ρ,
  fun m ρ _ => Cert.Attn.Grad.frame m ρ,
  fun m ρ _ => Cert.AttnIdeal.Grad.frame m ρ,
  fun m ρ _ => Cert.AttnIdeal.Grad.frame m ρ,
  fun m ρ _ => refFrame_AttnRefIdeal m ρ,
  fun m ρ _ => refFrame_AttnRefIdeal m ρ,
  fun m ρ _ => Cert.Gate.Gen.frame m ρ,
  fun m ρ _ => Cert.GateIdeal.Gen.frame m ρ,
  fun m ρ _ => Cert.GateIdeal.Gen.frame m ρ,
  fun m ρ _ => refFrame_GateRefIdeal m ρ,
  fun m ρ _ => refFrame_GateRefIdeal m ρ,
  fun m ρ _ => Cert.AttnF.Gen.frame m ρ,
  fun m ρ _ => Cert.AttnFIdeal.Gen.frame m ρ,
  fun m ρ _ => Cert.AttnFIdeal.Gen.frame m ρ,
  fun m ρ _ => refFrame_AttnFRefIdeal m ρ,
  fun m ρ _ => refFrame_AttnFRefIdeal m ρ,
  fun m ρ _ => Cert.Mod1.Gen.frame m ρ,
  fun m ρ _ => Cert.Mod1Ideal.Gen.frame m ρ,
  fun m ρ _ => refFrame_Mod1RefIdeal m ρ,
  fun m ρ _ => Cert.FFIn.Gen.frame m ρ,
  fun m ρ _ => Cert.FFInIdeal.Gen.frame m ρ,
  fun m ρ _ => refFrame_FFInRefIdeal m ρ,
  fun m ρ _ => Cert.ModPart.Gen.frame m ρ,
  fun m ρ _ => Cert.ModPartIdeal.Gen.frame m ρ,
  fun m ρ _ => refFrame_ModPartRefIdeal m ρ,
  fun m ρ _ => Cert.Opt.Gen.frame m ρ,
  fun m ρ _ => Cert.OptIdeal.Gen.frame m ρ,
  fun m ρ _ => refFrame_OptRefIdeal m ρ,
  fun m ρ _ => Cert.OptConv.Gen.frame m ρ,
  fun m ρ _ => Cert.OptConvIdeal.Gen.frame m ρ,
  fun m ρ _ => refFrame_OptConvRefIdeal m ρ,
  fun m ρ _ => Cert.Proj.Gen.frame m ρ,
  fun m ρ _ => Cert.ProjIdeal.Gen.frame m ρ,
  fun m ρ _ => refFrame_ProjRefIdeal m ρ,
  fun m ρ _ => Cert.DyMix.Gen.frame m ρ,
  fun m ρ _ => Cert.DyMixIdeal.Gen.frame m ρ,
  fun m ρ _ => refFrame_DyMixRefIdeal m ρ,
  fun m ρ _ => Cert.DwFo.Gen.frame m ρ,
  fun m ρ _ => Cert.DwFoIdeal.Gen.frame m ρ,
  fun m ρ _ => refFrame_DwFoRefIdeal m ρ,
  fun m ρ _ => Cert.DwFi.Gen.frame m ρ,
  fun m ρ _ => Cert.DwFiIdeal.Gen.frame m ρ,
  fun m ρ _ => refFrame_DwFiRefIdeal m ρ,
  fun m ρ _ => Cert.DwOut.Gen.frame m ρ,
  fun m ρ _ => Cert.DwOutIdeal.Gen.frame m ρ,
  fun m ρ _ => refFrame_DwOutRefIdeal m ρ,
  fun m ρ _ => Cert.DwIn.Gen.frame m ρ,
  fun m ρ _ => Cert.DwInIdeal.Gen.frame m ρ,
  fun m ρ _ => refFrame_DwInRefIdeal m ρ,
  trivial,
  alg_Ada,
  trivial,
  alg_ANorm,
  trivial,
  alg_DAct,
  trivial,
  alg_Head,
  trivial,
  alg_Dh2,
  trivial,
  alg_Dh1,
  IdealRules.named_const.statement Cert.AttnIdeal.κ "mask" .f32 0xF149F2CA#32 ⊥ rfl,
  alg_Attn,
  trivial,
  alg_Gate,
  IdealRules.named_const.statement Cert.AttnFIdeal.κ "mask" .f32 0xF149F2CA#32 ⊥ rfl,
  alg_AttnF,
  trivial,
  alg_Mod1,
  trivial,
  alg_FFIn,
  trivial,
  alg_ModPart,
  trivial,
  alg_Opt,
  trivial,
  alg_OptConv,
  trivial,
  alg_Proj,
  trivial,
  alg_DyMix,
  trivial,
  alg_DwFo,
  trivial,
  alg_DwFi,
  trivial,
  alg_DwOut,
  trivial,
  alg_DwIn⟩

end Cert.Proof

end
